-- ==== Defs.lean ====
def Pre_Kernel [hPre_ids_in_range : Cert.Pre_ids_in_range.Facts] (m : (ℓ : Loc Cert.Kernel.nD Cert.Kernel.τ Cert.Kernel.sig) → Buf (Elt Bits) ℓ) : Prop :=
  ∀ c : Dev Cert.Kernel.nD,
    (Cert.Pre_ids_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_ids_in_range : Cert.Pre_ids_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_ids_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_KernelIdeal_ids_sorted [hPre_ids_sorted : Cert.Pre_ids_sorted.Facts] (m : (ℓ : Loc Cert.KernelIdeal.nD Cert.KernelIdeal.τ Cert.KernelIdeal.sig) → Buf (Elt Ideal) ℓ) : Prop :=
  ∀ c : Dev Cert.KernelIdeal.nD,
    (Cert.Pre_ids_sorted.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_ids_sorted [hPre_ids_sorted : Cert.Pre_ids_sorted.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_ids_sorted.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] [hPre_ids_in_range : Cert.Pre_ids_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] [hPre_ids_in_range : Cert.Pre_ids_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_ids_sorted [hKernelIdeal : Cert.KernelIdeal.Facts] [hPre_ids_sorted : Cert.Pre_ids_sorted.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_ids_sorted m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_ids_sorted [hReferenceIdeal : Cert.ReferenceIdeal.Facts] [hPre_ids_sorted : Cert.Pre_ids_sorted.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_ids_sorted m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_ids_sorted [hKernelIdeal : Cert.KernelIdeal.Facts] [hReferenceIdeal : Cert.ReferenceIdeal.Facts] [hPre_ids_sorted : Cert.Pre_ids_sorted.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_ids_sorted m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_ids_in_range : Cert.Pre_ids_in_range.Facts) (hPre_ids_sorted : Cert.Pre_ids_sorted.Facts),
    quiescent_Kernel (hKernel := hKernel) (hPre_ids_in_range := hPre_ids_in_range)
    ∧ quiescent_KernelIdeal (hKernelIdeal := hKernelIdeal) (hPre_ids_in_range := hPre_ids_in_range)
    ∧ quiescent_KernelIdeal_pre_ids_sorted (hKernelIdeal := hKernelIdeal) (hPre_ids_sorted := hPre_ids_sorted)
    ∧ quiescent_ReferenceIdeal (hReferenceIdeal := hReferenceIdeal)
    ∧ quiescent_ReferenceIdeal_pre_ids_sorted (hReferenceIdeal := hReferenceIdeal) (hPre_ids_sorted := hPre_ids_sorted)
    ∧ preserves_Kernel_KernelIdeal
    ∧ algebraic_KernelIdeal_ReferenceIdeal_pre_ids_sorted (hKernelIdeal := hKernelIdeal) (hReferenceIdeal := hReferenceIdeal) (hPre_ids_sorted := hPre_ids_sorted)
-- ==== Pre_ids_in_range.lean ====
abbrev S16x13x512x768 : Shape := ⟨4, ![16, 13, 512, 768]⟩
abbrev S16x512 : Shape := ⟨2, ![16, 512]⟩
abbrev S13 : Shape := ⟨1, ![13]⟩
abbrev S_ : Shape := ⟨0, ![]⟩

class Facts : Prop where
  bcast_S_S16x512 : S_.BroadcastsInDim S16x512 (![] : Fin 0 → Fin S16x512.rank)
  reducesTo_S16x512_S_d0_1 : S16x512.ReducesTo [0, 1] S_
  h_S_ : 0 < S_.numel

variable [Facts]

def fn {F : FTy → Type} [FloatOps F] (main_arg0 : FVec F S16x13x512x768 .f32) (main_arg1 : IVec S16x512 32) (main_arg2 : FVec F S13 .f32) : IVec S_ 1 :=
  let main_c : IVec S_ 32 := constantI S_ 32 0#32
  let main_v0 : IVec S16x512 32 := broadcastInDim S16x512 ![] bcast_S_S16x512 main_c
  let main_v1 : IVec S16x512 1 := cmpi .sge main_arg1 main_v0
  let main_c_0 : IVec S_ 32 := constantI S_ 32 256#32
  let main_v2 : IVec S16x512 32 := broadcastInDim S16x512 ![] bcast_S_S16x512 main_c_0
  let main_v3 : IVec S16x512 1 := cmpi .slt main_arg1 main_v2
  let main_v4 : IVec S16x512 1 := andi main_v1 main_v3
  let main_c_1 : IVec S_ 1 := constantI S_ 1 1#1
  let main_v5 : IVec S_ 1 := (fun x v => Host.reduce IntOp.andi x v reducesTo_S16x512_S_d0_1 h_S_) main_v4 main_c_1
  main_v5
-- ==== Pre_ids_sorted.lean ====
abbrev S16x13x512x768 : Shape := ⟨4, ![16, 13, 512, 768]⟩
abbrev S16x512 : Shape := ⟨2, ![16, 512]⟩
abbrev S13 : Shape := ⟨1, ![13]⟩
abbrev S_ : Shape := ⟨0, ![]⟩
abbrev S16x511 : Shape := ⟨2, ![16, 511]⟩

class Facts : Prop where
  bcast_S_S16x512 : S_.BroadcastsInDim S16x512 (![] : Fin 0 → Fin S16x512.rank)
  reducesTo_S16x512_S_d0_1 : S16x512.ReducesTo [0, 1] S_
  h_S_ : 0 < S_.numel
  slices_S16x512_S16x511_0_1 : S16x512.Slices ![0, 1] S16x511
  slices_S16x512_S16x511_0_0 : S16x512.Slices ![0, 0] S16x511
  reducesTo_S16x511_S_d0_1 : S16x511.ReducesTo [0, 1] S_

variable [Facts]

def fn {F : FTy → Type} [FloatOps F] (main_arg0 : FVec F S16x13x512x768 .f32) (main_arg1 : IVec S16x512 32) (main_arg2 : FVec F S13 .f32) : IVec S_ 1 :=
  let main_c : IVec S_ 32 := constantI S_ 32 0#32
  let main_v0 : IVec S16x512 32 := broadcastInDim S16x512 ![] bcast_S_S16x512 main_c
  let main_v1 : IVec S16x512 1 := cmpi .sge main_arg1 main_v0
  let main_c_0 : IVec S_ 32 := constantI S_ 32 256#32
  let main_v2 : IVec S16x512 32 := broadcastInDim S16x512 ![] bcast_S_S16x512 main_c_0
  let main_v3 : IVec S16x512 1 := cmpi .slt main_arg1 main_v2
  let main_v4 : IVec S16x512 1 := andi main_v1 main_v3
  let main_c_1 : IVec S_ 1 := constantI S_ 1 1#1
  let main_v5 : IVec S_ 1 := (fun x v => Host.reduce IntOp.andi x v reducesTo_S16x512_S_d0_1 h_S_) main_v4 main_c_1
  let main_v6 : IVec S16x511 32 := (extractStridedSlice S16x511 ![0, 1] · slices_S16x512_S16x511_0_1) main_arg1
  let main_v7 : IVec S16x511 32 := (extractStridedSlice S16x511 ![0, 0] · slices_S16x512_S16x511_0_0) main_arg1
  let main_v8 : IVec S16x511 1 := cmpi .sge main_v6 main_v7
  let main_c_2 : IVec S_ 1 := constantI S_ 1 1#1
  let main_v9 : IVec S_ 1 := (fun x v => Host.reduce IntOp.andi x v reducesTo_S16x511_S_d0_1 h_S_) main_v8 main_c_2
  let main_v10 : IVec S_ 1 := andi main_v5 main_v9
  main_v10
-- ==== Kernel.lean ====
abbrev S16x13x512x768 : Shape := ⟨4, ![16, 13, 512, 768]⟩
abbrev S16x512 : Shape := ⟨2, ![16, 512]⟩
abbrev S13 : Shape := ⟨1, ![13]⟩
abbrev S1x13 : Shape := ⟨2, ![1, 13]⟩
abbrev S2x8x512x384 : Shape := ⟨4, ![2, 8, 512, 384]⟩
abbrev S1x13x256x768 : Shape := ⟨4, ![1, 13, 256, 768]⟩
abbrev S2x1x256x384 : Shape := ⟨4, ![2, 1, 256, 384]⟩
abbrev S1 : Shape := ⟨1, ![1]⟩
abbrev S1x1 : Shape := ⟨2, ![1, 1]⟩
abbrev S1x1x256x768 : Shape := ⟨4, ![1, 1, 256, 768]⟩
abbrev S256x768 : Shape := ⟨2, ![256, 768]⟩
abbrev S256x384 : Shape := ⟨2, ![256, 384]⟩
abbrev S1x1x256x384 : Shape := ⟨4, ![1, 1, 256, 384]⟩
abbrev S8192x384 : Shape := ⟨2, ![8192, 384]⟩
abbrev S8x512 : Shape := ⟨2, ![8, 512]⟩
abbrev S4096 : Shape := ⟨1, ![4096]⟩
abbrev S2048x768 : Shape := ⟨2, ![2048, 768]⟩
abbrev S32x384 : Shape := ⟨2, ![32, 384]⟩
abbrev S512 : Shape := ⟨1, ![512]⟩
abbrev S_ : Shape := ⟨0, ![]⟩
abbrev S16 : Shape := ⟨1, ![16]⟩
abbrev S1x16 : Shape := ⟨2, ![1, 16]⟩
abbrev S8x1x512 : Shape := ⟨3, ![8, 1, 512]⟩
abbrev S8x256x768 : Shape := ⟨3, ![8, 256, 768]⟩
abbrev S1x1x256 : Shape := ⟨3, ![1, 1, 256]⟩
abbrev S1x256x768 : Shape := ⟨3, ![1, 256, 768]⟩
abbrev S256 : Shape := ⟨1, ![256]⟩
abbrev S256x1 : Shape := ⟨2, ![256, 1]⟩
abbrev S256x256 : Shape := ⟨2, ![256, 256]⟩
abbrev S16x256x768 : Shape := ⟨3, ![16, 256, 768]⟩

abbrev nBuf : Table → Nat
  | .hbm => 14
  | .local .tc .vmem => 12
  | .local .scVector .vmem => 4
  | _ => 0

abbrev bufTy : (tb : Table) → Fin (nBuf tb) → BufTy
  | .hbm, ⟨0, _⟩ => ⟨S16x13x512x768, .f32⟩
  | .hbm, ⟨1, _⟩ => ⟨S16x512, .i32⟩
  | .hbm, ⟨2, _⟩ => ⟨S13, .f32⟩
  | .hbm, ⟨3, _⟩ => ⟨S1x13, .f32⟩
  | .hbm, ⟨4, _⟩ => ⟨S2x8x512x384, .f32⟩
  | .hbm, ⟨5, _⟩ => ⟨S8192x384, .f32⟩
  | .hbm, ⟨6, _⟩ => ⟨S8x512, .i32⟩
  | .hbm, ⟨7, _⟩ => ⟨S4096, .i32⟩
  | .hbm, ⟨8, _⟩ => ⟨S2048x768, .f32⟩
  | .hbm, ⟨9, _⟩ => ⟨S8x512, .i32⟩
  | .hbm, ⟨10, _⟩ => ⟨S8x1x512, .i32⟩
  | .hbm, ⟨11, _⟩ => ⟨S8x256x768, .f32⟩
  | .hbm, ⟨12, _⟩ => ⟨S8x256x768, .f32⟩
  | .hbm, ⟨13, _⟩ => ⟨S16x256x768, .f32⟩
  | .local .tc .vmem, ⟨0, _⟩ => ⟨S1x13, .f32⟩
  | .local .tc .vmem, ⟨1, _⟩ => ⟨S1x13x256x768, .f32⟩
  | .local .tc .vmem, ⟨2, _⟩ => ⟨S1x13x256x768, .f32⟩
  | .local .tc .vmem, ⟨3, _⟩ => ⟨S2x1x256x384, .f32⟩
  | .local .tc .vmem, ⟨4, _⟩ => ⟨S2x1x256x384, .f32⟩
  | .local .tc .vmem, ⟨5, _⟩ => ⟨S1x13, .f32⟩
  | .local .tc .vmem, ⟨6, _⟩ => ⟨S1x1x256, .i32⟩
  | .local .tc .vmem, ⟨7, _⟩ => ⟨S1x1x256, .i32⟩
  | .local .tc .vmem, ⟨8, _⟩ => ⟨S1x13x256x768, .f32⟩
  | .local .tc .vmem, ⟨9, _⟩ => ⟨S1x13x256x768, .f32⟩
  | .local .tc .vmem, ⟨10, _⟩ => ⟨S1x256x768, .f32⟩
  | .local .tc .vmem, ⟨11, _⟩ => ⟨S1x256x768, .f32⟩
  | .local .scVector .vmem, ⟨0, _⟩ => ⟨S32x384, .f32⟩
  | .local .scVector .vmem, ⟨1, _⟩ => ⟨S32x384, .f32⟩
  | .local .scVector .vmem, ⟨2, _⟩ => ⟨S256x384, .f32⟩
  | .local .scVector .vmem, ⟨3, _⟩ => ⟨S512, .i32⟩
  | _, _ => ⟨S16x13x512x768, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 16 → Bool
  | ⟨0, _⟩ => true
  | ⟨1, _⟩ => true
  | ⟨2, _⟩ => true
  | ⟨3, _⟩ => true
  | ⟨4, _⟩ => true
  | ⟨5, _⟩ => false
  | ⟨6, _⟩ => false
  | ⟨7, _⟩ => false
  | ⟨8, _⟩ => false
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTables nBuf rfl bufTy 4 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v2_scv : Ref sig .scVector := ⟨.hbm, 5, rfl⟩
abbrev main_v4_scv : Ref sig .scVector := ⟨.hbm, 7, rfl⟩
abbrev main_v5_scv : Ref sig .scVector := ⟨.hbm, 8, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc2_stg0_0 : Ref sig .tc := ⟨.vmem, 5, rfl⟩
abbrev cc2_stg1_0 : Ref sig .tc := ⟨.vmem, 6, rfl⟩
abbrev cc2_stg1_1 : Ref sig .tc := ⟨.vmem, 7, rfl⟩
abbrev cc2_stg2_0 : Ref sig .tc := ⟨.vmem, 8, rfl⟩
abbrev cc2_stg2_1 : Ref sig .tc := ⟨.vmem, 9, rfl⟩
abbrev cc2_stg3_0 : Ref sig .tc := ⟨.vmem, 10, rfl⟩
abbrev cc2_stg3_1 : Ref sig .tc := ⟨.vmem, 11, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc1_scratch3 : Ref sig .scVector := ⟨.vmem, 3, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc2_sem0_0 : DmaSem sig := 9
abbrev cc2_sem1_0 : DmaSem sig := 10
abbrev cc2_sem1_1 : DmaSem sig := 11
abbrev cc2_sem2_0 : DmaSem sig := 12
abbrev cc2_sem2_1 : DmaSem sig := 13
abbrev cc2_sem3_0 : DmaSem sig := 14
abbrev cc2_sem3_1 : DmaSem sig := 15
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

abbrev stage0_0 : Fin 1 → Memref sig .tc .vmem S1x13 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x13x256x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2x1x256x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨2, ![2, 16], ![false, false]⟩

def k1_cond1 (i : grid1.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v29 : BitVec 1 := Scalar.cmpi .slt v1 c16_i32
  let v30 : BitVec 32 := Scalar.extui v29
  let c0_i32_11 : BitVec 32 := 0#32
  let v31 : BitVec 1 := Scalar.cmpi .ne v30 c0_i32_11
  v31

def k1_off1 (i : grid1.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32_0 : BitVec 32 := 2#32
  let c0_i32_2 : BitVec 32 := 0#32
  let v8 : BitVec 1 := Scalar.cmpi .sgt c2_i32_0 c0_i32_2
  let v9 : BitVec 32 := Scalar.extui v8
  let c0_i32_3 : BitVec 32 := 0#32
  let v10 : BitVec 1 := Scalar.cmpi .slt c2_i32_0 c0_i32_3
  let v11 : BitVec 32 := Scalar.extui v10
  let v12 : BitVec 32 := Scalar.subi v9 v11
  let v13 : BitVec 1 := Scalar.cmpi .ne v7 v12
  let v14 : BitVec 32 := Scalar.remsi v1 c2_i32_0
  let c0_i32_4 : BitVec 32 := 0#32
  let v15 : BitVec 1 := Scalar.cmpi .ne v14 c0_i32_4
  let v16 : BitVec 1 := Scalar.andi v13 v15
  let v2 : BitVec 32 := Scalar.divsi v1 c2_i32_0
  let c1_i32 : BitVec 32 := 1#32
  let v17 : BitVec 32 := Scalar.subi v2 c1_i32
  let v18 : BitVec 32 := Scalar.select v16 v17 v2
  let c512_i32_12 : BitVec 32 := 512#32
  let v35 : BitVec 32 := Scalar.muli v18 c512_i32_12
  ![v35.toNat]
@[reducible] def k1_t1_loop : Scf.Loop 32 :=
  let c0_i32_14 : BitVec 32 := 0#32
  let c256_i32 : BitVec 32 := 256#32
  let v37 : BitVec 32 := Scalar.addi c0_i32_14 c256_i32
  let c1_i32_15 : BitVec 32 := 1#32
  ⟨c0_i32_14, v37, c1_i32_15⟩
def k1_off2 (k1_t1 : Fin k1_t1_loop.trips) : Fin 2 → Nat :=
  let c0_i32_14 : BitVec 32 := 0#32
  let c1_i32_15 : BitVec 32 := 1#32
  let arg11 : BitVec 32 := Scf.iv c0_i32_14 c1_i32_15 k1_t1
  let v49 : Index := Scalar.indexCast arg11
  let c0 : Index := 0#32
  ![v49.toNat, 0]
def k1_off3 (k1_t1 : Fin k1_t1_loop.trips) : Fin 2 → Nat :=
  let c0_i32_14 : BitVec 32 := 0#32
  let c1_i32_15 : BitVec 32 := 1#32
  let arg11 : BitVec 32 := Scf.iv c0_i32_14 c1_i32_15 k1_t1
  let v53 : Index := Scalar.indexCast arg11
  let c16 : Index := 16#32
  ![v53.toNat, 16]
def k1_off4 (k1_t1 : Fin k1_t1_loop.trips) : Fin 2 → Nat :=
  let c0_i32_14 : BitVec 32 := 0#32
  let c1_i32_15 : BitVec 32 := 1#32
  let arg11 : BitVec 32 := Scf.iv c0_i32_14 c1_i32_15 k1_t1
  let v57 : Index := Scalar.indexCast arg11
  let c32 : Index := 32#32
  ![v57.toNat, 32]
def k1_off5 (k1_t1 : Fin k1_t1_loop.trips) : Fin 2 → Nat :=
  let c0_i32_14 : BitVec 32 := 0#32
  let c1_i32_15 : BitVec 32 := 1#32
  let arg11 : BitVec 32 := Scf.iv c0_i32_14 c1_i32_15 k1_t1
  let v61 : Index := Scalar.indexCast arg11
  let c48 : Index := 48#32
  ![v61.toNat, 48]
def k1_off6 (k1_t1 : Fin k1_t1_loop.trips) : Fin 2 → Nat :=
  let c0_i32_14 : BitVec 32 := 0#32
  let c1_i32_15 : BitVec 32 := 1#32
  let arg11 : BitVec 32 := Scf.iv c0_i32_14 c1_i32_15 k1_t1
  let v65 : Index := Scalar.indexCast arg11
  let c64 : Index := 64#32
  ![v65.toNat, 64]
def k1_off7 (k1_t1 : Fin k1_t1_loop.trips) : Fin 2 → Nat :=
  let c0_i32_14 : BitVec 32 := 0#32
  let c1_i32_15 : BitVec 32 := 1#32
  let arg11 : BitVec 32 := Scf.iv c0_i32_14 c1_i32_15 k1_t1
  let v69 : Index := Scalar.indexCast arg11
  let c80 : Index := 80#32
  ![v69.toNat, 80]
def k1_off8 (k1_t1 : Fin k1_t1_loop.trips) : Fin 2 → Nat :=
  let c0_i32_14 : BitVec 32 := 0#32
  let c1_i32_15 : BitVec 32 := 1#32
  let arg11 : BitVec 32 := Scf.iv c0_i32_14 c1_i32_15 k1_t1
  let v73 : Index := Scalar.indexCast arg11
  let c96 : Index := 96#32
  ![v73.toNat, 96]
def k1_off9 (k1_t1 : Fin k1_t1_loop.trips) : Fin 2 → Nat :=
  let c0_i32_14 : BitVec 32 := 0#32
  let c1_i32_15 : BitVec 32 := 1#32
  let arg11 : BitVec 32 := Scf.iv c0_i32_14 c1_i32_15 k1_t1
  let v77 : Index := Scalar.indexCast arg11
  let c112 : Index := 112#32
  ![v77.toNat, 112]
def k1_off10 (k1_t1 : Fin k1_t1_loop.trips) : Fin 2 → Nat :=
  let c0_i32_14 : BitVec 32 := 0#32
  let c1_i32_15 : BitVec 32 := 1#32
  let arg11 : BitVec 32 := Scf.iv c0_i32_14 c1_i32_15 k1_t1
  let v81 : Index := Scalar.indexCast arg11
  let c128 : Index := 128#32
  ![v81.toNat, 128]
def k1_off11 (k1_t1 : Fin k1_t1_loop.trips) : Fin 2 → Nat :=
  let c0_i32_14 : BitVec 32 := 0#32
  let c1_i32_15 : BitVec 32 := 1#32
  let arg11 : BitVec 32 := Scf.iv c0_i32_14 c1_i32_15 k1_t1
  let v85 : Index := Scalar.indexCast arg11
  let c144 : Index := 144#32
  ![v85.toNat, 144]
def k1_off12 (k1_t1 : Fin k1_t1_loop.trips) : Fin 2 → Nat :=
  let c0_i32_14 : BitVec 32 := 0#32
  let c1_i32_15 : BitVec 32 := 1#32
  let arg11 : BitVec 32 := Scf.iv c0_i32_14 c1_i32_15 k1_t1
  let v89 : Index := Scalar.indexCast arg11
  let c160 : Index := 160#32
  ![v89.toNat, 160]
def k1_off13 (k1_t1 : Fin k1_t1_loop.trips) : Fin 2 → Nat :=
  let c0_i32_14 : BitVec 32 := 0#32
  let c1_i32_15 : BitVec 32 := 1#32
  let arg11 : BitVec 32 := Scf.iv c0_i32_14 c1_i32_15 k1_t1
  let v93 : Index := Scalar.indexCast arg11
  let c176 : Index := 176#32
  ![v93.toNat, 176]
def k1_off14 (k1_t1 : Fin k1_t1_loop.trips) : Fin 2 → Nat :=
  let c0_i32_14 : BitVec 32 := 0#32
  let c1_i32_15 : BitVec 32 := 1#32
  let arg11 : BitVec 32 := Scf.iv c0_i32_14 c1_i32_15 k1_t1
  let v97 : Index := Scalar.indexCast arg11
  let c192 : Index := 192#32
  ![v97.toNat, 192]
def k1_off15 (k1_t1 : Fin k1_t1_loop.trips) : Fin 2 → Nat :=
  let c0_i32_14 : BitVec 32 := 0#32
  let c1_i32_15 : BitVec 32 := 1#32
  let arg11 : BitVec 32 := Scf.iv c0_i32_14 c1_i32_15 k1_t1
  let v101 : Index := Scalar.indexCast arg11
  let c208 : Index := 208#32
  ![v101.toNat, 208]
def k1_off16 (k1_t1 : Fin k1_t1_loop.trips) : Fin 2 → Nat :=
  let c0_i32_14 : BitVec 32 := 0#32
  let c1_i32_15 : BitVec 32 := 1#32
  let arg11 : BitVec 32 := Scf.iv c0_i32_14 c1_i32_15 k1_t1
  let v105 : Index := Scalar.indexCast arg11
  let c224 : Index := 224#32
  ![v105.toNat, 224]
def k1_off17 (k1_t1 : Fin k1_t1_loop.trips) : Fin 2 → Nat :=
  let c0_i32_14 : BitVec 32 := 0#32
  let c1_i32_15 : BitVec 32 := 1#32
  let arg11 : BitVec 32 := Scf.iv c0_i32_14 c1_i32_15 k1_t1
  let v109 : Index := Scalar.indexCast arg11
  let c240 : Index := 240#32
  ![v109.toNat, 240]
def k1_off18 (k1_t1 : Fin k1_t1_loop.trips) : Fin 2 → Nat :=
  let c0_i32_14 : BitVec 32 := 0#32
  let c1_i32_15 : BitVec 32 := 1#32
  let arg11 : BitVec 32 := Scf.iv c0_i32_14 c1_i32_15 k1_t1
  let v113 : Index := Scalar.indexCast arg11
  let c256 : Index := 256#32
  ![v113.toNat, 256]
def k1_off19 (k1_t1 : Fin k1_t1_loop.trips) : Fin 2 → Nat :=
  let c0_i32_14 : BitVec 32 := 0#32
  let c1_i32_15 : BitVec 32 := 1#32
  let arg11 : BitVec 32 := Scf.iv c0_i32_14 c1_i32_15 k1_t1
  let v117 : Index := Scalar.indexCast arg11
  let c272 : Index := 272#32
  ![v117.toNat, 272]
def k1_off20 (k1_t1 : Fin k1_t1_loop.trips) : Fin 2 → Nat :=
  let c0_i32_14 : BitVec 32 := 0#32
  let c1_i32_15 : BitVec 32 := 1#32
  let arg11 : BitVec 32 := Scf.iv c0_i32_14 c1_i32_15 k1_t1
  let v121 : Index := Scalar.indexCast arg11
  let c288 : Index := 288#32
  ![v121.toNat, 288]
def k1_off21 (k1_t1 : Fin k1_t1_loop.trips) : Fin 2 → Nat :=
  let c0_i32_14 : BitVec 32 := 0#32
  let c1_i32_15 : BitVec 32 := 1#32
  let arg11 : BitVec 32 := Scf.iv c0_i32_14 c1_i32_15 k1_t1
  let v125 : Index := Scalar.indexCast arg11
  let c304 : Index := 304#32
  ![v125.toNat, 304]
def k1_off22 (k1_t1 : Fin k1_t1_loop.trips) : Fin 2 → Nat :=
  let c0_i32_14 : BitVec 32 := 0#32
  let c1_i32_15 : BitVec 32 := 1#32
  let arg11 : BitVec 32 := Scf.iv c0_i32_14 c1_i32_15 k1_t1
  let v129 : Index := Scalar.indexCast arg11
  let c320 : Index := 320#32
  ![v129.toNat, 320]
def k1_off23 (k1_t1 : Fin k1_t1_loop.trips) : Fin 2 → Nat :=
  let c0_i32_14 : BitVec 32 := 0#32
  let c1_i32_15 : BitVec 32 := 1#32
  let arg11 : BitVec 32 := Scf.iv c0_i32_14 c1_i32_15 k1_t1
  let v133 : Index := Scalar.indexCast arg11
  let c336 : Index := 336#32
  ![v133.toNat, 336]
def k1_off24 (k1_t1 : Fin k1_t1_loop.trips) : Fin 2 → Nat :=
  let c0_i32_14 : BitVec 32 := 0#32
  let c1_i32_15 : BitVec 32 := 1#32
  let arg11 : BitVec 32 := Scf.iv c0_i32_14 c1_i32_15 k1_t1
  let v137 : Index := Scalar.indexCast arg11
  let c352 : Index := 352#32
  ![v137.toNat, 352]
def k1_off25 (k1_t1 : Fin k1_t1_loop.trips) : Fin 2 → Nat :=
  let c0_i32_14 : BitVec 32 := 0#32
  let c1_i32_15 : BitVec 32 := 1#32
  let arg11 : BitVec 32 := Scf.iv c0_i32_14 c1_i32_15 k1_t1
  let v141 : Index := Scalar.indexCast arg11
  let c368 : Index := 368#32
  ![v141.toNat, 368]
def k1_off26 (i : grid1.Coords) (c0_i32_17 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c8_i32 : BitVec 32 := 8#32
  let v32 : BitVec 32 := Scalar.muli v28 c8_i32
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32_0 : BitVec 32 := 2#32
  let c0_i32_2 : BitVec 32 := 0#32
  let v8 : BitVec 1 := Scalar.cmpi .sgt c2_i32_0 c0_i32_2
  let v9 : BitVec 32 := Scalar.extui v8
  let c0_i32_3 : BitVec 32 := 0#32
  let v10 : BitVec 1 := Scalar.cmpi .slt c2_i32_0 c0_i32_3
  let v11 : BitVec 32 := Scalar.extui v10
  let v12 : BitVec 32 := Scalar.subi v9 v11
  let v13 : BitVec 1 := Scalar.cmpi .ne v7 v12
  let v14 : BitVec 32 := Scalar.remsi v1 c2_i32_0
  let c0_i32_4 : BitVec 32 := 0#32
  let v15 : BitVec 1 := Scalar.cmpi .ne v14 c0_i32_4
  let v16 : BitVec 1 := Scalar.andi v13 v15
  let v2 : BitVec 32 := Scalar.divsi v1 c2_i32_0
  let c1_i32 : BitVec 32 := 1#32
  let v17 : BitVec 32 := Scalar.subi v2 c1_i32
  let v18 : BitVec 32 := Scalar.select v16 v17 v2
  let v33 : BitVec 32 := Scalar.addi v32 v18
  let c512_i32 : BitVec 32 := 512#32
  let v34 : BitVec 32 := Scalar.muli v33 c512_i32
  let v39 : BitVec 32 := Scalar.addi v34 c0_i32_17
  let c0_i32_18 : BitVec 32 := 0#32
  ![v39.toNat, 0]
@[reducible] def k1_t2_loop : Scf.Loop 32 :=
  let c0_i32_22 : BitVec 32 := 0#32
  let c8_i32_23 : BitVec 32 := 8#32
  let v45 : BitVec 32 := Scalar.addi c0_i32_22 c8_i32_23
  let c1_i32_24 : BitVec 32 := 1#32
  ⟨c0_i32_22, v45, c1_i32_24⟩
def k1_off27 (i : grid1.Coords) (k1_t2 : Fin k1_t2_loop.trips) (c0_i32_28 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c8_i32 : BitVec 32 := 8#32
  let v32 : BitVec 32 := Scalar.muli v28 c8_i32
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32_0 : BitVec 32 := 2#32
  let c0_i32_2 : BitVec 32 := 0#32
  let v8 : BitVec 1 := Scalar.cmpi .sgt c2_i32_0 c0_i32_2
  let v9 : BitVec 32 := Scalar.extui v8
  let c0_i32_3 : BitVec 32 := 0#32
  let v10 : BitVec 1 := Scalar.cmpi .slt c2_i32_0 c0_i32_3
  let v11 : BitVec 32 := Scalar.extui v10
  let v12 : BitVec 32 := Scalar.subi v9 v11
  let v13 : BitVec 1 := Scalar.cmpi .ne v7 v12
  let v14 : BitVec 32 := Scalar.remsi v1 c2_i32_0
  let c0_i32_4 : BitVec 32 := 0#32
  let v15 : BitVec 1 := Scalar.cmpi .ne v14 c0_i32_4
  let v16 : BitVec 1 := Scalar.andi v13 v15
  let v2 : BitVec 32 := Scalar.divsi v1 c2_i32_0
  let c1_i32 : BitVec 32 := 1#32
  let v17 : BitVec 32 := Scalar.subi v2 c1_i32
  let v18 : BitVec 32 := Scalar.select v16 v17 v2
  let v33 : BitVec 32 := Scalar.addi v32 v18
  let c512_i32 : BitVec 32 := 512#32
  let v34 : BitVec 32 := Scalar.muli v33 c512_i32
  let c0_i32_22 : BitVec 32 := 0#32
  let c1_i32_24 : BitVec 32 := 1#32
  let arg11 : BitVec 32 := Scf.iv c0_i32_22 c1_i32_24 k1_t2
  let c2_i32_27 : BitVec 32 := 2#32
  let v49 : BitVec 32 := Scalar.muli arg11 c2_i32_27
  let v50 : BitVec 32 := Scalar.addi v49 c0_i32_28
  let c32_i32_29 : BitVec 32 := 32#32
  let v51 : BitVec 32 := Scalar.muli v50 c32_i32_29
  let v52 : BitVec 32 := Scalar.addi v34 v51
  let c0_i32_30 : BitVec 32 := 0#32
  ![v52.toNat, 0]
@[reducible] def k1_t3_loop : Scf.Loop 32 :=
  let c0_i32_32 : BitVec 32 := 0#32
  let c2_i32_33 : BitVec 32 := 2#32
  let v55 : BitVec 32 := Scalar.addi c0_i32_32 c2_i32_33
  let c1_i32_34 : BitVec 32 := 1#32
  ⟨c0_i32_32, v55, c1_i32_34⟩
def k1_off28 (k1_t2 : Fin k1_t2_loop.trips) (k1_t3 : Fin k1_t3_loop.trips) : Fin 1 → Nat :=
  let c0_i32_22 : BitVec 32 := 0#32
  let c1_i32_24 : BitVec 32 := 1#32
  let arg11 : BitVec 32 := Scf.iv c0_i32_22 c1_i32_24 k1_t2
  let c2_i32_27 : BitVec 32 := 2#32
  let v49 : BitVec 32 := Scalar.muli arg11 c2_i32_27
  let c0_i32_28 : BitVec 32 := 0#32
  let v50 : BitVec 32 := Scalar.addi v49 c0_i32_28
  let c32_i32_51 : BitVec 32 := 32#32
  let v73 : BitVec 32 := Scalar.muli v50 c32_i32_51
  let c0_i32_32 : BitVec 32 := 0#32
  let c1_i32_34 : BitVec 32 := 1#32
  let arg37 : BitVec 32 := Scf.iv c0_i32_32 c1_i32_34 k1_t3
  let c16_i32_52 : BitVec 32 := 16#32
  let v74 : BitVec 32 := Scalar.muli arg37 c16_i32_52
  let v75 : BitVec 32 := Scalar.addi v73 v74
  let v76 : Index := Scalar.indexCast v75
  ![v76.toNat]
def k1_off29 (k1_t3 : Fin k1_t3_loop.trips) : Fin 2 → Nat :=
  let c0_i32_32 : BitVec 32 := 0#32
  let c1_i32_34 : BitVec 32 := 1#32
  let arg37 : BitVec 32 := Scf.iv c0_i32_32 c1_i32_34 k1_t3
  let c16_i32_53 : BitVec 32 := 16#32
  let v81 : BitVec 32 := Scalar.muli arg37 c16_i32_53
  let c0_i32_54 : BitVec 32 := 0#32
  let v82 : BitVec 32 := Scalar.addi v81 c0_i32_54
  let v84 : Index := Scalar.indexCast v82
  let c0 : Index := 0#32
  ![v84.toNat, 0]
def k1_off30 (k1_t3 : Fin k1_t3_loop.trips) : Fin 2 → Nat :=
  let c0_i32_32 : BitVec 32 := 0#32
  let c1_i32_34 : BitVec 32 := 1#32
  let arg37 : BitVec 32 := Scf.iv c0_i32_32 c1_i32_34 k1_t3
  let c16_i32_53 : BitVec 32 := 16#32
  let v81 : BitVec 32 := Scalar.muli arg37 c16_i32_53
  let c0_i32_54 : BitVec 32 := 0#32
  let v82 : BitVec 32 := Scalar.addi v81 c0_i32_54
  let v92 : Index := Scalar.indexCast v82
  let c16 : Index := 16#32
  ![v92.toNat, 16]
def k1_off31 (k1_t3 : Fin k1_t3_loop.trips) : Fin 2 → Nat :=
  let c0_i32_32 : BitVec 32 := 0#32
  let c1_i32_34 : BitVec 32 := 1#32
  let arg37 : BitVec 32 := Scf.iv c0_i32_32 c1_i32_34 k1_t3
  let c16_i32_53 : BitVec 32 := 16#32
  let v81 : BitVec 32 := Scalar.muli arg37 c16_i32_53
  let c0_i32_54 : BitVec 32 := 0#32
  let v82 : BitVec 32 := Scalar.addi v81 c0_i32_54
  let v100 : Index := Scalar.indexCast v82
  let c32 : Index := 32#32
  ![v100.toNat, 32]
def k1_off32 (k1_t3 : Fin k1_t3_loop.trips) : Fin 2 → Nat :=
  let c0_i32_32 : BitVec 32 := 0#32
  let c1_i32_34 : BitVec 32 := 1#32
  let arg37 : BitVec 32 := Scf.iv c0_i32_32 c1_i32_34 k1_t3
  let c16_i32_53 : BitVec 32 := 16#32
  let v81 : BitVec 32 := Scalar.muli arg37 c16_i32_53
  let c0_i32_54 : BitVec 32 := 0#32
  let v82 : BitVec 32 := Scalar.addi v81 c0_i32_54
  let v108 : Index := Scalar.indexCast v82
  let c48 : Index := 48#32
  ![v108.toNat, 48]
def k1_off33 (k1_t3 : Fin k1_t3_loop.trips) : Fin 2 → Nat :=
  let c0_i32_32 : BitVec 32 := 0#32
  let c1_i32_34 : BitVec 32 := 1#32
  let arg37 : BitVec 32 := Scf.iv c0_i32_32 c1_i32_34 k1_t3
  let c16_i32_53 : BitVec 32 := 16#32
  let v81 : BitVec 32 := Scalar.muli arg37 c16_i32_53
  let c0_i32_54 : BitVec 32 := 0#32
  let v82 : BitVec 32 := Scalar.addi v81 c0_i32_54
  let v116 : Index := Scalar.indexCast v82
  let c64 : Index := 64#32
  ![v116.toNat, 64]
def k1_off34 (k1_t3 : Fin k1_t3_loop.trips) : Fin 2 → Nat :=
  let c0_i32_32 : BitVec 32 := 0#32
  let c1_i32_34 : BitVec 32 := 1#32
  let arg37 : BitVec 32 := Scf.iv c0_i32_32 c1_i32_34 k1_t3
  let c16_i32_53 : BitVec 32 := 16#32
  let v81 : BitVec 32 := Scalar.muli arg37 c16_i32_53
  let c0_i32_54 : BitVec 32 := 0#32
  let v82 : BitVec 32 := Scalar.addi v81 c0_i32_54
  let v124 : Index := Scalar.indexCast v82
  let c80 : Index := 80#32
  ![v124.toNat, 80]
def k1_off35 (k1_t3 : Fin k1_t3_loop.trips) : Fin 2 → Nat :=
  let c0_i32_32 : BitVec 32 := 0#32
  let c1_i32_34 : BitVec 32 := 1#32
  let arg37 : BitVec 32 := Scf.iv c0_i32_32 c1_i32_34 k1_t3
  let c16_i32_53 : BitVec 32 := 16#32
  let v81 : BitVec 32 := Scalar.muli arg37 c16_i32_53
  let c0_i32_54 : BitVec 32 := 0#32
  let v82 : BitVec 32 := Scalar.addi v81 c0_i32_54
  let v132 : Index := Scalar.indexCast v82
  let c96 : Index := 96#32
  ![v132.toNat, 96]
def k1_off36 (k1_t3 : Fin k1_t3_loop.trips) : Fin 2 → Nat :=
  let c0_i32_32 : BitVec 32 := 0#32
  let c1_i32_34 : BitVec 32 := 1#32
  let arg37 : BitVec 32 := Scf.iv c0_i32_32 c1_i32_34 k1_t3
  let c16_i32_53 : BitVec 32 := 16#32
  let v81 : BitVec 32 := Scalar.muli arg37 c16_i32_53
  let c0_i32_54 : BitVec 32 := 0#32
  let v82 : BitVec 32 := Scalar.addi v81 c0_i32_54
  let v140 : Index := Scalar.indexCast v82
  let c112 : Index := 112#32
  ![v140.toNat, 112]
def k1_off37 (k1_t3 : Fin k1_t3_loop.trips) : Fin 2 → Nat :=
  let c0_i32_32 : BitVec 32 := 0#32
  let c1_i32_34 : BitVec 32 := 1#32
  let arg37 : BitVec 32 := Scf.iv c0_i32_32 c1_i32_34 k1_t3
  let c16_i32_53 : BitVec 32 := 16#32
  let v81 : BitVec 32 := Scalar.muli arg37 c16_i32_53
  let c0_i32_54 : BitVec 32 := 0#32
  let v82 : BitVec 32 := Scalar.addi v81 c0_i32_54
  let v148 : Index := Scalar.indexCast v82
  let c128 : Index := 128#32
  ![v148.toNat, 128]
def k1_off38 (k1_t3 : Fin k1_t3_loop.trips) : Fin 2 → Nat :=
  let c0_i32_32 : BitVec 32 := 0#32
  let c1_i32_34 : BitVec 32 := 1#32
  let arg37 : BitVec 32 := Scf.iv c0_i32_32 c1_i32_34 k1_t3
  let c16_i32_53 : BitVec 32 := 16#32
  let v81 : BitVec 32 := Scalar.muli arg37 c16_i32_53
  let c0_i32_54 : BitVec 32 := 0#32
  let v82 : BitVec 32 := Scalar.addi v81 c0_i32_54
  let v156 : Index := Scalar.indexCast v82
  let c144 : Index := 144#32
  ![v156.toNat, 144]
def k1_off39 (k1_t3 : Fin k1_t3_loop.trips) : Fin 2 → Nat :=
  let c0_i32_32 : BitVec 32 := 0#32
  let c1_i32_34 : BitVec 32 := 1#32
  let arg37 : BitVec 32 := Scf.iv c0_i32_32 c1_i32_34 k1_t3
  let c16_i32_53 : BitVec 32 := 16#32
  let v81 : BitVec 32 := Scalar.muli arg37 c16_i32_53
  let c0_i32_54 : BitVec 32 := 0#32
  let v82 : BitVec 32 := Scalar.addi v81 c0_i32_54
  let v164 : Index := Scalar.indexCast v82
  let c160 : Index := 160#32
  ![v164.toNat, 160]
def k1_off40 (k1_t3 : Fin k1_t3_loop.trips) : Fin 2 → Nat :=
  let c0_i32_32 : BitVec 32 := 0#32
  let c1_i32_34 : BitVec 32 := 1#32
  let arg37 : BitVec 32 := Scf.iv c0_i32_32 c1_i32_34 k1_t3
  let c16_i32_53 : BitVec 32 := 16#32
  let v81 : BitVec 32 := Scalar.muli arg37 c16_i32_53
  let c0_i32_54 : BitVec 32 := 0#32
  let v82 : BitVec 32 := Scalar.addi v81 c0_i32_54
  let v172 : Index := Scalar.indexCast v82
  let c176 : Index := 176#32
  ![v172.toNat, 176]
def k1_off41 (k1_t3 : Fin k1_t3_loop.trips) : Fin 2 → Nat :=
  let c0_i32_32 : BitVec 32 := 0#32
  let c1_i32_34 : BitVec 32 := 1#32
  let arg37 : BitVec 32 := Scf.iv c0_i32_32 c1_i32_34 k1_t3
  let c16_i32_53 : BitVec 32 := 16#32
  let v81 : BitVec 32 := Scalar.muli arg37 c16_i32_53
  let c0_i32_54 : BitVec 32 := 0#32
  let v82 : BitVec 32 := Scalar.addi v81 c0_i32_54
  let v180 : Index := Scalar.indexCast v82
  let c192 : Index := 192#32
  ![v180.toNat, 192]
def k1_off42 (k1_t3 : Fin k1_t3_loop.trips) : Fin 2 → Nat :=
  let c0_i32_32 : BitVec 32 := 0#32
  let c1_i32_34 : BitVec 32 := 1#32
  let arg37 : BitVec 32 := Scf.iv c0_i32_32 c1_i32_34 k1_t3
  let c16_i32_53 : BitVec 32 := 16#32
  let v81 : BitVec 32 := Scalar.muli arg37 c16_i32_53
  let c0_i32_54 : BitVec 32 := 0#32
  let v82 : BitVec 32 := Scalar.addi v81 c0_i32_54
  let v188 : Index := Scalar.indexCast v82
  let c208 : Index := 208#32
  ![v188.toNat, 208]
def k1_off43 (k1_t3 : Fin k1_t3_loop.trips) : Fin 2 → Nat :=
  let c0_i32_32 : BitVec 32 := 0#32
  let c1_i32_34 : BitVec 32 := 1#32
  let arg37 : BitVec 32 := Scf.iv c0_i32_32 c1_i32_34 k1_t3
  let c16_i32_53 : BitVec 32 := 16#32
  let v81 : BitVec 32 := Scalar.muli arg37 c16_i32_53
  let c0_i32_54 : BitVec 32 := 0#32
  let v82 : BitVec 32 := Scalar.addi v81 c0_i32_54
  let v196 : Index := Scalar.indexCast v82
  let c224 : Index := 224#32
  ![v196.toNat, 224]
def k1_off44 (k1_t3 : Fin k1_t3_loop.trips) : Fin 2 → Nat :=
  let c0_i32_32 : BitVec 32 := 0#32
  let c1_i32_34 : BitVec 32 := 1#32
  let arg37 : BitVec 32 := Scf.iv c0_i32_32 c1_i32_34 k1_t3
  let c16_i32_53 : BitVec 32 := 16#32
  let v81 : BitVec 32 := Scalar.muli arg37 c16_i32_53
  let c0_i32_54 : BitVec 32 := 0#32
  let v82 : BitVec 32 := Scalar.addi v81 c0_i32_54
  let v204 : Index := Scalar.indexCast v82
  let c240 : Index := 240#32
  ![v204.toNat, 240]
def k1_off45 (k1_t3 : Fin k1_t3_loop.trips) : Fin 2 → Nat :=
  let c0_i32_32 : BitVec 32 := 0#32
  let c1_i32_34 : BitVec 32 := 1#32
  let arg37 : BitVec 32 := Scf.iv c0_i32_32 c1_i32_34 k1_t3
  let c16_i32_53 : BitVec 32 := 16#32
  let v81 : BitVec 32 := Scalar.muli arg37 c16_i32_53
  let c0_i32_54 : BitVec 32 := 0#32
  let v82 : BitVec 32 := Scalar.addi v81 c0_i32_54
  let v212 : Index := Scalar.indexCast v82
  let c256 : Index := 256#32
  ![v212.toNat, 256]
def k1_off46 (k1_t3 : Fin k1_t3_loop.trips) : Fin 2 → Nat :=
  let c0_i32_32 : BitVec 32 := 0#32
  let c1_i32_34 : BitVec 32 := 1#32
  let arg37 : BitVec 32 := Scf.iv c0_i32_32 c1_i32_34 k1_t3
  let c16_i32_53 : BitVec 32 := 16#32
  let v81 : BitVec 32 := Scalar.muli arg37 c16_i32_53
  let c0_i32_54 : BitVec 32 := 0#32
  let v82 : BitVec 32 := Scalar.addi v81 c0_i32_54
  let v220 : Index := Scalar.indexCast v82
  let c272 : Index := 272#32
  ![v220.toNat, 272]
def k1_off47 (k1_t3 : Fin k1_t3_loop.trips) : Fin 2 → Nat :=
  let c0_i32_32 : BitVec 32 := 0#32
  let c1_i32_34 : BitVec 32 := 1#32
  let arg37 : BitVec 32 := Scf.iv c0_i32_32 c1_i32_34 k1_t3
  let c16_i32_53 : BitVec 32 := 16#32
  let v81 : BitVec 32 := Scalar.muli arg37 c16_i32_53
  let c0_i32_54 : BitVec 32 := 0#32
  let v82 : BitVec 32 := Scalar.addi v81 c0_i32_54
  let v228 : Index := Scalar.indexCast v82
  let c288 : Index := 288#32
  ![v228.toNat, 288]
def k1_off48 (k1_t3 : Fin k1_t3_loop.trips) : Fin 2 → Nat :=
  let c0_i32_32 : BitVec 32 := 0#32
  let c1_i32_34 : BitVec 32 := 1#32
  let arg37 : BitVec 32 := Scf.iv c0_i32_32 c1_i32_34 k1_t3
  let c16_i32_53 : BitVec 32 := 16#32
  let v81 : BitVec 32 := Scalar.muli arg37 c16_i32_53
  let c0_i32_54 : BitVec 32 := 0#32
  let v82 : BitVec 32 := Scalar.addi v81 c0_i32_54
  let v236 : Index := Scalar.indexCast v82
  let c304 : Index := 304#32
  ![v236.toNat, 304]
def k1_off49 (k1_t3 : Fin k1_t3_loop.trips) : Fin 2 → Nat :=
  let c0_i32_32 : BitVec 32 := 0#32
  let c1_i32_34 : BitVec 32 := 1#32
  let arg37 : BitVec 32 := Scf.iv c0_i32_32 c1_i32_34 k1_t3
  let c16_i32_53 : BitVec 32 := 16#32
  let v81 : BitVec 32 := Scalar.muli arg37 c16_i32_53
  let c0_i32_54 : BitVec 32 := 0#32
  let v82 : BitVec 32 := Scalar.addi v81 c0_i32_54
  let v244 : Index := Scalar.indexCast v82
  let c320 : Index := 320#32
  ![v244.toNat, 320]
def k1_off50 (k1_t3 : Fin k1_t3_loop.trips) : Fin 2 → Nat :=
  let c0_i32_32 : BitVec 32 := 0#32
  let c1_i32_34 : BitVec 32 := 1#32
  let arg37 : BitVec 32 := Scf.iv c0_i32_32 c1_i32_34 k1_t3
  let c16_i32_53 : BitVec 32 := 16#32
  let v81 : BitVec 32 := Scalar.muli arg37 c16_i32_53
  let c0_i32_54 : BitVec 32 := 0#32
  let v82 : BitVec 32 := Scalar.addi v81 c0_i32_54
  let v252 : Index := Scalar.indexCast v82
  let c336 : Index := 336#32
  ![v252.toNat, 336]
def k1_off51 (k1_t3 : Fin k1_t3_loop.trips) : Fin 2 → Nat :=
  let c0_i32_32 : BitVec 32 := 0#32
  let c1_i32_34 : BitVec 32 := 1#32
  let arg37 : BitVec 32 := Scf.iv c0_i32_32 c1_i32_34 k1_t3
  let c16_i32_53 : BitVec 32 := 16#32
  let v81 : BitVec 32 := Scalar.muli arg37 c16_i32_53
  let c0_i32_54 : BitVec 32 := 0#32
  let v82 : BitVec 32 := Scalar.addi v81 c0_i32_54
  let v260 : Index := Scalar.indexCast v82
  let c352 : Index := 352#32
  ![v260.toNat, 352]
def k1_off52 (k1_t3 : Fin k1_t3_loop.trips) : Fin 2 → Nat :=
  let c0_i32_32 : BitVec 32 := 0#32
  let c1_i32_34 : BitVec 32 := 1#32
  let arg37 : BitVec 32 := Scf.iv c0_i32_32 c1_i32_34 k1_t3
  let c16_i32_53 : BitVec 32 := 16#32
  let v81 : BitVec 32 := Scalar.muli arg37 c16_i32_53
  let c0_i32_54 : BitVec 32 := 0#32
  let v82 : BitVec 32 := Scalar.addi v81 c0_i32_54
  let v268 : Index := Scalar.indexCast v82
  let c368 : Index := 368#32
  ![v268.toNat, 368]
def k1_off53 (v80 : BitVec 32) : Fin 2 → Nat :=
  let v276 : Index := Scalar.indexCast v80
  let c0_79 : Index := 0#32
  ![v276.toNat, 0]

def k1_off54 (v80 : BitVec 32) : Fin 2 → Nat :=
  let v280 : Index := Scalar.indexCast v80
  let c16_80 : Index := 16#32
  ![v280.toNat, 16]
def k1_off55 (v80 : BitVec 32) : Fin 2 → Nat :=
  let v284 : Index := Scalar.indexCast v80
  let c32_81 : Index := 32#32
  ![v284.toNat, 32]
def k1_off56 (v80 : BitVec 32) : Fin 2 → Nat :=
  let v288 : Index := Scalar.indexCast v80
  let c48_82 : Index := 48#32
  ![v288.toNat, 48]
def k1_off57 (v80 : BitVec 32) : Fin 2 → Nat :=
  let v292 : Index := Scalar.indexCast v80
  let c64_83 : Index := 64#32
  ![v292.toNat, 64]
def k1_off58 (v80 : BitVec 32) : Fin 2 → Nat :=
  let v296 : Index := Scalar.indexCast v80
  let c80_84 : Index := 80#32
  ![v296.toNat, 80]
def k1_off59 (v80 : BitVec 32) : Fin 2 → Nat :=
  let v300 : Index := Scalar.indexCast v80
  let c96_85 : Index := 96#32
  ![v300.toNat, 96]
def k1_off60 (v80 : BitVec 32) : Fin 2 → Nat :=
  let v304 : Index := Scalar.indexCast v80
  let c112_86 : Index := 112#32
  ![v304.toNat, 112]
def k1_off61 (v80 : BitVec 32) : Fin 2 → Nat :=
  let v308 : Index := Scalar.indexCast v80
  let c128_87 : Index := 128#32
  ![v308.toNat, 128]
def k1_off62 (v80 : BitVec 32) : Fin 2 → Nat :=
  let v312 : Index := Scalar.indexCast v80
  let c144_88 : Index := 144#32
  ![v312.toNat, 144]
def k1_off63 (v80 : BitVec 32) : Fin 2 → Nat :=
  let v316 : Index := Scalar.indexCast v80
  let c160_89 : Index := 160#32
  ![v316.toNat, 160]
def k1_off64 (v80 : BitVec 32) : Fin 2 → Nat :=
  let v320 : Index := Scalar.indexCast v80
  let c176_90 : Index := 176#32
  ![v320.toNat, 176]
def k1_off65 (v80 : BitVec 32) : Fin 2 → Nat :=
  let v324 : Index := Scalar.indexCast v80
  let c192_91 : Index := 192#32
  ![v324.toNat, 192]
def k1_off66 (v80 : BitVec 32) : Fin 2 → Nat :=
  let v328 : Index := Scalar.indexCast v80
  let c208_92 : Index := 208#32
  ![v328.toNat, 208]
def k1_off67 (v80 : BitVec 32) : Fin 2 → Nat :=
  let v332 : Index := Scalar.indexCast v80
  let c224_93 : Index := 224#32
  ![v332.toNat, 224]
def k1_off68 (v80 : BitVec 32) : Fin 2 → Nat :=
  let v336 : Index := Scalar.indexCast v80
  let c240_94 : Index := 240#32
  ![v336.toNat, 240]
def k1_off69 (v80 : BitVec 32) : Fin 2 → Nat :=
  let v340 : Index := Scalar.indexCast v80
  let c256_95 : Index := 256#32
  ![v340.toNat, 256]
def k1_off70 (v80 : BitVec 32) : Fin 2 → Nat :=
  let v344 : Index := Scalar.indexCast v80
  let c272_96 : Index := 272#32
  ![v344.toNat, 272]
def k1_off71 (v80 : BitVec 32) : Fin 2 → Nat :=
  let v348 : Index := Scalar.indexCast v80
  let c288_97 : Index := 288#32
  ![v348.toNat, 288]
def k1_off72 (v80 : BitVec 32) : Fin 2 → Nat :=
  let v352 : Index := Scalar.indexCast v80
  let c304_98 : Index := 304#32
  ![v352.toNat, 304]
def k1_off73 (v80 : BitVec 32) : Fin 2 → Nat :=
  let v356 : Index := Scalar.indexCast v80
  let c320_99 : Index := 320#32
  ![v356.toNat, 320]
def k1_off74 (v80 : BitVec 32) : Fin 2 → Nat :=
  let v360 : Index := Scalar.indexCast v80
  let c336_100 : Index := 336#32
  ![v360.toNat, 336]
def k1_off75 (v80 : BitVec 32) : Fin 2 → Nat :=
  let v364 : Index := Scalar.indexCast v80
  let c352_101 : Index := 352#32
  ![v364.toNat, 352]
def k1_off76 (v80 : BitVec 32) : Fin 2 → Nat :=
  let v368 : Index := Scalar.indexCast v80
  let c368_102 : Index := 368#32
  ![v368.toNat, 368]

def k1_chk1 (i : grid1.Coords) (v80 : BitVec 32) : Prop :=
  (∀ (k1_h1 : k1_cond1 i = 1#1), ∀ a, (k1_off53 v80) a + S1x16.size a ≤ S256x384.size a) ∧
  (∀ (k1_h1 : k1_cond1 i = 1#1), ∀ a, (k1_off54 v80) a + S1x16.size a ≤ S256x384.size a) ∧
  (∀ (k1_h1 : k1_cond1 i = 1#1), ∀ a, (k1_off55 v80) a + S1x16.size a ≤ S256x384.size a) ∧
  (∀ (k1_h1 : k1_cond1 i = 1#1), ∀ a, (k1_off56 v80) a + S1x16.size a ≤ S256x384.size a) ∧
  (∀ (k1_h1 : k1_cond1 i = 1#1), ∀ a, (k1_off57 v80) a + S1x16.size a ≤ S256x384.size a) ∧
  (∀ (k1_h1 : k1_cond1 i = 1#1), ∀ a, (k1_off58 v80) a + S1x16.size a ≤ S256x384.size a) ∧
  (∀ (k1_h1 : k1_cond1 i = 1#1), ∀ a, (k1_off59 v80) a + S1x16.size a ≤ S256x384.size a) ∧
  (∀ (k1_h1 : k1_cond1 i = 1#1), ∀ a, (k1_off60 v80) a + S1x16.size a ≤ S256x384.size a) ∧
  (∀ (k1_h1 : k1_cond1 i = 1#1), ∀ a, (k1_off61 v80) a + S1x16.size a ≤ S256x384.size a) ∧
  (∀ (k1_h1 : k1_cond1 i = 1#1), ∀ a, (k1_off62 v80) a + S1x16.size a ≤ S256x384.size a) ∧
  (∀ (k1_h1 : k1_cond1 i = 1#1), ∀ a, (k1_off63 v80) a + S1x16.size a ≤ S256x384.size a) ∧
  (∀ (k1_h1 : k1_cond1 i = 1#1), ∀ a, (k1_off64 v80) a + S1x16.size a ≤ S256x384.size a) ∧
  (∀ (k1_h1 : k1_cond1 i = 1#1), ∀ a, (k1_off65 v80) a + S1x16.size a ≤ S256x384.size a) ∧
  (∀ (k1_h1 : k1_cond1 i = 1#1), ∀ a, (k1_off66 v80) a + S1x16.size a ≤ S256x384.size a) ∧
  (∀ (k1_h1 : k1_cond1 i = 1#1), ∀ a, (k1_off67 v80) a + S1x16.size a ≤ S256x384.size a) ∧
  (∀ (k1_h1 : k1_cond1 i = 1#1), ∀ a, (k1_off68 v80) a + S1x16.size a ≤ S256x384.size a) ∧
  (∀ (k1_h1 : k1_cond1 i = 1#1), ∀ a, (k1_off69 v80) a + S1x16.size a ≤ S256x384.size a) ∧
  (∀ (k1_h1 : k1_cond1 i = 1#1), ∀ a, (k1_off70 v80) a + S1x16.size a ≤ S256x384.size a) ∧
  (∀ (k1_h1 : k1_cond1 i = 1#1), ∀ a, (k1_off71 v80) a + S1x16.size a ≤ S256x384.size a) ∧
  (∀ (k1_h1 : k1_cond1 i = 1#1), ∀ a, (k1_off72 v80) a + S1x16.size a ≤ S256x384.size a) ∧
  (∀ (k1_h1 : k1_cond1 i = 1#1), ∀ a, (k1_off73 v80) a + S1x16.size a ≤ S256x384.size a) ∧
  (∀ (k1_h1 : k1_cond1 i = 1#1), ∀ a, (k1_off74 v80) a + S1x16.size a ≤ S256x384.size a) ∧
  (∀ (k1_h1 : k1_cond1 i = 1#1), ∀ a, (k1_off75 v80) a + S1x16.size a ≤ S256x384.size a) ∧
  (∀ (k1_h1 : k1_cond1 i = 1#1), ∀ a, (k1_off76 v80) a + S1x16.size a ≤ S256x384.size a)
theorem k1_off53_inb : ∀ (i : grid1.Coords) (v80 : BitVec 32) (k1_hw1 : k1_chk1 i v80), ∀ (k1_h1 : k1_cond1 i = 1#1), ∀ a, (k1_off53 v80) a + S1x16.size a ≤ S256x384.size a := fun i v80 k1_hw1 k1_h1 => k1_hw1.1 k1_h1
theorem k1_off54_inb : ∀ (i : grid1.Coords) (v80 : BitVec 32) (k1_hw1 : k1_chk1 i v80), ∀ (k1_h1 : k1_cond1 i = 1#1), ∀ a, (k1_off54 v80) a + S1x16.size a ≤ S256x384.size a := fun i v80 k1_hw1 k1_h1 => k1_hw1.2.1 k1_h1
theorem k1_off55_inb : ∀ (i : grid1.Coords) (v80 : BitVec 32) (k1_hw1 : k1_chk1 i v80), ∀ (k1_h1 : k1_cond1 i = 1#1), ∀ a, (k1_off55 v80) a + S1x16.size a ≤ S256x384.size a := fun i v80 k1_hw1 k1_h1 => k1_hw1.2.2.1 k1_h1
theorem k1_off56_inb : ∀ (i : grid1.Coords) (v80 : BitVec 32) (k1_hw1 : k1_chk1 i v80), ∀ (k1_h1 : k1_cond1 i = 1#1), ∀ a, (k1_off56 v80) a + S1x16.size a ≤ S256x384.size a := fun i v80 k1_hw1 k1_h1 => k1_hw1.2.2.2.1 k1_h1
theorem k1_off57_inb : ∀ (i : grid1.Coords) (v80 : BitVec 32) (k1_hw1 : k1_chk1 i v80), ∀ (k1_h1 : k1_cond1 i = 1#1), ∀ a, (k1_off57 v80) a + S1x16.size a ≤ S256x384.size a := fun i v80 k1_hw1 k1_h1 => k1_hw1.2.2.2.2.1 k1_h1
theorem k1_off58_inb : ∀ (i : grid1.Coords) (v80 : BitVec 32) (k1_hw1 : k1_chk1 i v80), ∀ (k1_h1 : k1_cond1 i = 1#1), ∀ a, (k1_off58 v80) a + S1x16.size a ≤ S256x384.size a := fun i v80 k1_hw1 k1_h1 => k1_hw1.2.2.2.2.2.1 k1_h1
theorem k1_off59_inb : ∀ (i : grid1.Coords) (v80 : BitVec 32) (k1_hw1 : k1_chk1 i v80), ∀ (k1_h1 : k1_cond1 i = 1#1), ∀ a, (k1_off59 v80) a + S1x16.size a ≤ S256x384.size a := fun i v80 k1_hw1 k1_h1 => k1_hw1.2.2.2.2.2.2.1 k1_h1
theorem k1_off60_inb : ∀ (i : grid1.Coords) (v80 : BitVec 32) (k1_hw1 : k1_chk1 i v80), ∀ (k1_h1 : k1_cond1 i = 1#1), ∀ a, (k1_off60 v80) a + S1x16.size a ≤ S256x384.size a := fun i v80 k1_hw1 k1_h1 => k1_hw1.2.2.2.2.2.2.2.1 k1_h1
theorem k1_off61_inb : ∀ (i : grid1.Coords) (v80 : BitVec 32) (k1_hw1 : k1_chk1 i v80), ∀ (k1_h1 : k1_cond1 i = 1#1), ∀ a, (k1_off61 v80) a + S1x16.size a ≤ S256x384.size a := fun i v80 k1_hw1 k1_h1 => k1_hw1.2.2.2.2.2.2.2.2.1 k1_h1
theorem k1_off62_inb : ∀ (i : grid1.Coords) (v80 : BitVec 32) (k1_hw1 : k1_chk1 i v80), ∀ (k1_h1 : k1_cond1 i = 1#1), ∀ a, (k1_off62 v80) a + S1x16.size a ≤ S256x384.size a := fun i v80 k1_hw1 k1_h1 => k1_hw1.2.2.2.2.2.2.2.2.2.1 k1_h1
theorem k1_off63_inb : ∀ (i : grid1.Coords) (v80 : BitVec 32) (k1_hw1 : k1_chk1 i v80), ∀ (k1_h1 : k1_cond1 i = 1#1), ∀ a, (k1_off63 v80) a + S1x16.size a ≤ S256x384.size a := fun i v80 k1_hw1 k1_h1 => k1_hw1.2.2.2.2.2.2.2.2.2.2.1 k1_h1
theorem k1_off64_inb : ∀ (i : grid1.Coords) (v80 : BitVec 32) (k1_hw1 : k1_chk1 i v80), ∀ (k1_h1 : k1_cond1 i = 1#1), ∀ a, (k1_off64 v80) a + S1x16.size a ≤ S256x384.size a := fun i v80 k1_hw1 k1_h1 => k1_hw1.2.2.2.2.2.2.2.2.2.2.2.1 k1_h1
theorem k1_off65_inb : ∀ (i : grid1.Coords) (v80 : BitVec 32) (k1_hw1 : k1_chk1 i v80), ∀ (k1_h1 : k1_cond1 i = 1#1), ∀ a, (k1_off65 v80) a + S1x16.size a ≤ S256x384.size a := fun i v80 k1_hw1 k1_h1 => k1_hw1.2.2.2.2.2.2.2.2.2.2.2.2.1 k1_h1
theorem k1_off66_inb : ∀ (i : grid1.Coords) (v80 : BitVec 32) (k1_hw1 : k1_chk1 i v80), ∀ (k1_h1 : k1_cond1 i = 1#1), ∀ a, (k1_off66 v80) a + S1x16.size a ≤ S256x384.size a := fun i v80 k1_hw1 k1_h1 => k1_hw1.2.2.2.2.2.2.2.2.2.2.2.2.2.1 k1_h1
theorem k1_off67_inb : ∀ (i : grid1.Coords) (v80 : BitVec 32) (k1_hw1 : k1_chk1 i v80), ∀ (k1_h1 : k1_cond1 i = 1#1), ∀ a, (k1_off67 v80) a + S1x16.size a ≤ S256x384.size a := fun i v80 k1_hw1 k1_h1 => k1_hw1.2.2.2.2.2.2.2.2.2.2.2.2.2.2.1 k1_h1
theorem k1_off68_inb : ∀ (i : grid1.Coords) (v80 : BitVec 32) (k1_hw1 : k1_chk1 i v80), ∀ (k1_h1 : k1_cond1 i = 1#1), ∀ a, (k1_off68 v80) a + S1x16.size a ≤ S256x384.size a := fun i v80 k1_hw1 k1_h1 => k1_hw1.2.2.2.2.2.2.2.2.2.2.2.2.2.2.2.1 k1_h1
theorem k1_off69_inb : ∀ (i : grid1.Coords) (v80 : BitVec 32) (k1_hw1 : k1_chk1 i v80), ∀ (k1_h1 : k1_cond1 i = 1#1), ∀ a, (k1_off69 v80) a + S1x16.size a ≤ S256x384.size a := fun i v80 k1_hw1 k1_h1 => k1_hw1.2.2.2.2.2.2.2.2.2.2.2.2.2.2.2.2.1 k1_h1
theorem k1_off70_inb : ∀ (i : grid1.Coords) (v80 : BitVec 32) (k1_hw1 : k1_chk1 i v80), ∀ (k1_h1 : k1_cond1 i = 1#1), ∀ a, (k1_off70 v80) a + S1x16.size a ≤ S256x384.size a := fun i v80 k1_hw1 k1_h1 => k1_hw1.2.2.2.2.2.2.2.2.2.2.2.2.2.2.2.2.2.1 k1_h1
theorem k1_off71_inb : ∀ (i : grid1.Coords) (v80 : BitVec 32) (k1_hw1 : k1_chk1 i v80), ∀ (k1_h1 : k1_cond1 i = 1#1), ∀ a, (k1_off71 v80) a + S1x16.size a ≤ S256x384.size a := fun i v80 k1_hw1 k1_h1 => k1_hw1.2.2.2.2.2.2.2.2.2.2.2.2.2.2.2.2.2.2.1 k1_h1
theorem k1_off72_inb : ∀ (i : grid1.Coords) (v80 : BitVec 32) (k1_hw1 : k1_chk1 i v80), ∀ (k1_h1 : k1_cond1 i = 1#1), ∀ a, (k1_off72 v80) a + S1x16.size a ≤ S256x384.size a := fun i v80 k1_hw1 k1_h1 => k1_hw1.2.2.2.2.2.2.2.2.2.2.2.2.2.2.2.2.2.2.2.1 k1_h1
theorem k1_off73_inb : ∀ (i : grid1.Coords) (v80 : BitVec 32) (k1_hw1 : k1_chk1 i v80), ∀ (k1_h1 : k1_cond1 i = 1#1), ∀ a, (k1_off73 v80) a + S1x16.size a ≤ S256x384.size a := fun i v80 k1_hw1 k1_h1 => k1_hw1.2.2.2.2.2.2.2.2.2.2.2.2.2.2.2.2.2.2.2.2.1 k1_h1
theorem k1_off74_inb : ∀ (i : grid1.Coords) (v80 : BitVec 32) (k1_hw1 : k1_chk1 i v80), ∀ (k1_h1 : k1_cond1 i = 1#1), ∀ a, (k1_off74 v80) a + S1x16.size a ≤ S256x384.size a := fun i v80 k1_hw1 k1_h1 => k1_hw1.2.2.2.2.2.2.2.2.2.2.2.2.2.2.2.2.2.2.2.2.2.1 k1_h1
theorem k1_off75_inb : ∀ (i : grid1.Coords) (v80 : BitVec 32) (k1_hw1 : k1_chk1 i v80), ∀ (k1_h1 : k1_cond1 i = 1#1), ∀ a, (k1_off75 v80) a + S1x16.size a ≤ S256x384.size a := fun i v80 k1_hw1 k1_h1 => k1_hw1.2.2.2.2.2.2.2.2.2.2.2.2.2.2.2.2.2.2.2.2.2.2.1 k1_h1
theorem k1_off76_inb : ∀ (i : grid1.Coords) (v80 : BitVec 32) (k1_hw1 : k1_chk1 i v80), ∀ (k1_h1 : k1_cond1 i = 1#1), ∀ a, (k1_off76 v80) a + S1x16.size a ≤ S256x384.size a := fun i v80 k1_hw1 k1_h1 => k1_hw1.2.2.2.2.2.2.2.2.2.2.2.2.2.2.2.2.2.2.2.2.2.2.2 k1_h1

def k1_off77 (k1_t3 : Fin k1_t3_loop.trips) : Fin 2 → Nat :=
  let c0_i32_32 : BitVec 32 := 0#32
  let c1_i32_34 : BitVec 32 := 1#32
  let arg37 : BitVec 32 := Scf.iv c0_i32_32 c1_i32_34 k1_t3
  let c16_i32_103 : BitVec 32 := 16#32
  let v374 : BitVec 32 := Scalar.muli arg37 c16_i32_103
  let c1_i32_104 : BitVec 32 := 1#32
  let v375 : BitVec 32 := Scalar.addi v374 c1_i32_104
  let v377 : Index := Scalar.indexCast v375
  let c0_105 : Index := 0#32
  ![v377.toNat, 0]
def k1_off78 (k1_t3 : Fin k1_t3_loop.trips) : Fin 2 → Nat :=
  let c0_i32_32 : BitVec 32 := 0#32
  let c1_i32_34 : BitVec 32 := 1#32
  let arg37 : BitVec 32 := Scf.iv c0_i32_32 c1_i32_34 k1_t3
  let c16_i32_103 : BitVec 32 := 16#32
  let v374 : BitVec 32 := Scalar.muli arg37 c16_i32_103
  let c1_i32_104 : BitVec 32 := 1#32
  let v375 : BitVec 32 := Scalar.addi v374 c1_i32_104
  let v385 : Index := Scalar.indexCast v375
  let c16_107 : Index := 16#32
  ![v385.toNat, 16]
def k1_off79 (k1_t3 : Fin k1_t3_loop.trips) : Fin 2 → Nat :=
  let c0_i32_32 : BitVec 32 := 0#32
  let c1_i32_34 : BitVec 32 := 1#32
  let arg37 : BitVec 32 := Scf.iv c0_i32_32 c1_i32_34 k1_t3
  let c16_i32_103 : BitVec 32 := 16#32
  let v374 : BitVec 32 := Scalar.muli arg37 c16_i32_103
  let c1_i32_104 : BitVec 32 := 1#32
  let v375 : BitVec 32 := Scalar.addi v374 c1_i32_104
  let v393 : Index := Scalar.indexCast v375
  let c32_109 : Index := 32#32
  ![v393.toNat, 32]
def k1_off80 (k1_t3 : Fin k1_t3_loop.trips) : Fin 2 → Nat :=
  let c0_i32_32 : BitVec 32 := 0#32
  let c1_i32_34 : BitVec 32 := 1#32
  let arg37 : BitVec 32 := Scf.iv c0_i32_32 c1_i32_34 k1_t3
  let c16_i32_103 : BitVec 32 := 16#32
  let v374 : BitVec 32 := Scalar.muli arg37 c16_i32_103
  let c1_i32_104 : BitVec 32 := 1#32
  let v375 : BitVec 32 := Scalar.addi v374 c1_i32_104
  let v401 : Index := Scalar.indexCast v375
  let c48_111 : Index := 48#32
  ![v401.toNat, 48]
def k1_off81 (k1_t3 : Fin k1_t3_loop.trips) : Fin 2 → Nat :=
  let c0_i32_32 : BitVec 32 := 0#32
  let c1_i32_34 : BitVec 32 := 1#32
  let arg37 : BitVec 32 := Scf.iv c0_i32_32 c1_i32_34 k1_t3
  let c16_i32_103 : BitVec 32 := 16#32
  let v374 : BitVec 32 := Scalar.muli arg37 c16_i32_103
  let c1_i32_104 : BitVec 32 := 1#32
  let v375 : BitVec 32 := Scalar.addi v374 c1_i32_104
  let v409 : Index := Scalar.indexCast v375
  let c64_113 : Index := 64#32
  ![v409.toNat, 64]
def k1_off82 (k1_t3 : Fin k1_t3_loop.trips) : Fin 2 → Nat :=
  let c0_i32_32 : BitVec 32 := 0#32
  let c1_i32_34 : BitVec 32 := 1#32
  let arg37 : BitVec 32 := Scf.iv c0_i32_32 c1_i32_34 k1_t3
  let c16_i32_103 : BitVec 32 := 16#32
  let v374 : BitVec 32 := Scalar.muli arg37 c16_i32_103
  let c1_i32_104 : BitVec 32 := 1#32
  let v375 : BitVec 32 := Scalar.addi v374 c1_i32_104
  let v417 : Index := Scalar.indexCast v375
  let c80_115 : Index := 80#32
  ![v417.toNat, 80]
def k1_off83 (k1_t3 : Fin k1_t3_loop.trips) : Fin 2 → Nat :=
  let c0_i32_32 : BitVec 32 := 0#32
  let c1_i32_34 : BitVec 32 := 1#32
  let arg37 : BitVec 32 := Scf.iv c0_i32_32 c1_i32_34 k1_t3
  let c16_i32_103 : BitVec 32 := 16#32
  let v374 : BitVec 32 := Scalar.muli arg37 c16_i32_103
  let c1_i32_104 : BitVec 32 := 1#32
  let v375 : BitVec 32 := Scalar.addi v374 c1_i32_104
  let v425 : Index := Scalar.indexCast v375
  let c96_117 : Index := 96#32
  ![v425.toNat, 96]
def k1_off84 (k1_t3 : Fin k1_t3_loop.trips) : Fin 2 → Nat :=
  let c0_i32_32 : BitVec 32 := 0#32
  let c1_i32_34 : BitVec 32 := 1#32
  let arg37 : BitVec 32 := Scf.iv c0_i32_32 c1_i32_34 k1_t3
  let c16_i32_103 : BitVec 32 := 16#32
  let v374 : BitVec 32 := Scalar.muli arg37 c16_i32_103
  let c1_i32_104 : BitVec 32 := 1#32
  let v375 : BitVec 32 := Scalar.addi v374 c1_i32_104
  let v433 : Index := Scalar.indexCast v375
  let c112_119 : Index := 112#32
  ![v433.toNat, 112]
def k1_off85 (k1_t3 : Fin k1_t3_loop.trips) : Fin 2 → Nat :=
  let c0_i32_32 : BitVec 32 := 0#32
  let c1_i32_34 : BitVec 32 := 1#32
  let arg37 : BitVec 32 := Scf.iv c0_i32_32 c1_i32_34 k1_t3
  let c16_i32_103 : BitVec 32 := 16#32
  let v374 : BitVec 32 := Scalar.muli arg37 c16_i32_103
  let c1_i32_104 : BitVec 32 := 1#32
  let v375 : BitVec 32 := Scalar.addi v374 c1_i32_104
  let v441 : Index := Scalar.indexCast v375
  let c128_121 : Index := 128#32
  ![v441.toNat, 128]
def k1_off86 (k1_t3 : Fin k1_t3_loop.trips) : Fin 2 → Nat :=
  let c0_i32_32 : BitVec 32 := 0#32
  let c1_i32_34 : BitVec 32 := 1#32
  let arg37 : BitVec 32 := Scf.iv c0_i32_32 c1_i32_34 k1_t3
  let c16_i32_103 : BitVec 32 := 16#32
  let v374 : BitVec 32 := Scalar.muli arg37 c16_i32_103
  let c1_i32_104 : BitVec 32 := 1#32
  let v375 : BitVec 32 := Scalar.addi v374 c1_i32_104
  let v449 : Index := Scalar.indexCast v375
  let c144_123 : Index := 144#32
  ![v449.toNat, 144]
def k1_off87 (k1_t3 : Fin k1_t3_loop.trips) : Fin 2 → Nat :=
  let c0_i32_32 : BitVec 32 := 0#32
  let c1_i32_34 : BitVec 32 := 1#32
  let arg37 : BitVec 32 := Scf.iv c0_i32_32 c1_i32_34 k1_t3
  let c16_i32_103 : BitVec 32 := 16#32
  let v374 : BitVec 32 := Scalar.muli arg37 c16_i32_103
  let c1_i32_104 : BitVec 32 := 1#32
  let v375 : BitVec 32 := Scalar.addi v374 c1_i32_104
  let v457 : Index := Scalar.indexCast v375
  let c160_125 : Index := 160#32
  ![v457.toNat, 160]
def k1_off88 (k1_t3 : Fin k1_t3_loop.trips) : Fin 2 → Nat :=
  let c0_i32_32 : BitVec 32 := 0#32
  let c1_i32_34 : BitVec 32 := 1#32
  let arg37 : BitVec 32 := Scf.iv c0_i32_32 c1_i32_34 k1_t3
  let c16_i32_103 : BitVec 32 := 16#32
  let v374 : BitVec 32 := Scalar.muli arg37 c16_i32_103
  let c1_i32_104 : BitVec 32 := 1#32
  let v375 : BitVec 32 := Scalar.addi v374 c1_i32_104
  let v465 : Index := Scalar.indexCast v375
  let c176_127 : Index := 176#32
  ![v465.toNat, 176]
def k1_off89 (k1_t3 : Fin k1_t3_loop.trips) : Fin 2 → Nat :=
  let c0_i32_32 : BitVec 32 := 0#32
  let c1_i32_34 : BitVec 32 := 1#32
  let arg37 : BitVec 32 := Scf.iv c0_i32_32 c1_i32_34 k1_t3
  let c16_i32_103 : BitVec 32 := 16#32
  let v374 : BitVec 32 := Scalar.muli arg37 c16_i32_103
  let c1_i32_104 : BitVec 32 := 1#32
  let v375 : BitVec 32 := Scalar.addi v374 c1_i32_104
  let v473 : Index := Scalar.indexCast v375
  let c192_129 : Index := 192#32
  ![v473.toNat, 192]
def k1_off90 (k1_t3 : Fin k1_t3_loop.trips) : Fin 2 → Nat :=
  let c0_i32_32 : BitVec 32 := 0#32
  let c1_i32_34 : BitVec 32 := 1#32
  let arg37 : BitVec 32 := Scf.iv c0_i32_32 c1_i32_34 k1_t3
  let c16_i32_103 : BitVec 32 := 16#32
  let v374 : BitVec 32 := Scalar.muli arg37 c16_i32_103
  let c1_i32_104 : BitVec 32 := 1#32
  let v375 : BitVec 32 := Scalar.addi v374 c1_i32_104
  let v481 : Index := Scalar.indexCast v375
  let c208_131 : Index := 208#32
  ![v481.toNat, 208]
def k1_off91 (k1_t3 : Fin k1_t3_loop.trips) : Fin 2 → Nat :=
  let c0_i32_32 : BitVec 32 := 0#32
  let c1_i32_34 : BitVec 32 := 1#32
  let arg37 : BitVec 32 := Scf.iv c0_i32_32 c1_i32_34 k1_t3
  let c16_i32_103 : BitVec 32 := 16#32
  let v374 : BitVec 32 := Scalar.muli arg37 c16_i32_103
  let c1_i32_104 : BitVec 32 := 1#32
  let v375 : BitVec 32 := Scalar.addi v374 c1_i32_104
  let v489 : Index := Scalar.indexCast v375
  let c224_133 : Index := 224#32
  ![v489.toNat, 224]
def k1_off92 (k1_t3 : Fin k1_t3_loop.trips) : Fin 2 → Nat :=
  let c0_i32_32 : BitVec 32 := 0#32
  let c1_i32_34 : BitVec 32 := 1#32
  let arg37 : BitVec 32 := Scf.iv c0_i32_32 c1_i32_34 k1_t3
  let c16_i32_103 : BitVec 32 := 16#32
  let v374 : BitVec 32 := Scalar.muli arg37 c16_i32_103
  let c1_i32_104 : BitVec 32 := 1#32
  let v375 : BitVec 32 := Scalar.addi v374 c1_i32_104
  let v497 : Index := Scalar.indexCast v375
  let c240_135 : Index := 240#32
  ![v497.toNat, 240]
def k1_off93 (k1_t3 : Fin k1_t3_loop.trips) : Fin 2 → Nat :=
  let c0_i32_32 : BitVec 32 := 0#32
  let c1_i32_34 : BitVec 32 := 1#32
  let arg37 : BitVec 32 := Scf.iv c0_i32_32 c1_i32_34 k1_t3
  let c16_i32_103 : BitVec 32 := 16#32
  let v374 : BitVec 32 := Scalar.muli arg37 c16_i32_103
  let c1_i32_104 : BitVec 32 := 1#32
  let v375 : BitVec 32 := Scalar.addi v374 c1_i32_104
  let v505 : Index := Scalar.indexCast v375
  let c256_137 : Index := 256#32
  ![v505.toNat, 256]
def k1_off94 (k1_t3 : Fin k1_t3_loop.trips) : Fin 2 → Nat :=
  let c0_i32_32 : BitVec 32 := 0#32
  let c1_i32_34 : BitVec 32 := 1#32
  let arg37 : BitVec 32 := Scf.iv c0_i32_32 c1_i32_34 k1_t3
  let c16_i32_103 : BitVec 32 := 16#32
  let v374 : BitVec 32 := Scalar.muli arg37 c16_i32_103
  let c1_i32_104 : BitVec 32 := 1#32
  let v375 : BitVec 32 := Scalar.addi v374 c1_i32_104
  let v513 : Index := Scalar.indexCast v375
  let c272_139 : Index := 272#32
  ![v513.toNat, 272]
def k1_off95 (k1_t3 : Fin k1_t3_loop.trips) : Fin 2 → Nat :=
  let c0_i32_32 : BitVec 32 := 0#32
  let c1_i32_34 : BitVec 32 := 1#32
  let arg37 : BitVec 32 := Scf.iv c0_i32_32 c1_i32_34 k1_t3
  let c16_i32_103 : BitVec 32 := 16#32
  let v374 : BitVec 32 := Scalar.muli arg37 c16_i32_103
  let c1_i32_104 : BitVec 32 := 1#32
  let v375 : BitVec 32 := Scalar.addi v374 c1_i32_104
  let v521 : Index := Scalar.indexCast v375
  let c288_141 : Index := 288#32
  ![v521.toNat, 288]
def k1_off96 (k1_t3 : Fin k1_t3_loop.trips) : Fin 2 → Nat :=
  let c0_i32_32 : BitVec 32 := 0#32
  let c1_i32_34 : BitVec 32 := 1#32
  let arg37 : BitVec 32 := Scf.iv c0_i32_32 c1_i32_34 k1_t3
  let c16_i32_103 : BitVec 32 := 16#32
  let v374 : BitVec 32 := Scalar.muli arg37 c16_i32_103
  let c1_i32_104 : BitVec 32 := 1#32
  let v375 : BitVec 32 := Scalar.addi v374 c1_i32_104
  let v529 : Index := Scalar.indexCast v375
  let c304_143 : Index := 304#32
  ![v529.toNat, 304]
def k1_off97 (k1_t3 : Fin k1_t3_loop.trips) : Fin 2 → Nat :=
  let c0_i32_32 : BitVec 32 := 0#32
  let c1_i32_34 : BitVec 32 := 1#32
  let arg37 : BitVec 32 := Scf.iv c0_i32_32 c1_i32_34 k1_t3
  let c16_i32_103 : BitVec 32 := 16#32
  let v374 : BitVec 32 := Scalar.muli arg37 c16_i32_103
  let c1_i32_104 : BitVec 32 := 1#32
  let v375 : BitVec 32 := Scalar.addi v374 c1_i32_104
  let v537 : Index := Scalar.indexCast v375
  let c320_145 : Index := 320#32
  ![v537.toNat, 320]
def k1_off98 (k1_t3 : Fin k1_t3_loop.trips) : Fin 2 → Nat :=
  let c0_i32_32 : BitVec 32 := 0#32
  let c1_i32_34 : BitVec 32 := 1#32
  let arg37 : BitVec 32 := Scf.iv c0_i32_32 c1_i32_34 k1_t3
  let c16_i32_103 : BitVec 32 := 16#32
  let v374 : BitVec 32 := Scalar.muli arg37 c16_i32_103
  let c1_i32_104 : BitVec 32 := 1#32
  let v375 : BitVec 32 := Scalar.addi v374 c1_i32_104
  let v545 : Index := Scalar.indexCast v375
  let c336_147 : Index := 336#32
  ![v545.toNat, 336]
def k1_off99 (k1_t3 : Fin k1_t3_loop.trips) : Fin 2 → Nat :=
  let c0_i32_32 : BitVec 32 := 0#32
  let c1_i32_34 : BitVec 32 := 1#32
  let arg37 : BitVec 32 := Scf.iv c0_i32_32 c1_i32_34 k1_t3
  let c16_i32_103 : BitVec 32 := 16#32
  let v374 : BitVec 32 := Scalar.muli arg37 c16_i32_103
  let c1_i32_104 : BitVec 32 := 1#32
  let v375 : BitVec 32 := Scalar.addi v374 c1_i32_104
  let v553 : Index := Scalar.indexCast v375
  let c352_149 : Index := 352#32
  ![v553.toNat, 352]
def k1_off100 (k1_t3 : Fin k1_t3_loop.trips) : Fin 2 → Nat :=
  let c0_i32_32 : BitVec 32 := 0#32
  let c1_i32_34 : BitVec 32 := 1#32
  let arg37 : BitVec 32 := Scf.iv c0_i32_32 c1_i32_34 k1_t3
  let c16_i32_103 : BitVec 32 := 16#32
  let v374 : BitVec 32 := Scalar.muli arg37 c16_i32_103
  let c1_i32_104 : BitVec 32 := 1#32
  let v375 : BitVec 32 := Scalar.addi v374 c1_i32_104
  let v561 : Index := Scalar.indexCast v375
  let c368_151 : Index := 368#32
  ![v561.toNat, 368]
def k1_off101 (v373 : BitVec 32) : Fin 2 → Nat :=
  let v569 : Index := Scalar.indexCast v373
  let c0_153 : Index := 0#32
  ![v569.toNat, 0]

def k1_off102 (v373 : BitVec 32) : Fin 2 → Nat :=
  let v573 : Index := Scalar.indexCast v373
  let c16_154 : Index := 16#32
  ![v573.toNat, 16]
def k1_off103 (v373 : BitVec 32) : Fin 2 → Nat :=
  let v577 : Index := Scalar.indexCast v373
  let c32_155 : Index := 32#32
  ![v577.toNat, 32]
def k1_off104 (v373 : BitVec 32) : Fin 2 → Nat :=
  let v581 : Index := Scalar.indexCast v373
  let c48_156 : Index := 48#32
  ![v581.toNat, 48]
def k1_off105 (v373 : BitVec 32) : Fin 2 → Nat :=
  let v585 : Index := Scalar.indexCast v373
  let c64_157 : Index := 64#32
  ![v585.toNat, 64]
def k1_off106 (v373 : BitVec 32) : Fin 2 → Nat :=
  let v589 : Index := Scalar.indexCast v373
  let c80_158 : Index := 80#32
  ![v589.toNat, 80]
def k1_off107 (v373 : BitVec 32) : Fin 2 → Nat :=
  let v593 : Index := Scalar.indexCast v373
  let c96_159 : Index := 96#32
  ![v593.toNat, 96]
def k1_off108 (v373 : BitVec 32) : Fin 2 → Nat :=
  let v597 : Index := Scalar.indexCast v373
  let c112_160 : Index := 112#32
  ![v597.toNat, 112]
def k1_off109 (v373 : BitVec 32) : Fin 2 → Nat :=
  let v601 : Index := Scalar.indexCast v373
  let c128_161 : Index := 128#32
  ![v601.toNat, 128]
def k1_off110 (v373 : BitVec 32) : Fin 2 → Nat :=
  let v605 : Index := Scalar.indexCast v373
  let c144_162 : Index := 144#32
  ![v605.toNat, 144]
def k1_off111 (v373 : BitVec 32) : Fin 2 → Nat :=
  let v609 : Index := Scalar.indexCast v373
  let c160_163 : Index := 160#32
  ![v609.toNat, 160]
def k1_off112 (v373 : BitVec 32) : Fin 2 → Nat :=
  let v613 : Index := Scalar.indexCast v373
  let c176_164 : Index := 176#32
  ![v613.toNat, 176]
def k1_off113 (v373 : BitVec 32) : Fin 2 → Nat :=
  let v617 : Index := Scalar.indexCast v373
  let c192_165 : Index := 192#32
  ![v617.toNat, 192]
def k1_off114 (v373 : BitVec 32) : Fin 2 → Nat :=
  let v621 : Index := Scalar.indexCast v373
  let c208_166 : Index := 208#32
  ![v621.toNat, 208]
def k1_off115 (v373 : BitVec 32) : Fin 2 → Nat :=
  let v625 : Index := Scalar.indexCast v373
  let c224_167 : Index := 224#32
  ![v625.toNat, 224]
def k1_off116 (v373 : BitVec 32) : Fin 2 → Nat :=
  let v629 : Index := Scalar.indexCast v373
  let c240_168 : Index := 240#32
  ![v629.toNat, 240]
def k1_off117 (v373 : BitVec 32) : Fin 2 → Nat :=
  let v633 : Index := Scalar.indexCast v373
  let c256_169 : Index := 256#32
  ![v633.toNat, 256]
def k1_off118 (v373 : BitVec 32) : Fin 2 → Nat :=
  let v637 : Index := Scalar.indexCast v373
  let c272_170 : Index := 272#32
  ![v637.toNat, 272]
def k1_off119 (v373 : BitVec 32) : Fin 2 → Nat :=
  let v641 : Index := Scalar.indexCast v373
  let c288_171 : Index := 288#32
  ![v641.toNat, 288]
def k1_off120 (v373 : BitVec 32) : Fin 2 → Nat :=
  let v645 : Index := Scalar.indexCast v373
  let c304_172 : Index := 304#32
  ![v645.toNat, 304]
def k1_off121 (v373 : BitVec 32) : Fin 2 → Nat :=
  let v649 : Index := Scalar.indexCast v373
  let c320_173 : Index := 320#32
  ![v649.toNat, 320]
def k1_off122 (v373 : BitVec 32) : Fin 2 → Nat :=
  let v653 : Index := Scalar.indexCast v373
  let c336_174 : Index := 336#32
  ![v653.toNat, 336]
def k1_off123 (v373 : BitVec 32) : Fin 2 → Nat :=
  let v657 : Index := Scalar.indexCast v373
  let c352_175 : Index := 352#32
  ![v657.toNat, 352]
def k1_off124 (v373 : BitVec 32) : Fin 2 → Nat :=
  let v661 : Index := Scalar.indexCast v373
  let c368_176 : Index := 368#32
  ![v661.toNat, 368]

def k1_chk2 (i : grid1.Coords) (v373 : BitVec 32) : Prop :=
  (∀ (k1_h1 : k1_cond1 i = 1#1), ∀ a, (k1_off101 v373) a + S1x16.size a ≤ S256x384.size a) ∧
  (∀ (k1_h1 : k1_cond1 i = 1#1), ∀ a, (k1_off102 v373) a + S1x16.size a ≤ S256x384.size a) ∧
  (∀ (k1_h1 : k1_cond1 i = 1#1), ∀ a, (k1_off103 v373) a + S1x16.size a ≤ S256x384.size a) ∧
  (∀ (k1_h1 : k1_cond1 i = 1#1), ∀ a, (k1_off104 v373) a + S1x16.size a ≤ S256x384.size a) ∧
  (∀ (k1_h1 : k1_cond1 i = 1#1), ∀ a, (k1_off105 v373) a + S1x16.size a ≤ S256x384.size a) ∧
  (∀ (k1_h1 : k1_cond1 i = 1#1), ∀ a, (k1_off106 v373) a + S1x16.size a ≤ S256x384.size a) ∧
  (∀ (k1_h1 : k1_cond1 i = 1#1), ∀ a, (k1_off107 v373) a + S1x16.size a ≤ S256x384.size a) ∧
  (∀ (k1_h1 : k1_cond1 i = 1#1), ∀ a, (k1_off108 v373) a + S1x16.size a ≤ S256x384.size a) ∧
  (∀ (k1_h1 : k1_cond1 i = 1#1), ∀ a, (k1_off109 v373) a + S1x16.size a ≤ S256x384.size a) ∧
  (∀ (k1_h1 : k1_cond1 i = 1#1), ∀ a, (k1_off110 v373) a + S1x16.size a ≤ S256x384.size a) ∧
  (∀ (k1_h1 : k1_cond1 i = 1#1), ∀ a, (k1_off111 v373) a + S1x16.size a ≤ S256x384.size a) ∧
  (∀ (k1_h1 : k1_cond1 i = 1#1), ∀ a, (k1_off112 v373) a + S1x16.size a ≤ S256x384.size a) ∧
  (∀ (k1_h1 : k1_cond1 i = 1#1), ∀ a, (k1_off113 v373) a + S1x16.size a ≤ S256x384.size a) ∧
  (∀ (k1_h1 : k1_cond1 i = 1#1), ∀ a, (k1_off114 v373) a + S1x16.size a ≤ S256x384.size a) ∧
  (∀ (k1_h1 : k1_cond1 i = 1#1), ∀ a, (k1_off115 v373) a + S1x16.size a ≤ S256x384.size a) ∧
  (∀ (k1_h1 : k1_cond1 i = 1#1), ∀ a, (k1_off116 v373) a + S1x16.size a ≤ S256x384.size a) ∧
  (∀ (k1_h1 : k1_cond1 i = 1#1), ∀ a, (k1_off117 v373) a + S1x16.size a ≤ S256x384.size a) ∧
  (∀ (k1_h1 : k1_cond1 i = 1#1), ∀ a, (k1_off118 v373) a + S1x16.size a ≤ S256x384.size a) ∧
  (∀ (k1_h1 : k1_cond1 i = 1#1), ∀ a, (k1_off119 v373) a + S1x16.size a ≤ S256x384.size a) ∧
  (∀ (k1_h1 : k1_cond1 i = 1#1), ∀ a, (k1_off120 v373) a + S1x16.size a ≤ S256x384.size a) ∧
  (∀ (k1_h1 : k1_cond1 i = 1#1), ∀ a, (k1_off121 v373) a + S1x16.size a ≤ S256x384.size a) ∧
  (∀ (k1_h1 : k1_cond1 i = 1#1), ∀ a, (k1_off122 v373) a + S1x16.size a ≤ S256x384.size a) ∧
  (∀ (k1_h1 : k1_cond1 i = 1#1), ∀ a, (k1_off123 v373) a + S1x16.size a ≤ S256x384.size a) ∧
  (∀ (k1_h1 : k1_cond1 i = 1#1), ∀ a, (k1_off124 v373) a + S1x16.size a ≤ S256x384.size a)
theorem k1_off101_inb : ∀ (i : grid1.Coords) (v373 : BitVec 32) (k1_hw2 : k1_chk2 i v373), ∀ (k1_h1 : k1_cond1 i = 1#1), ∀ a, (k1_off101 v373) a + S1x16.size a ≤ S256x384.size a := fun i v373 k1_hw2 k1_h1 => k1_hw2.1 k1_h1
theorem k1_off102_inb : ∀ (i : grid1.Coords) (v373 : BitVec 32) (k1_hw2 : k1_chk2 i v373), ∀ (k1_h1 : k1_cond1 i = 1#1), ∀ a, (k1_off102 v373) a + S1x16.size a ≤ S256x384.size a := fun i v373 k1_hw2 k1_h1 => k1_hw2.2.1 k1_h1
theorem k1_off103_inb : ∀ (i : grid1.Coords) (v373 : BitVec 32) (k1_hw2 : k1_chk2 i v373), ∀ (k1_h1 : k1_cond1 i = 1#1), ∀ a, (k1_off103 v373) a + S1x16.size a ≤ S256x384.size a := fun i v373 k1_hw2 k1_h1 => k1_hw2.2.2.1 k1_h1
theorem k1_off104_inb : ∀ (i : grid1.Coords) (v373 : BitVec 32) (k1_hw2 : k1_chk2 i v373), ∀ (k1_h1 : k1_cond1 i = 1#1), ∀ a, (k1_off104 v373) a + S1x16.size a ≤ S256x384.size a := fun i v373 k1_hw2 k1_h1 => k1_hw2.2.2.2.1 k1_h1
theorem k1_off105_inb : ∀ (i : grid1.Coords) (v373 : BitVec 32) (k1_hw2 : k1_chk2 i v373), ∀ (k1_h1 : k1_cond1 i = 1#1), ∀ a, (k1_off105 v373) a + S1x16.size a ≤ S256x384.size a := fun i v373 k1_hw2 k1_h1 => k1_hw2.2.2.2.2.1 k1_h1
theorem k1_off106_inb : ∀ (i : grid1.Coords) (v373 : BitVec 32) (k1_hw2 : k1_chk2 i v373), ∀ (k1_h1 : k1_cond1 i = 1#1), ∀ a, (k1_off106 v373) a + S1x16.size a ≤ S256x384.size a := fun i v373 k1_hw2 k1_h1 => k1_hw2.2.2.2.2.2.1 k1_h1
theorem k1_off107_inb : ∀ (i : grid1.Coords) (v373 : BitVec 32) (k1_hw2 : k1_chk2 i v373), ∀ (k1_h1 : k1_cond1 i = 1#1), ∀ a, (k1_off107 v373) a + S1x16.size a ≤ S256x384.size a := fun i v373 k1_hw2 k1_h1 => k1_hw2.2.2.2.2.2.2.1 k1_h1
theorem k1_off108_inb : ∀ (i : grid1.Coords) (v373 : BitVec 32) (k1_hw2 : k1_chk2 i v373), ∀ (k1_h1 : k1_cond1 i = 1#1), ∀ a, (k1_off108 v373) a + S1x16.size a ≤ S256x384.size a := fun i v373 k1_hw2 k1_h1 => k1_hw2.2.2.2.2.2.2.2.1 k1_h1
theorem k1_off109_inb : ∀ (i : grid1.Coords) (v373 : BitVec 32) (k1_hw2 : k1_chk2 i v373), ∀ (k1_h1 : k1_cond1 i = 1#1), ∀ a, (k1_off109 v373) a + S1x16.size a ≤ S256x384.size a := fun i v373 k1_hw2 k1_h1 => k1_hw2.2.2.2.2.2.2.2.2.1 k1_h1
theorem k1_off110_inb : ∀ (i : grid1.Coords) (v373 : BitVec 32) (k1_hw2 : k1_chk2 i v373), ∀ (k1_h1 : k1_cond1 i = 1#1), ∀ a, (k1_off110 v373) a + S1x16.size a ≤ S256x384.size a := fun i v373 k1_hw2 k1_h1 => k1_hw2.2.2.2.2.2.2.2.2.2.1 k1_h1
theorem k1_off111_inb : ∀ (i : grid1.Coords) (v373 : BitVec 32) (k1_hw2 : k1_chk2 i v373), ∀ (k1_h1 : k1_cond1 i = 1#1), ∀ a, (k1_off111 v373) a + S1x16.size a ≤ S256x384.size a := fun i v373 k1_hw2 k1_h1 => k1_hw2.2.2.2.2.2.2.2.2.2.2.1 k1_h1
theorem k1_off112_inb : ∀ (i : grid1.Coords) (v373 : BitVec 32) (k1_hw2 : k1_chk2 i v373), ∀ (k1_h1 : k1_cond1 i = 1#1), ∀ a, (k1_off112 v373) a + S1x16.size a ≤ S256x384.size a := fun i v373 k1_hw2 k1_h1 => k1_hw2.2.2.2.2.2.2.2.2.2.2.2.1 k1_h1
theorem k1_off113_inb : ∀ (i : grid1.Coords) (v373 : BitVec 32) (k1_hw2 : k1_chk2 i v373), ∀ (k1_h1 : k1_cond1 i = 1#1), ∀ a, (k1_off113 v373) a + S1x16.size a ≤ S256x384.size a := fun i v373 k1_hw2 k1_h1 => k1_hw2.2.2.2.2.2.2.2.2.2.2.2.2.1 k1_h1
theorem k1_off114_inb : ∀ (i : grid1.Coords) (v373 : BitVec 32) (k1_hw2 : k1_chk2 i v373), ∀ (k1_h1 : k1_cond1 i = 1#1), ∀ a, (k1_off114 v373) a + S1x16.size a ≤ S256x384.size a := fun i v373 k1_hw2 k1_h1 => k1_hw2.2.2.2.2.2.2.2.2.2.2.2.2.2.1 k1_h1
theorem k1_off115_inb : ∀ (i : grid1.Coords) (v373 : BitVec 32) (k1_hw2 : k1_chk2 i v373), ∀ (k1_h1 : k1_cond1 i = 1#1), ∀ a, (k1_off115 v373) a + S1x16.size a ≤ S256x384.size a := fun i v373 k1_hw2 k1_h1 => k1_hw2.2.2.2.2.2.2.2.2.2.2.2.2.2.2.1 k1_h1
theorem k1_off116_inb : ∀ (i : grid1.Coords) (v373 : BitVec 32) (k1_hw2 : k1_chk2 i v373), ∀ (k1_h1 : k1_cond1 i = 1#1), ∀ a, (k1_off116 v373) a + S1x16.size a ≤ S256x384.size a := fun i v373 k1_hw2 k1_h1 => k1_hw2.2.2.2.2.2.2.2.2.2.2.2.2.2.2.2.1 k1_h1
theorem k1_off117_inb : ∀ (i : grid1.Coords) (v373 : BitVec 32) (k1_hw2 : k1_chk2 i v373), ∀ (k1_h1 : k1_cond1 i = 1#1), ∀ a, (k1_off117 v373) a + S1x16.size a ≤ S256x384.size a := fun i v373 k1_hw2 k1_h1 => k1_hw2.2.2.2.2.2.2.2.2.2.2.2.2.2.2.2.2.1 k1_h1
theorem k1_off118_inb : ∀ (i : grid1.Coords) (v373 : BitVec 32) (k1_hw2 : k1_chk2 i v373), ∀ (k1_h1 : k1_cond1 i = 1#1), ∀ a, (k1_off118 v373) a + S1x16.size a ≤ S256x384.size a := fun i v373 k1_hw2 k1_h1 => k1_hw2.2.2.2.2.2.2.2.2.2.2.2.2.2.2.2.2.2.1 k1_h1
theorem k1_off119_inb : ∀ (i : grid1.Coords) (v373 : BitVec 32) (k1_hw2 : k1_chk2 i v373), ∀ (k1_h1 : k1_cond1 i = 1#1), ∀ a, (k1_off119 v373) a + S1x16.size a ≤ S256x384.size a := fun i v373 k1_hw2 k1_h1 => k1_hw2.2.2.2.2.2.2.2.2.2.2.2.2.2.2.2.2.2.2.1 k1_h1
theorem k1_off120_inb : ∀ (i : grid1.Coords) (v373 : BitVec 32) (k1_hw2 : k1_chk2 i v373), ∀ (k1_h1 : k1_cond1 i = 1#1), ∀ a, (k1_off120 v373) a + S1x16.size a ≤ S256x384.size a := fun i v373 k1_hw2 k1_h1 => k1_hw2.2.2.2.2.2.2.2.2.2.2.2.2.2.2.2.2.2.2.2.1 k1_h1
theorem k1_off121_inb : ∀ (i : grid1.Coords) (v373 : BitVec 32) (k1_hw2 : k1_chk2 i v373), ∀ (k1_h1 : k1_cond1 i = 1#1), ∀ a, (k1_off121 v373) a + S1x16.size a ≤ S256x384.size a := fun i v373 k1_hw2 k1_h1 => k1_hw2.2.2.2.2.2.2.2.2.2.2.2.2.2.2.2.2.2.2.2.2.1 k1_h1
theorem k1_off122_inb : ∀ (i : grid1.Coords) (v373 : BitVec 32) (k1_hw2 : k1_chk2 i v373), ∀ (k1_h1 : k1_cond1 i = 1#1), ∀ a, (k1_off122 v373) a + S1x16.size a ≤ S256x384.size a := fun i v373 k1_hw2 k1_h1 => k1_hw2.2.2.2.2.2.2.2.2.2.2.2.2.2.2.2.2.2.2.2.2.2.1 k1_h1
theorem k1_off123_inb : ∀ (i : grid1.Coords) (v373 : BitVec 32) (k1_hw2 : k1_chk2 i v373), ∀ (k1_h1 : k1_cond1 i = 1#1), ∀ a, (k1_off123 v373) a + S1x16.size a ≤ S256x384.size a := fun i v373 k1_hw2 k1_h1 => k1_hw2.2.2.2.2.2.2.2.2.2.2.2.2.2.2.2.2.2.2.2.2.2.2.1 k1_h1
theorem k1_off124_inb : ∀ (i : grid1.Coords) (v373 : BitVec 32) (k1_hw2 : k1_chk2 i v373), ∀ (k1_h1 : k1_cond1 i = 1#1), ∀ a, (k1_off124 v373) a + S1x16.size a ≤ S256x384.size a := fun i v373 k1_hw2 k1_h1 => k1_hw2.2.2.2.2.2.2.2.2.2.2.2.2.2.2.2.2.2.2.2.2.2.2.2 k1_h1

def k1_off125 (k1_t3 : Fin k1_t3_loop.trips) : Fin 2 → Nat :=
  let c0_i32_32 : BitVec 32 := 0#32
  let c1_i32_34 : BitVec 32 := 1#32
  let arg37 : BitVec 32 := Scf.iv c0_i32_32 c1_i32_34 k1_t3
  let c16_i32_177 : BitVec 32 := 16#32
  let v667 : BitVec 32 := Scalar.muli arg37 c16_i32_177
  let c2_i32_178 : BitVec 32 := 2#32
  let v668 : BitVec 32 := Scalar.addi v667 c2_i32_178
  let v670 : Index := Scalar.indexCast v668
  let c0_179 : Index := 0#32
  ![v670.toNat, 0]
def k1_off126 (k1_t3 : Fin k1_t3_loop.trips) : Fin 2 → Nat :=
  let c0_i32_32 : BitVec 32 := 0#32
  let c1_i32_34 : BitVec 32 := 1#32
  let arg37 : BitVec 32 := Scf.iv c0_i32_32 c1_i32_34 k1_t3
  let c16_i32_177 : BitVec 32 := 16#32
  let v667 : BitVec 32 := Scalar.muli arg37 c16_i32_177
  let c2_i32_178 : BitVec 32 := 2#32
  let v668 : BitVec 32 := Scalar.addi v667 c2_i32_178
  let v678 : Index := Scalar.indexCast v668
  let c16_181 : Index := 16#32
  ![v678.toNat, 16]
def k1_off127 (k1_t3 : Fin k1_t3_loop.trips) : Fin 2 → Nat :=
  let c0_i32_32 : BitVec 32 := 0#32
  let c1_i32_34 : BitVec 32 := 1#32
  let arg37 : BitVec 32 := Scf.iv c0_i32_32 c1_i32_34 k1_t3
  let c16_i32_177 : BitVec 32 := 16#32
  let v667 : BitVec 32 := Scalar.muli arg37 c16_i32_177
  let c2_i32_178 : BitVec 32 := 2#32
  let v668 : BitVec 32 := Scalar.addi v667 c2_i32_178
  let v686 : Index := Scalar.indexCast v668
  let c32_183 : Index := 32#32
  ![v686.toNat, 32]
def k1_off128 (k1_t3 : Fin k1_t3_loop.trips) : Fin 2 → Nat :=
  let c0_i32_32 : BitVec 32 := 0#32
  let c1_i32_34 : BitVec 32 := 1#32
  let arg37 : BitVec 32 := Scf.iv c0_i32_32 c1_i32_34 k1_t3
  let c16_i32_177 : BitVec 32 := 16#32
  let v667 : BitVec 32 := Scalar.muli arg37 c16_i32_177
  let c2_i32_178 : BitVec 32 := 2#32
  let v668 : BitVec 32 := Scalar.addi v667 c2_i32_178
  let v694 : Index := Scalar.indexCast v668
  let c48_185 : Index := 48#32
  ![v694.toNat, 48]
def k1_off129 (k1_t3 : Fin k1_t3_loop.trips) : Fin 2 → Nat :=
  let c0_i32_32 : BitVec 32 := 0#32
  let c1_i32_34 : BitVec 32 := 1#32
  let arg37 : BitVec 32 := Scf.iv c0_i32_32 c1_i32_34 k1_t3
  let c16_i32_177 : BitVec 32 := 16#32
  let v667 : BitVec 32 := Scalar.muli arg37 c16_i32_177
  let c2_i32_178 : BitVec 32 := 2#32
  let v668 : BitVec 32 := Scalar.addi v667 c2_i32_178
  let v702 : Index := Scalar.indexCast v668
  let c64_187 : Index := 64#32
  ![v702.toNat, 64]
def k1_off130 (k1_t3 : Fin k1_t3_loop.trips) : Fin 2 → Nat :=
  let c0_i32_32 : BitVec 32 := 0#32
  let c1_i32_34 : BitVec 32 := 1#32
  let arg37 : BitVec 32 := Scf.iv c0_i32_32 c1_i32_34 k1_t3
  let c16_i32_177 : BitVec 32 := 16#32
  let v667 : BitVec 32 := Scalar.muli arg37 c16_i32_177
  let c2_i32_178 : BitVec 32 := 2#32
  let v668 : BitVec 32 := Scalar.addi v667 c2_i32_178
  let v710 : Index := Scalar.indexCast v668
  let c80_189 : Index := 80#32
  ![v710.toNat, 80]
def k1_off131 (k1_t3 : Fin k1_t3_loop.trips) : Fin 2 → Nat :=
  let c0_i32_32 : BitVec 32 := 0#32
  let c1_i32_34 : BitVec 32 := 1#32
  let arg37 : BitVec 32 := Scf.iv c0_i32_32 c1_i32_34 k1_t3
  let c16_i32_177 : BitVec 32 := 16#32
  let v667 : BitVec 32 := Scalar.muli arg37 c16_i32_177
  let c2_i32_178 : BitVec 32 := 2#32
  let v668 : BitVec 32 := Scalar.addi v667 c2_i32_178
  let v718 : Index := Scalar.indexCast v668
  let c96_191 : Index := 96#32
  ![v718.toNat, 96]
def k1_off132 (k1_t3 : Fin k1_t3_loop.trips) : Fin 2 → Nat :=
  let c0_i32_32 : BitVec 32 := 0#32
  let c1_i32_34 : BitVec 32 := 1#32
  let arg37 : BitVec 32 := Scf.iv c0_i32_32 c1_i32_34 k1_t3
  let c16_i32_177 : BitVec 32 := 16#32
  let v667 : BitVec 32 := Scalar.muli arg37 c16_i32_177
  let c2_i32_178 : BitVec 32 := 2#32
  let v668 : BitVec 32 := Scalar.addi v667 c2_i32_178
  let v726 : Index := Scalar.indexCast v668
  let c112_193 : Index := 112#32
  ![v726.toNat, 112]
def k1_off133 (k1_t3 : Fin k1_t3_loop.trips) : Fin 2 → Nat :=
  let c0_i32_32 : BitVec 32 := 0#32
  let c1_i32_34 : BitVec 32 := 1#32
  let arg37 : BitVec 32 := Scf.iv c0_i32_32 c1_i32_34 k1_t3
  let c16_i32_177 : BitVec 32 := 16#32
  let v667 : BitVec 32 := Scalar.muli arg37 c16_i32_177
  let c2_i32_178 : BitVec 32 := 2#32
  let v668 : BitVec 32 := Scalar.addi v667 c2_i32_178
  let v734 : Index := Scalar.indexCast v668
  let c128_195 : Index := 128#32
  ![v734.toNat, 128]
def k1_off134 (k1_t3 : Fin k1_t3_loop.trips) : Fin 2 → Nat :=
  let c0_i32_32 : BitVec 32 := 0#32
  let c1_i32_34 : BitVec 32 := 1#32
  let arg37 : BitVec 32 := Scf.iv c0_i32_32 c1_i32_34 k1_t3
  let c16_i32_177 : BitVec 32 := 16#32
  let v667 : BitVec 32 := Scalar.muli arg37 c16_i32_177
  let c2_i32_178 : BitVec 32 := 2#32
  let v668 : BitVec 32 := Scalar.addi v667 c2_i32_178
  let v742 : Index := Scalar.indexCast v668
  let c144_197 : Index := 144#32
  ![v742.toNat, 144]
def k1_off135 (k1_t3 : Fin k1_t3_loop.trips) : Fin 2 → Nat :=
  let c0_i32_32 : BitVec 32 := 0#32
  let c1_i32_34 : BitVec 32 := 1#32
  let arg37 : BitVec 32 := Scf.iv c0_i32_32 c1_i32_34 k1_t3
  let c16_i32_177 : BitVec 32 := 16#32
  let v667 : BitVec 32 := Scalar.muli arg37 c16_i32_177
  let c2_i32_178 : BitVec 32 := 2#32
  let v668 : BitVec 32 := Scalar.addi v667 c2_i32_178
  let v750 : Index := Scalar.indexCast v668
  let c160_199 : Index := 160#32
  ![v750.toNat, 160]
def k1_off136 (k1_t3 : Fin k1_t3_loop.trips) : Fin 2 → Nat :=
  let c0_i32_32 : BitVec 32 := 0#32
  let c1_i32_34 : BitVec 32 := 1#32
  let arg37 : BitVec 32 := Scf.iv c0_i32_32 c1_i32_34 k1_t3
  let c16_i32_177 : BitVec 32 := 16#32
  let v667 : BitVec 32 := Scalar.muli arg37 c16_i32_177
  let c2_i32_178 : BitVec 32 := 2#32
  let v668 : BitVec 32 := Scalar.addi v667 c2_i32_178
  let v758 : Index := Scalar.indexCast v668
  let c176_201 : Index := 176#32
  ![v758.toNat, 176]
def k1_off137 (k1_t3 : Fin k1_t3_loop.trips) : Fin 2 → Nat :=
  let c0_i32_32 : BitVec 32 := 0#32
  let c1_i32_34 : BitVec 32 := 1#32
  let arg37 : BitVec 32 := Scf.iv c0_i32_32 c1_i32_34 k1_t3
  let c16_i32_177 : BitVec 32 := 16#32
  let v667 : BitVec 32 := Scalar.muli arg37 c16_i32_177
  let c2_i32_178 : BitVec 32 := 2#32
  let v668 : BitVec 32 := Scalar.addi v667 c2_i32_178
  let v766 : Index := Scalar.indexCast v668
  let c192_203 : Index := 192#32
  ![v766.toNat, 192]
def k1_off138 (k1_t3 : Fin k1_t3_loop.trips) : Fin 2 → Nat :=
  let c0_i32_32 : BitVec 32 := 0#32
  let c1_i32_34 : BitVec 32 := 1#32
  let arg37 : BitVec 32 := Scf.iv c0_i32_32 c1_i32_34 k1_t3
  let c16_i32_177 : BitVec 32 := 16#32
  let v667 : BitVec 32 := Scalar.muli arg37 c16_i32_177
  let c2_i32_178 : BitVec 32 := 2#32
  let v668 : BitVec 32 := Scalar.addi v667 c2_i32_178
  let v774 : Index := Scalar.indexCast v668
  let c208_205 : Index := 208#32
  ![v774.toNat, 208]
def k1_off139 (k1_t3 : Fin k1_t3_loop.trips) : Fin 2 → Nat :=
  let c0_i32_32 : BitVec 32 := 0#32
  let c1_i32_34 : BitVec 32 := 1#32
  let arg37 : BitVec 32 := Scf.iv c0_i32_32 c1_i32_34 k1_t3
  let c16_i32_177 : BitVec 32 := 16#32
  let v667 : BitVec 32 := Scalar.muli arg37 c16_i32_177
  let c2_i32_178 : BitVec 32 := 2#32
  let v668 : BitVec 32 := Scalar.addi v667 c2_i32_178
  let v782 : Index := Scalar.indexCast v668
  let c224_207 : Index := 224#32
  ![v782.toNat, 224]
def k1_off140 (k1_t3 : Fin k1_t3_loop.trips) : Fin 2 → Nat :=
  let c0_i32_32 : BitVec 32 := 0#32
  let c1_i32_34 : BitVec 32 := 1#32
  let arg37 : BitVec 32 := Scf.iv c0_i32_32 c1_i32_34 k1_t3
  let c16_i32_177 : BitVec 32 := 16#32
  let v667 : BitVec 32 := Scalar.muli arg37 c16_i32_177
  let c2_i32_178 : BitVec 32 := 2#32
  let v668 : BitVec 32 := Scalar.addi v667 c2_i32_178
  let v790 : Index := Scalar.indexCast v668
  let c240_209 : Index := 240#32
  ![v790.toNat, 240]
def k1_off141 (k1_t3 : Fin k1_t3_loop.trips) : Fin 2 → Nat :=
  let c0_i32_32 : BitVec 32 := 0#32
  let c1_i32_34 : BitVec 32 := 1#32
  let arg37 : BitVec 32 := Scf.iv c0_i32_32 c1_i32_34 k1_t3
  let c16_i32_177 : BitVec 32 := 16#32
  let v667 : BitVec 32 := Scalar.muli arg37 c16_i32_177
  let c2_i32_178 : BitVec 32 := 2#32
  let v668 : BitVec 32 := Scalar.addi v667 c2_i32_178
  let v798 : Index := Scalar.indexCast v668
  let c256_211 : Index := 256#32
  ![v798.toNat, 256]
def k1_off142 (k1_t3 : Fin k1_t3_loop.trips) : Fin 2 → Nat :=
  let c0_i32_32 : BitVec 32 := 0#32
  let c1_i32_34 : BitVec 32 := 1#32
  let arg37 : BitVec 32 := Scf.iv c0_i32_32 c1_i32_34 k1_t3
  let c16_i32_177 : BitVec 32 := 16#32
  let v667 : BitVec 32 := Scalar.muli arg37 c16_i32_177
  let c2_i32_178 : BitVec 32 := 2#32
  let v668 : BitVec 32 := Scalar.addi v667 c2_i32_178
  let v806 : Index := Scalar.indexCast v668
  let c272_213 : Index := 272#32
  ![v806.toNat, 272]
def k1_off143 (k1_t3 : Fin k1_t3_loop.trips) : Fin 2 → Nat :=
  let c0_i32_32 : BitVec 32 := 0#32
  let c1_i32_34 : BitVec 32 := 1#32
  let arg37 : BitVec 32 := Scf.iv c0_i32_32 c1_i32_34 k1_t3
  let c16_i32_177 : BitVec 32 := 16#32
  let v667 : BitVec 32 := Scalar.muli arg37 c16_i32_177
  let c2_i32_178 : BitVec 32 := 2#32
  let v668 : BitVec 32 := Scalar.addi v667 c2_i32_178
  let v814 : Index := Scalar.indexCast v668
  let c288_215 : Index := 288#32
  ![v814.toNat, 288]
def k1_off144 (k1_t3 : Fin k1_t3_loop.trips) : Fin 2 → Nat :=
  let c0_i32_32 : BitVec 32 := 0#32
  let c1_i32_34 : BitVec 32 := 1#32
  let arg37 : BitVec 32 := Scf.iv c0_i32_32 c1_i32_34 k1_t3
  let c16_i32_177 : BitVec 32 := 16#32
  let v667 : BitVec 32 := Scalar.muli arg37 c16_i32_177
  let c2_i32_178 : BitVec 32 := 2#32
  let v668 : BitVec 32 := Scalar.addi v667 c2_i32_178
  let v822 : Index := Scalar.indexCast v668
  let c304_217 : Index := 304#32
  ![v822.toNat, 304]
def k1_off145 (k1_t3 : Fin k1_t3_loop.trips) : Fin 2 → Nat :=
  let c0_i32_32 : BitVec 32 := 0#32
  let c1_i32_34 : BitVec 32 := 1#32
  let arg37 : BitVec 32 := Scf.iv c0_i32_32 c1_i32_34 k1_t3
  let c16_i32_177 : BitVec 32 := 16#32
  let v667 : BitVec 32 := Scalar.muli arg37 c16_i32_177
  let c2_i32_178 : BitVec 32 := 2#32
  let v668 : BitVec 32 := Scalar.addi v667 c2_i32_178
  let v830 : Index := Scalar.indexCast v668
  let c320_219 : Index := 320#32
  ![v830.toNat, 320]
def k1_off146 (k1_t3 : Fin k1_t3_loop.trips) : Fin 2 → Nat :=
  let c0_i32_32 : BitVec 32 := 0#32
  let c1_i32_34 : BitVec 32 := 1#32
  let arg37 : BitVec 32 := Scf.iv c0_i32_32 c1_i32_34 k1_t3
  let c16_i32_177 : BitVec 32 := 16#32
  let v667 : BitVec 32 := Scalar.muli arg37 c16_i32_177
  let c2_i32_178 : BitVec 32 := 2#32
  let v668 : BitVec 32 := Scalar.addi v667 c2_i32_178
  let v838 : Index := Scalar.indexCast v668
  let c336_221 : Index := 336#32
  ![v838.toNat, 336]
def k1_off147 (k1_t3 : Fin k1_t3_loop.trips) : Fin 2 → Nat :=
  let c0_i32_32 : BitVec 32 := 0#32
  let c1_i32_34 : BitVec 32 := 1#32
  let arg37 : BitVec 32 := Scf.iv c0_i32_32 c1_i32_34 k1_t3
  let c16_i32_177 : BitVec 32 := 16#32
  let v667 : BitVec 32 := Scalar.muli arg37 c16_i32_177
  let c2_i32_178 : BitVec 32 := 2#32
  let v668 : BitVec 32 := Scalar.addi v667 c2_i32_178
  let v846 : Index := Scalar.indexCast v668
  let c352_223 : Index := 352#32
  ![v846.toNat, 352]
def k1_off148 (k1_t3 : Fin k1_t3_loop.trips) : Fin 2 → Nat :=
  let c0_i32_32 : BitVec 32 := 0#32
  let c1_i32_34 : BitVec 32 := 1#32
  let arg37 : BitVec 32 := Scf.iv c0_i32_32 c1_i32_34 k1_t3
  let c16_i32_177 : BitVec 32 := 16#32
  let v667 : BitVec 32 := Scalar.muli arg37 c16_i32_177
  let c2_i32_178 : BitVec 32 := 2#32
  let v668 : BitVec 32 := Scalar.addi v667 c2_i32_178
  let v854 : Index := Scalar.indexCast v668
  let c368_225 : Index := 368#32
  ![v854.toNat, 368]
def k1_off149 (v666 : BitVec 32) : Fin 2 → Nat :=
  let v862 : Index := Scalar.indexCast v666
  let c0_227 : Index := 0#32
  ![v862.toNat, 0]

def k1_off150 (v666 : BitVec 32) : Fin 2 → Nat :=
  let v866 : Index := Scalar.indexCast v666
  let c16_228 : Index := 16#32
  ![v866.toNat, 16]
def k1_off151 (v666 : BitVec 32) : Fin 2 → Nat :=
  let v870 : Index := Scalar.indexCast v666
  let c32_229 : Index := 32#32
  ![v870.toNat, 32]
def k1_off152 (v666 : BitVec 32) : Fin 2 → Nat :=
  let v874 : Index := Scalar.indexCast v666
  let c48_230 : Index := 48#32
  ![v874.toNat, 48]
def k1_off153 (v666 : BitVec 32) : Fin 2 → Nat :=
  let v878 : Index := Scalar.indexCast v666
  let c64_231 : Index := 64#32
  ![v878.toNat, 64]
def k1_off154 (v666 : BitVec 32) : Fin 2 → Nat :=
  let v882 : Index := Scalar.indexCast v666
  let c80_232 : Index := 80#32
  ![v882.toNat, 80]
def k1_off155 (v666 : BitVec 32) : Fin 2 → Nat :=
  let v886 : Index := Scalar.indexCast v666
  let c96_233 : Index := 96#32
  ![v886.toNat, 96]
def k1_off156 (v666 : BitVec 32) : Fin 2 → Nat :=
  let v890 : Index := Scalar.indexCast v666
  let c112_234 : Index := 112#32
  ![v890.toNat, 112]
def k1_off157 (v666 : BitVec 32) : Fin 2 → Nat :=
  let v894 : Index := Scalar.indexCast v666
  let c128_235 : Index := 128#32
  ![v894.toNat, 128]
def k1_off158 (v666 : BitVec 32) : Fin 2 → Nat :=
  let v898 : Index := Scalar.indexCast v666
  let c144_236 : Index := 144#32
  ![v898.toNat, 144]
def k1_off159 (v666 : BitVec 32) : Fin 2 → Nat :=
  let v902 : Index := Scalar.indexCast v666
  let c160_237 : Index := 160#32
  ![v902.toNat, 160]
def k1_off160 (v666 : BitVec 32) : Fin 2 → Nat :=
  let v906 : Index := Scalar.indexCast v666
  let c176_238 : Index := 176#32
  ![v906.toNat, 176]
def k1_off161 (v666 : BitVec 32) : Fin 2 → Nat :=
  let v910 : Index := Scalar.indexCast v666
  let c192_239 : Index := 192#32
  ![v910.toNat, 192]
def k1_off162 (v666 : BitVec 32) : Fin 2 → Nat :=
  let v914 : Index := Scalar.indexCast v666
  let c208_240 : Index := 208#32
  ![v914.toNat, 208]
def k1_off163 (v666 : BitVec 32) : Fin 2 → Nat :=
  let v918 : Index := Scalar.indexCast v666
  let c224_241 : Index := 224#32
  ![v918.toNat, 224]
def k1_off164 (v666 : BitVec 32) : Fin 2 → Nat :=
  let v922 : Index := Scalar.indexCast v666
  let c240_242 : Index := 240#32
  ![v922.toNat, 240]
def k1_off165 (v666 : BitVec 32) : Fin 2 → Nat :=
  let v926 : Index := Scalar.indexCast v666
  let c256_243 : Index := 256#32
  ![v926.toNat, 256]
def k1_off166 (v666 : BitVec 32) : Fin 2 → Nat :=
  let v930 : Index := Scalar.indexCast v666
  let c272_244 : Index := 272#32
  ![v930.toNat, 272]
def k1_off167 (v666 : BitVec 32) : Fin 2 → Nat :=
  let v934 : Index := Scalar.indexCast v666
  let c288_245 : Index := 288#32
  ![v934.toNat, 288]
def k1_off168 (v666 : BitVec 32) : Fin 2 → Nat :=
  let v938 : Index := Scalar.indexCast v666
  let c304_246 : Index := 304#32
  ![v938.toNat, 304]
def k1_off169 (v666 : BitVec 32) : Fin 2 → Nat :=
  let v942 : Index := Scalar.indexCast v666
  let c320_247 : Index := 320#32
  ![v942.toNat, 320]
def k1_off170 (v666 : BitVec 32) : Fin 2 → Nat :=
  let v946 : Index := Scalar.indexCast v666
  let c336_248 : Index := 336#32
  ![v946.toNat, 336]
def k1_off171 (v666 : BitVec 32) : Fin 2 → Nat :=
  let v950 : Index := Scalar.indexCast v666
  let c352_249 : Index := 352#32
  ![v950.toNat, 352]
def k1_off172 (v666 : BitVec 32) : Fin 2 → Nat :=
  let v954 : Index := Scalar.indexCast v666
  let c368_250 : Index := 368#32
  ![v954.toNat, 368]

def k1_chk3 (i : grid1.Coords) (v666 : BitVec 32) : Prop :=
  (∀ (k1_h1 : k1_cond1 i = 1#1), ∀ a, (k1_off149 v666) a + S1x16.size a ≤ S256x384.size a) ∧
  (∀ (k1_h1 : k1_cond1 i = 1#1), ∀ a, (k1_off150 v666) a + S1x16.size a ≤ S256x384.size a) ∧
  (∀ (k1_h1 : k1_cond1 i = 1#1), ∀ a, (k1_off151 v666) a + S1x16.size a ≤ S256x384.size a) ∧
  (∀ (k1_h1 : k1_cond1 i = 1#1), ∀ a, (k1_off152 v666) a + S1x16.size a ≤ S256x384.size a) ∧
  (∀ (k1_h1 : k1_cond1 i = 1#1), ∀ a, (k1_off153 v666) a + S1x16.size a ≤ S256x384.size a) ∧
  (∀ (k1_h1 : k1_cond1 i = 1#1), ∀ a, (k1_off154 v666) a + S1x16.size a ≤ S256x384.size a) ∧
  (∀ (k1_h1 : k1_cond1 i = 1#1), ∀ a, (k1_off155 v666) a + S1x16.size a ≤ S256x384.size a) ∧
  (∀ (k1_h1 : k1_cond1 i = 1#1), ∀ a, (k1_off156 v666) a + S1x16.size a ≤ S256x384.size a) ∧
  (∀ (k1_h1 : k1_cond1 i = 1#1), ∀ a, (k1_off157 v666) a + S1x16.size a ≤ S256x384.size a) ∧
  (∀ (k1_h1 : k1_cond1 i = 1#1), ∀ a, (k1_off158 v666) a + S1x16.size a ≤ S256x384.size a) ∧
  (∀ (k1_h1 : k1_cond1 i = 1#1), ∀ a, (k1_off159 v666) a + S1x16.size a ≤ S256x384.size a) ∧
  (∀ (k1_h1 : k1_cond1 i = 1#1), ∀ a, (k1_off160 v666) a + S1x16.size a ≤ S256x384.size a) ∧
  (∀ (k1_h1 : k1_cond1 i = 1#1), ∀ a, (k1_off161 v666) a + S1x16.size a ≤ S256x384.size a) ∧
  (∀ (k1_h1 : k1_cond1 i = 1#1), ∀ a, (k1_off162 v666) a + S1x16.size a ≤ S256x384.size a) ∧
  (∀ (k1_h1 : k1_cond1 i = 1#1), ∀ a, (k1_off163 v666) a + S1x16.size a ≤ S256x384.size a) ∧
  (∀ (k1_h1 : k1_cond1 i = 1#1), ∀ a, (k1_off164 v666) a + S1x16.size a ≤ S256x384.size a) ∧
  (∀ (k1_h1 : k1_cond1 i = 1#1), ∀ a, (k1_off165 v666) a + S1x16.size a ≤ S256x384.size a) ∧
  (∀ (k1_h1 : k1_cond1 i = 1#1), ∀ a, (k1_off166 v666) a + S1x16.size a ≤ S256x384.size a) ∧
  (∀ (k1_h1 : k1_cond1 i = 1#1), ∀ a, (k1_off167 v666) a + S1x16.size a ≤ S256x384.size a) ∧
  (∀ (k1_h1 : k1_cond1 i = 1#1), ∀ a, (k1_off168 v666) a + S1x16.size a ≤ S256x384.size a) ∧
  (∀ (k1_h1 : k1_cond1 i = 1#1), ∀ a, (k1_off169 v666) a + S1x16.size a ≤ S256x384.size a) ∧
  (∀ (k1_h1 : k1_cond1 i = 1#1), ∀ a, (k1_off170 v666) a + S1x16.size a ≤ S256x384.size a) ∧
  (∀ (k1_h1 : k1_cond1 i = 1#1), ∀ a, (k1_off171 v666) a + S1x16.size a ≤ S256x384.size a) ∧
  (∀ (k1_h1 : k1_cond1 i = 1#1), ∀ a, (k1_off172 v666) a + S1x16.size a ≤ S256x384.size a)
theorem k1_off149_inb : ∀ (i : grid1.Coords) (v666 : BitVec 32) (k1_hw3 : k1_chk3 i v666), ∀ (k1_h1 : k1_cond1 i = 1#1), ∀ a, (k1_off149 v666) a + S1x16.size a ≤ S256x384.size a := fun i v666 k1_hw3 k1_h1 => k1_hw3.1 k1_h1
theorem k1_off150_inb : ∀ (i : grid1.Coords) (v666 : BitVec 32) (k1_hw3 : k1_chk3 i v666), ∀ (k1_h1 : k1_cond1 i = 1#1), ∀ a, (k1_off150 v666) a + S1x16.size a ≤ S256x384.size a := fun i v666 k1_hw3 k1_h1 => k1_hw3.2.1 k1_h1
theorem k1_off151_inb : ∀ (i : grid1.Coords) (v666 : BitVec 32) (k1_hw3 : k1_chk3 i v666), ∀ (k1_h1 : k1_cond1 i = 1#1), ∀ a, (k1_off151 v666) a + S1x16.size a ≤ S256x384.size a := fun i v666 k1_hw3 k1_h1 => k1_hw3.2.2.1 k1_h1
theorem k1_off152_inb : ∀ (i : grid1.Coords) (v666 : BitVec 32) (k1_hw3 : k1_chk3 i v666), ∀ (k1_h1 : k1_cond1 i = 1#1), ∀ a, (k1_off152 v666) a + S1x16.size a ≤ S256x384.size a := fun i v666 k1_hw3 k1_h1 => k1_hw3.2.2.2.1 k1_h1
theorem k1_off153_inb : ∀ (i : grid1.Coords) (v666 : BitVec 32) (k1_hw3 : k1_chk3 i v666), ∀ (k1_h1 : k1_cond1 i = 1#1), ∀ a, (k1_off153 v666) a + S1x16.size a ≤ S256x384.size a := fun i v666 k1_hw3 k1_h1 => k1_hw3.2.2.2.2.1 k1_h1
theorem k1_off154_inb : ∀ (i : grid1.Coords) (v666 : BitVec 32) (k1_hw3 : k1_chk3 i v666), ∀ (k1_h1 : k1_cond1 i = 1#1), ∀ a, (k1_off154 v666) a + S1x16.size a ≤ S256x384.size a := fun i v666 k1_hw3 k1_h1 => k1_hw3.2.2.2.2.2.1 k1_h1
theorem k1_off155_inb : ∀ (i : grid1.Coords) (v666 : BitVec 32) (k1_hw3 : k1_chk3 i v666), ∀ (k1_h1 : k1_cond1 i = 1#1), ∀ a, (k1_off155 v666) a + S1x16.size a ≤ S256x384.size a := fun i v666 k1_hw3 k1_h1 => k1_hw3.2.2.2.2.2.2.1 k1_h1
theorem k1_off156_inb : ∀ (i : grid1.Coords) (v666 : BitVec 32) (k1_hw3 : k1_chk3 i v666), ∀ (k1_h1 : k1_cond1 i = 1#1), ∀ a, (k1_off156 v666) a + S1x16.size a ≤ S256x384.size a := fun i v666 k1_hw3 k1_h1 => k1_hw3.2.2.2.2.2.2.2.1 k1_h1
theorem k1_off157_inb : ∀ (i : grid1.Coords) (v666 : BitVec 32) (k1_hw3 : k1_chk3 i v666), ∀ (k1_h1 : k1_cond1 i = 1#1), ∀ a, (k1_off157 v666) a + S1x16.size a ≤ S256x384.size a := fun i v666 k1_hw3 k1_h1 => k1_hw3.2.2.2.2.2.2.2.2.1 k1_h1
theorem k1_off158_inb : ∀ (i : grid1.Coords) (v666 : BitVec 32) (k1_hw3 : k1_chk3 i v666), ∀ (k1_h1 : k1_cond1 i = 1#1), ∀ a, (k1_off158 v666) a + S1x16.size a ≤ S256x384.size a := fun i v666 k1_hw3 k1_h1 => k1_hw3.2.2.2.2.2.2.2.2.2.1 k1_h1
theorem k1_off159_inb : ∀ (i : grid1.Coords) (v666 : BitVec 32) (k1_hw3 : k1_chk3 i v666), ∀ (k1_h1 : k1_cond1 i = 1#1), ∀ a, (k1_off159 v666) a + S1x16.size a ≤ S256x384.size a := fun i v666 k1_hw3 k1_h1 => k1_hw3.2.2.2.2.2.2.2.2.2.2.1 k1_h1
theorem k1_off160_inb : ∀ (i : grid1.Coords) (v666 : BitVec 32) (k1_hw3 : k1_chk3 i v666), ∀ (k1_h1 : k1_cond1 i = 1#1), ∀ a, (k1_off160 v666) a + S1x16.size a ≤ S256x384.size a := fun i v666 k1_hw3 k1_h1 => k1_hw3.2.2.2.2.2.2.2.2.2.2.2.1 k1_h1
theorem k1_off161_inb : ∀ (i : grid1.Coords) (v666 : BitVec 32) (k1_hw3 : k1_chk3 i v666), ∀ (k1_h1 : k1_cond1 i = 1#1), ∀ a, (k1_off161 v666) a + S1x16.size a ≤ S256x384.size a := fun i v666 k1_hw3 k1_h1 => k1_hw3.2.2.2.2.2.2.2.2.2.2.2.2.1 k1_h1
theorem k1_off162_inb : ∀ (i : grid1.Coords) (v666 : BitVec 32) (k1_hw3 : k1_chk3 i v666), ∀ (k1_h1 : k1_cond1 i = 1#1), ∀ a, (k1_off162 v666) a + S1x16.size a ≤ S256x384.size a := fun i v666 k1_hw3 k1_h1 => k1_hw3.2.2.2.2.2.2.2.2.2.2.2.2.2.1 k1_h1
theorem k1_off163_inb : ∀ (i : grid1.Coords) (v666 : BitVec 32) (k1_hw3 : k1_chk3 i v666), ∀ (k1_h1 : k1_cond1 i = 1#1), ∀ a, (k1_off163 v666) a + S1x16.size a ≤ S256x384.size a := fun i v666 k1_hw3 k1_h1 => k1_hw3.2.2.2.2.2.2.2.2.2.2.2.2.2.2.1 k1_h1
theorem k1_off164_inb : ∀ (i : grid1.Coords) (v666 : BitVec 32) (k1_hw3 : k1_chk3 i v666), ∀ (k1_h1 : k1_cond1 i = 1#1), ∀ a, (k1_off164 v666) a + S1x16.size a ≤ S256x384.size a := fun i v666 k1_hw3 k1_h1 => k1_hw3.2.2.2.2.2.2.2.2.2.2.2.2.2.2.2.1 k1_h1
theorem k1_off165_inb : ∀ (i : grid1.Coords) (v666 : BitVec 32) (k1_hw3 : k1_chk3 i v666), ∀ (k1_h1 : k1_cond1 i = 1#1), ∀ a, (k1_off165 v666) a + S1x16.size a ≤ S256x384.size a := fun i v666 k1_hw3 k1_h1 => k1_hw3.2.2.2.2.2.2.2.2.2.2.2.2.2.2.2.2.1 k1_h1
theorem k1_off166_inb : ∀ (i : grid1.Coords) (v666 : BitVec 32) (k1_hw3 : k1_chk3 i v666), ∀ (k1_h1 : k1_cond1 i = 1#1), ∀ a, (k1_off166 v666) a + S1x16.size a ≤ S256x384.size a := fun i v666 k1_hw3 k1_h1 => k1_hw3.2.2.2.2.2.2.2.2.2.2.2.2.2.2.2.2.2.1 k1_h1
theorem k1_off167_inb : ∀ (i : grid1.Coords) (v666 : BitVec 32) (k1_hw3 : k1_chk3 i v666), ∀ (k1_h1 : k1_cond1 i = 1#1), ∀ a, (k1_off167 v666) a + S1x16.size a ≤ S256x384.size a := fun i v666 k1_hw3 k1_h1 => k1_hw3.2.2.2.2.2.2.2.2.2.2.2.2.2.2.2.2.2.2.1 k1_h1
theorem k1_off168_inb : ∀ (i : grid1.Coords) (v666 : BitVec 32) (k1_hw3 : k1_chk3 i v666), ∀ (k1_h1 : k1_cond1 i = 1#1), ∀ a, (k1_off168 v666) a + S1x16.size a ≤ S256x384.size a := fun i v666 k1_hw3 k1_h1 => k1_hw3.2.2.2.2.2.2.2.2.2.2.2.2.2.2.2.2.2.2.2.1 k1_h1
theorem k1_off169_inb : ∀ (i : grid1.Coords) (v666 : BitVec 32) (k1_hw3 : k1_chk3 i v666), ∀ (k1_h1 : k1_cond1 i = 1#1), ∀ a, (k1_off169 v666) a + S1x16.size a ≤ S256x384.size a := fun i v666 k1_hw3 k1_h1 => k1_hw3.2.2.2.2.2.2.2.2.2.2.2.2.2.2.2.2.2.2.2.2.1 k1_h1
theorem k1_off170_inb : ∀ (i : grid1.Coords) (v666 : BitVec 32) (k1_hw3 : k1_chk3 i v666), ∀ (k1_h1 : k1_cond1 i = 1#1), ∀ a, (k1_off170 v666) a + S1x16.size a ≤ S256x384.size a := fun i v666 k1_hw3 k1_h1 => k1_hw3.2.2.2.2.2.2.2.2.2.2.2.2.2.2.2.2.2.2.2.2.2.1 k1_h1
theorem k1_off171_inb : ∀ (i : grid1.Coords) (v666 : BitVec 32) (k1_hw3 : k1_chk3 i v666), ∀ (k1_h1 : k1_cond1 i = 1#1), ∀ a, (k1_off171 v666) a + S1x16.size a ≤ S256x384.size a := fun i v666 k1_hw3 k1_h1 => k1_hw3.2.2.2.2.2.2.2.2.2.2.2.2.2.2.2.2.2.2.2.2.2.2.1 k1_h1
theorem k1_off172_inb : ∀ (i : grid1.Coords) (v666 : BitVec 32) (k1_hw3 : k1_chk3 i v666), ∀ (k1_h1 : k1_cond1 i = 1#1), ∀ a, (k1_off172 v666) a + S1x16.size a ≤ S256x384.size a := fun i v666 k1_hw3 k1_h1 => k1_hw3.2.2.2.2.2.2.2.2.2.2.2.2.2.2.2.2.2.2.2.2.2.2.2 k1_h1

def k1_off173 (k1_t3 : Fin k1_t3_loop.trips) : Fin 2 → Nat :=
  let c0_i32_32 : BitVec 32 := 0#32
  let c1_i32_34 : BitVec 32 := 1#32
  let arg37 : BitVec 32 := Scf.iv c0_i32_32 c1_i32_34 k1_t3
  let c16_i32_251 : BitVec 32 := 16#32
  let v960 : BitVec 32 := Scalar.muli arg37 c16_i32_251
  let c3_i32 : BitVec 32 := 3#32
  let v961 : BitVec 32 := Scalar.addi v960 c3_i32
  let v963 : Index := Scalar.indexCast v961
  let c0_252 : Index := 0#32
  ![v963.toNat, 0]
def k1_off174 (k1_t3 : Fin k1_t3_loop.trips) : Fin 2 → Nat :=
  let c0_i32_32 : BitVec 32 := 0#32
  let c1_i32_34 : BitVec 32 := 1#32
  let arg37 : BitVec 32 := Scf.iv c0_i32_32 c1_i32_34 k1_t3
  let c16_i32_251 : BitVec 32 := 16#32
  let v960 : BitVec 32 := Scalar.muli arg37 c16_i32_251
  let c3_i32 : BitVec 32 := 3#32
  let v961 : BitVec 32 := Scalar.addi v960 c3_i32
  let v971 : Index := Scalar.indexCast v961
  let c16_254 : Index := 16#32
  ![v971.toNat, 16]
def k1_off175 (k1_t3 : Fin k1_t3_loop.trips) : Fin 2 → Nat :=
  let c0_i32_32 : BitVec 32 := 0#32
  let c1_i32_34 : BitVec 32 := 1#32
  let arg37 : BitVec 32 := Scf.iv c0_i32_32 c1_i32_34 k1_t3
  let c16_i32_251 : BitVec 32 := 16#32
  let v960 : BitVec 32 := Scalar.muli arg37 c16_i32_251
  let c3_i32 : BitVec 32 := 3#32
  let v961 : BitVec 32 := Scalar.addi v960 c3_i32
  let v979 : Index := Scalar.indexCast v961
  let c32_256 : Index := 32#32
  ![v979.toNat, 32]
def k1_off176 (k1_t3 : Fin k1_t3_loop.trips) : Fin 2 → Nat :=
  let c0_i32_32 : BitVec 32 := 0#32
  let c1_i32_34 : BitVec 32 := 1#32
  let arg37 : BitVec 32 := Scf.iv c0_i32_32 c1_i32_34 k1_t3
  let c16_i32_251 : BitVec 32 := 16#32
  let v960 : BitVec 32 := Scalar.muli arg37 c16_i32_251
  let c3_i32 : BitVec 32 := 3#32
  let v961 : BitVec 32 := Scalar.addi v960 c3_i32
  let v987 : Index := Scalar.indexCast v961
  let c48_258 : Index := 48#32
  ![v987.toNat, 48]
def k1_off177 (k1_t3 : Fin k1_t3_loop.trips) : Fin 2 → Nat :=
  let c0_i32_32 : BitVec 32 := 0#32
  let c1_i32_34 : BitVec 32 := 1#32
  let arg37 : BitVec 32 := Scf.iv c0_i32_32 c1_i32_34 k1_t3
  let c16_i32_251 : BitVec 32 := 16#32
  let v960 : BitVec 32 := Scalar.muli arg37 c16_i32_251
  let c3_i32 : BitVec 32 := 3#32
  let v961 : BitVec 32 := Scalar.addi v960 c3_i32
  let v995 : Index := Scalar.indexCast v961
  let c64_260 : Index := 64#32
  ![v995.toNat, 64]
def k1_off178 (k1_t3 : Fin k1_t3_loop.trips) : Fin 2 → Nat :=
  let c0_i32_32 : BitVec 32 := 0#32
  let c1_i32_34 : BitVec 32 := 1#32
  let arg37 : BitVec 32 := Scf.iv c0_i32_32 c1_i32_34 k1_t3
  let c16_i32_251 : BitVec 32 := 16#32
  let v960 : BitVec 32 := Scalar.muli arg37 c16_i32_251
  let c3_i32 : BitVec 32 := 3#32
  let v961 : BitVec 32 := Scalar.addi v960 c3_i32
  let v1003 : Index := Scalar.indexCast v961
  let c80_262 : Index := 80#32
  ![v1003.toNat, 80]
def k1_off179 (k1_t3 : Fin k1_t3_loop.trips) : Fin 2 → Nat :=
  let c0_i32_32 : BitVec 32 := 0#32
  let c1_i32_34 : BitVec 32 := 1#32
  let arg37 : BitVec 32 := Scf.iv c0_i32_32 c1_i32_34 k1_t3
  let c16_i32_251 : BitVec 32 := 16#32
  let v960 : BitVec 32 := Scalar.muli arg37 c16_i32_251
  let c3_i32 : BitVec 32 := 3#32
  let v961 : BitVec 32 := Scalar.addi v960 c3_i32
  let v1011 : Index := Scalar.indexCast v961
  let c96_264 : Index := 96#32
  ![v1011.toNat, 96]
def k1_off180 (k1_t3 : Fin k1_t3_loop.trips) : Fin 2 → Nat :=
  let c0_i32_32 : BitVec 32 := 0#32
  let c1_i32_34 : BitVec 32 := 1#32
  let arg37 : BitVec 32 := Scf.iv c0_i32_32 c1_i32_34 k1_t3
  let c16_i32_251 : BitVec 32 := 16#32
  let v960 : BitVec 32 := Scalar.muli arg37 c16_i32_251
  let c3_i32 : BitVec 32 := 3#32
  let v961 : BitVec 32 := Scalar.addi v960 c3_i32
  let v1019 : Index := Scalar.indexCast v961
  let c112_266 : Index := 112#32
  ![v1019.toNat, 112]
def k1_off181 (k1_t3 : Fin k1_t3_loop.trips) : Fin 2 → Nat :=
  let c0_i32_32 : BitVec 32 := 0#32
  let c1_i32_34 : BitVec 32 := 1#32
  let arg37 : BitVec 32 := Scf.iv c0_i32_32 c1_i32_34 k1_t3
  let c16_i32_251 : BitVec 32 := 16#32
  let v960 : BitVec 32 := Scalar.muli arg37 c16_i32_251
  let c3_i32 : BitVec 32 := 3#32
  let v961 : BitVec 32 := Scalar.addi v960 c3_i32
  let v1027 : Index := Scalar.indexCast v961
  let c128_268 : Index := 128#32
  ![v1027.toNat, 128]
def k1_off182 (k1_t3 : Fin k1_t3_loop.trips) : Fin 2 → Nat :=
  let c0_i32_32 : BitVec 32 := 0#32
  let c1_i32_34 : BitVec 32 := 1#32
  let arg37 : BitVec 32 := Scf.iv c0_i32_32 c1_i32_34 k1_t3
  let c16_i32_251 : BitVec 32 := 16#32
  let v960 : BitVec 32 := Scalar.muli arg37 c16_i32_251
  let c3_i32 : BitVec 32 := 3#32
  let v961 : BitVec 32 := Scalar.addi v960 c3_i32
  let v1035 : Index := Scalar.indexCast v961
  let c144_270 : Index := 144#32
  ![v1035.toNat, 144]
def k1_off183 (k1_t3 : Fin k1_t3_loop.trips) : Fin 2 → Nat :=
  let c0_i32_32 : BitVec 32 := 0#32
  let c1_i32_34 : BitVec 32 := 1#32
  let arg37 : BitVec 32 := Scf.iv c0_i32_32 c1_i32_34 k1_t3
  let c16_i32_251 : BitVec 32 := 16#32
  let v960 : BitVec 32 := Scalar.muli arg37 c16_i32_251
  let c3_i32 : BitVec 32 := 3#32
  let v961 : BitVec 32 := Scalar.addi v960 c3_i32
  let v1043 : Index := Scalar.indexCast v961
  let c160_272 : Index := 160#32
  ![v1043.toNat, 160]
def k1_off184 (k1_t3 : Fin k1_t3_loop.trips) : Fin 2 → Nat :=
  let c0_i32_32 : BitVec 32 := 0#32
  let c1_i32_34 : BitVec 32 := 1#32
  let arg37 : BitVec 32 := Scf.iv c0_i32_32 c1_i32_34 k1_t3
  let c16_i32_251 : BitVec 32 := 16#32
  let v960 : BitVec 32 := Scalar.muli arg37 c16_i32_251
  let c3_i32 : BitVec 32 := 3#32
  let v961 : BitVec 32 := Scalar.addi v960 c3_i32
  let v1051 : Index := Scalar.indexCast v961
  let c176_274 : Index := 176#32
  ![v1051.toNat, 176]
def k1_off185 (k1_t3 : Fin k1_t3_loop.trips) : Fin 2 → Nat :=
  let c0_i32_32 : BitVec 32 := 0#32
  let c1_i32_34 : BitVec 32 := 1#32
  let arg37 : BitVec 32 := Scf.iv c0_i32_32 c1_i32_34 k1_t3
  let c16_i32_251 : BitVec 32 := 16#32
  let v960 : BitVec 32 := Scalar.muli arg37 c16_i32_251
  let c3_i32 : BitVec 32 := 3#32
  let v961 : BitVec 32 := Scalar.addi v960 c3_i32
  let v1059 : Index := Scalar.indexCast v961
  let c192_276 : Index := 192#32
  ![v1059.toNat, 192]
def k1_off186 (k1_t3 : Fin k1_t3_loop.trips) : Fin 2 → Nat :=
  let c0_i32_32 : BitVec 32 := 0#32
  let c1_i32_34 : BitVec 32 := 1#32
  let arg37 : BitVec 32 := Scf.iv c0_i32_32 c1_i32_34 k1_t3
  let c16_i32_251 : BitVec 32 := 16#32
  let v960 : BitVec 32 := Scalar.muli arg37 c16_i32_251
  let c3_i32 : BitVec 32 := 3#32
  let v961 : BitVec 32 := Scalar.addi v960 c3_i32
  let v1067 : Index := Scalar.indexCast v961
  let c208_278 : Index := 208#32
  ![v1067.toNat, 208]
def k1_off187 (k1_t3 : Fin k1_t3_loop.trips) : Fin 2 → Nat :=
  let c0_i32_32 : BitVec 32 := 0#32
  let c1_i32_34 : BitVec 32 := 1#32
  let arg37 : BitVec 32 := Scf.iv c0_i32_32 c1_i32_34 k1_t3
  let c16_i32_251 : BitVec 32 := 16#32
  let v960 : BitVec 32 := Scalar.muli arg37 c16_i32_251
  let c3_i32 : BitVec 32 := 3#32
  let v961 : BitVec 32 := Scalar.addi v960 c3_i32
  let v1075 : Index := Scalar.indexCast v961
  let c224_280 : Index := 224#32
  ![v1075.toNat, 224]
def k1_off188 (k1_t3 : Fin k1_t3_loop.trips) : Fin 2 → Nat :=
  let c0_i32_32 : BitVec 32 := 0#32
  let c1_i32_34 : BitVec 32 := 1#32
  let arg37 : BitVec 32 := Scf.iv c0_i32_32 c1_i32_34 k1_t3
  let c16_i32_251 : BitVec 32 := 16#32
  let v960 : BitVec 32 := Scalar.muli arg37 c16_i32_251
  let c3_i32 : BitVec 32 := 3#32
  let v961 : BitVec 32 := Scalar.addi v960 c3_i32
  let v1083 : Index := Scalar.indexCast v961
  let c240_282 : Index := 240#32
  ![v1083.toNat, 240]
def k1_off189 (k1_t3 : Fin k1_t3_loop.trips) : Fin 2 → Nat :=
  let c0_i32_32 : BitVec 32 := 0#32
  let c1_i32_34 : BitVec 32 := 1#32
  let arg37 : BitVec 32 := Scf.iv c0_i32_32 c1_i32_34 k1_t3
  let c16_i32_251 : BitVec 32 := 16#32
  let v960 : BitVec 32 := Scalar.muli arg37 c16_i32_251
  let c3_i32 : BitVec 32 := 3#32
  let v961 : BitVec 32 := Scalar.addi v960 c3_i32
  let v1091 : Index := Scalar.indexCast v961
  let c256_284 : Index := 256#32
  ![v1091.toNat, 256]
def k1_off190 (k1_t3 : Fin k1_t3_loop.trips) : Fin 2 → Nat :=
  let c0_i32_32 : BitVec 32 := 0#32
  let c1_i32_34 : BitVec 32 := 1#32
  let arg37 : BitVec 32 := Scf.iv c0_i32_32 c1_i32_34 k1_t3
  let c16_i32_251 : BitVec 32 := 16#32
  let v960 : BitVec 32 := Scalar.muli arg37 c16_i32_251
  let c3_i32 : BitVec 32 := 3#32
  let v961 : BitVec 32 := Scalar.addi v960 c3_i32
  let v1099 : Index := Scalar.indexCast v961
  let c272_286 : Index := 272#32
  ![v1099.toNat, 272]
def k1_off191 (k1_t3 : Fin k1_t3_loop.trips) : Fin 2 → Nat :=
  let c0_i32_32 : BitVec 32 := 0#32
  let c1_i32_34 : BitVec 32 := 1#32
  let arg37 : BitVec 32 := Scf.iv c0_i32_32 c1_i32_34 k1_t3
  let c16_i32_251 : BitVec 32 := 16#32
  let v960 : BitVec 32 := Scalar.muli arg37 c16_i32_251
  let c3_i32 : BitVec 32 := 3#32
  let v961 : BitVec 32 := Scalar.addi v960 c3_i32
  let v1107 : Index := Scalar.indexCast v961
  let c288_288 : Index := 288#32
  ![v1107.toNat, 288]
def k1_off192 (k1_t3 : Fin k1_t3_loop.trips) : Fin 2 → Nat :=
  let c0_i32_32 : BitVec 32 := 0#32
  let c1_i32_34 : BitVec 32 := 1#32
  let arg37 : BitVec 32 := Scf.iv c0_i32_32 c1_i32_34 k1_t3
  let c16_i32_251 : BitVec 32 := 16#32
  let v960 : BitVec 32 := Scalar.muli arg37 c16_i32_251
  let c3_i32 : BitVec 32 := 3#32
  let v961 : BitVec 32 := Scalar.addi v960 c3_i32
  let v1115 : Index := Scalar.indexCast v961
  let c304_290 : Index := 304#32
  ![v1115.toNat, 304]
def k1_off193 (k1_t3 : Fin k1_t3_loop.trips) : Fin 2 → Nat :=
  let c0_i32_32 : BitVec 32 := 0#32
  let c1_i32_34 : BitVec 32 := 1#32
  let arg37 : BitVec 32 := Scf.iv c0_i32_32 c1_i32_34 k1_t3
  let c16_i32_251 : BitVec 32 := 16#32
  let v960 : BitVec 32 := Scalar.muli arg37 c16_i32_251
  let c3_i32 : BitVec 32 := 3#32
  let v961 : BitVec 32 := Scalar.addi v960 c3_i32
  let v1123 : Index := Scalar.indexCast v961
  let c320_292 : Index := 320#32
  ![v1123.toNat, 320]
def k1_off194 (k1_t3 : Fin k1_t3_loop.trips) : Fin 2 → Nat :=
  let c0_i32_32 : BitVec 32 := 0#32
  let c1_i32_34 : BitVec 32 := 1#32
  let arg37 : BitVec 32 := Scf.iv c0_i32_32 c1_i32_34 k1_t3
  let c16_i32_251 : BitVec 32 := 16#32
  let v960 : BitVec 32 := Scalar.muli arg37 c16_i32_251
  let c3_i32 : BitVec 32 := 3#32
  let v961 : BitVec 32 := Scalar.addi v960 c3_i32
  let v1131 : Index := Scalar.indexCast v961
  let c336_294 : Index := 336#32
  ![v1131.toNat, 336]
def k1_off195 (k1_t3 : Fin k1_t3_loop.trips) : Fin 2 → Nat :=
  let c0_i32_32 : BitVec 32 := 0#32
  let c1_i32_34 : BitVec 32 := 1#32
  let arg37 : BitVec 32 := Scf.iv c0_i32_32 c1_i32_34 k1_t3
  let c16_i32_251 : BitVec 32 := 16#32
  let v960 : BitVec 32 := Scalar.muli arg37 c16_i32_251
  let c3_i32 : BitVec 32 := 3#32
  let v961 : BitVec 32 := Scalar.addi v960 c3_i32
  let v1139 : Index := Scalar.indexCast v961
  let c352_296 : Index := 352#32
  ![v1139.toNat, 352]
def k1_off196 (k1_t3 : Fin k1_t3_loop.trips) : Fin 2 → Nat :=
  let c0_i32_32 : BitVec 32 := 0#32
  let c1_i32_34 : BitVec 32 := 1#32
  let arg37 : BitVec 32 := Scf.iv c0_i32_32 c1_i32_34 k1_t3
  let c16_i32_251 : BitVec 32 := 16#32
  let v960 : BitVec 32 := Scalar.muli arg37 c16_i32_251
  let c3_i32 : BitVec 32 := 3#32
  let v961 : BitVec 32 := Scalar.addi v960 c3_i32
  let v1147 : Index := Scalar.indexCast v961
  let c368_298 : Index := 368#32
  ![v1147.toNat, 368]
def k1_off197 (v959 : BitVec 32) : Fin 2 → Nat :=
  let v1155 : Index := Scalar.indexCast v959
  let c0_300 : Index := 0#32
  ![v1155.toNat, 0]

def k1_off198 (v959 : BitVec 32) : Fin 2 → Nat :=
  let v1159 : Index := Scalar.indexCast v959
  let c16_301 : Index := 16#32
  ![v1159.toNat, 16]
def k1_off199 (v959 : BitVec 32) : Fin 2 → Nat :=
  let v1163 : Index := Scalar.indexCast v959
  let c32_302 : Index := 32#32
  ![v1163.toNat, 32]
def k1_off200 (v959 : BitVec 32) : Fin 2 → Nat :=
  let v1167 : Index := Scalar.indexCast v959
  let c48_303 : Index := 48#32
  ![v1167.toNat, 48]
def k1_off201 (v959 : BitVec 32) : Fin 2 → Nat :=
  let v1171 : Index := Scalar.indexCast v959
  let c64_304 : Index := 64#32
  ![v1171.toNat, 64]
def k1_off202 (v959 : BitVec 32) : Fin 2 → Nat :=
  let v1175 : Index := Scalar.indexCast v959
  let c80_305 : Index := 80#32
  ![v1175.toNat, 80]
def k1_off203 (v959 : BitVec 32) : Fin 2 → Nat :=
  let v1179 : Index := Scalar.indexCast v959
  let c96_306 : Index := 96#32
  ![v1179.toNat, 96]
def k1_off204 (v959 : BitVec 32) : Fin 2 → Nat :=
  let v1183 : Index := Scalar.indexCast v959
  let c112_307 : Index := 112#32
  ![v1183.toNat, 112]
def k1_off205 (v959 : BitVec 32) : Fin 2 → Nat :=
  let v1187 : Index := Scalar.indexCast v959
  let c128_308 : Index := 128#32
  ![v1187.toNat, 128]
def k1_off206 (v959 : BitVec 32) : Fin 2 → Nat :=
  let v1191 : Index := Scalar.indexCast v959
  let c144_309 : Index := 144#32
  ![v1191.toNat, 144]
def k1_off207 (v959 : BitVec 32) : Fin 2 → Nat :=
  let v1195 : Index := Scalar.indexCast v959
  let c160_310 : Index := 160#32
  ![v1195.toNat, 160]
def k1_off208 (v959 : BitVec 32) : Fin 2 → Nat :=
  let v1199 : Index := Scalar.indexCast v959
  let c176_311 : Index := 176#32
  ![v1199.toNat, 176]
def k1_off209 (v959 : BitVec 32) : Fin 2 → Nat :=
  let v1203 : Index := Scalar.indexCast v959
  let c192_312 : Index := 192#32
  ![v1203.toNat, 192]
def k1_off210 (v959 : BitVec 32) : Fin 2 → Nat :=
  let v1207 : Index := Scalar.indexCast v959
  let c208_313 : Index := 208#32
  ![v1207.toNat, 208]
def k1_off211 (v959 : BitVec 32) : Fin 2 → Nat :=
  let v1211 : Index := Scalar.indexCast v959
  let c224_314 : Index := 224#32
  ![v1211.toNat, 224]
def k1_off212 (v959 : BitVec 32) : Fin 2 → Nat :=
  let v1215 : Index := Scalar.indexCast v959
  let c240_315 : Index := 240#32
  ![v1215.toNat, 240]
def k1_off213 (v959 : BitVec 32) : Fin 2 → Nat :=
  let v1219 : Index := Scalar.indexCast v959
  let c256_316 : Index := 256#32
  ![v1219.toNat, 256]
def k1_off214 (v959 : BitVec 32) : Fin 2 → Nat :=
  let v1223 : Index := Scalar.indexCast v959
  let c272_317 : Index := 272#32
  ![v1223.toNat, 272]
def k1_off215 (v959 : BitVec 32) : Fin 2 → Nat :=
  let v1227 : Index := Scalar.indexCast v959
  let c288_318 : Index := 288#32
  ![v1227.toNat, 288]
def k1_off216 (v959 : BitVec 32) : Fin 2 → Nat :=
  let v1231 : Index := Scalar.indexCast v959
  let c304_319 : Index := 304#32
  ![v1231.toNat, 304]
def k1_off217 (v959 : BitVec 32) : Fin 2 → Nat :=
  let v1235 : Index := Scalar.indexCast v959
  let c320_320 : Index := 320#32
  ![v1235.toNat, 320]
def k1_off218 (v959 : BitVec 32) : Fin 2 → Nat :=
  let v1239 : Index := Scalar.indexCast v959
  let c336_321 : Index := 336#32
  ![v1239.toNat, 336]
def k1_off219 (v959 : BitVec 32) : Fin 2 → Nat :=
  let v1243 : Index := Scalar.indexCast v959
  let c352_322 : Index := 352#32
  ![v1243.toNat, 352]
def k1_off220 (v959 : BitVec 32) : Fin 2 → Nat :=
  let v1247 : Index := Scalar.indexCast v959
  let c368_323 : Index := 368#32
  ![v1247.toNat, 368]

def k1_chk4 (i : grid1.Coords) (v959 : BitVec 32) : Prop :=
  (∀ (k1_h1 : k1_cond1 i = 1#1), ∀ a, (k1_off197 v959) a + S1x16.size a ≤ S256x384.size a) ∧
  (∀ (k1_h1 : k1_cond1 i = 1#1), ∀ a, (k1_off198 v959) a + S1x16.size a ≤ S256x384.size a) ∧
  (∀ (k1_h1 : k1_cond1 i = 1#1), ∀ a, (k1_off199 v959) a + S1x16.size a ≤ S256x384.size a) ∧
  (∀ (k1_h1 : k1_cond1 i = 1#1), ∀ a, (k1_off200 v959) a + S1x16.size a ≤ S256x384.size a) ∧
  (∀ (k1_h1 : k1_cond1 i = 1#1), ∀ a, (k1_off201 v959) a + S1x16.size a ≤ S256x384.size a) ∧
  (∀ (k1_h1 : k1_cond1 i = 1#1), ∀ a, (k1_off202 v959) a + S1x16.size a ≤ S256x384.size a) ∧
  (∀ (k1_h1 : k1_cond1 i = 1#1), ∀ a, (k1_off203 v959) a + S1x16.size a ≤ S256x384.size a) ∧
  (∀ (k1_h1 : k1_cond1 i = 1#1), ∀ a, (k1_off204 v959) a + S1x16.size a ≤ S256x384.size a) ∧
  (∀ (k1_h1 : k1_cond1 i = 1#1), ∀ a, (k1_off205 v959) a + S1x16.size a ≤ S256x384.size a) ∧
  (∀ (k1_h1 : k1_cond1 i = 1#1), ∀ a, (k1_off206 v959) a + S1x16.size a ≤ S256x384.size a) ∧
  (∀ (k1_h1 : k1_cond1 i = 1#1), ∀ a, (k1_off207 v959) a + S1x16.size a ≤ S256x384.size a) ∧
  (∀ (k1_h1 : k1_cond1 i = 1#1), ∀ a, (k1_off208 v959) a + S1x16.size a ≤ S256x384.size a) ∧
  (∀ (k1_h1 : k1_cond1 i = 1#1), ∀ a, (k1_off209 v959) a + S1x16.size a ≤ S256x384.size a) ∧
  (∀ (k1_h1 : k1_cond1 i = 1#1), ∀ a, (k1_off210 v959) a + S1x16.size a ≤ S256x384.size a) ∧
  (∀ (k1_h1 : k1_cond1 i = 1#1), ∀ a, (k1_off211 v959) a + S1x16.size a ≤ S256x384.size a) ∧
  (∀ (k1_h1 : k1_cond1 i = 1#1), ∀ a, (k1_off212 v959) a + S1x16.size a ≤ S256x384.size a) ∧
  (∀ (k1_h1 : k1_cond1 i = 1#1), ∀ a, (k1_off213 v959) a + S1x16.size a ≤ S256x384.size a) ∧
  (∀ (k1_h1 : k1_cond1 i = 1#1), ∀ a, (k1_off214 v959) a + S1x16.size a ≤ S256x384.size a) ∧
  (∀ (k1_h1 : k1_cond1 i = 1#1), ∀ a, (k1_off215 v959) a + S1x16.size a ≤ S256x384.size a) ∧
  (∀ (k1_h1 : k1_cond1 i = 1#1), ∀ a, (k1_off216 v959) a + S1x16.size a ≤ S256x384.size a) ∧
  (∀ (k1_h1 : k1_cond1 i = 1#1), ∀ a, (k1_off217 v959) a + S1x16.size a ≤ S256x384.size a) ∧
  (∀ (k1_h1 : k1_cond1 i = 1#1), ∀ a, (k1_off218 v959) a + S1x16.size a ≤ S256x384.size a) ∧
  (∀ (k1_h1 : k1_cond1 i = 1#1), ∀ a, (k1_off219 v959) a + S1x16.size a ≤ S256x384.size a) ∧
  (∀ (k1_h1 : k1_cond1 i = 1#1), ∀ a, (k1_off220 v959) a + S1x16.size a ≤ S256x384.size a)
theorem k1_off197_inb : ∀ (i : grid1.Coords) (v959 : BitVec 32) (k1_hw4 : k1_chk4 i v959), ∀ (k1_h1 : k1_cond1 i = 1#1), ∀ a, (k1_off197 v959) a + S1x16.size a ≤ S256x384.size a := fun i v959 k1_hw4 k1_h1 => k1_hw4.1 k1_h1
theorem k1_off198_inb : ∀ (i : grid1.Coords) (v959 : BitVec 32) (k1_hw4 : k1_chk4 i v959), ∀ (k1_h1 : k1_cond1 i = 1#1), ∀ a, (k1_off198 v959) a + S1x16.size a ≤ S256x384.size a := fun i v959 k1_hw4 k1_h1 => k1_hw4.2.1 k1_h1
theorem k1_off199_inb : ∀ (i : grid1.Coords) (v959 : BitVec 32) (k1_hw4 : k1_chk4 i v959), ∀ (k1_h1 : k1_cond1 i = 1#1), ∀ a, (k1_off199 v959) a + S1x16.size a ≤ S256x384.size a := fun i v959 k1_hw4 k1_h1 => k1_hw4.2.2.1 k1_h1
theorem k1_off200_inb : ∀ (i : grid1.Coords) (v959 : BitVec 32) (k1_hw4 : k1_chk4 i v959), ∀ (k1_h1 : k1_cond1 i = 1#1), ∀ a, (k1_off200 v959) a + S1x16.size a ≤ S256x384.size a := fun i v959 k1_hw4 k1_h1 => k1_hw4.2.2.2.1 k1_h1
theorem k1_off201_inb : ∀ (i : grid1.Coords) (v959 : BitVec 32) (k1_hw4 : k1_chk4 i v959), ∀ (k1_h1 : k1_cond1 i = 1#1), ∀ a, (k1_off201 v959) a + S1x16.size a ≤ S256x384.size a := fun i v959 k1_hw4 k1_h1 => k1_hw4.2.2.2.2.1 k1_h1
theorem k1_off202_inb : ∀ (i : grid1.Coords) (v959 : BitVec 32) (k1_hw4 : k1_chk4 i v959), ∀ (k1_h1 : k1_cond1 i = 1#1), ∀ a, (k1_off202 v959) a + S1x16.size a ≤ S256x384.size a := fun i v959 k1_hw4 k1_h1 => k1_hw4.2.2.2.2.2.1 k1_h1
theorem k1_off203_inb : ∀ (i : grid1.Coords) (v959 : BitVec 32) (k1_hw4 : k1_chk4 i v959), ∀ (k1_h1 : k1_cond1 i = 1#1), ∀ a, (k1_off203 v959) a + S1x16.size a ≤ S256x384.size a := fun i v959 k1_hw4 k1_h1 => k1_hw4.2.2.2.2.2.2.1 k1_h1
theorem k1_off204_inb : ∀ (i : grid1.Coords) (v959 : BitVec 32) (k1_hw4 : k1_chk4 i v959), ∀ (k1_h1 : k1_cond1 i = 1#1), ∀ a, (k1_off204 v959) a + S1x16.size a ≤ S256x384.size a := fun i v959 k1_hw4 k1_h1 => k1_hw4.2.2.2.2.2.2.2.1 k1_h1
theorem k1_off205_inb : ∀ (i : grid1.Coords) (v959 : BitVec 32) (k1_hw4 : k1_chk4 i v959), ∀ (k1_h1 : k1_cond1 i = 1#1), ∀ a, (k1_off205 v959) a + S1x16.size a ≤ S256x384.size a := fun i v959 k1_hw4 k1_h1 => k1_hw4.2.2.2.2.2.2.2.2.1 k1_h1
theorem k1_off206_inb : ∀ (i : grid1.Coords) (v959 : BitVec 32) (k1_hw4 : k1_chk4 i v959), ∀ (k1_h1 : k1_cond1 i = 1#1), ∀ a, (k1_off206 v959) a + S1x16.size a ≤ S256x384.size a := fun i v959 k1_hw4 k1_h1 => k1_hw4.2.2.2.2.2.2.2.2.2.1 k1_h1
theorem k1_off207_inb : ∀ (i : grid1.Coords) (v959 : BitVec 32) (k1_hw4 : k1_chk4 i v959), ∀ (k1_h1 : k1_cond1 i = 1#1), ∀ a, (k1_off207 v959) a + S1x16.size a ≤ S256x384.size a := fun i v959 k1_hw4 k1_h1 => k1_hw4.2.2.2.2.2.2.2.2.2.2.1 k1_h1
theorem k1_off208_inb : ∀ (i : grid1.Coords) (v959 : BitVec 32) (k1_hw4 : k1_chk4 i v959), ∀ (k1_h1 : k1_cond1 i = 1#1), ∀ a, (k1_off208 v959) a + S1x16.size a ≤ S256x384.size a := fun i v959 k1_hw4 k1_h1 => k1_hw4.2.2.2.2.2.2.2.2.2.2.2.1 k1_h1
theorem k1_off209_inb : ∀ (i : grid1.Coords) (v959 : BitVec 32) (k1_hw4 : k1_chk4 i v959), ∀ (k1_h1 : k1_cond1 i = 1#1), ∀ a, (k1_off209 v959) a + S1x16.size a ≤ S256x384.size a := fun i v959 k1_hw4 k1_h1 => k1_hw4.2.2.2.2.2.2.2.2.2.2.2.2.1 k1_h1
theorem k1_off210_inb : ∀ (i : grid1.Coords) (v959 : BitVec 32) (k1_hw4 : k1_chk4 i v959), ∀ (k1_h1 : k1_cond1 i = 1#1), ∀ a, (k1_off210 v959) a + S1x16.size a ≤ S256x384.size a := fun i v959 k1_hw4 k1_h1 => k1_hw4.2.2.2.2.2.2.2.2.2.2.2.2.2.1 k1_h1
theorem k1_off211_inb : ∀ (i : grid1.Coords) (v959 : BitVec 32) (k1_hw4 : k1_chk4 i v959), ∀ (k1_h1 : k1_cond1 i = 1#1), ∀ a, (k1_off211 v959) a + S1x16.size a ≤ S256x384.size a := fun i v959 k1_hw4 k1_h1 => k1_hw4.2.2.2.2.2.2.2.2.2.2.2.2.2.2.1 k1_h1
theorem k1_off212_inb : ∀ (i : grid1.Coords) (v959 : BitVec 32) (k1_hw4 : k1_chk4 i v959), ∀ (k1_h1 : k1_cond1 i = 1#1), ∀ a, (k1_off212 v959) a + S1x16.size a ≤ S256x384.size a := fun i v959 k1_hw4 k1_h1 => k1_hw4.2.2.2.2.2.2.2.2.2.2.2.2.2.2.2.1 k1_h1
theorem k1_off213_inb : ∀ (i : grid1.Coords) (v959 : BitVec 32) (k1_hw4 : k1_chk4 i v959), ∀ (k1_h1 : k1_cond1 i = 1#1), ∀ a, (k1_off213 v959) a + S1x16.size a ≤ S256x384.size a := fun i v959 k1_hw4 k1_h1 => k1_hw4.2.2.2.2.2.2.2.2.2.2.2.2.2.2.2.2.1 k1_h1
theorem k1_off214_inb : ∀ (i : grid1.Coords) (v959 : BitVec 32) (k1_hw4 : k1_chk4 i v959), ∀ (k1_h1 : k1_cond1 i = 1#1), ∀ a, (k1_off214 v959) a + S1x16.size a ≤ S256x384.size a := fun i v959 k1_hw4 k1_h1 => k1_hw4.2.2.2.2.2.2.2.2.2.2.2.2.2.2.2.2.2.1 k1_h1
theorem k1_off215_inb : ∀ (i : grid1.Coords) (v959 : BitVec 32) (k1_hw4 : k1_chk4 i v959), ∀ (k1_h1 : k1_cond1 i = 1#1), ∀ a, (k1_off215 v959) a + S1x16.size a ≤ S256x384.size a := fun i v959 k1_hw4 k1_h1 => k1_hw4.2.2.2.2.2.2.2.2.2.2.2.2.2.2.2.2.2.2.1 k1_h1
theorem k1_off216_inb : ∀ (i : grid1.Coords) (v959 : BitVec 32) (k1_hw4 : k1_chk4 i v959), ∀ (k1_h1 : k1_cond1 i = 1#1), ∀ a, (k1_off216 v959) a + S1x16.size a ≤ S256x384.size a := fun i v959 k1_hw4 k1_h1 => k1_hw4.2.2.2.2.2.2.2.2.2.2.2.2.2.2.2.2.2.2.2.1 k1_h1
theorem k1_off217_inb : ∀ (i : grid1.Coords) (v959 : BitVec 32) (k1_hw4 : k1_chk4 i v959), ∀ (k1_h1 : k1_cond1 i = 1#1), ∀ a, (k1_off217 v959) a + S1x16.size a ≤ S256x384.size a := fun i v959 k1_hw4 k1_h1 => k1_hw4.2.2.2.2.2.2.2.2.2.2.2.2.2.2.2.2.2.2.2.2.1 k1_h1
theorem k1_off218_inb : ∀ (i : grid1.Coords) (v959 : BitVec 32) (k1_hw4 : k1_chk4 i v959), ∀ (k1_h1 : k1_cond1 i = 1#1), ∀ a, (k1_off218 v959) a + S1x16.size a ≤ S256x384.size a := fun i v959 k1_hw4 k1_h1 => k1_hw4.2.2.2.2.2.2.2.2.2.2.2.2.2.2.2.2.2.2.2.2.2.1 k1_h1
theorem k1_off219_inb : ∀ (i : grid1.Coords) (v959 : BitVec 32) (k1_hw4 : k1_chk4 i v959), ∀ (k1_h1 : k1_cond1 i = 1#1), ∀ a, (k1_off219 v959) a + S1x16.size a ≤ S256x384.size a := fun i v959 k1_hw4 k1_h1 => k1_hw4.2.2.2.2.2.2.2.2.2.2.2.2.2.2.2.2.2.2.2.2.2.2.1 k1_h1
theorem k1_off220_inb : ∀ (i : grid1.Coords) (v959 : BitVec 32) (k1_hw4 : k1_chk4 i v959), ∀ (k1_h1 : k1_cond1 i = 1#1), ∀ a, (k1_off220 v959) a + S1x16.size a ≤ S256x384.size a := fun i v959 k1_hw4 k1_h1 => k1_hw4.2.2.2.2.2.2.2.2.2.2.2.2.2.2.2.2.2.2.2.2.2.2.2 k1_h1

def k1_off221 (k1_t3 : Fin k1_t3_loop.trips) : Fin 2 → Nat :=
  let c0_i32_32 : BitVec 32 := 0#32
  let c1_i32_34 : BitVec 32 := 1#32
  let arg37 : BitVec 32 := Scf.iv c0_i32_32 c1_i32_34 k1_t3
  let c16_i32_324 : BitVec 32 := 16#32
  let v1253 : BitVec 32 := Scalar.muli arg37 c16_i32_324
  let c4_i32 : BitVec 32 := 4#32
  let v1254 : BitVec 32 := Scalar.addi v1253 c4_i32
  let v1256 : Index := Scalar.indexCast v1254
  let c0_325 : Index := 0#32
  ![v1256.toNat, 0]
def k1_off222 (k1_t3 : Fin k1_t3_loop.trips) : Fin 2 → Nat :=
  let c0_i32_32 : BitVec 32 := 0#32
  let c1_i32_34 : BitVec 32 := 1#32
  let arg37 : BitVec 32 := Scf.iv c0_i32_32 c1_i32_34 k1_t3
  let c16_i32_324 : BitVec 32 := 16#32
  let v1253 : BitVec 32 := Scalar.muli arg37 c16_i32_324
  let c4_i32 : BitVec 32 := 4#32
  let v1254 : BitVec 32 := Scalar.addi v1253 c4_i32
  let v1264 : Index := Scalar.indexCast v1254
  let c16_327 : Index := 16#32
  ![v1264.toNat, 16]
def k1_off223 (k1_t3 : Fin k1_t3_loop.trips) : Fin 2 → Nat :=
  let c0_i32_32 : BitVec 32 := 0#32
  let c1_i32_34 : BitVec 32 := 1#32
  let arg37 : BitVec 32 := Scf.iv c0_i32_32 c1_i32_34 k1_t3
  let c16_i32_324 : BitVec 32 := 16#32
  let v1253 : BitVec 32 := Scalar.muli arg37 c16_i32_324
  let c4_i32 : BitVec 32 := 4#32
  let v1254 : BitVec 32 := Scalar.addi v1253 c4_i32
  let v1272 : Index := Scalar.indexCast v1254
  let c32_329 : Index := 32#32
  ![v1272.toNat, 32]
def k1_off224 (k1_t3 : Fin k1_t3_loop.trips) : Fin 2 → Nat :=
  let c0_i32_32 : BitVec 32 := 0#32
  let c1_i32_34 : BitVec 32 := 1#32
  let arg37 : BitVec 32 := Scf.iv c0_i32_32 c1_i32_34 k1_t3
  let c16_i32_324 : BitVec 32 := 16#32
  let v1253 : BitVec 32 := Scalar.muli arg37 c16_i32_324
  let c4_i32 : BitVec 32 := 4#32
  let v1254 : BitVec 32 := Scalar.addi v1253 c4_i32
  let v1280 : Index := Scalar.indexCast v1254
  let c48_331 : Index := 48#32
  ![v1280.toNat, 48]
def k1_off225 (k1_t3 : Fin k1_t3_loop.trips) : Fin 2 → Nat :=
  let c0_i32_32 : BitVec 32 := 0#32
  let c1_i32_34 : BitVec 32 := 1#32
  let arg37 : BitVec 32 := Scf.iv c0_i32_32 c1_i32_34 k1_t3
  let c16_i32_324 : BitVec 32 := 16#32
  let v1253 : BitVec 32 := Scalar.muli arg37 c16_i32_324
  let c4_i32 : BitVec 32 := 4#32
  let v1254 : BitVec 32 := Scalar.addi v1253 c4_i32
  let v1288 : Index := Scalar.indexCast v1254
  let c64_333 : Index := 64#32
  ![v1288.toNat, 64]
def k1_off226 (k1_t3 : Fin k1_t3_loop.trips) : Fin 2 → Nat :=
  let c0_i32_32 : BitVec 32 := 0#32
  let c1_i32_34 : BitVec 32 := 1#32
  let arg37 : BitVec 32 := Scf.iv c0_i32_32 c1_i32_34 k1_t3
  let c16_i32_324 : BitVec 32 := 16#32
  let v1253 : BitVec 32 := Scalar.muli arg37 c16_i32_324
  let c4_i32 : BitVec 32 := 4#32
  let v1254 : BitVec 32 := Scalar.addi v1253 c4_i32
  let v1296 : Index := Scalar.indexCast v1254
  let c80_335 : Index := 80#32
  ![v1296.toNat, 80]
def k1_off227 (k1_t3 : Fin k1_t3_loop.trips) : Fin 2 → Nat :=
  let c0_i32_32 : BitVec 32 := 0#32
  let c1_i32_34 : BitVec 32 := 1#32
  let arg37 : BitVec 32 := Scf.iv c0_i32_32 c1_i32_34 k1_t3
  let c16_i32_324 : BitVec 32 := 16#32
  let v1253 : BitVec 32 := Scalar.muli arg37 c16_i32_324
  let c4_i32 : BitVec 32 := 4#32
  let v1254 : BitVec 32 := Scalar.addi v1253 c4_i32
  let v1304 : Index := Scalar.indexCast v1254
  let c96_337 : Index := 96#32
  ![v1304.toNat, 96]
def k1_off228 (k1_t3 : Fin k1_t3_loop.trips) : Fin 2 → Nat :=
  let c0_i32_32 : BitVec 32 := 0#32
  let c1_i32_34 : BitVec 32 := 1#32
  let arg37 : BitVec 32 := Scf.iv c0_i32_32 c1_i32_34 k1_t3
  let c16_i32_324 : BitVec 32 := 16#32
  let v1253 : BitVec 32 := Scalar.muli arg37 c16_i32_324
  let c4_i32 : BitVec 32 := 4#32
  let v1254 : BitVec 32 := Scalar.addi v1253 c4_i32
  let v1312 : Index := Scalar.indexCast v1254
  let c112_339 : Index := 112#32
  ![v1312.toNat, 112]
def k1_off229 (k1_t3 : Fin k1_t3_loop.trips) : Fin 2 → Nat :=
  let c0_i32_32 : BitVec 32 := 0#32
  let c1_i32_34 : BitVec 32 := 1#32
  let arg37 : BitVec 32 := Scf.iv c0_i32_32 c1_i32_34 k1_t3
  let c16_i32_324 : BitVec 32 := 16#32
  let v1253 : BitVec 32 := Scalar.muli arg37 c16_i32_324
  let c4_i32 : BitVec 32 := 4#32
  let v1254 : BitVec 32 := Scalar.addi v1253 c4_i32
  let v1320 : Index := Scalar.indexCast v1254
  let c128_341 : Index := 128#32
  ![v1320.toNat, 128]
def k1_off230 (k1_t3 : Fin k1_t3_loop.trips) : Fin 2 → Nat :=
  let c0_i32_32 : BitVec 32 := 0#32
  let c1_i32_34 : BitVec 32 := 1#32
  let arg37 : BitVec 32 := Scf.iv c0_i32_32 c1_i32_34 k1_t3
  let c16_i32_324 : BitVec 32 := 16#32
  let v1253 : BitVec 32 := Scalar.muli arg37 c16_i32_324
  let c4_i32 : BitVec 32 := 4#32
  let v1254 : BitVec 32 := Scalar.addi v1253 c4_i32
  let v1328 : Index := Scalar.indexCast v1254
  let c144_343 : Index := 144#32
  ![v1328.toNat, 144]
def k1_off231 (k1_t3 : Fin k1_t3_loop.trips) : Fin 2 → Nat :=
  let c0_i32_32 : BitVec 32 := 0#32
  let c1_i32_34 : BitVec 32 := 1#32
  let arg37 : BitVec 32 := Scf.iv c0_i32_32 c1_i32_34 k1_t3
  let c16_i32_324 : BitVec 32 := 16#32
  let v1253 : BitVec 32 := Scalar.muli arg37 c16_i32_324
  let c4_i32 : BitVec 32 := 4#32
  let v1254 : BitVec 32 := Scalar.addi v1253 c4_i32
  let v1336 : Index := Scalar.indexCast v1254
  let c160_345 : Index := 160#32
  ![v1336.toNat, 160]
def k1_off232 (k1_t3 : Fin k1_t3_loop.trips) : Fin 2 → Nat :=
  let c0_i32_32 : BitVec 32 := 0#32
  let c1_i32_34 : BitVec 32 := 1#32
  let arg37 : BitVec 32 := Scf.iv c0_i32_32 c1_i32_34 k1_t3
  let c16_i32_324 : BitVec 32 := 16#32
  let v1253 : BitVec 32 := Scalar.muli arg37 c16_i32_324
  let c4_i32 : BitVec 32 := 4#32
  let v1254 : BitVec 32 := Scalar.addi v1253 c4_i32
  let v1344 : Index := Scalar.indexCast v1254
  let c176_347 : Index := 176#32
  ![v1344.toNat, 176]
def k1_off233 (k1_t3 : Fin k1_t3_loop.trips) : Fin 2 → Nat :=
  let c0_i32_32 : BitVec 32 := 0#32
  let c1_i32_34 : BitVec 32 := 1#32
  let arg37 : BitVec 32 := Scf.iv c0_i32_32 c1_i32_34 k1_t3
  let c16_i32_324 : BitVec 32 := 16#32
  let v1253 : BitVec 32 := Scalar.muli arg37 c16_i32_324
  let c4_i32 : BitVec 32 := 4#32
  let v1254 : BitVec 32 := Scalar.addi v1253 c4_i32
  let v1352 : Index := Scalar.indexCast v1254
  let c192_349 : Index := 192#32
  ![v1352.toNat, 192]
def k1_off234 (k1_t3 : Fin k1_t3_loop.trips) : Fin 2 → Nat :=
  let c0_i32_32 : BitVec 32 := 0#32
  let c1_i32_34 : BitVec 32 := 1#32
  let arg37 : BitVec 32 := Scf.iv c0_i32_32 c1_i32_34 k1_t3
  let c16_i32_324 : BitVec 32 := 16#32
  let v1253 : BitVec 32 := Scalar.muli arg37 c16_i32_324
  let c4_i32 : BitVec 32 := 4#32
  let v1254 : BitVec 32 := Scalar.addi v1253 c4_i32
  let v1360 : Index := Scalar.indexCast v1254
  let c208_351 : Index := 208#32
  ![v1360.toNat, 208]
def k1_off235 (k1_t3 : Fin k1_t3_loop.trips) : Fin 2 → Nat :=
  let c0_i32_32 : BitVec 32 := 0#32
  let c1_i32_34 : BitVec 32 := 1#32
  let arg37 : BitVec 32 := Scf.iv c0_i32_32 c1_i32_34 k1_t3
  let c16_i32_324 : BitVec 32 := 16#32
  let v1253 : BitVec 32 := Scalar.muli arg37 c16_i32_324
  let c4_i32 : BitVec 32 := 4#32
  let v1254 : BitVec 32 := Scalar.addi v1253 c4_i32
  let v1368 : Index := Scalar.indexCast v1254
  let c224_353 : Index := 224#32
  ![v1368.toNat, 224]
def k1_off236 (k1_t3 : Fin k1_t3_loop.trips) : Fin 2 → Nat :=
  let c0_i32_32 : BitVec 32 := 0#32
  let c1_i32_34 : BitVec 32 := 1#32
  let arg37 : BitVec 32 := Scf.iv c0_i32_32 c1_i32_34 k1_t3
  let c16_i32_324 : BitVec 32 := 16#32
  let v1253 : BitVec 32 := Scalar.muli arg37 c16_i32_324
  let c4_i32 : BitVec 32 := 4#32
  let v1254 : BitVec 32 := Scalar.addi v1253 c4_i32
  let v1376 : Index := Scalar.indexCast v1254
  let c240_355 : Index := 240#32
  ![v1376.toNat, 240]
def k1_off237 (k1_t3 : Fin k1_t3_loop.trips) : Fin 2 → Nat :=
  let c0_i32_32 : BitVec 32 := 0#32
  let c1_i32_34 : BitVec 32 := 1#32
  let arg37 : BitVec 32 := Scf.iv c0_i32_32 c1_i32_34 k1_t3
  let c16_i32_324 : BitVec 32 := 16#32
  let v1253 : BitVec 32 := Scalar.muli arg37 c16_i32_324
  let c4_i32 : BitVec 32 := 4#32
  let v1254 : BitVec 32 := Scalar.addi v1253 c4_i32
  let v1384 : Index := Scalar.indexCast v1254
  let c256_357 : Index := 256#32
  ![v1384.toNat, 256]
def k1_off238 (k1_t3 : Fin k1_t3_loop.trips) : Fin 2 → Nat :=
  let c0_i32_32 : BitVec 32 := 0#32
  let c1_i32_34 : BitVec 32 := 1#32
  let arg37 : BitVec 32 := Scf.iv c0_i32_32 c1_i32_34 k1_t3
  let c16_i32_324 : BitVec 32 := 16#32
  let v1253 : BitVec 32 := Scalar.muli arg37 c16_i32_324
  let c4_i32 : BitVec 32 := 4#32
  let v1254 : BitVec 32 := Scalar.addi v1253 c4_i32
  let v1392 : Index := Scalar.indexCast v1254
  let c272_359 : Index := 272#32
  ![v1392.toNat, 272]
def k1_off239 (k1_t3 : Fin k1_t3_loop.trips) : Fin 2 → Nat :=
  let c0_i32_32 : BitVec 32 := 0#32
  let c1_i32_34 : BitVec 32 := 1#32
  let arg37 : BitVec 32 := Scf.iv c0_i32_32 c1_i32_34 k1_t3
  let c16_i32_324 : BitVec 32 := 16#32
  let v1253 : BitVec 32 := Scalar.muli arg37 c16_i32_324
  let c4_i32 : BitVec 32 := 4#32
  let v1254 : BitVec 32 := Scalar.addi v1253 c4_i32
  let v1400 : Index := Scalar.indexCast v1254
  let c288_361 : Index := 288#32
  ![v1400.toNat, 288]
def k1_off240 (k1_t3 : Fin k1_t3_loop.trips) : Fin 2 → Nat :=
  let c0_i32_32 : BitVec 32 := 0#32
  let c1_i32_34 : BitVec 32 := 1#32
  let arg37 : BitVec 32 := Scf.iv c0_i32_32 c1_i32_34 k1_t3
  let c16_i32_324 : BitVec 32 := 16#32
  let v1253 : BitVec 32 := Scalar.muli arg37 c16_i32_324
  let c4_i32 : BitVec 32 := 4#32
  let v1254 : BitVec 32 := Scalar.addi v1253 c4_i32
  let v1408 : Index := Scalar.indexCast v1254
  let c304_363 : Index := 304#32
  ![v1408.toNat, 304]
def k1_off241 (k1_t3 : Fin k1_t3_loop.trips) : Fin 2 → Nat :=
  let c0_i32_32 : BitVec 32 := 0#32
  let c1_i32_34 : BitVec 32 := 1#32
  let arg37 : BitVec 32 := Scf.iv c0_i32_32 c1_i32_34 k1_t3
  let c16_i32_324 : BitVec 32 := 16#32
  let v1253 : BitVec 32 := Scalar.muli arg37 c16_i32_324
  let c4_i32 : BitVec 32 := 4#32
  let v1254 : BitVec 32 := Scalar.addi v1253 c4_i32
  let v1416 : Index := Scalar.indexCast v1254
  let c320_365 : Index := 320#32
  ![v1416.toNat, 320]
def k1_off242 (k1_t3 : Fin k1_t3_loop.trips) : Fin 2 → Nat :=
  let c0_i32_32 : BitVec 32 := 0#32
  let c1_i32_34 : BitVec 32 := 1#32
  let arg37 : BitVec 32 := Scf.iv c0_i32_32 c1_i32_34 k1_t3
  let c16_i32_324 : BitVec 32 := 16#32
  let v1253 : BitVec 32 := Scalar.muli arg37 c16_i32_324
  let c4_i32 : BitVec 32 := 4#32
  let v1254 : BitVec 32 := Scalar.addi v1253 c4_i32
  let v1424 : Index := Scalar.indexCast v1254
  let c336_367 : Index := 336#32
  ![v1424.toNat, 336]
def k1_off243 (k1_t3 : Fin k1_t3_loop.trips) : Fin 2 → Nat :=
  let c0_i32_32 : BitVec 32 := 0#32
  let c1_i32_34 : BitVec 32 := 1#32
  let arg37 : BitVec 32 := Scf.iv c0_i32_32 c1_i32_34 k1_t3
  let c16_i32_324 : BitVec 32 := 16#32
  let v1253 : BitVec 32 := Scalar.muli arg37 c16_i32_324
  let c4_i32 : BitVec 32 := 4#32
  let v1254 : BitVec 32 := Scalar.addi v1253 c4_i32
  let v1432 : Index := Scalar.indexCast v1254
  let c352_369 : Index := 352#32
  ![v1432.toNat, 352]
def k1_off244 (k1_t3 : Fin k1_t3_loop.trips) : Fin 2 → Nat :=
  let c0_i32_32 : BitVec 32 := 0#32
  let c1_i32_34 : BitVec 32 := 1#32
  let arg37 : BitVec 32 := Scf.iv c0_i32_32 c1_i32_34 k1_t3
  let c16_i32_324 : BitVec 32 := 16#32
  let v1253 : BitVec 32 := Scalar.muli arg37 c16_i32_324
  let c4_i32 : BitVec 32 := 4#32
  let v1254 : BitVec 32 := Scalar.addi v1253 c4_i32
  let v1440 : Index := Scalar.indexCast v1254
  let c368_371 : Index := 368#32
  ![v1440.toNat, 368]
def k1_off245 (v1252 : BitVec 32) : Fin 2 → Nat :=
  let v1448 : Index := Scalar.indexCast v1252
  let c0_373 : Index := 0#32
  ![v1448.toNat, 0]

def k1_off246 (v1252 : BitVec 32) : Fin 2 → Nat :=
  let v1452 : Index := Scalar.indexCast v1252
  let c16_374 : Index := 16#32
  ![v1452.toNat, 16]
def k1_off247 (v1252 : BitVec 32) : Fin 2 → Nat :=
  let v1456 : Index := Scalar.indexCast v1252
  let c32_375 : Index := 32#32
  ![v1456.toNat, 32]
def k1_off248 (v1252 : BitVec 32) : Fin 2 → Nat :=
  let v1460 : Index := Scalar.indexCast v1252
  let c48_376 : Index := 48#32
  ![v1460.toNat, 48]
def k1_off249 (v1252 : BitVec 32) : Fin 2 → Nat :=
  let v1464 : Index := Scalar.indexCast v1252
  let c64_377 : Index := 64#32
  ![v1464.toNat, 64]
def k1_off250 (v1252 : BitVec 32) : Fin 2 → Nat :=
  let v1468 : Index := Scalar.indexCast v1252
  let c80_378 : Index := 80#32
  ![v1468.toNat, 80]
def k1_off251 (v1252 : BitVec 32) : Fin 2 → Nat :=
  let v1472 : Index := Scalar.indexCast v1252
  let c96_379 : Index := 96#32
  ![v1472.toNat, 96]
def k1_off252 (v1252 : BitVec 32) : Fin 2 → Nat :=
  let v1476 : Index := Scalar.indexCast v1252
  let c112_380 : Index := 112#32
  ![v1476.toNat, 112]
def k1_off253 (v1252 : BitVec 32) : Fin 2 → Nat :=
  let v1480 : Index := Scalar.indexCast v1252
  let c128_381 : Index := 128#32
  ![v1480.toNat, 128]
def k1_off254 (v1252 : BitVec 32) : Fin 2 → Nat :=
  let v1484 : Index := Scalar.indexCast v1252
  let c144_382 : Index := 144#32
  ![v1484.toNat, 144]
def k1_off255 (v1252 : BitVec 32) : Fin 2 → Nat :=
  let v1488 : Index := Scalar.indexCast v1252
  let c160_383 : Index := 160#32
  ![v1488.toNat, 160]
def k1_off256 (v1252 : BitVec 32) : Fin 2 → Nat :=
  let v1492 : Index := Scalar.indexCast v1252
  let c176_384 : Index := 176#32
  ![v1492.toNat, 176]
def k1_off257 (v1252 : BitVec 32) : Fin 2 → Nat :=
  let v1496 : Index := Scalar.indexCast v1252
  let c192_385 : Index := 192#32
  ![v1496.toNat, 192]
def k1_off258 (v1252 : BitVec 32) : Fin 2 → Nat :=
  let v1500 : Index := Scalar.indexCast v1252
  let c208_386 : Index := 208#32
  ![v1500.toNat, 208]
def k1_off259 (v1252 : BitVec 32) : Fin 2 → Nat :=
  let v1504 : Index := Scalar.indexCast v1252
  let c224_387 : Index := 224#32
  ![v1504.toNat, 224]
def k1_off260 (v1252 : BitVec 32) : Fin 2 → Nat :=
  let v1508 : Index := Scalar.indexCast v1252
  let c240_388 : Index := 240#32
  ![v1508.toNat, 240]
def k1_off261 (v1252 : BitVec 32) : Fin 2 → Nat :=
  let v1512 : Index := Scalar.indexCast v1252
  let c256_389 : Index := 256#32
  ![v1512.toNat, 256]
def k1_off262 (v1252 : BitVec 32) : Fin 2 → Nat :=
  let v1516 : Index := Scalar.indexCast v1252
  let c272_390 : Index := 272#32
  ![v1516.toNat, 272]
def k1_off263 (v1252 : BitVec 32) : Fin 2 → Nat :=
  let v1520 : Index := Scalar.indexCast v1252
  let c288_391 : Index := 288#32
  ![v1520.toNat, 288]
def k1_off264 (v1252 : BitVec 32) : Fin 2 → Nat :=
  let v1524 : Index := Scalar.indexCast v1252
  let c304_392 : Index := 304#32
  ![v1524.toNat, 304]
def k1_off265 (v1252 : BitVec 32) : Fin 2 → Nat :=
  let v1528 : Index := Scalar.indexCast v1252
  let c320_393 : Index := 320#32
  ![v1528.toNat, 320]
def k1_off266 (v1252 : BitVec 32) : Fin 2 → Nat :=
  let v1532 : Index := Scalar.indexCast v1252
  let c336_394 : Index := 336#32
  ![v1532.toNat, 336]
def k1_off267 (v1252 : BitVec 32) : Fin 2 → Nat :=
  let v1536 : Index := Scalar.indexCast v1252
  let c352_395 : Index := 352#32
  ![v1536.toNat, 352]
def k1_off268 (v1252 : BitVec 32) : Fin 2 → Nat :=
  let v1540 : Index := Scalar.indexCast v1252
  let c368_396 : Index := 368#32
  ![v1540.toNat, 368]

def k1_chk5 (i : grid1.Coords) (v1252 : BitVec 32) : Prop :=
  (∀ (k1_h1 : k1_cond1 i = 1#1), ∀ a, (k1_off245 v1252) a + S1x16.size a ≤ S256x384.size a) ∧
  (∀ (k1_h1 : k1_cond1 i = 1#1), ∀ a, (k1_off246 v1252) a + S1x16.size a ≤ S256x384.size a) ∧
  (∀ (k1_h1 : k1_cond1 i = 1#1), ∀ a, (k1_off247 v1252) a + S1x16.size a ≤ S256x384.size a) ∧
  (∀ (k1_h1 : k1_cond1 i = 1#1), ∀ a, (k1_off248 v1252) a + S1x16.size a ≤ S256x384.size a) ∧
  (∀ (k1_h1 : k1_cond1 i = 1#1), ∀ a, (k1_off249 v1252) a + S1x16.size a ≤ S256x384.size a) ∧
  (∀ (k1_h1 : k1_cond1 i = 1#1), ∀ a, (k1_off250 v1252) a + S1x16.size a ≤ S256x384.size a) ∧
  (∀ (k1_h1 : k1_cond1 i = 1#1), ∀ a, (k1_off251 v1252) a + S1x16.size a ≤ S256x384.size a) ∧
  (∀ (k1_h1 : k1_cond1 i = 1#1), ∀ a, (k1_off252 v1252) a + S1x16.size a ≤ S256x384.size a) ∧
  (∀ (k1_h1 : k1_cond1 i = 1#1), ∀ a, (k1_off253 v1252) a + S1x16.size a ≤ S256x384.size a) ∧
  (∀ (k1_h1 : k1_cond1 i = 1#1), ∀ a, (k1_off254 v1252) a + S1x16.size a ≤ S256x384.size a) ∧
  (∀ (k1_h1 : k1_cond1 i = 1#1), ∀ a, (k1_off255 v1252) a + S1x16.size a ≤ S256x384.size a) ∧
  (∀ (k1_h1 : k1_cond1 i = 1#1), ∀ a, (k1_off256 v1252) a + S1x16.size a ≤ S256x384.size a) ∧
  (∀ (k1_h1 : k1_cond1 i = 1#1), ∀ a, (k1_off257 v1252) a + S1x16.size a ≤ S256x384.size a) ∧
  (∀ (k1_h1 : k1_cond1 i = 1#1), ∀ a, (k1_off258 v1252) a + S1x16.size a ≤ S256x384.size a) ∧
  (∀ (k1_h1 : k1_cond1 i = 1#1), ∀ a, (k1_off259 v1252) a + S1x16.size a ≤ S256x384.size a) ∧
  (∀ (k1_h1 : k1_cond1 i = 1#1), ∀ a, (k1_off260 v1252) a + S1x16.size a ≤ S256x384.size a) ∧
  (∀ (k1_h1 : k1_cond1 i = 1#1), ∀ a, (k1_off261 v1252) a + S1x16.size a ≤ S256x384.size a) ∧
  (∀ (k1_h1 : k1_cond1 i = 1#1), ∀ a, (k1_off262 v1252) a + S1x16.size a ≤ S256x384.size a) ∧
  (∀ (k1_h1 : k1_cond1 i = 1#1), ∀ a, (k1_off263 v1252) a + S1x16.size a ≤ S256x384.size a) ∧
  (∀ (k1_h1 : k1_cond1 i = 1#1), ∀ a, (k1_off264 v1252) a + S1x16.size a ≤ S256x384.size a) ∧
  (∀ (k1_h1 : k1_cond1 i = 1#1), ∀ a, (k1_off265 v1252) a + S1x16.size a ≤ S256x384.size a) ∧
  (∀ (k1_h1 : k1_cond1 i = 1#1), ∀ a, (k1_off266 v1252) a + S1x16.size a ≤ S256x384.size a) ∧
  (∀ (k1_h1 : k1_cond1 i = 1#1), ∀ a, (k1_off267 v1252) a + S1x16.size a ≤ S256x384.size a) ∧
  (∀ (k1_h1 : k1_cond1 i = 1#1), ∀ a, (k1_off268 v1252) a + S1x16.size a ≤ S256x384.size a)
theorem k1_off245_inb : ∀ (i : grid1.Coords) (v1252 : BitVec 32) (k1_hw5 : k1_chk5 i v1252), ∀ (k1_h1 : k1_cond1 i = 1#1), ∀ a, (k1_off245 v1252) a + S1x16.size a ≤ S256x384.size a := fun i v1252 k1_hw5 k1_h1 => k1_hw5.1 k1_h1
theorem k1_off246_inb : ∀ (i : grid1.Coords) (v1252 : BitVec 32) (k1_hw5 : k1_chk5 i v1252), ∀ (k1_h1 : k1_cond1 i = 1#1), ∀ a, (k1_off246 v1252) a + S1x16.size a ≤ S256x384.size a := fun i v1252 k1_hw5 k1_h1 => k1_hw5.2.1 k1_h1
theorem k1_off247_inb : ∀ (i : grid1.Coords) (v1252 : BitVec 32) (k1_hw5 : k1_chk5 i v1252), ∀ (k1_h1 : k1_cond1 i = 1#1), ∀ a, (k1_off247 v1252) a + S1x16.size a ≤ S256x384.size a := fun i v1252 k1_hw5 k1_h1 => k1_hw5.2.2.1 k1_h1
theorem k1_off248_inb : ∀ (i : grid1.Coords) (v1252 : BitVec 32) (k1_hw5 : k1_chk5 i v1252), ∀ (k1_h1 : k1_cond1 i = 1#1), ∀ a, (k1_off248 v1252) a + S1x16.size a ≤ S256x384.size a := fun i v1252 k1_hw5 k1_h1 => k1_hw5.2.2.2.1 k1_h1
theorem k1_off249_inb : ∀ (i : grid1.Coords) (v1252 : BitVec 32) (k1_hw5 : k1_chk5 i v1252), ∀ (k1_h1 : k1_cond1 i = 1#1), ∀ a, (k1_off249 v1252) a + S1x16.size a ≤ S256x384.size a := fun i v1252 k1_hw5 k1_h1 => k1_hw5.2.2.2.2.1 k1_h1
theorem k1_off250_inb : ∀ (i : grid1.Coords) (v1252 : BitVec 32) (k1_hw5 : k1_chk5 i v1252), ∀ (k1_h1 : k1_cond1 i = 1#1), ∀ a, (k1_off250 v1252) a + S1x16.size a ≤ S256x384.size a := fun i v1252 k1_hw5 k1_h1 => k1_hw5.2.2.2.2.2.1 k1_h1
theorem k1_off251_inb : ∀ (i : grid1.Coords) (v1252 : BitVec 32) (k1_hw5 : k1_chk5 i v1252), ∀ (k1_h1 : k1_cond1 i = 1#1), ∀ a, (k1_off251 v1252) a + S1x16.size a ≤ S256x384.size a := fun i v1252 k1_hw5 k1_h1 => k1_hw5.2.2.2.2.2.2.1 k1_h1
theorem k1_off252_inb : ∀ (i : grid1.Coords) (v1252 : BitVec 32) (k1_hw5 : k1_chk5 i v1252), ∀ (k1_h1 : k1_cond1 i = 1#1), ∀ a, (k1_off252 v1252) a + S1x16.size a ≤ S256x384.size a := fun i v1252 k1_hw5 k1_h1 => k1_hw5.2.2.2.2.2.2.2.1 k1_h1
theorem k1_off253_inb : ∀ (i : grid1.Coords) (v1252 : BitVec 32) (k1_hw5 : k1_chk5 i v1252), ∀ (k1_h1 : k1_cond1 i = 1#1), ∀ a, (k1_off253 v1252) a + S1x16.size a ≤ S256x384.size a := fun i v1252 k1_hw5 k1_h1 => k1_hw5.2.2.2.2.2.2.2.2.1 k1_h1
theorem k1_off254_inb : ∀ (i : grid1.Coords) (v1252 : BitVec 32) (k1_hw5 : k1_chk5 i v1252), ∀ (k1_h1 : k1_cond1 i = 1#1), ∀ a, (k1_off254 v1252) a + S1x16.size a ≤ S256x384.size a := fun i v1252 k1_hw5 k1_h1 => k1_hw5.2.2.2.2.2.2.2.2.2.1 k1_h1
theorem k1_off255_inb : ∀ (i : grid1.Coords) (v1252 : BitVec 32) (k1_hw5 : k1_chk5 i v1252), ∀ (k1_h1 : k1_cond1 i = 1#1), ∀ a, (k1_off255 v1252) a + S1x16.size a ≤ S256x384.size a := fun i v1252 k1_hw5 k1_h1 => k1_hw5.2.2.2.2.2.2.2.2.2.2.1 k1_h1
theorem k1_off256_inb : ∀ (i : grid1.Coords) (v1252 : BitVec 32) (k1_hw5 : k1_chk5 i v1252), ∀ (k1_h1 : k1_cond1 i = 1#1), ∀ a, (k1_off256 v1252) a + S1x16.size a ≤ S256x384.size a := fun i v1252 k1_hw5 k1_h1 => k1_hw5.2.2.2.2.2.2.2.2.2.2.2.1 k1_h1
theorem k1_off257_inb : ∀ (i : grid1.Coords) (v1252 : BitVec 32) (k1_hw5 : k1_chk5 i v1252), ∀ (k1_h1 : k1_cond1 i = 1#1), ∀ a, (k1_off257 v1252) a + S1x16.size a ≤ S256x384.size a := fun i v1252 k1_hw5 k1_h1 => k1_hw5.2.2.2.2.2.2.2.2.2.2.2.2.1 k1_h1
theorem k1_off258_inb : ∀ (i : grid1.Coords) (v1252 : BitVec 32) (k1_hw5 : k1_chk5 i v1252), ∀ (k1_h1 : k1_cond1 i = 1#1), ∀ a, (k1_off258 v1252) a + S1x16.size a ≤ S256x384.size a := fun i v1252 k1_hw5 k1_h1 => k1_hw5.2.2.2.2.2.2.2.2.2.2.2.2.2.1 k1_h1
theorem k1_off259_inb : ∀ (i : grid1.Coords) (v1252 : BitVec 32) (k1_hw5 : k1_chk5 i v1252), ∀ (k1_h1 : k1_cond1 i = 1#1), ∀ a, (k1_off259 v1252) a + S1x16.size a ≤ S256x384.size a := fun i v1252 k1_hw5 k1_h1 => k1_hw5.2.2.2.2.2.2.2.2.2.2.2.2.2.2.1 k1_h1
theorem k1_off260_inb : ∀ (i : grid1.Coords) (v1252 : BitVec 32) (k1_hw5 : k1_chk5 i v1252), ∀ (k1_h1 : k1_cond1 i = 1#1), ∀ a, (k1_off260 v1252) a + S1x16.size a ≤ S256x384.size a := fun i v1252 k1_hw5 k1_h1 => k1_hw5.2.2.2.2.2.2.2.2.2.2.2.2.2.2.2.1 k1_h1
theorem k1_off261_inb : ∀ (i : grid1.Coords) (v1252 : BitVec 32) (k1_hw5 : k1_chk5 i v1252), ∀ (k1_h1 : k1_cond1 i = 1#1), ∀ a, (k1_off261 v1252) a + S1x16.size a ≤ S256x384.size a := fun i v1252 k1_hw5 k1_h1 => k1_hw5.2.2.2.2.2.2.2.2.2.2.2.2.2.2.2.2.1 k1_h1
theorem k1_off262_inb : ∀ (i : grid1.Coords) (v1252 : BitVec 32) (k1_hw5 : k1_chk5 i v1252), ∀ (k1_h1 : k1_cond1 i = 1#1), ∀ a, (k1_off262 v1252) a + S1x16.size a ≤ S256x384.size a := fun i v1252 k1_hw5 k1_h1 => k1_hw5.2.2.2.2.2.2.2.2.2.2.2.2.2.2.2.2.2.1 k1_h1
theorem k1_off263_inb : ∀ (i : grid1.Coords) (v1252 : BitVec 32) (k1_hw5 : k1_chk5 i v1252), ∀ (k1_h1 : k1_cond1 i = 1#1), ∀ a, (k1_off263 v1252) a + S1x16.size a ≤ S256x384.size a := fun i v1252 k1_hw5 k1_h1 => k1_hw5.2.2.2.2.2.2.2.2.2.2.2.2.2.2.2.2.2.2.1 k1_h1
theorem k1_off264_inb : ∀ (i : grid1.Coords) (v1252 : BitVec 32) (k1_hw5 : k1_chk5 i v1252), ∀ (k1_h1 : k1_cond1 i = 1#1), ∀ a, (k1_off264 v1252) a + S1x16.size a ≤ S256x384.size a := fun i v1252 k1_hw5 k1_h1 => k1_hw5.2.2.2.2.2.2.2.2.2.2.2.2.2.2.2.2.2.2.2.1 k1_h1
theorem k1_off265_inb : ∀ (i : grid1.Coords) (v1252 : BitVec 32) (k1_hw5 : k1_chk5 i v1252), ∀ (k1_h1 : k1_cond1 i = 1#1), ∀ a, (k1_off265 v1252) a + S1x16.size a ≤ S256x384.size a := fun i v1252 k1_hw5 k1_h1 => k1_hw5.2.2.2.2.2.2.2.2.2.2.2.2.2.2.2.2.2.2.2.2.1 k1_h1
theorem k1_off266_inb : ∀ (i : grid1.Coords) (v1252 : BitVec 32) (k1_hw5 : k1_chk5 i v1252), ∀ (k1_h1 : k1_cond1 i = 1#1), ∀ a, (k1_off266 v1252) a + S1x16.size a ≤ S256x384.size a := fun i v1252 k1_hw5 k1_h1 => k1_hw5.2.2.2.2.2.2.2.2.2.2.2.2.2.2.2.2.2.2.2.2.2.1 k1_h1
theorem k1_off267_inb : ∀ (i : grid1.Coords) (v1252 : BitVec 32) (k1_hw5 : k1_chk5 i v1252), ∀ (k1_h1 : k1_cond1 i = 1#1), ∀ a, (k1_off267 v1252) a + S1x16.size a ≤ S256x384.size a := fun i v1252 k1_hw5 k1_h1 => k1_hw5.2.2.2.2.2.2.2.2.2.2.2.2.2.2.2.2.2.2.2.2.2.2.1 k1_h1
theorem k1_off268_inb : ∀ (i : grid1.Coords) (v1252 : BitVec 32) (k1_hw5 : k1_chk5 i v1252), ∀ (k1_h1 : k1_cond1 i = 1#1), ∀ a, (k1_off268 v1252) a + S1x16.size a ≤ S256x384.size a := fun i v1252 k1_hw5 k1_h1 => k1_hw5.2.2.2.2.2.2.2.2.2.2.2.2.2.2.2.2.2.2.2.2.2.2.2 k1_h1

def k1_off269 (k1_t3 : Fin k1_t3_loop.trips) : Fin 2 → Nat :=
  let c0_i32_32 : BitVec 32 := 0#32
  let c1_i32_34 : BitVec 32 := 1#32
  let arg37 : BitVec 32 := Scf.iv c0_i32_32 c1_i32_34 k1_t3
  let c16_i32_397 : BitVec 32 := 16#32
  let v1546 : BitVec 32 := Scalar.muli arg37 c16_i32_397
  let c5_i32 : BitVec 32 := 5#32
  let v1547 : BitVec 32 := Scalar.addi v1546 c5_i32
  let v1549 : Index := Scalar.indexCast v1547
  let c0_398 : Index := 0#32
  ![v1549.toNat, 0]
def k1_off270 (k1_t3 : Fin k1_t3_loop.trips) : Fin 2 → Nat :=
  let c0_i32_32 : BitVec 32 := 0#32
  let c1_i32_34 : BitVec 32 := 1#32
  let arg37 : BitVec 32 := Scf.iv c0_i32_32 c1_i32_34 k1_t3
  let c16_i32_397 : BitVec 32 := 16#32
  let v1546 : BitVec 32 := Scalar.muli arg37 c16_i32_397
  let c5_i32 : BitVec 32 := 5#32
  let v1547 : BitVec 32 := Scalar.addi v1546 c5_i32
  let v1557 : Index := Scalar.indexCast v1547
  let c16_400 : Index := 16#32
  ![v1557.toNat, 16]
def k1_off271 (k1_t3 : Fin k1_t3_loop.trips) : Fin 2 → Nat :=
  let c0_i32_32 : BitVec 32 := 0#32
  let c1_i32_34 : BitVec 32 := 1#32
  let arg37 : BitVec 32 := Scf.iv c0_i32_32 c1_i32_34 k1_t3
  let c16_i32_397 : BitVec 32 := 16#32
  let v1546 : BitVec 32 := Scalar.muli arg37 c16_i32_397
  let c5_i32 : BitVec 32 := 5#32
  let v1547 : BitVec 32 := Scalar.addi v1546 c5_i32
  let v1565 : Index := Scalar.indexCast v1547
  let c32_402 : Index := 32#32
  ![v1565.toNat, 32]
def k1_off272 (k1_t3 : Fin k1_t3_loop.trips) : Fin 2 → Nat :=
  let c0_i32_32 : BitVec 32 := 0#32
  let c1_i32_34 : BitVec 32 := 1#32
  let arg37 : BitVec 32 := Scf.iv c0_i32_32 c1_i32_34 k1_t3
  let c16_i32_397 : BitVec 32 := 16#32
  let v1546 : BitVec 32 := Scalar.muli arg37 c16_i32_397
  let c5_i32 : BitVec 32 := 5#32
  let v1547 : BitVec 32 := Scalar.addi v1546 c5_i32
  let v1573 : Index := Scalar.indexCast v1547
  let c48_404 : Index := 48#32
  ![v1573.toNat, 48]
def k1_off273 (k1_t3 : Fin k1_t3_loop.trips) : Fin 2 → Nat :=
  let c0_i32_32 : BitVec 32 := 0#32
  let c1_i32_34 : BitVec 32 := 1#32
  let arg37 : BitVec 32 := Scf.iv c0_i32_32 c1_i32_34 k1_t3
  let c16_i32_397 : BitVec 32 := 16#32
  let v1546 : BitVec 32 := Scalar.muli arg37 c16_i32_397
  let c5_i32 : BitVec 32 := 5#32
  let v1547 : BitVec 32 := Scalar.addi v1546 c5_i32
  let v1581 : Index := Scalar.indexCast v1547
  let c64_406 : Index := 64#32
  ![v1581.toNat, 64]
def k1_off274 (k1_t3 : Fin k1_t3_loop.trips) : Fin 2 → Nat :=
  let c0_i32_32 : BitVec 32 := 0#32
  let c1_i32_34 : BitVec 32 := 1#32
  let arg37 : BitVec 32 := Scf.iv c0_i32_32 c1_i32_34 k1_t3
  let c16_i32_397 : BitVec 32 := 16#32
  let v1546 : BitVec 32 := Scalar.muli arg37 c16_i32_397
  let c5_i32 : BitVec 32 := 5#32
  let v1547 : BitVec 32 := Scalar.addi v1546 c5_i32
  let v1589 : Index := Scalar.indexCast v1547
  let c80_408 : Index := 80#32
  ![v1589.toNat, 80]
def k1_off275 (k1_t3 : Fin k1_t3_loop.trips) : Fin 2 → Nat :=
  let c0_i32_32 : BitVec 32 := 0#32
  let c1_i32_34 : BitVec 32 := 1#32
  let arg37 : BitVec 32 := Scf.iv c0_i32_32 c1_i32_34 k1_t3
  let c16_i32_397 : BitVec 32 := 16#32
  let v1546 : BitVec 32 := Scalar.muli arg37 c16_i32_397
  let c5_i32 : BitVec 32 := 5#32
  let v1547 : BitVec 32 := Scalar.addi v1546 c5_i32
  let v1597 : Index := Scalar.indexCast v1547
  let c96_410 : Index := 96#32
  ![v1597.toNat, 96]
def k1_off276 (k1_t3 : Fin k1_t3_loop.trips) : Fin 2 → Nat :=
  let c0_i32_32 : BitVec 32 := 0#32
  let c1_i32_34 : BitVec 32 := 1#32
  let arg37 : BitVec 32 := Scf.iv c0_i32_32 c1_i32_34 k1_t3
  let c16_i32_397 : BitVec 32 := 16#32
  let v1546 : BitVec 32 := Scalar.muli arg37 c16_i32_397
  let c5_i32 : BitVec 32 := 5#32
  let v1547 : BitVec 32 := Scalar.addi v1546 c5_i32
  let v1605 : Index := Scalar.indexCast v1547
  let c112_412 : Index := 112#32
  ![v1605.toNat, 112]
def k1_off277 (k1_t3 : Fin k1_t3_loop.trips) : Fin 2 → Nat :=
  let c0_i32_32 : BitVec 32 := 0#32
  let c1_i32_34 : BitVec 32 := 1#32
  let arg37 : BitVec 32 := Scf.iv c0_i32_32 c1_i32_34 k1_t3
  let c16_i32_397 : BitVec 32 := 16#32
  let v1546 : BitVec 32 := Scalar.muli arg37 c16_i32_397
  let c5_i32 : BitVec 32 := 5#32
  let v1547 : BitVec 32 := Scalar.addi v1546 c5_i32
  let v1613 : Index := Scalar.indexCast v1547
  let c128_414 : Index := 128#32
  ![v1613.toNat, 128]
def k1_off278 (k1_t3 : Fin k1_t3_loop.trips) : Fin 2 → Nat :=
  let c0_i32_32 : BitVec 32 := 0#32
  let c1_i32_34 : BitVec 32 := 1#32
  let arg37 : BitVec 32 := Scf.iv c0_i32_32 c1_i32_34 k1_t3
  let c16_i32_397 : BitVec 32 := 16#32
  let v1546 : BitVec 32 := Scalar.muli arg37 c16_i32_397
  let c5_i32 : BitVec 32 := 5#32
  let v1547 : BitVec 32 := Scalar.addi v1546 c5_i32
  let v1621 : Index := Scalar.indexCast v1547
  let c144_416 : Index := 144#32
  ![v1621.toNat, 144]
def k1_off279 (k1_t3 : Fin k1_t3_loop.trips) : Fin 2 → Nat :=
  let c0_i32_32 : BitVec 32 := 0#32
  let c1_i32_34 : BitVec 32 := 1#32
  let arg37 : BitVec 32 := Scf.iv c0_i32_32 c1_i32_34 k1_t3
  let c16_i32_397 : BitVec 32 := 16#32
  let v1546 : BitVec 32 := Scalar.muli arg37 c16_i32_397
  let c5_i32 : BitVec 32 := 5#32
  let v1547 : BitVec 32 := Scalar.addi v1546 c5_i32
  let v1629 : Index := Scalar.indexCast v1547
  let c160_418 : Index := 160#32
  ![v1629.toNat, 160]
def k1_off280 (k1_t3 : Fin k1_t3_loop.trips) : Fin 2 → Nat :=
  let c0_i32_32 : BitVec 32 := 0#32
  let c1_i32_34 : BitVec 32 := 1#32
  let arg37 : BitVec 32 := Scf.iv c0_i32_32 c1_i32_34 k1_t3
  let c16_i32_397 : BitVec 32 := 16#32
  let v1546 : BitVec 32 := Scalar.muli arg37 c16_i32_397
  let c5_i32 : BitVec 32 := 5#32
  let v1547 : BitVec 32 := Scalar.addi v1546 c5_i32
  let v1637 : Index := Scalar.indexCast v1547
  let c176_420 : Index := 176#32
  ![v1637.toNat, 176]
def k1_off281 (k1_t3 : Fin k1_t3_loop.trips) : Fin 2 → Nat :=
  let c0_i32_32 : BitVec 32 := 0#32
  let c1_i32_34 : BitVec 32 := 1#32
  let arg37 : BitVec 32 := Scf.iv c0_i32_32 c1_i32_34 k1_t3
  let c16_i32_397 : BitVec 32 := 16#32
  let v1546 : BitVec 32 := Scalar.muli arg37 c16_i32_397
  let c5_i32 : BitVec 32 := 5#32
  let v1547 : BitVec 32 := Scalar.addi v1546 c5_i32
  let v1645 : Index := Scalar.indexCast v1547
  let c192_422 : Index := 192#32
  ![v1645.toNat, 192]
def k1_off282 (k1_t3 : Fin k1_t3_loop.trips) : Fin 2 → Nat :=
  let c0_i32_32 : BitVec 32 := 0#32
  let c1_i32_34 : BitVec 32 := 1#32
  let arg37 : BitVec 32 := Scf.iv c0_i32_32 c1_i32_34 k1_t3
  let c16_i32_397 : BitVec 32 := 16#32
  let v1546 : BitVec 32 := Scalar.muli arg37 c16_i32_397
  let c5_i32 : BitVec 32 := 5#32
  let v1547 : BitVec 32 := Scalar.addi v1546 c5_i32
  let v1653 : Index := Scalar.indexCast v1547
  let c208_424 : Index := 208#32
  ![v1653.toNat, 208]
def k1_off283 (k1_t3 : Fin k1_t3_loop.trips) : Fin 2 → Nat :=
  let c0_i32_32 : BitVec 32 := 0#32
  let c1_i32_34 : BitVec 32 := 1#32
  let arg37 : BitVec 32 := Scf.iv c0_i32_32 c1_i32_34 k1_t3
  let c16_i32_397 : BitVec 32 := 16#32
  let v1546 : BitVec 32 := Scalar.muli arg37 c16_i32_397
  let c5_i32 : BitVec 32 := 5#32
  let v1547 : BitVec 32 := Scalar.addi v1546 c5_i32
  let v1661 : Index := Scalar.indexCast v1547
  let c224_426 : Index := 224#32
  ![v1661.toNat, 224]
def k1_off284 (k1_t3 : Fin k1_t3_loop.trips) : Fin 2 → Nat :=
  let c0_i32_32 : BitVec 32 := 0#32
  let c1_i32_34 : BitVec 32 := 1#32
  let arg37 : BitVec 32 := Scf.iv c0_i32_32 c1_i32_34 k1_t3
  let c16_i32_397 : BitVec 32 := 16#32
  let v1546 : BitVec 32 := Scalar.muli arg37 c16_i32_397
  let c5_i32 : BitVec 32 := 5#32
  let v1547 : BitVec 32 := Scalar.addi v1546 c5_i32
  let v1669 : Index := Scalar.indexCast v1547
  let c240_428 : Index := 240#32
  ![v1669.toNat, 240]
def k1_off285 (k1_t3 : Fin k1_t3_loop.trips) : Fin 2 → Nat :=
  let c0_i32_32 : BitVec 32 := 0#32
  let c1_i32_34 : BitVec 32 := 1#32
  let arg37 : BitVec 32 := Scf.iv c0_i32_32 c1_i32_34 k1_t3
  let c16_i32_397 : BitVec 32 := 16#32
  let v1546 : BitVec 32 := Scalar.muli arg37 c16_i32_397
  let c5_i32 : BitVec 32 := 5#32
  let v1547 : BitVec 32 := Scalar.addi v1546 c5_i32
  let v1677 : Index := Scalar.indexCast v1547
  let c256_430 : Index := 256#32
  ![v1677.toNat, 256]
def k1_off286 (k1_t3 : Fin k1_t3_loop.trips) : Fin 2 → Nat :=
  let c0_i32_32 : BitVec 32 := 0#32
  let c1_i32_34 : BitVec 32 := 1#32
  let arg37 : BitVec 32 := Scf.iv c0_i32_32 c1_i32_34 k1_t3
  let c16_i32_397 : BitVec 32 := 16#32
  let v1546 : BitVec 32 := Scalar.muli arg37 c16_i32_397
  let c5_i32 : BitVec 32 := 5#32
  let v1547 : BitVec 32 := Scalar.addi v1546 c5_i32
  let v1685 : Index := Scalar.indexCast v1547
  let c272_432 : Index := 272#32
  ![v1685.toNat, 272]
def k1_off287 (k1_t3 : Fin k1_t3_loop.trips) : Fin 2 → Nat :=
  let c0_i32_32 : BitVec 32 := 0#32
  let c1_i32_34 : BitVec 32 := 1#32
  let arg37 : BitVec 32 := Scf.iv c0_i32_32 c1_i32_34 k1_t3
  let c16_i32_397 : BitVec 32 := 16#32
  let v1546 : BitVec 32 := Scalar.muli arg37 c16_i32_397
  let c5_i32 : BitVec 32 := 5#32
  let v1547 : BitVec 32 := Scalar.addi v1546 c5_i32
  let v1693 : Index := Scalar.indexCast v1547
  let c288_434 : Index := 288#32
  ![v1693.toNat, 288]
def k1_off288 (k1_t3 : Fin k1_t3_loop.trips) : Fin 2 → Nat :=
  let c0_i32_32 : BitVec 32 := 0#32
  let c1_i32_34 : BitVec 32 := 1#32
  let arg37 : BitVec 32 := Scf.iv c0_i32_32 c1_i32_34 k1_t3
  let c16_i32_397 : BitVec 32 := 16#32
  let v1546 : BitVec 32 := Scalar.muli arg37 c16_i32_397
  let c5_i32 : BitVec 32 := 5#32
  let v1547 : BitVec 32 := Scalar.addi v1546 c5_i32
  let v1701 : Index := Scalar.indexCast v1547
  let c304_436 : Index := 304#32
  ![v1701.toNat, 304]
def k1_off289 (k1_t3 : Fin k1_t3_loop.trips) : Fin 2 → Nat :=
  let c0_i32_32 : BitVec 32 := 0#32
  let c1_i32_34 : BitVec 32 := 1#32
  let arg37 : BitVec 32 := Scf.iv c0_i32_32 c1_i32_34 k1_t3
  let c16_i32_397 : BitVec 32 := 16#32
  let v1546 : BitVec 32 := Scalar.muli arg37 c16_i32_397
  let c5_i32 : BitVec 32 := 5#32
  let v1547 : BitVec 32 := Scalar.addi v1546 c5_i32
  let v1709 : Index := Scalar.indexCast v1547
  let c320_438 : Index := 320#32
  ![v1709.toNat, 320]
def k1_off290 (k1_t3 : Fin k1_t3_loop.trips) : Fin 2 → Nat :=
  let c0_i32_32 : BitVec 32 := 0#32
  let c1_i32_34 : BitVec 32 := 1#32
  let arg37 : BitVec 32 := Scf.iv c0_i32_32 c1_i32_34 k1_t3
  let c16_i32_397 : BitVec 32 := 16#32
  let v1546 : BitVec 32 := Scalar.muli arg37 c16_i32_397
  let c5_i32 : BitVec 32 := 5#32
  let v1547 : BitVec 32 := Scalar.addi v1546 c5_i32
  let v1717 : Index := Scalar.indexCast v1547
  let c336_440 : Index := 336#32
  ![v1717.toNat, 336]
def k1_off291 (k1_t3 : Fin k1_t3_loop.trips) : Fin 2 → Nat :=
  let c0_i32_32 : BitVec 32 := 0#32
  let c1_i32_34 : BitVec 32 := 1#32
  let arg37 : BitVec 32 := Scf.iv c0_i32_32 c1_i32_34 k1_t3
  let c16_i32_397 : BitVec 32 := 16#32
  let v1546 : BitVec 32 := Scalar.muli arg37 c16_i32_397
  let c5_i32 : BitVec 32 := 5#32
  let v1547 : BitVec 32 := Scalar.addi v1546 c5_i32
  let v1725 : Index := Scalar.indexCast v1547
  let c352_442 : Index := 352#32
  ![v1725.toNat, 352]
def k1_off292 (k1_t3 : Fin k1_t3_loop.trips) : Fin 2 → Nat :=
  let c0_i32_32 : BitVec 32 := 0#32
  let c1_i32_34 : BitVec 32 := 1#32
  let arg37 : BitVec 32 := Scf.iv c0_i32_32 c1_i32_34 k1_t3
  let c16_i32_397 : BitVec 32 := 16#32
  let v1546 : BitVec 32 := Scalar.muli arg37 c16_i32_397
  let c5_i32 : BitVec 32 := 5#32
  let v1547 : BitVec 32 := Scalar.addi v1546 c5_i32
  let v1733 : Index := Scalar.indexCast v1547
  let c368_444 : Index := 368#32
  ![v1733.toNat, 368]
def k1_off293 (v1545 : BitVec 32) : Fin 2 → Nat :=
  let v1741 : Index := Scalar.indexCast v1545
  let c0_446 : Index := 0#32
  ![v1741.toNat, 0]

def k1_off294 (v1545 : BitVec 32) : Fin 2 → Nat :=
  let v1745 : Index := Scalar.indexCast v1545
  let c16_447 : Index := 16#32
  ![v1745.toNat, 16]
def k1_off295 (v1545 : BitVec 32) : Fin 2 → Nat :=
  let v1749 : Index := Scalar.indexCast v1545
  let c32_448 : Index := 32#32
  ![v1749.toNat, 32]
def k1_off296 (v1545 : BitVec 32) : Fin 2 → Nat :=
  let v1753 : Index := Scalar.indexCast v1545
  let c48_449 : Index := 48#32
  ![v1753.toNat, 48]
def k1_off297 (v1545 : BitVec 32) : Fin 2 → Nat :=
  let v1757 : Index := Scalar.indexCast v1545
  let c64_450 : Index := 64#32
  ![v1757.toNat, 64]
def k1_off298 (v1545 : BitVec 32) : Fin 2 → Nat :=
  let v1761 : Index := Scalar.indexCast v1545
  let c80_451 : Index := 80#32
  ![v1761.toNat, 80]
def k1_off299 (v1545 : BitVec 32) : Fin 2 → Nat :=
  let v1765 : Index := Scalar.indexCast v1545
  let c96_452 : Index := 96#32
  ![v1765.toNat, 96]
def k1_off300 (v1545 : BitVec 32) : Fin 2 → Nat :=
  let v1769 : Index := Scalar.indexCast v1545
  let c112_453 : Index := 112#32
  ![v1769.toNat, 112]
def k1_off301 (v1545 : BitVec 32) : Fin 2 → Nat :=
  let v1773 : Index := Scalar.indexCast v1545
  let c128_454 : Index := 128#32
  ![v1773.toNat, 128]
def k1_off302 (v1545 : BitVec 32) : Fin 2 → Nat :=
  let v1777 : Index := Scalar.indexCast v1545
  let c144_455 : Index := 144#32
  ![v1777.toNat, 144]
def k1_off303 (v1545 : BitVec 32) : Fin 2 → Nat :=
  let v1781 : Index := Scalar.indexCast v1545
  let c160_456 : Index := 160#32
  ![v1781.toNat, 160]
def k1_off304 (v1545 : BitVec 32) : Fin 2 → Nat :=
  let v1785 : Index := Scalar.indexCast v1545
  let c176_457 : Index := 176#32
  ![v1785.toNat, 176]
def k1_off305 (v1545 : BitVec 32) : Fin 2 → Nat :=
  let v1789 : Index := Scalar.indexCast v1545
  let c192_458 : Index := 192#32
  ![v1789.toNat, 192]
def k1_off306 (v1545 : BitVec 32) : Fin 2 → Nat :=
  let v1793 : Index := Scalar.indexCast v1545
  let c208_459 : Index := 208#32
  ![v1793.toNat, 208]
def k1_off307 (v1545 : BitVec 32) : Fin 2 → Nat :=
  let v1797 : Index := Scalar.indexCast v1545
  let c224_460 : Index := 224#32
  ![v1797.toNat, 224]
def k1_off308 (v1545 : BitVec 32) : Fin 2 → Nat :=
  let v1801 : Index := Scalar.indexCast v1545
  let c240_461 : Index := 240#32
  ![v1801.toNat, 240]
def k1_off309 (v1545 : BitVec 32) : Fin 2 → Nat :=
  let v1805 : Index := Scalar.indexCast v1545
  let c256_462 : Index := 256#32
  ![v1805.toNat, 256]
def k1_off310 (v1545 : BitVec 32) : Fin 2 → Nat :=
  let v1809 : Index := Scalar.indexCast v1545
  let c272_463 : Index := 272#32
  ![v1809.toNat, 272]
def k1_off311 (v1545 : BitVec 32) : Fin 2 → Nat :=
  let v1813 : Index := Scalar.indexCast v1545
  let c288_464 : Index := 288#32
  ![v1813.toNat, 288]
def k1_off312 (v1545 : BitVec 32) : Fin 2 → Nat :=
  let v1817 : Index := Scalar.indexCast v1545
  let c304_465 : Index := 304#32
  ![v1817.toNat, 304]
def k1_off313 (v1545 : BitVec 32) : Fin 2 → Nat :=
  let v1821 : Index := Scalar.indexCast v1545
  let c320_466 : Index := 320#32
  ![v1821.toNat, 320]
def k1_off314 (v1545 : BitVec 32) : Fin 2 → Nat :=
  let v1825 : Index := Scalar.indexCast v1545
  let c336_467 : Index := 336#32
  ![v1825.toNat, 336]
def k1_off315 (v1545 : BitVec 32) : Fin 2 → Nat :=
  let v1829 : Index := Scalar.indexCast v1545
  let c352_468 : Index := 352#32
  ![v1829.toNat, 352]
def k1_off316 (v1545 : BitVec 32) : Fin 2 → Nat :=
  let v1833 : Index := Scalar.indexCast v1545
  let c368_469 : Index := 368#32
  ![v1833.toNat, 368]

def k1_chk6 (i : grid1.Coords) (v1545 : BitVec 32) : Prop :=
  (∀ (k1_h1 : k1_cond1 i = 1#1), ∀ a, (k1_off293 v1545) a + S1x16.size a ≤ S256x384.size a) ∧
  (∀ (k1_h1 : k1_cond1 i = 1#1), ∀ a, (k1_off294 v1545) a + S1x16.size a ≤ S256x384.size a) ∧
  (∀ (k1_h1 : k1_cond1 i = 1#1), ∀ a, (k1_off295 v1545) a + S1x16.size a ≤ S256x384.size a) ∧
  (∀ (k1_h1 : k1_cond1 i = 1#1), ∀ a, (k1_off296 v1545) a + S1x16.size a ≤ S256x384.size a) ∧
  (∀ (k1_h1 : k1_cond1 i = 1#1), ∀ a, (k1_off297 v1545) a + S1x16.size a ≤ S256x384.size a) ∧
  (∀ (k1_h1 : k1_cond1 i = 1#1), ∀ a, (k1_off298 v1545) a + S1x16.size a ≤ S256x384.size a) ∧
  (∀ (k1_h1 : k1_cond1 i = 1#1), ∀ a, (k1_off299 v1545) a + S1x16.size a ≤ S256x384.size a) ∧
  (∀ (k1_h1 : k1_cond1 i = 1#1), ∀ a, (k1_off300 v1545) a + S1x16.size a ≤ S256x384.size a) ∧
  (∀ (k1_h1 : k1_cond1 i = 1#1), ∀ a, (k1_off301 v1545) a + S1x16.size a ≤ S256x384.size a) ∧
  (∀ (k1_h1 : k1_cond1 i = 1#1), ∀ a, (k1_off302 v1545) a + S1x16.size a ≤ S256x384.size a) ∧
  (∀ (k1_h1 : k1_cond1 i = 1#1), ∀ a, (k1_off303 v1545) a + S1x16.size a ≤ S256x384.size a) ∧
  (∀ (k1_h1 : k1_cond1 i = 1#1), ∀ a, (k1_off304 v1545) a + S1x16.size a ≤ S256x384.size a) ∧
  (∀ (k1_h1 : k1_cond1 i = 1#1), ∀ a, (k1_off305 v1545) a + S1x16.size a ≤ S256x384.size a) ∧
  (∀ (k1_h1 : k1_cond1 i = 1#1), ∀ a, (k1_off306 v1545) a + S1x16.size a ≤ S256x384.size a) ∧
  (∀ (k1_h1 : k1_cond1 i = 1#1), ∀ a, (k1_off307 v1545) a + S1x16.size a ≤ S256x384.size a) ∧
  (∀ (k1_h1 : k1_cond1 i = 1#1), ∀ a, (k1_off308 v1545) a + S1x16.size a ≤ S256x384.size a) ∧
  (∀ (k1_h1 : k1_cond1 i = 1#1), ∀ a, (k1_off309 v1545) a + S1x16.size a ≤ S256x384.size a) ∧
  (∀ (k1_h1 : k1_cond1 i = 1#1), ∀ a, (k1_off310 v1545) a + S1x16.size a ≤ S256x384.size a) ∧
  (∀ (k1_h1 : k1_cond1 i = 1#1), ∀ a, (k1_off311 v1545) a + S1x16.size a ≤ S256x384.size a) ∧
  (∀ (k1_h1 : k1_cond1 i = 1#1), ∀ a, (k1_off312 v1545) a + S1x16.size a ≤ S256x384.size a) ∧
  (∀ (k1_h1 : k1_cond1 i = 1#1), ∀ a, (k1_off313 v1545) a + S1x16.size a ≤ S256x384.size a) ∧
  (∀ (k1_h1 : k1_cond1 i = 1#1), ∀ a, (k1_off314 v1545) a + S1x16.size a ≤ S256x384.size a) ∧
  (∀ (k1_h1 : k1_cond1 i = 1#1), ∀ a, (k1_off315 v1545) a + S1x16.size a ≤ S256x384.size a) ∧
  (∀ (k1_h1 : k1_cond1 i = 1#1), ∀ a, (k1_off316 v1545) a + S1x16.size a ≤ S256x384.size a)
theorem k1_off293_inb : ∀ (i : grid1.Coords) (v1545 : BitVec 32) (k1_hw6 : k1_chk6 i v1545), ∀ (k1_h1 : k1_cond1 i = 1#1), ∀ a, (k1_off293 v1545) a + S1x16.size a ≤ S256x384.size a := fun i v1545 k1_hw6 k1_h1 => k1_hw6.1 k1_h1
theorem k1_off294_inb : ∀ (i : grid1.Coords) (v1545 : BitVec 32) (k1_hw6 : k1_chk6 i v1545), ∀ (k1_h1 : k1_cond1 i = 1#1), ∀ a, (k1_off294 v1545) a + S1x16.size a ≤ S256x384.size a := fun i v1545 k1_hw6 k1_h1 => k1_hw6.2.1 k1_h1
theorem k1_off295_inb : ∀ (i : grid1.Coords) (v1545 : BitVec 32) (k1_hw6 : k1_chk6 i v1545), ∀ (k1_h1 : k1_cond1 i = 1#1), ∀ a, (k1_off295 v1545) a + S1x16.size a ≤ S256x384.size a := fun i v1545 k1_hw6 k1_h1 => k1_hw6.2.2.1 k1_h1
theorem k1_off296_inb : ∀ (i : grid1.Coords) (v1545 : BitVec 32) (k1_hw6 : k1_chk6 i v1545), ∀ (k1_h1 : k1_cond1 i = 1#1), ∀ a, (k1_off296 v1545) a + S1x16.size a ≤ S256x384.size a := fun i v1545 k1_hw6 k1_h1 => k1_hw6.2.2.2.1 k1_h1
theorem k1_off297_inb : ∀ (i : grid1.Coords) (v1545 : BitVec 32) (k1_hw6 : k1_chk6 i v1545), ∀ (k1_h1 : k1_cond1 i = 1#1), ∀ a, (k1_off297 v1545) a + S1x16.size a ≤ S256x384.size a := fun i v1545 k1_hw6 k1_h1 => k1_hw6.2.2.2.2.1 k1_h1
theorem k1_off298_inb : ∀ (i : grid1.Coords) (v1545 : BitVec 32) (k1_hw6 : k1_chk6 i v1545), ∀ (k1_h1 : k1_cond1 i = 1#1), ∀ a, (k1_off298 v1545) a + S1x16.size a ≤ S256x384.size a := fun i v1545 k1_hw6 k1_h1 => k1_hw6.2.2.2.2.2.1 k1_h1
theorem k1_off299_inb : ∀ (i : grid1.Coords) (v1545 : BitVec 32) (k1_hw6 : k1_chk6 i v1545), ∀ (k1_h1 : k1_cond1 i = 1#1), ∀ a, (k1_off299 v1545) a + S1x16.size a ≤ S256x384.size a := fun i v1545 k1_hw6 k1_h1 => k1_hw6.2.2.2.2.2.2.1 k1_h1
theorem k1_off300_inb : ∀ (i : grid1.Coords) (v1545 : BitVec 32) (k1_hw6 : k1_chk6 i v1545), ∀ (k1_h1 : k1_cond1 i = 1#1), ∀ a, (k1_off300 v1545) a + S1x16.size a ≤ S256x384.size a := fun i v1545 k1_hw6 k1_h1 => k1_hw6.2.2.2.2.2.2.2.1 k1_h1
theorem k1_off301_inb : ∀ (i : grid1.Coords) (v1545 : BitVec 32) (k1_hw6 : k1_chk6 i v1545), ∀ (k1_h1 : k1_cond1 i = 1#1), ∀ a, (k1_off301 v1545) a + S1x16.size a ≤ S256x384.size a := fun i v1545 k1_hw6 k1_h1 => k1_hw6.2.2.2.2.2.2.2.2.1 k1_h1
theorem k1_off302_inb : ∀ (i : grid1.Coords) (v1545 : BitVec 32) (k1_hw6 : k1_chk6 i v1545), ∀ (k1_h1 : k1_cond1 i = 1#1), ∀ a, (k1_off302 v1545) a + S1x16.size a ≤ S256x384.size a := fun i v1545 k1_hw6 k1_h1 => k1_hw6.2.2.2.2.2.2.2.2.2.1 k1_h1
theorem k1_off303_inb : ∀ (i : grid1.Coords) (v1545 : BitVec 32) (k1_hw6 : k1_chk6 i v1545), ∀ (k1_h1 : k1_cond1 i = 1#1), ∀ a, (k1_off303 v1545) a + S1x16.size a ≤ S256x384.size a := fun i v1545 k1_hw6 k1_h1 => k1_hw6.2.2.2.2.2.2.2.2.2.2.1 k1_h1
theorem k1_off304_inb : ∀ (i : grid1.Coords) (v1545 : BitVec 32) (k1_hw6 : k1_chk6 i v1545), ∀ (k1_h1 : k1_cond1 i = 1#1), ∀ a, (k1_off304 v1545) a + S1x16.size a ≤ S256x384.size a := fun i v1545 k1_hw6 k1_h1 => k1_hw6.2.2.2.2.2.2.2.2.2.2.2.1 k1_h1
theorem k1_off305_inb : ∀ (i : grid1.Coords) (v1545 : BitVec 32) (k1_hw6 : k1_chk6 i v1545), ∀ (k1_h1 : k1_cond1 i = 1#1), ∀ a, (k1_off305 v1545) a + S1x16.size a ≤ S256x384.size a := fun i v1545 k1_hw6 k1_h1 => k1_hw6.2.2.2.2.2.2.2.2.2.2.2.2.1 k1_h1
theorem k1_off306_inb : ∀ (i : grid1.Coords) (v1545 : BitVec 32) (k1_hw6 : k1_chk6 i v1545), ∀ (k1_h1 : k1_cond1 i = 1#1), ∀ a, (k1_off306 v1545) a + S1x16.size a ≤ S256x384.size a := fun i v1545 k1_hw6 k1_h1 => k1_hw6.2.2.2.2.2.2.2.2.2.2.2.2.2.1 k1_h1
theorem k1_off307_inb : ∀ (i : grid1.Coords) (v1545 : BitVec 32) (k1_hw6 : k1_chk6 i v1545), ∀ (k1_h1 : k1_cond1 i = 1#1), ∀ a, (k1_off307 v1545) a + S1x16.size a ≤ S256x384.size a := fun i v1545 k1_hw6 k1_h1 => k1_hw6.2.2.2.2.2.2.2.2.2.2.2.2.2.2.1 k1_h1
theorem k1_off308_inb : ∀ (i : grid1.Coords) (v1545 : BitVec 32) (k1_hw6 : k1_chk6 i v1545), ∀ (k1_h1 : k1_cond1 i = 1#1), ∀ a, (k1_off308 v1545) a + S1x16.size a ≤ S256x384.size a := fun i v1545 k1_hw6 k1_h1 => k1_hw6.2.2.2.2.2.2.2.2.2.2.2.2.2.2.2.1 k1_h1
theorem k1_off309_inb : ∀ (i : grid1.Coords) (v1545 : BitVec 32) (k1_hw6 : k1_chk6 i v1545), ∀ (k1_h1 : k1_cond1 i = 1#1), ∀ a, (k1_off309 v1545) a + S1x16.size a ≤ S256x384.size a := fun i v1545 k1_hw6 k1_h1 => k1_hw6.2.2.2.2.2.2.2.2.2.2.2.2.2.2.2.2.1 k1_h1
theorem k1_off310_inb : ∀ (i : grid1.Coords) (v1545 : BitVec 32) (k1_hw6 : k1_chk6 i v1545), ∀ (k1_h1 : k1_cond1 i = 1#1), ∀ a, (k1_off310 v1545) a + S1x16.size a ≤ S256x384.size a := fun i v1545 k1_hw6 k1_h1 => k1_hw6.2.2.2.2.2.2.2.2.2.2.2.2.2.2.2.2.2.1 k1_h1
theorem k1_off311_inb : ∀ (i : grid1.Coords) (v1545 : BitVec 32) (k1_hw6 : k1_chk6 i v1545), ∀ (k1_h1 : k1_cond1 i = 1#1), ∀ a, (k1_off311 v1545) a + S1x16.size a ≤ S256x384.size a := fun i v1545 k1_hw6 k1_h1 => k1_hw6.2.2.2.2.2.2.2.2.2.2.2.2.2.2.2.2.2.2.1 k1_h1
theorem k1_off312_inb : ∀ (i : grid1.Coords) (v1545 : BitVec 32) (k1_hw6 : k1_chk6 i v1545), ∀ (k1_h1 : k1_cond1 i = 1#1), ∀ a, (k1_off312 v1545) a + S1x16.size a ≤ S256x384.size a := fun i v1545 k1_hw6 k1_h1 => k1_hw6.2.2.2.2.2.2.2.2.2.2.2.2.2.2.2.2.2.2.2.1 k1_h1
theorem k1_off313_inb : ∀ (i : grid1.Coords) (v1545 : BitVec 32) (k1_hw6 : k1_chk6 i v1545), ∀ (k1_h1 : k1_cond1 i = 1#1), ∀ a, (k1_off313 v1545) a + S1x16.size a ≤ S256x384.size a := fun i v1545 k1_hw6 k1_h1 => k1_hw6.2.2.2.2.2.2.2.2.2.2.2.2.2.2.2.2.2.2.2.2.1 k1_h1
theorem k1_off314_inb : ∀ (i : grid1.Coords) (v1545 : BitVec 32) (k1_hw6 : k1_chk6 i v1545), ∀ (k1_h1 : k1_cond1 i = 1#1), ∀ a, (k1_off314 v1545) a + S1x16.size a ≤ S256x384.size a := fun i v1545 k1_hw6 k1_h1 => k1_hw6.2.2.2.2.2.2.2.2.2.2.2.2.2.2.2.2.2.2.2.2.2.1 k1_h1
theorem k1_off315_inb : ∀ (i : grid1.Coords) (v1545 : BitVec 32) (k1_hw6 : k1_chk6 i v1545), ∀ (k1_h1 : k1_cond1 i = 1#1), ∀ a, (k1_off315 v1545) a + S1x16.size a ≤ S256x384.size a := fun i v1545 k1_hw6 k1_h1 => k1_hw6.2.2.2.2.2.2.2.2.2.2.2.2.2.2.2.2.2.2.2.2.2.2.1 k1_h1
theorem k1_off316_inb : ∀ (i : grid1.Coords) (v1545 : BitVec 32) (k1_hw6 : k1_chk6 i v1545), ∀ (k1_h1 : k1_cond1 i = 1#1), ∀ a, (k1_off316 v1545) a + S1x16.size a ≤ S256x384.size a := fun i v1545 k1_hw6 k1_h1 => k1_hw6.2.2.2.2.2.2.2.2.2.2.2.2.2.2.2.2.2.2.2.2.2.2.2 k1_h1

def k1_off317 (k1_t3 : Fin k1_t3_loop.trips) : Fin 2 → Nat :=
  let c0_i32_32 : BitVec 32 := 0#32
  let c1_i32_34 : BitVec 32 := 1#32
  let arg37 : BitVec 32 := Scf.iv c0_i32_32 c1_i32_34 k1_t3
  let c16_i32_470 : BitVec 32 := 16#32
  let v1839 : BitVec 32 := Scalar.muli arg37 c16_i32_470
  let c6_i32 : BitVec 32 := 6#32
  let v1840 : BitVec 32 := Scalar.addi v1839 c6_i32
  let v1842 : Index := Scalar.indexCast v1840
  let c0_471 : Index := 0#32
  ![v1842.toNat, 0]
def k1_off318 (k1_t3 : Fin k1_t3_loop.trips) : Fin 2 → Nat :=
  let c0_i32_32 : BitVec 32 := 0#32
  let c1_i32_34 : BitVec 32 := 1#32
  let arg37 : BitVec 32 := Scf.iv c0_i32_32 c1_i32_34 k1_t3
  let c16_i32_470 : BitVec 32 := 16#32
  let v1839 : BitVec 32 := Scalar.muli arg37 c16_i32_470
  let c6_i32 : BitVec 32 := 6#32
  let v1840 : BitVec 32 := Scalar.addi v1839 c6_i32
  let v1850 : Index := Scalar.indexCast v1840
  let c16_473 : Index := 16#32
  ![v1850.toNat, 16]
def k1_off319 (k1_t3 : Fin k1_t3_loop.trips) : Fin 2 → Nat :=
  let c0_i32_32 : BitVec 32 := 0#32
  let c1_i32_34 : BitVec 32 := 1#32
  let arg37 : BitVec 32 := Scf.iv c0_i32_32 c1_i32_34 k1_t3
  let c16_i32_470 : BitVec 32 := 16#32
  let v1839 : BitVec 32 := Scalar.muli arg37 c16_i32_470
  let c6_i32 : BitVec 32 := 6#32
  let v1840 : BitVec 32 := Scalar.addi v1839 c6_i32
  let v1858 : Index := Scalar.indexCast v1840
  let c32_475 : Index := 32#32
  ![v1858.toNat, 32]
def k1_off320 (k1_t3 : Fin k1_t3_loop.trips) : Fin 2 → Nat :=
  let c0_i32_32 : BitVec 32 := 0#32
  let c1_i32_34 : BitVec 32 := 1#32
  let arg37 : BitVec 32 := Scf.iv c0_i32_32 c1_i32_34 k1_t3
  let c16_i32_470 : BitVec 32 := 16#32
  let v1839 : BitVec 32 := Scalar.muli arg37 c16_i32_470
  let c6_i32 : BitVec 32 := 6#32
  let v1840 : BitVec 32 := Scalar.addi v1839 c6_i32
  let v1866 : Index := Scalar.indexCast v1840
  let c48_477 : Index := 48#32
  ![v1866.toNat, 48]
def k1_off321 (k1_t3 : Fin k1_t3_loop.trips) : Fin 2 → Nat :=
  let c0_i32_32 : BitVec 32 := 0#32
  let c1_i32_34 : BitVec 32 := 1#32
  let arg37 : BitVec 32 := Scf.iv c0_i32_32 c1_i32_34 k1_t3
  let c16_i32_470 : BitVec 32 := 16#32
  let v1839 : BitVec 32 := Scalar.muli arg37 c16_i32_470
  let c6_i32 : BitVec 32 := 6#32
  let v1840 : BitVec 32 := Scalar.addi v1839 c6_i32
  let v1874 : Index := Scalar.indexCast v1840
  let c64_479 : Index := 64#32
  ![v1874.toNat, 64]
def k1_off322 (k1_t3 : Fin k1_t3_loop.trips) : Fin 2 → Nat :=
  let c0_i32_32 : BitVec 32 := 0#32
  let c1_i32_34 : BitVec 32 := 1#32
  let arg37 : BitVec 32 := Scf.iv c0_i32_32 c1_i32_34 k1_t3
  let c16_i32_470 : BitVec 32 := 16#32
  let v1839 : BitVec 32 := Scalar.muli arg37 c16_i32_470
  let c6_i32 : BitVec 32 := 6#32
  let v1840 : BitVec 32 := Scalar.addi v1839 c6_i32
  let v1882 : Index := Scalar.indexCast v1840
  let c80_481 : Index := 80#32
  ![v1882.toNat, 80]
def k1_off323 (k1_t3 : Fin k1_t3_loop.trips) : Fin 2 → Nat :=
  let c0_i32_32 : BitVec 32 := 0#32
  let c1_i32_34 : BitVec 32 := 1#32
  let arg37 : BitVec 32 := Scf.iv c0_i32_32 c1_i32_34 k1_t3
  let c16_i32_470 : BitVec 32 := 16#32
  let v1839 : BitVec 32 := Scalar.muli arg37 c16_i32_470
  let c6_i32 : BitVec 32 := 6#32
  let v1840 : BitVec 32 := Scalar.addi v1839 c6_i32
  let v1890 : Index := Scalar.indexCast v1840
  let c96_483 : Index := 96#32
  ![v1890.toNat, 96]
def k1_off324 (k1_t3 : Fin k1_t3_loop.trips) : Fin 2 → Nat :=
  let c0_i32_32 : BitVec 32 := 0#32
  let c1_i32_34 : BitVec 32 := 1#32
  let arg37 : BitVec 32 := Scf.iv c0_i32_32 c1_i32_34 k1_t3
  let c16_i32_470 : BitVec 32 := 16#32
  let v1839 : BitVec 32 := Scalar.muli arg37 c16_i32_470
  let c6_i32 : BitVec 32 := 6#32
  let v1840 : BitVec 32 := Scalar.addi v1839 c6_i32
  let v1898 : Index := Scalar.indexCast v1840
  let c112_485 : Index := 112#32
  ![v1898.toNat, 112]
def k1_off325 (k1_t3 : Fin k1_t3_loop.trips) : Fin 2 → Nat :=
  let c0_i32_32 : BitVec 32 := 0#32
  let c1_i32_34 : BitVec 32 := 1#32
  let arg37 : BitVec 32 := Scf.iv c0_i32_32 c1_i32_34 k1_t3
  let c16_i32_470 : BitVec 32 := 16#32
  let v1839 : BitVec 32 := Scalar.muli arg37 c16_i32_470
  let c6_i32 : BitVec 32 := 6#32
  let v1840 : BitVec 32 := Scalar.addi v1839 c6_i32
  let v1906 : Index := Scalar.indexCast v1840
  let c128_487 : Index := 128#32
  ![v1906.toNat, 128]
def k1_off326 (k1_t3 : Fin k1_t3_loop.trips) : Fin 2 → Nat :=
  let c0_i32_32 : BitVec 32 := 0#32
  let c1_i32_34 : BitVec 32 := 1#32
  let arg37 : BitVec 32 := Scf.iv c0_i32_32 c1_i32_34 k1_t3
  let c16_i32_470 : BitVec 32 := 16#32
  let v1839 : BitVec 32 := Scalar.muli arg37 c16_i32_470
  let c6_i32 : BitVec 32 := 6#32
  let v1840 : BitVec 32 := Scalar.addi v1839 c6_i32
  let v1914 : Index := Scalar.indexCast v1840
  let c144_489 : Index := 144#32
  ![v1914.toNat, 144]
def k1_off327 (k1_t3 : Fin k1_t3_loop.trips) : Fin 2 → Nat :=
  let c0_i32_32 : BitVec 32 := 0#32
  let c1_i32_34 : BitVec 32 := 1#32
  let arg37 : BitVec 32 := Scf.iv c0_i32_32 c1_i32_34 k1_t3
  let c16_i32_470 : BitVec 32 := 16#32
  let v1839 : BitVec 32 := Scalar.muli arg37 c16_i32_470
  let c6_i32 : BitVec 32 := 6#32
  let v1840 : BitVec 32 := Scalar.addi v1839 c6_i32
  let v1922 : Index := Scalar.indexCast v1840
  let c160_491 : Index := 160#32
  ![v1922.toNat, 160]
def k1_off328 (k1_t3 : Fin k1_t3_loop.trips) : Fin 2 → Nat :=
  let c0_i32_32 : BitVec 32 := 0#32
  let c1_i32_34 : BitVec 32 := 1#32
  let arg37 : BitVec 32 := Scf.iv c0_i32_32 c1_i32_34 k1_t3
  let c16_i32_470 : BitVec 32 := 16#32
  let v1839 : BitVec 32 := Scalar.muli arg37 c16_i32_470
  let c6_i32 : BitVec 32 := 6#32
  let v1840 : BitVec 32 := Scalar.addi v1839 c6_i32
  let v1930 : Index := Scalar.indexCast v1840
  let c176_493 : Index := 176#32
  ![v1930.toNat, 176]
def k1_off329 (k1_t3 : Fin k1_t3_loop.trips) : Fin 2 → Nat :=
  let c0_i32_32 : BitVec 32 := 0#32
  let c1_i32_34 : BitVec 32 := 1#32
  let arg37 : BitVec 32 := Scf.iv c0_i32_32 c1_i32_34 k1_t3
  let c16_i32_470 : BitVec 32 := 16#32
  let v1839 : BitVec 32 := Scalar.muli arg37 c16_i32_470
  let c6_i32 : BitVec 32 := 6#32
  let v1840 : BitVec 32 := Scalar.addi v1839 c6_i32
  let v1938 : Index := Scalar.indexCast v1840
  let c192_495 : Index := 192#32
  ![v1938.toNat, 192]
def k1_off330 (k1_t3 : Fin k1_t3_loop.trips) : Fin 2 → Nat :=
  let c0_i32_32 : BitVec 32 := 0#32
  let c1_i32_34 : BitVec 32 := 1#32
  let arg37 : BitVec 32 := Scf.iv c0_i32_32 c1_i32_34 k1_t3
  let c16_i32_470 : BitVec 32 := 16#32
  let v1839 : BitVec 32 := Scalar.muli arg37 c16_i32_470
  let c6_i32 : BitVec 32 := 6#32
  let v1840 : BitVec 32 := Scalar.addi v1839 c6_i32
  let v1946 : Index := Scalar.indexCast v1840
  let c208_497 : Index := 208#32
  ![v1946.toNat, 208]
def k1_off331 (k1_t3 : Fin k1_t3_loop.trips) : Fin 2 → Nat :=
  let c0_i32_32 : BitVec 32 := 0#32
  let c1_i32_34 : BitVec 32 := 1#32
  let arg37 : BitVec 32 := Scf.iv c0_i32_32 c1_i32_34 k1_t3
  let c16_i32_470 : BitVec 32 := 16#32
  let v1839 : BitVec 32 := Scalar.muli arg37 c16_i32_470
  let c6_i32 : BitVec 32 := 6#32
  let v1840 : BitVec 32 := Scalar.addi v1839 c6_i32
  let v1954 : Index := Scalar.indexCast v1840
  let c224_499 : Index := 224#32
  ![v1954.toNat, 224]
def k1_off332 (k1_t3 : Fin k1_t3_loop.trips) : Fin 2 → Nat :=
  let c0_i32_32 : BitVec 32 := 0#32
  let c1_i32_34 : BitVec 32 := 1#32
  let arg37 : BitVec 32 := Scf.iv c0_i32_32 c1_i32_34 k1_t3
  let c16_i32_470 : BitVec 32 := 16#32
  let v1839 : BitVec 32 := Scalar.muli arg37 c16_i32_470
  let c6_i32 : BitVec 32 := 6#32
  let v1840 : BitVec 32 := Scalar.addi v1839 c6_i32
  let v1962 : Index := Scalar.indexCast v1840
  let c240_501 : Index := 240#32
  ![v1962.toNat, 240]
def k1_off333 (k1_t3 : Fin k1_t3_loop.trips) : Fin 2 → Nat :=
  let c0_i32_32 : BitVec 32 := 0#32
  let c1_i32_34 : BitVec 32 := 1#32
  let arg37 : BitVec 32 := Scf.iv c0_i32_32 c1_i32_34 k1_t3
  let c16_i32_470 : BitVec 32 := 16#32
  let v1839 : BitVec 32 := Scalar.muli arg37 c16_i32_470
  let c6_i32 : BitVec 32 := 6#32
  let v1840 : BitVec 32 := Scalar.addi v1839 c6_i32
  let v1970 : Index := Scalar.indexCast v1840
  let c256_503 : Index := 256#32
  ![v1970.toNat, 256]
def k1_off334 (k1_t3 : Fin k1_t3_loop.trips) : Fin 2 → Nat :=
  let c0_i32_32 : BitVec 32 := 0#32
  let c1_i32_34 : BitVec 32 := 1#32
  let arg37 : BitVec 32 := Scf.iv c0_i32_32 c1_i32_34 k1_t3
  let c16_i32_470 : BitVec 32 := 16#32
  let v1839 : BitVec 32 := Scalar.muli arg37 c16_i32_470
  let c6_i32 : BitVec 32 := 6#32
  let v1840 : BitVec 32 := Scalar.addi v1839 c6_i32
  let v1978 : Index := Scalar.indexCast v1840
  let c272_505 : Index := 272#32
  ![v1978.toNat, 272]
def k1_off335 (k1_t3 : Fin k1_t3_loop.trips) : Fin 2 → Nat :=
  let c0_i32_32 : BitVec 32 := 0#32
  let c1_i32_34 : BitVec 32 := 1#32
  let arg37 : BitVec 32 := Scf.iv c0_i32_32 c1_i32_34 k1_t3
  let c16_i32_470 : BitVec 32 := 16#32
  let v1839 : BitVec 32 := Scalar.muli arg37 c16_i32_470
  let c6_i32 : BitVec 32 := 6#32
  let v1840 : BitVec 32 := Scalar.addi v1839 c6_i32
  let v1986 : Index := Scalar.indexCast v1840
  let c288_507 : Index := 288#32
  ![v1986.toNat, 288]
def k1_off336 (k1_t3 : Fin k1_t3_loop.trips) : Fin 2 → Nat :=
  let c0_i32_32 : BitVec 32 := 0#32
  let c1_i32_34 : BitVec 32 := 1#32
  let arg37 : BitVec 32 := Scf.iv c0_i32_32 c1_i32_34 k1_t3
  let c16_i32_470 : BitVec 32 := 16#32
  let v1839 : BitVec 32 := Scalar.muli arg37 c16_i32_470
  let c6_i32 : BitVec 32 := 6#32
  let v1840 : BitVec 32 := Scalar.addi v1839 c6_i32
  let v1994 : Index := Scalar.indexCast v1840
  let c304_509 : Index := 304#32
  ![v1994.toNat, 304]
def k1_off337 (k1_t3 : Fin k1_t3_loop.trips) : Fin 2 → Nat :=
  let c0_i32_32 : BitVec 32 := 0#32
  let c1_i32_34 : BitVec 32 := 1#32
  let arg37 : BitVec 32 := Scf.iv c0_i32_32 c1_i32_34 k1_t3
  let c16_i32_470 : BitVec 32 := 16#32
  let v1839 : BitVec 32 := Scalar.muli arg37 c16_i32_470
  let c6_i32 : BitVec 32 := 6#32
  let v1840 : BitVec 32 := Scalar.addi v1839 c6_i32
  let v2002 : Index := Scalar.indexCast v1840
  let c320_511 : Index := 320#32
  ![v2002.toNat, 320]
def k1_off338 (k1_t3 : Fin k1_t3_loop.trips) : Fin 2 → Nat :=
  let c0_i32_32 : BitVec 32 := 0#32
  let c1_i32_34 : BitVec 32 := 1#32
  let arg37 : BitVec 32 := Scf.iv c0_i32_32 c1_i32_34 k1_t3
  let c16_i32_470 : BitVec 32 := 16#32
  let v1839 : BitVec 32 := Scalar.muli arg37 c16_i32_470
  let c6_i32 : BitVec 32 := 6#32
  let v1840 : BitVec 32 := Scalar.addi v1839 c6_i32
  let v2010 : Index := Scalar.indexCast v1840
  let c336_513 : Index := 336#32
  ![v2010.toNat, 336]
def k1_off339 (k1_t3 : Fin k1_t3_loop.trips) : Fin 2 → Nat :=
  let c0_i32_32 : BitVec 32 := 0#32
  let c1_i32_34 : BitVec 32 := 1#32
  let arg37 : BitVec 32 := Scf.iv c0_i32_32 c1_i32_34 k1_t3
  let c16_i32_470 : BitVec 32 := 16#32
  let v1839 : BitVec 32 := Scalar.muli arg37 c16_i32_470
  let c6_i32 : BitVec 32 := 6#32
  let v1840 : BitVec 32 := Scalar.addi v1839 c6_i32
  let v2018 : Index := Scalar.indexCast v1840
  let c352_515 : Index := 352#32
  ![v2018.toNat, 352]
def k1_off340 (k1_t3 : Fin k1_t3_loop.trips) : Fin 2 → Nat :=
  let c0_i32_32 : BitVec 32 := 0#32
  let c1_i32_34 : BitVec 32 := 1#32
  let arg37 : BitVec 32 := Scf.iv c0_i32_32 c1_i32_34 k1_t3
  let c16_i32_470 : BitVec 32 := 16#32
  let v1839 : BitVec 32 := Scalar.muli arg37 c16_i32_470
  let c6_i32 : BitVec 32 := 6#32
  let v1840 : BitVec 32 := Scalar.addi v1839 c6_i32
  let v2026 : Index := Scalar.indexCast v1840
  let c368_517 : Index := 368#32
  ![v2026.toNat, 368]
def k1_off341 (v1838 : BitVec 32) : Fin 2 → Nat :=
  let v2034 : Index := Scalar.indexCast v1838
  let c0_519 : Index := 0#32
  ![v2034.toNat, 0]

def k1_off342 (v1838 : BitVec 32) : Fin 2 → Nat :=
  let v2038 : Index := Scalar.indexCast v1838
  let c16_520 : Index := 16#32
  ![v2038.toNat, 16]
def k1_off343 (v1838 : BitVec 32) : Fin 2 → Nat :=
  let v2042 : Index := Scalar.indexCast v1838
  let c32_521 : Index := 32#32
  ![v2042.toNat, 32]
def k1_off344 (v1838 : BitVec 32) : Fin 2 → Nat :=
  let v2046 : Index := Scalar.indexCast v1838
  let c48_522 : Index := 48#32
  ![v2046.toNat, 48]
def k1_off345 (v1838 : BitVec 32) : Fin 2 → Nat :=
  let v2050 : Index := Scalar.indexCast v1838
  let c64_523 : Index := 64#32
  ![v2050.toNat, 64]
def k1_off346 (v1838 : BitVec 32) : Fin 2 → Nat :=
  let v2054 : Index := Scalar.indexCast v1838
  let c80_524 : Index := 80#32
  ![v2054.toNat, 80]
def k1_off347 (v1838 : BitVec 32) : Fin 2 → Nat :=
  let v2058 : Index := Scalar.indexCast v1838
  let c96_525 : Index := 96#32
  ![v2058.toNat, 96]
def k1_off348 (v1838 : BitVec 32) : Fin 2 → Nat :=
  let v2062 : Index := Scalar.indexCast v1838
  let c112_526 : Index := 112#32
  ![v2062.toNat, 112]
def k1_off349 (v1838 : BitVec 32) : Fin 2 → Nat :=
  let v2066 : Index := Scalar.indexCast v1838
  let c128_527 : Index := 128#32
  ![v2066.toNat, 128]
def k1_off350 (v1838 : BitVec 32) : Fin 2 → Nat :=
  let v2070 : Index := Scalar.indexCast v1838
  let c144_528 : Index := 144#32
  ![v2070.toNat, 144]
def k1_off351 (v1838 : BitVec 32) : Fin 2 → Nat :=
  let v2074 : Index := Scalar.indexCast v1838
  let c160_529 : Index := 160#32
  ![v2074.toNat, 160]
def k1_off352 (v1838 : BitVec 32) : Fin 2 → Nat :=
  let v2078 : Index := Scalar.indexCast v1838
  let c176_530 : Index := 176#32
  ![v2078.toNat, 176]
def k1_off353 (v1838 : BitVec 32) : Fin 2 → Nat :=
  let v2082 : Index := Scalar.indexCast v1838
  let c192_531 : Index := 192#32
  ![v2082.toNat, 192]
def k1_off354 (v1838 : BitVec 32) : Fin 2 → Nat :=
  let v2086 : Index := Scalar.indexCast v1838
  let c208_532 : Index := 208#32
  ![v2086.toNat, 208]
def k1_off355 (v1838 : BitVec 32) : Fin 2 → Nat :=
  let v2090 : Index := Scalar.indexCast v1838
  let c224_533 : Index := 224#32
  ![v2090.toNat, 224]
def k1_off356 (v1838 : BitVec 32) : Fin 2 → Nat :=
  let v2094 : Index := Scalar.indexCast v1838
  let c240_534 : Index := 240#32
  ![v2094.toNat, 240]
def k1_off357 (v1838 : BitVec 32) : Fin 2 → Nat :=
  let v2098 : Index := Scalar.indexCast v1838
  let c256_535 : Index := 256#32
  ![v2098.toNat, 256]
def k1_off358 (v1838 : BitVec 32) : Fin 2 → Nat :=
  let v2102 : Index := Scalar.indexCast v1838
  let c272_536 : Index := 272#32
  ![v2102.toNat, 272]
def k1_off359 (v1838 : BitVec 32) : Fin 2 → Nat :=
  let v2106 : Index := Scalar.indexCast v1838
  let c288_537 : Index := 288#32
  ![v2106.toNat, 288]
def k1_off360 (v1838 : BitVec 32) : Fin 2 → Nat :=
  let v2110 : Index := Scalar.indexCast v1838
  let c304_538 : Index := 304#32
  ![v2110.toNat, 304]
def k1_off361 (v1838 : BitVec 32) : Fin 2 → Nat :=
  let v2114 : Index := Scalar.indexCast v1838
  let c320_539 : Index := 320#32
  ![v2114.toNat, 320]
def k1_off362 (v1838 : BitVec 32) : Fin 2 → Nat :=
  let v2118 : Index := Scalar.indexCast v1838
  let c336_540 : Index := 336#32
  ![v2118.toNat, 336]
def k1_off363 (v1838 : BitVec 32) : Fin 2 → Nat :=
  let v2122 : Index := Scalar.indexCast v1838
  let c352_541 : Index := 352#32
  ![v2122.toNat, 352]
def k1_off364 (v1838 : BitVec 32) : Fin 2 → Nat :=
  let v2126 : Index := Scalar.indexCast v1838
  let c368_542 : Index := 368#32
  ![v2126.toNat, 368]

def k1_chk7 (i : grid1.Coords) (v1838 : BitVec 32) : Prop :=
  (∀ (k1_h1 : k1_cond1 i = 1#1), ∀ a, (k1_off341 v1838) a + S1x16.size a ≤ S256x384.size a) ∧
  (∀ (k1_h1 : k1_cond1 i = 1#1), ∀ a, (k1_off342 v1838) a + S1x16.size a ≤ S256x384.size a) ∧
  (∀ (k1_h1 : k1_cond1 i = 1#1), ∀ a, (k1_off343 v1838) a + S1x16.size a ≤ S256x384.size a) ∧
  (∀ (k1_h1 : k1_cond1 i = 1#1), ∀ a, (k1_off344 v1838) a + S1x16.size a ≤ S256x384.size a) ∧
  (∀ (k1_h1 : k1_cond1 i = 1#1), ∀ a, (k1_off345 v1838) a + S1x16.size a ≤ S256x384.size a) ∧
  (∀ (k1_h1 : k1_cond1 i = 1#1), ∀ a, (k1_off346 v1838) a + S1x16.size a ≤ S256x384.size a) ∧
  (∀ (k1_h1 : k1_cond1 i = 1#1), ∀ a, (k1_off347 v1838) a + S1x16.size a ≤ S256x384.size a) ∧
  (∀ (k1_h1 : k1_cond1 i = 1#1), ∀ a, (k1_off348 v1838) a + S1x16.size a ≤ S256x384.size a) ∧
  (∀ (k1_h1 : k1_cond1 i = 1#1), ∀ a, (k1_off349 v1838) a + S1x16.size a ≤ S256x384.size a) ∧
  (∀ (k1_h1 : k1_cond1 i = 1#1), ∀ a, (k1_off350 v1838) a + S1x16.size a ≤ S256x384.size a) ∧
  (∀ (k1_h1 : k1_cond1 i = 1#1), ∀ a, (k1_off351 v1838) a + S1x16.size a ≤ S256x384.size a) ∧
  (∀ (k1_h1 : k1_cond1 i = 1#1), ∀ a, (k1_off352 v1838) a + S1x16.size a ≤ S256x384.size a) ∧
  (∀ (k1_h1 : k1_cond1 i = 1#1), ∀ a, (k1_off353 v1838) a + S1x16.size a ≤ S256x384.size a) ∧
  (∀ (k1_h1 : k1_cond1 i = 1#1), ∀ a, (k1_off354 v1838) a + S1x16.size a ≤ S256x384.size a) ∧
  (∀ (k1_h1 : k1_cond1 i = 1#1), ∀ a, (k1_off355 v1838) a + S1x16.size a ≤ S256x384.size a) ∧
  (∀ (k1_h1 : k1_cond1 i = 1#1), ∀ a, (k1_off356 v1838) a + S1x16.size a ≤ S256x384.size a) ∧
  (∀ (k1_h1 : k1_cond1 i = 1#1), ∀ a, (k1_off357 v1838) a + S1x16.size a ≤ S256x384.size a) ∧
  (∀ (k1_h1 : k1_cond1 i = 1#1), ∀ a, (k1_off358 v1838) a + S1x16.size a ≤ S256x384.size a) ∧
  (∀ (k1_h1 : k1_cond1 i = 1#1), ∀ a, (k1_off359 v1838) a + S1x16.size a ≤ S256x384.size a) ∧
  (∀ (k1_h1 : k1_cond1 i = 1#1), ∀ a, (k1_off360 v1838) a + S1x16.size a ≤ S256x384.size a) ∧
  (∀ (k1_h1 : k1_cond1 i = 1#1), ∀ a, (k1_off361 v1838) a + S1x16.size a ≤ S256x384.size a) ∧
  (∀ (k1_h1 : k1_cond1 i = 1#1), ∀ a, (k1_off362 v1838) a + S1x16.size a ≤ S256x384.size a) ∧
  (∀ (k1_h1 : k1_cond1 i = 1#1), ∀ a, (k1_off363 v1838) a + S1x16.size a ≤ S256x384.size a) ∧
  (∀ (k1_h1 : k1_cond1 i = 1#1), ∀ a, (k1_off364 v1838) a + S1x16.size a ≤ S256x384.size a)
theorem k1_off341_inb : ∀ (i : grid1.Coords) (v1838 : BitVec 32) (k1_hw7 : k1_chk7 i v1838), ∀ (k1_h1 : k1_cond1 i = 1#1), ∀ a, (k1_off341 v1838) a + S1x16.size a ≤ S256x384.size a := fun i v1838 k1_hw7 k1_h1 => k1_hw7.1 k1_h1
theorem k1_off342_inb : ∀ (i : grid1.Coords) (v1838 : BitVec 32) (k1_hw7 : k1_chk7 i v1838), ∀ (k1_h1 : k1_cond1 i = 1#1), ∀ a, (k1_off342 v1838) a + S1x16.size a ≤ S256x384.size a := fun i v1838 k1_hw7 k1_h1 => k1_hw7.2.1 k1_h1
theorem k1_off343_inb : ∀ (i : grid1.Coords) (v1838 : BitVec 32) (k1_hw7 : k1_chk7 i v1838), ∀ (k1_h1 : k1_cond1 i = 1#1), ∀ a, (k1_off343 v1838) a + S1x16.size a ≤ S256x384.size a := fun i v1838 k1_hw7 k1_h1 => k1_hw7.2.2.1 k1_h1
theorem k1_off344_inb : ∀ (i : grid1.Coords) (v1838 : BitVec 32) (k1_hw7 : k1_chk7 i v1838), ∀ (k1_h1 : k1_cond1 i = 1#1), ∀ a, (k1_off344 v1838) a + S1x16.size a ≤ S256x384.size a := fun i v1838 k1_hw7 k1_h1 => k1_hw7.2.2.2.1 k1_h1
theorem k1_off345_inb : ∀ (i : grid1.Coords) (v1838 : BitVec 32) (k1_hw7 : k1_chk7 i v1838), ∀ (k1_h1 : k1_cond1 i = 1#1), ∀ a, (k1_off345 v1838) a + S1x16.size a ≤ S256x384.size a := fun i v1838 k1_hw7 k1_h1 => k1_hw7.2.2.2.2.1 k1_h1
theorem k1_off346_inb : ∀ (i : grid1.Coords) (v1838 : BitVec 32) (k1_hw7 : k1_chk7 i v1838), ∀ (k1_h1 : k1_cond1 i = 1#1), ∀ a, (k1_off346 v1838) a + S1x16.size a ≤ S256x384.size a := fun i v1838 k1_hw7 k1_h1 => k1_hw7.2.2.2.2.2.1 k1_h1
theorem k1_off347_inb : ∀ (i : grid1.Coords) (v1838 : BitVec 32) (k1_hw7 : k1_chk7 i v1838), ∀ (k1_h1 : k1_cond1 i = 1#1), ∀ a, (k1_off347 v1838) a + S1x16.size a ≤ S256x384.size a := fun i v1838 k1_hw7 k1_h1 => k1_hw7.2.2.2.2.2.2.1 k1_h1
theorem k1_off348_inb : ∀ (i : grid1.Coords) (v1838 : BitVec 32) (k1_hw7 : k1_chk7 i v1838), ∀ (k1_h1 : k1_cond1 i = 1#1), ∀ a, (k1_off348 v1838) a + S1x16.size a ≤ S256x384.size a := fun i v1838 k1_hw7 k1_h1 => k1_hw7.2.2.2.2.2.2.2.1 k1_h1
theorem k1_off349_inb : ∀ (i : grid1.Coords) (v1838 : BitVec 32) (k1_hw7 : k1_chk7 i v1838), ∀ (k1_h1 : k1_cond1 i = 1#1), ∀ a, (k1_off349 v1838) a + S1x16.size a ≤ S256x384.size a := fun i v1838 k1_hw7 k1_h1 => k1_hw7.2.2.2.2.2.2.2.2.1 k1_h1
theorem k1_off350_inb : ∀ (i : grid1.Coords) (v1838 : BitVec 32) (k1_hw7 : k1_chk7 i v1838), ∀ (k1_h1 : k1_cond1 i = 1#1), ∀ a, (k1_off350 v1838) a + S1x16.size a ≤ S256x384.size a := fun i v1838 k1_hw7 k1_h1 => k1_hw7.2.2.2.2.2.2.2.2.2.1 k1_h1
theorem k1_off351_inb : ∀ (i : grid1.Coords) (v1838 : BitVec 32) (k1_hw7 : k1_chk7 i v1838), ∀ (k1_h1 : k1_cond1 i = 1#1), ∀ a, (k1_off351 v1838) a + S1x16.size a ≤ S256x384.size a := fun i v1838 k1_hw7 k1_h1 => k1_hw7.2.2.2.2.2.2.2.2.2.2.1 k1_h1
theorem k1_off352_inb : ∀ (i : grid1.Coords) (v1838 : BitVec 32) (k1_hw7 : k1_chk7 i v1838), ∀ (k1_h1 : k1_cond1 i = 1#1), ∀ a, (k1_off352 v1838) a + S1x16.size a ≤ S256x384.size a := fun i v1838 k1_hw7 k1_h1 => k1_hw7.2.2.2.2.2.2.2.2.2.2.2.1 k1_h1
theorem k1_off353_inb : ∀ (i : grid1.Coords) (v1838 : BitVec 32) (k1_hw7 : k1_chk7 i v1838), ∀ (k1_h1 : k1_cond1 i = 1#1), ∀ a, (k1_off353 v1838) a + S1x16.size a ≤ S256x384.size a := fun i v1838 k1_hw7 k1_h1 => k1_hw7.2.2.2.2.2.2.2.2.2.2.2.2.1 k1_h1
theorem k1_off354_inb : ∀ (i : grid1.Coords) (v1838 : BitVec 32) (k1_hw7 : k1_chk7 i v1838), ∀ (k1_h1 : k1_cond1 i = 1#1), ∀ a, (k1_off354 v1838) a + S1x16.size a ≤ S256x384.size a := fun i v1838 k1_hw7 k1_h1 => k1_hw7.2.2.2.2.2.2.2.2.2.2.2.2.2.1 k1_h1
theorem k1_off355_inb : ∀ (i : grid1.Coords) (v1838 : BitVec 32) (k1_hw7 : k1_chk7 i v1838), ∀ (k1_h1 : k1_cond1 i = 1#1), ∀ a, (k1_off355 v1838) a + S1x16.size a ≤ S256x384.size a := fun i v1838 k1_hw7 k1_h1 => k1_hw7.2.2.2.2.2.2.2.2.2.2.2.2.2.2.1 k1_h1
theorem k1_off356_inb : ∀ (i : grid1.Coords) (v1838 : BitVec 32) (k1_hw7 : k1_chk7 i v1838), ∀ (k1_h1 : k1_cond1 i = 1#1), ∀ a, (k1_off356 v1838) a + S1x16.size a ≤ S256x384.size a := fun i v1838 k1_hw7 k1_h1 => k1_hw7.2.2.2.2.2.2.2.2.2.2.2.2.2.2.2.1 k1_h1
theorem k1_off357_inb : ∀ (i : grid1.Coords) (v1838 : BitVec 32) (k1_hw7 : k1_chk7 i v1838), ∀ (k1_h1 : k1_cond1 i = 1#1), ∀ a, (k1_off357 v1838) a + S1x16.size a ≤ S256x384.size a := fun i v1838 k1_hw7 k1_h1 => k1_hw7.2.2.2.2.2.2.2.2.2.2.2.2.2.2.2.2.1 k1_h1
theorem k1_off358_inb : ∀ (i : grid1.Coords) (v1838 : BitVec 32) (k1_hw7 : k1_chk7 i v1838), ∀ (k1_h1 : k1_cond1 i = 1#1), ∀ a, (k1_off358 v1838) a + S1x16.size a ≤ S256x384.size a := fun i v1838 k1_hw7 k1_h1 => k1_hw7.2.2.2.2.2.2.2.2.2.2.2.2.2.2.2.2.2.1 k1_h1
theorem k1_off359_inb : ∀ (i : grid1.Coords) (v1838 : BitVec 32) (k1_hw7 : k1_chk7 i v1838), ∀ (k1_h1 : k1_cond1 i = 1#1), ∀ a, (k1_off359 v1838) a + S1x16.size a ≤ S256x384.size a := fun i v1838 k1_hw7 k1_h1 => k1_hw7.2.2.2.2.2.2.2.2.2.2.2.2.2.2.2.2.2.2.1 k1_h1
theorem k1_off360_inb : ∀ (i : grid1.Coords) (v1838 : BitVec 32) (k1_hw7 : k1_chk7 i v1838), ∀ (k1_h1 : k1_cond1 i = 1#1), ∀ a, (k1_off360 v1838) a + S1x16.size a ≤ S256x384.size a := fun i v1838 k1_hw7 k1_h1 => k1_hw7.2.2.2.2.2.2.2.2.2.2.2.2.2.2.2.2.2.2.2.1 k1_h1
theorem k1_off361_inb : ∀ (i : grid1.Coords) (v1838 : BitVec 32) (k1_hw7 : k1_chk7 i v1838), ∀ (k1_h1 : k1_cond1 i = 1#1), ∀ a, (k1_off361 v1838) a + S1x16.size a ≤ S256x384.size a := fun i v1838 k1_hw7 k1_h1 => k1_hw7.2.2.2.2.2.2.2.2.2.2.2.2.2.2.2.2.2.2.2.2.1 k1_h1
theorem k1_off362_inb : ∀ (i : grid1.Coords) (v1838 : BitVec 32) (k1_hw7 : k1_chk7 i v1838), ∀ (k1_h1 : k1_cond1 i = 1#1), ∀ a, (k1_off362 v1838) a + S1x16.size a ≤ S256x384.size a := fun i v1838 k1_hw7 k1_h1 => k1_hw7.2.2.2.2.2.2.2.2.2.2.2.2.2.2.2.2.2.2.2.2.2.1 k1_h1
theorem k1_off363_inb : ∀ (i : grid1.Coords) (v1838 : BitVec 32) (k1_hw7 : k1_chk7 i v1838), ∀ (k1_h1 : k1_cond1 i = 1#1), ∀ a, (k1_off363 v1838) a + S1x16.size a ≤ S256x384.size a := fun i v1838 k1_hw7 k1_h1 => k1_hw7.2.2.2.2.2.2.2.2.2.2.2.2.2.2.2.2.2.2.2.2.2.2.1 k1_h1
theorem k1_off364_inb : ∀ (i : grid1.Coords) (v1838 : BitVec 32) (k1_hw7 : k1_chk7 i v1838), ∀ (k1_h1 : k1_cond1 i = 1#1), ∀ a, (k1_off364 v1838) a + S1x16.size a ≤ S256x384.size a := fun i v1838 k1_hw7 k1_h1 => k1_hw7.2.2.2.2.2.2.2.2.2.2.2.2.2.2.2.2.2.2.2.2.2.2.2 k1_h1

def k1_off365 (k1_t3 : Fin k1_t3_loop.trips) : Fin 2 → Nat :=
  let c0_i32_32 : BitVec 32 := 0#32
  let c1_i32_34 : BitVec 32 := 1#32
  let arg37 : BitVec 32 := Scf.iv c0_i32_32 c1_i32_34 k1_t3
  let c16_i32_543 : BitVec 32 := 16#32
  let v2132 : BitVec 32 := Scalar.muli arg37 c16_i32_543
  let c7_i32 : BitVec 32 := 7#32
  let v2133 : BitVec 32 := Scalar.addi v2132 c7_i32
  let v2135 : Index := Scalar.indexCast v2133
  let c0_544 : Index := 0#32
  ![v2135.toNat, 0]
def k1_off366 (k1_t3 : Fin k1_t3_loop.trips) : Fin 2 → Nat :=
  let c0_i32_32 : BitVec 32 := 0#32
  let c1_i32_34 : BitVec 32 := 1#32
  let arg37 : BitVec 32 := Scf.iv c0_i32_32 c1_i32_34 k1_t3
  let c16_i32_543 : BitVec 32 := 16#32
  let v2132 : BitVec 32 := Scalar.muli arg37 c16_i32_543
  let c7_i32 : BitVec 32 := 7#32
  let v2133 : BitVec 32 := Scalar.addi v2132 c7_i32
  let v2143 : Index := Scalar.indexCast v2133
  let c16_546 : Index := 16#32
  ![v2143.toNat, 16]
def k1_off367 (k1_t3 : Fin k1_t3_loop.trips) : Fin 2 → Nat :=
  let c0_i32_32 : BitVec 32 := 0#32
  let c1_i32_34 : BitVec 32 := 1#32
  let arg37 : BitVec 32 := Scf.iv c0_i32_32 c1_i32_34 k1_t3
  let c16_i32_543 : BitVec 32 := 16#32
  let v2132 : BitVec 32 := Scalar.muli arg37 c16_i32_543
  let c7_i32 : BitVec 32 := 7#32
  let v2133 : BitVec 32 := Scalar.addi v2132 c7_i32
  let v2151 : Index := Scalar.indexCast v2133
  let c32_548 : Index := 32#32
  ![v2151.toNat, 32]
def k1_off368 (k1_t3 : Fin k1_t3_loop.trips) : Fin 2 → Nat :=
  let c0_i32_32 : BitVec 32 := 0#32
  let c1_i32_34 : BitVec 32 := 1#32
  let arg37 : BitVec 32 := Scf.iv c0_i32_32 c1_i32_34 k1_t3
  let c16_i32_543 : BitVec 32 := 16#32
  let v2132 : BitVec 32 := Scalar.muli arg37 c16_i32_543
  let c7_i32 : BitVec 32 := 7#32
  let v2133 : BitVec 32 := Scalar.addi v2132 c7_i32
  let v2159 : Index := Scalar.indexCast v2133
  let c48_550 : Index := 48#32
  ![v2159.toNat, 48]
def k1_off369 (k1_t3 : Fin k1_t3_loop.trips) : Fin 2 → Nat :=
  let c0_i32_32 : BitVec 32 := 0#32
  let c1_i32_34 : BitVec 32 := 1#32
  let arg37 : BitVec 32 := Scf.iv c0_i32_32 c1_i32_34 k1_t3
  let c16_i32_543 : BitVec 32 := 16#32
  let v2132 : BitVec 32 := Scalar.muli arg37 c16_i32_543
  let c7_i32 : BitVec 32 := 7#32
  let v2133 : BitVec 32 := Scalar.addi v2132 c7_i32
  let v2167 : Index := Scalar.indexCast v2133
  let c64_552 : Index := 64#32
  ![v2167.toNat, 64]
def k1_off370 (k1_t3 : Fin k1_t3_loop.trips) : Fin 2 → Nat :=
  let c0_i32_32 : BitVec 32 := 0#32
  let c1_i32_34 : BitVec 32 := 1#32
  let arg37 : BitVec 32 := Scf.iv c0_i32_32 c1_i32_34 k1_t3
  let c16_i32_543 : BitVec 32 := 16#32
  let v2132 : BitVec 32 := Scalar.muli arg37 c16_i32_543
  let c7_i32 : BitVec 32 := 7#32
  let v2133 : BitVec 32 := Scalar.addi v2132 c7_i32
  let v2175 : Index := Scalar.indexCast v2133
  let c80_554 : Index := 80#32
  ![v2175.toNat, 80]
def k1_off371 (k1_t3 : Fin k1_t3_loop.trips) : Fin 2 → Nat :=
  let c0_i32_32 : BitVec 32 := 0#32
  let c1_i32_34 : BitVec 32 := 1#32
  let arg37 : BitVec 32 := Scf.iv c0_i32_32 c1_i32_34 k1_t3
  let c16_i32_543 : BitVec 32 := 16#32
  let v2132 : BitVec 32 := Scalar.muli arg37 c16_i32_543
  let c7_i32 : BitVec 32 := 7#32
  let v2133 : BitVec 32 := Scalar.addi v2132 c7_i32
  let v2183 : Index := Scalar.indexCast v2133
  let c96_556 : Index := 96#32
  ![v2183.toNat, 96]
def k1_off372 (k1_t3 : Fin k1_t3_loop.trips) : Fin 2 → Nat :=
  let c0_i32_32 : BitVec 32 := 0#32
  let c1_i32_34 : BitVec 32 := 1#32
  let arg37 : BitVec 32 := Scf.iv c0_i32_32 c1_i32_34 k1_t3
  let c16_i32_543 : BitVec 32 := 16#32
  let v2132 : BitVec 32 := Scalar.muli arg37 c16_i32_543
  let c7_i32 : BitVec 32 := 7#32
  let v2133 : BitVec 32 := Scalar.addi v2132 c7_i32
  let v2191 : Index := Scalar.indexCast v2133
  let c112_558 : Index := 112#32
  ![v2191.toNat, 112]
def k1_off373 (k1_t3 : Fin k1_t3_loop.trips) : Fin 2 → Nat :=
  let c0_i32_32 : BitVec 32 := 0#32
  let c1_i32_34 : BitVec 32 := 1#32
  let arg37 : BitVec 32 := Scf.iv c0_i32_32 c1_i32_34 k1_t3
  let c16_i32_543 : BitVec 32 := 16#32
  let v2132 : BitVec 32 := Scalar.muli arg37 c16_i32_543
  let c7_i32 : BitVec 32 := 7#32
  let v2133 : BitVec 32 := Scalar.addi v2132 c7_i32
  let v2199 : Index := Scalar.indexCast v2133
  let c128_560 : Index := 128#32
  ![v2199.toNat, 128]
def k1_off374 (k1_t3 : Fin k1_t3_loop.trips) : Fin 2 → Nat :=
  let c0_i32_32 : BitVec 32 := 0#32
  let c1_i32_34 : BitVec 32 := 1#32
  let arg37 : BitVec 32 := Scf.iv c0_i32_32 c1_i32_34 k1_t3
  let c16_i32_543 : BitVec 32 := 16#32
  let v2132 : BitVec 32 := Scalar.muli arg37 c16_i32_543
  let c7_i32 : BitVec 32 := 7#32
  let v2133 : BitVec 32 := Scalar.addi v2132 c7_i32
  let v2207 : Index := Scalar.indexCast v2133
  let c144_562 : Index := 144#32
  ![v2207.toNat, 144]
def k1_off375 (k1_t3 : Fin k1_t3_loop.trips) : Fin 2 → Nat :=
  let c0_i32_32 : BitVec 32 := 0#32
  let c1_i32_34 : BitVec 32 := 1#32
  let arg37 : BitVec 32 := Scf.iv c0_i32_32 c1_i32_34 k1_t3
  let c16_i32_543 : BitVec 32 := 16#32
  let v2132 : BitVec 32 := Scalar.muli arg37 c16_i32_543
  let c7_i32 : BitVec 32 := 7#32
  let v2133 : BitVec 32 := Scalar.addi v2132 c7_i32
  let v2215 : Index := Scalar.indexCast v2133
  let c160_564 : Index := 160#32
  ![v2215.toNat, 160]
def k1_off376 (k1_t3 : Fin k1_t3_loop.trips) : Fin 2 → Nat :=
  let c0_i32_32 : BitVec 32 := 0#32
  let c1_i32_34 : BitVec 32 := 1#32
  let arg37 : BitVec 32 := Scf.iv c0_i32_32 c1_i32_34 k1_t3
  let c16_i32_543 : BitVec 32 := 16#32
  let v2132 : BitVec 32 := Scalar.muli arg37 c16_i32_543
  let c7_i32 : BitVec 32 := 7#32
  let v2133 : BitVec 32 := Scalar.addi v2132 c7_i32
  let v2223 : Index := Scalar.indexCast v2133
  let c176_566 : Index := 176#32
  ![v2223.toNat, 176]
def k1_off377 (k1_t3 : Fin k1_t3_loop.trips) : Fin 2 → Nat :=
  let c0_i32_32 : BitVec 32 := 0#32
  let c1_i32_34 : BitVec 32 := 1#32
  let arg37 : BitVec 32 := Scf.iv c0_i32_32 c1_i32_34 k1_t3
  let c16_i32_543 : BitVec 32 := 16#32
  let v2132 : BitVec 32 := Scalar.muli arg37 c16_i32_543
  let c7_i32 : BitVec 32 := 7#32
  let v2133 : BitVec 32 := Scalar.addi v2132 c7_i32
  let v2231 : Index := Scalar.indexCast v2133
  let c192_568 : Index := 192#32
  ![v2231.toNat, 192]
def k1_off378 (k1_t3 : Fin k1_t3_loop.trips) : Fin 2 → Nat :=
  let c0_i32_32 : BitVec 32 := 0#32
  let c1_i32_34 : BitVec 32 := 1#32
  let arg37 : BitVec 32 := Scf.iv c0_i32_32 c1_i32_34 k1_t3
  let c16_i32_543 : BitVec 32 := 16#32
  let v2132 : BitVec 32 := Scalar.muli arg37 c16_i32_543
  let c7_i32 : BitVec 32 := 7#32
  let v2133 : BitVec 32 := Scalar.addi v2132 c7_i32
  let v2239 : Index := Scalar.indexCast v2133
  let c208_570 : Index := 208#32
  ![v2239.toNat, 208]
def k1_off379 (k1_t3 : Fin k1_t3_loop.trips) : Fin 2 → Nat :=
  let c0_i32_32 : BitVec 32 := 0#32
  let c1_i32_34 : BitVec 32 := 1#32
  let arg37 : BitVec 32 := Scf.iv c0_i32_32 c1_i32_34 k1_t3
  let c16_i32_543 : BitVec 32 := 16#32
  let v2132 : BitVec 32 := Scalar.muli arg37 c16_i32_543
  let c7_i32 : BitVec 32 := 7#32
  let v2133 : BitVec 32 := Scalar.addi v2132 c7_i32
  let v2247 : Index := Scalar.indexCast v2133
  let c224_572 : Index := 224#32
  ![v2247.toNat, 224]
def k1_off380 (k1_t3 : Fin k1_t3_loop.trips) : Fin 2 → Nat :=
  let c0_i32_32 : BitVec 32 := 0#32
  let c1_i32_34 : BitVec 32 := 1#32
  let arg37 : BitVec 32 := Scf.iv c0_i32_32 c1_i32_34 k1_t3
  let c16_i32_543 : BitVec 32 := 16#32
  let v2132 : BitVec 32 := Scalar.muli arg37 c16_i32_543
  let c7_i32 : BitVec 32 := 7#32
  let v2133 : BitVec 32 := Scalar.addi v2132 c7_i32
  let v2255 : Index := Scalar.indexCast v2133
  let c240_574 : Index := 240#32
  ![v2255.toNat, 240]
def k1_off381 (k1_t3 : Fin k1_t3_loop.trips) : Fin 2 → Nat :=
  let c0_i32_32 : BitVec 32 := 0#32
  let c1_i32_34 : BitVec 32 := 1#32
  let arg37 : BitVec 32 := Scf.iv c0_i32_32 c1_i32_34 k1_t3
  let c16_i32_543 : BitVec 32 := 16#32
  let v2132 : BitVec 32 := Scalar.muli arg37 c16_i32_543
  let c7_i32 : BitVec 32 := 7#32
  let v2133 : BitVec 32 := Scalar.addi v2132 c7_i32
  let v2263 : Index := Scalar.indexCast v2133
  let c256_576 : Index := 256#32
  ![v2263.toNat, 256]
def k1_off382 (k1_t3 : Fin k1_t3_loop.trips) : Fin 2 → Nat :=
  let c0_i32_32 : BitVec 32 := 0#32
  let c1_i32_34 : BitVec 32 := 1#32
  let arg37 : BitVec 32 := Scf.iv c0_i32_32 c1_i32_34 k1_t3
  let c16_i32_543 : BitVec 32 := 16#32
  let v2132 : BitVec 32 := Scalar.muli arg37 c16_i32_543
  let c7_i32 : BitVec 32 := 7#32
  let v2133 : BitVec 32 := Scalar.addi v2132 c7_i32
  let v2271 : Index := Scalar.indexCast v2133
  let c272_578 : Index := 272#32
  ![v2271.toNat, 272]
def k1_off383 (k1_t3 : Fin k1_t3_loop.trips) : Fin 2 → Nat :=
  let c0_i32_32 : BitVec 32 := 0#32
  let c1_i32_34 : BitVec 32 := 1#32
  let arg37 : BitVec 32 := Scf.iv c0_i32_32 c1_i32_34 k1_t3
  let c16_i32_543 : BitVec 32 := 16#32
  let v2132 : BitVec 32 := Scalar.muli arg37 c16_i32_543
  let c7_i32 : BitVec 32 := 7#32
  let v2133 : BitVec 32 := Scalar.addi v2132 c7_i32
  let v2279 : Index := Scalar.indexCast v2133
  let c288_580 : Index := 288#32
  ![v2279.toNat, 288]
def k1_off384 (k1_t3 : Fin k1_t3_loop.trips) : Fin 2 → Nat :=
  let c0_i32_32 : BitVec 32 := 0#32
  let c1_i32_34 : BitVec 32 := 1#32
  let arg37 : BitVec 32 := Scf.iv c0_i32_32 c1_i32_34 k1_t3
  let c16_i32_543 : BitVec 32 := 16#32
  let v2132 : BitVec 32 := Scalar.muli arg37 c16_i32_543
  let c7_i32 : BitVec 32 := 7#32
  let v2133 : BitVec 32 := Scalar.addi v2132 c7_i32
  let v2287 : Index := Scalar.indexCast v2133
  let c304_582 : Index := 304#32
  ![v2287.toNat, 304]
def k1_off385 (k1_t3 : Fin k1_t3_loop.trips) : Fin 2 → Nat :=
  let c0_i32_32 : BitVec 32 := 0#32
  let c1_i32_34 : BitVec 32 := 1#32
  let arg37 : BitVec 32 := Scf.iv c0_i32_32 c1_i32_34 k1_t3
  let c16_i32_543 : BitVec 32 := 16#32
  let v2132 : BitVec 32 := Scalar.muli arg37 c16_i32_543
  let c7_i32 : BitVec 32 := 7#32
  let v2133 : BitVec 32 := Scalar.addi v2132 c7_i32
  let v2295 : Index := Scalar.indexCast v2133
  let c320_584 : Index := 320#32
  ![v2295.toNat, 320]
def k1_off386 (k1_t3 : Fin k1_t3_loop.trips) : Fin 2 → Nat :=
  let c0_i32_32 : BitVec 32 := 0#32
  let c1_i32_34 : BitVec 32 := 1#32
  let arg37 : BitVec 32 := Scf.iv c0_i32_32 c1_i32_34 k1_t3
  let c16_i32_543 : BitVec 32 := 16#32
  let v2132 : BitVec 32 := Scalar.muli arg37 c16_i32_543
  let c7_i32 : BitVec 32 := 7#32
  let v2133 : BitVec 32 := Scalar.addi v2132 c7_i32
  let v2303 : Index := Scalar.indexCast v2133
  let c336_586 : Index := 336#32
  ![v2303.toNat, 336]
def k1_off387 (k1_t3 : Fin k1_t3_loop.trips) : Fin 2 → Nat :=
  let c0_i32_32 : BitVec 32 := 0#32
  let c1_i32_34 : BitVec 32 := 1#32
  let arg37 : BitVec 32 := Scf.iv c0_i32_32 c1_i32_34 k1_t3
  let c16_i32_543 : BitVec 32 := 16#32
  let v2132 : BitVec 32 := Scalar.muli arg37 c16_i32_543
  let c7_i32 : BitVec 32 := 7#32
  let v2133 : BitVec 32 := Scalar.addi v2132 c7_i32
  let v2311 : Index := Scalar.indexCast v2133
  let c352_588 : Index := 352#32
  ![v2311.toNat, 352]
def k1_off388 (k1_t3 : Fin k1_t3_loop.trips) : Fin 2 → Nat :=
  let c0_i32_32 : BitVec 32 := 0#32
  let c1_i32_34 : BitVec 32 := 1#32
  let arg37 : BitVec 32 := Scf.iv c0_i32_32 c1_i32_34 k1_t3
  let c16_i32_543 : BitVec 32 := 16#32
  let v2132 : BitVec 32 := Scalar.muli arg37 c16_i32_543
  let c7_i32 : BitVec 32 := 7#32
  let v2133 : BitVec 32 := Scalar.addi v2132 c7_i32
  let v2319 : Index := Scalar.indexCast v2133
  let c368_590 : Index := 368#32
  ![v2319.toNat, 368]
def k1_off389 (v2131 : BitVec 32) : Fin 2 → Nat :=
  let v2327 : Index := Scalar.indexCast v2131
  let c0_592 : Index := 0#32
  ![v2327.toNat, 0]

def k1_off390 (v2131 : BitVec 32) : Fin 2 → Nat :=
  let v2331 : Index := Scalar.indexCast v2131
  let c16_593 : Index := 16#32
  ![v2331.toNat, 16]
def k1_off391 (v2131 : BitVec 32) : Fin 2 → Nat :=
  let v2335 : Index := Scalar.indexCast v2131
  let c32_594 : Index := 32#32
  ![v2335.toNat, 32]
def k1_off392 (v2131 : BitVec 32) : Fin 2 → Nat :=
  let v2339 : Index := Scalar.indexCast v2131
  let c48_595 : Index := 48#32
  ![v2339.toNat, 48]
def k1_off393 (v2131 : BitVec 32) : Fin 2 → Nat :=
  let v2343 : Index := Scalar.indexCast v2131
  let c64_596 : Index := 64#32
  ![v2343.toNat, 64]
def k1_off394 (v2131 : BitVec 32) : Fin 2 → Nat :=
  let v2347 : Index := Scalar.indexCast v2131
  let c80_597 : Index := 80#32
  ![v2347.toNat, 80]
def k1_off395 (v2131 : BitVec 32) : Fin 2 → Nat :=
  let v2351 : Index := Scalar.indexCast v2131
  let c96_598 : Index := 96#32
  ![v2351.toNat, 96]
def k1_off396 (v2131 : BitVec 32) : Fin 2 → Nat :=
  let v2355 : Index := Scalar.indexCast v2131
  let c112_599 : Index := 112#32
  ![v2355.toNat, 112]
def k1_off397 (v2131 : BitVec 32) : Fin 2 → Nat :=
  let v2359 : Index := Scalar.indexCast v2131
  let c128_600 : Index := 128#32
  ![v2359.toNat, 128]
def k1_off398 (v2131 : BitVec 32) : Fin 2 → Nat :=
  let v2363 : Index := Scalar.indexCast v2131
  let c144_601 : Index := 144#32
  ![v2363.toNat, 144]
def k1_off399 (v2131 : BitVec 32) : Fin 2 → Nat :=
  let v2367 : Index := Scalar.indexCast v2131
  let c160_602 : Index := 160#32
  ![v2367.toNat, 160]
def k1_off400 (v2131 : BitVec 32) : Fin 2 → Nat :=
  let v2371 : Index := Scalar.indexCast v2131
  let c176_603 : Index := 176#32
  ![v2371.toNat, 176]
def k1_off401 (v2131 : BitVec 32) : Fin 2 → Nat :=
  let v2375 : Index := Scalar.indexCast v2131
  let c192_604 : Index := 192#32
  ![v2375.toNat, 192]
def k1_off402 (v2131 : BitVec 32) : Fin 2 → Nat :=
  let v2379 : Index := Scalar.indexCast v2131
  let c208_605 : Index := 208#32
  ![v2379.toNat, 208]
def k1_off403 (v2131 : BitVec 32) : Fin 2 → Nat :=
  let v2383 : Index := Scalar.indexCast v2131
  let c224_606 : Index := 224#32
  ![v2383.toNat, 224]
def k1_off404 (v2131 : BitVec 32) : Fin 2 → Nat :=
  let v2387 : Index := Scalar.indexCast v2131
  let c240_607 : Index := 240#32
  ![v2387.toNat, 240]
def k1_off405 (v2131 : BitVec 32) : Fin 2 → Nat :=
  let v2391 : Index := Scalar.indexCast v2131
  let c256_608 : Index := 256#32
  ![v2391.toNat, 256]
def k1_off406 (v2131 : BitVec 32) : Fin 2 → Nat :=
  let v2395 : Index := Scalar.indexCast v2131
  let c272_609 : Index := 272#32
  ![v2395.toNat, 272]
def k1_off407 (v2131 : BitVec 32) : Fin 2 → Nat :=
  let v2399 : Index := Scalar.indexCast v2131
  let c288_610 : Index := 288#32
  ![v2399.toNat, 288]
def k1_off408 (v2131 : BitVec 32) : Fin 2 → Nat :=
  let v2403 : Index := Scalar.indexCast v2131
  let c304_611 : Index := 304#32
  ![v2403.toNat, 304]
def k1_off409 (v2131 : BitVec 32) : Fin 2 → Nat :=
  let v2407 : Index := Scalar.indexCast v2131
  let c320_612 : Index := 320#32
  ![v2407.toNat, 320]
def k1_off410 (v2131 : BitVec 32) : Fin 2 → Nat :=
  let v2411 : Index := Scalar.indexCast v2131
  let c336_613 : Index := 336#32
  ![v2411.toNat, 336]
def k1_off411 (v2131 : BitVec 32) : Fin 2 → Nat :=
  let v2415 : Index := Scalar.indexCast v2131
  let c352_614 : Index := 352#32
  ![v2415.toNat, 352]
def k1_off412 (v2131 : BitVec 32) : Fin 2 → Nat :=
  let v2419 : Index := Scalar.indexCast v2131
  let c368_615 : Index := 368#32
  ![v2419.toNat, 368]

def k1_chk8 (i : grid1.Coords) (v2131 : BitVec 32) : Prop :=
  (∀ (k1_h1 : k1_cond1 i = 1#1), ∀ a, (k1_off389 v2131) a + S1x16.size a ≤ S256x384.size a) ∧
  (∀ (k1_h1 : k1_cond1 i = 1#1), ∀ a, (k1_off390 v2131) a + S1x16.size a ≤ S256x384.size a) ∧
  (∀ (k1_h1 : k1_cond1 i = 1#1), ∀ a, (k1_off391 v2131) a + S1x16.size a ≤ S256x384.size a) ∧
  (∀ (k1_h1 : k1_cond1 i = 1#1), ∀ a, (k1_off392 v2131) a + S1x16.size a ≤ S256x384.size a) ∧
  (∀ (k1_h1 : k1_cond1 i = 1#1), ∀ a, (k1_off393 v2131) a + S1x16.size a ≤ S256x384.size a) ∧
  (∀ (k1_h1 : k1_cond1 i = 1#1), ∀ a, (k1_off394 v2131) a + S1x16.size a ≤ S256x384.size a) ∧
  (∀ (k1_h1 : k1_cond1 i = 1#1), ∀ a, (k1_off395 v2131) a + S1x16.size a ≤ S256x384.size a) ∧
  (∀ (k1_h1 : k1_cond1 i = 1#1), ∀ a, (k1_off396 v2131) a + S1x16.size a ≤ S256x384.size a) ∧
  (∀ (k1_h1 : k1_cond1 i = 1#1), ∀ a, (k1_off397 v2131) a + S1x16.size a ≤ S256x384.size a) ∧
  (∀ (k1_h1 : k1_cond1 i = 1#1), ∀ a, (k1_off398 v2131) a + S1x16.size a ≤ S256x384.size a) ∧
  (∀ (k1_h1 : k1_cond1 i = 1#1), ∀ a, (k1_off399 v2131) a + S1x16.size a ≤ S256x384.size a) ∧
  (∀ (k1_h1 : k1_cond1 i = 1#1), ∀ a, (k1_off400 v2131) a + S1x16.size a ≤ S256x384.size a) ∧
  (∀ (k1_h1 : k1_cond1 i = 1#1), ∀ a, (k1_off401 v2131) a + S1x16.size a ≤ S256x384.size a) ∧
  (∀ (k1_h1 : k1_cond1 i = 1#1), ∀ a, (k1_off402 v2131) a + S1x16.size a ≤ S256x384.size a) ∧
  (∀ (k1_h1 : k1_cond1 i = 1#1), ∀ a, (k1_off403 v2131) a + S1x16.size a ≤ S256x384.size a) ∧
  (∀ (k1_h1 : k1_cond1 i = 1#1), ∀ a, (k1_off404 v2131) a + S1x16.size a ≤ S256x384.size a) ∧
  (∀ (k1_h1 : k1_cond1 i = 1#1), ∀ a, (k1_off405 v2131) a + S1x16.size a ≤ S256x384.size a) ∧
  (∀ (k1_h1 : k1_cond1 i = 1#1), ∀ a, (k1_off406 v2131) a + S1x16.size a ≤ S256x384.size a) ∧
  (∀ (k1_h1 : k1_cond1 i = 1#1), ∀ a, (k1_off407 v2131) a + S1x16.size a ≤ S256x384.size a) ∧
  (∀ (k1_h1 : k1_cond1 i = 1#1), ∀ a, (k1_off408 v2131) a + S1x16.size a ≤ S256x384.size a) ∧
  (∀ (k1_h1 : k1_cond1 i = 1#1), ∀ a, (k1_off409 v2131) a + S1x16.size a ≤ S256x384.size a) ∧
  (∀ (k1_h1 : k1_cond1 i = 1#1), ∀ a, (k1_off410 v2131) a + S1x16.size a ≤ S256x384.size a) ∧
  (∀ (k1_h1 : k1_cond1 i = 1#1), ∀ a, (k1_off411 v2131) a + S1x16.size a ≤ S256x384.size a) ∧
  (∀ (k1_h1 : k1_cond1 i = 1#1), ∀ a, (k1_off412 v2131) a + S1x16.size a ≤ S256x384.size a)
theorem k1_off389_inb : ∀ (i : grid1.Coords) (v2131 : BitVec 32) (k1_hw8 : k1_chk8 i v2131), ∀ (k1_h1 : k1_cond1 i = 1#1), ∀ a, (k1_off389 v2131) a + S1x16.size a ≤ S256x384.size a := fun i v2131 k1_hw8 k1_h1 => k1_hw8.1 k1_h1
theorem k1_off390_inb : ∀ (i : grid1.Coords) (v2131 : BitVec 32) (k1_hw8 : k1_chk8 i v2131), ∀ (k1_h1 : k1_cond1 i = 1#1), ∀ a, (k1_off390 v2131) a + S1x16.size a ≤ S256x384.size a := fun i v2131 k1_hw8 k1_h1 => k1_hw8.2.1 k1_h1
theorem k1_off391_inb : ∀ (i : grid1.Coords) (v2131 : BitVec 32) (k1_hw8 : k1_chk8 i v2131), ∀ (k1_h1 : k1_cond1 i = 1#1), ∀ a, (k1_off391 v2131) a + S1x16.size a ≤ S256x384.size a := fun i v2131 k1_hw8 k1_h1 => k1_hw8.2.2.1 k1_h1
theorem k1_off392_inb : ∀ (i : grid1.Coords) (v2131 : BitVec 32) (k1_hw8 : k1_chk8 i v2131), ∀ (k1_h1 : k1_cond1 i = 1#1), ∀ a, (k1_off392 v2131) a + S1x16.size a ≤ S256x384.size a := fun i v2131 k1_hw8 k1_h1 => k1_hw8.2.2.2.1 k1_h1
theorem k1_off393_inb : ∀ (i : grid1.Coords) (v2131 : BitVec 32) (k1_hw8 : k1_chk8 i v2131), ∀ (k1_h1 : k1_cond1 i = 1#1), ∀ a, (k1_off393 v2131) a + S1x16.size a ≤ S256x384.size a := fun i v2131 k1_hw8 k1_h1 => k1_hw8.2.2.2.2.1 k1_h1
theorem k1_off394_inb : ∀ (i : grid1.Coords) (v2131 : BitVec 32) (k1_hw8 : k1_chk8 i v2131), ∀ (k1_h1 : k1_cond1 i = 1#1), ∀ a, (k1_off394 v2131) a + S1x16.size a ≤ S256x384.size a := fun i v2131 k1_hw8 k1_h1 => k1_hw8.2.2.2.2.2.1 k1_h1
theorem k1_off395_inb : ∀ (i : grid1.Coords) (v2131 : BitVec 32) (k1_hw8 : k1_chk8 i v2131), ∀ (k1_h1 : k1_cond1 i = 1#1), ∀ a, (k1_off395 v2131) a + S1x16.size a ≤ S256x384.size a := fun i v2131 k1_hw8 k1_h1 => k1_hw8.2.2.2.2.2.2.1 k1_h1
theorem k1_off396_inb : ∀ (i : grid1.Coords) (v2131 : BitVec 32) (k1_hw8 : k1_chk8 i v2131), ∀ (k1_h1 : k1_cond1 i = 1#1), ∀ a, (k1_off396 v2131) a + S1x16.size a ≤ S256x384.size a := fun i v2131 k1_hw8 k1_h1 => k1_hw8.2.2.2.2.2.2.2.1 k1_h1
theorem k1_off397_inb : ∀ (i : grid1.Coords) (v2131 : BitVec 32) (k1_hw8 : k1_chk8 i v2131), ∀ (k1_h1 : k1_cond1 i = 1#1), ∀ a, (k1_off397 v2131) a + S1x16.size a ≤ S256x384.size a := fun i v2131 k1_hw8 k1_h1 => k1_hw8.2.2.2.2.2.2.2.2.1 k1_h1
theorem k1_off398_inb : ∀ (i : grid1.Coords) (v2131 : BitVec 32) (k1_hw8 : k1_chk8 i v2131), ∀ (k1_h1 : k1_cond1 i = 1#1), ∀ a, (k1_off398 v2131) a + S1x16.size a ≤ S256x384.size a := fun i v2131 k1_hw8 k1_h1 => k1_hw8.2.2.2.2.2.2.2.2.2.1 k1_h1
theorem k1_off399_inb : ∀ (i : grid1.Coords) (v2131 : BitVec 32) (k1_hw8 : k1_chk8 i v2131), ∀ (k1_h1 : k1_cond1 i = 1#1), ∀ a, (k1_off399 v2131) a + S1x16.size a ≤ S256x384.size a := fun i v2131 k1_hw8 k1_h1 => k1_hw8.2.2.2.2.2.2.2.2.2.2.1 k1_h1
theorem k1_off400_inb : ∀ (i : grid1.Coords) (v2131 : BitVec 32) (k1_hw8 : k1_chk8 i v2131), ∀ (k1_h1 : k1_cond1 i = 1#1), ∀ a, (k1_off400 v2131) a + S1x16.size a ≤ S256x384.size a := fun i v2131 k1_hw8 k1_h1 => k1_hw8.2.2.2.2.2.2.2.2.2.2.2.1 k1_h1
theorem k1_off401_inb : ∀ (i : grid1.Coords) (v2131 : BitVec 32) (k1_hw8 : k1_chk8 i v2131), ∀ (k1_h1 : k1_cond1 i = 1#1), ∀ a, (k1_off401 v2131) a + S1x16.size a ≤ S256x384.size a := fun i v2131 k1_hw8 k1_h1 => k1_hw8.2.2.2.2.2.2.2.2.2.2.2.2.1 k1_h1
theorem k1_off402_inb : ∀ (i : grid1.Coords) (v2131 : BitVec 32) (k1_hw8 : k1_chk8 i v2131), ∀ (k1_h1 : k1_cond1 i = 1#1), ∀ a, (k1_off402 v2131) a + S1x16.size a ≤ S256x384.size a := fun i v2131 k1_hw8 k1_h1 => k1_hw8.2.2.2.2.2.2.2.2.2.2.2.2.2.1 k1_h1
theorem k1_off403_inb : ∀ (i : grid1.Coords) (v2131 : BitVec 32) (k1_hw8 : k1_chk8 i v2131), ∀ (k1_h1 : k1_cond1 i = 1#1), ∀ a, (k1_off403 v2131) a + S1x16.size a ≤ S256x384.size a := fun i v2131 k1_hw8 k1_h1 => k1_hw8.2.2.2.2.2.2.2.2.2.2.2.2.2.2.1 k1_h1
theorem k1_off404_inb : ∀ (i : grid1.Coords) (v2131 : BitVec 32) (k1_hw8 : k1_chk8 i v2131), ∀ (k1_h1 : k1_cond1 i = 1#1), ∀ a, (k1_off404 v2131) a + S1x16.size a ≤ S256x384.size a := fun i v2131 k1_hw8 k1_h1 => k1_hw8.2.2.2.2.2.2.2.2.2.2.2.2.2.2.2.1 k1_h1
theorem k1_off405_inb : ∀ (i : grid1.Coords) (v2131 : BitVec 32) (k1_hw8 : k1_chk8 i v2131), ∀ (k1_h1 : k1_cond1 i = 1#1), ∀ a, (k1_off405 v2131) a + S1x16.size a ≤ S256x384.size a := fun i v2131 k1_hw8 k1_h1 => k1_hw8.2.2.2.2.2.2.2.2.2.2.2.2.2.2.2.2.1 k1_h1
theorem k1_off406_inb : ∀ (i : grid1.Coords) (v2131 : BitVec 32) (k1_hw8 : k1_chk8 i v2131), ∀ (k1_h1 : k1_cond1 i = 1#1), ∀ a, (k1_off406 v2131) a + S1x16.size a ≤ S256x384.size a := fun i v2131 k1_hw8 k1_h1 => k1_hw8.2.2.2.2.2.2.2.2.2.2.2.2.2.2.2.2.2.1 k1_h1
theorem k1_off407_inb : ∀ (i : grid1.Coords) (v2131 : BitVec 32) (k1_hw8 : k1_chk8 i v2131), ∀ (k1_h1 : k1_cond1 i = 1#1), ∀ a, (k1_off407 v2131) a + S1x16.size a ≤ S256x384.size a := fun i v2131 k1_hw8 k1_h1 => k1_hw8.2.2.2.2.2.2.2.2.2.2.2.2.2.2.2.2.2.2.1 k1_h1
theorem k1_off408_inb : ∀ (i : grid1.Coords) (v2131 : BitVec 32) (k1_hw8 : k1_chk8 i v2131), ∀ (k1_h1 : k1_cond1 i = 1#1), ∀ a, (k1_off408 v2131) a + S1x16.size a ≤ S256x384.size a := fun i v2131 k1_hw8 k1_h1 => k1_hw8.2.2.2.2.2.2.2.2.2.2.2.2.2.2.2.2.2.2.2.1 k1_h1
theorem k1_off409_inb : ∀ (i : grid1.Coords) (v2131 : BitVec 32) (k1_hw8 : k1_chk8 i v2131), ∀ (k1_h1 : k1_cond1 i = 1#1), ∀ a, (k1_off409 v2131) a + S1x16.size a ≤ S256x384.size a := fun i v2131 k1_hw8 k1_h1 => k1_hw8.2.2.2.2.2.2.2.2.2.2.2.2.2.2.2.2.2.2.2.2.1 k1_h1
theorem k1_off410_inb : ∀ (i : grid1.Coords) (v2131 : BitVec 32) (k1_hw8 : k1_chk8 i v2131), ∀ (k1_h1 : k1_cond1 i = 1#1), ∀ a, (k1_off410 v2131) a + S1x16.size a ≤ S256x384.size a := fun i v2131 k1_hw8 k1_h1 => k1_hw8.2.2.2.2.2.2.2.2.2.2.2.2.2.2.2.2.2.2.2.2.2.1 k1_h1
theorem k1_off411_inb : ∀ (i : grid1.Coords) (v2131 : BitVec 32) (k1_hw8 : k1_chk8 i v2131), ∀ (k1_h1 : k1_cond1 i = 1#1), ∀ a, (k1_off411 v2131) a + S1x16.size a ≤ S256x384.size a := fun i v2131 k1_hw8 k1_h1 => k1_hw8.2.2.2.2.2.2.2.2.2.2.2.2.2.2.2.2.2.2.2.2.2.2.1 k1_h1
theorem k1_off412_inb : ∀ (i : grid1.Coords) (v2131 : BitVec 32) (k1_hw8 : k1_chk8 i v2131), ∀ (k1_h1 : k1_cond1 i = 1#1), ∀ a, (k1_off412 v2131) a + S1x16.size a ≤ S256x384.size a := fun i v2131 k1_hw8 k1_h1 => k1_hw8.2.2.2.2.2.2.2.2.2.2.2.2.2.2.2.2.2.2.2.2.2.2.2 k1_h1

def k1_off413 (k1_t3 : Fin k1_t3_loop.trips) : Fin 2 → Nat :=
  let c0_i32_32 : BitVec 32 := 0#32
  let c1_i32_34 : BitVec 32 := 1#32
  let arg37 : BitVec 32 := Scf.iv c0_i32_32 c1_i32_34 k1_t3
  let c16_i32_616 : BitVec 32 := 16#32
  let v2425 : BitVec 32 := Scalar.muli arg37 c16_i32_616
  let c8_i32_617 : BitVec 32 := 8#32
  let v2426 : BitVec 32 := Scalar.addi v2425 c8_i32_617
  let v2428 : Index := Scalar.indexCast v2426
  let c0_618 : Index := 0#32
  ![v2428.toNat, 0]
def k1_off414 (k1_t3 : Fin k1_t3_loop.trips) : Fin 2 → Nat :=
  let c0_i32_32 : BitVec 32 := 0#32
  let c1_i32_34 : BitVec 32 := 1#32
  let arg37 : BitVec 32 := Scf.iv c0_i32_32 c1_i32_34 k1_t3
  let c16_i32_616 : BitVec 32 := 16#32
  let v2425 : BitVec 32 := Scalar.muli arg37 c16_i32_616
  let c8_i32_617 : BitVec 32 := 8#32
  let v2426 : BitVec 32 := Scalar.addi v2425 c8_i32_617
  let v2436 : Index := Scalar.indexCast v2426
  let c16_620 : Index := 16#32
  ![v2436.toNat, 16]
def k1_off415 (k1_t3 : Fin k1_t3_loop.trips) : Fin 2 → Nat :=
  let c0_i32_32 : BitVec 32 := 0#32
  let c1_i32_34 : BitVec 32 := 1#32
  let arg37 : BitVec 32 := Scf.iv c0_i32_32 c1_i32_34 k1_t3
  let c16_i32_616 : BitVec 32 := 16#32
  let v2425 : BitVec 32 := Scalar.muli arg37 c16_i32_616
  let c8_i32_617 : BitVec 32 := 8#32
  let v2426 : BitVec 32 := Scalar.addi v2425 c8_i32_617
  let v2444 : Index := Scalar.indexCast v2426
  let c32_622 : Index := 32#32
  ![v2444.toNat, 32]
def k1_off416 (k1_t3 : Fin k1_t3_loop.trips) : Fin 2 → Nat :=
  let c0_i32_32 : BitVec 32 := 0#32
  let c1_i32_34 : BitVec 32 := 1#32
  let arg37 : BitVec 32 := Scf.iv c0_i32_32 c1_i32_34 k1_t3
  let c16_i32_616 : BitVec 32 := 16#32
  let v2425 : BitVec 32 := Scalar.muli arg37 c16_i32_616
  let c8_i32_617 : BitVec 32 := 8#32
  let v2426 : BitVec 32 := Scalar.addi v2425 c8_i32_617
  let v2452 : Index := Scalar.indexCast v2426
  let c48_624 : Index := 48#32
  ![v2452.toNat, 48]
def k1_off417 (k1_t3 : Fin k1_t3_loop.trips) : Fin 2 → Nat :=
  let c0_i32_32 : BitVec 32 := 0#32
  let c1_i32_34 : BitVec 32 := 1#32
  let arg37 : BitVec 32 := Scf.iv c0_i32_32 c1_i32_34 k1_t3
  let c16_i32_616 : BitVec 32 := 16#32
  let v2425 : BitVec 32 := Scalar.muli arg37 c16_i32_616
  let c8_i32_617 : BitVec 32 := 8#32
  let v2426 : BitVec 32 := Scalar.addi v2425 c8_i32_617
  let v2460 : Index := Scalar.indexCast v2426
  let c64_626 : Index := 64#32
  ![v2460.toNat, 64]
def k1_off418 (k1_t3 : Fin k1_t3_loop.trips) : Fin 2 → Nat :=
  let c0_i32_32 : BitVec 32 := 0#32
  let c1_i32_34 : BitVec 32 := 1#32
  let arg37 : BitVec 32 := Scf.iv c0_i32_32 c1_i32_34 k1_t3
  let c16_i32_616 : BitVec 32 := 16#32
  let v2425 : BitVec 32 := Scalar.muli arg37 c16_i32_616
  let c8_i32_617 : BitVec 32 := 8#32
  let v2426 : BitVec 32 := Scalar.addi v2425 c8_i32_617
  let v2468 : Index := Scalar.indexCast v2426
  let c80_628 : Index := 80#32
  ![v2468.toNat, 80]
def k1_off419 (k1_t3 : Fin k1_t3_loop.trips) : Fin 2 → Nat :=
  let c0_i32_32 : BitVec 32 := 0#32
  let c1_i32_34 : BitVec 32 := 1#32
  let arg37 : BitVec 32 := Scf.iv c0_i32_32 c1_i32_34 k1_t3
  let c16_i32_616 : BitVec 32 := 16#32
  let v2425 : BitVec 32 := Scalar.muli arg37 c16_i32_616
  let c8_i32_617 : BitVec 32 := 8#32
  let v2426 : BitVec 32 := Scalar.addi v2425 c8_i32_617
  let v2476 : Index := Scalar.indexCast v2426
  let c96_630 : Index := 96#32
  ![v2476.toNat, 96]
def k1_off420 (k1_t3 : Fin k1_t3_loop.trips) : Fin 2 → Nat :=
  let c0_i32_32 : BitVec 32 := 0#32
  let c1_i32_34 : BitVec 32 := 1#32
  let arg37 : BitVec 32 := Scf.iv c0_i32_32 c1_i32_34 k1_t3
  let c16_i32_616 : BitVec 32 := 16#32
  let v2425 : BitVec 32 := Scalar.muli arg37 c16_i32_616
  let c8_i32_617 : BitVec 32 := 8#32
  let v2426 : BitVec 32 := Scalar.addi v2425 c8_i32_617
  let v2484 : Index := Scalar.indexCast v2426
  let c112_632 : Index := 112#32
  ![v2484.toNat, 112]
def k1_off421 (k1_t3 : Fin k1_t3_loop.trips) : Fin 2 → Nat :=
  let c0_i32_32 : BitVec 32 := 0#32
  let c1_i32_34 : BitVec 32 := 1#32
  let arg37 : BitVec 32 := Scf.iv c0_i32_32 c1_i32_34 k1_t3
  let c16_i32_616 : BitVec 32 := 16#32
  let v2425 : BitVec 32 := Scalar.muli arg37 c16_i32_616
  let c8_i32_617 : BitVec 32 := 8#32
  let v2426 : BitVec 32 := Scalar.addi v2425 c8_i32_617
  let v2492 : Index := Scalar.indexCast v2426
  let c128_634 : Index := 128#32
  ![v2492.toNat, 128]
def k1_off422 (k1_t3 : Fin k1_t3_loop.trips) : Fin 2 → Nat :=
  let c0_i32_32 : BitVec 32 := 0#32
  let c1_i32_34 : BitVec 32 := 1#32
  let arg37 : BitVec 32 := Scf.iv c0_i32_32 c1_i32_34 k1_t3
  let c16_i32_616 : BitVec 32 := 16#32
  let v2425 : BitVec 32 := Scalar.muli arg37 c16_i32_616
  let c8_i32_617 : BitVec 32 := 8#32
  let v2426 : BitVec 32 := Scalar.addi v2425 c8_i32_617
  let v2500 : Index := Scalar.indexCast v2426
  let c144_636 : Index := 144#32
  ![v2500.toNat, 144]
def k1_off423 (k1_t3 : Fin k1_t3_loop.trips) : Fin 2 → Nat :=
  let c0_i32_32 : BitVec 32 := 0#32
  let c1_i32_34 : BitVec 32 := 1#32
  let arg37 : BitVec 32 := Scf.iv c0_i32_32 c1_i32_34 k1_t3
  let c16_i32_616 : BitVec 32 := 16#32
  let v2425 : BitVec 32 := Scalar.muli arg37 c16_i32_616
  let c8_i32_617 : BitVec 32 := 8#32
  let v2426 : BitVec 32 := Scalar.addi v2425 c8_i32_617
  let v2508 : Index := Scalar.indexCast v2426
  let c160_638 : Index := 160#32
  ![v2508.toNat, 160]
def k1_off424 (k1_t3 : Fin k1_t3_loop.trips) : Fin 2 → Nat :=
  let c0_i32_32 : BitVec 32 := 0#32
  let c1_i32_34 : BitVec 32 := 1#32
  let arg37 : BitVec 32 := Scf.iv c0_i32_32 c1_i32_34 k1_t3
  let c16_i32_616 : BitVec 32 := 16#32
  let v2425 : BitVec 32 := Scalar.muli arg37 c16_i32_616
  let c8_i32_617 : BitVec 32 := 8#32
  let v2426 : BitVec 32 := Scalar.addi v2425 c8_i32_617
  let v2516 : Index := Scalar.indexCast v2426
  let c176_640 : Index := 176#32
  ![v2516.toNat, 176]
def k1_off425 (k1_t3 : Fin k1_t3_loop.trips) : Fin 2 → Nat :=
  let c0_i32_32 : BitVec 32 := 0#32
  let c1_i32_34 : BitVec 32 := 1#32
  let arg37 : BitVec 32 := Scf.iv c0_i32_32 c1_i32_34 k1_t3
  let c16_i32_616 : BitVec 32 := 16#32
  let v2425 : BitVec 32 := Scalar.muli arg37 c16_i32_616
  let c8_i32_617 : BitVec 32 := 8#32
  let v2426 : BitVec 32 := Scalar.addi v2425 c8_i32_617
  let v2524 : Index := Scalar.indexCast v2426
  let c192_642 : Index := 192#32
  ![v2524.toNat, 192]
def k1_off426 (k1_t3 : Fin k1_t3_loop.trips) : Fin 2 → Nat :=
  let c0_i32_32 : BitVec 32 := 0#32
  let c1_i32_34 : BitVec 32 := 1#32
  let arg37 : BitVec 32 := Scf.iv c0_i32_32 c1_i32_34 k1_t3
  let c16_i32_616 : BitVec 32 := 16#32
  let v2425 : BitVec 32 := Scalar.muli arg37 c16_i32_616
  let c8_i32_617 : BitVec 32 := 8#32
  let v2426 : BitVec 32 := Scalar.addi v2425 c8_i32_617
  let v2532 : Index := Scalar.indexCast v2426
  let c208_644 : Index := 208#32
  ![v2532.toNat, 208]
def k1_off427 (k1_t3 : Fin k1_t3_loop.trips) : Fin 2 → Nat :=
  let c0_i32_32 : BitVec 32 := 0#32
  let c1_i32_34 : BitVec 32 := 1#32
  let arg37 : BitVec 32 := Scf.iv c0_i32_32 c1_i32_34 k1_t3
  let c16_i32_616 : BitVec 32 := 16#32
  let v2425 : BitVec 32 := Scalar.muli arg37 c16_i32_616
  let c8_i32_617 : BitVec 32 := 8#32
  let v2426 : BitVec 32 := Scalar.addi v2425 c8_i32_617
  let v2540 : Index := Scalar.indexCast v2426
  let c224_646 : Index := 224#32
  ![v2540.toNat, 224]
def k1_off428 (k1_t3 : Fin k1_t3_loop.trips) : Fin 2 → Nat :=
  let c0_i32_32 : BitVec 32 := 0#32
  let c1_i32_34 : BitVec 32 := 1#32
  let arg37 : BitVec 32 := Scf.iv c0_i32_32 c1_i32_34 k1_t3
  let c16_i32_616 : BitVec 32 := 16#32
  let v2425 : BitVec 32 := Scalar.muli arg37 c16_i32_616
  let c8_i32_617 : BitVec 32 := 8#32
  let v2426 : BitVec 32 := Scalar.addi v2425 c8_i32_617
  let v2548 : Index := Scalar.indexCast v2426
  let c240_648 : Index := 240#32
  ![v2548.toNat, 240]
def k1_off429 (k1_t3 : Fin k1_t3_loop.trips) : Fin 2 → Nat :=
  let c0_i32_32 : BitVec 32 := 0#32
  let c1_i32_34 : BitVec 32 := 1#32
  let arg37 : BitVec 32 := Scf.iv c0_i32_32 c1_i32_34 k1_t3
  let c16_i32_616 : BitVec 32 := 16#32
  let v2425 : BitVec 32 := Scalar.muli arg37 c16_i32_616
  let c8_i32_617 : BitVec 32 := 8#32
  let v2426 : BitVec 32 := Scalar.addi v2425 c8_i32_617
  let v2556 : Index := Scalar.indexCast v2426
  let c256_650 : Index := 256#32
  ![v2556.toNat, 256]
def k1_off430 (k1_t3 : Fin k1_t3_loop.trips) : Fin 2 → Nat :=
  let c0_i32_32 : BitVec 32 := 0#32
  let c1_i32_34 : BitVec 32 := 1#32
  let arg37 : BitVec 32 := Scf.iv c0_i32_32 c1_i32_34 k1_t3
  let c16_i32_616 : BitVec 32 := 16#32
  let v2425 : BitVec 32 := Scalar.muli arg37 c16_i32_616
  let c8_i32_617 : BitVec 32 := 8#32
  let v2426 : BitVec 32 := Scalar.addi v2425 c8_i32_617
  let v2564 : Index := Scalar.indexCast v2426
  let c272_652 : Index := 272#32
  ![v2564.toNat, 272]
def k1_off431 (k1_t3 : Fin k1_t3_loop.trips) : Fin 2 → Nat :=
  let c0_i32_32 : BitVec 32 := 0#32
  let c1_i32_34 : BitVec 32 := 1#32
  let arg37 : BitVec 32 := Scf.iv c0_i32_32 c1_i32_34 k1_t3
  let c16_i32_616 : BitVec 32 := 16#32
  let v2425 : BitVec 32 := Scalar.muli arg37 c16_i32_616
  let c8_i32_617 : BitVec 32 := 8#32
  let v2426 : BitVec 32 := Scalar.addi v2425 c8_i32_617
  let v2572 : Index := Scalar.indexCast v2426
  let c288_654 : Index := 288#32
  ![v2572.toNat, 288]
def k1_off432 (k1_t3 : Fin k1_t3_loop.trips) : Fin 2 → Nat :=
  let c0_i32_32 : BitVec 32 := 0#32
  let c1_i32_34 : BitVec 32 := 1#32
  let arg37 : BitVec 32 := Scf.iv c0_i32_32 c1_i32_34 k1_t3
  let c16_i32_616 : BitVec 32 := 16#32
  let v2425 : BitVec 32 := Scalar.muli arg37 c16_i32_616
  let c8_i32_617 : BitVec 32 := 8#32
  let v2426 : BitVec 32 := Scalar.addi v2425 c8_i32_617
  let v2580 : Index := Scalar.indexCast v2426
  let c304_656 : Index := 304#32
  ![v2580.toNat, 304]
def k1_off433 (k1_t3 : Fin k1_t3_loop.trips) : Fin 2 → Nat :=
  let c0_i32_32 : BitVec 32 := 0#32
  let c1_i32_34 : BitVec 32 := 1#32
  let arg37 : BitVec 32 := Scf.iv c0_i32_32 c1_i32_34 k1_t3
  let c16_i32_616 : BitVec 32 := 16#32
  let v2425 : BitVec 32 := Scalar.muli arg37 c16_i32_616
  let c8_i32_617 : BitVec 32 := 8#32
  let v2426 : BitVec 32 := Scalar.addi v2425 c8_i32_617
  let v2588 : Index := Scalar.indexCast v2426
  let c320_658 : Index := 320#32
  ![v2588.toNat, 320]
def k1_off434 (k1_t3 : Fin k1_t3_loop.trips) : Fin 2 → Nat :=
  let c0_i32_32 : BitVec 32 := 0#32
  let c1_i32_34 : BitVec 32 := 1#32
  let arg37 : BitVec 32 := Scf.iv c0_i32_32 c1_i32_34 k1_t3
  let c16_i32_616 : BitVec 32 := 16#32
  let v2425 : BitVec 32 := Scalar.muli arg37 c16_i32_616
  let c8_i32_617 : BitVec 32 := 8#32
  let v2426 : BitVec 32 := Scalar.addi v2425 c8_i32_617
  let v2596 : Index := Scalar.indexCast v2426
  let c336_660 : Index := 336#32
  ![v2596.toNat, 336]
def k1_off435 (k1_t3 : Fin k1_t3_loop.trips) : Fin 2 → Nat :=
  let c0_i32_32 : BitVec 32 := 0#32
  let c1_i32_34 : BitVec 32 := 1#32
  let arg37 : BitVec 32 := Scf.iv c0_i32_32 c1_i32_34 k1_t3
  let c16_i32_616 : BitVec 32 := 16#32
  let v2425 : BitVec 32 := Scalar.muli arg37 c16_i32_616
  let c8_i32_617 : BitVec 32 := 8#32
  let v2426 : BitVec 32 := Scalar.addi v2425 c8_i32_617
  let v2604 : Index := Scalar.indexCast v2426
  let c352_662 : Index := 352#32
  ![v2604.toNat, 352]
def k1_off436 (k1_t3 : Fin k1_t3_loop.trips) : Fin 2 → Nat :=
  let c0_i32_32 : BitVec 32 := 0#32
  let c1_i32_34 : BitVec 32 := 1#32
  let arg37 : BitVec 32 := Scf.iv c0_i32_32 c1_i32_34 k1_t3
  let c16_i32_616 : BitVec 32 := 16#32
  let v2425 : BitVec 32 := Scalar.muli arg37 c16_i32_616
  let c8_i32_617 : BitVec 32 := 8#32
  let v2426 : BitVec 32 := Scalar.addi v2425 c8_i32_617
  let v2612 : Index := Scalar.indexCast v2426
  let c368_664 : Index := 368#32
  ![v2612.toNat, 368]
def k1_off437 (v2424 : BitVec 32) : Fin 2 → Nat :=
  let v2620 : Index := Scalar.indexCast v2424
  let c0_666 : Index := 0#32
  ![v2620.toNat, 0]

def k1_off438 (v2424 : BitVec 32) : Fin 2 → Nat :=
  let v2624 : Index := Scalar.indexCast v2424
  let c16_667 : Index := 16#32
  ![v2624.toNat, 16]
def k1_off439 (v2424 : BitVec 32) : Fin 2 → Nat :=
  let v2628 : Index := Scalar.indexCast v2424
  let c32_668 : Index := 32#32
  ![v2628.toNat, 32]
def k1_off440 (v2424 : BitVec 32) : Fin 2 → Nat :=
  let v2632 : Index := Scalar.indexCast v2424
  let c48_669 : Index := 48#32
  ![v2632.toNat, 48]
def k1_off441 (v2424 : BitVec 32) : Fin 2 → Nat :=
  let v2636 : Index := Scalar.indexCast v2424
  let c64_670 : Index := 64#32
  ![v2636.toNat, 64]
def k1_off442 (v2424 : BitVec 32) : Fin 2 → Nat :=
  let v2640 : Index := Scalar.indexCast v2424
  let c80_671 : Index := 80#32
  ![v2640.toNat, 80]
def k1_off443 (v2424 : BitVec 32) : Fin 2 → Nat :=
  let v2644 : Index := Scalar.indexCast v2424
  let c96_672 : Index := 96#32
  ![v2644.toNat, 96]
def k1_off444 (v2424 : BitVec 32) : Fin 2 → Nat :=
  let v2648 : Index := Scalar.indexCast v2424
  let c112_673 : Index := 112#32
  ![v2648.toNat, 112]
def k1_off445 (v2424 : BitVec 32) : Fin 2 → Nat :=
  let v2652 : Index := Scalar.indexCast v2424
  let c128_674 : Index := 128#32
  ![v2652.toNat, 128]
def k1_off446 (v2424 : BitVec 32) : Fin 2 → Nat :=
  let v2656 : Index := Scalar.indexCast v2424
  let c144_675 : Index := 144#32
  ![v2656.toNat, 144]
def k1_off447 (v2424 : BitVec 32) : Fin 2 → Nat :=
  let v2660 : Index := Scalar.indexCast v2424
  let c160_676 : Index := 160#32
  ![v2660.toNat, 160]
def k1_off448 (v2424 : BitVec 32) : Fin 2 → Nat :=
  let v2664 : Index := Scalar.indexCast v2424
  let c176_677 : Index := 176#32
  ![v2664.toNat, 176]
def k1_off449 (v2424 : BitVec 32) : Fin 2 → Nat :=
  let v2668 : Index := Scalar.indexCast v2424
  let c192_678 : Index := 192#32
  ![v2668.toNat, 192]
def k1_off450 (v2424 : BitVec 32) : Fin 2 → Nat :=
  let v2672 : Index := Scalar.indexCast v2424
  let c208_679 : Index := 208#32
  ![v2672.toNat, 208]
def k1_off451 (v2424 : BitVec 32) : Fin 2 → Nat :=
  let v2676 : Index := Scalar.indexCast v2424
  let c224_680 : Index := 224#32
  ![v2676.toNat, 224]
def k1_off452 (v2424 : BitVec 32) : Fin 2 → Nat :=
  let v2680 : Index := Scalar.indexCast v2424
  let c240_681 : Index := 240#32
  ![v2680.toNat, 240]
def k1_off453 (v2424 : BitVec 32) : Fin 2 → Nat :=
  let v2684 : Index := Scalar.indexCast v2424
  let c256_682 : Index := 256#32
  ![v2684.toNat, 256]
def k1_off454 (v2424 : BitVec 32) : Fin 2 → Nat :=
  let v2688 : Index := Scalar.indexCast v2424
  let c272_683 : Index := 272#32
  ![v2688.toNat, 272]
def k1_off455 (v2424 : BitVec 32) : Fin 2 → Nat :=
  let v2692 : Index := Scalar.indexCast v2424
  let c288_684 : Index := 288#32
  ![v2692.toNat, 288]
def k1_off456 (v2424 : BitVec 32) : Fin 2 → Nat :=
  let v2696 : Index := Scalar.indexCast v2424
  let c304_685 : Index := 304#32
  ![v2696.toNat, 304]
def k1_off457 (v2424 : BitVec 32) : Fin 2 → Nat :=
  let v2700 : Index := Scalar.indexCast v2424
  let c320_686 : Index := 320#32
  ![v2700.toNat, 320]
def k1_off458 (v2424 : BitVec 32) : Fin 2 → Nat :=
  let v2704 : Index := Scalar.indexCast v2424
  let c336_687 : Index := 336#32
  ![v2704.toNat, 336]
def k1_off459 (v2424 : BitVec 32) : Fin 2 → Nat :=
  let v2708 : Index := Scalar.indexCast v2424
  let c352_688 : Index := 352#32
  ![v2708.toNat, 352]
def k1_off460 (v2424 : BitVec 32) : Fin 2 → Nat :=
  let v2712 : Index := Scalar.indexCast v2424
  let c368_689 : Index := 368#32
  ![v2712.toNat, 368]

def k1_chk9 (i : grid1.Coords) (v2424 : BitVec 32) : Prop :=
  (∀ (k1_h1 : k1_cond1 i = 1#1), ∀ a, (k1_off437 v2424) a + S1x16.size a ≤ S256x384.size a) ∧
  (∀ (k1_h1 : k1_cond1 i = 1#1), ∀ a, (k1_off438 v2424) a + S1x16.size a ≤ S256x384.size a) ∧
  (∀ (k1_h1 : k1_cond1 i = 1#1), ∀ a, (k1_off439 v2424) a + S1x16.size a ≤ S256x384.size a) ∧
  (∀ (k1_h1 : k1_cond1 i = 1#1), ∀ a, (k1_off440 v2424) a + S1x16.size a ≤ S256x384.size a) ∧
  (∀ (k1_h1 : k1_cond1 i = 1#1), ∀ a, (k1_off441 v2424) a + S1x16.size a ≤ S256x384.size a) ∧
  (∀ (k1_h1 : k1_cond1 i = 1#1), ∀ a, (k1_off442 v2424) a + S1x16.size a ≤ S256x384.size a) ∧
  (∀ (k1_h1 : k1_cond1 i = 1#1), ∀ a, (k1_off443 v2424) a + S1x16.size a ≤ S256x384.size a) ∧
  (∀ (k1_h1 : k1_cond1 i = 1#1), ∀ a, (k1_off444 v2424) a + S1x16.size a ≤ S256x384.size a) ∧
  (∀ (k1_h1 : k1_cond1 i = 1#1), ∀ a, (k1_off445 v2424) a + S1x16.size a ≤ S256x384.size a) ∧
  (∀ (k1_h1 : k1_cond1 i = 1#1), ∀ a, (k1_off446 v2424) a + S1x16.size a ≤ S256x384.size a) ∧
  (∀ (k1_h1 : k1_cond1 i = 1#1), ∀ a, (k1_off447 v2424) a + S1x16.size a ≤ S256x384.size a) ∧
  (∀ (k1_h1 : k1_cond1 i = 1#1), ∀ a, (k1_off448 v2424) a + S1x16.size a ≤ S256x384.size a) ∧
  (∀ (k1_h1 : k1_cond1 i = 1#1), ∀ a, (k1_off449 v2424) a + S1x16.size a ≤ S256x384.size a) ∧
  (∀ (k1_h1 : k1_cond1 i = 1#1), ∀ a, (k1_off450 v2424) a + S1x16.size a ≤ S256x384.size a) ∧
  (∀ (k1_h1 : k1_cond1 i = 1#1), ∀ a, (k1_off451 v2424) a + S1x16.size a ≤ S256x384.size a) ∧
  (∀ (k1_h1 : k1_cond1 i = 1#1), ∀ a, (k1_off452 v2424) a + S1x16.size a ≤ S256x384.size a) ∧
  (∀ (k1_h1 : k1_cond1 i = 1#1), ∀ a, (k1_off453 v2424) a + S1x16.size a ≤ S256x384.size a) ∧
  (∀ (k1_h1 : k1_cond1 i = 1#1), ∀ a, (k1_off454 v2424) a + S1x16.size a ≤ S256x384.size a) ∧
  (∀ (k1_h1 : k1_cond1 i = 1#1), ∀ a, (k1_off455 v2424) a + S1x16.size a ≤ S256x384.size a) ∧
  (∀ (k1_h1 : k1_cond1 i = 1#1), ∀ a, (k1_off456 v2424) a + S1x16.size a ≤ S256x384.size a) ∧
  (∀ (k1_h1 : k1_cond1 i = 1#1), ∀ a, (k1_off457 v2424) a + S1x16.size a ≤ S256x384.size a) ∧
  (∀ (k1_h1 : k1_cond1 i = 1#1), ∀ a, (k1_off458 v2424) a + S1x16.size a ≤ S256x384.size a) ∧
  (∀ (k1_h1 : k1_cond1 i = 1#1), ∀ a, (k1_off459 v2424) a + S1x16.size a ≤ S256x384.size a) ∧
  (∀ (k1_h1 : k1_cond1 i = 1#1), ∀ a, (k1_off460 v2424) a + S1x16.size a ≤ S256x384.size a)
theorem k1_off437_inb : ∀ (i : grid1.Coords) (v2424 : BitVec 32) (k1_hw9 : k1_chk9 i v2424), ∀ (k1_h1 : k1_cond1 i = 1#1), ∀ a, (k1_off437 v2424) a + S1x16.size a ≤ S256x384.size a := fun i v2424 k1_hw9 k1_h1 => k1_hw9.1 k1_h1
theorem k1_off438_inb : ∀ (i : grid1.Coords) (v2424 : BitVec 32) (k1_hw9 : k1_chk9 i v2424), ∀ (k1_h1 : k1_cond1 i = 1#1), ∀ a, (k1_off438 v2424) a + S1x16.size a ≤ S256x384.size a := fun i v2424 k1_hw9 k1_h1 => k1_hw9.2.1 k1_h1
theorem k1_off439_inb : ∀ (i : grid1.Coords) (v2424 : BitVec 32) (k1_hw9 : k1_chk9 i v2424), ∀ (k1_h1 : k1_cond1 i = 1#1), ∀ a, (k1_off439 v2424) a + S1x16.size a ≤ S256x384.size a := fun i v2424 k1_hw9 k1_h1 => k1_hw9.2.2.1 k1_h1
theorem k1_off440_inb : ∀ (i : grid1.Coords) (v2424 : BitVec 32) (k1_hw9 : k1_chk9 i v2424), ∀ (k1_h1 : k1_cond1 i = 1#1), ∀ a, (k1_off440 v2424) a + S1x16.size a ≤ S256x384.size a := fun i v2424 k1_hw9 k1_h1 => k1_hw9.2.2.2.1 k1_h1
theorem k1_off441_inb : ∀ (i : grid1.Coords) (v2424 : BitVec 32) (k1_hw9 : k1_chk9 i v2424), ∀ (k1_h1 : k1_cond1 i = 1#1), ∀ a, (k1_off441 v2424) a + S1x16.size a ≤ S256x384.size a := fun i v2424 k1_hw9 k1_h1 => k1_hw9.2.2.2.2.1 k1_h1
theorem k1_off442_inb : ∀ (i : grid1.Coords) (v2424 : BitVec 32) (k1_hw9 : k1_chk9 i v2424), ∀ (k1_h1 : k1_cond1 i = 1#1), ∀ a, (k1_off442 v2424) a + S1x16.size a ≤ S256x384.size a := fun i v2424 k1_hw9 k1_h1 => k1_hw9.2.2.2.2.2.1 k1_h1
theorem k1_off443_inb : ∀ (i : grid1.Coords) (v2424 : BitVec 32) (k1_hw9 : k1_chk9 i v2424), ∀ (k1_h1 : k1_cond1 i = 1#1), ∀ a, (k1_off443 v2424) a + S1x16.size a ≤ S256x384.size a := fun i v2424 k1_hw9 k1_h1 => k1_hw9.2.2.2.2.2.2.1 k1_h1
theorem k1_off444_inb : ∀ (i : grid1.Coords) (v2424 : BitVec 32) (k1_hw9 : k1_chk9 i v2424), ∀ (k1_h1 : k1_cond1 i = 1#1), ∀ a, (k1_off444 v2424) a + S1x16.size a ≤ S256x384.size a := fun i v2424 k1_hw9 k1_h1 => k1_hw9.2.2.2.2.2.2.2.1 k1_h1
theorem k1_off445_inb : ∀ (i : grid1.Coords) (v2424 : BitVec 32) (k1_hw9 : k1_chk9 i v2424), ∀ (k1_h1 : k1_cond1 i = 1#1), ∀ a, (k1_off445 v2424) a + S1x16.size a ≤ S256x384.size a := fun i v2424 k1_hw9 k1_h1 => k1_hw9.2.2.2.2.2.2.2.2.1 k1_h1
theorem k1_off446_inb : ∀ (i : grid1.Coords) (v2424 : BitVec 32) (k1_hw9 : k1_chk9 i v2424), ∀ (k1_h1 : k1_cond1 i = 1#1), ∀ a, (k1_off446 v2424) a + S1x16.size a ≤ S256x384.size a := fun i v2424 k1_hw9 k1_h1 => k1_hw9.2.2.2.2.2.2.2.2.2.1 k1_h1
theorem k1_off447_inb : ∀ (i : grid1.Coords) (v2424 : BitVec 32) (k1_hw9 : k1_chk9 i v2424), ∀ (k1_h1 : k1_cond1 i = 1#1), ∀ a, (k1_off447 v2424) a + S1x16.size a ≤ S256x384.size a := fun i v2424 k1_hw9 k1_h1 => k1_hw9.2.2.2.2.2.2.2.2.2.2.1 k1_h1
theorem k1_off448_inb : ∀ (i : grid1.Coords) (v2424 : BitVec 32) (k1_hw9 : k1_chk9 i v2424), ∀ (k1_h1 : k1_cond1 i = 1#1), ∀ a, (k1_off448 v2424) a + S1x16.size a ≤ S256x384.size a := fun i v2424 k1_hw9 k1_h1 => k1_hw9.2.2.2.2.2.2.2.2.2.2.2.1 k1_h1
theorem k1_off449_inb : ∀ (i : grid1.Coords) (v2424 : BitVec 32) (k1_hw9 : k1_chk9 i v2424), ∀ (k1_h1 : k1_cond1 i = 1#1), ∀ a, (k1_off449 v2424) a + S1x16.size a ≤ S256x384.size a := fun i v2424 k1_hw9 k1_h1 => k1_hw9.2.2.2.2.2.2.2.2.2.2.2.2.1 k1_h1
theorem k1_off450_inb : ∀ (i : grid1.Coords) (v2424 : BitVec 32) (k1_hw9 : k1_chk9 i v2424), ∀ (k1_h1 : k1_cond1 i = 1#1), ∀ a, (k1_off450 v2424) a + S1x16.size a ≤ S256x384.size a := fun i v2424 k1_hw9 k1_h1 => k1_hw9.2.2.2.2.2.2.2.2.2.2.2.2.2.1 k1_h1
theorem k1_off451_inb : ∀ (i : grid1.Coords) (v2424 : BitVec 32) (k1_hw9 : k1_chk9 i v2424), ∀ (k1_h1 : k1_cond1 i = 1#1), ∀ a, (k1_off451 v2424) a + S1x16.size a ≤ S256x384.size a := fun i v2424 k1_hw9 k1_h1 => k1_hw9.2.2.2.2.2.2.2.2.2.2.2.2.2.2.1 k1_h1
theorem k1_off452_inb : ∀ (i : grid1.Coords) (v2424 : BitVec 32) (k1_hw9 : k1_chk9 i v2424), ∀ (k1_h1 : k1_cond1 i = 1#1), ∀ a, (k1_off452 v2424) a + S1x16.size a ≤ S256x384.size a := fun i v2424 k1_hw9 k1_h1 => k1_hw9.2.2.2.2.2.2.2.2.2.2.2.2.2.2.2.1 k1_h1
theorem k1_off453_inb : ∀ (i : grid1.Coords) (v2424 : BitVec 32) (k1_hw9 : k1_chk9 i v2424), ∀ (k1_h1 : k1_cond1 i = 1#1), ∀ a, (k1_off453 v2424) a + S1x16.size a ≤ S256x384.size a := fun i v2424 k1_hw9 k1_h1 => k1_hw9.2.2.2.2.2.2.2.2.2.2.2.2.2.2.2.2.1 k1_h1
theorem k1_off454_inb : ∀ (i : grid1.Coords) (v2424 : BitVec 32) (k1_hw9 : k1_chk9 i v2424), ∀ (k1_h1 : k1_cond1 i = 1#1), ∀ a, (k1_off454 v2424) a + S1x16.size a ≤ S256x384.size a := fun i v2424 k1_hw9 k1_h1 => k1_hw9.2.2.2.2.2.2.2.2.2.2.2.2.2.2.2.2.2.1 k1_h1
theorem k1_off455_inb : ∀ (i : grid1.Coords) (v2424 : BitVec 32) (k1_hw9 : k1_chk9 i v2424), ∀ (k1_h1 : k1_cond1 i = 1#1), ∀ a, (k1_off455 v2424) a + S1x16.size a ≤ S256x384.size a := fun i v2424 k1_hw9 k1_h1 => k1_hw9.2.2.2.2.2.2.2.2.2.2.2.2.2.2.2.2.2.2.1 k1_h1
theorem k1_off456_inb : ∀ (i : grid1.Coords) (v2424 : BitVec 32) (k1_hw9 : k1_chk9 i v2424), ∀ (k1_h1 : k1_cond1 i = 1#1), ∀ a, (k1_off456 v2424) a + S1x16.size a ≤ S256x384.size a := fun i v2424 k1_hw9 k1_h1 => k1_hw9.2.2.2.2.2.2.2.2.2.2.2.2.2.2.2.2.2.2.2.1 k1_h1
theorem k1_off457_inb : ∀ (i : grid1.Coords) (v2424 : BitVec 32) (k1_hw9 : k1_chk9 i v2424), ∀ (k1_h1 : k1_cond1 i = 1#1), ∀ a, (k1_off457 v2424) a + S1x16.size a ≤ S256x384.size a := fun i v2424 k1_hw9 k1_h1 => k1_hw9.2.2.2.2.2.2.2.2.2.2.2.2.2.2.2.2.2.2.2.2.1 k1_h1
theorem k1_off458_inb : ∀ (i : grid1.Coords) (v2424 : BitVec 32) (k1_hw9 : k1_chk9 i v2424), ∀ (k1_h1 : k1_cond1 i = 1#1), ∀ a, (k1_off458 v2424) a + S1x16.size a ≤ S256x384.size a := fun i v2424 k1_hw9 k1_h1 => k1_hw9.2.2.2.2.2.2.2.2.2.2.2.2.2.2.2.2.2.2.2.2.2.1 k1_h1
theorem k1_off459_inb : ∀ (i : grid1.Coords) (v2424 : BitVec 32) (k1_hw9 : k1_chk9 i v2424), ∀ (k1_h1 : k1_cond1 i = 1#1), ∀ a, (k1_off459 v2424) a + S1x16.size a ≤ S256x384.size a := fun i v2424 k1_hw9 k1_h1 => k1_hw9.2.2.2.2.2.2.2.2.2.2.2.2.2.2.2.2.2.2.2.2.2.2.1 k1_h1
theorem k1_off460_inb : ∀ (i : grid1.Coords) (v2424 : BitVec 32) (k1_hw9 : k1_chk9 i v2424), ∀ (k1_h1 : k1_cond1 i = 1#1), ∀ a, (k1_off460 v2424) a + S1x16.size a ≤ S256x384.size a := fun i v2424 k1_hw9 k1_h1 => k1_hw9.2.2.2.2.2.2.2.2.2.2.2.2.2.2.2.2.2.2.2.2.2.2.2 k1_h1

def k1_off461 (k1_t3 : Fin k1_t3_loop.trips) : Fin 2 → Nat :=
  let c0_i32_32 : BitVec 32 := 0#32
  let c1_i32_34 : BitVec 32 := 1#32
  let arg37 : BitVec 32 := Scf.iv c0_i32_32 c1_i32_34 k1_t3
  let c16_i32_690 : BitVec 32 := 16#32
  let v2718 : BitVec 32 := Scalar.muli arg37 c16_i32_690
  let c9_i32 : BitVec 32 := 9#32
  let v2719 : BitVec 32 := Scalar.addi v2718 c9_i32
  let v2721 : Index := Scalar.indexCast v2719
  let c0_691 : Index := 0#32
  ![v2721.toNat, 0]
def k1_off462 (k1_t3 : Fin k1_t3_loop.trips) : Fin 2 → Nat :=
  let c0_i32_32 : BitVec 32 := 0#32
  let c1_i32_34 : BitVec 32 := 1#32
  let arg37 : BitVec 32 := Scf.iv c0_i32_32 c1_i32_34 k1_t3
  let c16_i32_690 : BitVec 32 := 16#32
  let v2718 : BitVec 32 := Scalar.muli arg37 c16_i32_690
  let c9_i32 : BitVec 32 := 9#32
  let v2719 : BitVec 32 := Scalar.addi v2718 c9_i32
  let v2729 : Index := Scalar.indexCast v2719
  let c16_693 : Index := 16#32
  ![v2729.toNat, 16]
def k1_off463 (k1_t3 : Fin k1_t3_loop.trips) : Fin 2 → Nat :=
  let c0_i32_32 : BitVec 32 := 0#32
  let c1_i32_34 : BitVec 32 := 1#32
  let arg37 : BitVec 32 := Scf.iv c0_i32_32 c1_i32_34 k1_t3
  let c16_i32_690 : BitVec 32 := 16#32
  let v2718 : BitVec 32 := Scalar.muli arg37 c16_i32_690
  let c9_i32 : BitVec 32 := 9#32
  let v2719 : BitVec 32 := Scalar.addi v2718 c9_i32
  let v2737 : Index := Scalar.indexCast v2719
  let c32_695 : Index := 32#32
  ![v2737.toNat, 32]
def k1_off464 (k1_t3 : Fin k1_t3_loop.trips) : Fin 2 → Nat :=
  let c0_i32_32 : BitVec 32 := 0#32
  let c1_i32_34 : BitVec 32 := 1#32
  let arg37 : BitVec 32 := Scf.iv c0_i32_32 c1_i32_34 k1_t3
  let c16_i32_690 : BitVec 32 := 16#32
  let v2718 : BitVec 32 := Scalar.muli arg37 c16_i32_690
  let c9_i32 : BitVec 32 := 9#32
  let v2719 : BitVec 32 := Scalar.addi v2718 c9_i32
  let v2745 : Index := Scalar.indexCast v2719
  let c48_697 : Index := 48#32
  ![v2745.toNat, 48]
def k1_off465 (k1_t3 : Fin k1_t3_loop.trips) : Fin 2 → Nat :=
  let c0_i32_32 : BitVec 32 := 0#32
  let c1_i32_34 : BitVec 32 := 1#32
  let arg37 : BitVec 32 := Scf.iv c0_i32_32 c1_i32_34 k1_t3
  let c16_i32_690 : BitVec 32 := 16#32
  let v2718 : BitVec 32 := Scalar.muli arg37 c16_i32_690
  let c9_i32 : BitVec 32 := 9#32
  let v2719 : BitVec 32 := Scalar.addi v2718 c9_i32
  let v2753 : Index := Scalar.indexCast v2719
  let c64_699 : Index := 64#32
  ![v2753.toNat, 64]
def k1_off466 (k1_t3 : Fin k1_t3_loop.trips) : Fin 2 → Nat :=
  let c0_i32_32 : BitVec 32 := 0#32
  let c1_i32_34 : BitVec 32 := 1#32
  let arg37 : BitVec 32 := Scf.iv c0_i32_32 c1_i32_34 k1_t3
  let c16_i32_690 : BitVec 32 := 16#32
  let v2718 : BitVec 32 := Scalar.muli arg37 c16_i32_690
  let c9_i32 : BitVec 32 := 9#32
  let v2719 : BitVec 32 := Scalar.addi v2718 c9_i32
  let v2761 : Index := Scalar.indexCast v2719
  let c80_701 : Index := 80#32
  ![v2761.toNat, 80]
def k1_off467 (k1_t3 : Fin k1_t3_loop.trips) : Fin 2 → Nat :=
  let c0_i32_32 : BitVec 32 := 0#32
  let c1_i32_34 : BitVec 32 := 1#32
  let arg37 : BitVec 32 := Scf.iv c0_i32_32 c1_i32_34 k1_t3
  let c16_i32_690 : BitVec 32 := 16#32
  let v2718 : BitVec 32 := Scalar.muli arg37 c16_i32_690
  let c9_i32 : BitVec 32 := 9#32
  let v2719 : BitVec 32 := Scalar.addi v2718 c9_i32
  let v2769 : Index := Scalar.indexCast v2719
  let c96_703 : Index := 96#32
  ![v2769.toNat, 96]
def k1_off468 (k1_t3 : Fin k1_t3_loop.trips) : Fin 2 → Nat :=
  let c0_i32_32 : BitVec 32 := 0#32
  let c1_i32_34 : BitVec 32 := 1#32
  let arg37 : BitVec 32 := Scf.iv c0_i32_32 c1_i32_34 k1_t3
  let c16_i32_690 : BitVec 32 := 16#32
  let v2718 : BitVec 32 := Scalar.muli arg37 c16_i32_690
  let c9_i32 : BitVec 32 := 9#32
  let v2719 : BitVec 32 := Scalar.addi v2718 c9_i32
  let v2777 : Index := Scalar.indexCast v2719
  let c112_705 : Index := 112#32
  ![v2777.toNat, 112]
def k1_off469 (k1_t3 : Fin k1_t3_loop.trips) : Fin 2 → Nat :=
  let c0_i32_32 : BitVec 32 := 0#32
  let c1_i32_34 : BitVec 32 := 1#32
  let arg37 : BitVec 32 := Scf.iv c0_i32_32 c1_i32_34 k1_t3
  let c16_i32_690 : BitVec 32 := 16#32
  let v2718 : BitVec 32 := Scalar.muli arg37 c16_i32_690
  let c9_i32 : BitVec 32 := 9#32
  let v2719 : BitVec 32 := Scalar.addi v2718 c9_i32
  let v2785 : Index := Scalar.indexCast v2719
  let c128_707 : Index := 128#32
  ![v2785.toNat, 128]
def k1_off470 (k1_t3 : Fin k1_t3_loop.trips) : Fin 2 → Nat :=
  let c0_i32_32 : BitVec 32 := 0#32
  let c1_i32_34 : BitVec 32 := 1#32
  let arg37 : BitVec 32 := Scf.iv c0_i32_32 c1_i32_34 k1_t3
  let c16_i32_690 : BitVec 32 := 16#32
  let v2718 : BitVec 32 := Scalar.muli arg37 c16_i32_690
  let c9_i32 : BitVec 32 := 9#32
  let v2719 : BitVec 32 := Scalar.addi v2718 c9_i32
  let v2793 : Index := Scalar.indexCast v2719
  let c144_709 : Index := 144#32
  ![v2793.toNat, 144]
def k1_off471 (k1_t3 : Fin k1_t3_loop.trips) : Fin 2 → Nat :=
  let c0_i32_32 : BitVec 32 := 0#32
  let c1_i32_34 : BitVec 32 := 1#32
  let arg37 : BitVec 32 := Scf.iv c0_i32_32 c1_i32_34 k1_t3
  let c16_i32_690 : BitVec 32 := 16#32
  let v2718 : BitVec 32 := Scalar.muli arg37 c16_i32_690
  let c9_i32 : BitVec 32 := 9#32
  let v2719 : BitVec 32 := Scalar.addi v2718 c9_i32
  let v2801 : Index := Scalar.indexCast v2719
  let c160_711 : Index := 160#32
  ![v2801.toNat, 160]
def k1_off472 (k1_t3 : Fin k1_t3_loop.trips) : Fin 2 → Nat :=
  let c0_i32_32 : BitVec 32 := 0#32
  let c1_i32_34 : BitVec 32 := 1#32
  let arg37 : BitVec 32 := Scf.iv c0_i32_32 c1_i32_34 k1_t3
  let c16_i32_690 : BitVec 32 := 16#32
  let v2718 : BitVec 32 := Scalar.muli arg37 c16_i32_690
  let c9_i32 : BitVec 32 := 9#32
  let v2719 : BitVec 32 := Scalar.addi v2718 c9_i32
  let v2809 : Index := Scalar.indexCast v2719
  let c176_713 : Index := 176#32
  ![v2809.toNat, 176]
def k1_off473 (k1_t3 : Fin k1_t3_loop.trips) : Fin 2 → Nat :=
  let c0_i32_32 : BitVec 32 := 0#32
  let c1_i32_34 : BitVec 32 := 1#32
  let arg37 : BitVec 32 := Scf.iv c0_i32_32 c1_i32_34 k1_t3
  let c16_i32_690 : BitVec 32 := 16#32
  let v2718 : BitVec 32 := Scalar.muli arg37 c16_i32_690
  let c9_i32 : BitVec 32 := 9#32
  let v2719 : BitVec 32 := Scalar.addi v2718 c9_i32
  let v2817 : Index := Scalar.indexCast v2719
  let c192_715 : Index := 192#32
  ![v2817.toNat, 192]
def k1_off474 (k1_t3 : Fin k1_t3_loop.trips) : Fin 2 → Nat :=
  let c0_i32_32 : BitVec 32 := 0#32
  let c1_i32_34 : BitVec 32 := 1#32
  let arg37 : BitVec 32 := Scf.iv c0_i32_32 c1_i32_34 k1_t3
  let c16_i32_690 : BitVec 32 := 16#32
  let v2718 : BitVec 32 := Scalar.muli arg37 c16_i32_690
  let c9_i32 : BitVec 32 := 9#32
  let v2719 : BitVec 32 := Scalar.addi v2718 c9_i32
  let v2825 : Index := Scalar.indexCast v2719
  let c208_717 : Index := 208#32
  ![v2825.toNat, 208]
def k1_off475 (k1_t3 : Fin k1_t3_loop.trips) : Fin 2 → Nat :=
  let c0_i32_32 : BitVec 32 := 0#32
  let c1_i32_34 : BitVec 32 := 1#32
  let arg37 : BitVec 32 := Scf.iv c0_i32_32 c1_i32_34 k1_t3
  let c16_i32_690 : BitVec 32 := 16#32
  let v2718 : BitVec 32 := Scalar.muli arg37 c16_i32_690
  let c9_i32 : BitVec 32 := 9#32
  let v2719 : BitVec 32 := Scalar.addi v2718 c9_i32
  let v2833 : Index := Scalar.indexCast v2719
  let c224_719 : Index := 224#32
  ![v2833.toNat, 224]
def k1_off476 (k1_t3 : Fin k1_t3_loop.trips) : Fin 2 → Nat :=
  let c0_i32_32 : BitVec 32 := 0#32
  let c1_i32_34 : BitVec 32 := 1#32
  let arg37 : BitVec 32 := Scf.iv c0_i32_32 c1_i32_34 k1_t3
  let c16_i32_690 : BitVec 32 := 16#32
  let v2718 : BitVec 32 := Scalar.muli arg37 c16_i32_690
  let c9_i32 : BitVec 32 := 9#32
  let v2719 : BitVec 32 := Scalar.addi v2718 c9_i32
  let v2841 : Index := Scalar.indexCast v2719
  let c240_721 : Index := 240#32
  ![v2841.toNat, 240]
def k1_off477 (k1_t3 : Fin k1_t3_loop.trips) : Fin 2 → Nat :=
  let c0_i32_32 : BitVec 32 := 0#32
  let c1_i32_34 : BitVec 32 := 1#32
  let arg37 : BitVec 32 := Scf.iv c0_i32_32 c1_i32_34 k1_t3
  let c16_i32_690 : BitVec 32 := 16#32
  let v2718 : BitVec 32 := Scalar.muli arg37 c16_i32_690
  let c9_i32 : BitVec 32 := 9#32
  let v2719 : BitVec 32 := Scalar.addi v2718 c9_i32
  let v2849 : Index := Scalar.indexCast v2719
  let c256_723 : Index := 256#32
  ![v2849.toNat, 256]
def k1_off478 (k1_t3 : Fin k1_t3_loop.trips) : Fin 2 → Nat :=
  let c0_i32_32 : BitVec 32 := 0#32
  let c1_i32_34 : BitVec 32 := 1#32
  let arg37 : BitVec 32 := Scf.iv c0_i32_32 c1_i32_34 k1_t3
  let c16_i32_690 : BitVec 32 := 16#32
  let v2718 : BitVec 32 := Scalar.muli arg37 c16_i32_690
  let c9_i32 : BitVec 32 := 9#32
  let v2719 : BitVec 32 := Scalar.addi v2718 c9_i32
  let v2857 : Index := Scalar.indexCast v2719
  let c272_725 : Index := 272#32
  ![v2857.toNat, 272]
def k1_off479 (k1_t3 : Fin k1_t3_loop.trips) : Fin 2 → Nat :=
  let c0_i32_32 : BitVec 32 := 0#32
  let c1_i32_34 : BitVec 32 := 1#32
  let arg37 : BitVec 32 := Scf.iv c0_i32_32 c1_i32_34 k1_t3
  let c16_i32_690 : BitVec 32 := 16#32
  let v2718 : BitVec 32 := Scalar.muli arg37 c16_i32_690
  let c9_i32 : BitVec 32 := 9#32
  let v2719 : BitVec 32 := Scalar.addi v2718 c9_i32
  let v2865 : Index := Scalar.indexCast v2719
  let c288_727 : Index := 288#32
  ![v2865.toNat, 288]
def k1_off480 (k1_t3 : Fin k1_t3_loop.trips) : Fin 2 → Nat :=
  let c0_i32_32 : BitVec 32 := 0#32
  let c1_i32_34 : BitVec 32 := 1#32
  let arg37 : BitVec 32 := Scf.iv c0_i32_32 c1_i32_34 k1_t3
  let c16_i32_690 : BitVec 32 := 16#32
  let v2718 : BitVec 32 := Scalar.muli arg37 c16_i32_690
  let c9_i32 : BitVec 32 := 9#32
  let v2719 : BitVec 32 := Scalar.addi v2718 c9_i32
  let v2873 : Index := Scalar.indexCast v2719
  let c304_729 : Index := 304#32
  ![v2873.toNat, 304]
def k1_off481 (k1_t3 : Fin k1_t3_loop.trips) : Fin 2 → Nat :=
  let c0_i32_32 : BitVec 32 := 0#32
  let c1_i32_34 : BitVec 32 := 1#32
  let arg37 : BitVec 32 := Scf.iv c0_i32_32 c1_i32_34 k1_t3
  let c16_i32_690 : BitVec 32 := 16#32
  let v2718 : BitVec 32 := Scalar.muli arg37 c16_i32_690
  let c9_i32 : BitVec 32 := 9#32
  let v2719 : BitVec 32 := Scalar.addi v2718 c9_i32
  let v2881 : Index := Scalar.indexCast v2719
  let c320_731 : Index := 320#32
  ![v2881.toNat, 320]
def k1_off482 (k1_t3 : Fin k1_t3_loop.trips) : Fin 2 → Nat :=
  let c0_i32_32 : BitVec 32 := 0#32
  let c1_i32_34 : BitVec 32 := 1#32
  let arg37 : BitVec 32 := Scf.iv c0_i32_32 c1_i32_34 k1_t3
  let c16_i32_690 : BitVec 32 := 16#32
  let v2718 : BitVec 32 := Scalar.muli arg37 c16_i32_690
  let c9_i32 : BitVec 32 := 9#32
  let v2719 : BitVec 32 := Scalar.addi v2718 c9_i32
  let v2889 : Index := Scalar.indexCast v2719
  let c336_733 : Index := 336#32
  ![v2889.toNat, 336]
def k1_off483 (k1_t3 : Fin k1_t3_loop.trips) : Fin 2 → Nat :=
  let c0_i32_32 : BitVec 32 := 0#32
  let c1_i32_34 : BitVec 32 := 1#32
  let arg37 : BitVec 32 := Scf.iv c0_i32_32 c1_i32_34 k1_t3
  let c16_i32_690 : BitVec 32 := 16#32
  let v2718 : BitVec 32 := Scalar.muli arg37 c16_i32_690
  let c9_i32 : BitVec 32 := 9#32
  let v2719 : BitVec 32 := Scalar.addi v2718 c9_i32
  let v2897 : Index := Scalar.indexCast v2719
  let c352_735 : Index := 352#32
  ![v2897.toNat, 352]
def k1_off484 (k1_t3 : Fin k1_t3_loop.trips) : Fin 2 → Nat :=
  let c0_i32_32 : BitVec 32 := 0#32
  let c1_i32_34 : BitVec 32 := 1#32
  let arg37 : BitVec 32 := Scf.iv c0_i32_32 c1_i32_34 k1_t3
  let c16_i32_690 : BitVec 32 := 16#32
  let v2718 : BitVec 32 := Scalar.muli arg37 c16_i32_690
  let c9_i32 : BitVec 32 := 9#32
  let v2719 : BitVec 32 := Scalar.addi v2718 c9_i32
  let v2905 : Index := Scalar.indexCast v2719
  let c368_737 : Index := 368#32
  ![v2905.toNat, 368]
def k1_off485 (v2717 : BitVec 32) : Fin 2 → Nat :=
  let v2913 : Index := Scalar.indexCast v2717
  let c0_739 : Index := 0#32
  ![v2913.toNat, 0]

def k1_off486 (v2717 : BitVec 32) : Fin 2 → Nat :=
  let v2917 : Index := Scalar.indexCast v2717
  let c16_740 : Index := 16#32
  ![v2917.toNat, 16]
def k1_off487 (v2717 : BitVec 32) : Fin 2 → Nat :=
  let v2921 : Index := Scalar.indexCast v2717
  let c32_741 : Index := 32#32
  ![v2921.toNat, 32]
def k1_off488 (v2717 : BitVec 32) : Fin 2 → Nat :=
  let v2925 : Index := Scalar.indexCast v2717
  let c48_742 : Index := 48#32
  ![v2925.toNat, 48]
def k1_off489 (v2717 : BitVec 32) : Fin 2 → Nat :=
  let v2929 : Index := Scalar.indexCast v2717
  let c64_743 : Index := 64#32
  ![v2929.toNat, 64]
def k1_off490 (v2717 : BitVec 32) : Fin 2 → Nat :=
  let v2933 : Index := Scalar.indexCast v2717
  let c80_744 : Index := 80#32
  ![v2933.toNat, 80]
def k1_off491 (v2717 : BitVec 32) : Fin 2 → Nat :=
  let v2937 : Index := Scalar.indexCast v2717
  let c96_745 : Index := 96#32
  ![v2937.toNat, 96]
def k1_off492 (v2717 : BitVec 32) : Fin 2 → Nat :=
  let v2941 : Index := Scalar.indexCast v2717
  let c112_746 : Index := 112#32
  ![v2941.toNat, 112]
def k1_off493 (v2717 : BitVec 32) : Fin 2 → Nat :=
  let v2945 : Index := Scalar.indexCast v2717
  let c128_747 : Index := 128#32
  ![v2945.toNat, 128]
def k1_off494 (v2717 : BitVec 32) : Fin 2 → Nat :=
  let v2949 : Index := Scalar.indexCast v2717
  let c144_748 : Index := 144#32
  ![v2949.toNat, 144]
def k1_off495 (v2717 : BitVec 32) : Fin 2 → Nat :=
  let v2953 : Index := Scalar.indexCast v2717
  let c160_749 : Index := 160#32
  ![v2953.toNat, 160]
def k1_off496 (v2717 : BitVec 32) : Fin 2 → Nat :=
  let v2957 : Index := Scalar.indexCast v2717
  let c176_750 : Index := 176#32
  ![v2957.toNat, 176]
def k1_off497 (v2717 : BitVec 32) : Fin 2 → Nat :=
  let v2961 : Index := Scalar.indexCast v2717
  let c192_751 : Index := 192#32
  ![v2961.toNat, 192]
def k1_off498 (v2717 : BitVec 32) : Fin 2 → Nat :=
  let v2965 : Index := Scalar.indexCast v2717
  let c208_752 : Index := 208#32
  ![v2965.toNat, 208]
def k1_off499 (v2717 : BitVec 32) : Fin 2 → Nat :=
  let v2969 : Index := Scalar.indexCast v2717
  let c224_753 : Index := 224#32
  ![v2969.toNat, 224]
def k1_off500 (v2717 : BitVec 32) : Fin 2 → Nat :=
  let v2973 : Index := Scalar.indexCast v2717
  let c240_754 : Index := 240#32
  ![v2973.toNat, 240]
def k1_off501 (v2717 : BitVec 32) : Fin 2 → Nat :=
  let v2977 : Index := Scalar.indexCast v2717
  let c256_755 : Index := 256#32
  ![v2977.toNat, 256]
def k1_off502 (v2717 : BitVec 32) : Fin 2 → Nat :=
  let v2981 : Index := Scalar.indexCast v2717
  let c272_756 : Index := 272#32
  ![v2981.toNat, 272]
def k1_off503 (v2717 : BitVec 32) : Fin 2 → Nat :=
  let v2985 : Index := Scalar.indexCast v2717
  let c288_757 : Index := 288#32
  ![v2985.toNat, 288]
def k1_off504 (v2717 : BitVec 32) : Fin 2 → Nat :=
  let v2989 : Index := Scalar.indexCast v2717
  let c304_758 : Index := 304#32
  ![v2989.toNat, 304]
def k1_off505 (v2717 : BitVec 32) : Fin 2 → Nat :=
  let v2993 : Index := Scalar.indexCast v2717
  let c320_759 : Index := 320#32
  ![v2993.toNat, 320]
def k1_off506 (v2717 : BitVec 32) : Fin 2 → Nat :=
  let v2997 : Index := Scalar.indexCast v2717
  let c336_760 : Index := 336#32
  ![v2997.toNat, 336]
def k1_off507 (v2717 : BitVec 32) : Fin 2 → Nat :=
  let v3001 : Index := Scalar.indexCast v2717
  let c352_761 : Index := 352#32
  ![v3001.toNat, 352]
def k1_off508 (v2717 : BitVec 32) : Fin 2 → Nat :=
  let v3005 : Index := Scalar.indexCast v2717
  let c368_762 : Index := 368#32
  ![v3005.toNat, 368]

def k1_chk10 (i : grid1.Coords) (v2717 : BitVec 32) : Prop :=
  (∀ (k1_h1 : k1_cond1 i = 1#1), ∀ a, (k1_off485 v2717) a + S1x16.size a ≤ S256x384.size a) ∧
  (∀ (k1_h1 : k1_cond1 i = 1#1), ∀ a, (k1_off486 v2717) a + S1x16.size a ≤ S256x384.size a) ∧
  (∀ (k1_h1 : k1_cond1 i = 1#1), ∀ a, (k1_off487 v2717) a + S1x16.size a ≤ S256x384.size a) ∧
  (∀ (k1_h1 : k1_cond1 i = 1#1), ∀ a, (k1_off488 v2717) a + S1x16.size a ≤ S256x384.size a) ∧
  (∀ (k1_h1 : k1_cond1 i = 1#1), ∀ a, (k1_off489 v2717) a + S1x16.size a ≤ S256x384.size a) ∧
  (∀ (k1_h1 : k1_cond1 i = 1#1), ∀ a, (k1_off490 v2717) a + S1x16.size a ≤ S256x384.size a) ∧
  (∀ (k1_h1 : k1_cond1 i = 1#1), ∀ a, (k1_off491 v2717) a + S1x16.size a ≤ S256x384.size a) ∧
  (∀ (k1_h1 : k1_cond1 i = 1#1), ∀ a, (k1_off492 v2717) a + S1x16.size a ≤ S256x384.size a) ∧
  (∀ (k1_h1 : k1_cond1 i = 1#1), ∀ a, (k1_off493 v2717) a + S1x16.size a ≤ S256x384.size a) ∧
  (∀ (k1_h1 : k1_cond1 i = 1#1), ∀ a, (k1_off494 v2717) a + S1x16.size a ≤ S256x384.size a) ∧
  (∀ (k1_h1 : k1_cond1 i = 1#1), ∀ a, (k1_off495 v2717) a + S1x16.size a ≤ S256x384.size a) ∧
  (∀ (k1_h1 : k1_cond1 i = 1#1), ∀ a, (k1_off496 v2717) a + S1x16.size a ≤ S256x384.size a) ∧
  (∀ (k1_h1 : k1_cond1 i = 1#1), ∀ a, (k1_off497 v2717) a + S1x16.size a ≤ S256x384.size a) ∧
  (∀ (k1_h1 : k1_cond1 i = 1#1), ∀ a, (k1_off498 v2717) a + S1x16.size a ≤ S256x384.size a) ∧
  (∀ (k1_h1 : k1_cond1 i = 1#1), ∀ a, (k1_off499 v2717) a + S1x16.size a ≤ S256x384.size a) ∧
  (∀ (k1_h1 : k1_cond1 i = 1#1), ∀ a, (k1_off500 v2717) a + S1x16.size a ≤ S256x384.size a) ∧
  (∀ (k1_h1 : k1_cond1 i = 1#1), ∀ a, (k1_off501 v2717) a + S1x16.size a ≤ S256x384.size a) ∧
  (∀ (k1_h1 : k1_cond1 i = 1#1), ∀ a, (k1_off502 v2717) a + S1x16.size a ≤ S256x384.size a) ∧
  (∀ (k1_h1 : k1_cond1 i = 1#1), ∀ a, (k1_off503 v2717) a + S1x16.size a ≤ S256x384.size a) ∧
  (∀ (k1_h1 : k1_cond1 i = 1#1), ∀ a, (k1_off504 v2717) a + S1x16.size a ≤ S256x384.size a) ∧
  (∀ (k1_h1 : k1_cond1 i = 1#1), ∀ a, (k1_off505 v2717) a + S1x16.size a ≤ S256x384.size a) ∧
  (∀ (k1_h1 : k1_cond1 i = 1#1), ∀ a, (k1_off506 v2717) a + S1x16.size a ≤ S256x384.size a) ∧
  (∀ (k1_h1 : k1_cond1 i = 1#1), ∀ a, (k1_off507 v2717) a + S1x16.size a ≤ S256x384.size a) ∧
  (∀ (k1_h1 : k1_cond1 i = 1#1), ∀ a, (k1_off508 v2717) a + S1x16.size a ≤ S256x384.size a)
theorem k1_off485_inb : ∀ (i : grid1.Coords) (v2717 : BitVec 32) (k1_hw10 : k1_chk10 i v2717), ∀ (k1_h1 : k1_cond1 i = 1#1), ∀ a, (k1_off485 v2717) a + S1x16.size a ≤ S256x384.size a := fun i v2717 k1_hw10 k1_h1 => k1_hw10.1 k1_h1
theorem k1_off486_inb : ∀ (i : grid1.Coords) (v2717 : BitVec 32) (k1_hw10 : k1_chk10 i v2717), ∀ (k1_h1 : k1_cond1 i = 1#1), ∀ a, (k1_off486 v2717) a + S1x16.size a ≤ S256x384.size a := fun i v2717 k1_hw10 k1_h1 => k1_hw10.2.1 k1_h1
theorem k1_off487_inb : ∀ (i : grid1.Coords) (v2717 : BitVec 32) (k1_hw10 : k1_chk10 i v2717), ∀ (k1_h1 : k1_cond1 i = 1#1), ∀ a, (k1_off487 v2717) a + S1x16.size a ≤ S256x384.size a := fun i v2717 k1_hw10 k1_h1 => k1_hw10.2.2.1 k1_h1
theorem k1_off488_inb : ∀ (i : grid1.Coords) (v2717 : BitVec 32) (k1_hw10 : k1_chk10 i v2717), ∀ (k1_h1 : k1_cond1 i = 1#1), ∀ a, (k1_off488 v2717) a + S1x16.size a ≤ S256x384.size a := fun i v2717 k1_hw10 k1_h1 => k1_hw10.2.2.2.1 k1_h1
theorem k1_off489_inb : ∀ (i : grid1.Coords) (v2717 : BitVec 32) (k1_hw10 : k1_chk10 i v2717), ∀ (k1_h1 : k1_cond1 i = 1#1), ∀ a, (k1_off489 v2717) a + S1x16.size a ≤ S256x384.size a := fun i v2717 k1_hw10 k1_h1 => k1_hw10.2.2.2.2.1 k1_h1
theorem k1_off490_inb : ∀ (i : grid1.Coords) (v2717 : BitVec 32) (k1_hw10 : k1_chk10 i v2717), ∀ (k1_h1 : k1_cond1 i = 1#1), ∀ a, (k1_off490 v2717) a + S1x16.size a ≤ S256x384.size a := fun i v2717 k1_hw10 k1_h1 => k1_hw10.2.2.2.2.2.1 k1_h1
theorem k1_off491_inb : ∀ (i : grid1.Coords) (v2717 : BitVec 32) (k1_hw10 : k1_chk10 i v2717), ∀ (k1_h1 : k1_cond1 i = 1#1), ∀ a, (k1_off491 v2717) a + S1x16.size a ≤ S256x384.size a := fun i v2717 k1_hw10 k1_h1 => k1_hw10.2.2.2.2.2.2.1 k1_h1
theorem k1_off492_inb : ∀ (i : grid1.Coords) (v2717 : BitVec 32) (k1_hw10 : k1_chk10 i v2717), ∀ (k1_h1 : k1_cond1 i = 1#1), ∀ a, (k1_off492 v2717) a + S1x16.size a ≤ S256x384.size a := fun i v2717 k1_hw10 k1_h1 => k1_hw10.2.2.2.2.2.2.2.1 k1_h1
theorem k1_off493_inb : ∀ (i : grid1.Coords) (v2717 : BitVec 32) (k1_hw10 : k1_chk10 i v2717), ∀ (k1_h1 : k1_cond1 i = 1#1), ∀ a, (k1_off493 v2717) a + S1x16.size a ≤ S256x384.size a := fun i v2717 k1_hw10 k1_h1 => k1_hw10.2.2.2.2.2.2.2.2.1 k1_h1
theorem k1_off494_inb : ∀ (i : grid1.Coords) (v2717 : BitVec 32) (k1_hw10 : k1_chk10 i v2717), ∀ (k1_h1 : k1_cond1 i = 1#1), ∀ a, (k1_off494 v2717) a + S1x16.size a ≤ S256x384.size a := fun i v2717 k1_hw10 k1_h1 => k1_hw10.2.2.2.2.2.2.2.2.2.1 k1_h1
theorem k1_off495_inb : ∀ (i : grid1.Coords) (v2717 : BitVec 32) (k1_hw10 : k1_chk10 i v2717), ∀ (k1_h1 : k1_cond1 i = 1#1), ∀ a, (k1_off495 v2717) a + S1x16.size a ≤ S256x384.size a := fun i v2717 k1_hw10 k1_h1 => k1_hw10.2.2.2.2.2.2.2.2.2.2.1 k1_h1
theorem k1_off496_inb : ∀ (i : grid1.Coords) (v2717 : BitVec 32) (k1_hw10 : k1_chk10 i v2717), ∀ (k1_h1 : k1_cond1 i = 1#1), ∀ a, (k1_off496 v2717) a + S1x16.size a ≤ S256x384.size a := fun i v2717 k1_hw10 k1_h1 => k1_hw10.2.2.2.2.2.2.2.2.2.2.2.1 k1_h1
theorem k1_off497_inb : ∀ (i : grid1.Coords) (v2717 : BitVec 32) (k1_hw10 : k1_chk10 i v2717), ∀ (k1_h1 : k1_cond1 i = 1#1), ∀ a, (k1_off497 v2717) a + S1x16.size a ≤ S256x384.size a := fun i v2717 k1_hw10 k1_h1 => k1_hw10.2.2.2.2.2.2.2.2.2.2.2.2.1 k1_h1
theorem k1_off498_inb : ∀ (i : grid1.Coords) (v2717 : BitVec 32) (k1_hw10 : k1_chk10 i v2717), ∀ (k1_h1 : k1_cond1 i = 1#1), ∀ a, (k1_off498 v2717) a + S1x16.size a ≤ S256x384.size a := fun i v2717 k1_hw10 k1_h1 => k1_hw10.2.2.2.2.2.2.2.2.2.2.2.2.2.1 k1_h1
theorem k1_off499_inb : ∀ (i : grid1.Coords) (v2717 : BitVec 32) (k1_hw10 : k1_chk10 i v2717), ∀ (k1_h1 : k1_cond1 i = 1#1), ∀ a, (k1_off499 v2717) a + S1x16.size a ≤ S256x384.size a := fun i v2717 k1_hw10 k1_h1 => k1_hw10.2.2.2.2.2.2.2.2.2.2.2.2.2.2.1 k1_h1
theorem k1_off500_inb : ∀ (i : grid1.Coords) (v2717 : BitVec 32) (k1_hw10 : k1_chk10 i v2717), ∀ (k1_h1 : k1_cond1 i = 1#1), ∀ a, (k1_off500 v2717) a + S1x16.size a ≤ S256x384.size a := fun i v2717 k1_hw10 k1_h1 => k1_hw10.2.2.2.2.2.2.2.2.2.2.2.2.2.2.2.1 k1_h1
theorem k1_off501_inb : ∀ (i : grid1.Coords) (v2717 : BitVec 32) (k1_hw10 : k1_chk10 i v2717), ∀ (k1_h1 : k1_cond1 i = 1#1), ∀ a, (k1_off501 v2717) a + S1x16.size a ≤ S256x384.size a := fun i v2717 k1_hw10 k1_h1 => k1_hw10.2.2.2.2.2.2.2.2.2.2.2.2.2.2.2.2.1 k1_h1
theorem k1_off502_inb : ∀ (i : grid1.Coords) (v2717 : BitVec 32) (k1_hw10 : k1_chk10 i v2717), ∀ (k1_h1 : k1_cond1 i = 1#1), ∀ a, (k1_off502 v2717) a + S1x16.size a ≤ S256x384.size a := fun i v2717 k1_hw10 k1_h1 => k1_hw10.2.2.2.2.2.2.2.2.2.2.2.2.2.2.2.2.2.1 k1_h1
theorem k1_off503_inb : ∀ (i : grid1.Coords) (v2717 : BitVec 32) (k1_hw10 : k1_chk10 i v2717), ∀ (k1_h1 : k1_cond1 i = 1#1), ∀ a, (k1_off503 v2717) a + S1x16.size a ≤ S256x384.size a := fun i v2717 k1_hw10 k1_h1 => k1_hw10.2.2.2.2.2.2.2.2.2.2.2.2.2.2.2.2.2.2.1 k1_h1
theorem k1_off504_inb : ∀ (i : grid1.Coords) (v2717 : BitVec 32) (k1_hw10 : k1_chk10 i v2717), ∀ (k1_h1 : k1_cond1 i = 1#1), ∀ a, (k1_off504 v2717) a + S1x16.size a ≤ S256x384.size a := fun i v2717 k1_hw10 k1_h1 => k1_hw10.2.2.2.2.2.2.2.2.2.2.2.2.2.2.2.2.2.2.2.1 k1_h1
theorem k1_off505_inb : ∀ (i : grid1.Coords) (v2717 : BitVec 32) (k1_hw10 : k1_chk10 i v2717), ∀ (k1_h1 : k1_cond1 i = 1#1), ∀ a, (k1_off505 v2717) a + S1x16.size a ≤ S256x384.size a := fun i v2717 k1_hw10 k1_h1 => k1_hw10.2.2.2.2.2.2.2.2.2.2.2.2.2.2.2.2.2.2.2.2.1 k1_h1
theorem k1_off506_inb : ∀ (i : grid1.Coords) (v2717 : BitVec 32) (k1_hw10 : k1_chk10 i v2717), ∀ (k1_h1 : k1_cond1 i = 1#1), ∀ a, (k1_off506 v2717) a + S1x16.size a ≤ S256x384.size a := fun i v2717 k1_hw10 k1_h1 => k1_hw10.2.2.2.2.2.2.2.2.2.2.2.2.2.2.2.2.2.2.2.2.2.1 k1_h1
theorem k1_off507_inb : ∀ (i : grid1.Coords) (v2717 : BitVec 32) (k1_hw10 : k1_chk10 i v2717), ∀ (k1_h1 : k1_cond1 i = 1#1), ∀ a, (k1_off507 v2717) a + S1x16.size a ≤ S256x384.size a := fun i v2717 k1_hw10 k1_h1 => k1_hw10.2.2.2.2.2.2.2.2.2.2.2.2.2.2.2.2.2.2.2.2.2.2.1 k1_h1
theorem k1_off508_inb : ∀ (i : grid1.Coords) (v2717 : BitVec 32) (k1_hw10 : k1_chk10 i v2717), ∀ (k1_h1 : k1_cond1 i = 1#1), ∀ a, (k1_off508 v2717) a + S1x16.size a ≤ S256x384.size a := fun i v2717 k1_hw10 k1_h1 => k1_hw10.2.2.2.2.2.2.2.2.2.2.2.2.2.2.2.2.2.2.2.2.2.2.2 k1_h1

def k1_off509 (k1_t3 : Fin k1_t3_loop.trips) : Fin 2 → Nat :=
  let c0_i32_32 : BitVec 32 := 0#32
  let c1_i32_34 : BitVec 32 := 1#32
  let arg37 : BitVec 32 := Scf.iv c0_i32_32 c1_i32_34 k1_t3
  let c16_i32_763 : BitVec 32 := 16#32
  let v3011 : BitVec 32 := Scalar.muli arg37 c16_i32_763
  let c10_i32 : BitVec 32 := 10#32
  let v3012 : BitVec 32 := Scalar.addi v3011 c10_i32
  let v3014 : Index := Scalar.indexCast v3012
  let c0_764 : Index := 0#32
  ![v3014.toNat, 0]
def k1_off510 (k1_t3 : Fin k1_t3_loop.trips) : Fin 2 → Nat :=
  let c0_i32_32 : BitVec 32 := 0#32
  let c1_i32_34 : BitVec 32 := 1#32
  let arg37 : BitVec 32 := Scf.iv c0_i32_32 c1_i32_34 k1_t3
  let c16_i32_763 : BitVec 32 := 16#32
  let v3011 : BitVec 32 := Scalar.muli arg37 c16_i32_763
  let c10_i32 : BitVec 32 := 10#32
  let v3012 : BitVec 32 := Scalar.addi v3011 c10_i32
  let v3022 : Index := Scalar.indexCast v3012
  let c16_766 : Index := 16#32
  ![v3022.toNat, 16]
def k1_off511 (k1_t3 : Fin k1_t3_loop.trips) : Fin 2 → Nat :=
  let c0_i32_32 : BitVec 32 := 0#32
  let c1_i32_34 : BitVec 32 := 1#32
  let arg37 : BitVec 32 := Scf.iv c0_i32_32 c1_i32_34 k1_t3
  let c16_i32_763 : BitVec 32 := 16#32
  let v3011 : BitVec 32 := Scalar.muli arg37 c16_i32_763
  let c10_i32 : BitVec 32 := 10#32
  let v3012 : BitVec 32 := Scalar.addi v3011 c10_i32
  let v3030 : Index := Scalar.indexCast v3012
  let c32_768 : Index := 32#32
  ![v3030.toNat, 32]
def k1_off512 (k1_t3 : Fin k1_t3_loop.trips) : Fin 2 → Nat :=
  let c0_i32_32 : BitVec 32 := 0#32
  let c1_i32_34 : BitVec 32 := 1#32
  let arg37 : BitVec 32 := Scf.iv c0_i32_32 c1_i32_34 k1_t3
  let c16_i32_763 : BitVec 32 := 16#32
  let v3011 : BitVec 32 := Scalar.muli arg37 c16_i32_763
  let c10_i32 : BitVec 32 := 10#32
  let v3012 : BitVec 32 := Scalar.addi v3011 c10_i32
  let v3038 : Index := Scalar.indexCast v3012
  let c48_770 : Index := 48#32
  ![v3038.toNat, 48]
def k1_off513 (k1_t3 : Fin k1_t3_loop.trips) : Fin 2 → Nat :=
  let c0_i32_32 : BitVec 32 := 0#32
  let c1_i32_34 : BitVec 32 := 1#32
  let arg37 : BitVec 32 := Scf.iv c0_i32_32 c1_i32_34 k1_t3
  let c16_i32_763 : BitVec 32 := 16#32
  let v3011 : BitVec 32 := Scalar.muli arg37 c16_i32_763
  let c10_i32 : BitVec 32 := 10#32
  let v3012 : BitVec 32 := Scalar.addi v3011 c10_i32
  let v3046 : Index := Scalar.indexCast v3012
  let c64_772 : Index := 64#32
  ![v3046.toNat, 64]
def k1_off514 (k1_t3 : Fin k1_t3_loop.trips) : Fin 2 → Nat :=
  let c0_i32_32 : BitVec 32 := 0#32
  let c1_i32_34 : BitVec 32 := 1#32
  let arg37 : BitVec 32 := Scf.iv c0_i32_32 c1_i32_34 k1_t3
  let c16_i32_763 : BitVec 32 := 16#32
  let v3011 : BitVec 32 := Scalar.muli arg37 c16_i32_763
  let c10_i32 : BitVec 32 := 10#32
  let v3012 : BitVec 32 := Scalar.addi v3011 c10_i32
  let v3054 : Index := Scalar.indexCast v3012
  let c80_774 : Index := 80#32
  ![v3054.toNat, 80]
def k1_off515 (k1_t3 : Fin k1_t3_loop.trips) : Fin 2 → Nat :=
  let c0_i32_32 : BitVec 32 := 0#32
  let c1_i32_34 : BitVec 32 := 1#32
  let arg37 : BitVec 32 := Scf.iv c0_i32_32 c1_i32_34 k1_t3
  let c16_i32_763 : BitVec 32 := 16#32
  let v3011 : BitVec 32 := Scalar.muli arg37 c16_i32_763
  let c10_i32 : BitVec 32 := 10#32
  let v3012 : BitVec 32 := Scalar.addi v3011 c10_i32
  let v3062 : Index := Scalar.indexCast v3012
  let c96_776 : Index := 96#32
  ![v3062.toNat, 96]
def k1_off516 (k1_t3 : Fin k1_t3_loop.trips) : Fin 2 → Nat :=
  let c0_i32_32 : BitVec 32 := 0#32
  let c1_i32_34 : BitVec 32 := 1#32
  let arg37 : BitVec 32 := Scf.iv c0_i32_32 c1_i32_34 k1_t3
  let c16_i32_763 : BitVec 32 := 16#32
  let v3011 : BitVec 32 := Scalar.muli arg37 c16_i32_763
  let c10_i32 : BitVec 32 := 10#32
  let v3012 : BitVec 32 := Scalar.addi v3011 c10_i32
  let v3070 : Index := Scalar.indexCast v3012
  let c112_778 : Index := 112#32
  ![v3070.toNat, 112]
def k1_off517 (k1_t3 : Fin k1_t3_loop.trips) : Fin 2 → Nat :=
  let c0_i32_32 : BitVec 32 := 0#32
  let c1_i32_34 : BitVec 32 := 1#32
  let arg37 : BitVec 32 := Scf.iv c0_i32_32 c1_i32_34 k1_t3
  let c16_i32_763 : BitVec 32 := 16#32
  let v3011 : BitVec 32 := Scalar.muli arg37 c16_i32_763
  let c10_i32 : BitVec 32 := 10#32
  let v3012 : BitVec 32 := Scalar.addi v3011 c10_i32
  let v3078 : Index := Scalar.indexCast v3012
  let c128_780 : Index := 128#32
  ![v3078.toNat, 128]
def k1_off518 (k1_t3 : Fin k1_t3_loop.trips) : Fin 2 → Nat :=
  let c0_i32_32 : BitVec 32 := 0#32
  let c1_i32_34 : BitVec 32 := 1#32
  let arg37 : BitVec 32 := Scf.iv c0_i32_32 c1_i32_34 k1_t3
  let c16_i32_763 : BitVec 32 := 16#32
  let v3011 : BitVec 32 := Scalar.muli arg37 c16_i32_763
  let c10_i32 : BitVec 32 := 10#32
  let v3012 : BitVec 32 := Scalar.addi v3011 c10_i32
  let v3086 : Index := Scalar.indexCast v3012
  let c144_782 : Index := 144#32
  ![v3086.toNat, 144]
def k1_off519 (k1_t3 : Fin k1_t3_loop.trips) : Fin 2 → Nat :=
  let c0_i32_32 : BitVec 32 := 0#32
  let c1_i32_34 : BitVec 32 := 1#32
  let arg37 : BitVec 32 := Scf.iv c0_i32_32 c1_i32_34 k1_t3
  let c16_i32_763 : BitVec 32 := 16#32
  let v3011 : BitVec 32 := Scalar.muli arg37 c16_i32_763
  let c10_i32 : BitVec 32 := 10#32
  let v3012 : BitVec 32 := Scalar.addi v3011 c10_i32
  let v3094 : Index := Scalar.indexCast v3012
  let c160_784 : Index := 160#32
  ![v3094.toNat, 160]
def k1_off520 (k1_t3 : Fin k1_t3_loop.trips) : Fin 2 → Nat :=
  let c0_i32_32 : BitVec 32 := 0#32
  let c1_i32_34 : BitVec 32 := 1#32
  let arg37 : BitVec 32 := Scf.iv c0_i32_32 c1_i32_34 k1_t3
  let c16_i32_763 : BitVec 32 := 16#32
  let v3011 : BitVec 32 := Scalar.muli arg37 c16_i32_763
  let c10_i32 : BitVec 32 := 10#32
  let v3012 : BitVec 32 := Scalar.addi v3011 c10_i32
  let v3102 : Index := Scalar.indexCast v3012
  let c176_786 : Index := 176#32
  ![v3102.toNat, 176]
def k1_off521 (k1_t3 : Fin k1_t3_loop.trips) : Fin 2 → Nat :=
  let c0_i32_32 : BitVec 32 := 0#32
  let c1_i32_34 : BitVec 32 := 1#32
  let arg37 : BitVec 32 := Scf.iv c0_i32_32 c1_i32_34 k1_t3
  let c16_i32_763 : BitVec 32 := 16#32
  let v3011 : BitVec 32 := Scalar.muli arg37 c16_i32_763
  let c10_i32 : BitVec 32 := 10#32
  let v3012 : BitVec 32 := Scalar.addi v3011 c10_i32
  let v3110 : Index := Scalar.indexCast v3012
  let c192_788 : Index := 192#32
  ![v3110.toNat, 192]
def k1_off522 (k1_t3 : Fin k1_t3_loop.trips) : Fin 2 → Nat :=
  let c0_i32_32 : BitVec 32 := 0#32
  let c1_i32_34 : BitVec 32 := 1#32
  let arg37 : BitVec 32 := Scf.iv c0_i32_32 c1_i32_34 k1_t3
  let c16_i32_763 : BitVec 32 := 16#32
  let v3011 : BitVec 32 := Scalar.muli arg37 c16_i32_763
  let c10_i32 : BitVec 32 := 10#32
  let v3012 : BitVec 32 := Scalar.addi v3011 c10_i32
  let v3118 : Index := Scalar.indexCast v3012
  let c208_790 : Index := 208#32
  ![v3118.toNat, 208]
def k1_off523 (k1_t3 : Fin k1_t3_loop.trips) : Fin 2 → Nat :=
  let c0_i32_32 : BitVec 32 := 0#32
  let c1_i32_34 : BitVec 32 := 1#32
  let arg37 : BitVec 32 := Scf.iv c0_i32_32 c1_i32_34 k1_t3
  let c16_i32_763 : BitVec 32 := 16#32
  let v3011 : BitVec 32 := Scalar.muli arg37 c16_i32_763
  let c10_i32 : BitVec 32 := 10#32
  let v3012 : BitVec 32 := Scalar.addi v3011 c10_i32
  let v3126 : Index := Scalar.indexCast v3012
  let c224_792 : Index := 224#32
  ![v3126.toNat, 224]
def k1_off524 (k1_t3 : Fin k1_t3_loop.trips) : Fin 2 → Nat :=
  let c0_i32_32 : BitVec 32 := 0#32
  let c1_i32_34 : BitVec 32 := 1#32
  let arg37 : BitVec 32 := Scf.iv c0_i32_32 c1_i32_34 k1_t3
  let c16_i32_763 : BitVec 32 := 16#32
  let v3011 : BitVec 32 := Scalar.muli arg37 c16_i32_763
  let c10_i32 : BitVec 32 := 10#32
  let v3012 : BitVec 32 := Scalar.addi v3011 c10_i32
  let v3134 : Index := Scalar.indexCast v3012
  let c240_794 : Index := 240#32
  ![v3134.toNat, 240]
def k1_off525 (k1_t3 : Fin k1_t3_loop.trips) : Fin 2 → Nat :=
  let c0_i32_32 : BitVec 32 := 0#32
  let c1_i32_34 : BitVec 32 := 1#32
  let arg37 : BitVec 32 := Scf.iv c0_i32_32 c1_i32_34 k1_t3
  let c16_i32_763 : BitVec 32 := 16#32
  let v3011 : BitVec 32 := Scalar.muli arg37 c16_i32_763
  let c10_i32 : BitVec 32 := 10#32
  let v3012 : BitVec 32 := Scalar.addi v3011 c10_i32
  let v3142 : Index := Scalar.indexCast v3012
  let c256_796 : Index := 256#32
  ![v3142.toNat, 256]
def k1_off526 (k1_t3 : Fin k1_t3_loop.trips) : Fin 2 → Nat :=
  let c0_i32_32 : BitVec 32 := 0#32
  let c1_i32_34 : BitVec 32 := 1#32
  let arg37 : BitVec 32 := Scf.iv c0_i32_32 c1_i32_34 k1_t3
  let c16_i32_763 : BitVec 32 := 16#32
  let v3011 : BitVec 32 := Scalar.muli arg37 c16_i32_763
  let c10_i32 : BitVec 32 := 10#32
  let v3012 : BitVec 32 := Scalar.addi v3011 c10_i32
  let v3150 : Index := Scalar.indexCast v3012
  let c272_798 : Index := 272#32
  ![v3150.toNat, 272]
def k1_off527 (k1_t3 : Fin k1_t3_loop.trips) : Fin 2 → Nat :=
  let c0_i32_32 : BitVec 32 := 0#32
  let c1_i32_34 : BitVec 32 := 1#32
  let arg37 : BitVec 32 := Scf.iv c0_i32_32 c1_i32_34 k1_t3
  let c16_i32_763 : BitVec 32 := 16#32
  let v3011 : BitVec 32 := Scalar.muli arg37 c16_i32_763
  let c10_i32 : BitVec 32 := 10#32
  let v3012 : BitVec 32 := Scalar.addi v3011 c10_i32
  let v3158 : Index := Scalar.indexCast v3012
  let c288_800 : Index := 288#32
  ![v3158.toNat, 288]
def k1_off528 (k1_t3 : Fin k1_t3_loop.trips) : Fin 2 → Nat :=
  let c0_i32_32 : BitVec 32 := 0#32
  let c1_i32_34 : BitVec 32 := 1#32
  let arg37 : BitVec 32 := Scf.iv c0_i32_32 c1_i32_34 k1_t3
  let c16_i32_763 : BitVec 32 := 16#32
  let v3011 : BitVec 32 := Scalar.muli arg37 c16_i32_763
  let c10_i32 : BitVec 32 := 10#32
  let v3012 : BitVec 32 := Scalar.addi v3011 c10_i32
  let v3166 : Index := Scalar.indexCast v3012
  let c304_802 : Index := 304#32
  ![v3166.toNat, 304]
def k1_off529 (k1_t3 : Fin k1_t3_loop.trips) : Fin 2 → Nat :=
  let c0_i32_32 : BitVec 32 := 0#32
  let c1_i32_34 : BitVec 32 := 1#32
  let arg37 : BitVec 32 := Scf.iv c0_i32_32 c1_i32_34 k1_t3
  let c16_i32_763 : BitVec 32 := 16#32
  let v3011 : BitVec 32 := Scalar.muli arg37 c16_i32_763
  let c10_i32 : BitVec 32 := 10#32
  let v3012 : BitVec 32 := Scalar.addi v3011 c10_i32
  let v3174 : Index := Scalar.indexCast v3012
  let c320_804 : Index := 320#32
  ![v3174.toNat, 320]
def k1_off530 (k1_t3 : Fin k1_t3_loop.trips) : Fin 2 → Nat :=
  let c0_i32_32 : BitVec 32 := 0#32
  let c1_i32_34 : BitVec 32 := 1#32
  let arg37 : BitVec 32 := Scf.iv c0_i32_32 c1_i32_34 k1_t3
  let c16_i32_763 : BitVec 32 := 16#32
  let v3011 : BitVec 32 := Scalar.muli arg37 c16_i32_763
  let c10_i32 : BitVec 32 := 10#32
  let v3012 : BitVec 32 := Scalar.addi v3011 c10_i32
  let v3182 : Index := Scalar.indexCast v3012
  let c336_806 : Index := 336#32
  ![v3182.toNat, 336]
def k1_off531 (k1_t3 : Fin k1_t3_loop.trips) : Fin 2 → Nat :=
  let c0_i32_32 : BitVec 32 := 0#32
  let c1_i32_34 : BitVec 32 := 1#32
  let arg37 : BitVec 32 := Scf.iv c0_i32_32 c1_i32_34 k1_t3
  let c16_i32_763 : BitVec 32 := 16#32
  let v3011 : BitVec 32 := Scalar.muli arg37 c16_i32_763
  let c10_i32 : BitVec 32 := 10#32
  let v3012 : BitVec 32 := Scalar.addi v3011 c10_i32
  let v3190 : Index := Scalar.indexCast v3012
  let c352_808 : Index := 352#32
  ![v3190.toNat, 352]
def k1_off532 (k1_t3 : Fin k1_t3_loop.trips) : Fin 2 → Nat :=
  let c0_i32_32 : BitVec 32 := 0#32
  let c1_i32_34 : BitVec 32 := 1#32
  let arg37 : BitVec 32 := Scf.iv c0_i32_32 c1_i32_34 k1_t3
  let c16_i32_763 : BitVec 32 := 16#32
  let v3011 : BitVec 32 := Scalar.muli arg37 c16_i32_763
  let c10_i32 : BitVec 32 := 10#32
  let v3012 : BitVec 32 := Scalar.addi v3011 c10_i32
  let v3198 : Index := Scalar.indexCast v3012
  let c368_810 : Index := 368#32
  ![v3198.toNat, 368]
def k1_off533 (v3010 : BitVec 32) : Fin 2 → Nat :=
  let v3206 : Index := Scalar.indexCast v3010
  let c0_812 : Index := 0#32
  ![v3206.toNat, 0]

def k1_off534 (v3010 : BitVec 32) : Fin 2 → Nat :=
  let v3210 : Index := Scalar.indexCast v3010
  let c16_813 : Index := 16#32
  ![v3210.toNat, 16]
def k1_off535 (v3010 : BitVec 32) : Fin 2 → Nat :=
  let v3214 : Index := Scalar.indexCast v3010
  let c32_814 : Index := 32#32
  ![v3214.toNat, 32]
def k1_off536 (v3010 : BitVec 32) : Fin 2 → Nat :=
  let v3218 : Index := Scalar.indexCast v3010
  let c48_815 : Index := 48#32
  ![v3218.toNat, 48]
def k1_off537 (v3010 : BitVec 32) : Fin 2 → Nat :=
  let v3222 : Index := Scalar.indexCast v3010
  let c64_816 : Index := 64#32
  ![v3222.toNat, 64]
def k1_off538 (v3010 : BitVec 32) : Fin 2 → Nat :=
  let v3226 : Index := Scalar.indexCast v3010
  let c80_817 : Index := 80#32
  ![v3226.toNat, 80]
def k1_off539 (v3010 : BitVec 32) : Fin 2 → Nat :=
  let v3230 : Index := Scalar.indexCast v3010
  let c96_818 : Index := 96#32
  ![v3230.toNat, 96]
def k1_off540 (v3010 : BitVec 32) : Fin 2 → Nat :=
  let v3234 : Index := Scalar.indexCast v3010
  let c112_819 : Index := 112#32
  ![v3234.toNat, 112]
def k1_off541 (v3010 : BitVec 32) : Fin 2 → Nat :=
  let v3238 : Index := Scalar.indexCast v3010
  let c128_820 : Index := 128#32
  ![v3238.toNat, 128]
def k1_off542 (v3010 : BitVec 32) : Fin 2 → Nat :=
  let v3242 : Index := Scalar.indexCast v3010
  let c144_821 : Index := 144#32
  ![v3242.toNat, 144]
def k1_off543 (v3010 : BitVec 32) : Fin 2 → Nat :=
  let v3246 : Index := Scalar.indexCast v3010
  let c160_822 : Index := 160#32
  ![v3246.toNat, 160]
def k1_off544 (v3010 : BitVec 32) : Fin 2 → Nat :=
  let v3250 : Index := Scalar.indexCast v3010
  let c176_823 : Index := 176#32
  ![v3250.toNat, 176]
def k1_off545 (v3010 : BitVec 32) : Fin 2 → Nat :=
  let v3254 : Index := Scalar.indexCast v3010
  let c192_824 : Index := 192#32
  ![v3254.toNat, 192]
def k1_off546 (v3010 : BitVec 32) : Fin 2 → Nat :=
  let v3258 : Index := Scalar.indexCast v3010
  let c208_825 : Index := 208#32
  ![v3258.toNat, 208]
def k1_off547 (v3010 : BitVec 32) : Fin 2 → Nat :=
  let v3262 : Index := Scalar.indexCast v3010
  let c224_826 : Index := 224#32
  ![v3262.toNat, 224]
def k1_off548 (v3010 : BitVec 32) : Fin 2 → Nat :=
  let v3266 : Index := Scalar.indexCast v3010
  let c240_827 : Index := 240#32
  ![v3266.toNat, 240]
def k1_off549 (v3010 : BitVec 32) : Fin 2 → Nat :=
  let v3270 : Index := Scalar.indexCast v3010
  let c256_828 : Index := 256#32
  ![v3270.toNat, 256]
def k1_off550 (v3010 : BitVec 32) : Fin 2 → Nat :=
  let v3274 : Index := Scalar.indexCast v3010
  let c272_829 : Index := 272#32
  ![v3274.toNat, 272]
def k1_off551 (v3010 : BitVec 32) : Fin 2 → Nat :=
  let v3278 : Index := Scalar.indexCast v3010
  let c288_830 : Index := 288#32
  ![v3278.toNat, 288]
def k1_off552 (v3010 : BitVec 32) : Fin 2 → Nat :=
  let v3282 : Index := Scalar.indexCast v3010
  let c304_831 : Index := 304#32
  ![v3282.toNat, 304]
def k1_off553 (v3010 : BitVec 32) : Fin 2 → Nat :=
  let v3286 : Index := Scalar.indexCast v3010
  let c320_832 : Index := 320#32
  ![v3286.toNat, 320]
def k1_off554 (v3010 : BitVec 32) : Fin 2 → Nat :=
  let v3290 : Index := Scalar.indexCast v3010
  let c336_833 : Index := 336#32
  ![v3290.toNat, 336]
def k1_off555 (v3010 : BitVec 32) : Fin 2 → Nat :=
  let v3294 : Index := Scalar.indexCast v3010
  let c352_834 : Index := 352#32
  ![v3294.toNat, 352]
def k1_off556 (v3010 : BitVec 32) : Fin 2 → Nat :=
  let v3298 : Index := Scalar.indexCast v3010
  let c368_835 : Index := 368#32
  ![v3298.toNat, 368]

def k1_chk11 (i : grid1.Coords) (v3010 : BitVec 32) : Prop :=
  (∀ (k1_h1 : k1_cond1 i = 1#1), ∀ a, (k1_off533 v3010) a + S1x16.size a ≤ S256x384.size a) ∧
  (∀ (k1_h1 : k1_cond1 i = 1#1), ∀ a, (k1_off534 v3010) a + S1x16.size a ≤ S256x384.size a) ∧
  (∀ (k1_h1 : k1_cond1 i = 1#1), ∀ a, (k1_off535 v3010) a + S1x16.size a ≤ S256x384.size a) ∧
  (∀ (k1_h1 : k1_cond1 i = 1#1), ∀ a, (k1_off536 v3010) a + S1x16.size a ≤ S256x384.size a) ∧
  (∀ (k1_h1 : k1_cond1 i = 1#1), ∀ a, (k1_off537 v3010) a + S1x16.size a ≤ S256x384.size a) ∧
  (∀ (k1_h1 : k1_cond1 i = 1#1), ∀ a, (k1_off538 v3010) a + S1x16.size a ≤ S256x384.size a) ∧
  (∀ (k1_h1 : k1_cond1 i = 1#1), ∀ a, (k1_off539 v3010) a + S1x16.size a ≤ S256x384.size a) ∧
  (∀ (k1_h1 : k1_cond1 i = 1#1), ∀ a, (k1_off540 v3010) a + S1x16.size a ≤ S256x384.size a) ∧
  (∀ (k1_h1 : k1_cond1 i = 1#1), ∀ a, (k1_off541 v3010) a + S1x16.size a ≤ S256x384.size a) ∧
  (∀ (k1_h1 : k1_cond1 i = 1#1), ∀ a, (k1_off542 v3010) a + S1x16.size a ≤ S256x384.size a) ∧
  (∀ (k1_h1 : k1_cond1 i = 1#1), ∀ a, (k1_off543 v3010) a + S1x16.size a ≤ S256x384.size a) ∧
  (∀ (k1_h1 : k1_cond1 i = 1#1), ∀ a, (k1_off544 v3010) a + S1x16.size a ≤ S256x384.size a) ∧
  (∀ (k1_h1 : k1_cond1 i = 1#1), ∀ a, (k1_off545 v3010) a + S1x16.size a ≤ S256x384.size a) ∧
  (∀ (k1_h1 : k1_cond1 i = 1#1), ∀ a, (k1_off546 v3010) a + S1x16.size a ≤ S256x384.size a) ∧
  (∀ (k1_h1 : k1_cond1 i = 1#1), ∀ a, (k1_off547 v3010) a + S1x16.size a ≤ S256x384.size a) ∧
  (∀ (k1_h1 : k1_cond1 i = 1#1), ∀ a, (k1_off548 v3010) a + S1x16.size a ≤ S256x384.size a) ∧
  (∀ (k1_h1 : k1_cond1 i = 1#1), ∀ a, (k1_off549 v3010) a + S1x16.size a ≤ S256x384.size a) ∧
  (∀ (k1_h1 : k1_cond1 i = 1#1), ∀ a, (k1_off550 v3010) a + S1x16.size a ≤ S256x384.size a) ∧
  (∀ (k1_h1 : k1_cond1 i = 1#1), ∀ a, (k1_off551 v3010) a + S1x16.size a ≤ S256x384.size a) ∧
  (∀ (k1_h1 : k1_cond1 i = 1#1), ∀ a, (k1_off552 v3010) a + S1x16.size a ≤ S256x384.size a) ∧
  (∀ (k1_h1 : k1_cond1 i = 1#1), ∀ a, (k1_off553 v3010) a + S1x16.size a ≤ S256x384.size a) ∧
  (∀ (k1_h1 : k1_cond1 i = 1#1), ∀ a, (k1_off554 v3010) a + S1x16.size a ≤ S256x384.size a) ∧
  (∀ (k1_h1 : k1_cond1 i = 1#1), ∀ a, (k1_off555 v3010) a + S1x16.size a ≤ S256x384.size a) ∧
  (∀ (k1_h1 : k1_cond1 i = 1#1), ∀ a, (k1_off556 v3010) a + S1x16.size a ≤ S256x384.size a)
theorem k1_off533_inb : ∀ (i : grid1.Coords) (v3010 : BitVec 32) (k1_hw11 : k1_chk11 i v3010), ∀ (k1_h1 : k1_cond1 i = 1#1), ∀ a, (k1_off533 v3010) a + S1x16.size a ≤ S256x384.size a := fun i v3010 k1_hw11 k1_h1 => k1_hw11.1 k1_h1
theorem k1_off534_inb : ∀ (i : grid1.Coords) (v3010 : BitVec 32) (k1_hw11 : k1_chk11 i v3010), ∀ (k1_h1 : k1_cond1 i = 1#1), ∀ a, (k1_off534 v3010) a + S1x16.size a ≤ S256x384.size a := fun i v3010 k1_hw11 k1_h1 => k1_hw11.2.1 k1_h1
theorem k1_off535_inb : ∀ (i : grid1.Coords) (v3010 : BitVec 32) (k1_hw11 : k1_chk11 i v3010), ∀ (k1_h1 : k1_cond1 i = 1#1), ∀ a, (k1_off535 v3010) a + S1x16.size a ≤ S256x384.size a := fun i v3010 k1_hw11 k1_h1 => k1_hw11.2.2.1 k1_h1
theorem k1_off536_inb : ∀ (i : grid1.Coords) (v3010 : BitVec 32) (k1_hw11 : k1_chk11 i v3010), ∀ (k1_h1 : k1_cond1 i = 1#1), ∀ a, (k1_off536 v3010) a + S1x16.size a ≤ S256x384.size a := fun i v3010 k1_hw11 k1_h1 => k1_hw11.2.2.2.1 k1_h1
theorem k1_off537_inb : ∀ (i : grid1.Coords) (v3010 : BitVec 32) (k1_hw11 : k1_chk11 i v3010), ∀ (k1_h1 : k1_cond1 i = 1#1), ∀ a, (k1_off537 v3010) a + S1x16.size a ≤ S256x384.size a := fun i v3010 k1_hw11 k1_h1 => k1_hw11.2.2.2.2.1 k1_h1
theorem k1_off538_inb : ∀ (i : grid1.Coords) (v3010 : BitVec 32) (k1_hw11 : k1_chk11 i v3010), ∀ (k1_h1 : k1_cond1 i = 1#1), ∀ a, (k1_off538 v3010) a + S1x16.size a ≤ S256x384.size a := fun i v3010 k1_hw11 k1_h1 => k1_hw11.2.2.2.2.2.1 k1_h1
theorem k1_off539_inb : ∀ (i : grid1.Coords) (v3010 : BitVec 32) (k1_hw11 : k1_chk11 i v3010), ∀ (k1_h1 : k1_cond1 i = 1#1), ∀ a, (k1_off539 v3010) a + S1x16.size a ≤ S256x384.size a := fun i v3010 k1_hw11 k1_h1 => k1_hw11.2.2.2.2.2.2.1 k1_h1
theorem k1_off540_inb : ∀ (i : grid1.Coords) (v3010 : BitVec 32) (k1_hw11 : k1_chk11 i v3010), ∀ (k1_h1 : k1_cond1 i = 1#1), ∀ a, (k1_off540 v3010) a + S1x16.size a ≤ S256x384.size a := fun i v3010 k1_hw11 k1_h1 => k1_hw11.2.2.2.2.2.2.2.1 k1_h1
theorem k1_off541_inb : ∀ (i : grid1.Coords) (v3010 : BitVec 32) (k1_hw11 : k1_chk11 i v3010), ∀ (k1_h1 : k1_cond1 i = 1#1), ∀ a, (k1_off541 v3010) a + S1x16.size a ≤ S256x384.size a := fun i v3010 k1_hw11 k1_h1 => k1_hw11.2.2.2.2.2.2.2.2.1 k1_h1
theorem k1_off542_inb : ∀ (i : grid1.Coords) (v3010 : BitVec 32) (k1_hw11 : k1_chk11 i v3010), ∀ (k1_h1 : k1_cond1 i = 1#1), ∀ a, (k1_off542 v3010) a + S1x16.size a ≤ S256x384.size a := fun i v3010 k1_hw11 k1_h1 => k1_hw11.2.2.2.2.2.2.2.2.2.1 k1_h1
theorem k1_off543_inb : ∀ (i : grid1.Coords) (v3010 : BitVec 32) (k1_hw11 : k1_chk11 i v3010), ∀ (k1_h1 : k1_cond1 i = 1#1), ∀ a, (k1_off543 v3010) a + S1x16.size a ≤ S256x384.size a := fun i v3010 k1_hw11 k1_h1 => k1_hw11.2.2.2.2.2.2.2.2.2.2.1 k1_h1
theorem k1_off544_inb : ∀ (i : grid1.Coords) (v3010 : BitVec 32) (k1_hw11 : k1_chk11 i v3010), ∀ (k1_h1 : k1_cond1 i = 1#1), ∀ a, (k1_off544 v3010) a + S1x16.size a ≤ S256x384.size a := fun i v3010 k1_hw11 k1_h1 => k1_hw11.2.2.2.2.2.2.2.2.2.2.2.1 k1_h1
theorem k1_off545_inb : ∀ (i : grid1.Coords) (v3010 : BitVec 32) (k1_hw11 : k1_chk11 i v3010), ∀ (k1_h1 : k1_cond1 i = 1#1), ∀ a, (k1_off545 v3010) a + S1x16.size a ≤ S256x384.size a := fun i v3010 k1_hw11 k1_h1 => k1_hw11.2.2.2.2.2.2.2.2.2.2.2.2.1 k1_h1
theorem k1_off546_inb : ∀ (i : grid1.Coords) (v3010 : BitVec 32) (k1_hw11 : k1_chk11 i v3010), ∀ (k1_h1 : k1_cond1 i = 1#1), ∀ a, (k1_off546 v3010) a + S1x16.size a ≤ S256x384.size a := fun i v3010 k1_hw11 k1_h1 => k1_hw11.2.2.2.2.2.2.2.2.2.2.2.2.2.1 k1_h1
theorem k1_off547_inb : ∀ (i : grid1.Coords) (v3010 : BitVec 32) (k1_hw11 : k1_chk11 i v3010), ∀ (k1_h1 : k1_cond1 i = 1#1), ∀ a, (k1_off547 v3010) a + S1x16.size a ≤ S256x384.size a := fun i v3010 k1_hw11 k1_h1 => k1_hw11.2.2.2.2.2.2.2.2.2.2.2.2.2.2.1 k1_h1
theorem k1_off548_inb : ∀ (i : grid1.Coords) (v3010 : BitVec 32) (k1_hw11 : k1_chk11 i v3010), ∀ (k1_h1 : k1_cond1 i = 1#1), ∀ a, (k1_off548 v3010) a + S1x16.size a ≤ S256x384.size a := fun i v3010 k1_hw11 k1_h1 => k1_hw11.2.2.2.2.2.2.2.2.2.2.2.2.2.2.2.1 k1_h1
theorem k1_off549_inb : ∀ (i : grid1.Coords) (v3010 : BitVec 32) (k1_hw11 : k1_chk11 i v3010), ∀ (k1_h1 : k1_cond1 i = 1#1), ∀ a, (k1_off549 v3010) a + S1x16.size a ≤ S256x384.size a := fun i v3010 k1_hw11 k1_h1 => k1_hw11.2.2.2.2.2.2.2.2.2.2.2.2.2.2.2.2.1 k1_h1
theorem k1_off550_inb : ∀ (i : grid1.Coords) (v3010 : BitVec 32) (k1_hw11 : k1_chk11 i v3010), ∀ (k1_h1 : k1_cond1 i = 1#1), ∀ a, (k1_off550 v3010) a + S1x16.size a ≤ S256x384.size a := fun i v3010 k1_hw11 k1_h1 => k1_hw11.2.2.2.2.2.2.2.2.2.2.2.2.2.2.2.2.2.1 k1_h1
theorem k1_off551_inb : ∀ (i : grid1.Coords) (v3010 : BitVec 32) (k1_hw11 : k1_chk11 i v3010), ∀ (k1_h1 : k1_cond1 i = 1#1), ∀ a, (k1_off551 v3010) a + S1x16.size a ≤ S256x384.size a := fun i v3010 k1_hw11 k1_h1 => k1_hw11.2.2.2.2.2.2.2.2.2.2.2.2.2.2.2.2.2.2.1 k1_h1
theorem k1_off552_inb : ∀ (i : grid1.Coords) (v3010 : BitVec 32) (k1_hw11 : k1_chk11 i v3010), ∀ (k1_h1 : k1_cond1 i = 1#1), ∀ a, (k1_off552 v3010) a + S1x16.size a ≤ S256x384.size a := fun i v3010 k1_hw11 k1_h1 => k1_hw11.2.2.2.2.2.2.2.2.2.2.2.2.2.2.2.2.2.2.2.1 k1_h1
theorem k1_off553_inb : ∀ (i : grid1.Coords) (v3010 : BitVec 32) (k1_hw11 : k1_chk11 i v3010), ∀ (k1_h1 : k1_cond1 i = 1#1), ∀ a, (k1_off553 v3010) a + S1x16.size a ≤ S256x384.size a := fun i v3010 k1_hw11 k1_h1 => k1_hw11.2.2.2.2.2.2.2.2.2.2.2.2.2.2.2.2.2.2.2.2.1 k1_h1
theorem k1_off554_inb : ∀ (i : grid1.Coords) (v3010 : BitVec 32) (k1_hw11 : k1_chk11 i v3010), ∀ (k1_h1 : k1_cond1 i = 1#1), ∀ a, (k1_off554 v3010) a + S1x16.size a ≤ S256x384.size a := fun i v3010 k1_hw11 k1_h1 => k1_hw11.2.2.2.2.2.2.2.2.2.2.2.2.2.2.2.2.2.2.2.2.2.1 k1_h1
theorem k1_off555_inb : ∀ (i : grid1.Coords) (v3010 : BitVec 32) (k1_hw11 : k1_chk11 i v3010), ∀ (k1_h1 : k1_cond1 i = 1#1), ∀ a, (k1_off555 v3010) a + S1x16.size a ≤ S256x384.size a := fun i v3010 k1_hw11 k1_h1 => k1_hw11.2.2.2.2.2.2.2.2.2.2.2.2.2.2.2.2.2.2.2.2.2.2.1 k1_h1
theorem k1_off556_inb : ∀ (i : grid1.Coords) (v3010 : BitVec 32) (k1_hw11 : k1_chk11 i v3010), ∀ (k1_h1 : k1_cond1 i = 1#1), ∀ a, (k1_off556 v3010) a + S1x16.size a ≤ S256x384.size a := fun i v3010 k1_hw11 k1_h1 => k1_hw11.2.2.2.2.2.2.2.2.2.2.2.2.2.2.2.2.2.2.2.2.2.2.2 k1_h1

def k1_off557 (k1_t3 : Fin k1_t3_loop.trips) : Fin 2 → Nat :=
  let c0_i32_32 : BitVec 32 := 0#32
  let c1_i32_34 : BitVec 32 := 1#32
  let arg37 : BitVec 32 := Scf.iv c0_i32_32 c1_i32_34 k1_t3
  let c16_i32_836 : BitVec 32 := 16#32
  let v3304 : BitVec 32 := Scalar.muli arg37 c16_i32_836
  let c11_i32 : BitVec 32 := 11#32
  let v3305 : BitVec 32 := Scalar.addi v3304 c11_i32
  let v3307 : Index := Scalar.indexCast v3305
  let c0_837 : Index := 0#32
  ![v3307.toNat, 0]
def k1_off558 (k1_t3 : Fin k1_t3_loop.trips) : Fin 2 → Nat :=
  let c0_i32_32 : BitVec 32 := 0#32
  let c1_i32_34 : BitVec 32 := 1#32
  let arg37 : BitVec 32 := Scf.iv c0_i32_32 c1_i32_34 k1_t3
  let c16_i32_836 : BitVec 32 := 16#32
  let v3304 : BitVec 32 := Scalar.muli arg37 c16_i32_836
  let c11_i32 : BitVec 32 := 11#32
  let v3305 : BitVec 32 := Scalar.addi v3304 c11_i32
  let v3315 : Index := Scalar.indexCast v3305
  let c16_839 : Index := 16#32
  ![v3315.toNat, 16]
def k1_off559 (k1_t3 : Fin k1_t3_loop.trips) : Fin 2 → Nat :=
  let c0_i32_32 : BitVec 32 := 0#32
  let c1_i32_34 : BitVec 32 := 1#32
  let arg37 : BitVec 32 := Scf.iv c0_i32_32 c1_i32_34 k1_t3
  let c16_i32_836 : BitVec 32 := 16#32
  let v3304 : BitVec 32 := Scalar.muli arg37 c16_i32_836
  let c11_i32 : BitVec 32 := 11#32
  let v3305 : BitVec 32 := Scalar.addi v3304 c11_i32
  let v3323 : Index := Scalar.indexCast v3305
  let c32_841 : Index := 32#32
  ![v3323.toNat, 32]
def k1_off560 (k1_t3 : Fin k1_t3_loop.trips) : Fin 2 → Nat :=
  let c0_i32_32 : BitVec 32 := 0#32
  let c1_i32_34 : BitVec 32 := 1#32
  let arg37 : BitVec 32 := Scf.iv c0_i32_32 c1_i32_34 k1_t3
  let c16_i32_836 : BitVec 32 := 16#32
  let v3304 : BitVec 32 := Scalar.muli arg37 c16_i32_836
  let c11_i32 : BitVec 32 := 11#32
  let v3305 : BitVec 32 := Scalar.addi v3304 c11_i32
  let v3331 : Index := Scalar.indexCast v3305
  let c48_843 : Index := 48#32
  ![v3331.toNat, 48]
def k1_off561 (k1_t3 : Fin k1_t3_loop.trips) : Fin 2 → Nat :=
  let c0_i32_32 : BitVec 32 := 0#32
  let c1_i32_34 : BitVec 32 := 1#32
  let arg37 : BitVec 32 := Scf.iv c0_i32_32 c1_i32_34 k1_t3
  let c16_i32_836 : BitVec 32 := 16#32
  let v3304 : BitVec 32 := Scalar.muli arg37 c16_i32_836
  let c11_i32 : BitVec 32 := 11#32
  let v3305 : BitVec 32 := Scalar.addi v3304 c11_i32
  let v3339 : Index := Scalar.indexCast v3305
  let c64_845 : Index := 64#32
  ![v3339.toNat, 64]
def k1_off562 (k1_t3 : Fin k1_t3_loop.trips) : Fin 2 → Nat :=
  let c0_i32_32 : BitVec 32 := 0#32
  let c1_i32_34 : BitVec 32 := 1#32
  let arg37 : BitVec 32 := Scf.iv c0_i32_32 c1_i32_34 k1_t3
  let c16_i32_836 : BitVec 32 := 16#32
  let v3304 : BitVec 32 := Scalar.muli arg37 c16_i32_836
  let c11_i32 : BitVec 32 := 11#32
  let v3305 : BitVec 32 := Scalar.addi v3304 c11_i32
  let v3347 : Index := Scalar.indexCast v3305
  let c80_847 : Index := 80#32
  ![v3347.toNat, 80]
def k1_off563 (k1_t3 : Fin k1_t3_loop.trips) : Fin 2 → Nat :=
  let c0_i32_32 : BitVec 32 := 0#32
  let c1_i32_34 : BitVec 32 := 1#32
  let arg37 : BitVec 32 := Scf.iv c0_i32_32 c1_i32_34 k1_t3
  let c16_i32_836 : BitVec 32 := 16#32
  let v3304 : BitVec 32 := Scalar.muli arg37 c16_i32_836
  let c11_i32 : BitVec 32 := 11#32
  let v3305 : BitVec 32 := Scalar.addi v3304 c11_i32
  let v3355 : Index := Scalar.indexCast v3305
  let c96_849 : Index := 96#32
  ![v3355.toNat, 96]
def k1_off564 (k1_t3 : Fin k1_t3_loop.trips) : Fin 2 → Nat :=
  let c0_i32_32 : BitVec 32 := 0#32
  let c1_i32_34 : BitVec 32 := 1#32
  let arg37 : BitVec 32 := Scf.iv c0_i32_32 c1_i32_34 k1_t3
  let c16_i32_836 : BitVec 32 := 16#32
  let v3304 : BitVec 32 := Scalar.muli arg37 c16_i32_836
  let c11_i32 : BitVec 32 := 11#32
  let v3305 : BitVec 32 := Scalar.addi v3304 c11_i32
  let v3363 : Index := Scalar.indexCast v3305
  let c112_851 : Index := 112#32
  ![v3363.toNat, 112]
def k1_off565 (k1_t3 : Fin k1_t3_loop.trips) : Fin 2 → Nat :=
  let c0_i32_32 : BitVec 32 := 0#32
  let c1_i32_34 : BitVec 32 := 1#32
  let arg37 : BitVec 32 := Scf.iv c0_i32_32 c1_i32_34 k1_t3
  let c16_i32_836 : BitVec 32 := 16#32
  let v3304 : BitVec 32 := Scalar.muli arg37 c16_i32_836
  let c11_i32 : BitVec 32 := 11#32
  let v3305 : BitVec 32 := Scalar.addi v3304 c11_i32
  let v3371 : Index := Scalar.indexCast v3305
  let c128_853 : Index := 128#32
  ![v3371.toNat, 128]
def k1_off566 (k1_t3 : Fin k1_t3_loop.trips) : Fin 2 → Nat :=
  let c0_i32_32 : BitVec 32 := 0#32
  let c1_i32_34 : BitVec 32 := 1#32
  let arg37 : BitVec 32 := Scf.iv c0_i32_32 c1_i32_34 k1_t3
  let c16_i32_836 : BitVec 32 := 16#32
  let v3304 : BitVec 32 := Scalar.muli arg37 c16_i32_836
  let c11_i32 : BitVec 32 := 11#32
  let v3305 : BitVec 32 := Scalar.addi v3304 c11_i32
  let v3379 : Index := Scalar.indexCast v3305
  let c144_855 : Index := 144#32
  ![v3379.toNat, 144]
def k1_off567 (k1_t3 : Fin k1_t3_loop.trips) : Fin 2 → Nat :=
  let c0_i32_32 : BitVec 32 := 0#32
  let c1_i32_34 : BitVec 32 := 1#32
  let arg37 : BitVec 32 := Scf.iv c0_i32_32 c1_i32_34 k1_t3
  let c16_i32_836 : BitVec 32 := 16#32
  let v3304 : BitVec 32 := Scalar.muli arg37 c16_i32_836
  let c11_i32 : BitVec 32 := 11#32
  let v3305 : BitVec 32 := Scalar.addi v3304 c11_i32
  let v3387 : Index := Scalar.indexCast v3305
  let c160_857 : Index := 160#32
  ![v3387.toNat, 160]
def k1_off568 (k1_t3 : Fin k1_t3_loop.trips) : Fin 2 → Nat :=
  let c0_i32_32 : BitVec 32 := 0#32
  let c1_i32_34 : BitVec 32 := 1#32
  let arg37 : BitVec 32 := Scf.iv c0_i32_32 c1_i32_34 k1_t3
  let c16_i32_836 : BitVec 32 := 16#32
  let v3304 : BitVec 32 := Scalar.muli arg37 c16_i32_836
  let c11_i32 : BitVec 32 := 11#32
  let v3305 : BitVec 32 := Scalar.addi v3304 c11_i32
  let v3395 : Index := Scalar.indexCast v3305
  let c176_859 : Index := 176#32
  ![v3395.toNat, 176]
def k1_off569 (k1_t3 : Fin k1_t3_loop.trips) : Fin 2 → Nat :=
  let c0_i32_32 : BitVec 32 := 0#32
  let c1_i32_34 : BitVec 32 := 1#32
  let arg37 : BitVec 32 := Scf.iv c0_i32_32 c1_i32_34 k1_t3
  let c16_i32_836 : BitVec 32 := 16#32
  let v3304 : BitVec 32 := Scalar.muli arg37 c16_i32_836
  let c11_i32 : BitVec 32 := 11#32
  let v3305 : BitVec 32 := Scalar.addi v3304 c11_i32
  let v3403 : Index := Scalar.indexCast v3305
  let c192_861 : Index := 192#32
  ![v3403.toNat, 192]
def k1_off570 (k1_t3 : Fin k1_t3_loop.trips) : Fin 2 → Nat :=
  let c0_i32_32 : BitVec 32 := 0#32
  let c1_i32_34 : BitVec 32 := 1#32
  let arg37 : BitVec 32 := Scf.iv c0_i32_32 c1_i32_34 k1_t3
  let c16_i32_836 : BitVec 32 := 16#32
  let v3304 : BitVec 32 := Scalar.muli arg37 c16_i32_836
  let c11_i32 : BitVec 32 := 11#32
  let v3305 : BitVec 32 := Scalar.addi v3304 c11_i32
  let v3411 : Index := Scalar.indexCast v3305
  let c208_863 : Index := 208#32
  ![v3411.toNat, 208]
def k1_off571 (k1_t3 : Fin k1_t3_loop.trips) : Fin 2 → Nat :=
  let c0_i32_32 : BitVec 32 := 0#32
  let c1_i32_34 : BitVec 32 := 1#32
  let arg37 : BitVec 32 := Scf.iv c0_i32_32 c1_i32_34 k1_t3
  let c16_i32_836 : BitVec 32 := 16#32
  let v3304 : BitVec 32 := Scalar.muli arg37 c16_i32_836
  let c11_i32 : BitVec 32 := 11#32
  let v3305 : BitVec 32 := Scalar.addi v3304 c11_i32
  let v3419 : Index := Scalar.indexCast v3305
  let c224_865 : Index := 224#32
  ![v3419.toNat, 224]
def k1_off572 (k1_t3 : Fin k1_t3_loop.trips) : Fin 2 → Nat :=
  let c0_i32_32 : BitVec 32 := 0#32
  let c1_i32_34 : BitVec 32 := 1#32
  let arg37 : BitVec 32 := Scf.iv c0_i32_32 c1_i32_34 k1_t3
  let c16_i32_836 : BitVec 32 := 16#32
  let v3304 : BitVec 32 := Scalar.muli arg37 c16_i32_836
  let c11_i32 : BitVec 32 := 11#32
  let v3305 : BitVec 32 := Scalar.addi v3304 c11_i32
  let v3427 : Index := Scalar.indexCast v3305
  let c240_867 : Index := 240#32
  ![v3427.toNat, 240]
def k1_off573 (k1_t3 : Fin k1_t3_loop.trips) : Fin 2 → Nat :=
  let c0_i32_32 : BitVec 32 := 0#32
  let c1_i32_34 : BitVec 32 := 1#32
  let arg37 : BitVec 32 := Scf.iv c0_i32_32 c1_i32_34 k1_t3
  let c16_i32_836 : BitVec 32 := 16#32
  let v3304 : BitVec 32 := Scalar.muli arg37 c16_i32_836
  let c11_i32 : BitVec 32 := 11#32
  let v3305 : BitVec 32 := Scalar.addi v3304 c11_i32
  let v3435 : Index := Scalar.indexCast v3305
  let c256_869 : Index := 256#32
  ![v3435.toNat, 256]
def k1_off574 (k1_t3 : Fin k1_t3_loop.trips) : Fin 2 → Nat :=
  let c0_i32_32 : BitVec 32 := 0#32
  let c1_i32_34 : BitVec 32 := 1#32
  let arg37 : BitVec 32 := Scf.iv c0_i32_32 c1_i32_34 k1_t3
  let c16_i32_836 : BitVec 32 := 16#32
  let v3304 : BitVec 32 := Scalar.muli arg37 c16_i32_836
  let c11_i32 : BitVec 32 := 11#32
  let v3305 : BitVec 32 := Scalar.addi v3304 c11_i32
  let v3443 : Index := Scalar.indexCast v3305
  let c272_871 : Index := 272#32
  ![v3443.toNat, 272]
def k1_off575 (k1_t3 : Fin k1_t3_loop.trips) : Fin 2 → Nat :=
  let c0_i32_32 : BitVec 32 := 0#32
  let c1_i32_34 : BitVec 32 := 1#32
  let arg37 : BitVec 32 := Scf.iv c0_i32_32 c1_i32_34 k1_t3
  let c16_i32_836 : BitVec 32 := 16#32
  let v3304 : BitVec 32 := Scalar.muli arg37 c16_i32_836
  let c11_i32 : BitVec 32 := 11#32
  let v3305 : BitVec 32 := Scalar.addi v3304 c11_i32
  let v3451 : Index := Scalar.indexCast v3305
  let c288_873 : Index := 288#32
  ![v3451.toNat, 288]
def k1_off576 (k1_t3 : Fin k1_t3_loop.trips) : Fin 2 → Nat :=
  let c0_i32_32 : BitVec 32 := 0#32
  let c1_i32_34 : BitVec 32 := 1#32
  let arg37 : BitVec 32 := Scf.iv c0_i32_32 c1_i32_34 k1_t3
  let c16_i32_836 : BitVec 32 := 16#32
  let v3304 : BitVec 32 := Scalar.muli arg37 c16_i32_836
  let c11_i32 : BitVec 32 := 11#32
  let v3305 : BitVec 32 := Scalar.addi v3304 c11_i32
  let v3459 : Index := Scalar.indexCast v3305
  let c304_875 : Index := 304#32
  ![v3459.toNat, 304]
def k1_off577 (k1_t3 : Fin k1_t3_loop.trips) : Fin 2 → Nat :=
  let c0_i32_32 : BitVec 32 := 0#32
  let c1_i32_34 : BitVec 32 := 1#32
  let arg37 : BitVec 32 := Scf.iv c0_i32_32 c1_i32_34 k1_t3
  let c16_i32_836 : BitVec 32 := 16#32
  let v3304 : BitVec 32 := Scalar.muli arg37 c16_i32_836
  let c11_i32 : BitVec 32 := 11#32
  let v3305 : BitVec 32 := Scalar.addi v3304 c11_i32
  let v3467 : Index := Scalar.indexCast v3305
  let c320_877 : Index := 320#32
  ![v3467.toNat, 320]
def k1_off578 (k1_t3 : Fin k1_t3_loop.trips) : Fin 2 → Nat :=
  let c0_i32_32 : BitVec 32 := 0#32
  let c1_i32_34 : BitVec 32 := 1#32
  let arg37 : BitVec 32 := Scf.iv c0_i32_32 c1_i32_34 k1_t3
  let c16_i32_836 : BitVec 32 := 16#32
  let v3304 : BitVec 32 := Scalar.muli arg37 c16_i32_836
  let c11_i32 : BitVec 32 := 11#32
  let v3305 : BitVec 32 := Scalar.addi v3304 c11_i32
  let v3475 : Index := Scalar.indexCast v3305
  let c336_879 : Index := 336#32
  ![v3475.toNat, 336]
def k1_off579 (k1_t3 : Fin k1_t3_loop.trips) : Fin 2 → Nat :=
  let c0_i32_32 : BitVec 32 := 0#32
  let c1_i32_34 : BitVec 32 := 1#32
  let arg37 : BitVec 32 := Scf.iv c0_i32_32 c1_i32_34 k1_t3
  let c16_i32_836 : BitVec 32 := 16#32
  let v3304 : BitVec 32 := Scalar.muli arg37 c16_i32_836
  let c11_i32 : BitVec 32 := 11#32
  let v3305 : BitVec 32 := Scalar.addi v3304 c11_i32
  let v3483 : Index := Scalar.indexCast v3305
  let c352_881 : Index := 352#32
  ![v3483.toNat, 352]
def k1_off580 (k1_t3 : Fin k1_t3_loop.trips) : Fin 2 → Nat :=
  let c0_i32_32 : BitVec 32 := 0#32
  let c1_i32_34 : BitVec 32 := 1#32
  let arg37 : BitVec 32 := Scf.iv c0_i32_32 c1_i32_34 k1_t3
  let c16_i32_836 : BitVec 32 := 16#32
  let v3304 : BitVec 32 := Scalar.muli arg37 c16_i32_836
  let c11_i32 : BitVec 32 := 11#32
  let v3305 : BitVec 32 := Scalar.addi v3304 c11_i32
  let v3491 : Index := Scalar.indexCast v3305
  let c368_883 : Index := 368#32
  ![v3491.toNat, 368]
def k1_off581 (v3303 : BitVec 32) : Fin 2 → Nat :=
  let v3499 : Index := Scalar.indexCast v3303
  let c0_885 : Index := 0#32
  ![v3499.toNat, 0]

def k1_off582 (v3303 : BitVec 32) : Fin 2 → Nat :=
  let v3503 : Index := Scalar.indexCast v3303
  let c16_886 : Index := 16#32
  ![v3503.toNat, 16]
def k1_off583 (v3303 : BitVec 32) : Fin 2 → Nat :=
  let v3507 : Index := Scalar.indexCast v3303
  let c32_887 : Index := 32#32
  ![v3507.toNat, 32]
def k1_off584 (v3303 : BitVec 32) : Fin 2 → Nat :=
  let v3511 : Index := Scalar.indexCast v3303
  let c48_888 : Index := 48#32
  ![v3511.toNat, 48]
def k1_off585 (v3303 : BitVec 32) : Fin 2 → Nat :=
  let v3515 : Index := Scalar.indexCast v3303
  let c64_889 : Index := 64#32
  ![v3515.toNat, 64]
def k1_off586 (v3303 : BitVec 32) : Fin 2 → Nat :=
  let v3519 : Index := Scalar.indexCast v3303
  let c80_890 : Index := 80#32
  ![v3519.toNat, 80]
def k1_off587 (v3303 : BitVec 32) : Fin 2 → Nat :=
  let v3523 : Index := Scalar.indexCast v3303
  let c96_891 : Index := 96#32
  ![v3523.toNat, 96]
def k1_off588 (v3303 : BitVec 32) : Fin 2 → Nat :=
  let v3527 : Index := Scalar.indexCast v3303
  let c112_892 : Index := 112#32
  ![v3527.toNat, 112]
def k1_off589 (v3303 : BitVec 32) : Fin 2 → Nat :=
  let v3531 : Index := Scalar.indexCast v3303
  let c128_893 : Index := 128#32
  ![v3531.toNat, 128]
def k1_off590 (v3303 : BitVec 32) : Fin 2 → Nat :=
  let v3535 : Index := Scalar.indexCast v3303
  let c144_894 : Index := 144#32
  ![v3535.toNat, 144]
def k1_off591 (v3303 : BitVec 32) : Fin 2 → Nat :=
  let v3539 : Index := Scalar.indexCast v3303
  let c160_895 : Index := 160#32
  ![v3539.toNat, 160]
def k1_off592 (v3303 : BitVec 32) : Fin 2 → Nat :=
  let v3543 : Index := Scalar.indexCast v3303
  let c176_896 : Index := 176#32
  ![v3543.toNat, 176]
def k1_off593 (v3303 : BitVec 32) : Fin 2 → Nat :=
  let v3547 : Index := Scalar.indexCast v3303
  let c192_897 : Index := 192#32
  ![v3547.toNat, 192]
def k1_off594 (v3303 : BitVec 32) : Fin 2 → Nat :=
  let v3551 : Index := Scalar.indexCast v3303
  let c208_898 : Index := 208#32
  ![v3551.toNat, 208]
def k1_off595 (v3303 : BitVec 32) : Fin 2 → Nat :=
  let v3555 : Index := Scalar.indexCast v3303
  let c224_899 : Index := 224#32
  ![v3555.toNat, 224]
def k1_off596 (v3303 : BitVec 32) : Fin 2 → Nat :=
  let v3559 : Index := Scalar.indexCast v3303
  let c240_900 : Index := 240#32
  ![v3559.toNat, 240]
def k1_off597 (v3303 : BitVec 32) : Fin 2 → Nat :=
  let v3563 : Index := Scalar.indexCast v3303
  let c256_901 : Index := 256#32
  ![v3563.toNat, 256]
def k1_off598 (v3303 : BitVec 32) : Fin 2 → Nat :=
  let v3567 : Index := Scalar.indexCast v3303
  let c272_902 : Index := 272#32
  ![v3567.toNat, 272]
def k1_off599 (v3303 : BitVec 32) : Fin 2 → Nat :=
  let v3571 : Index := Scalar.indexCast v3303
  let c288_903 : Index := 288#32
  ![v3571.toNat, 288]
def k1_off600 (v3303 : BitVec 32) : Fin 2 → Nat :=
  let v3575 : Index := Scalar.indexCast v3303
  let c304_904 : Index := 304#32
  ![v3575.toNat, 304]
def k1_off601 (v3303 : BitVec 32) : Fin 2 → Nat :=
  let v3579 : Index := Scalar.indexCast v3303
  let c320_905 : Index := 320#32
  ![v3579.toNat, 320]
def k1_off602 (v3303 : BitVec 32) : Fin 2 → Nat :=
  let v3583 : Index := Scalar.indexCast v3303
  let c336_906 : Index := 336#32
  ![v3583.toNat, 336]
def k1_off603 (v3303 : BitVec 32) : Fin 2 → Nat :=
  let v3587 : Index := Scalar.indexCast v3303
  let c352_907 : Index := 352#32
  ![v3587.toNat, 352]
def k1_off604 (v3303 : BitVec 32) : Fin 2 → Nat :=
  let v3591 : Index := Scalar.indexCast v3303
  let c368_908 : Index := 368#32
  ![v3591.toNat, 368]

def k1_chk12 (i : grid1.Coords) (v3303 : BitVec 32) : Prop :=
  (∀ (k1_h1 : k1_cond1 i = 1#1), ∀ a, (k1_off581 v3303) a + S1x16.size a ≤ S256x384.size a) ∧
  (∀ (k1_h1 : k1_cond1 i = 1#1), ∀ a, (k1_off582 v3303) a + S1x16.size a ≤ S256x384.size a) ∧
  (∀ (k1_h1 : k1_cond1 i = 1#1), ∀ a, (k1_off583 v3303) a + S1x16.size a ≤ S256x384.size a) ∧
  (∀ (k1_h1 : k1_cond1 i = 1#1), ∀ a, (k1_off584 v3303) a + S1x16.size a ≤ S256x384.size a) ∧
  (∀ (k1_h1 : k1_cond1 i = 1#1), ∀ a, (k1_off585 v3303) a + S1x16.size a ≤ S256x384.size a) ∧
  (∀ (k1_h1 : k1_cond1 i = 1#1), ∀ a, (k1_off586 v3303) a + S1x16.size a ≤ S256x384.size a) ∧
  (∀ (k1_h1 : k1_cond1 i = 1#1), ∀ a, (k1_off587 v3303) a + S1x16.size a ≤ S256x384.size a) ∧
  (∀ (k1_h1 : k1_cond1 i = 1#1), ∀ a, (k1_off588 v3303) a + S1x16.size a ≤ S256x384.size a) ∧
  (∀ (k1_h1 : k1_cond1 i = 1#1), ∀ a, (k1_off589 v3303) a + S1x16.size a ≤ S256x384.size a) ∧
  (∀ (k1_h1 : k1_cond1 i = 1#1), ∀ a, (k1_off590 v3303) a + S1x16.size a ≤ S256x384.size a) ∧
  (∀ (k1_h1 : k1_cond1 i = 1#1), ∀ a, (k1_off591 v3303) a + S1x16.size a ≤ S256x384.size a) ∧
  (∀ (k1_h1 : k1_cond1 i = 1#1), ∀ a, (k1_off592 v3303) a + S1x16.size a ≤ S256x384.size a) ∧
  (∀ (k1_h1 : k1_cond1 i = 1#1), ∀ a, (k1_off593 v3303) a + S1x16.size a ≤ S256x384.size a) ∧
  (∀ (k1_h1 : k1_cond1 i = 1#1), ∀ a, (k1_off594 v3303) a + S1x16.size a ≤ S256x384.size a) ∧
  (∀ (k1_h1 : k1_cond1 i = 1#1), ∀ a, (k1_off595 v3303) a + S1x16.size a ≤ S256x384.size a) ∧
  (∀ (k1_h1 : k1_cond1 i = 1#1), ∀ a, (k1_off596 v3303) a + S1x16.size a ≤ S256x384.size a) ∧
  (∀ (k1_h1 : k1_cond1 i = 1#1), ∀ a, (k1_off597 v3303) a + S1x16.size a ≤ S256x384.size a) ∧
  (∀ (k1_h1 : k1_cond1 i = 1#1), ∀ a, (k1_off598 v3303) a + S1x16.size a ≤ S256x384.size a) ∧
  (∀ (k1_h1 : k1_cond1 i = 1#1), ∀ a, (k1_off599 v3303) a + S1x16.size a ≤ S256x384.size a) ∧
  (∀ (k1_h1 : k1_cond1 i = 1#1), ∀ a, (k1_off600 v3303) a + S1x16.size a ≤ S256x384.size a) ∧
  (∀ (k1_h1 : k1_cond1 i = 1#1), ∀ a, (k1_off601 v3303) a + S1x16.size a ≤ S256x384.size a) ∧
  (∀ (k1_h1 : k1_cond1 i = 1#1), ∀ a, (k1_off602 v3303) a + S1x16.size a ≤ S256x384.size a) ∧
  (∀ (k1_h1 : k1_cond1 i = 1#1), ∀ a, (k1_off603 v3303) a + S1x16.size a ≤ S256x384.size a) ∧
  (∀ (k1_h1 : k1_cond1 i = 1#1), ∀ a, (k1_off604 v3303) a + S1x16.size a ≤ S256x384.size a)
theorem k1_off581_inb : ∀ (i : grid1.Coords) (v3303 : BitVec 32) (k1_hw12 : k1_chk12 i v3303), ∀ (k1_h1 : k1_cond1 i = 1#1), ∀ a, (k1_off581 v3303) a + S1x16.size a ≤ S256x384.size a := fun i v3303 k1_hw12 k1_h1 => k1_hw12.1 k1_h1
theorem k1_off582_inb : ∀ (i : grid1.Coords) (v3303 : BitVec 32) (k1_hw12 : k1_chk12 i v3303), ∀ (k1_h1 : k1_cond1 i = 1#1), ∀ a, (k1_off582 v3303) a + S1x16.size a ≤ S256x384.size a := fun i v3303 k1_hw12 k1_h1 => k1_hw12.2.1 k1_h1
theorem k1_off583_inb : ∀ (i : grid1.Coords) (v3303 : BitVec 32) (k1_hw12 : k1_chk12 i v3303), ∀ (k1_h1 : k1_cond1 i = 1#1), ∀ a, (k1_off583 v3303) a + S1x16.size a ≤ S256x384.size a := fun i v3303 k1_hw12 k1_h1 => k1_hw12.2.2.1 k1_h1
theorem k1_off584_inb : ∀ (i : grid1.Coords) (v3303 : BitVec 32) (k1_hw12 : k1_chk12 i v3303), ∀ (k1_h1 : k1_cond1 i = 1#1), ∀ a, (k1_off584 v3303) a + S1x16.size a ≤ S256x384.size a := fun i v3303 k1_hw12 k1_h1 => k1_hw12.2.2.2.1 k1_h1
theorem k1_off585_inb : ∀ (i : grid1.Coords) (v3303 : BitVec 32) (k1_hw12 : k1_chk12 i v3303), ∀ (k1_h1 : k1_cond1 i = 1#1), ∀ a, (k1_off585 v3303) a + S1x16.size a ≤ S256x384.size a := fun i v3303 k1_hw12 k1_h1 => k1_hw12.2.2.2.2.1 k1_h1
theorem k1_off586_inb : ∀ (i : grid1.Coords) (v3303 : BitVec 32) (k1_hw12 : k1_chk12 i v3303), ∀ (k1_h1 : k1_cond1 i = 1#1), ∀ a, (k1_off586 v3303) a + S1x16.size a ≤ S256x384.size a := fun i v3303 k1_hw12 k1_h1 => k1_hw12.2.2.2.2.2.1 k1_h1
theorem k1_off587_inb : ∀ (i : grid1.Coords) (v3303 : BitVec 32) (k1_hw12 : k1_chk12 i v3303), ∀ (k1_h1 : k1_cond1 i = 1#1), ∀ a, (k1_off587 v3303) a + S1x16.size a ≤ S256x384.size a := fun i v3303 k1_hw12 k1_h1 => k1_hw12.2.2.2.2.2.2.1 k1_h1
theorem k1_off588_inb : ∀ (i : grid1.Coords) (v3303 : BitVec 32) (k1_hw12 : k1_chk12 i v3303), ∀ (k1_h1 : k1_cond1 i = 1#1), ∀ a, (k1_off588 v3303) a + S1x16.size a ≤ S256x384.size a := fun i v3303 k1_hw12 k1_h1 => k1_hw12.2.2.2.2.2.2.2.1 k1_h1
theorem k1_off589_inb : ∀ (i : grid1.Coords) (v3303 : BitVec 32) (k1_hw12 : k1_chk12 i v3303), ∀ (k1_h1 : k1_cond1 i = 1#1), ∀ a, (k1_off589 v3303) a + S1x16.size a ≤ S256x384.size a := fun i v3303 k1_hw12 k1_h1 => k1_hw12.2.2.2.2.2.2.2.2.1 k1_h1
theorem k1_off590_inb : ∀ (i : grid1.Coords) (v3303 : BitVec 32) (k1_hw12 : k1_chk12 i v3303), ∀ (k1_h1 : k1_cond1 i = 1#1), ∀ a, (k1_off590 v3303) a + S1x16.size a ≤ S256x384.size a := fun i v3303 k1_hw12 k1_h1 => k1_hw12.2.2.2.2.2.2.2.2.2.1 k1_h1
theorem k1_off591_inb : ∀ (i : grid1.Coords) (v3303 : BitVec 32) (k1_hw12 : k1_chk12 i v3303), ∀ (k1_h1 : k1_cond1 i = 1#1), ∀ a, (k1_off591 v3303) a + S1x16.size a ≤ S256x384.size a := fun i v3303 k1_hw12 k1_h1 => k1_hw12.2.2.2.2.2.2.2.2.2.2.1 k1_h1
theorem k1_off592_inb : ∀ (i : grid1.Coords) (v3303 : BitVec 32) (k1_hw12 : k1_chk12 i v3303), ∀ (k1_h1 : k1_cond1 i = 1#1), ∀ a, (k1_off592 v3303) a + S1x16.size a ≤ S256x384.size a := fun i v3303 k1_hw12 k1_h1 => k1_hw12.2.2.2.2.2.2.2.2.2.2.2.1 k1_h1
theorem k1_off593_inb : ∀ (i : grid1.Coords) (v3303 : BitVec 32) (k1_hw12 : k1_chk12 i v3303), ∀ (k1_h1 : k1_cond1 i = 1#1), ∀ a, (k1_off593 v3303) a + S1x16.size a ≤ S256x384.size a := fun i v3303 k1_hw12 k1_h1 => k1_hw12.2.2.2.2.2.2.2.2.2.2.2.2.1 k1_h1
theorem k1_off594_inb : ∀ (i : grid1.Coords) (v3303 : BitVec 32) (k1_hw12 : k1_chk12 i v3303), ∀ (k1_h1 : k1_cond1 i = 1#1), ∀ a, (k1_off594 v3303) a + S1x16.size a ≤ S256x384.size a := fun i v3303 k1_hw12 k1_h1 => k1_hw12.2.2.2.2.2.2.2.2.2.2.2.2.2.1 k1_h1
theorem k1_off595_inb : ∀ (i : grid1.Coords) (v3303 : BitVec 32) (k1_hw12 : k1_chk12 i v3303), ∀ (k1_h1 : k1_cond1 i = 1#1), ∀ a, (k1_off595 v3303) a + S1x16.size a ≤ S256x384.size a := fun i v3303 k1_hw12 k1_h1 => k1_hw12.2.2.2.2.2.2.2.2.2.2.2.2.2.2.1 k1_h1
theorem k1_off596_inb : ∀ (i : grid1.Coords) (v3303 : BitVec 32) (k1_hw12 : k1_chk12 i v3303), ∀ (k1_h1 : k1_cond1 i = 1#1), ∀ a, (k1_off596 v3303) a + S1x16.size a ≤ S256x384.size a := fun i v3303 k1_hw12 k1_h1 => k1_hw12.2.2.2.2.2.2.2.2.2.2.2.2.2.2.2.1 k1_h1
theorem k1_off597_inb : ∀ (i : grid1.Coords) (v3303 : BitVec 32) (k1_hw12 : k1_chk12 i v3303), ∀ (k1_h1 : k1_cond1 i = 1#1), ∀ a, (k1_off597 v3303) a + S1x16.size a ≤ S256x384.size a := fun i v3303 k1_hw12 k1_h1 => k1_hw12.2.2.2.2.2.2.2.2.2.2.2.2.2.2.2.2.1 k1_h1
theorem k1_off598_inb : ∀ (i : grid1.Coords) (v3303 : BitVec 32) (k1_hw12 : k1_chk12 i v3303), ∀ (k1_h1 : k1_cond1 i = 1#1), ∀ a, (k1_off598 v3303) a + S1x16.size a ≤ S256x384.size a := fun i v3303 k1_hw12 k1_h1 => k1_hw12.2.2.2.2.2.2.2.2.2.2.2.2.2.2.2.2.2.1 k1_h1
theorem k1_off599_inb : ∀ (i : grid1.Coords) (v3303 : BitVec 32) (k1_hw12 : k1_chk12 i v3303), ∀ (k1_h1 : k1_cond1 i = 1#1), ∀ a, (k1_off599 v3303) a + S1x16.size a ≤ S256x384.size a := fun i v3303 k1_hw12 k1_h1 => k1_hw12.2.2.2.2.2.2.2.2.2.2.2.2.2.2.2.2.2.2.1 k1_h1
theorem k1_off600_inb : ∀ (i : grid1.Coords) (v3303 : BitVec 32) (k1_hw12 : k1_chk12 i v3303), ∀ (k1_h1 : k1_cond1 i = 1#1), ∀ a, (k1_off600 v3303) a + S1x16.size a ≤ S256x384.size a := fun i v3303 k1_hw12 k1_h1 => k1_hw12.2.2.2.2.2.2.2.2.2.2.2.2.2.2.2.2.2.2.2.1 k1_h1
theorem k1_off601_inb : ∀ (i : grid1.Coords) (v3303 : BitVec 32) (k1_hw12 : k1_chk12 i v3303), ∀ (k1_h1 : k1_cond1 i = 1#1), ∀ a, (k1_off601 v3303) a + S1x16.size a ≤ S256x384.size a := fun i v3303 k1_hw12 k1_h1 => k1_hw12.2.2.2.2.2.2.2.2.2.2.2.2.2.2.2.2.2.2.2.2.1 k1_h1
theorem k1_off602_inb : ∀ (i : grid1.Coords) (v3303 : BitVec 32) (k1_hw12 : k1_chk12 i v3303), ∀ (k1_h1 : k1_cond1 i = 1#1), ∀ a, (k1_off602 v3303) a + S1x16.size a ≤ S256x384.size a := fun i v3303 k1_hw12 k1_h1 => k1_hw12.2.2.2.2.2.2.2.2.2.2.2.2.2.2.2.2.2.2.2.2.2.1 k1_h1
theorem k1_off603_inb : ∀ (i : grid1.Coords) (v3303 : BitVec 32) (k1_hw12 : k1_chk12 i v3303), ∀ (k1_h1 : k1_cond1 i = 1#1), ∀ a, (k1_off603 v3303) a + S1x16.size a ≤ S256x384.size a := fun i v3303 k1_hw12 k1_h1 => k1_hw12.2.2.2.2.2.2.2.2.2.2.2.2.2.2.2.2.2.2.2.2.2.2.1 k1_h1
theorem k1_off604_inb : ∀ (i : grid1.Coords) (v3303 : BitVec 32) (k1_hw12 : k1_chk12 i v3303), ∀ (k1_h1 : k1_cond1 i = 1#1), ∀ a, (k1_off604 v3303) a + S1x16.size a ≤ S256x384.size a := fun i v3303 k1_hw12 k1_h1 => k1_hw12.2.2.2.2.2.2.2.2.2.2.2.2.2.2.2.2.2.2.2.2.2.2.2 k1_h1

def k1_off605 (k1_t3 : Fin k1_t3_loop.trips) : Fin 2 → Nat :=
  let c0_i32_32 : BitVec 32 := 0#32
  let c1_i32_34 : BitVec 32 := 1#32
  let arg37 : BitVec 32 := Scf.iv c0_i32_32 c1_i32_34 k1_t3
  let c16_i32_909 : BitVec 32 := 16#32
  let v3597 : BitVec 32 := Scalar.muli arg37 c16_i32_909
  let c12_i32 : BitVec 32 := 12#32
  let v3598 : BitVec 32 := Scalar.addi v3597 c12_i32
  let v3600 : Index := Scalar.indexCast v3598
  let c0_910 : Index := 0#32
  ![v3600.toNat, 0]
def k1_off606 (k1_t3 : Fin k1_t3_loop.trips) : Fin 2 → Nat :=
  let c0_i32_32 : BitVec 32 := 0#32
  let c1_i32_34 : BitVec 32 := 1#32
  let arg37 : BitVec 32 := Scf.iv c0_i32_32 c1_i32_34 k1_t3
  let c16_i32_909 : BitVec 32 := 16#32
  let v3597 : BitVec 32 := Scalar.muli arg37 c16_i32_909
  let c12_i32 : BitVec 32 := 12#32
  let v3598 : BitVec 32 := Scalar.addi v3597 c12_i32
  let v3608 : Index := Scalar.indexCast v3598
  let c16_912 : Index := 16#32
  ![v3608.toNat, 16]
def k1_off607 (k1_t3 : Fin k1_t3_loop.trips) : Fin 2 → Nat :=
  let c0_i32_32 : BitVec 32 := 0#32
  let c1_i32_34 : BitVec 32 := 1#32
  let arg37 : BitVec 32 := Scf.iv c0_i32_32 c1_i32_34 k1_t3
  let c16_i32_909 : BitVec 32 := 16#32
  let v3597 : BitVec 32 := Scalar.muli arg37 c16_i32_909
  let c12_i32 : BitVec 32 := 12#32
  let v3598 : BitVec 32 := Scalar.addi v3597 c12_i32
  let v3616 : Index := Scalar.indexCast v3598
  let c32_914 : Index := 32#32
  ![v3616.toNat, 32]
def k1_off608 (k1_t3 : Fin k1_t3_loop.trips) : Fin 2 → Nat :=
  let c0_i32_32 : BitVec 32 := 0#32
  let c1_i32_34 : BitVec 32 := 1#32
  let arg37 : BitVec 32 := Scf.iv c0_i32_32 c1_i32_34 k1_t3
  let c16_i32_909 : BitVec 32 := 16#32
  let v3597 : BitVec 32 := Scalar.muli arg37 c16_i32_909
  let c12_i32 : BitVec 32 := 12#32
  let v3598 : BitVec 32 := Scalar.addi v3597 c12_i32
  let v3624 : Index := Scalar.indexCast v3598
  let c48_916 : Index := 48#32
  ![v3624.toNat, 48]
def k1_off609 (k1_t3 : Fin k1_t3_loop.trips) : Fin 2 → Nat :=
  let c0_i32_32 : BitVec 32 := 0#32
  let c1_i32_34 : BitVec 32 := 1#32
  let arg37 : BitVec 32 := Scf.iv c0_i32_32 c1_i32_34 k1_t3
  let c16_i32_909 : BitVec 32 := 16#32
  let v3597 : BitVec 32 := Scalar.muli arg37 c16_i32_909
  let c12_i32 : BitVec 32 := 12#32
  let v3598 : BitVec 32 := Scalar.addi v3597 c12_i32
  let v3632 : Index := Scalar.indexCast v3598
  let c64_918 : Index := 64#32
  ![v3632.toNat, 64]
def k1_off610 (k1_t3 : Fin k1_t3_loop.trips) : Fin 2 → Nat :=
  let c0_i32_32 : BitVec 32 := 0#32
  let c1_i32_34 : BitVec 32 := 1#32
  let arg37 : BitVec 32 := Scf.iv c0_i32_32 c1_i32_34 k1_t3
  let c16_i32_909 : BitVec 32 := 16#32
  let v3597 : BitVec 32 := Scalar.muli arg37 c16_i32_909
  let c12_i32 : BitVec 32 := 12#32
  let v3598 : BitVec 32 := Scalar.addi v3597 c12_i32
  let v3640 : Index := Scalar.indexCast v3598
  let c80_920 : Index := 80#32
  ![v3640.toNat, 80]
def k1_off611 (k1_t3 : Fin k1_t3_loop.trips) : Fin 2 → Nat :=
  let c0_i32_32 : BitVec 32 := 0#32
  let c1_i32_34 : BitVec 32 := 1#32
  let arg37 : BitVec 32 := Scf.iv c0_i32_32 c1_i32_34 k1_t3
  let c16_i32_909 : BitVec 32 := 16#32
  let v3597 : BitVec 32 := Scalar.muli arg37 c16_i32_909
  let c12_i32 : BitVec 32 := 12#32
  let v3598 : BitVec 32 := Scalar.addi v3597 c12_i32
  let v3648 : Index := Scalar.indexCast v3598
  let c96_922 : Index := 96#32
  ![v3648.toNat, 96]
def k1_off612 (k1_t3 : Fin k1_t3_loop.trips) : Fin 2 → Nat :=
  let c0_i32_32 : BitVec 32 := 0#32
  let c1_i32_34 : BitVec 32 := 1#32
  let arg37 : BitVec 32 := Scf.iv c0_i32_32 c1_i32_34 k1_t3
  let c16_i32_909 : BitVec 32 := 16#32
  let v3597 : BitVec 32 := Scalar.muli arg37 c16_i32_909
  let c12_i32 : BitVec 32 := 12#32
  let v3598 : BitVec 32 := Scalar.addi v3597 c12_i32
  let v3656 : Index := Scalar.indexCast v3598
  let c112_924 : Index := 112#32
  ![v3656.toNat, 112]
def k1_off613 (k1_t3 : Fin k1_t3_loop.trips) : Fin 2 → Nat :=
  let c0_i32_32 : BitVec 32 := 0#32
  let c1_i32_34 : BitVec 32 := 1#32
  let arg37 : BitVec 32 := Scf.iv c0_i32_32 c1_i32_34 k1_t3
  let c16_i32_909 : BitVec 32 := 16#32
  let v3597 : BitVec 32 := Scalar.muli arg37 c16_i32_909
  let c12_i32 : BitVec 32 := 12#32
  let v3598 : BitVec 32 := Scalar.addi v3597 c12_i32
  let v3664 : Index := Scalar.indexCast v3598
  let c128_926 : Index := 128#32
  ![v3664.toNat, 128]
def k1_off614 (k1_t3 : Fin k1_t3_loop.trips) : Fin 2 → Nat :=
  let c0_i32_32 : BitVec 32 := 0#32
  let c1_i32_34 : BitVec 32 := 1#32
  let arg37 : BitVec 32 := Scf.iv c0_i32_32 c1_i32_34 k1_t3
  let c16_i32_909 : BitVec 32 := 16#32
  let v3597 : BitVec 32 := Scalar.muli arg37 c16_i32_909
  let c12_i32 : BitVec 32 := 12#32
  let v3598 : BitVec 32 := Scalar.addi v3597 c12_i32
  let v3672 : Index := Scalar.indexCast v3598
  let c144_928 : Index := 144#32
  ![v3672.toNat, 144]
def k1_off615 (k1_t3 : Fin k1_t3_loop.trips) : Fin 2 → Nat :=
  let c0_i32_32 : BitVec 32 := 0#32
  let c1_i32_34 : BitVec 32 := 1#32
  let arg37 : BitVec 32 := Scf.iv c0_i32_32 c1_i32_34 k1_t3
  let c16_i32_909 : BitVec 32 := 16#32
  let v3597 : BitVec 32 := Scalar.muli arg37 c16_i32_909
  let c12_i32 : BitVec 32 := 12#32
  let v3598 : BitVec 32 := Scalar.addi v3597 c12_i32
  let v3680 : Index := Scalar.indexCast v3598
  let c160_930 : Index := 160#32
  ![v3680.toNat, 160]
def k1_off616 (k1_t3 : Fin k1_t3_loop.trips) : Fin 2 → Nat :=
  let c0_i32_32 : BitVec 32 := 0#32
  let c1_i32_34 : BitVec 32 := 1#32
  let arg37 : BitVec 32 := Scf.iv c0_i32_32 c1_i32_34 k1_t3
  let c16_i32_909 : BitVec 32 := 16#32
  let v3597 : BitVec 32 := Scalar.muli arg37 c16_i32_909
  let c12_i32 : BitVec 32 := 12#32
  let v3598 : BitVec 32 := Scalar.addi v3597 c12_i32
  let v3688 : Index := Scalar.indexCast v3598
  let c176_932 : Index := 176#32
  ![v3688.toNat, 176]
def k1_off617 (k1_t3 : Fin k1_t3_loop.trips) : Fin 2 → Nat :=
  let c0_i32_32 : BitVec 32 := 0#32
  let c1_i32_34 : BitVec 32 := 1#32
  let arg37 : BitVec 32 := Scf.iv c0_i32_32 c1_i32_34 k1_t3
  let c16_i32_909 : BitVec 32 := 16#32
  let v3597 : BitVec 32 := Scalar.muli arg37 c16_i32_909
  let c12_i32 : BitVec 32 := 12#32
  let v3598 : BitVec 32 := Scalar.addi v3597 c12_i32
  let v3696 : Index := Scalar.indexCast v3598
  let c192_934 : Index := 192#32
  ![v3696.toNat, 192]
def k1_off618 (k1_t3 : Fin k1_t3_loop.trips) : Fin 2 → Nat :=
  let c0_i32_32 : BitVec 32 := 0#32
  let c1_i32_34 : BitVec 32 := 1#32
  let arg37 : BitVec 32 := Scf.iv c0_i32_32 c1_i32_34 k1_t3
  let c16_i32_909 : BitVec 32 := 16#32
  let v3597 : BitVec 32 := Scalar.muli arg37 c16_i32_909
  let c12_i32 : BitVec 32 := 12#32
  let v3598 : BitVec 32 := Scalar.addi v3597 c12_i32
  let v3704 : Index := Scalar.indexCast v3598
  let c208_936 : Index := 208#32
  ![v3704.toNat, 208]
def k1_off619 (k1_t3 : Fin k1_t3_loop.trips) : Fin 2 → Nat :=
  let c0_i32_32 : BitVec 32 := 0#32
  let c1_i32_34 : BitVec 32 := 1#32
  let arg37 : BitVec 32 := Scf.iv c0_i32_32 c1_i32_34 k1_t3
  let c16_i32_909 : BitVec 32 := 16#32
  let v3597 : BitVec 32 := Scalar.muli arg37 c16_i32_909
  let c12_i32 : BitVec 32 := 12#32
  let v3598 : BitVec 32 := Scalar.addi v3597 c12_i32
  let v3712 : Index := Scalar.indexCast v3598
  let c224_938 : Index := 224#32
  ![v3712.toNat, 224]
def k1_off620 (k1_t3 : Fin k1_t3_loop.trips) : Fin 2 → Nat :=
  let c0_i32_32 : BitVec 32 := 0#32
  let c1_i32_34 : BitVec 32 := 1#32
  let arg37 : BitVec 32 := Scf.iv c0_i32_32 c1_i32_34 k1_t3
  let c16_i32_909 : BitVec 32 := 16#32
  let v3597 : BitVec 32 := Scalar.muli arg37 c16_i32_909
  let c12_i32 : BitVec 32 := 12#32
  let v3598 : BitVec 32 := Scalar.addi v3597 c12_i32
  let v3720 : Index := Scalar.indexCast v3598
  let c240_940 : Index := 240#32
  ![v3720.toNat, 240]
def k1_off621 (k1_t3 : Fin k1_t3_loop.trips) : Fin 2 → Nat :=
  let c0_i32_32 : BitVec 32 := 0#32
  let c1_i32_34 : BitVec 32 := 1#32
  let arg37 : BitVec 32 := Scf.iv c0_i32_32 c1_i32_34 k1_t3
  let c16_i32_909 : BitVec 32 := 16#32
  let v3597 : BitVec 32 := Scalar.muli arg37 c16_i32_909
  let c12_i32 : BitVec 32 := 12#32
  let v3598 : BitVec 32 := Scalar.addi v3597 c12_i32
  let v3728 : Index := Scalar.indexCast v3598
  let c256_942 : Index := 256#32
  ![v3728.toNat, 256]
def k1_off622 (k1_t3 : Fin k1_t3_loop.trips) : Fin 2 → Nat :=
  let c0_i32_32 : BitVec 32 := 0#32
  let c1_i32_34 : BitVec 32 := 1#32
  let arg37 : BitVec 32 := Scf.iv c0_i32_32 c1_i32_34 k1_t3
  let c16_i32_909 : BitVec 32 := 16#32
  let v3597 : BitVec 32 := Scalar.muli arg37 c16_i32_909
  let c12_i32 : BitVec 32 := 12#32
  let v3598 : BitVec 32 := Scalar.addi v3597 c12_i32
  let v3736 : Index := Scalar.indexCast v3598
  let c272_944 : Index := 272#32
  ![v3736.toNat, 272]
def k1_off623 (k1_t3 : Fin k1_t3_loop.trips) : Fin 2 → Nat :=
  let c0_i32_32 : BitVec 32 := 0#32
  let c1_i32_34 : BitVec 32 := 1#32
  let arg37 : BitVec 32 := Scf.iv c0_i32_32 c1_i32_34 k1_t3
  let c16_i32_909 : BitVec 32 := 16#32
  let v3597 : BitVec 32 := Scalar.muli arg37 c16_i32_909
  let c12_i32 : BitVec 32 := 12#32
  let v3598 : BitVec 32 := Scalar.addi v3597 c12_i32
  let v3744 : Index := Scalar.indexCast v3598
  let c288_946 : Index := 288#32
  ![v3744.toNat, 288]
def k1_off624 (k1_t3 : Fin k1_t3_loop.trips) : Fin 2 → Nat :=
  let c0_i32_32 : BitVec 32 := 0#32
  let c1_i32_34 : BitVec 32 := 1#32
  let arg37 : BitVec 32 := Scf.iv c0_i32_32 c1_i32_34 k1_t3
  let c16_i32_909 : BitVec 32 := 16#32
  let v3597 : BitVec 32 := Scalar.muli arg37 c16_i32_909
  let c12_i32 : BitVec 32 := 12#32
  let v3598 : BitVec 32 := Scalar.addi v3597 c12_i32
  let v3752 : Index := Scalar.indexCast v3598
  let c304_948 : Index := 304#32
  ![v3752.toNat, 304]
def k1_off625 (k1_t3 : Fin k1_t3_loop.trips) : Fin 2 → Nat :=
  let c0_i32_32 : BitVec 32 := 0#32
  let c1_i32_34 : BitVec 32 := 1#32
  let arg37 : BitVec 32 := Scf.iv c0_i32_32 c1_i32_34 k1_t3
  let c16_i32_909 : BitVec 32 := 16#32
  let v3597 : BitVec 32 := Scalar.muli arg37 c16_i32_909
  let c12_i32 : BitVec 32 := 12#32
  let v3598 : BitVec 32 := Scalar.addi v3597 c12_i32
  let v3760 : Index := Scalar.indexCast v3598
  let c320_950 : Index := 320#32
  ![v3760.toNat, 320]
def k1_off626 (k1_t3 : Fin k1_t3_loop.trips) : Fin 2 → Nat :=
  let c0_i32_32 : BitVec 32 := 0#32
  let c1_i32_34 : BitVec 32 := 1#32
  let arg37 : BitVec 32 := Scf.iv c0_i32_32 c1_i32_34 k1_t3
  let c16_i32_909 : BitVec 32 := 16#32
  let v3597 : BitVec 32 := Scalar.muli arg37 c16_i32_909
  let c12_i32 : BitVec 32 := 12#32
  let v3598 : BitVec 32 := Scalar.addi v3597 c12_i32
  let v3768 : Index := Scalar.indexCast v3598
  let c336_952 : Index := 336#32
  ![v3768.toNat, 336]
def k1_off627 (k1_t3 : Fin k1_t3_loop.trips) : Fin 2 → Nat :=
  let c0_i32_32 : BitVec 32 := 0#32
  let c1_i32_34 : BitVec 32 := 1#32
  let arg37 : BitVec 32 := Scf.iv c0_i32_32 c1_i32_34 k1_t3
  let c16_i32_909 : BitVec 32 := 16#32
  let v3597 : BitVec 32 := Scalar.muli arg37 c16_i32_909
  let c12_i32 : BitVec 32 := 12#32
  let v3598 : BitVec 32 := Scalar.addi v3597 c12_i32
  let v3776 : Index := Scalar.indexCast v3598
  let c352_954 : Index := 352#32
  ![v3776.toNat, 352]
def k1_off628 (k1_t3 : Fin k1_t3_loop.trips) : Fin 2 → Nat :=
  let c0_i32_32 : BitVec 32 := 0#32
  let c1_i32_34 : BitVec 32 := 1#32
  let arg37 : BitVec 32 := Scf.iv c0_i32_32 c1_i32_34 k1_t3
  let c16_i32_909 : BitVec 32 := 16#32
  let v3597 : BitVec 32 := Scalar.muli arg37 c16_i32_909
  let c12_i32 : BitVec 32 := 12#32
  let v3598 : BitVec 32 := Scalar.addi v3597 c12_i32
  let v3784 : Index := Scalar.indexCast v3598
  let c368_956 : Index := 368#32
  ![v3784.toNat, 368]
def k1_off629 (v3596 : BitVec 32) : Fin 2 → Nat :=
  let v3792 : Index := Scalar.indexCast v3596
  let c0_958 : Index := 0#32
  ![v3792.toNat, 0]

def k1_off630 (v3596 : BitVec 32) : Fin 2 → Nat :=
  let v3796 : Index := Scalar.indexCast v3596
  let c16_959 : Index := 16#32
  ![v3796.toNat, 16]
def k1_off631 (v3596 : BitVec 32) : Fin 2 → Nat :=
  let v3800 : Index := Scalar.indexCast v3596
  let c32_960 : Index := 32#32
  ![v3800.toNat, 32]
def k1_off632 (v3596 : BitVec 32) : Fin 2 → Nat :=
  let v3804 : Index := Scalar.indexCast v3596
  let c48_961 : Index := 48#32
  ![v3804.toNat, 48]
def k1_off633 (v3596 : BitVec 32) : Fin 2 → Nat :=
  let v3808 : Index := Scalar.indexCast v3596
  let c64_962 : Index := 64#32
  ![v3808.toNat, 64]
def k1_off634 (v3596 : BitVec 32) : Fin 2 → Nat :=
  let v3812 : Index := Scalar.indexCast v3596
  let c80_963 : Index := 80#32
  ![v3812.toNat, 80]
def k1_off635 (v3596 : BitVec 32) : Fin 2 → Nat :=
  let v3816 : Index := Scalar.indexCast v3596
  let c96_964 : Index := 96#32
  ![v3816.toNat, 96]
def k1_off636 (v3596 : BitVec 32) : Fin 2 → Nat :=
  let v3820 : Index := Scalar.indexCast v3596
  let c112_965 : Index := 112#32
  ![v3820.toNat, 112]
def k1_off637 (v3596 : BitVec 32) : Fin 2 → Nat :=
  let v3824 : Index := Scalar.indexCast v3596
  let c128_966 : Index := 128#32
  ![v3824.toNat, 128]
def k1_off638 (v3596 : BitVec 32) : Fin 2 → Nat :=
  let v3828 : Index := Scalar.indexCast v3596
  let c144_967 : Index := 144#32
  ![v3828.toNat, 144]
def k1_off639 (v3596 : BitVec 32) : Fin 2 → Nat :=
  let v3832 : Index := Scalar.indexCast v3596
  let c160_968 : Index := 160#32
  ![v3832.toNat, 160]
def k1_off640 (v3596 : BitVec 32) : Fin 2 → Nat :=
  let v3836 : Index := Scalar.indexCast v3596
  let c176_969 : Index := 176#32
  ![v3836.toNat, 176]
def k1_off641 (v3596 : BitVec 32) : Fin 2 → Nat :=
  let v3840 : Index := Scalar.indexCast v3596
  let c192_970 : Index := 192#32
  ![v3840.toNat, 192]
def k1_off642 (v3596 : BitVec 32) : Fin 2 → Nat :=
  let v3844 : Index := Scalar.indexCast v3596
  let c208_971 : Index := 208#32
  ![v3844.toNat, 208]
def k1_off643 (v3596 : BitVec 32) : Fin 2 → Nat :=
  let v3848 : Index := Scalar.indexCast v3596
  let c224_972 : Index := 224#32
  ![v3848.toNat, 224]
def k1_off644 (v3596 : BitVec 32) : Fin 2 → Nat :=
  let v3852 : Index := Scalar.indexCast v3596
  let c240_973 : Index := 240#32
  ![v3852.toNat, 240]
def k1_off645 (v3596 : BitVec 32) : Fin 2 → Nat :=
  let v3856 : Index := Scalar.indexCast v3596
  let c256_974 : Index := 256#32
  ![v3856.toNat, 256]
def k1_off646 (v3596 : BitVec 32) : Fin 2 → Nat :=
  let v3860 : Index := Scalar.indexCast v3596
  let c272_975 : Index := 272#32
  ![v3860.toNat, 272]
def k1_off647 (v3596 : BitVec 32) : Fin 2 → Nat :=
  let v3864 : Index := Scalar.indexCast v3596
  let c288_976 : Index := 288#32
  ![v3864.toNat, 288]
def k1_off648 (v3596 : BitVec 32) : Fin 2 → Nat :=
  let v3868 : Index := Scalar.indexCast v3596
  let c304_977 : Index := 304#32
  ![v3868.toNat, 304]
def k1_off649 (v3596 : BitVec 32) : Fin 2 → Nat :=
  let v3872 : Index := Scalar.indexCast v3596
  let c320_978 : Index := 320#32
  ![v3872.toNat, 320]
def k1_off650 (v3596 : BitVec 32) : Fin 2 → Nat :=
  let v3876 : Index := Scalar.indexCast v3596
  let c336_979 : Index := 336#32
  ![v3876.toNat, 336]
def k1_off651 (v3596 : BitVec 32) : Fin 2 → Nat :=
  let v3880 : Index := Scalar.indexCast v3596
  let c352_980 : Index := 352#32
  ![v3880.toNat, 352]
def k1_off652 (v3596 : BitVec 32) : Fin 2 → Nat :=
  let v3884 : Index := Scalar.indexCast v3596
  let c368_981 : Index := 368#32
  ![v3884.toNat, 368]

def k1_chk13 (i : grid1.Coords) (v3596 : BitVec 32) : Prop :=
  (∀ (k1_h1 : k1_cond1 i = 1#1), ∀ a, (k1_off629 v3596) a + S1x16.size a ≤ S256x384.size a) ∧
  (∀ (k1_h1 : k1_cond1 i = 1#1), ∀ a, (k1_off630 v3596) a + S1x16.size a ≤ S256x384.size a) ∧
  (∀ (k1_h1 : k1_cond1 i = 1#1), ∀ a, (k1_off631 v3596) a + S1x16.size a ≤ S256x384.size a) ∧
  (∀ (k1_h1 : k1_cond1 i = 1#1), ∀ a, (k1_off632 v3596) a + S1x16.size a ≤ S256x384.size a) ∧
  (∀ (k1_h1 : k1_cond1 i = 1#1), ∀ a, (k1_off633 v3596) a + S1x16.size a ≤ S256x384.size a) ∧
  (∀ (k1_h1 : k1_cond1 i = 1#1), ∀ a, (k1_off634 v3596) a + S1x16.size a ≤ S256x384.size a) ∧
  (∀ (k1_h1 : k1_cond1 i = 1#1), ∀ a, (k1_off635 v3596) a + S1x16.size a ≤ S256x384.size a) ∧
  (∀ (k1_h1 : k1_cond1 i = 1#1), ∀ a, (k1_off636 v3596) a + S1x16.size a ≤ S256x384.size a) ∧
  (∀ (k1_h1 : k1_cond1 i = 1#1), ∀ a, (k1_off637 v3596) a + S1x16.size a ≤ S256x384.size a) ∧
  (∀ (k1_h1 : k1_cond1 i = 1#1), ∀ a, (k1_off638 v3596) a + S1x16.size a ≤ S256x384.size a) ∧
  (∀ (k1_h1 : k1_cond1 i = 1#1), ∀ a, (k1_off639 v3596) a + S1x16.size a ≤ S256x384.size a) ∧
  (∀ (k1_h1 : k1_cond1 i = 1#1), ∀ a, (k1_off640 v3596) a + S1x16.size a ≤ S256x384.size a) ∧
  (∀ (k1_h1 : k1_cond1 i = 1#1), ∀ a, (k1_off641 v3596) a + S1x16.size a ≤ S256x384.size a) ∧
  (∀ (k1_h1 : k1_cond1 i = 1#1), ∀ a, (k1_off642 v3596) a + S1x16.size a ≤ S256x384.size a) ∧
  (∀ (k1_h1 : k1_cond1 i = 1#1), ∀ a, (k1_off643 v3596) a + S1x16.size a ≤ S256x384.size a) ∧
  (∀ (k1_h1 : k1_cond1 i = 1#1), ∀ a, (k1_off644 v3596) a + S1x16.size a ≤ S256x384.size a) ∧
  (∀ (k1_h1 : k1_cond1 i = 1#1), ∀ a, (k1_off645 v3596) a + S1x16.size a ≤ S256x384.size a) ∧
  (∀ (k1_h1 : k1_cond1 i = 1#1), ∀ a, (k1_off646 v3596) a + S1x16.size a ≤ S256x384.size a) ∧
  (∀ (k1_h1 : k1_cond1 i = 1#1), ∀ a, (k1_off647 v3596) a + S1x16.size a ≤ S256x384.size a) ∧
  (∀ (k1_h1 : k1_cond1 i = 1#1), ∀ a, (k1_off648 v3596) a + S1x16.size a ≤ S256x384.size a) ∧
  (∀ (k1_h1 : k1_cond1 i = 1#1), ∀ a, (k1_off649 v3596) a + S1x16.size a ≤ S256x384.size a) ∧
  (∀ (k1_h1 : k1_cond1 i = 1#1), ∀ a, (k1_off650 v3596) a + S1x16.size a ≤ S256x384.size a) ∧
  (∀ (k1_h1 : k1_cond1 i = 1#1), ∀ a, (k1_off651 v3596) a + S1x16.size a ≤ S256x384.size a) ∧
  (∀ (k1_h1 : k1_cond1 i = 1#1), ∀ a, (k1_off652 v3596) a + S1x16.size a ≤ S256x384.size a)
theorem k1_off629_inb : ∀ (i : grid1.Coords) (v3596 : BitVec 32) (k1_hw13 : k1_chk13 i v3596), ∀ (k1_h1 : k1_cond1 i = 1#1), ∀ a, (k1_off629 v3596) a + S1x16.size a ≤ S256x384.size a := fun i v3596 k1_hw13 k1_h1 => k1_hw13.1 k1_h1
theorem k1_off630_inb : ∀ (i : grid1.Coords) (v3596 : BitVec 32) (k1_hw13 : k1_chk13 i v3596), ∀ (k1_h1 : k1_cond1 i = 1#1), ∀ a, (k1_off630 v3596) a + S1x16.size a ≤ S256x384.size a := fun i v3596 k1_hw13 k1_h1 => k1_hw13.2.1 k1_h1
theorem k1_off631_inb : ∀ (i : grid1.Coords) (v3596 : BitVec 32) (k1_hw13 : k1_chk13 i v3596), ∀ (k1_h1 : k1_cond1 i = 1#1), ∀ a, (k1_off631 v3596) a + S1x16.size a ≤ S256x384.size a := fun i v3596 k1_hw13 k1_h1 => k1_hw13.2.2.1 k1_h1
theorem k1_off632_inb : ∀ (i : grid1.Coords) (v3596 : BitVec 32) (k1_hw13 : k1_chk13 i v3596), ∀ (k1_h1 : k1_cond1 i = 1#1), ∀ a, (k1_off632 v3596) a + S1x16.size a ≤ S256x384.size a := fun i v3596 k1_hw13 k1_h1 => k1_hw13.2.2.2.1 k1_h1
theorem k1_off633_inb : ∀ (i : grid1.Coords) (v3596 : BitVec 32) (k1_hw13 : k1_chk13 i v3596), ∀ (k1_h1 : k1_cond1 i = 1#1), ∀ a, (k1_off633 v3596) a + S1x16.size a ≤ S256x384.size a := fun i v3596 k1_hw13 k1_h1 => k1_hw13.2.2.2.2.1 k1_h1
theorem k1_off634_inb : ∀ (i : grid1.Coords) (v3596 : BitVec 32) (k1_hw13 : k1_chk13 i v3596), ∀ (k1_h1 : k1_cond1 i = 1#1), ∀ a, (k1_off634 v3596) a + S1x16.size a ≤ S256x384.size a := fun i v3596 k1_hw13 k1_h1 => k1_hw13.2.2.2.2.2.1 k1_h1
theorem k1_off635_inb : ∀ (i : grid1.Coords) (v3596 : BitVec 32) (k1_hw13 : k1_chk13 i v3596), ∀ (k1_h1 : k1_cond1 i = 1#1), ∀ a, (k1_off635 v3596) a + S1x16.size a ≤ S256x384.size a := fun i v3596 k1_hw13 k1_h1 => k1_hw13.2.2.2.2.2.2.1 k1_h1
theorem k1_off636_inb : ∀ (i : grid1.Coords) (v3596 : BitVec 32) (k1_hw13 : k1_chk13 i v3596), ∀ (k1_h1 : k1_cond1 i = 1#1), ∀ a, (k1_off636 v3596) a + S1x16.size a ≤ S256x384.size a := fun i v3596 k1_hw13 k1_h1 => k1_hw13.2.2.2.2.2.2.2.1 k1_h1
theorem k1_off637_inb : ∀ (i : grid1.Coords) (v3596 : BitVec 32) (k1_hw13 : k1_chk13 i v3596), ∀ (k1_h1 : k1_cond1 i = 1#1), ∀ a, (k1_off637 v3596) a + S1x16.size a ≤ S256x384.size a := fun i v3596 k1_hw13 k1_h1 => k1_hw13.2.2.2.2.2.2.2.2.1 k1_h1
theorem k1_off638_inb : ∀ (i : grid1.Coords) (v3596 : BitVec 32) (k1_hw13 : k1_chk13 i v3596), ∀ (k1_h1 : k1_cond1 i = 1#1), ∀ a, (k1_off638 v3596) a + S1x16.size a ≤ S256x384.size a := fun i v3596 k1_hw13 k1_h1 => k1_hw13.2.2.2.2.2.2.2.2.2.1 k1_h1
theorem k1_off639_inb : ∀ (i : grid1.Coords) (v3596 : BitVec 32) (k1_hw13 : k1_chk13 i v3596), ∀ (k1_h1 : k1_cond1 i = 1#1), ∀ a, (k1_off639 v3596) a + S1x16.size a ≤ S256x384.size a := fun i v3596 k1_hw13 k1_h1 => k1_hw13.2.2.2.2.2.2.2.2.2.2.1 k1_h1
theorem k1_off640_inb : ∀ (i : grid1.Coords) (v3596 : BitVec 32) (k1_hw13 : k1_chk13 i v3596), ∀ (k1_h1 : k1_cond1 i = 1#1), ∀ a, (k1_off640 v3596) a + S1x16.size a ≤ S256x384.size a := fun i v3596 k1_hw13 k1_h1 => k1_hw13.2.2.2.2.2.2.2.2.2.2.2.1 k1_h1
theorem k1_off641_inb : ∀ (i : grid1.Coords) (v3596 : BitVec 32) (k1_hw13 : k1_chk13 i v3596), ∀ (k1_h1 : k1_cond1 i = 1#1), ∀ a, (k1_off641 v3596) a + S1x16.size a ≤ S256x384.size a := fun i v3596 k1_hw13 k1_h1 => k1_hw13.2.2.2.2.2.2.2.2.2.2.2.2.1 k1_h1
theorem k1_off642_inb : ∀ (i : grid1.Coords) (v3596 : BitVec 32) (k1_hw13 : k1_chk13 i v3596), ∀ (k1_h1 : k1_cond1 i = 1#1), ∀ a, (k1_off642 v3596) a + S1x16.size a ≤ S256x384.size a := fun i v3596 k1_hw13 k1_h1 => k1_hw13.2.2.2.2.2.2.2.2.2.2.2.2.2.1 k1_h1
theorem k1_off643_inb : ∀ (i : grid1.Coords) (v3596 : BitVec 32) (k1_hw13 : k1_chk13 i v3596), ∀ (k1_h1 : k1_cond1 i = 1#1), ∀ a, (k1_off643 v3596) a + S1x16.size a ≤ S256x384.size a := fun i v3596 k1_hw13 k1_h1 => k1_hw13.2.2.2.2.2.2.2.2.2.2.2.2.2.2.1 k1_h1
theorem k1_off644_inb : ∀ (i : grid1.Coords) (v3596 : BitVec 32) (k1_hw13 : k1_chk13 i v3596), ∀ (k1_h1 : k1_cond1 i = 1#1), ∀ a, (k1_off644 v3596) a + S1x16.size a ≤ S256x384.size a := fun i v3596 k1_hw13 k1_h1 => k1_hw13.2.2.2.2.2.2.2.2.2.2.2.2.2.2.2.1 k1_h1
theorem k1_off645_inb : ∀ (i : grid1.Coords) (v3596 : BitVec 32) (k1_hw13 : k1_chk13 i v3596), ∀ (k1_h1 : k1_cond1 i = 1#1), ∀ a, (k1_off645 v3596) a + S1x16.size a ≤ S256x384.size a := fun i v3596 k1_hw13 k1_h1 => k1_hw13.2.2.2.2.2.2.2.2.2.2.2.2.2.2.2.2.1 k1_h1
theorem k1_off646_inb : ∀ (i : grid1.Coords) (v3596 : BitVec 32) (k1_hw13 : k1_chk13 i v3596), ∀ (k1_h1 : k1_cond1 i = 1#1), ∀ a, (k1_off646 v3596) a + S1x16.size a ≤ S256x384.size a := fun i v3596 k1_hw13 k1_h1 => k1_hw13.2.2.2.2.2.2.2.2.2.2.2.2.2.2.2.2.2.1 k1_h1
theorem k1_off647_inb : ∀ (i : grid1.Coords) (v3596 : BitVec 32) (k1_hw13 : k1_chk13 i v3596), ∀ (k1_h1 : k1_cond1 i = 1#1), ∀ a, (k1_off647 v3596) a + S1x16.size a ≤ S256x384.size a := fun i v3596 k1_hw13 k1_h1 => k1_hw13.2.2.2.2.2.2.2.2.2.2.2.2.2.2.2.2.2.2.1 k1_h1
theorem k1_off648_inb : ∀ (i : grid1.Coords) (v3596 : BitVec 32) (k1_hw13 : k1_chk13 i v3596), ∀ (k1_h1 : k1_cond1 i = 1#1), ∀ a, (k1_off648 v3596) a + S1x16.size a ≤ S256x384.size a := fun i v3596 k1_hw13 k1_h1 => k1_hw13.2.2.2.2.2.2.2.2.2.2.2.2.2.2.2.2.2.2.2.1 k1_h1
theorem k1_off649_inb : ∀ (i : grid1.Coords) (v3596 : BitVec 32) (k1_hw13 : k1_chk13 i v3596), ∀ (k1_h1 : k1_cond1 i = 1#1), ∀ a, (k1_off649 v3596) a + S1x16.size a ≤ S256x384.size a := fun i v3596 k1_hw13 k1_h1 => k1_hw13.2.2.2.2.2.2.2.2.2.2.2.2.2.2.2.2.2.2.2.2.1 k1_h1
theorem k1_off650_inb : ∀ (i : grid1.Coords) (v3596 : BitVec 32) (k1_hw13 : k1_chk13 i v3596), ∀ (k1_h1 : k1_cond1 i = 1#1), ∀ a, (k1_off650 v3596) a + S1x16.size a ≤ S256x384.size a := fun i v3596 k1_hw13 k1_h1 => k1_hw13.2.2.2.2.2.2.2.2.2.2.2.2.2.2.2.2.2.2.2.2.2.1 k1_h1
theorem k1_off651_inb : ∀ (i : grid1.Coords) (v3596 : BitVec 32) (k1_hw13 : k1_chk13 i v3596), ∀ (k1_h1 : k1_cond1 i = 1#1), ∀ a, (k1_off651 v3596) a + S1x16.size a ≤ S256x384.size a := fun i v3596 k1_hw13 k1_h1 => k1_hw13.2.2.2.2.2.2.2.2.2.2.2.2.2.2.2.2.2.2.2.2.2.2.1 k1_h1
theorem k1_off652_inb : ∀ (i : grid1.Coords) (v3596 : BitVec 32) (k1_hw13 : k1_chk13 i v3596), ∀ (k1_h1 : k1_cond1 i = 1#1), ∀ a, (k1_off652 v3596) a + S1x16.size a ≤ S256x384.size a := fun i v3596 k1_hw13 k1_h1 => k1_hw13.2.2.2.2.2.2.2.2.2.2.2.2.2.2.2.2.2.2.2.2.2.2.2 k1_h1

def k1_off653 (k1_t3 : Fin k1_t3_loop.trips) : Fin 2 → Nat :=
  let c0_i32_32 : BitVec 32 := 0#32
  let c1_i32_34 : BitVec 32 := 1#32
  let arg37 : BitVec 32 := Scf.iv c0_i32_32 c1_i32_34 k1_t3
  let c16_i32_982 : BitVec 32 := 16#32
  let v3890 : BitVec 32 := Scalar.muli arg37 c16_i32_982
  let c13_i32 : BitVec 32 := 13#32
  let v3891 : BitVec 32 := Scalar.addi v3890 c13_i32
  let v3893 : Index := Scalar.indexCast v3891
  let c0_983 : Index := 0#32
  ![v3893.toNat, 0]
def k1_off654 (k1_t3 : Fin k1_t3_loop.trips) : Fin 2 → Nat :=
  let c0_i32_32 : BitVec 32 := 0#32
  let c1_i32_34 : BitVec 32 := 1#32
  let arg37 : BitVec 32 := Scf.iv c0_i32_32 c1_i32_34 k1_t3
  let c16_i32_982 : BitVec 32 := 16#32
  let v3890 : BitVec 32 := Scalar.muli arg37 c16_i32_982
  let c13_i32 : BitVec 32 := 13#32
  let v3891 : BitVec 32 := Scalar.addi v3890 c13_i32
  let v3901 : Index := Scalar.indexCast v3891
  let c16_985 : Index := 16#32
  ![v3901.toNat, 16]
def k1_off655 (k1_t3 : Fin k1_t3_loop.trips) : Fin 2 → Nat :=
  let c0_i32_32 : BitVec 32 := 0#32
  let c1_i32_34 : BitVec 32 := 1#32
  let arg37 : BitVec 32 := Scf.iv c0_i32_32 c1_i32_34 k1_t3
  let c16_i32_982 : BitVec 32 := 16#32
  let v3890 : BitVec 32 := Scalar.muli arg37 c16_i32_982
  let c13_i32 : BitVec 32 := 13#32
  let v3891 : BitVec 32 := Scalar.addi v3890 c13_i32
  let v3909 : Index := Scalar.indexCast v3891
  let c32_987 : Index := 32#32
  ![v3909.toNat, 32]
def k1_off656 (k1_t3 : Fin k1_t3_loop.trips) : Fin 2 → Nat :=
  let c0_i32_32 : BitVec 32 := 0#32
  let c1_i32_34 : BitVec 32 := 1#32
  let arg37 : BitVec 32 := Scf.iv c0_i32_32 c1_i32_34 k1_t3
  let c16_i32_982 : BitVec 32 := 16#32
  let v3890 : BitVec 32 := Scalar.muli arg37 c16_i32_982
  let c13_i32 : BitVec 32 := 13#32
  let v3891 : BitVec 32 := Scalar.addi v3890 c13_i32
  let v3917 : Index := Scalar.indexCast v3891
  let c48_989 : Index := 48#32
  ![v3917.toNat, 48]
def k1_off657 (k1_t3 : Fin k1_t3_loop.trips) : Fin 2 → Nat :=
  let c0_i32_32 : BitVec 32 := 0#32
  let c1_i32_34 : BitVec 32 := 1#32
  let arg37 : BitVec 32 := Scf.iv c0_i32_32 c1_i32_34 k1_t3
  let c16_i32_982 : BitVec 32 := 16#32
  let v3890 : BitVec 32 := Scalar.muli arg37 c16_i32_982
  let c13_i32 : BitVec 32 := 13#32
  let v3891 : BitVec 32 := Scalar.addi v3890 c13_i32
  let v3925 : Index := Scalar.indexCast v3891
  let c64_991 : Index := 64#32
  ![v3925.toNat, 64]
def k1_off658 (k1_t3 : Fin k1_t3_loop.trips) : Fin 2 → Nat :=
  let c0_i32_32 : BitVec 32 := 0#32
  let c1_i32_34 : BitVec 32 := 1#32
  let arg37 : BitVec 32 := Scf.iv c0_i32_32 c1_i32_34 k1_t3
  let c16_i32_982 : BitVec 32 := 16#32
  let v3890 : BitVec 32 := Scalar.muli arg37 c16_i32_982
  let c13_i32 : BitVec 32 := 13#32
  let v3891 : BitVec 32 := Scalar.addi v3890 c13_i32
  let v3933 : Index := Scalar.indexCast v3891
  let c80_993 : Index := 80#32
  ![v3933.toNat, 80]
def k1_off659 (k1_t3 : Fin k1_t3_loop.trips) : Fin 2 → Nat :=
  let c0_i32_32 : BitVec 32 := 0#32
  let c1_i32_34 : BitVec 32 := 1#32
  let arg37 : BitVec 32 := Scf.iv c0_i32_32 c1_i32_34 k1_t3
  let c16_i32_982 : BitVec 32 := 16#32
  let v3890 : BitVec 32 := Scalar.muli arg37 c16_i32_982
  let c13_i32 : BitVec 32 := 13#32
  let v3891 : BitVec 32 := Scalar.addi v3890 c13_i32
  let v3941 : Index := Scalar.indexCast v3891
  let c96_995 : Index := 96#32
  ![v3941.toNat, 96]
def k1_off660 (k1_t3 : Fin k1_t3_loop.trips) : Fin 2 → Nat :=
  let c0_i32_32 : BitVec 32 := 0#32
  let c1_i32_34 : BitVec 32 := 1#32
  let arg37 : BitVec 32 := Scf.iv c0_i32_32 c1_i32_34 k1_t3
  let c16_i32_982 : BitVec 32 := 16#32
  let v3890 : BitVec 32 := Scalar.muli arg37 c16_i32_982
  let c13_i32 : BitVec 32 := 13#32
  let v3891 : BitVec 32 := Scalar.addi v3890 c13_i32
  let v3949 : Index := Scalar.indexCast v3891
  let c112_997 : Index := 112#32
  ![v3949.toNat, 112]
def k1_off661 (k1_t3 : Fin k1_t3_loop.trips) : Fin 2 → Nat :=
  let c0_i32_32 : BitVec 32 := 0#32
  let c1_i32_34 : BitVec 32 := 1#32
  let arg37 : BitVec 32 := Scf.iv c0_i32_32 c1_i32_34 k1_t3
  let c16_i32_982 : BitVec 32 := 16#32
  let v3890 : BitVec 32 := Scalar.muli arg37 c16_i32_982
  let c13_i32 : BitVec 32 := 13#32
  let v3891 : BitVec 32 := Scalar.addi v3890 c13_i32
  let v3957 : Index := Scalar.indexCast v3891
  let c128_999 : Index := 128#32
  ![v3957.toNat, 128]
def k1_off662 (k1_t3 : Fin k1_t3_loop.trips) : Fin 2 → Nat :=
  let c0_i32_32 : BitVec 32 := 0#32
  let c1_i32_34 : BitVec 32 := 1#32
  let arg37 : BitVec 32 := Scf.iv c0_i32_32 c1_i32_34 k1_t3
  let c16_i32_982 : BitVec 32 := 16#32
  let v3890 : BitVec 32 := Scalar.muli arg37 c16_i32_982
  let c13_i32 : BitVec 32 := 13#32
  let v3891 : BitVec 32 := Scalar.addi v3890 c13_i32
  let v3965 : Index := Scalar.indexCast v3891
  let c144_1001 : Index := 144#32
  ![v3965.toNat, 144]
def k1_off663 (k1_t3 : Fin k1_t3_loop.trips) : Fin 2 → Nat :=
  let c0_i32_32 : BitVec 32 := 0#32
  let c1_i32_34 : BitVec 32 := 1#32
  let arg37 : BitVec 32 := Scf.iv c0_i32_32 c1_i32_34 k1_t3
  let c16_i32_982 : BitVec 32 := 16#32
  let v3890 : BitVec 32 := Scalar.muli arg37 c16_i32_982
  let c13_i32 : BitVec 32 := 13#32
  let v3891 : BitVec 32 := Scalar.addi v3890 c13_i32
  let v3973 : Index := Scalar.indexCast v3891
  let c160_1003 : Index := 160#32
  ![v3973.toNat, 160]
def k1_off664 (k1_t3 : Fin k1_t3_loop.trips) : Fin 2 → Nat :=
  let c0_i32_32 : BitVec 32 := 0#32
  let c1_i32_34 : BitVec 32 := 1#32
  let arg37 : BitVec 32 := Scf.iv c0_i32_32 c1_i32_34 k1_t3
  let c16_i32_982 : BitVec 32 := 16#32
  let v3890 : BitVec 32 := Scalar.muli arg37 c16_i32_982
  let c13_i32 : BitVec 32 := 13#32
  let v3891 : BitVec 32 := Scalar.addi v3890 c13_i32
  let v3981 : Index := Scalar.indexCast v3891
  let c176_1005 : Index := 176#32
  ![v3981.toNat, 176]
def k1_off665 (k1_t3 : Fin k1_t3_loop.trips) : Fin 2 → Nat :=
  let c0_i32_32 : BitVec 32 := 0#32
  let c1_i32_34 : BitVec 32 := 1#32
  let arg37 : BitVec 32 := Scf.iv c0_i32_32 c1_i32_34 k1_t3
  let c16_i32_982 : BitVec 32 := 16#32
  let v3890 : BitVec 32 := Scalar.muli arg37 c16_i32_982
  let c13_i32 : BitVec 32 := 13#32
  let v3891 : BitVec 32 := Scalar.addi v3890 c13_i32
  let v3989 : Index := Scalar.indexCast v3891
  let c192_1007 : Index := 192#32
  ![v3989.toNat, 192]
def k1_off666 (k1_t3 : Fin k1_t3_loop.trips) : Fin 2 → Nat :=
  let c0_i32_32 : BitVec 32 := 0#32
  let c1_i32_34 : BitVec 32 := 1#32
  let arg37 : BitVec 32 := Scf.iv c0_i32_32 c1_i32_34 k1_t3
  let c16_i32_982 : BitVec 32 := 16#32
  let v3890 : BitVec 32 := Scalar.muli arg37 c16_i32_982
  let c13_i32 : BitVec 32 := 13#32
  let v3891 : BitVec 32 := Scalar.addi v3890 c13_i32
  let v3997 : Index := Scalar.indexCast v3891
  let c208_1009 : Index := 208#32
  ![v3997.toNat, 208]
def k1_off667 (k1_t3 : Fin k1_t3_loop.trips) : Fin 2 → Nat :=
  let c0_i32_32 : BitVec 32 := 0#32
  let c1_i32_34 : BitVec 32 := 1#32
  let arg37 : BitVec 32 := Scf.iv c0_i32_32 c1_i32_34 k1_t3
  let c16_i32_982 : BitVec 32 := 16#32
  let v3890 : BitVec 32 := Scalar.muli arg37 c16_i32_982
  let c13_i32 : BitVec 32 := 13#32
  let v3891 : BitVec 32 := Scalar.addi v3890 c13_i32
  let v4005 : Index := Scalar.indexCast v3891
  let c224_1011 : Index := 224#32
  ![v4005.toNat, 224]
def k1_off668 (k1_t3 : Fin k1_t3_loop.trips) : Fin 2 → Nat :=
  let c0_i32_32 : BitVec 32 := 0#32
  let c1_i32_34 : BitVec 32 := 1#32
  let arg37 : BitVec 32 := Scf.iv c0_i32_32 c1_i32_34 k1_t3
  let c16_i32_982 : BitVec 32 := 16#32
  let v3890 : BitVec 32 := Scalar.muli arg37 c16_i32_982
  let c13_i32 : BitVec 32 := 13#32
  let v3891 : BitVec 32 := Scalar.addi v3890 c13_i32
  let v4013 : Index := Scalar.indexCast v3891
  let c240_1013 : Index := 240#32
  ![v4013.toNat, 240]
def k1_off669 (k1_t3 : Fin k1_t3_loop.trips) : Fin 2 → Nat :=
  let c0_i32_32 : BitVec 32 := 0#32
  let c1_i32_34 : BitVec 32 := 1#32
  let arg37 : BitVec 32 := Scf.iv c0_i32_32 c1_i32_34 k1_t3
  let c16_i32_982 : BitVec 32 := 16#32
  let v3890 : BitVec 32 := Scalar.muli arg37 c16_i32_982
  let c13_i32 : BitVec 32 := 13#32
  let v3891 : BitVec 32 := Scalar.addi v3890 c13_i32
  let v4021 : Index := Scalar.indexCast v3891
  let c256_1015 : Index := 256#32
  ![v4021.toNat, 256]
def k1_off670 (k1_t3 : Fin k1_t3_loop.trips) : Fin 2 → Nat :=
  let c0_i32_32 : BitVec 32 := 0#32
  let c1_i32_34 : BitVec 32 := 1#32
  let arg37 : BitVec 32 := Scf.iv c0_i32_32 c1_i32_34 k1_t3
  let c16_i32_982 : BitVec 32 := 16#32
  let v3890 : BitVec 32 := Scalar.muli arg37 c16_i32_982
  let c13_i32 : BitVec 32 := 13#32
  let v3891 : BitVec 32 := Scalar.addi v3890 c13_i32
  let v4029 : Index := Scalar.indexCast v3891
  let c272_1017 : Index := 272#32
  ![v4029.toNat, 272]
def k1_off671 (k1_t3 : Fin k1_t3_loop.trips) : Fin 2 → Nat :=
  let c0_i32_32 : BitVec 32 := 0#32
  let c1_i32_34 : BitVec 32 := 1#32
  let arg37 : BitVec 32 := Scf.iv c0_i32_32 c1_i32_34 k1_t3
  let c16_i32_982 : BitVec 32 := 16#32
  let v3890 : BitVec 32 := Scalar.muli arg37 c16_i32_982
  let c13_i32 : BitVec 32 := 13#32
  let v3891 : BitVec 32 := Scalar.addi v3890 c13_i32
  let v4037 : Index := Scalar.indexCast v3891
  let c288_1019 : Index := 288#32
  ![v4037.toNat, 288]
def k1_off672 (k1_t3 : Fin k1_t3_loop.trips) : Fin 2 → Nat :=
  let c0_i32_32 : BitVec 32 := 0#32
  let c1_i32_34 : BitVec 32 := 1#32
  let arg37 : BitVec 32 := Scf.iv c0_i32_32 c1_i32_34 k1_t3
  let c16_i32_982 : BitVec 32 := 16#32
  let v3890 : BitVec 32 := Scalar.muli arg37 c16_i32_982
  let c13_i32 : BitVec 32 := 13#32
  let v3891 : BitVec 32 := Scalar.addi v3890 c13_i32
  let v4045 : Index := Scalar.indexCast v3891
  let c304_1021 : Index := 304#32
  ![v4045.toNat, 304]
def k1_off673 (k1_t3 : Fin k1_t3_loop.trips) : Fin 2 → Nat :=
  let c0_i32_32 : BitVec 32 := 0#32
  let c1_i32_34 : BitVec 32 := 1#32
  let arg37 : BitVec 32 := Scf.iv c0_i32_32 c1_i32_34 k1_t3
  let c16_i32_982 : BitVec 32 := 16#32
  let v3890 : BitVec 32 := Scalar.muli arg37 c16_i32_982
  let c13_i32 : BitVec 32 := 13#32
  let v3891 : BitVec 32 := Scalar.addi v3890 c13_i32
  let v4053 : Index := Scalar.indexCast v3891
  let c320_1023 : Index := 320#32
  ![v4053.toNat, 320]
def k1_off674 (k1_t3 : Fin k1_t3_loop.trips) : Fin 2 → Nat :=
  let c0_i32_32 : BitVec 32 := 0#32
  let c1_i32_34 : BitVec 32 := 1#32
  let arg37 : BitVec 32 := Scf.iv c0_i32_32 c1_i32_34 k1_t3
  let c16_i32_982 : BitVec 32 := 16#32
  let v3890 : BitVec 32 := Scalar.muli arg37 c16_i32_982
  let c13_i32 : BitVec 32 := 13#32
  let v3891 : BitVec 32 := Scalar.addi v3890 c13_i32
  let v4061 : Index := Scalar.indexCast v3891
  let c336_1025 : Index := 336#32
  ![v4061.toNat, 336]
def k1_off675 (k1_t3 : Fin k1_t3_loop.trips) : Fin 2 → Nat :=
  let c0_i32_32 : BitVec 32 := 0#32
  let c1_i32_34 : BitVec 32 := 1#32
  let arg37 : BitVec 32 := Scf.iv c0_i32_32 c1_i32_34 k1_t3
  let c16_i32_982 : BitVec 32 := 16#32
  let v3890 : BitVec 32 := Scalar.muli arg37 c16_i32_982
  let c13_i32 : BitVec 32 := 13#32
  let v3891 : BitVec 32 := Scalar.addi v3890 c13_i32
  let v4069 : Index := Scalar.indexCast v3891
  let c352_1027 : Index := 352#32
  ![v4069.toNat, 352]
def k1_off676 (k1_t3 : Fin k1_t3_loop.trips) : Fin 2 → Nat :=
  let c0_i32_32 : BitVec 32 := 0#32
  let c1_i32_34 : BitVec 32 := 1#32
  let arg37 : BitVec 32 := Scf.iv c0_i32_32 c1_i32_34 k1_t3
  let c16_i32_982 : BitVec 32 := 16#32
  let v3890 : BitVec 32 := Scalar.muli arg37 c16_i32_982
  let c13_i32 : BitVec 32 := 13#32
  let v3891 : BitVec 32 := Scalar.addi v3890 c13_i32
  let v4077 : Index := Scalar.indexCast v3891
  let c368_1029 : Index := 368#32
  ![v4077.toNat, 368]
def k1_off677 (v3889 : BitVec 32) : Fin 2 → Nat :=
  let v4085 : Index := Scalar.indexCast v3889
  let c0_1031 : Index := 0#32
  ![v4085.toNat, 0]

def k1_off678 (v3889 : BitVec 32) : Fin 2 → Nat :=
  let v4089 : Index := Scalar.indexCast v3889
  let c16_1032 : Index := 16#32
  ![v4089.toNat, 16]
def k1_off679 (v3889 : BitVec 32) : Fin 2 → Nat :=
  let v4093 : Index := Scalar.indexCast v3889
  let c32_1033 : Index := 32#32
  ![v4093.toNat, 32]
def k1_off680 (v3889 : BitVec 32) : Fin 2 → Nat :=
  let v4097 : Index := Scalar.indexCast v3889
  let c48_1034 : Index := 48#32
  ![v4097.toNat, 48]
def k1_off681 (v3889 : BitVec 32) : Fin 2 → Nat :=
  let v4101 : Index := Scalar.indexCast v3889
  let c64_1035 : Index := 64#32
  ![v4101.toNat, 64]
def k1_off682 (v3889 : BitVec 32) : Fin 2 → Nat :=
  let v4105 : Index := Scalar.indexCast v3889
  let c80_1036 : Index := 80#32
  ![v4105.toNat, 80]
def k1_off683 (v3889 : BitVec 32) : Fin 2 → Nat :=
  let v4109 : Index := Scalar.indexCast v3889
  let c96_1037 : Index := 96#32
  ![v4109.toNat, 96]
def k1_off684 (v3889 : BitVec 32) : Fin 2 → Nat :=
  let v4113 : Index := Scalar.indexCast v3889
  let c112_1038 : Index := 112#32
  ![v4113.toNat, 112]
def k1_off685 (v3889 : BitVec 32) : Fin 2 → Nat :=
  let v4117 : Index := Scalar.indexCast v3889
  let c128_1039 : Index := 128#32
  ![v4117.toNat, 128]
def k1_off686 (v3889 : BitVec 32) : Fin 2 → Nat :=
  let v4121 : Index := Scalar.indexCast v3889
  let c144_1040 : Index := 144#32
  ![v4121.toNat, 144]
def k1_off687 (v3889 : BitVec 32) : Fin 2 → Nat :=
  let v4125 : Index := Scalar.indexCast v3889
  let c160_1041 : Index := 160#32
  ![v4125.toNat, 160]
def k1_off688 (v3889 : BitVec 32) : Fin 2 → Nat :=
  let v4129 : Index := Scalar.indexCast v3889
  let c176_1042 : Index := 176#32
  ![v4129.toNat, 176]
def k1_off689 (v3889 : BitVec 32) : Fin 2 → Nat :=
  let v4133 : Index := Scalar.indexCast v3889
  let c192_1043 : Index := 192#32
  ![v4133.toNat, 192]
def k1_off690 (v3889 : BitVec 32) : Fin 2 → Nat :=
  let v4137 : Index := Scalar.indexCast v3889
  let c208_1044 : Index := 208#32
  ![v4137.toNat, 208]
def k1_off691 (v3889 : BitVec 32) : Fin 2 → Nat :=
  let v4141 : Index := Scalar.indexCast v3889
  let c224_1045 : Index := 224#32
  ![v4141.toNat, 224]
def k1_off692 (v3889 : BitVec 32) : Fin 2 → Nat :=
  let v4145 : Index := Scalar.indexCast v3889
  let c240_1046 : Index := 240#32
  ![v4145.toNat, 240]
def k1_off693 (v3889 : BitVec 32) : Fin 2 → Nat :=
  let v4149 : Index := Scalar.indexCast v3889
  let c256_1047 : Index := 256#32
  ![v4149.toNat, 256]
def k1_off694 (v3889 : BitVec 32) : Fin 2 → Nat :=
  let v4153 : Index := Scalar.indexCast v3889
  let c272_1048 : Index := 272#32
  ![v4153.toNat, 272]
def k1_off695 (v3889 : BitVec 32) : Fin 2 → Nat :=
  let v4157 : Index := Scalar.indexCast v3889
  let c288_1049 : Index := 288#32
  ![v4157.toNat, 288]
def k1_off696 (v3889 : BitVec 32) : Fin 2 → Nat :=
  let v4161 : Index := Scalar.indexCast v3889
  let c304_1050 : Index := 304#32
  ![v4161.toNat, 304]
def k1_off697 (v3889 : BitVec 32) : Fin 2 → Nat :=
  let v4165 : Index := Scalar.indexCast v3889
  let c320_1051 : Index := 320#32
  ![v4165.toNat, 320]
def k1_off698 (v3889 : BitVec 32) : Fin 2 → Nat :=
  let v4169 : Index := Scalar.indexCast v3889
  let c336_1052 : Index := 336#32
  ![v4169.toNat, 336]
def k1_off699 (v3889 : BitVec 32) : Fin 2 → Nat :=
  let v4173 : Index := Scalar.indexCast v3889
  let c352_1053 : Index := 352#32
  ![v4173.toNat, 352]
def k1_off700 (v3889 : BitVec 32) : Fin 2 → Nat :=
  let v4177 : Index := Scalar.indexCast v3889
  let c368_1054 : Index := 368#32
  ![v4177.toNat, 368]

def k1_chk14 (i : grid1.Coords) (v3889 : BitVec 32) : Prop :=
  (∀ (k1_h1 : k1_cond1 i = 1#1), ∀ a, (k1_off677 v3889) a + S1x16.size a ≤ S256x384.size a) ∧
  (∀ (k1_h1 : k1_cond1 i = 1#1), ∀ a, (k1_off678 v3889) a + S1x16.size a ≤ S256x384.size a) ∧
  (∀ (k1_h1 : k1_cond1 i = 1#1), ∀ a, (k1_off679 v3889) a + S1x16.size a ≤ S256x384.size a) ∧
  (∀ (k1_h1 : k1_cond1 i = 1#1), ∀ a, (k1_off680 v3889) a + S1x16.size a ≤ S256x384.size a) ∧
  (∀ (k1_h1 : k1_cond1 i = 1#1), ∀ a, (k1_off681 v3889) a + S1x16.size a ≤ S256x384.size a) ∧
  (∀ (k1_h1 : k1_cond1 i = 1#1), ∀ a, (k1_off682 v3889) a + S1x16.size a ≤ S256x384.size a) ∧
  (∀ (k1_h1 : k1_cond1 i = 1#1), ∀ a, (k1_off683 v3889) a + S1x16.size a ≤ S256x384.size a) ∧
  (∀ (k1_h1 : k1_cond1 i = 1#1), ∀ a, (k1_off684 v3889) a + S1x16.size a ≤ S256x384.size a) ∧
  (∀ (k1_h1 : k1_cond1 i = 1#1), ∀ a, (k1_off685 v3889) a + S1x16.size a ≤ S256x384.size a) ∧
  (∀ (k1_h1 : k1_cond1 i = 1#1), ∀ a, (k1_off686 v3889) a + S1x16.size a ≤ S256x384.size a) ∧
  (∀ (k1_h1 : k1_cond1 i = 1#1), ∀ a, (k1_off687 v3889) a + S1x16.size a ≤ S256x384.size a) ∧
  (∀ (k1_h1 : k1_cond1 i = 1#1), ∀ a, (k1_off688 v3889) a + S1x16.size a ≤ S256x384.size a) ∧
  (∀ (k1_h1 : k1_cond1 i = 1#1), ∀ a, (k1_off689 v3889) a + S1x16.size a ≤ S256x384.size a) ∧
  (∀ (k1_h1 : k1_cond1 i = 1#1), ∀ a, (k1_off690 v3889) a + S1x16.size a ≤ S256x384.size a) ∧
  (∀ (k1_h1 : k1_cond1 i = 1#1), ∀ a, (k1_off691 v3889) a + S1x16.size a ≤ S256x384.size a) ∧
  (∀ (k1_h1 : k1_cond1 i = 1#1), ∀ a, (k1_off692 v3889) a + S1x16.size a ≤ S256x384.size a) ∧
  (∀ (k1_h1 : k1_cond1 i = 1#1), ∀ a, (k1_off693 v3889) a + S1x16.size a ≤ S256x384.size a) ∧
  (∀ (k1_h1 : k1_cond1 i = 1#1), ∀ a, (k1_off694 v3889) a + S1x16.size a ≤ S256x384.size a) ∧
  (∀ (k1_h1 : k1_cond1 i = 1#1), ∀ a, (k1_off695 v3889) a + S1x16.size a ≤ S256x384.size a) ∧
  (∀ (k1_h1 : k1_cond1 i = 1#1), ∀ a, (k1_off696 v3889) a + S1x16.size a ≤ S256x384.size a) ∧
  (∀ (k1_h1 : k1_cond1 i = 1#1), ∀ a, (k1_off697 v3889) a + S1x16.size a ≤ S256x384.size a) ∧
  (∀ (k1_h1 : k1_cond1 i = 1#1), ∀ a, (k1_off698 v3889) a + S1x16.size a ≤ S256x384.size a) ∧
  (∀ (k1_h1 : k1_cond1 i = 1#1), ∀ a, (k1_off699 v3889) a + S1x16.size a ≤ S256x384.size a) ∧
  (∀ (k1_h1 : k1_cond1 i = 1#1), ∀ a, (k1_off700 v3889) a + S1x16.size a ≤ S256x384.size a)
theorem k1_off677_inb : ∀ (i : grid1.Coords) (v3889 : BitVec 32) (k1_hw14 : k1_chk14 i v3889), ∀ (k1_h1 : k1_cond1 i = 1#1), ∀ a, (k1_off677 v3889) a + S1x16.size a ≤ S256x384.size a := fun i v3889 k1_hw14 k1_h1 => k1_hw14.1 k1_h1
theorem k1_off678_inb : ∀ (i : grid1.Coords) (v3889 : BitVec 32) (k1_hw14 : k1_chk14 i v3889), ∀ (k1_h1 : k1_cond1 i = 1#1), ∀ a, (k1_off678 v3889) a + S1x16.size a ≤ S256x384.size a := fun i v3889 k1_hw14 k1_h1 => k1_hw14.2.1 k1_h1
theorem k1_off679_inb : ∀ (i : grid1.Coords) (v3889 : BitVec 32) (k1_hw14 : k1_chk14 i v3889), ∀ (k1_h1 : k1_cond1 i = 1#1), ∀ a, (k1_off679 v3889) a + S1x16.size a ≤ S256x384.size a := fun i v3889 k1_hw14 k1_h1 => k1_hw14.2.2.1 k1_h1
theorem k1_off680_inb : ∀ (i : grid1.Coords) (v3889 : BitVec 32) (k1_hw14 : k1_chk14 i v3889), ∀ (k1_h1 : k1_cond1 i = 1#1), ∀ a, (k1_off680 v3889) a + S1x16.size a ≤ S256x384.size a := fun i v3889 k1_hw14 k1_h1 => k1_hw14.2.2.2.1 k1_h1
theorem k1_off681_inb : ∀ (i : grid1.Coords) (v3889 : BitVec 32) (k1_hw14 : k1_chk14 i v3889), ∀ (k1_h1 : k1_cond1 i = 1#1), ∀ a, (k1_off681 v3889) a + S1x16.size a ≤ S256x384.size a := fun i v3889 k1_hw14 k1_h1 => k1_hw14.2.2.2.2.1 k1_h1
theorem k1_off682_inb : ∀ (i : grid1.Coords) (v3889 : BitVec 32) (k1_hw14 : k1_chk14 i v3889), ∀ (k1_h1 : k1_cond1 i = 1#1), ∀ a, (k1_off682 v3889) a + S1x16.size a ≤ S256x384.size a := fun i v3889 k1_hw14 k1_h1 => k1_hw14.2.2.2.2.2.1 k1_h1
theorem k1_off683_inb : ∀ (i : grid1.Coords) (v3889 : BitVec 32) (k1_hw14 : k1_chk14 i v3889), ∀ (k1_h1 : k1_cond1 i = 1#1), ∀ a, (k1_off683 v3889) a + S1x16.size a ≤ S256x384.size a := fun i v3889 k1_hw14 k1_h1 => k1_hw14.2.2.2.2.2.2.1 k1_h1
theorem k1_off684_inb : ∀ (i : grid1.Coords) (v3889 : BitVec 32) (k1_hw14 : k1_chk14 i v3889), ∀ (k1_h1 : k1_cond1 i = 1#1), ∀ a, (k1_off684 v3889) a + S1x16.size a ≤ S256x384.size a := fun i v3889 k1_hw14 k1_h1 => k1_hw14.2.2.2.2.2.2.2.1 k1_h1
theorem k1_off685_inb : ∀ (i : grid1.Coords) (v3889 : BitVec 32) (k1_hw14 : k1_chk14 i v3889), ∀ (k1_h1 : k1_cond1 i = 1#1), ∀ a, (k1_off685 v3889) a + S1x16.size a ≤ S256x384.size a := fun i v3889 k1_hw14 k1_h1 => k1_hw14.2.2.2.2.2.2.2.2.1 k1_h1
theorem k1_off686_inb : ∀ (i : grid1.Coords) (v3889 : BitVec 32) (k1_hw14 : k1_chk14 i v3889), ∀ (k1_h1 : k1_cond1 i = 1#1), ∀ a, (k1_off686 v3889) a + S1x16.size a ≤ S256x384.size a := fun i v3889 k1_hw14 k1_h1 => k1_hw14.2.2.2.2.2.2.2.2.2.1 k1_h1
theorem k1_off687_inb : ∀ (i : grid1.Coords) (v3889 : BitVec 32) (k1_hw14 : k1_chk14 i v3889), ∀ (k1_h1 : k1_cond1 i = 1#1), ∀ a, (k1_off687 v3889) a + S1x16.size a ≤ S256x384.size a := fun i v3889 k1_hw14 k1_h1 => k1_hw14.2.2.2.2.2.2.2.2.2.2.1 k1_h1
theorem k1_off688_inb : ∀ (i : grid1.Coords) (v3889 : BitVec 32) (k1_hw14 : k1_chk14 i v3889), ∀ (k1_h1 : k1_cond1 i = 1#1), ∀ a, (k1_off688 v3889) a + S1x16.size a ≤ S256x384.size a := fun i v3889 k1_hw14 k1_h1 => k1_hw14.2.2.2.2.2.2.2.2.2.2.2.1 k1_h1
theorem k1_off689_inb : ∀ (i : grid1.Coords) (v3889 : BitVec 32) (k1_hw14 : k1_chk14 i v3889), ∀ (k1_h1 : k1_cond1 i = 1#1), ∀ a, (k1_off689 v3889) a + S1x16.size a ≤ S256x384.size a := fun i v3889 k1_hw14 k1_h1 => k1_hw14.2.2.2.2.2.2.2.2.2.2.2.2.1 k1_h1
theorem k1_off690_inb : ∀ (i : grid1.Coords) (v3889 : BitVec 32) (k1_hw14 : k1_chk14 i v3889), ∀ (k1_h1 : k1_cond1 i = 1#1), ∀ a, (k1_off690 v3889) a + S1x16.size a ≤ S256x384.size a := fun i v3889 k1_hw14 k1_h1 => k1_hw14.2.2.2.2.2.2.2.2.2.2.2.2.2.1 k1_h1
theorem k1_off691_inb : ∀ (i : grid1.Coords) (v3889 : BitVec 32) (k1_hw14 : k1_chk14 i v3889), ∀ (k1_h1 : k1_cond1 i = 1#1), ∀ a, (k1_off691 v3889) a + S1x16.size a ≤ S256x384.size a := fun i v3889 k1_hw14 k1_h1 => k1_hw14.2.2.2.2.2.2.2.2.2.2.2.2.2.2.1 k1_h1
theorem k1_off692_inb : ∀ (i : grid1.Coords) (v3889 : BitVec 32) (k1_hw14 : k1_chk14 i v3889), ∀ (k1_h1 : k1_cond1 i = 1#1), ∀ a, (k1_off692 v3889) a + S1x16.size a ≤ S256x384.size a := fun i v3889 k1_hw14 k1_h1 => k1_hw14.2.2.2.2.2.2.2.2.2.2.2.2.2.2.2.1 k1_h1
theorem k1_off693_inb : ∀ (i : grid1.Coords) (v3889 : BitVec 32) (k1_hw14 : k1_chk14 i v3889), ∀ (k1_h1 : k1_cond1 i = 1#1), ∀ a, (k1_off693 v3889) a + S1x16.size a ≤ S256x384.size a := fun i v3889 k1_hw14 k1_h1 => k1_hw14.2.2.2.2.2.2.2.2.2.2.2.2.2.2.2.2.1 k1_h1
theorem k1_off694_inb : ∀ (i : grid1.Coords) (v3889 : BitVec 32) (k1_hw14 : k1_chk14 i v3889), ∀ (k1_h1 : k1_cond1 i = 1#1), ∀ a, (k1_off694 v3889) a + S1x16.size a ≤ S256x384.size a := fun i v3889 k1_hw14 k1_h1 => k1_hw14.2.2.2.2.2.2.2.2.2.2.2.2.2.2.2.2.2.1 k1_h1
theorem k1_off695_inb : ∀ (i : grid1.Coords) (v3889 : BitVec 32) (k1_hw14 : k1_chk14 i v3889), ∀ (k1_h1 : k1_cond1 i = 1#1), ∀ a, (k1_off695 v3889) a + S1x16.size a ≤ S256x384.size a := fun i v3889 k1_hw14 k1_h1 => k1_hw14.2.2.2.2.2.2.2.2.2.2.2.2.2.2.2.2.2.2.1 k1_h1
theorem k1_off696_inb : ∀ (i : grid1.Coords) (v3889 : BitVec 32) (k1_hw14 : k1_chk14 i v3889), ∀ (k1_h1 : k1_cond1 i = 1#1), ∀ a, (k1_off696 v3889) a + S1x16.size a ≤ S256x384.size a := fun i v3889 k1_hw14 k1_h1 => k1_hw14.2.2.2.2.2.2.2.2.2.2.2.2.2.2.2.2.2.2.2.1 k1_h1
theorem k1_off697_inb : ∀ (i : grid1.Coords) (v3889 : BitVec 32) (k1_hw14 : k1_chk14 i v3889), ∀ (k1_h1 : k1_cond1 i = 1#1), ∀ a, (k1_off697 v3889) a + S1x16.size a ≤ S256x384.size a := fun i v3889 k1_hw14 k1_h1 => k1_hw14.2.2.2.2.2.2.2.2.2.2.2.2.2.2.2.2.2.2.2.2.1 k1_h1
theorem k1_off698_inb : ∀ (i : grid1.Coords) (v3889 : BitVec 32) (k1_hw14 : k1_chk14 i v3889), ∀ (k1_h1 : k1_cond1 i = 1#1), ∀ a, (k1_off698 v3889) a + S1x16.size a ≤ S256x384.size a := fun i v3889 k1_hw14 k1_h1 => k1_hw14.2.2.2.2.2.2.2.2.2.2.2.2.2.2.2.2.2.2.2.2.2.1 k1_h1
theorem k1_off699_inb : ∀ (i : grid1.Coords) (v3889 : BitVec 32) (k1_hw14 : k1_chk14 i v3889), ∀ (k1_h1 : k1_cond1 i = 1#1), ∀ a, (k1_off699 v3889) a + S1x16.size a ≤ S256x384.size a := fun i v3889 k1_hw14 k1_h1 => k1_hw14.2.2.2.2.2.2.2.2.2.2.2.2.2.2.2.2.2.2.2.2.2.2.1 k1_h1
theorem k1_off700_inb : ∀ (i : grid1.Coords) (v3889 : BitVec 32) (k1_hw14 : k1_chk14 i v3889), ∀ (k1_h1 : k1_cond1 i = 1#1), ∀ a, (k1_off700 v3889) a + S1x16.size a ≤ S256x384.size a := fun i v3889 k1_hw14 k1_h1 => k1_hw14.2.2.2.2.2.2.2.2.2.2.2.2.2.2.2.2.2.2.2.2.2.2.2 k1_h1

def k1_off701 (k1_t3 : Fin k1_t3_loop.trips) : Fin 2 → Nat :=
  let c0_i32_32 : BitVec 32 := 0#32
  let c1_i32_34 : BitVec 32 := 1#32
  let arg37 : BitVec 32 := Scf.iv c0_i32_32 c1_i32_34 k1_t3
  let c16_i32_1055 : BitVec 32 := 16#32
  let v4183 : BitVec 32 := Scalar.muli arg37 c16_i32_1055
  let c14_i32 : BitVec 32 := 14#32
  let v4184 : BitVec 32 := Scalar.addi v4183 c14_i32
  let v4186 : Index := Scalar.indexCast v4184
  let c0_1056 : Index := 0#32
  ![v4186.toNat, 0]
def k1_off702 (k1_t3 : Fin k1_t3_loop.trips) : Fin 2 → Nat :=
  let c0_i32_32 : BitVec 32 := 0#32
  let c1_i32_34 : BitVec 32 := 1#32
  let arg37 : BitVec 32 := Scf.iv c0_i32_32 c1_i32_34 k1_t3
  let c16_i32_1055 : BitVec 32 := 16#32
  let v4183 : BitVec 32 := Scalar.muli arg37 c16_i32_1055
  let c14_i32 : BitVec 32 := 14#32
  let v4184 : BitVec 32 := Scalar.addi v4183 c14_i32
  let v4194 : Index := Scalar.indexCast v4184
  let c16_1058 : Index := 16#32
  ![v4194.toNat, 16]
def k1_off703 (k1_t3 : Fin k1_t3_loop.trips) : Fin 2 → Nat :=
  let c0_i32_32 : BitVec 32 := 0#32
  let c1_i32_34 : BitVec 32 := 1#32
  let arg37 : BitVec 32 := Scf.iv c0_i32_32 c1_i32_34 k1_t3
  let c16_i32_1055 : BitVec 32 := 16#32
  let v4183 : BitVec 32 := Scalar.muli arg37 c16_i32_1055
  let c14_i32 : BitVec 32 := 14#32
  let v4184 : BitVec 32 := Scalar.addi v4183 c14_i32
  let v4202 : Index := Scalar.indexCast v4184
  let c32_1060 : Index := 32#32
  ![v4202.toNat, 32]
def k1_off704 (k1_t3 : Fin k1_t3_loop.trips) : Fin 2 → Nat :=
  let c0_i32_32 : BitVec 32 := 0#32
  let c1_i32_34 : BitVec 32 := 1#32
  let arg37 : BitVec 32 := Scf.iv c0_i32_32 c1_i32_34 k1_t3
  let c16_i32_1055 : BitVec 32 := 16#32
  let v4183 : BitVec 32 := Scalar.muli arg37 c16_i32_1055
  let c14_i32 : BitVec 32 := 14#32
  let v4184 : BitVec 32 := Scalar.addi v4183 c14_i32
  let v4210 : Index := Scalar.indexCast v4184
  let c48_1062 : Index := 48#32
  ![v4210.toNat, 48]
def k1_off705 (k1_t3 : Fin k1_t3_loop.trips) : Fin 2 → Nat :=
  let c0_i32_32 : BitVec 32 := 0#32
  let c1_i32_34 : BitVec 32 := 1#32
  let arg37 : BitVec 32 := Scf.iv c0_i32_32 c1_i32_34 k1_t3
  let c16_i32_1055 : BitVec 32 := 16#32
  let v4183 : BitVec 32 := Scalar.muli arg37 c16_i32_1055
  let c14_i32 : BitVec 32 := 14#32
  let v4184 : BitVec 32 := Scalar.addi v4183 c14_i32
  let v4218 : Index := Scalar.indexCast v4184
  let c64_1064 : Index := 64#32
  ![v4218.toNat, 64]
def k1_off706 (k1_t3 : Fin k1_t3_loop.trips) : Fin 2 → Nat :=
  let c0_i32_32 : BitVec 32 := 0#32
  let c1_i32_34 : BitVec 32 := 1#32
  let arg37 : BitVec 32 := Scf.iv c0_i32_32 c1_i32_34 k1_t3
  let c16_i32_1055 : BitVec 32 := 16#32
  let v4183 : BitVec 32 := Scalar.muli arg37 c16_i32_1055
  let c14_i32 : BitVec 32 := 14#32
  let v4184 : BitVec 32 := Scalar.addi v4183 c14_i32
  let v4226 : Index := Scalar.indexCast v4184
  let c80_1066 : Index := 80#32
  ![v4226.toNat, 80]
def k1_off707 (k1_t3 : Fin k1_t3_loop.trips) : Fin 2 → Nat :=
  let c0_i32_32 : BitVec 32 := 0#32
  let c1_i32_34 : BitVec 32 := 1#32
  let arg37 : BitVec 32 := Scf.iv c0_i32_32 c1_i32_34 k1_t3
  let c16_i32_1055 : BitVec 32 := 16#32
  let v4183 : BitVec 32 := Scalar.muli arg37 c16_i32_1055
  let c14_i32 : BitVec 32 := 14#32
  let v4184 : BitVec 32 := Scalar.addi v4183 c14_i32
  let v4234 : Index := Scalar.indexCast v4184
  let c96_1068 : Index := 96#32
  ![v4234.toNat, 96]
def k1_off708 (k1_t3 : Fin k1_t3_loop.trips) : Fin 2 → Nat :=
  let c0_i32_32 : BitVec 32 := 0#32
  let c1_i32_34 : BitVec 32 := 1#32
  let arg37 : BitVec 32 := Scf.iv c0_i32_32 c1_i32_34 k1_t3
  let c16_i32_1055 : BitVec 32 := 16#32
  let v4183 : BitVec 32 := Scalar.muli arg37 c16_i32_1055
  let c14_i32 : BitVec 32 := 14#32
  let v4184 : BitVec 32 := Scalar.addi v4183 c14_i32
  let v4242 : Index := Scalar.indexCast v4184
  let c112_1070 : Index := 112#32
  ![v4242.toNat, 112]
def k1_off709 (k1_t3 : Fin k1_t3_loop.trips) : Fin 2 → Nat :=
  let c0_i32_32 : BitVec 32 := 0#32
  let c1_i32_34 : BitVec 32 := 1#32
  let arg37 : BitVec 32 := Scf.iv c0_i32_32 c1_i32_34 k1_t3
  let c16_i32_1055 : BitVec 32 := 16#32
  let v4183 : BitVec 32 := Scalar.muli arg37 c16_i32_1055
  let c14_i32 : BitVec 32 := 14#32
  let v4184 : BitVec 32 := Scalar.addi v4183 c14_i32
  let v4250 : Index := Scalar.indexCast v4184
  let c128_1072 : Index := 128#32
  ![v4250.toNat, 128]
def k1_off710 (k1_t3 : Fin k1_t3_loop.trips) : Fin 2 → Nat :=
  let c0_i32_32 : BitVec 32 := 0#32
  let c1_i32_34 : BitVec 32 := 1#32
  let arg37 : BitVec 32 := Scf.iv c0_i32_32 c1_i32_34 k1_t3
  let c16_i32_1055 : BitVec 32 := 16#32
  let v4183 : BitVec 32 := Scalar.muli arg37 c16_i32_1055
  let c14_i32 : BitVec 32 := 14#32
  let v4184 : BitVec 32 := Scalar.addi v4183 c14_i32
  let v4258 : Index := Scalar.indexCast v4184
  let c144_1074 : Index := 144#32
  ![v4258.toNat, 144]
def k1_off711 (k1_t3 : Fin k1_t3_loop.trips) : Fin 2 → Nat :=
  let c0_i32_32 : BitVec 32 := 0#32
  let c1_i32_34 : BitVec 32 := 1#32
  let arg37 : BitVec 32 := Scf.iv c0_i32_32 c1_i32_34 k1_t3
  let c16_i32_1055 : BitVec 32 := 16#32
  let v4183 : BitVec 32 := Scalar.muli arg37 c16_i32_1055
  let c14_i32 : BitVec 32 := 14#32
  let v4184 : BitVec 32 := Scalar.addi v4183 c14_i32
  let v4266 : Index := Scalar.indexCast v4184
  let c160_1076 : Index := 160#32
  ![v4266.toNat, 160]
def k1_off712 (k1_t3 : Fin k1_t3_loop.trips) : Fin 2 → Nat :=
  let c0_i32_32 : BitVec 32 := 0#32
  let c1_i32_34 : BitVec 32 := 1#32
  let arg37 : BitVec 32 := Scf.iv c0_i32_32 c1_i32_34 k1_t3
  let c16_i32_1055 : BitVec 32 := 16#32
  let v4183 : BitVec 32 := Scalar.muli arg37 c16_i32_1055
  let c14_i32 : BitVec 32 := 14#32
  let v4184 : BitVec 32 := Scalar.addi v4183 c14_i32
  let v4274 : Index := Scalar.indexCast v4184
  let c176_1078 : Index := 176#32
  ![v4274.toNat, 176]
def k1_off713 (k1_t3 : Fin k1_t3_loop.trips) : Fin 2 → Nat :=
  let c0_i32_32 : BitVec 32 := 0#32
  let c1_i32_34 : BitVec 32 := 1#32
  let arg37 : BitVec 32 := Scf.iv c0_i32_32 c1_i32_34 k1_t3
  let c16_i32_1055 : BitVec 32 := 16#32
  let v4183 : BitVec 32 := Scalar.muli arg37 c16_i32_1055
  let c14_i32 : BitVec 32 := 14#32
  let v4184 : BitVec 32 := Scalar.addi v4183 c14_i32
  let v4282 : Index := Scalar.indexCast v4184
  let c192_1080 : Index := 192#32
  ![v4282.toNat, 192]
def k1_off714 (k1_t3 : Fin k1_t3_loop.trips) : Fin 2 → Nat :=
  let c0_i32_32 : BitVec 32 := 0#32
  let c1_i32_34 : BitVec 32 := 1#32
  let arg37 : BitVec 32 := Scf.iv c0_i32_32 c1_i32_34 k1_t3
  let c16_i32_1055 : BitVec 32 := 16#32
  let v4183 : BitVec 32 := Scalar.muli arg37 c16_i32_1055
  let c14_i32 : BitVec 32 := 14#32
  let v4184 : BitVec 32 := Scalar.addi v4183 c14_i32
  let v4290 : Index := Scalar.indexCast v4184
  let c208_1082 : Index := 208#32
  ![v4290.toNat, 208]
def k1_off715 (k1_t3 : Fin k1_t3_loop.trips) : Fin 2 → Nat :=
  let c0_i32_32 : BitVec 32 := 0#32
  let c1_i32_34 : BitVec 32 := 1#32
  let arg37 : BitVec 32 := Scf.iv c0_i32_32 c1_i32_34 k1_t3
  let c16_i32_1055 : BitVec 32 := 16#32
  let v4183 : BitVec 32 := Scalar.muli arg37 c16_i32_1055
  let c14_i32 : BitVec 32 := 14#32
  let v4184 : BitVec 32 := Scalar.addi v4183 c14_i32
  let v4298 : Index := Scalar.indexCast v4184
  let c224_1084 : Index := 224#32
  ![v4298.toNat, 224]
def k1_off716 (k1_t3 : Fin k1_t3_loop.trips) : Fin 2 → Nat :=
  let c0_i32_32 : BitVec 32 := 0#32
  let c1_i32_34 : BitVec 32 := 1#32
  let arg37 : BitVec 32 := Scf.iv c0_i32_32 c1_i32_34 k1_t3
  let c16_i32_1055 : BitVec 32 := 16#32
  let v4183 : BitVec 32 := Scalar.muli arg37 c16_i32_1055
  let c14_i32 : BitVec 32 := 14#32
  let v4184 : BitVec 32 := Scalar.addi v4183 c14_i32
  let v4306 : Index := Scalar.indexCast v4184
  let c240_1086 : Index := 240#32
  ![v4306.toNat, 240]
def k1_off717 (k1_t3 : Fin k1_t3_loop.trips) : Fin 2 → Nat :=
  let c0_i32_32 : BitVec 32 := 0#32
  let c1_i32_34 : BitVec 32 := 1#32
  let arg37 : BitVec 32 := Scf.iv c0_i32_32 c1_i32_34 k1_t3
  let c16_i32_1055 : BitVec 32 := 16#32
  let v4183 : BitVec 32 := Scalar.muli arg37 c16_i32_1055
  let c14_i32 : BitVec 32 := 14#32
  let v4184 : BitVec 32 := Scalar.addi v4183 c14_i32
  let v4314 : Index := Scalar.indexCast v4184
  let c256_1088 : Index := 256#32
  ![v4314.toNat, 256]
def k1_off718 (k1_t3 : Fin k1_t3_loop.trips) : Fin 2 → Nat :=
  let c0_i32_32 : BitVec 32 := 0#32
  let c1_i32_34 : BitVec 32 := 1#32
  let arg37 : BitVec 32 := Scf.iv c0_i32_32 c1_i32_34 k1_t3
  let c16_i32_1055 : BitVec 32 := 16#32
  let v4183 : BitVec 32 := Scalar.muli arg37 c16_i32_1055
  let c14_i32 : BitVec 32 := 14#32
  let v4184 : BitVec 32 := Scalar.addi v4183 c14_i32
  let v4322 : Index := Scalar.indexCast v4184
  let c272_1090 : Index := 272#32
  ![v4322.toNat, 272]
def k1_off719 (k1_t3 : Fin k1_t3_loop.trips) : Fin 2 → Nat :=
  let c0_i32_32 : BitVec 32 := 0#32
  let c1_i32_34 : BitVec 32 := 1#32
  let arg37 : BitVec 32 := Scf.iv c0_i32_32 c1_i32_34 k1_t3
  let c16_i32_1055 : BitVec 32 := 16#32
  let v4183 : BitVec 32 := Scalar.muli arg37 c16_i32_1055
  let c14_i32 : BitVec 32 := 14#32
  let v4184 : BitVec 32 := Scalar.addi v4183 c14_i32
  let v4330 : Index := Scalar.indexCast v4184
  let c288_1092 : Index := 288#32
  ![v4330.toNat, 288]
def k1_off720 (k1_t3 : Fin k1_t3_loop.trips) : Fin 2 → Nat :=
  let c0_i32_32 : BitVec 32 := 0#32
  let c1_i32_34 : BitVec 32 := 1#32
  let arg37 : BitVec 32 := Scf.iv c0_i32_32 c1_i32_34 k1_t3
  let c16_i32_1055 : BitVec 32 := 16#32
  let v4183 : BitVec 32 := Scalar.muli arg37 c16_i32_1055
  let c14_i32 : BitVec 32 := 14#32
  let v4184 : BitVec 32 := Scalar.addi v4183 c14_i32
  let v4338 : Index := Scalar.indexCast v4184
  let c304_1094 : Index := 304#32
  ![v4338.toNat, 304]
def k1_off721 (k1_t3 : Fin k1_t3_loop.trips) : Fin 2 → Nat :=
  let c0_i32_32 : BitVec 32 := 0#32
  let c1_i32_34 : BitVec 32 := 1#32
  let arg37 : BitVec 32 := Scf.iv c0_i32_32 c1_i32_34 k1_t3
  let c16_i32_1055 : BitVec 32 := 16#32
  let v4183 : BitVec 32 := Scalar.muli arg37 c16_i32_1055
  let c14_i32 : BitVec 32 := 14#32
  let v4184 : BitVec 32 := Scalar.addi v4183 c14_i32
  let v4346 : Index := Scalar.indexCast v4184
  let c320_1096 : Index := 320#32
  ![v4346.toNat, 320]
def k1_off722 (k1_t3 : Fin k1_t3_loop.trips) : Fin 2 → Nat :=
  let c0_i32_32 : BitVec 32 := 0#32
  let c1_i32_34 : BitVec 32 := 1#32
  let arg37 : BitVec 32 := Scf.iv c0_i32_32 c1_i32_34 k1_t3
  let c16_i32_1055 : BitVec 32 := 16#32
  let v4183 : BitVec 32 := Scalar.muli arg37 c16_i32_1055
  let c14_i32 : BitVec 32 := 14#32
  let v4184 : BitVec 32 := Scalar.addi v4183 c14_i32
  let v4354 : Index := Scalar.indexCast v4184
  let c336_1098 : Index := 336#32
  ![v4354.toNat, 336]
def k1_off723 (k1_t3 : Fin k1_t3_loop.trips) : Fin 2 → Nat :=
  let c0_i32_32 : BitVec 32 := 0#32
  let c1_i32_34 : BitVec 32 := 1#32
  let arg37 : BitVec 32 := Scf.iv c0_i32_32 c1_i32_34 k1_t3
  let c16_i32_1055 : BitVec 32 := 16#32
  let v4183 : BitVec 32 := Scalar.muli arg37 c16_i32_1055
  let c14_i32 : BitVec 32 := 14#32
  let v4184 : BitVec 32 := Scalar.addi v4183 c14_i32
  let v4362 : Index := Scalar.indexCast v4184
  let c352_1100 : Index := 352#32
  ![v4362.toNat, 352]
def k1_off724 (k1_t3 : Fin k1_t3_loop.trips) : Fin 2 → Nat :=
  let c0_i32_32 : BitVec 32 := 0#32
  let c1_i32_34 : BitVec 32 := 1#32
  let arg37 : BitVec 32 := Scf.iv c0_i32_32 c1_i32_34 k1_t3
  let c16_i32_1055 : BitVec 32 := 16#32
  let v4183 : BitVec 32 := Scalar.muli arg37 c16_i32_1055
  let c14_i32 : BitVec 32 := 14#32
  let v4184 : BitVec 32 := Scalar.addi v4183 c14_i32
  let v4370 : Index := Scalar.indexCast v4184
  let c368_1102 : Index := 368#32
  ![v4370.toNat, 368]
def k1_off725 (v4182 : BitVec 32) : Fin 2 → Nat :=
  let v4378 : Index := Scalar.indexCast v4182
  let c0_1104 : Index := 0#32
  ![v4378.toNat, 0]

def k1_off726 (v4182 : BitVec 32) : Fin 2 → Nat :=
  let v4382 : Index := Scalar.indexCast v4182
  let c16_1105 : Index := 16#32
  ![v4382.toNat, 16]
def k1_off727 (v4182 : BitVec 32) : Fin 2 → Nat :=
  let v4386 : Index := Scalar.indexCast v4182
  let c32_1106 : Index := 32#32
  ![v4386.toNat, 32]
def k1_off728 (v4182 : BitVec 32) : Fin 2 → Nat :=
  let v4390 : Index := Scalar.indexCast v4182
  let c48_1107 : Index := 48#32
  ![v4390.toNat, 48]
def k1_off729 (v4182 : BitVec 32) : Fin 2 → Nat :=
  let v4394 : Index := Scalar.indexCast v4182
  let c64_1108 : Index := 64#32
  ![v4394.toNat, 64]
def k1_off730 (v4182 : BitVec 32) : Fin 2 → Nat :=
  let v4398 : Index := Scalar.indexCast v4182
  let c80_1109 : Index := 80#32
  ![v4398.toNat, 80]
def k1_off731 (v4182 : BitVec 32) : Fin 2 → Nat :=
  let v4402 : Index := Scalar.indexCast v4182
  let c96_1110 : Index := 96#32
  ![v4402.toNat, 96]
def k1_off732 (v4182 : BitVec 32) : Fin 2 → Nat :=
  let v4406 : Index := Scalar.indexCast v4182
  let c112_1111 : Index := 112#32
  ![v4406.toNat, 112]
def k1_off733 (v4182 : BitVec 32) : Fin 2 → Nat :=
  let v4410 : Index := Scalar.indexCast v4182
  let c128_1112 : Index := 128#32
  ![v4410.toNat, 128]
def k1_off734 (v4182 : BitVec 32) : Fin 2 → Nat :=
  let v4414 : Index := Scalar.indexCast v4182
  let c144_1113 : Index := 144#32
  ![v4414.toNat, 144]
def k1_off735 (v4182 : BitVec 32) : Fin 2 → Nat :=
  let v4418 : Index := Scalar.indexCast v4182
  let c160_1114 : Index := 160#32
  ![v4418.toNat, 160]
def k1_off736 (v4182 : BitVec 32) : Fin 2 → Nat :=
  let v4422 : Index := Scalar.indexCast v4182
  let c176_1115 : Index := 176#32
  ![v4422.toNat, 176]
def k1_off737 (v4182 : BitVec 32) : Fin 2 → Nat :=
  let v4426 : Index := Scalar.indexCast v4182
  let c192_1116 : Index := 192#32
  ![v4426.toNat, 192]
def k1_off738 (v4182 : BitVec 32) : Fin 2 → Nat :=
  let v4430 : Index := Scalar.indexCast v4182
  let c208_1117 : Index := 208#32
  ![v4430.toNat, 208]
def k1_off739 (v4182 : BitVec 32) : Fin 2 → Nat :=
  let v4434 : Index := Scalar.indexCast v4182
  let c224_1118 : Index := 224#32
  ![v4434.toNat, 224]
def k1_off740 (v4182 : BitVec 32) : Fin 2 → Nat :=
  let v4438 : Index := Scalar.indexCast v4182
  let c240_1119 : Index := 240#32
  ![v4438.toNat, 240]
def k1_off741 (v4182 : BitVec 32) : Fin 2 → Nat :=
  let v4442 : Index := Scalar.indexCast v4182
  let c256_1120 : Index := 256#32
  ![v4442.toNat, 256]
def k1_off742 (v4182 : BitVec 32) : Fin 2 → Nat :=
  let v4446 : Index := Scalar.indexCast v4182
  let c272_1121 : Index := 272#32
  ![v4446.toNat, 272]
def k1_off743 (v4182 : BitVec 32) : Fin 2 → Nat :=
  let v4450 : Index := Scalar.indexCast v4182
  let c288_1122 : Index := 288#32
  ![v4450.toNat, 288]
def k1_off744 (v4182 : BitVec 32) : Fin 2 → Nat :=
  let v4454 : Index := Scalar.indexCast v4182
  let c304_1123 : Index := 304#32
  ![v4454.toNat, 304]
def k1_off745 (v4182 : BitVec 32) : Fin 2 → Nat :=
  let v4458 : Index := Scalar.indexCast v4182
  let c320_1124 : Index := 320#32
  ![v4458.toNat, 320]
def k1_off746 (v4182 : BitVec 32) : Fin 2 → Nat :=
  let v4462 : Index := Scalar.indexCast v4182
  let c336_1125 : Index := 336#32
  ![v4462.toNat, 336]
def k1_off747 (v4182 : BitVec 32) : Fin 2 → Nat :=
  let v4466 : Index := Scalar.indexCast v4182
  let c352_1126 : Index := 352#32
  ![v4466.toNat, 352]
def k1_off748 (v4182 : BitVec 32) : Fin 2 → Nat :=
  let v4470 : Index := Scalar.indexCast v4182
  let c368_1127 : Index := 368#32
  ![v4470.toNat, 368]

def k1_chk15 (i : grid1.Coords) (v4182 : BitVec 32) : Prop :=
  (∀ (k1_h1 : k1_cond1 i = 1#1), ∀ a, (k1_off725 v4182) a + S1x16.size a ≤ S256x384.size a) ∧
  (∀ (k1_h1 : k1_cond1 i = 1#1), ∀ a, (k1_off726 v4182) a + S1x16.size a ≤ S256x384.size a) ∧
  (∀ (k1_h1 : k1_cond1 i = 1#1), ∀ a, (k1_off727 v4182) a + S1x16.size a ≤ S256x384.size a) ∧
  (∀ (k1_h1 : k1_cond1 i = 1#1), ∀ a, (k1_off728 v4182) a + S1x16.size a ≤ S256x384.size a) ∧
  (∀ (k1_h1 : k1_cond1 i = 1#1), ∀ a, (k1_off729 v4182) a + S1x16.size a ≤ S256x384.size a) ∧
  (∀ (k1_h1 : k1_cond1 i = 1#1), ∀ a, (k1_off730 v4182) a + S1x16.size a ≤ S256x384.size a) ∧
  (∀ (k1_h1 : k1_cond1 i = 1#1), ∀ a, (k1_off731 v4182) a + S1x16.size a ≤ S256x384.size a) ∧
  (∀ (k1_h1 : k1_cond1 i = 1#1), ∀ a, (k1_off732 v4182) a + S1x16.size a ≤ S256x384.size a) ∧
  (∀ (k1_h1 : k1_cond1 i = 1#1), ∀ a, (k1_off733 v4182) a + S1x16.size a ≤ S256x384.size a) ∧
  (∀ (k1_h1 : k1_cond1 i = 1#1), ∀ a, (k1_off734 v4182) a + S1x16.size a ≤ S256x384.size a) ∧
  (∀ (k1_h1 : k1_cond1 i = 1#1), ∀ a, (k1_off735 v4182) a + S1x16.size a ≤ S256x384.size a) ∧
  (∀ (k1_h1 : k1_cond1 i = 1#1), ∀ a, (k1_off736 v4182) a + S1x16.size a ≤ S256x384.size a) ∧
  (∀ (k1_h1 : k1_cond1 i = 1#1), ∀ a, (k1_off737 v4182) a + S1x16.size a ≤ S256x384.size a) ∧
  (∀ (k1_h1 : k1_cond1 i = 1#1), ∀ a, (k1_off738 v4182) a + S1x16.size a ≤ S256x384.size a) ∧
  (∀ (k1_h1 : k1_cond1 i = 1#1), ∀ a, (k1_off739 v4182) a + S1x16.size a ≤ S256x384.size a) ∧
  (∀ (k1_h1 : k1_cond1 i = 1#1), ∀ a, (k1_off740 v4182) a + S1x16.size a ≤ S256x384.size a) ∧
  (∀ (k1_h1 : k1_cond1 i = 1#1), ∀ a, (k1_off741 v4182) a + S1x16.size a ≤ S256x384.size a) ∧
  (∀ (k1_h1 : k1_cond1 i = 1#1), ∀ a, (k1_off742 v4182) a + S1x16.size a ≤ S256x384.size a) ∧
  (∀ (k1_h1 : k1_cond1 i = 1#1), ∀ a, (k1_off743 v4182) a + S1x16.size a ≤ S256x384.size a) ∧
  (∀ (k1_h1 : k1_cond1 i = 1#1), ∀ a, (k1_off744 v4182) a + S1x16.size a ≤ S256x384.size a) ∧
  (∀ (k1_h1 : k1_cond1 i = 1#1), ∀ a, (k1_off745 v4182) a + S1x16.size a ≤ S256x384.size a) ∧
  (∀ (k1_h1 : k1_cond1 i = 1#1), ∀ a, (k1_off746 v4182) a + S1x16.size a ≤ S256x384.size a) ∧
  (∀ (k1_h1 : k1_cond1 i = 1#1), ∀ a, (k1_off747 v4182) a + S1x16.size a ≤ S256x384.size a) ∧
  (∀ (k1_h1 : k1_cond1 i = 1#1), ∀ a, (k1_off748 v4182) a + S1x16.size a ≤ S256x384.size a)
theorem k1_off725_inb : ∀ (i : grid1.Coords) (v4182 : BitVec 32) (k1_hw15 : k1_chk15 i v4182), ∀ (k1_h1 : k1_cond1 i = 1#1), ∀ a, (k1_off725 v4182) a + S1x16.size a ≤ S256x384.size a := fun i v4182 k1_hw15 k1_h1 => k1_hw15.1 k1_h1
theorem k1_off726_inb : ∀ (i : grid1.Coords) (v4182 : BitVec 32) (k1_hw15 : k1_chk15 i v4182), ∀ (k1_h1 : k1_cond1 i = 1#1), ∀ a, (k1_off726 v4182) a + S1x16.size a ≤ S256x384.size a := fun i v4182 k1_hw15 k1_h1 => k1_hw15.2.1 k1_h1
theorem k1_off727_inb : ∀ (i : grid1.Coords) (v4182 : BitVec 32) (k1_hw15 : k1_chk15 i v4182), ∀ (k1_h1 : k1_cond1 i = 1#1), ∀ a, (k1_off727 v4182) a + S1x16.size a ≤ S256x384.size a := fun i v4182 k1_hw15 k1_h1 => k1_hw15.2.2.1 k1_h1
theorem k1_off728_inb : ∀ (i : grid1.Coords) (v4182 : BitVec 32) (k1_hw15 : k1_chk15 i v4182), ∀ (k1_h1 : k1_cond1 i = 1#1), ∀ a, (k1_off728 v4182) a + S1x16.size a ≤ S256x384.size a := fun i v4182 k1_hw15 k1_h1 => k1_hw15.2.2.2.1 k1_h1
theorem k1_off729_inb : ∀ (i : grid1.Coords) (v4182 : BitVec 32) (k1_hw15 : k1_chk15 i v4182), ∀ (k1_h1 : k1_cond1 i = 1#1), ∀ a, (k1_off729 v4182) a + S1x16.size a ≤ S256x384.size a := fun i v4182 k1_hw15 k1_h1 => k1_hw15.2.2.2.2.1 k1_h1
theorem k1_off730_inb : ∀ (i : grid1.Coords) (v4182 : BitVec 32) (k1_hw15 : k1_chk15 i v4182), ∀ (k1_h1 : k1_cond1 i = 1#1), ∀ a, (k1_off730 v4182) a + S1x16.size a ≤ S256x384.size a := fun i v4182 k1_hw15 k1_h1 => k1_hw15.2.2.2.2.2.1 k1_h1
theorem k1_off731_inb : ∀ (i : grid1.Coords) (v4182 : BitVec 32) (k1_hw15 : k1_chk15 i v4182), ∀ (k1_h1 : k1_cond1 i = 1#1), ∀ a, (k1_off731 v4182) a + S1x16.size a ≤ S256x384.size a := fun i v4182 k1_hw15 k1_h1 => k1_hw15.2.2.2.2.2.2.1 k1_h1
theorem k1_off732_inb : ∀ (i : grid1.Coords) (v4182 : BitVec 32) (k1_hw15 : k1_chk15 i v4182), ∀ (k1_h1 : k1_cond1 i = 1#1), ∀ a, (k1_off732 v4182) a + S1x16.size a ≤ S256x384.size a := fun i v4182 k1_hw15 k1_h1 => k1_hw15.2.2.2.2.2.2.2.1 k1_h1
theorem k1_off733_inb : ∀ (i : grid1.Coords) (v4182 : BitVec 32) (k1_hw15 : k1_chk15 i v4182), ∀ (k1_h1 : k1_cond1 i = 1#1), ∀ a, (k1_off733 v4182) a + S1x16.size a ≤ S256x384.size a := fun i v4182 k1_hw15 k1_h1 => k1_hw15.2.2.2.2.2.2.2.2.1 k1_h1
theorem k1_off734_inb : ∀ (i : grid1.Coords) (v4182 : BitVec 32) (k1_hw15 : k1_chk15 i v4182), ∀ (k1_h1 : k1_cond1 i = 1#1), ∀ a, (k1_off734 v4182) a + S1x16.size a ≤ S256x384.size a := fun i v4182 k1_hw15 k1_h1 => k1_hw15.2.2.2.2.2.2.2.2.2.1 k1_h1
theorem k1_off735_inb : ∀ (i : grid1.Coords) (v4182 : BitVec 32) (k1_hw15 : k1_chk15 i v4182), ∀ (k1_h1 : k1_cond1 i = 1#1), ∀ a, (k1_off735 v4182) a + S1x16.size a ≤ S256x384.size a := fun i v4182 k1_hw15 k1_h1 => k1_hw15.2.2.2.2.2.2.2.2.2.2.1 k1_h1
theorem k1_off736_inb : ∀ (i : grid1.Coords) (v4182 : BitVec 32) (k1_hw15 : k1_chk15 i v4182), ∀ (k1_h1 : k1_cond1 i = 1#1), ∀ a, (k1_off736 v4182) a + S1x16.size a ≤ S256x384.size a := fun i v4182 k1_hw15 k1_h1 => k1_hw15.2.2.2.2.2.2.2.2.2.2.2.1 k1_h1
theorem k1_off737_inb : ∀ (i : grid1.Coords) (v4182 : BitVec 32) (k1_hw15 : k1_chk15 i v4182), ∀ (k1_h1 : k1_cond1 i = 1#1), ∀ a, (k1_off737 v4182) a + S1x16.size a ≤ S256x384.size a := fun i v4182 k1_hw15 k1_h1 => k1_hw15.2.2.2.2.2.2.2.2.2.2.2.2.1 k1_h1
theorem k1_off738_inb : ∀ (i : grid1.Coords) (v4182 : BitVec 32) (k1_hw15 : k1_chk15 i v4182), ∀ (k1_h1 : k1_cond1 i = 1#1), ∀ a, (k1_off738 v4182) a + S1x16.size a ≤ S256x384.size a := fun i v4182 k1_hw15 k1_h1 => k1_hw15.2.2.2.2.2.2.2.2.2.2.2.2.2.1 k1_h1
theorem k1_off739_inb : ∀ (i : grid1.Coords) (v4182 : BitVec 32) (k1_hw15 : k1_chk15 i v4182), ∀ (k1_h1 : k1_cond1 i = 1#1), ∀ a, (k1_off739 v4182) a + S1x16.size a ≤ S256x384.size a := fun i v4182 k1_hw15 k1_h1 => k1_hw15.2.2.2.2.2.2.2.2.2.2.2.2.2.2.1 k1_h1
theorem k1_off740_inb : ∀ (i : grid1.Coords) (v4182 : BitVec 32) (k1_hw15 : k1_chk15 i v4182), ∀ (k1_h1 : k1_cond1 i = 1#1), ∀ a, (k1_off740 v4182) a + S1x16.size a ≤ S256x384.size a := fun i v4182 k1_hw15 k1_h1 => k1_hw15.2.2.2.2.2.2.2.2.2.2.2.2.2.2.2.1 k1_h1
theorem k1_off741_inb : ∀ (i : grid1.Coords) (v4182 : BitVec 32) (k1_hw15 : k1_chk15 i v4182), ∀ (k1_h1 : k1_cond1 i = 1#1), ∀ a, (k1_off741 v4182) a + S1x16.size a ≤ S256x384.size a := fun i v4182 k1_hw15 k1_h1 => k1_hw15.2.2.2.2.2.2.2.2.2.2.2.2.2.2.2.2.1 k1_h1
theorem k1_off742_inb : ∀ (i : grid1.Coords) (v4182 : BitVec 32) (k1_hw15 : k1_chk15 i v4182), ∀ (k1_h1 : k1_cond1 i = 1#1), ∀ a, (k1_off742 v4182) a + S1x16.size a ≤ S256x384.size a := fun i v4182 k1_hw15 k1_h1 => k1_hw15.2.2.2.2.2.2.2.2.2.2.2.2.2.2.2.2.2.1 k1_h1
theorem k1_off743_inb : ∀ (i : grid1.Coords) (v4182 : BitVec 32) (k1_hw15 : k1_chk15 i v4182), ∀ (k1_h1 : k1_cond1 i = 1#1), ∀ a, (k1_off743 v4182) a + S1x16.size a ≤ S256x384.size a := fun i v4182 k1_hw15 k1_h1 => k1_hw15.2.2.2.2.2.2.2.2.2.2.2.2.2.2.2.2.2.2.1 k1_h1
theorem k1_off744_inb : ∀ (i : grid1.Coords) (v4182 : BitVec 32) (k1_hw15 : k1_chk15 i v4182), ∀ (k1_h1 : k1_cond1 i = 1#1), ∀ a, (k1_off744 v4182) a + S1x16.size a ≤ S256x384.size a := fun i v4182 k1_hw15 k1_h1 => k1_hw15.2.2.2.2.2.2.2.2.2.2.2.2.2.2.2.2.2.2.2.1 k1_h1
theorem k1_off745_inb : ∀ (i : grid1.Coords) (v4182 : BitVec 32) (k1_hw15 : k1_chk15 i v4182), ∀ (k1_h1 : k1_cond1 i = 1#1), ∀ a, (k1_off745 v4182) a + S1x16.size a ≤ S256x384.size a := fun i v4182 k1_hw15 k1_h1 => k1_hw15.2.2.2.2.2.2.2.2.2.2.2.2.2.2.2.2.2.2.2.2.1 k1_h1
theorem k1_off746_inb : ∀ (i : grid1.Coords) (v4182 : BitVec 32) (k1_hw15 : k1_chk15 i v4182), ∀ (k1_h1 : k1_cond1 i = 1#1), ∀ a, (k1_off746 v4182) a + S1x16.size a ≤ S256x384.size a := fun i v4182 k1_hw15 k1_h1 => k1_hw15.2.2.2.2.2.2.2.2.2.2.2.2.2.2.2.2.2.2.2.2.2.1 k1_h1
theorem k1_off747_inb : ∀ (i : grid1.Coords) (v4182 : BitVec 32) (k1_hw15 : k1_chk15 i v4182), ∀ (k1_h1 : k1_cond1 i = 1#1), ∀ a, (k1_off747 v4182) a + S1x16.size a ≤ S256x384.size a := fun i v4182 k1_hw15 k1_h1 => k1_hw15.2.2.2.2.2.2.2.2.2.2.2.2.2.2.2.2.2.2.2.2.2.2.1 k1_h1
theorem k1_off748_inb : ∀ (i : grid1.Coords) (v4182 : BitVec 32) (k1_hw15 : k1_chk15 i v4182), ∀ (k1_h1 : k1_cond1 i = 1#1), ∀ a, (k1_off748 v4182) a + S1x16.size a ≤ S256x384.size a := fun i v4182 k1_hw15 k1_h1 => k1_hw15.2.2.2.2.2.2.2.2.2.2.2.2.2.2.2.2.2.2.2.2.2.2.2 k1_h1

def k1_off749 (k1_t3 : Fin k1_t3_loop.trips) : Fin 2 → Nat :=
  let c0_i32_32 : BitVec 32 := 0#32
  let c1_i32_34 : BitVec 32 := 1#32
  let arg37 : BitVec 32 := Scf.iv c0_i32_32 c1_i32_34 k1_t3
  let c16_i32_1128 : BitVec 32 := 16#32
  let v4476 : BitVec 32 := Scalar.muli arg37 c16_i32_1128
  let c15_i32 : BitVec 32 := 15#32
  let v4477 : BitVec 32 := Scalar.addi v4476 c15_i32
  let v4479 : Index := Scalar.indexCast v4477
  let c0_1129 : Index := 0#32
  ![v4479.toNat, 0]
def k1_off750 (k1_t3 : Fin k1_t3_loop.trips) : Fin 2 → Nat :=
  let c0_i32_32 : BitVec 32 := 0#32
  let c1_i32_34 : BitVec 32 := 1#32
  let arg37 : BitVec 32 := Scf.iv c0_i32_32 c1_i32_34 k1_t3
  let c16_i32_1128 : BitVec 32 := 16#32
  let v4476 : BitVec 32 := Scalar.muli arg37 c16_i32_1128
  let c15_i32 : BitVec 32 := 15#32
  let v4477 : BitVec 32 := Scalar.addi v4476 c15_i32
  let v4487 : Index := Scalar.indexCast v4477
  let c16_1131 : Index := 16#32
  ![v4487.toNat, 16]
def k1_off751 (k1_t3 : Fin k1_t3_loop.trips) : Fin 2 → Nat :=
  let c0_i32_32 : BitVec 32 := 0#32
  let c1_i32_34 : BitVec 32 := 1#32
  let arg37 : BitVec 32 := Scf.iv c0_i32_32 c1_i32_34 k1_t3
  let c16_i32_1128 : BitVec 32 := 16#32
  let v4476 : BitVec 32 := Scalar.muli arg37 c16_i32_1128
  let c15_i32 : BitVec 32 := 15#32
  let v4477 : BitVec 32 := Scalar.addi v4476 c15_i32
  let v4495 : Index := Scalar.indexCast v4477
  let c32_1133 : Index := 32#32
  ![v4495.toNat, 32]
def k1_off752 (k1_t3 : Fin k1_t3_loop.trips) : Fin 2 → Nat :=
  let c0_i32_32 : BitVec 32 := 0#32
  let c1_i32_34 : BitVec 32 := 1#32
  let arg37 : BitVec 32 := Scf.iv c0_i32_32 c1_i32_34 k1_t3
  let c16_i32_1128 : BitVec 32 := 16#32
  let v4476 : BitVec 32 := Scalar.muli arg37 c16_i32_1128
  let c15_i32 : BitVec 32 := 15#32
  let v4477 : BitVec 32 := Scalar.addi v4476 c15_i32
  let v4503 : Index := Scalar.indexCast v4477
  let c48_1135 : Index := 48#32
  ![v4503.toNat, 48]
def k1_off753 (k1_t3 : Fin k1_t3_loop.trips) : Fin 2 → Nat :=
  let c0_i32_32 : BitVec 32 := 0#32
  let c1_i32_34 : BitVec 32 := 1#32
  let arg37 : BitVec 32 := Scf.iv c0_i32_32 c1_i32_34 k1_t3
  let c16_i32_1128 : BitVec 32 := 16#32
  let v4476 : BitVec 32 := Scalar.muli arg37 c16_i32_1128
  let c15_i32 : BitVec 32 := 15#32
  let v4477 : BitVec 32 := Scalar.addi v4476 c15_i32
  let v4511 : Index := Scalar.indexCast v4477
  let c64_1137 : Index := 64#32
  ![v4511.toNat, 64]
def k1_off754 (k1_t3 : Fin k1_t3_loop.trips) : Fin 2 → Nat :=
  let c0_i32_32 : BitVec 32 := 0#32
  let c1_i32_34 : BitVec 32 := 1#32
  let arg37 : BitVec 32 := Scf.iv c0_i32_32 c1_i32_34 k1_t3
  let c16_i32_1128 : BitVec 32 := 16#32
  let v4476 : BitVec 32 := Scalar.muli arg37 c16_i32_1128
  let c15_i32 : BitVec 32 := 15#32
  let v4477 : BitVec 32 := Scalar.addi v4476 c15_i32
  let v4519 : Index := Scalar.indexCast v4477
  let c80_1139 : Index := 80#32
  ![v4519.toNat, 80]
def k1_off755 (k1_t3 : Fin k1_t3_loop.trips) : Fin 2 → Nat :=
  let c0_i32_32 : BitVec 32 := 0#32
  let c1_i32_34 : BitVec 32 := 1#32
  let arg37 : BitVec 32 := Scf.iv c0_i32_32 c1_i32_34 k1_t3
  let c16_i32_1128 : BitVec 32 := 16#32
  let v4476 : BitVec 32 := Scalar.muli arg37 c16_i32_1128
  let c15_i32 : BitVec 32 := 15#32
  let v4477 : BitVec 32 := Scalar.addi v4476 c15_i32
  let v4527 : Index := Scalar.indexCast v4477
  let c96_1141 : Index := 96#32
  ![v4527.toNat, 96]
def k1_off756 (k1_t3 : Fin k1_t3_loop.trips) : Fin 2 → Nat :=
  let c0_i32_32 : BitVec 32 := 0#32
  let c1_i32_34 : BitVec 32 := 1#32
  let arg37 : BitVec 32 := Scf.iv c0_i32_32 c1_i32_34 k1_t3
  let c16_i32_1128 : BitVec 32 := 16#32
  let v4476 : BitVec 32 := Scalar.muli arg37 c16_i32_1128
  let c15_i32 : BitVec 32 := 15#32
  let v4477 : BitVec 32 := Scalar.addi v4476 c15_i32
  let v4535 : Index := Scalar.indexCast v4477
  let c112_1143 : Index := 112#32
  ![v4535.toNat, 112]
def k1_off757 (k1_t3 : Fin k1_t3_loop.trips) : Fin 2 → Nat :=
  let c0_i32_32 : BitVec 32 := 0#32
  let c1_i32_34 : BitVec 32 := 1#32
  let arg37 : BitVec 32 := Scf.iv c0_i32_32 c1_i32_34 k1_t3
  let c16_i32_1128 : BitVec 32 := 16#32
  let v4476 : BitVec 32 := Scalar.muli arg37 c16_i32_1128
  let c15_i32 : BitVec 32 := 15#32
  let v4477 : BitVec 32 := Scalar.addi v4476 c15_i32
  let v4543 : Index := Scalar.indexCast v4477
  let c128_1145 : Index := 128#32
  ![v4543.toNat, 128]
def k1_off758 (k1_t3 : Fin k1_t3_loop.trips) : Fin 2 → Nat :=
  let c0_i32_32 : BitVec 32 := 0#32
  let c1_i32_34 : BitVec 32 := 1#32
  let arg37 : BitVec 32 := Scf.iv c0_i32_32 c1_i32_34 k1_t3
  let c16_i32_1128 : BitVec 32 := 16#32
  let v4476 : BitVec 32 := Scalar.muli arg37 c16_i32_1128
  let c15_i32 : BitVec 32 := 15#32
  let v4477 : BitVec 32 := Scalar.addi v4476 c15_i32
  let v4551 : Index := Scalar.indexCast v4477
  let c144_1147 : Index := 144#32
  ![v4551.toNat, 144]
def k1_off759 (k1_t3 : Fin k1_t3_loop.trips) : Fin 2 → Nat :=
  let c0_i32_32 : BitVec 32 := 0#32
  let c1_i32_34 : BitVec 32 := 1#32
  let arg37 : BitVec 32 := Scf.iv c0_i32_32 c1_i32_34 k1_t3
  let c16_i32_1128 : BitVec 32 := 16#32
  let v4476 : BitVec 32 := Scalar.muli arg37 c16_i32_1128
  let c15_i32 : BitVec 32 := 15#32
  let v4477 : BitVec 32 := Scalar.addi v4476 c15_i32
  let v4559 : Index := Scalar.indexCast v4477
  let c160_1149 : Index := 160#32
  ![v4559.toNat, 160]
def k1_off760 (k1_t3 : Fin k1_t3_loop.trips) : Fin 2 → Nat :=
  let c0_i32_32 : BitVec 32 := 0#32
  let c1_i32_34 : BitVec 32 := 1#32
  let arg37 : BitVec 32 := Scf.iv c0_i32_32 c1_i32_34 k1_t3
  let c16_i32_1128 : BitVec 32 := 16#32
  let v4476 : BitVec 32 := Scalar.muli arg37 c16_i32_1128
  let c15_i32 : BitVec 32 := 15#32
  let v4477 : BitVec 32 := Scalar.addi v4476 c15_i32
  let v4567 : Index := Scalar.indexCast v4477
  let c176_1151 : Index := 176#32
  ![v4567.toNat, 176]
def k1_off761 (k1_t3 : Fin k1_t3_loop.trips) : Fin 2 → Nat :=
  let c0_i32_32 : BitVec 32 := 0#32
  let c1_i32_34 : BitVec 32 := 1#32
  let arg37 : BitVec 32 := Scf.iv c0_i32_32 c1_i32_34 k1_t3
  let c16_i32_1128 : BitVec 32 := 16#32
  let v4476 : BitVec 32 := Scalar.muli arg37 c16_i32_1128
  let c15_i32 : BitVec 32 := 15#32
  let v4477 : BitVec 32 := Scalar.addi v4476 c15_i32
  let v4575 : Index := Scalar.indexCast v4477
  let c192_1153 : Index := 192#32
  ![v4575.toNat, 192]
def k1_off762 (k1_t3 : Fin k1_t3_loop.trips) : Fin 2 → Nat :=
  let c0_i32_32 : BitVec 32 := 0#32
  let c1_i32_34 : BitVec 32 := 1#32
  let arg37 : BitVec 32 := Scf.iv c0_i32_32 c1_i32_34 k1_t3
  let c16_i32_1128 : BitVec 32 := 16#32
  let v4476 : BitVec 32 := Scalar.muli arg37 c16_i32_1128
  let c15_i32 : BitVec 32 := 15#32
  let v4477 : BitVec 32 := Scalar.addi v4476 c15_i32
  let v4583 : Index := Scalar.indexCast v4477
  let c208_1155 : Index := 208#32
  ![v4583.toNat, 208]
def k1_off763 (k1_t3 : Fin k1_t3_loop.trips) : Fin 2 → Nat :=
  let c0_i32_32 : BitVec 32 := 0#32
  let c1_i32_34 : BitVec 32 := 1#32
  let arg37 : BitVec 32 := Scf.iv c0_i32_32 c1_i32_34 k1_t3
  let c16_i32_1128 : BitVec 32 := 16#32
  let v4476 : BitVec 32 := Scalar.muli arg37 c16_i32_1128
  let c15_i32 : BitVec 32 := 15#32
  let v4477 : BitVec 32 := Scalar.addi v4476 c15_i32
  let v4591 : Index := Scalar.indexCast v4477
  let c224_1157 : Index := 224#32
  ![v4591.toNat, 224]
def k1_off764 (k1_t3 : Fin k1_t3_loop.trips) : Fin 2 → Nat :=
  let c0_i32_32 : BitVec 32 := 0#32
  let c1_i32_34 : BitVec 32 := 1#32
  let arg37 : BitVec 32 := Scf.iv c0_i32_32 c1_i32_34 k1_t3
  let c16_i32_1128 : BitVec 32 := 16#32
  let v4476 : BitVec 32 := Scalar.muli arg37 c16_i32_1128
  let c15_i32 : BitVec 32 := 15#32
  let v4477 : BitVec 32 := Scalar.addi v4476 c15_i32
  let v4599 : Index := Scalar.indexCast v4477
  let c240_1159 : Index := 240#32
  ![v4599.toNat, 240]
def k1_off765 (k1_t3 : Fin k1_t3_loop.trips) : Fin 2 → Nat :=
  let c0_i32_32 : BitVec 32 := 0#32
  let c1_i32_34 : BitVec 32 := 1#32
  let arg37 : BitVec 32 := Scf.iv c0_i32_32 c1_i32_34 k1_t3
  let c16_i32_1128 : BitVec 32 := 16#32
  let v4476 : BitVec 32 := Scalar.muli arg37 c16_i32_1128
  let c15_i32 : BitVec 32 := 15#32
  let v4477 : BitVec 32 := Scalar.addi v4476 c15_i32
  let v4607 : Index := Scalar.indexCast v4477
  let c256_1161 : Index := 256#32
  ![v4607.toNat, 256]
def k1_off766 (k1_t3 : Fin k1_t3_loop.trips) : Fin 2 → Nat :=
  let c0_i32_32 : BitVec 32 := 0#32
  let c1_i32_34 : BitVec 32 := 1#32
  let arg37 : BitVec 32 := Scf.iv c0_i32_32 c1_i32_34 k1_t3
  let c16_i32_1128 : BitVec 32 := 16#32
  let v4476 : BitVec 32 := Scalar.muli arg37 c16_i32_1128
  let c15_i32 : BitVec 32 := 15#32
  let v4477 : BitVec 32 := Scalar.addi v4476 c15_i32
  let v4615 : Index := Scalar.indexCast v4477
  let c272_1163 : Index := 272#32
  ![v4615.toNat, 272]
def k1_off767 (k1_t3 : Fin k1_t3_loop.trips) : Fin 2 → Nat :=
  let c0_i32_32 : BitVec 32 := 0#32
  let c1_i32_34 : BitVec 32 := 1#32
  let arg37 : BitVec 32 := Scf.iv c0_i32_32 c1_i32_34 k1_t3
  let c16_i32_1128 : BitVec 32 := 16#32
  let v4476 : BitVec 32 := Scalar.muli arg37 c16_i32_1128
  let c15_i32 : BitVec 32 := 15#32
  let v4477 : BitVec 32 := Scalar.addi v4476 c15_i32
  let v4623 : Index := Scalar.indexCast v4477
  let c288_1165 : Index := 288#32
  ![v4623.toNat, 288]
def k1_off768 (k1_t3 : Fin k1_t3_loop.trips) : Fin 2 → Nat :=
  let c0_i32_32 : BitVec 32 := 0#32
  let c1_i32_34 : BitVec 32 := 1#32
  let arg37 : BitVec 32 := Scf.iv c0_i32_32 c1_i32_34 k1_t3
  let c16_i32_1128 : BitVec 32 := 16#32
  let v4476 : BitVec 32 := Scalar.muli arg37 c16_i32_1128
  let c15_i32 : BitVec 32 := 15#32
  let v4477 : BitVec 32 := Scalar.addi v4476 c15_i32
  let v4631 : Index := Scalar.indexCast v4477
  let c304_1167 : Index := 304#32
  ![v4631.toNat, 304]
def k1_off769 (k1_t3 : Fin k1_t3_loop.trips) : Fin 2 → Nat :=
  let c0_i32_32 : BitVec 32 := 0#32
  let c1_i32_34 : BitVec 32 := 1#32
  let arg37 : BitVec 32 := Scf.iv c0_i32_32 c1_i32_34 k1_t3
  let c16_i32_1128 : BitVec 32 := 16#32
  let v4476 : BitVec 32 := Scalar.muli arg37 c16_i32_1128
  let c15_i32 : BitVec 32 := 15#32
  let v4477 : BitVec 32 := Scalar.addi v4476 c15_i32
  let v4639 : Index := Scalar.indexCast v4477
  let c320_1169 : Index := 320#32
  ![v4639.toNat, 320]
def k1_off770 (k1_t3 : Fin k1_t3_loop.trips) : Fin 2 → Nat :=
  let c0_i32_32 : BitVec 32 := 0#32
  let c1_i32_34 : BitVec 32 := 1#32
  let arg37 : BitVec 32 := Scf.iv c0_i32_32 c1_i32_34 k1_t3
  let c16_i32_1128 : BitVec 32 := 16#32
  let v4476 : BitVec 32 := Scalar.muli arg37 c16_i32_1128
  let c15_i32 : BitVec 32 := 15#32
  let v4477 : BitVec 32 := Scalar.addi v4476 c15_i32
  let v4647 : Index := Scalar.indexCast v4477
  let c336_1171 : Index := 336#32
  ![v4647.toNat, 336]
def k1_off771 (k1_t3 : Fin k1_t3_loop.trips) : Fin 2 → Nat :=
  let c0_i32_32 : BitVec 32 := 0#32
  let c1_i32_34 : BitVec 32 := 1#32
  let arg37 : BitVec 32 := Scf.iv c0_i32_32 c1_i32_34 k1_t3
  let c16_i32_1128 : BitVec 32 := 16#32
  let v4476 : BitVec 32 := Scalar.muli arg37 c16_i32_1128
  let c15_i32 : BitVec 32 := 15#32
  let v4477 : BitVec 32 := Scalar.addi v4476 c15_i32
  let v4655 : Index := Scalar.indexCast v4477
  let c352_1173 : Index := 352#32
  ![v4655.toNat, 352]
def k1_off772 (k1_t3 : Fin k1_t3_loop.trips) : Fin 2 → Nat :=
  let c0_i32_32 : BitVec 32 := 0#32
  let c1_i32_34 : BitVec 32 := 1#32
  let arg37 : BitVec 32 := Scf.iv c0_i32_32 c1_i32_34 k1_t3
  let c16_i32_1128 : BitVec 32 := 16#32
  let v4476 : BitVec 32 := Scalar.muli arg37 c16_i32_1128
  let c15_i32 : BitVec 32 := 15#32
  let v4477 : BitVec 32 := Scalar.addi v4476 c15_i32
  let v4663 : Index := Scalar.indexCast v4477
  let c368_1175 : Index := 368#32
  ![v4663.toNat, 368]
def k1_off773 (v4475 : BitVec 32) : Fin 2 → Nat :=
  let v4671 : Index := Scalar.indexCast v4475
  let c0_1177 : Index := 0#32
  ![v4671.toNat, 0]

def k1_off774 (v4475 : BitVec 32) : Fin 2 → Nat :=
  let v4675 : Index := Scalar.indexCast v4475
  let c16_1178 : Index := 16#32
  ![v4675.toNat, 16]
def k1_off775 (v4475 : BitVec 32) : Fin 2 → Nat :=
  let v4679 : Index := Scalar.indexCast v4475
  let c32_1179 : Index := 32#32
  ![v4679.toNat, 32]
def k1_off776 (v4475 : BitVec 32) : Fin 2 → Nat :=
  let v4683 : Index := Scalar.indexCast v4475
  let c48_1180 : Index := 48#32
  ![v4683.toNat, 48]
def k1_off777 (v4475 : BitVec 32) : Fin 2 → Nat :=
  let v4687 : Index := Scalar.indexCast v4475
  let c64_1181 : Index := 64#32
  ![v4687.toNat, 64]
def k1_off778 (v4475 : BitVec 32) : Fin 2 → Nat :=
  let v4691 : Index := Scalar.indexCast v4475
  let c80_1182 : Index := 80#32
  ![v4691.toNat, 80]
def k1_off779 (v4475 : BitVec 32) : Fin 2 → Nat :=
  let v4695 : Index := Scalar.indexCast v4475
  let c96_1183 : Index := 96#32
  ![v4695.toNat, 96]
def k1_off780 (v4475 : BitVec 32) : Fin 2 → Nat :=
  let v4699 : Index := Scalar.indexCast v4475
  let c112_1184 : Index := 112#32
  ![v4699.toNat, 112]
def k1_off781 (v4475 : BitVec 32) : Fin 2 → Nat :=
  let v4703 : Index := Scalar.indexCast v4475
  let c128_1185 : Index := 128#32
  ![v4703.toNat, 128]
def k1_off782 (v4475 : BitVec 32) : Fin 2 → Nat :=
  let v4707 : Index := Scalar.indexCast v4475
  let c144_1186 : Index := 144#32
  ![v4707.toNat, 144]
def k1_off783 (v4475 : BitVec 32) : Fin 2 → Nat :=
  let v4711 : Index := Scalar.indexCast v4475
  let c160_1187 : Index := 160#32
  ![v4711.toNat, 160]
def k1_off784 (v4475 : BitVec 32) : Fin 2 → Nat :=
  let v4715 : Index := Scalar.indexCast v4475
  let c176_1188 : Index := 176#32
  ![v4715.toNat, 176]
def k1_off785 (v4475 : BitVec 32) : Fin 2 → Nat :=
  let v4719 : Index := Scalar.indexCast v4475
  let c192_1189 : Index := 192#32
  ![v4719.toNat, 192]
def k1_off786 (v4475 : BitVec 32) : Fin 2 → Nat :=
  let v4723 : Index := Scalar.indexCast v4475
  let c208_1190 : Index := 208#32
  ![v4723.toNat, 208]
def k1_off787 (v4475 : BitVec 32) : Fin 2 → Nat :=
  let v4727 : Index := Scalar.indexCast v4475
  let c224_1191 : Index := 224#32
  ![v4727.toNat, 224]
def k1_off788 (v4475 : BitVec 32) : Fin 2 → Nat :=
  let v4731 : Index := Scalar.indexCast v4475
  let c240_1192 : Index := 240#32
  ![v4731.toNat, 240]
def k1_off789 (v4475 : BitVec 32) : Fin 2 → Nat :=
  let v4735 : Index := Scalar.indexCast v4475
  let c256_1193 : Index := 256#32
  ![v4735.toNat, 256]
def k1_off790 (v4475 : BitVec 32) : Fin 2 → Nat :=
  let v4739 : Index := Scalar.indexCast v4475
  let c272_1194 : Index := 272#32
  ![v4739.toNat, 272]
def k1_off791 (v4475 : BitVec 32) : Fin 2 → Nat :=
  let v4743 : Index := Scalar.indexCast v4475
  let c288_1195 : Index := 288#32
  ![v4743.toNat, 288]
def k1_off792 (v4475 : BitVec 32) : Fin 2 → Nat :=
  let v4747 : Index := Scalar.indexCast v4475
  let c304_1196 : Index := 304#32
  ![v4747.toNat, 304]
def k1_off793 (v4475 : BitVec 32) : Fin 2 → Nat :=
  let v4751 : Index := Scalar.indexCast v4475
  let c320_1197 : Index := 320#32
  ![v4751.toNat, 320]
def k1_off794 (v4475 : BitVec 32) : Fin 2 → Nat :=
  let v4755 : Index := Scalar.indexCast v4475
  let c336_1198 : Index := 336#32
  ![v4755.toNat, 336]
def k1_off795 (v4475 : BitVec 32) : Fin 2 → Nat :=
  let v4759 : Index := Scalar.indexCast v4475
  let c352_1199 : Index := 352#32
  ![v4759.toNat, 352]
def k1_off796 (v4475 : BitVec 32) : Fin 2 → Nat :=
  let v4763 : Index := Scalar.indexCast v4475
  let c368_1200 : Index := 368#32
  ![v4763.toNat, 368]

def k1_chk16 (i : grid1.Coords) (v4475 : BitVec 32) : Prop :=
  (∀ (k1_h1 : k1_cond1 i = 1#1), ∀ a, (k1_off773 v4475) a + S1x16.size a ≤ S256x384.size a) ∧
  (∀ (k1_h1 : k1_cond1 i = 1#1), ∀ a, (k1_off774 v4475) a + S1x16.size a ≤ S256x384.size a) ∧
  (∀ (k1_h1 : k1_cond1 i = 1#1), ∀ a, (k1_off775 v4475) a + S1x16.size a ≤ S256x384.size a) ∧
  (∀ (k1_h1 : k1_cond1 i = 1#1), ∀ a, (k1_off776 v4475) a + S1x16.size a ≤ S256x384.size a) ∧
  (∀ (k1_h1 : k1_cond1 i = 1#1), ∀ a, (k1_off777 v4475) a + S1x16.size a ≤ S256x384.size a) ∧
  (∀ (k1_h1 : k1_cond1 i = 1#1), ∀ a, (k1_off778 v4475) a + S1x16.size a ≤ S256x384.size a) ∧
  (∀ (k1_h1 : k1_cond1 i = 1#1), ∀ a, (k1_off779 v4475) a + S1x16.size a ≤ S256x384.size a) ∧
  (∀ (k1_h1 : k1_cond1 i = 1#1), ∀ a, (k1_off780 v4475) a + S1x16.size a ≤ S256x384.size a) ∧
  (∀ (k1_h1 : k1_cond1 i = 1#1), ∀ a, (k1_off781 v4475) a + S1x16.size a ≤ S256x384.size a) ∧
  (∀ (k1_h1 : k1_cond1 i = 1#1), ∀ a, (k1_off782 v4475) a + S1x16.size a ≤ S256x384.size a) ∧
  (∀ (k1_h1 : k1_cond1 i = 1#1), ∀ a, (k1_off783 v4475) a + S1x16.size a ≤ S256x384.size a) ∧
  (∀ (k1_h1 : k1_cond1 i = 1#1), ∀ a, (k1_off784 v4475) a + S1x16.size a ≤ S256x384.size a) ∧
  (∀ (k1_h1 : k1_cond1 i = 1#1), ∀ a, (k1_off785 v4475) a + S1x16.size a ≤ S256x384.size a) ∧
  (∀ (k1_h1 : k1_cond1 i = 1#1), ∀ a, (k1_off786 v4475) a + S1x16.size a ≤ S256x384.size a) ∧
  (∀ (k1_h1 : k1_cond1 i = 1#1), ∀ a, (k1_off787 v4475) a + S1x16.size a ≤ S256x384.size a) ∧
  (∀ (k1_h1 : k1_cond1 i = 1#1), ∀ a, (k1_off788 v4475) a + S1x16.size a ≤ S256x384.size a) ∧
  (∀ (k1_h1 : k1_cond1 i = 1#1), ∀ a, (k1_off789 v4475) a + S1x16.size a ≤ S256x384.size a) ∧
  (∀ (k1_h1 : k1_cond1 i = 1#1), ∀ a, (k1_off790 v4475) a + S1x16.size a ≤ S256x384.size a) ∧
  (∀ (k1_h1 : k1_cond1 i = 1#1), ∀ a, (k1_off791 v4475) a + S1x16.size a ≤ S256x384.size a) ∧
  (∀ (k1_h1 : k1_cond1 i = 1#1), ∀ a, (k1_off792 v4475) a + S1x16.size a ≤ S256x384.size a) ∧
  (∀ (k1_h1 : k1_cond1 i = 1#1), ∀ a, (k1_off793 v4475) a + S1x16.size a ≤ S256x384.size a) ∧
  (∀ (k1_h1 : k1_cond1 i = 1#1), ∀ a, (k1_off794 v4475) a + S1x16.size a ≤ S256x384.size a) ∧
  (∀ (k1_h1 : k1_cond1 i = 1#1), ∀ a, (k1_off795 v4475) a + S1x16.size a ≤ S256x384.size a) ∧
  (∀ (k1_h1 : k1_cond1 i = 1#1), ∀ a, (k1_off796 v4475) a + S1x16.size a ≤ S256x384.size a)
theorem k1_off773_inb : ∀ (i : grid1.Coords) (v4475 : BitVec 32) (k1_hw16 : k1_chk16 i v4475), ∀ (k1_h1 : k1_cond1 i = 1#1), ∀ a, (k1_off773 v4475) a + S1x16.size a ≤ S256x384.size a := fun i v4475 k1_hw16 k1_h1 => k1_hw16.1 k1_h1
theorem k1_off774_inb : ∀ (i : grid1.Coords) (v4475 : BitVec 32) (k1_hw16 : k1_chk16 i v4475), ∀ (k1_h1 : k1_cond1 i = 1#1), ∀ a, (k1_off774 v4475) a + S1x16.size a ≤ S256x384.size a := fun i v4475 k1_hw16 k1_h1 => k1_hw16.2.1 k1_h1
theorem k1_off775_inb : ∀ (i : grid1.Coords) (v4475 : BitVec 32) (k1_hw16 : k1_chk16 i v4475), ∀ (k1_h1 : k1_cond1 i = 1#1), ∀ a, (k1_off775 v4475) a + S1x16.size a ≤ S256x384.size a := fun i v4475 k1_hw16 k1_h1 => k1_hw16.2.2.1 k1_h1
theorem k1_off776_inb : ∀ (i : grid1.Coords) (v4475 : BitVec 32) (k1_hw16 : k1_chk16 i v4475), ∀ (k1_h1 : k1_cond1 i = 1#1), ∀ a, (k1_off776 v4475) a + S1x16.size a ≤ S256x384.size a := fun i v4475 k1_hw16 k1_h1 => k1_hw16.2.2.2.1 k1_h1
theorem k1_off777_inb : ∀ (i : grid1.Coords) (v4475 : BitVec 32) (k1_hw16 : k1_chk16 i v4475), ∀ (k1_h1 : k1_cond1 i = 1#1), ∀ a, (k1_off777 v4475) a + S1x16.size a ≤ S256x384.size a := fun i v4475 k1_hw16 k1_h1 => k1_hw16.2.2.2.2.1 k1_h1
theorem k1_off778_inb : ∀ (i : grid1.Coords) (v4475 : BitVec 32) (k1_hw16 : k1_chk16 i v4475), ∀ (k1_h1 : k1_cond1 i = 1#1), ∀ a, (k1_off778 v4475) a + S1x16.size a ≤ S256x384.size a := fun i v4475 k1_hw16 k1_h1 => k1_hw16.2.2.2.2.2.1 k1_h1
theorem k1_off779_inb : ∀ (i : grid1.Coords) (v4475 : BitVec 32) (k1_hw16 : k1_chk16 i v4475), ∀ (k1_h1 : k1_cond1 i = 1#1), ∀ a, (k1_off779 v4475) a + S1x16.size a ≤ S256x384.size a := fun i v4475 k1_hw16 k1_h1 => k1_hw16.2.2.2.2.2.2.1 k1_h1
theorem k1_off780_inb : ∀ (i : grid1.Coords) (v4475 : BitVec 32) (k1_hw16 : k1_chk16 i v4475), ∀ (k1_h1 : k1_cond1 i = 1#1), ∀ a, (k1_off780 v4475) a + S1x16.size a ≤ S256x384.size a := fun i v4475 k1_hw16 k1_h1 => k1_hw16.2.2.2.2.2.2.2.1 k1_h1
theorem k1_off781_inb : ∀ (i : grid1.Coords) (v4475 : BitVec 32) (k1_hw16 : k1_chk16 i v4475), ∀ (k1_h1 : k1_cond1 i = 1#1), ∀ a, (k1_off781 v4475) a + S1x16.size a ≤ S256x384.size a := fun i v4475 k1_hw16 k1_h1 => k1_hw16.2.2.2.2.2.2.2.2.1 k1_h1
theorem k1_off782_inb : ∀ (i : grid1.Coords) (v4475 : BitVec 32) (k1_hw16 : k1_chk16 i v4475), ∀ (k1_h1 : k1_cond1 i = 1#1), ∀ a, (k1_off782 v4475) a + S1x16.size a ≤ S256x384.size a := fun i v4475 k1_hw16 k1_h1 => k1_hw16.2.2.2.2.2.2.2.2.2.1 k1_h1
theorem k1_off783_inb : ∀ (i : grid1.Coords) (v4475 : BitVec 32) (k1_hw16 : k1_chk16 i v4475), ∀ (k1_h1 : k1_cond1 i = 1#1), ∀ a, (k1_off783 v4475) a + S1x16.size a ≤ S256x384.size a := fun i v4475 k1_hw16 k1_h1 => k1_hw16.2.2.2.2.2.2.2.2.2.2.1 k1_h1
theorem k1_off784_inb : ∀ (i : grid1.Coords) (v4475 : BitVec 32) (k1_hw16 : k1_chk16 i v4475), ∀ (k1_h1 : k1_cond1 i = 1#1), ∀ a, (k1_off784 v4475) a + S1x16.size a ≤ S256x384.size a := fun i v4475 k1_hw16 k1_h1 => k1_hw16.2.2.2.2.2.2.2.2.2.2.2.1 k1_h1
theorem k1_off785_inb : ∀ (i : grid1.Coords) (v4475 : BitVec 32) (k1_hw16 : k1_chk16 i v4475), ∀ (k1_h1 : k1_cond1 i = 1#1), ∀ a, (k1_off785 v4475) a + S1x16.size a ≤ S256x384.size a := fun i v4475 k1_hw16 k1_h1 => k1_hw16.2.2.2.2.2.2.2.2.2.2.2.2.1 k1_h1
theorem k1_off786_inb : ∀ (i : grid1.Coords) (v4475 : BitVec 32) (k1_hw16 : k1_chk16 i v4475), ∀ (k1_h1 : k1_cond1 i = 1#1), ∀ a, (k1_off786 v4475) a + S1x16.size a ≤ S256x384.size a := fun i v4475 k1_hw16 k1_h1 => k1_hw16.2.2.2.2.2.2.2.2.2.2.2.2.2.1 k1_h1
theorem k1_off787_inb : ∀ (i : grid1.Coords) (v4475 : BitVec 32) (k1_hw16 : k1_chk16 i v4475), ∀ (k1_h1 : k1_cond1 i = 1#1), ∀ a, (k1_off787 v4475) a + S1x16.size a ≤ S256x384.size a := fun i v4475 k1_hw16 k1_h1 => k1_hw16.2.2.2.2.2.2.2.2.2.2.2.2.2.2.1 k1_h1
theorem k1_off788_inb : ∀ (i : grid1.Coords) (v4475 : BitVec 32) (k1_hw16 : k1_chk16 i v4475), ∀ (k1_h1 : k1_cond1 i = 1#1), ∀ a, (k1_off788 v4475) a + S1x16.size a ≤ S256x384.size a := fun i v4475 k1_hw16 k1_h1 => k1_hw16.2.2.2.2.2.2.2.2.2.2.2.2.2.2.2.1 k1_h1
theorem k1_off789_inb : ∀ (i : grid1.Coords) (v4475 : BitVec 32) (k1_hw16 : k1_chk16 i v4475), ∀ (k1_h1 : k1_cond1 i = 1#1), ∀ a, (k1_off789 v4475) a + S1x16.size a ≤ S256x384.size a := fun i v4475 k1_hw16 k1_h1 => k1_hw16.2.2.2.2.2.2.2.2.2.2.2.2.2.2.2.2.1 k1_h1
theorem k1_off790_inb : ∀ (i : grid1.Coords) (v4475 : BitVec 32) (k1_hw16 : k1_chk16 i v4475), ∀ (k1_h1 : k1_cond1 i = 1#1), ∀ a, (k1_off790 v4475) a + S1x16.size a ≤ S256x384.size a := fun i v4475 k1_hw16 k1_h1 => k1_hw16.2.2.2.2.2.2.2.2.2.2.2.2.2.2.2.2.2.1 k1_h1
theorem k1_off791_inb : ∀ (i : grid1.Coords) (v4475 : BitVec 32) (k1_hw16 : k1_chk16 i v4475), ∀ (k1_h1 : k1_cond1 i = 1#1), ∀ a, (k1_off791 v4475) a + S1x16.size a ≤ S256x384.size a := fun i v4475 k1_hw16 k1_h1 => k1_hw16.2.2.2.2.2.2.2.2.2.2.2.2.2.2.2.2.2.2.1 k1_h1
theorem k1_off792_inb : ∀ (i : grid1.Coords) (v4475 : BitVec 32) (k1_hw16 : k1_chk16 i v4475), ∀ (k1_h1 : k1_cond1 i = 1#1), ∀ a, (k1_off792 v4475) a + S1x16.size a ≤ S256x384.size a := fun i v4475 k1_hw16 k1_h1 => k1_hw16.2.2.2.2.2.2.2.2.2.2.2.2.2.2.2.2.2.2.2.1 k1_h1
theorem k1_off793_inb : ∀ (i : grid1.Coords) (v4475 : BitVec 32) (k1_hw16 : k1_chk16 i v4475), ∀ (k1_h1 : k1_cond1 i = 1#1), ∀ a, (k1_off793 v4475) a + S1x16.size a ≤ S256x384.size a := fun i v4475 k1_hw16 k1_h1 => k1_hw16.2.2.2.2.2.2.2.2.2.2.2.2.2.2.2.2.2.2.2.2.1 k1_h1
theorem k1_off794_inb : ∀ (i : grid1.Coords) (v4475 : BitVec 32) (k1_hw16 : k1_chk16 i v4475), ∀ (k1_h1 : k1_cond1 i = 1#1), ∀ a, (k1_off794 v4475) a + S1x16.size a ≤ S256x384.size a := fun i v4475 k1_hw16 k1_h1 => k1_hw16.2.2.2.2.2.2.2.2.2.2.2.2.2.2.2.2.2.2.2.2.2.1 k1_h1
theorem k1_off795_inb : ∀ (i : grid1.Coords) (v4475 : BitVec 32) (k1_hw16 : k1_chk16 i v4475), ∀ (k1_h1 : k1_cond1 i = 1#1), ∀ a, (k1_off795 v4475) a + S1x16.size a ≤ S256x384.size a := fun i v4475 k1_hw16 k1_h1 => k1_hw16.2.2.2.2.2.2.2.2.2.2.2.2.2.2.2.2.2.2.2.2.2.2.1 k1_h1
theorem k1_off796_inb : ∀ (i : grid1.Coords) (v4475 : BitVec 32) (k1_hw16 : k1_chk16 i v4475), ∀ (k1_h1 : k1_cond1 i = 1#1), ∀ a, (k1_off796 v4475) a + S1x16.size a ≤ S256x384.size a := fun i v4475 k1_hw16 k1_h1 => k1_hw16.2.2.2.2.2.2.2.2.2.2.2.2.2.2.2.2.2.2.2.2.2.2.2 k1_h1

def k1_cond2 (k1_t2 : Fin k1_t2_loop.trips) : BitVec 1 :=
  let c0_i32_22 : BitVec 32 := 0#32
  let c1_i32_24 : BitVec 32 := 1#32
  let arg11 : BitVec 32 := Scf.iv c0_i32_22 c1_i32_24 k1_t2
  let c2_i32_27 : BitVec 32 := 2#32
  let v49 : BitVec 32 := Scalar.muli arg11 c2_i32_27
  let c0_i32_28 : BitVec 32 := 0#32
  let v50 : BitVec 32 := Scalar.addi v49 c0_i32_28
  let c2_i32_36 : BitVec 32 := 2#32
  let v57 : BitVec 32 := Scalar.addi v50 c2_i32_36
  let c16_i32_37 : BitVec 32 := 16#32
  let v58 : BitVec 1 := Scalar.cmpi .slt v57 c16_i32_37
  let v59 : BitVec 32 := Scalar.extui v58
  let c0_i32_38 : BitVec 32 := 0#32
  let v60 : BitVec 1 := Scalar.cmpi .ne v59 c0_i32_38
  v60

def k1_off797 (i : grid1.Coords) (k1_t2 : Fin k1_t2_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c8_i32 : BitVec 32 := 8#32
  let v32 : BitVec 32 := Scalar.muli v28 c8_i32
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32_0 : BitVec 32 := 2#32
  let c0_i32_2 : BitVec 32 := 0#32
  let v8 : BitVec 1 := Scalar.cmpi .sgt c2_i32_0 c0_i32_2
  let v9 : BitVec 32 := Scalar.extui v8
  let c0_i32_3 : BitVec 32 := 0#32
  let v10 : BitVec 1 := Scalar.cmpi .slt c2_i32_0 c0_i32_3
  let v11 : BitVec 32 := Scalar.extui v10
  let v12 : BitVec 32 := Scalar.subi v9 v11
  let v13 : BitVec 1 := Scalar.cmpi .ne v7 v12
  let v14 : BitVec 32 := Scalar.remsi v1 c2_i32_0
  let c0_i32_4 : BitVec 32 := 0#32
  let v15 : BitVec 1 := Scalar.cmpi .ne v14 c0_i32_4
  let v16 : BitVec 1 := Scalar.andi v13 v15
  let v2 : BitVec 32 := Scalar.divsi v1 c2_i32_0
  let c1_i32 : BitVec 32 := 1#32
  let v17 : BitVec 32 := Scalar.subi v2 c1_i32
  let v18 : BitVec 32 := Scalar.select v16 v17 v2
  let v33 : BitVec 32 := Scalar.addi v32 v18
  let c512_i32 : BitVec 32 := 512#32
  let v34 : BitVec 32 := Scalar.muli v33 c512_i32
  let c0_i32_22 : BitVec 32 := 0#32
  let c1_i32_24 : BitVec 32 := 1#32
  let arg11 : BitVec 32 := Scf.iv c0_i32_22 c1_i32_24 k1_t2
  let c2_i32_27 : BitVec 32 := 2#32
  let v49 : BitVec 32 := Scalar.muli arg11 c2_i32_27
  let c0_i32_28 : BitVec 32 := 0#32
  let v50 : BitVec 32 := Scalar.addi v49 c0_i32_28
  let c2_i32_36 : BitVec 32 := 2#32
  let v57 : BitVec 32 := Scalar.addi v50 c2_i32_36
  let c32_i32_51 : BitVec 32 := 32#32
  let v73 : BitVec 32 := Scalar.muli v57 c32_i32_51
  let v74 : BitVec 32 := Scalar.addi v34 v73
  let c0_i32_52 : BitVec 32 := 0#32
  ![v74.toNat, 0]
@[reducible] def k1_t4_loop : Scf.Loop 32 :=
  let c0_i32_44 : BitVec 32 := 0#32
  let c2_i32_45 : BitVec 32 := 2#32
  let v67 : BitVec 32 := Scalar.addi c0_i32_44 c2_i32_45
  let c1_i32_46 : BitVec 32 := 1#32
  ⟨c0_i32_44, v67, c1_i32_46⟩
def k1_off798 (k1_t2 : Fin k1_t2_loop.trips) (k1_t4 : Fin k1_t4_loop.trips) : Fin 1 → Nat :=
  let c0_i32_22 : BitVec 32 := 0#32
  let c1_i32_24 : BitVec 32 := 1#32
  let arg11 : BitVec 32 := Scf.iv c0_i32_22 c1_i32_24 k1_t2
  let c2_i32_39 : BitVec 32 := 2#32
  let v61 : BitVec 32 := Scalar.muli arg11 c2_i32_39
  let c1_i32_40 : BitVec 32 := 1#32
  let v62 : BitVec 32 := Scalar.addi v61 c1_i32_40
  let c32_i32_51 : BitVec 32 := 32#32
  let v73 : BitVec 32 := Scalar.muli v62 c32_i32_51
  let c0_i32_44 : BitVec 32 := 0#32
  let c1_i32_46 : BitVec 32 := 1#32
  let arg37 : BitVec 32 := Scf.iv c0_i32_44 c1_i32_46 k1_t4
  let c16_i32_52 : BitVec 32 := 16#32
  let v74 : BitVec 32 := Scalar.muli arg37 c16_i32_52
  let v75 : BitVec 32 := Scalar.addi v73 v74
  let v76 : Index := Scalar.indexCast v75
  ![v76.toNat]
def k1_off799 (k1_t4 : Fin k1_t4_loop.trips) : Fin 2 → Nat :=
  let c0_i32_44 : BitVec 32 := 0#32
  let c1_i32_46 : BitVec 32 := 1#32
  let arg37 : BitVec 32 := Scf.iv c0_i32_44 c1_i32_46 k1_t4
  let c16_i32_53 : BitVec 32 := 16#32
  let v81 : BitVec 32 := Scalar.muli arg37 c16_i32_53
  let c0_i32_54 : BitVec 32 := 0#32
  let v82 : BitVec 32 := Scalar.addi v81 c0_i32_54
  let v84 : Index := Scalar.indexCast v82
  let c0 : Index := 0#32
  ![v84.toNat, 0]
def k1_off800 (k1_t4 : Fin k1_t4_loop.trips) : Fin 2 → Nat :=
  let c0_i32_44 : BitVec 32 := 0#32
  let c1_i32_46 : BitVec 32 := 1#32
  let arg37 : BitVec 32 := Scf.iv c0_i32_44 c1_i32_46 k1_t4
  let c16_i32_53 : BitVec 32 := 16#32
  let v81 : BitVec 32 := Scalar.muli arg37 c16_i32_53
  let c0_i32_54 : BitVec 32 := 0#32
  let v82 : BitVec 32 := Scalar.addi v81 c0_i32_54
  let v92 : Index := Scalar.indexCast v82
  let c16 : Index := 16#32
  ![v92.toNat, 16]
def k1_off801 (k1_t4 : Fin k1_t4_loop.trips) : Fin 2 → Nat :=
  let c0_i32_44 : BitVec 32 := 0#32
  let c1_i32_46 : BitVec 32 := 1#32
  let arg37 : BitVec 32 := Scf.iv c0_i32_44 c1_i32_46 k1_t4
  let c16_i32_53 : BitVec 32 := 16#32
  let v81 : BitVec 32 := Scalar.muli arg37 c16_i32_53
  let c0_i32_54 : BitVec 32 := 0#32
  let v82 : BitVec 32 := Scalar.addi v81 c0_i32_54
  let v100 : Index := Scalar.indexCast v82
  let c32 : Index := 32#32
  ![v100.toNat, 32]
def k1_off802 (k1_t4 : Fin k1_t4_loop.trips) : Fin 2 → Nat :=
  let c0_i32_44 : BitVec 32 := 0#32
  let c1_i32_46 : BitVec 32 := 1#32
  let arg37 : BitVec 32 := Scf.iv c0_i32_44 c1_i32_46 k1_t4
  let c16_i32_53 : BitVec 32 := 16#32
  let v81 : BitVec 32 := Scalar.muli arg37 c16_i32_53
  let c0_i32_54 : BitVec 32 := 0#32
  let v82 : BitVec 32 := Scalar.addi v81 c0_i32_54
  let v108 : Index := Scalar.indexCast v82
  let c48 : Index := 48#32
  ![v108.toNat, 48]
def k1_off803 (k1_t4 : Fin k1_t4_loop.trips) : Fin 2 → Nat :=
  let c0_i32_44 : BitVec 32 := 0#32
  let c1_i32_46 : BitVec 32 := 1#32
  let arg37 : BitVec 32 := Scf.iv c0_i32_44 c1_i32_46 k1_t4
  let c16_i32_53 : BitVec 32 := 16#32
  let v81 : BitVec 32 := Scalar.muli arg37 c16_i32_53
  let c0_i32_54 : BitVec 32 := 0#32
  let v82 : BitVec 32 := Scalar.addi v81 c0_i32_54
  let v116 : Index := Scalar.indexCast v82
  let c64 : Index := 64#32
  ![v116.toNat, 64]
def k1_off804 (k1_t4 : Fin k1_t4_loop.trips) : Fin 2 → Nat :=
  let c0_i32_44 : BitVec 32 := 0#32
  let c1_i32_46 : BitVec 32 := 1#32
  let arg37 : BitVec 32 := Scf.iv c0_i32_44 c1_i32_46 k1_t4
  let c16_i32_53 : BitVec 32 := 16#32
  let v81 : BitVec 32 := Scalar.muli arg37 c16_i32_53
  let c0_i32_54 : BitVec 32 := 0#32
  let v82 : BitVec 32 := Scalar.addi v81 c0_i32_54
  let v124 : Index := Scalar.indexCast v82
  let c80 : Index := 80#32
  ![v124.toNat, 80]
def k1_off805 (k1_t4 : Fin k1_t4_loop.trips) : Fin 2 → Nat :=
  let c0_i32_44 : BitVec 32 := 0#32
  let c1_i32_46 : BitVec 32 := 1#32
  let arg37 : BitVec 32 := Scf.iv c0_i32_44 c1_i32_46 k1_t4
  let c16_i32_53 : BitVec 32 := 16#32
  let v81 : BitVec 32 := Scalar.muli arg37 c16_i32_53
  let c0_i32_54 : BitVec 32 := 0#32
  let v82 : BitVec 32 := Scalar.addi v81 c0_i32_54
  let v132 : Index := Scalar.indexCast v82
  let c96 : Index := 96#32
  ![v132.toNat, 96]
def k1_off806 (k1_t4 : Fin k1_t4_loop.trips) : Fin 2 → Nat :=
  let c0_i32_44 : BitVec 32 := 0#32
  let c1_i32_46 : BitVec 32 := 1#32
  let arg37 : BitVec 32 := Scf.iv c0_i32_44 c1_i32_46 k1_t4
  let c16_i32_53 : BitVec 32 := 16#32
  let v81 : BitVec 32 := Scalar.muli arg37 c16_i32_53
  let c0_i32_54 : BitVec 32 := 0#32
  let v82 : BitVec 32 := Scalar.addi v81 c0_i32_54
  let v140 : Index := Scalar.indexCast v82
  let c112 : Index := 112#32
  ![v140.toNat, 112]
def k1_off807 (k1_t4 : Fin k1_t4_loop.trips) : Fin 2 → Nat :=
  let c0_i32_44 : BitVec 32 := 0#32
  let c1_i32_46 : BitVec 32 := 1#32
  let arg37 : BitVec 32 := Scf.iv c0_i32_44 c1_i32_46 k1_t4
  let c16_i32_53 : BitVec 32 := 16#32
  let v81 : BitVec 32 := Scalar.muli arg37 c16_i32_53
  let c0_i32_54 : BitVec 32 := 0#32
  let v82 : BitVec 32 := Scalar.addi v81 c0_i32_54
  let v148 : Index := Scalar.indexCast v82
  let c128 : Index := 128#32
  ![v148.toNat, 128]
def k1_off808 (k1_t4 : Fin k1_t4_loop.trips) : Fin 2 → Nat :=
  let c0_i32_44 : BitVec 32 := 0#32
  let c1_i32_46 : BitVec 32 := 1#32
  let arg37 : BitVec 32 := Scf.iv c0_i32_44 c1_i32_46 k1_t4
  let c16_i32_53 : BitVec 32 := 16#32
  let v81 : BitVec 32 := Scalar.muli arg37 c16_i32_53
  let c0_i32_54 : BitVec 32 := 0#32
  let v82 : BitVec 32 := Scalar.addi v81 c0_i32_54
  let v156 : Index := Scalar.indexCast v82
  let c144 : Index := 144#32
  ![v156.toNat, 144]
def k1_off809 (k1_t4 : Fin k1_t4_loop.trips) : Fin 2 → Nat :=
  let c0_i32_44 : BitVec 32 := 0#32
  let c1_i32_46 : BitVec 32 := 1#32
  let arg37 : BitVec 32 := Scf.iv c0_i32_44 c1_i32_46 k1_t4
  let c16_i32_53 : BitVec 32 := 16#32
  let v81 : BitVec 32 := Scalar.muli arg37 c16_i32_53
  let c0_i32_54 : BitVec 32 := 0#32
  let v82 : BitVec 32 := Scalar.addi v81 c0_i32_54
  let v164 : Index := Scalar.indexCast v82
  let c160 : Index := 160#32
  ![v164.toNat, 160]
def k1_off810 (k1_t4 : Fin k1_t4_loop.trips) : Fin 2 → Nat :=
  let c0_i32_44 : BitVec 32 := 0#32
  let c1_i32_46 : BitVec 32 := 1#32
  let arg37 : BitVec 32 := Scf.iv c0_i32_44 c1_i32_46 k1_t4
  let c16_i32_53 : BitVec 32 := 16#32
  let v81 : BitVec 32 := Scalar.muli arg37 c16_i32_53
  let c0_i32_54 : BitVec 32 := 0#32
  let v82 : BitVec 32 := Scalar.addi v81 c0_i32_54
  let v172 : Index := Scalar.indexCast v82
  let c176 : Index := 176#32
  ![v172.toNat, 176]
def k1_off811 (k1_t4 : Fin k1_t4_loop.trips) : Fin 2 → Nat :=
  let c0_i32_44 : BitVec 32 := 0#32
  let c1_i32_46 : BitVec 32 := 1#32
  let arg37 : BitVec 32 := Scf.iv c0_i32_44 c1_i32_46 k1_t4
  let c16_i32_53 : BitVec 32 := 16#32
  let v81 : BitVec 32 := Scalar.muli arg37 c16_i32_53
  let c0_i32_54 : BitVec 32 := 0#32
  let v82 : BitVec 32 := Scalar.addi v81 c0_i32_54
  let v180 : Index := Scalar.indexCast v82
  let c192 : Index := 192#32
  ![v180.toNat, 192]
def k1_off812 (k1_t4 : Fin k1_t4_loop.trips) : Fin 2 → Nat :=
  let c0_i32_44 : BitVec 32 := 0#32
  let c1_i32_46 : BitVec 32 := 1#32
  let arg37 : BitVec 32 := Scf.iv c0_i32_44 c1_i32_46 k1_t4
  let c16_i32_53 : BitVec 32 := 16#32
  let v81 : BitVec 32 := Scalar.muli arg37 c16_i32_53
  let c0_i32_54 : BitVec 32 := 0#32
  let v82 : BitVec 32 := Scalar.addi v81 c0_i32_54
  let v188 : Index := Scalar.indexCast v82
  let c208 : Index := 208#32
  ![v188.toNat, 208]
def k1_off813 (k1_t4 : Fin k1_t4_loop.trips) : Fin 2 → Nat :=
  let c0_i32_44 : BitVec 32 := 0#32
  let c1_i32_46 : BitVec 32 := 1#32
  let arg37 : BitVec 32 := Scf.iv c0_i32_44 c1_i32_46 k1_t4
  let c16_i32_53 : BitVec 32 := 16#32
  let v81 : BitVec 32 := Scalar.muli arg37 c16_i32_53
  let c0_i32_54 : BitVec 32 := 0#32
  let v82 : BitVec 32 := Scalar.addi v81 c0_i32_54
  let v196 : Index := Scalar.indexCast v82
  let c224 : Index := 224#32
  ![v196.toNat, 224]
def k1_off814 (k1_t4 : Fin k1_t4_loop.trips) : Fin 2 → Nat :=
  let c0_i32_44 : BitVec 32 := 0#32
  let c1_i32_46 : BitVec 32 := 1#32
  let arg37 : BitVec 32 := Scf.iv c0_i32_44 c1_i32_46 k1_t4
  let c16_i32_53 : BitVec 32 := 16#32
  let v81 : BitVec 32 := Scalar.muli arg37 c16_i32_53
  let c0_i32_54 : BitVec 32 := 0#32
  let v82 : BitVec 32 := Scalar.addi v81 c0_i32_54
  let v204 : Index := Scalar.indexCast v82
  let c240 : Index := 240#32
  ![v204.toNat, 240]
def k1_off815 (k1_t4 : Fin k1_t4_loop.trips) : Fin 2 → Nat :=
  let c0_i32_44 : BitVec 32 := 0#32
  let c1_i32_46 : BitVec 32 := 1#32
  let arg37 : BitVec 32 := Scf.iv c0_i32_44 c1_i32_46 k1_t4
  let c16_i32_53 : BitVec 32 := 16#32
  let v81 : BitVec 32 := Scalar.muli arg37 c16_i32_53
  let c0_i32_54 : BitVec 32 := 0#32
  let v82 : BitVec 32 := Scalar.addi v81 c0_i32_54
  let v212 : Index := Scalar.indexCast v82
  let c256 : Index := 256#32
  ![v212.toNat, 256]
def k1_off816 (k1_t4 : Fin k1_t4_loop.trips) : Fin 2 → Nat :=
  let c0_i32_44 : BitVec 32 := 0#32
  let c1_i32_46 : BitVec 32 := 1#32
  let arg37 : BitVec 32 := Scf.iv c0_i32_44 c1_i32_46 k1_t4
  let c16_i32_53 : BitVec 32 := 16#32
  let v81 : BitVec 32 := Scalar.muli arg37 c16_i32_53
  let c0_i32_54 : BitVec 32 := 0#32
  let v82 : BitVec 32 := Scalar.addi v81 c0_i32_54
  let v220 : Index := Scalar.indexCast v82
  let c272 : Index := 272#32
  ![v220.toNat, 272]
def k1_off817 (k1_t4 : Fin k1_t4_loop.trips) : Fin 2 → Nat :=
  let c0_i32_44 : BitVec 32 := 0#32
  let c1_i32_46 : BitVec 32 := 1#32
  let arg37 : BitVec 32 := Scf.iv c0_i32_44 c1_i32_46 k1_t4
  let c16_i32_53 : BitVec 32 := 16#32
  let v81 : BitVec 32 := Scalar.muli arg37 c16_i32_53
  let c0_i32_54 : BitVec 32 := 0#32
  let v82 : BitVec 32 := Scalar.addi v81 c0_i32_54
  let v228 : Index := Scalar.indexCast v82
  let c288 : Index := 288#32
  ![v228.toNat, 288]
def k1_off818 (k1_t4 : Fin k1_t4_loop.trips) : Fin 2 → Nat :=
  let c0_i32_44 : BitVec 32 := 0#32
  let c1_i32_46 : BitVec 32 := 1#32
  let arg37 : BitVec 32 := Scf.iv c0_i32_44 c1_i32_46 k1_t4
  let c16_i32_53 : BitVec 32 := 16#32
  let v81 : BitVec 32 := Scalar.muli arg37 c16_i32_53
  let c0_i32_54 : BitVec 32 := 0#32
  let v82 : BitVec 32 := Scalar.addi v81 c0_i32_54
  let v236 : Index := Scalar.indexCast v82
  let c304 : Index := 304#32
  ![v236.toNat, 304]
def k1_off819 (k1_t4 : Fin k1_t4_loop.trips) : Fin 2 → Nat :=
  let c0_i32_44 : BitVec 32 := 0#32
  let c1_i32_46 : BitVec 32 := 1#32
  let arg37 : BitVec 32 := Scf.iv c0_i32_44 c1_i32_46 k1_t4
  let c16_i32_53 : BitVec 32 := 16#32
  let v81 : BitVec 32 := Scalar.muli arg37 c16_i32_53
  let c0_i32_54 : BitVec 32 := 0#32
  let v82 : BitVec 32 := Scalar.addi v81 c0_i32_54
  let v244 : Index := Scalar.indexCast v82
  let c320 : Index := 320#32
  ![v244.toNat, 320]
def k1_off820 (k1_t4 : Fin k1_t4_loop.trips) : Fin 2 → Nat :=
  let c0_i32_44 : BitVec 32 := 0#32
  let c1_i32_46 : BitVec 32 := 1#32
  let arg37 : BitVec 32 := Scf.iv c0_i32_44 c1_i32_46 k1_t4
  let c16_i32_53 : BitVec 32 := 16#32
  let v81 : BitVec 32 := Scalar.muli arg37 c16_i32_53
  let c0_i32_54 : BitVec 32 := 0#32
  let v82 : BitVec 32 := Scalar.addi v81 c0_i32_54
  let v252 : Index := Scalar.indexCast v82
  let c336 : Index := 336#32
  ![v252.toNat, 336]
def k1_off821 (k1_t4 : Fin k1_t4_loop.trips) : Fin 2 → Nat :=
  let c0_i32_44 : BitVec 32 := 0#32
  let c1_i32_46 : BitVec 32 := 1#32
  let arg37 : BitVec 32 := Scf.iv c0_i32_44 c1_i32_46 k1_t4
  let c16_i32_53 : BitVec 32 := 16#32
  let v81 : BitVec 32 := Scalar.muli arg37 c16_i32_53
  let c0_i32_54 : BitVec 32 := 0#32
  let v82 : BitVec 32 := Scalar.addi v81 c0_i32_54
  let v260 : Index := Scalar.indexCast v82
  let c352 : Index := 352#32
  ![v260.toNat, 352]
def k1_off822 (k1_t4 : Fin k1_t4_loop.trips) : Fin 2 → Nat :=
  let c0_i32_44 : BitVec 32 := 0#32
  let c1_i32_46 : BitVec 32 := 1#32
  let arg37 : BitVec 32 := Scf.iv c0_i32_44 c1_i32_46 k1_t4
  let c16_i32_53 : BitVec 32 := 16#32
  let v81 : BitVec 32 := Scalar.muli arg37 c16_i32_53
  let c0_i32_54 : BitVec 32 := 0#32
  let v82 : BitVec 32 := Scalar.addi v81 c0_i32_54
  let v268 : Index := Scalar.indexCast v82
  let c368 : Index := 368#32
  ![v268.toNat, 368]
def k1_off823 (v80 : BitVec 32) : Fin 2 → Nat :=
  let v276 : Index := Scalar.indexCast v80
  let c0_79 : Index := 0#32
  ![v276.toNat, 0]

def k1_off824 (v80 : BitVec 32) : Fin 2 → Nat :=
  let v280 : Index := Scalar.indexCast v80
  let c16_80 : Index := 16#32
  ![v280.toNat, 16]
def k1_off825 (v80 : BitVec 32) : Fin 2 → Nat :=
  let v284 : Index := Scalar.indexCast v80
  let c32_81 : Index := 32#32
  ![v284.toNat, 32]
def k1_off826 (v80 : BitVec 32) : Fin 2 → Nat :=
  let v288 : Index := Scalar.indexCast v80
  let c48_82 : Index := 48#32
  ![v288.toNat, 48]
def k1_off827 (v80 : BitVec 32) : Fin 2 → Nat :=
  let v292 : Index := Scalar.indexCast v80
  let c64_83 : Index := 64#32
  ![v292.toNat, 64]
def k1_off828 (v80 : BitVec 32) : Fin 2 → Nat :=
  let v296 : Index := Scalar.indexCast v80
  let c80_84 : Index := 80#32
  ![v296.toNat, 80]
def k1_off829 (v80 : BitVec 32) : Fin 2 → Nat :=
  let v300 : Index := Scalar.indexCast v80
  let c96_85 : Index := 96#32
  ![v300.toNat, 96]
def k1_off830 (v80 : BitVec 32) : Fin 2 → Nat :=
  let v304 : Index := Scalar.indexCast v80
  let c112_86 : Index := 112#32
  ![v304.toNat, 112]
def k1_off831 (v80 : BitVec 32) : Fin 2 → Nat :=
  let v308 : Index := Scalar.indexCast v80
  let c128_87 : Index := 128#32
  ![v308.toNat, 128]
def k1_off832 (v80 : BitVec 32) : Fin 2 → Nat :=
  let v312 : Index := Scalar.indexCast v80
  let c144_88 : Index := 144#32
  ![v312.toNat, 144]
def k1_off833 (v80 : BitVec 32) : Fin 2 → Nat :=
  let v316 : Index := Scalar.indexCast v80
  let c160_89 : Index := 160#32
  ![v316.toNat, 160]
def k1_off834 (v80 : BitVec 32) : Fin 2 → Nat :=
  let v320 : Index := Scalar.indexCast v80
  let c176_90 : Index := 176#32
  ![v320.toNat, 176]
def k1_off835 (v80 : BitVec 32) : Fin 2 → Nat :=
  let v324 : Index := Scalar.indexCast v80
  let c192_91 : Index := 192#32
  ![v324.toNat, 192]
def k1_off836 (v80 : BitVec 32) : Fin 2 → Nat :=
  let v328 : Index := Scalar.indexCast v80
  let c208_92 : Index := 208#32
  ![v328.toNat, 208]
def k1_off837 (v80 : BitVec 32) : Fin 2 → Nat :=
  let v332 : Index := Scalar.indexCast v80
  let c224_93 : Index := 224#32
  ![v332.toNat, 224]
def k1_off838 (v80 : BitVec 32) : Fin 2 → Nat :=
  let v336 : Index := Scalar.indexCast v80
  let c240_94 : Index := 240#32
  ![v336.toNat, 240]
def k1_off839 (v80 : BitVec 32) : Fin 2 → Nat :=
  let v340 : Index := Scalar.indexCast v80
  let c256_95 : Index := 256#32
  ![v340.toNat, 256]
def k1_off840 (v80 : BitVec 32) : Fin 2 → Nat :=
  let v344 : Index := Scalar.indexCast v80
  let c272_96 : Index := 272#32
  ![v344.toNat, 272]
def k1_off841 (v80 : BitVec 32) : Fin 2 → Nat :=
  let v348 : Index := Scalar.indexCast v80
  let c288_97 : Index := 288#32
  ![v348.toNat, 288]
def k1_off842 (v80 : BitVec 32) : Fin 2 → Nat :=
  let v352 : Index := Scalar.indexCast v80
  let c304_98 : Index := 304#32
  ![v352.toNat, 304]
def k1_off843 (v80 : BitVec 32) : Fin 2 → Nat :=
  let v356 : Index := Scalar.indexCast v80
  let c320_99 : Index := 320#32
  ![v356.toNat, 320]
def k1_off844 (v80 : BitVec 32) : Fin 2 → Nat :=
  let v360 : Index := Scalar.indexCast v80
  let c336_100 : Index := 336#32
  ![v360.toNat, 336]
def k1_off845 (v80 : BitVec 32) : Fin 2 → Nat :=
  let v364 : Index := Scalar.indexCast v80
  let c352_101 : Index := 352#32
  ![v364.toNat, 352]
def k1_off846 (v80 : BitVec 32) : Fin 2 → Nat :=
  let v368 : Index := Scalar.indexCast v80
  let c368_102 : Index := 368#32
  ![v368.toNat, 368]

def k1_chk17 (i : grid1.Coords) (v80 : BitVec 32) : Prop :=
  (∀ (k1_h1 : k1_cond1 i = 1#1), ∀ a, (k1_off823 v80) a + S1x16.size a ≤ S256x384.size a) ∧
  (∀ (k1_h1 : k1_cond1 i = 1#1), ∀ a, (k1_off824 v80) a + S1x16.size a ≤ S256x384.size a) ∧
  (∀ (k1_h1 : k1_cond1 i = 1#1), ∀ a, (k1_off825 v80) a + S1x16.size a ≤ S256x384.size a) ∧
  (∀ (k1_h1 : k1_cond1 i = 1#1), ∀ a, (k1_off826 v80) a + S1x16.size a ≤ S256x384.size a) ∧
  (∀ (k1_h1 : k1_cond1 i = 1#1), ∀ a, (k1_off827 v80) a + S1x16.size a ≤ S256x384.size a) ∧
  (∀ (k1_h1 : k1_cond1 i = 1#1), ∀ a, (k1_off828 v80) a + S1x16.size a ≤ S256x384.size a) ∧
  (∀ (k1_h1 : k1_cond1 i = 1#1), ∀ a, (k1_off829 v80) a + S1x16.size a ≤ S256x384.size a) ∧
  (∀ (k1_h1 : k1_cond1 i = 1#1), ∀ a, (k1_off830 v80) a + S1x16.size a ≤ S256x384.size a) ∧
  (∀ (k1_h1 : k1_cond1 i = 1#1), ∀ a, (k1_off831 v80) a + S1x16.size a ≤ S256x384.size a) ∧
  (∀ (k1_h1 : k1_cond1 i = 1#1), ∀ a, (k1_off832 v80) a + S1x16.size a ≤ S256x384.size a) ∧
  (∀ (k1_h1 : k1_cond1 i = 1#1), ∀ a, (k1_off833 v80) a + S1x16.size a ≤ S256x384.size a) ∧
  (∀ (k1_h1 : k1_cond1 i = 1#1), ∀ a, (k1_off834 v80) a + S1x16.size a ≤ S256x384.size a) ∧
  (∀ (k1_h1 : k1_cond1 i = 1#1), ∀ a, (k1_off835 v80) a + S1x16.size a ≤ S256x384.size a) ∧
  (∀ (k1_h1 : k1_cond1 i = 1#1), ∀ a, (k1_off836 v80) a + S1x16.size a ≤ S256x384.size a) ∧
  (∀ (k1_h1 : k1_cond1 i = 1#1), ∀ a, (k1_off837 v80) a + S1x16.size a ≤ S256x384.size a) ∧
  (∀ (k1_h1 : k1_cond1 i = 1#1), ∀ a, (k1_off838 v80) a + S1x16.size a ≤ S256x384.size a) ∧
  (∀ (k1_h1 : k1_cond1 i = 1#1), ∀ a, (k1_off839 v80) a + S1x16.size a ≤ S256x384.size a) ∧
  (∀ (k1_h1 : k1_cond1 i = 1#1), ∀ a, (k1_off840 v80) a + S1x16.size a ≤ S256x384.size a) ∧
  (∀ (k1_h1 : k1_cond1 i = 1#1), ∀ a, (k1_off841 v80) a + S1x16.size a ≤ S256x384.size a) ∧
  (∀ (k1_h1 : k1_cond1 i = 1#1), ∀ a, (k1_off842 v80) a + S1x16.size a ≤ S256x384.size a) ∧
  (∀ (k1_h1 : k1_cond1 i = 1#1), ∀ a, (k1_off843 v80) a + S1x16.size a ≤ S256x384.size a) ∧
  (∀ (k1_h1 : k1_cond1 i = 1#1), ∀ a, (k1_off844 v80) a + S1x16.size a ≤ S256x384.size a) ∧
  (∀ (k1_h1 : k1_cond1 i = 1#1), ∀ a, (k1_off845 v80) a + S1x16.size a ≤ S256x384.size a) ∧
  (∀ (k1_h1 : k1_cond1 i = 1#1), ∀ a, (k1_off846 v80) a + S1x16.size a ≤ S256x384.size a)
theorem k1_off823_inb : ∀ (i : grid1.Coords) (v80 : BitVec 32) (k1_hw17 : k1_chk17 i v80), ∀ (k1_h1 : k1_cond1 i = 1#1), ∀ a, (k1_off823 v80) a + S1x16.size a ≤ S256x384.size a := fun i v80 k1_hw17 k1_h1 => k1_hw17.1 k1_h1
theorem k1_off824_inb : ∀ (i : grid1.Coords) (v80 : BitVec 32) (k1_hw17 : k1_chk17 i v80), ∀ (k1_h1 : k1_cond1 i = 1#1), ∀ a, (k1_off824 v80) a + S1x16.size a ≤ S256x384.size a := fun i v80 k1_hw17 k1_h1 => k1_hw17.2.1 k1_h1
theorem k1_off825_inb : ∀ (i : grid1.Coords) (v80 : BitVec 32) (k1_hw17 : k1_chk17 i v80), ∀ (k1_h1 : k1_cond1 i = 1#1), ∀ a, (k1_off825 v80) a + S1x16.size a ≤ S256x384.size a := fun i v80 k1_hw17 k1_h1 => k1_hw17.2.2.1 k1_h1
theorem k1_off826_inb : ∀ (i : grid1.Coords) (v80 : BitVec 32) (k1_hw17 : k1_chk17 i v80), ∀ (k1_h1 : k1_cond1 i = 1#1), ∀ a, (k1_off826 v80) a + S1x16.size a ≤ S256x384.size a := fun i v80 k1_hw17 k1_h1 => k1_hw17.2.2.2.1 k1_h1
theorem k1_off827_inb : ∀ (i : grid1.Coords) (v80 : BitVec 32) (k1_hw17 : k1_chk17 i v80), ∀ (k1_h1 : k1_cond1 i = 1#1), ∀ a, (k1_off827 v80) a + S1x16.size a ≤ S256x384.size a := fun i v80 k1_hw17 k1_h1 => k1_hw17.2.2.2.2.1 k1_h1
theorem k1_off828_inb : ∀ (i : grid1.Coords) (v80 : BitVec 32) (k1_hw17 : k1_chk17 i v80), ∀ (k1_h1 : k1_cond1 i = 1#1), ∀ a, (k1_off828 v80) a + S1x16.size a ≤ S256x384.size a := fun i v80 k1_hw17 k1_h1 => k1_hw17.2.2.2.2.2.1 k1_h1
theorem k1_off829_inb : ∀ (i : grid1.Coords) (v80 : BitVec 32) (k1_hw17 : k1_chk17 i v80), ∀ (k1_h1 : k1_cond1 i = 1#1), ∀ a, (k1_off829 v80) a + S1x16.size a ≤ S256x384.size a := fun i v80 k1_hw17 k1_h1 => k1_hw17.2.2.2.2.2.2.1 k1_h1
theorem k1_off830_inb : ∀ (i : grid1.Coords) (v80 : BitVec 32) (k1_hw17 : k1_chk17 i v80), ∀ (k1_h1 : k1_cond1 i = 1#1), ∀ a, (k1_off830 v80) a + S1x16.size a ≤ S256x384.size a := fun i v80 k1_hw17 k1_h1 => k1_hw17.2.2.2.2.2.2.2.1 k1_h1
theorem k1_off831_inb : ∀ (i : grid1.Coords) (v80 : BitVec 32) (k1_hw17 : k1_chk17 i v80), ∀ (k1_h1 : k1_cond1 i = 1#1), ∀ a, (k1_off831 v80) a + S1x16.size a ≤ S256x384.size a := fun i v80 k1_hw17 k1_h1 => k1_hw17.2.2.2.2.2.2.2.2.1 k1_h1
theorem k1_off832_inb : ∀ (i : grid1.Coords) (v80 : BitVec 32) (k1_hw17 : k1_chk17 i v80), ∀ (k1_h1 : k1_cond1 i = 1#1), ∀ a, (k1_off832 v80) a + S1x16.size a ≤ S256x384.size a := fun i v80 k1_hw17 k1_h1 => k1_hw17.2.2.2.2.2.2.2.2.2.1 k1_h1
theorem k1_off833_inb : ∀ (i : grid1.Coords) (v80 : BitVec 32) (k1_hw17 : k1_chk17 i v80), ∀ (k1_h1 : k1_cond1 i = 1#1), ∀ a, (k1_off833 v80) a + S1x16.size a ≤ S256x384.size a := fun i v80 k1_hw17 k1_h1 => k1_hw17.2.2.2.2.2.2.2.2.2.2.1 k1_h1
theorem k1_off834_inb : ∀ (i : grid1.Coords) (v80 : BitVec 32) (k1_hw17 : k1_chk17 i v80), ∀ (k1_h1 : k1_cond1 i = 1#1), ∀ a, (k1_off834 v80) a + S1x16.size a ≤ S256x384.size a := fun i v80 k1_hw17 k1_h1 => k1_hw17.2.2.2.2.2.2.2.2.2.2.2.1 k1_h1
theorem k1_off835_inb : ∀ (i : grid1.Coords) (v80 : BitVec 32) (k1_hw17 : k1_chk17 i v80), ∀ (k1_h1 : k1_cond1 i = 1#1), ∀ a, (k1_off835 v80) a + S1x16.size a ≤ S256x384.size a := fun i v80 k1_hw17 k1_h1 => k1_hw17.2.2.2.2.2.2.2.2.2.2.2.2.1 k1_h1
theorem k1_off836_inb : ∀ (i : grid1.Coords) (v80 : BitVec 32) (k1_hw17 : k1_chk17 i v80), ∀ (k1_h1 : k1_cond1 i = 1#1), ∀ a, (k1_off836 v80) a + S1x16.size a ≤ S256x384.size a := fun i v80 k1_hw17 k1_h1 => k1_hw17.2.2.2.2.2.2.2.2.2.2.2.2.2.1 k1_h1
theorem k1_off837_inb : ∀ (i : grid1.Coords) (v80 : BitVec 32) (k1_hw17 : k1_chk17 i v80), ∀ (k1_h1 : k1_cond1 i = 1#1), ∀ a, (k1_off837 v80) a + S1x16.size a ≤ S256x384.size a := fun i v80 k1_hw17 k1_h1 => k1_hw17.2.2.2.2.2.2.2.2.2.2.2.2.2.2.1 k1_h1
theorem k1_off838_inb : ∀ (i : grid1.Coords) (v80 : BitVec 32) (k1_hw17 : k1_chk17 i v80), ∀ (k1_h1 : k1_cond1 i = 1#1), ∀ a, (k1_off838 v80) a + S1x16.size a ≤ S256x384.size a := fun i v80 k1_hw17 k1_h1 => k1_hw17.2.2.2.2.2.2.2.2.2.2.2.2.2.2.2.1 k1_h1
theorem k1_off839_inb : ∀ (i : grid1.Coords) (v80 : BitVec 32) (k1_hw17 : k1_chk17 i v80), ∀ (k1_h1 : k1_cond1 i = 1#1), ∀ a, (k1_off839 v80) a + S1x16.size a ≤ S256x384.size a := fun i v80 k1_hw17 k1_h1 => k1_hw17.2.2.2.2.2.2.2.2.2.2.2.2.2.2.2.2.1 k1_h1
theorem k1_off840_inb : ∀ (i : grid1.Coords) (v80 : BitVec 32) (k1_hw17 : k1_chk17 i v80), ∀ (k1_h1 : k1_cond1 i = 1#1), ∀ a, (k1_off840 v80) a + S1x16.size a ≤ S256x384.size a := fun i v80 k1_hw17 k1_h1 => k1_hw17.2.2.2.2.2.2.2.2.2.2.2.2.2.2.2.2.2.1 k1_h1
theorem k1_off841_inb : ∀ (i : grid1.Coords) (v80 : BitVec 32) (k1_hw17 : k1_chk17 i v80), ∀ (k1_h1 : k1_cond1 i = 1#1), ∀ a, (k1_off841 v80) a + S1x16.size a ≤ S256x384.size a := fun i v80 k1_hw17 k1_h1 => k1_hw17.2.2.2.2.2.2.2.2.2.2.2.2.2.2.2.2.2.2.1 k1_h1
theorem k1_off842_inb : ∀ (i : grid1.Coords) (v80 : BitVec 32) (k1_hw17 : k1_chk17 i v80), ∀ (k1_h1 : k1_cond1 i = 1#1), ∀ a, (k1_off842 v80) a + S1x16.size a ≤ S256x384.size a := fun i v80 k1_hw17 k1_h1 => k1_hw17.2.2.2.2.2.2.2.2.2.2.2.2.2.2.2.2.2.2.2.1 k1_h1
theorem k1_off843_inb : ∀ (i : grid1.Coords) (v80 : BitVec 32) (k1_hw17 : k1_chk17 i v80), ∀ (k1_h1 : k1_cond1 i = 1#1), ∀ a, (k1_off843 v80) a + S1x16.size a ≤ S256x384.size a := fun i v80 k1_hw17 k1_h1 => k1_hw17.2.2.2.2.2.2.2.2.2.2.2.2.2.2.2.2.2.2.2.2.1 k1_h1
theorem k1_off844_inb : ∀ (i : grid1.Coords) (v80 : BitVec 32) (k1_hw17 : k1_chk17 i v80), ∀ (k1_h1 : k1_cond1 i = 1#1), ∀ a, (k1_off844 v80) a + S1x16.size a ≤ S256x384.size a := fun i v80 k1_hw17 k1_h1 => k1_hw17.2.2.2.2.2.2.2.2.2.2.2.2.2.2.2.2.2.2.2.2.2.1 k1_h1
theorem k1_off845_inb : ∀ (i : grid1.Coords) (v80 : BitVec 32) (k1_hw17 : k1_chk17 i v80), ∀ (k1_h1 : k1_cond1 i = 1#1), ∀ a, (k1_off845 v80) a + S1x16.size a ≤ S256x384.size a := fun i v80 k1_hw17 k1_h1 => k1_hw17.2.2.2.2.2.2.2.2.2.2.2.2.2.2.2.2.2.2.2.2.2.2.1 k1_h1
theorem k1_off846_inb : ∀ (i : grid1.Coords) (v80 : BitVec 32) (k1_hw17 : k1_chk17 i v80), ∀ (k1_h1 : k1_cond1 i = 1#1), ∀ a, (k1_off846 v80) a + S1x16.size a ≤ S256x384.size a := fun i v80 k1_hw17 k1_h1 => k1_hw17.2.2.2.2.2.2.2.2.2.2.2.2.2.2.2.2.2.2.2.2.2.2.2 k1_h1

def k1_off847 (k1_t4 : Fin k1_t4_loop.trips) : Fin 2 → Nat :=
  let c0_i32_44 : BitVec 32 := 0#32
  let c1_i32_46 : BitVec 32 := 1#32
  let arg37 : BitVec 32 := Scf.iv c0_i32_44 c1_i32_46 k1_t4
  let c16_i32_103 : BitVec 32 := 16#32
  let v374 : BitVec 32 := Scalar.muli arg37 c16_i32_103
  let c1_i32_104 : BitVec 32 := 1#32
  let v375 : BitVec 32 := Scalar.addi v374 c1_i32_104
  let v377 : Index := Scalar.indexCast v375
  let c0_105 : Index := 0#32
  ![v377.toNat, 0]
def k1_off848 (k1_t4 : Fin k1_t4_loop.trips) : Fin 2 → Nat :=
  let c0_i32_44 : BitVec 32 := 0#32
  let c1_i32_46 : BitVec 32 := 1#32
  let arg37 : BitVec 32 := Scf.iv c0_i32_44 c1_i32_46 k1_t4
  let c16_i32_103 : BitVec 32 := 16#32
  let v374 : BitVec 32 := Scalar.muli arg37 c16_i32_103
  let c1_i32_104 : BitVec 32 := 1#32
  let v375 : BitVec 32 := Scalar.addi v374 c1_i32_104
  let v385 : Index := Scalar.indexCast v375
  let c16_107 : Index := 16#32
  ![v385.toNat, 16]
def k1_off849 (k1_t4 : Fin k1_t4_loop.trips) : Fin 2 → Nat :=
  let c0_i32_44 : BitVec 32 := 0#32
  let c1_i32_46 : BitVec 32 := 1#32
  let arg37 : BitVec 32 := Scf.iv c0_i32_44 c1_i32_46 k1_t4
  let c16_i32_103 : BitVec 32 := 16#32
  let v374 : BitVec 32 := Scalar.muli arg37 c16_i32_103
  let c1_i32_104 : BitVec 32 := 1#32
  let v375 : BitVec 32 := Scalar.addi v374 c1_i32_104
  let v393 : Index := Scalar.indexCast v375
  let c32_109 : Index := 32#32
  ![v393.toNat, 32]
def k1_off850 (k1_t4 : Fin k1_t4_loop.trips) : Fin 2 → Nat :=
  let c0_i32_44 : BitVec 32 := 0#32
  let c1_i32_46 : BitVec 32 := 1#32
  let arg37 : BitVec 32 := Scf.iv c0_i32_44 c1_i32_46 k1_t4
  let c16_i32_103 : BitVec 32 := 16#32
  let v374 : BitVec 32 := Scalar.muli arg37 c16_i32_103
  let c1_i32_104 : BitVec 32 := 1#32
  let v375 : BitVec 32 := Scalar.addi v374 c1_i32_104
  let v401 : Index := Scalar.indexCast v375
  let c48_111 : Index := 48#32
  ![v401.toNat, 48]
def k1_off851 (k1_t4 : Fin k1_t4_loop.trips) : Fin 2 → Nat :=
  let c0_i32_44 : BitVec 32 := 0#32
  let c1_i32_46 : BitVec 32 := 1#32
  let arg37 : BitVec 32 := Scf.iv c0_i32_44 c1_i32_46 k1_t4
  let c16_i32_103 : BitVec 32 := 16#32
  let v374 : BitVec 32 := Scalar.muli arg37 c16_i32_103
  let c1_i32_104 : BitVec 32 := 1#32
  let v375 : BitVec 32 := Scalar.addi v374 c1_i32_104
  let v409 : Index := Scalar.indexCast v375
  let c64_113 : Index := 64#32
  ![v409.toNat, 64]
def k1_off852 (k1_t4 : Fin k1_t4_loop.trips) : Fin 2 → Nat :=
  let c0_i32_44 : BitVec 32 := 0#32
  let c1_i32_46 : BitVec 32 := 1#32
  let arg37 : BitVec 32 := Scf.iv c0_i32_44 c1_i32_46 k1_t4
  let c16_i32_103 : BitVec 32 := 16#32
  let v374 : BitVec 32 := Scalar.muli arg37 c16_i32_103
  let c1_i32_104 : BitVec 32 := 1#32
  let v375 : BitVec 32 := Scalar.addi v374 c1_i32_104
  let v417 : Index := Scalar.indexCast v375
  let c80_115 : Index := 80#32
  ![v417.toNat, 80]
def k1_off853 (k1_t4 : Fin k1_t4_loop.trips) : Fin 2 → Nat :=
  let c0_i32_44 : BitVec 32 := 0#32
  let c1_i32_46 : BitVec 32 := 1#32
  let arg37 : BitVec 32 := Scf.iv c0_i32_44 c1_i32_46 k1_t4
  let c16_i32_103 : BitVec 32 := 16#32
  let v374 : BitVec 32 := Scalar.muli arg37 c16_i32_103
  let c1_i32_104 : BitVec 32 := 1#32
  let v375 : BitVec 32 := Scalar.addi v374 c1_i32_104
  let v425 : Index := Scalar.indexCast v375
  let c96_117 : Index := 96#32
  ![v425.toNat, 96]
def k1_off854 (k1_t4 : Fin k1_t4_loop.trips) : Fin 2 → Nat :=
  let c0_i32_44 : BitVec 32 := 0#32
  let c1_i32_46 : BitVec 32 := 1#32
  let arg37 : BitVec 32 := Scf.iv c0_i32_44 c1_i32_46 k1_t4
  let c16_i32_103 : BitVec 32 := 16#32
  let v374 : BitVec 32 := Scalar.muli arg37 c16_i32_103
  let c1_i32_104 : BitVec 32 := 1#32
  let v375 : BitVec 32 := Scalar.addi v374 c1_i32_104
  let v433 : Index := Scalar.indexCast v375
  let c112_119 : Index := 112#32
  ![v433.toNat, 112]
def k1_off855 (k1_t4 : Fin k1_t4_loop.trips) : Fin 2 → Nat :=
  let c0_i32_44 : BitVec 32 := 0#32
  let c1_i32_46 : BitVec 32 := 1#32
  let arg37 : BitVec 32 := Scf.iv c0_i32_44 c1_i32_46 k1_t4
  let c16_i32_103 : BitVec 32 := 16#32
  let v374 : BitVec 32 := Scalar.muli arg37 c16_i32_103
  let c1_i32_104 : BitVec 32 := 1#32
  let v375 : BitVec 32 := Scalar.addi v374 c1_i32_104
  let v441 : Index := Scalar.indexCast v375
  let c128_121 : Index := 128#32
  ![v441.toNat, 128]
def k1_off856 (k1_t4 : Fin k1_t4_loop.trips) : Fin 2 → Nat :=
  let c0_i32_44 : BitVec 32 := 0#32
  let c1_i32_46 : BitVec 32 := 1#32
  let arg37 : BitVec 32 := Scf.iv c0_i32_44 c1_i32_46 k1_t4
  let c16_i32_103 : BitVec 32 := 16#32
  let v374 : BitVec 32 := Scalar.muli arg37 c16_i32_103
  let c1_i32_104 : BitVec 32 := 1#32
  let v375 : BitVec 32 := Scalar.addi v374 c1_i32_104
  let v449 : Index := Scalar.indexCast v375
  let c144_123 : Index := 144#32
  ![v449.toNat, 144]
def k1_off857 (k1_t4 : Fin k1_t4_loop.trips) : Fin 2 → Nat :=
  let c0_i32_44 : BitVec 32 := 0#32
  let c1_i32_46 : BitVec 32 := 1#32
  let arg37 : BitVec 32 := Scf.iv c0_i32_44 c1_i32_46 k1_t4
  let c16_i32_103 : BitVec 32 := 16#32
  let v374 : BitVec 32 := Scalar.muli arg37 c16_i32_103
  let c1_i32_104 : BitVec 32 := 1#32
  let v375 : BitVec 32 := Scalar.addi v374 c1_i32_104
  let v457 : Index := Scalar.indexCast v375
  let c160_125 : Index := 160#32
  ![v457.toNat, 160]
def k1_off858 (k1_t4 : Fin k1_t4_loop.trips) : Fin 2 → Nat :=
  let c0_i32_44 : BitVec 32 := 0#32
  let c1_i32_46 : BitVec 32 := 1#32
  let arg37 : BitVec 32 := Scf.iv c0_i32_44 c1_i32_46 k1_t4
  let c16_i32_103 : BitVec 32 := 16#32
  let v374 : BitVec 32 := Scalar.muli arg37 c16_i32_103
  let c1_i32_104 : BitVec 32 := 1#32
  let v375 : BitVec 32 := Scalar.addi v374 c1_i32_104
  let v465 : Index := Scalar.indexCast v375
  let c176_127 : Index := 176#32
  ![v465.toNat, 176]
def k1_off859 (k1_t4 : Fin k1_t4_loop.trips) : Fin 2 → Nat :=
  let c0_i32_44 : BitVec 32 := 0#32
  let c1_i32_46 : BitVec 32 := 1#32
  let arg37 : BitVec 32 := Scf.iv c0_i32_44 c1_i32_46 k1_t4
  let c16_i32_103 : BitVec 32 := 16#32
  let v374 : BitVec 32 := Scalar.muli arg37 c16_i32_103
  let c1_i32_104 : BitVec 32 := 1#32
  let v375 : BitVec 32 := Scalar.addi v374 c1_i32_104
  let v473 : Index := Scalar.indexCast v375
  let c192_129 : Index := 192#32
  ![v473.toNat, 192]
def k1_off860 (k1_t4 : Fin k1_t4_loop.trips) : Fin 2 → Nat :=
  let c0_i32_44 : BitVec 32 := 0#32
  let c1_i32_46 : BitVec 32 := 1#32
  let arg37 : BitVec 32 := Scf.iv c0_i32_44 c1_i32_46 k1_t4
  let c16_i32_103 : BitVec 32 := 16#32
  let v374 : BitVec 32 := Scalar.muli arg37 c16_i32_103
  let c1_i32_104 : BitVec 32 := 1#32
  let v375 : BitVec 32 := Scalar.addi v374 c1_i32_104
  let v481 : Index := Scalar.indexCast v375
  let c208_131 : Index := 208#32
  ![v481.toNat, 208]
def k1_off861 (k1_t4 : Fin k1_t4_loop.trips) : Fin 2 → Nat :=
  let c0_i32_44 : BitVec 32 := 0#32
  let c1_i32_46 : BitVec 32 := 1#32
  let arg37 : BitVec 32 := Scf.iv c0_i32_44 c1_i32_46 k1_t4
  let c16_i32_103 : BitVec 32 := 16#32
  let v374 : BitVec 32 := Scalar.muli arg37 c16_i32_103
  let c1_i32_104 : BitVec 32 := 1#32
  let v375 : BitVec 32 := Scalar.addi v374 c1_i32_104
  let v489 : Index := Scalar.indexCast v375
  let c224_133 : Index := 224#32
  ![v489.toNat, 224]
def k1_off862 (k1_t4 : Fin k1_t4_loop.trips) : Fin 2 → Nat :=
  let c0_i32_44 : BitVec 32 := 0#32
  let c1_i32_46 : BitVec 32 := 1#32
  let arg37 : BitVec 32 := Scf.iv c0_i32_44 c1_i32_46 k1_t4
  let c16_i32_103 : BitVec 32 := 16#32
  let v374 : BitVec 32 := Scalar.muli arg37 c16_i32_103
  let c1_i32_104 : BitVec 32 := 1#32
  let v375 : BitVec 32 := Scalar.addi v374 c1_i32_104
  let v497 : Index := Scalar.indexCast v375
  let c240_135 : Index := 240#32
  ![v497.toNat, 240]
def k1_off863 (k1_t4 : Fin k1_t4_loop.trips) : Fin 2 → Nat :=
  let c0_i32_44 : BitVec 32 := 0#32
  let c1_i32_46 : BitVec 32 := 1#32
  let arg37 : BitVec 32 := Scf.iv c0_i32_44 c1_i32_46 k1_t4
  let c16_i32_103 : BitVec 32 := 16#32
  let v374 : BitVec 32 := Scalar.muli arg37 c16_i32_103
  let c1_i32_104 : BitVec 32 := 1#32
  let v375 : BitVec 32 := Scalar.addi v374 c1_i32_104
  let v505 : Index := Scalar.indexCast v375
  let c256_137 : Index := 256#32
  ![v505.toNat, 256]
def k1_off864 (k1_t4 : Fin k1_t4_loop.trips) : Fin 2 → Nat :=
  let c0_i32_44 : BitVec 32 := 0#32
  let c1_i32_46 : BitVec 32 := 1#32
  let arg37 : BitVec 32 := Scf.iv c0_i32_44 c1_i32_46 k1_t4
  let c16_i32_103 : BitVec 32 := 16#32
  let v374 : BitVec 32 := Scalar.muli arg37 c16_i32_103
  let c1_i32_104 : BitVec 32 := 1#32
  let v375 : BitVec 32 := Scalar.addi v374 c1_i32_104
  let v513 : Index := Scalar.indexCast v375
  let c272_139 : Index := 272#32
  ![v513.toNat, 272]
def k1_off865 (k1_t4 : Fin k1_t4_loop.trips) : Fin 2 → Nat :=
  let c0_i32_44 : BitVec 32 := 0#32
  let c1_i32_46 : BitVec 32 := 1#32
  let arg37 : BitVec 32 := Scf.iv c0_i32_44 c1_i32_46 k1_t4
  let c16_i32_103 : BitVec 32 := 16#32
  let v374 : BitVec 32 := Scalar.muli arg37 c16_i32_103
  let c1_i32_104 : BitVec 32 := 1#32
  let v375 : BitVec 32 := Scalar.addi v374 c1_i32_104
  let v521 : Index := Scalar.indexCast v375
  let c288_141 : Index := 288#32
  ![v521.toNat, 288]
def k1_off866 (k1_t4 : Fin k1_t4_loop.trips) : Fin 2 → Nat :=
  let c0_i32_44 : BitVec 32 := 0#32
  let c1_i32_46 : BitVec 32 := 1#32
  let arg37 : BitVec 32 := Scf.iv c0_i32_44 c1_i32_46 k1_t4
  let c16_i32_103 : BitVec 32 := 16#32
  let v374 : BitVec 32 := Scalar.muli arg37 c16_i32_103
  let c1_i32_104 : BitVec 32 := 1#32
  let v375 : BitVec 32 := Scalar.addi v374 c1_i32_104
  let v529 : Index := Scalar.indexCast v375
  let c304_143 : Index := 304#32
  ![v529.toNat, 304]
def k1_off867 (k1_t4 : Fin k1_t4_loop.trips) : Fin 2 → Nat :=
  let c0_i32_44 : BitVec 32 := 0#32
  let c1_i32_46 : BitVec 32 := 1#32
  let arg37 : BitVec 32 := Scf.iv c0_i32_44 c1_i32_46 k1_t4
  let c16_i32_103 : BitVec 32 := 16#32
  let v374 : BitVec 32 := Scalar.muli arg37 c16_i32_103
  let c1_i32_104 : BitVec 32 := 1#32
  let v375 : BitVec 32 := Scalar.addi v374 c1_i32_104
  let v537 : Index := Scalar.indexCast v375
  let c320_145 : Index := 320#32
  ![v537.toNat, 320]
def k1_off868 (k1_t4 : Fin k1_t4_loop.trips) : Fin 2 → Nat :=
  let c0_i32_44 : BitVec 32 := 0#32
  let c1_i32_46 : BitVec 32 := 1#32
  let arg37 : BitVec 32 := Scf.iv c0_i32_44 c1_i32_46 k1_t4
  let c16_i32_103 : BitVec 32 := 16#32
  let v374 : BitVec 32 := Scalar.muli arg37 c16_i32_103
  let c1_i32_104 : BitVec 32 := 1#32
  let v375 : BitVec 32 := Scalar.addi v374 c1_i32_104
  let v545 : Index := Scalar.indexCast v375
  let c336_147 : Index := 336#32
  ![v545.toNat, 336]
def k1_off869 (k1_t4 : Fin k1_t4_loop.trips) : Fin 2 → Nat :=
  let c0_i32_44 : BitVec 32 := 0#32
  let c1_i32_46 : BitVec 32 := 1#32
  let arg37 : BitVec 32 := Scf.iv c0_i32_44 c1_i32_46 k1_t4
  let c16_i32_103 : BitVec 32 := 16#32
  let v374 : BitVec 32 := Scalar.muli arg37 c16_i32_103
  let c1_i32_104 : BitVec 32 := 1#32
  let v375 : BitVec 32 := Scalar.addi v374 c1_i32_104
  let v553 : Index := Scalar.indexCast v375
  let c352_149 : Index := 352#32
  ![v553.toNat, 352]
def k1_off870 (k1_t4 : Fin k1_t4_loop.trips) : Fin 2 → Nat :=
  let c0_i32_44 : BitVec 32 := 0#32
  let c1_i32_46 : BitVec 32 := 1#32
  let arg37 : BitVec 32 := Scf.iv c0_i32_44 c1_i32_46 k1_t4
  let c16_i32_103 : BitVec 32 := 16#32
  let v374 : BitVec 32 := Scalar.muli arg37 c16_i32_103
  let c1_i32_104 : BitVec 32 := 1#32
  let v375 : BitVec 32 := Scalar.addi v374 c1_i32_104
  let v561 : Index := Scalar.indexCast v375
  let c368_151 : Index := 368#32
  ![v561.toNat, 368]
def k1_off871 (v373 : BitVec 32) : Fin 2 → Nat :=
  let v569 : Index := Scalar.indexCast v373
  let c0_153 : Index := 0#32
  ![v569.toNat, 0]

def k1_off872 (v373 : BitVec 32) : Fin 2 → Nat :=
  let v573 : Index := Scalar.indexCast v373
  let c16_154 : Index := 16#32
  ![v573.toNat, 16]
def k1_off873 (v373 : BitVec 32) : Fin 2 → Nat :=
  let v577 : Index := Scalar.indexCast v373
  let c32_155 : Index := 32#32
  ![v577.toNat, 32]
def k1_off874 (v373 : BitVec 32) : Fin 2 → Nat :=
  let v581 : Index := Scalar.indexCast v373
  let c48_156 : Index := 48#32
  ![v581.toNat, 48]
def k1_off875 (v373 : BitVec 32) : Fin 2 → Nat :=
  let v585 : Index := Scalar.indexCast v373
  let c64_157 : Index := 64#32
  ![v585.toNat, 64]
def k1_off876 (v373 : BitVec 32) : Fin 2 → Nat :=
  let v589 : Index := Scalar.indexCast v373
  let c80_158 : Index := 80#32
  ![v589.toNat, 80]
def k1_off877 (v373 : BitVec 32) : Fin 2 → Nat :=
  let v593 : Index := Scalar.indexCast v373
  let c96_159 : Index := 96#32
  ![v593.toNat, 96]
def k1_off878 (v373 : BitVec 32) : Fin 2 → Nat :=
  let v597 : Index := Scalar.indexCast v373
  let c112_160 : Index := 112#32
  ![v597.toNat, 112]
def k1_off879 (v373 : BitVec 32) : Fin 2 → Nat :=
  let v601 : Index := Scalar.indexCast v373
  let c128_161 : Index := 128#32
  ![v601.toNat, 128]
def k1_off880 (v373 : BitVec 32) : Fin 2 → Nat :=
  let v605 : Index := Scalar.indexCast v373
  let c144_162 : Index := 144#32
  ![v605.toNat, 144]
def k1_off881 (v373 : BitVec 32) : Fin 2 → Nat :=
  let v609 : Index := Scalar.indexCast v373
  let c160_163 : Index := 160#32
  ![v609.toNat, 160]
def k1_off882 (v373 : BitVec 32) : Fin 2 → Nat :=
  let v613 : Index := Scalar.indexCast v373
  let c176_164 : Index := 176#32
  ![v613.toNat, 176]
def k1_off883 (v373 : BitVec 32) : Fin 2 → Nat :=
  let v617 : Index := Scalar.indexCast v373
  let c192_165 : Index := 192#32
  ![v617.toNat, 192]
def k1_off884 (v373 : BitVec 32) : Fin 2 → Nat :=
  let v621 : Index := Scalar.indexCast v373
  let c208_166 : Index := 208#32
  ![v621.toNat, 208]
def k1_off885 (v373 : BitVec 32) : Fin 2 → Nat :=
  let v625 : Index := Scalar.indexCast v373
  let c224_167 : Index := 224#32
  ![v625.toNat, 224]
def k1_off886 (v373 : BitVec 32) : Fin 2 → Nat :=
  let v629 : Index := Scalar.indexCast v373
  let c240_168 : Index := 240#32
  ![v629.toNat, 240]
def k1_off887 (v373 : BitVec 32) : Fin 2 → Nat :=
  let v633 : Index := Scalar.indexCast v373
  let c256_169 : Index := 256#32
  ![v633.toNat, 256]
def k1_off888 (v373 : BitVec 32) : Fin 2 → Nat :=
  let v637 : Index := Scalar.indexCast v373
  let c272_170 : Index := 272#32
  ![v637.toNat, 272]
def k1_off889 (v373 : BitVec 32) : Fin 2 → Nat :=
  let v641 : Index := Scalar.indexCast v373
  let c288_171 : Index := 288#32
  ![v641.toNat, 288]
def k1_off890 (v373 : BitVec 32) : Fin 2 → Nat :=
  let v645 : Index := Scalar.indexCast v373
  let c304_172 : Index := 304#32
  ![v645.toNat, 304]
def k1_off891 (v373 : BitVec 32) : Fin 2 → Nat :=
  let v649 : Index := Scalar.indexCast v373
  let c320_173 : Index := 320#32
  ![v649.toNat, 320]
def k1_off892 (v373 : BitVec 32) : Fin 2 → Nat :=
  let v653 : Index := Scalar.indexCast v373
  let c336_174 : Index := 336#32
  ![v653.toNat, 336]
def k1_off893 (v373 : BitVec 32) : Fin 2 → Nat :=
  let v657 : Index := Scalar.indexCast v373
  let c352_175 : Index := 352#32
  ![v657.toNat, 352]
def k1_off894 (v373 : BitVec 32) : Fin 2 → Nat :=
  let v661 : Index := Scalar.indexCast v373
  let c368_176 : Index := 368#32
  ![v661.toNat, 368]

def k1_chk18 (i : grid1.Coords) (v373 : BitVec 32) : Prop :=
  (∀ (k1_h1 : k1_cond1 i = 1#1), ∀ a, (k1_off871 v373) a + S1x16.size a ≤ S256x384.size a) ∧
  (∀ (k1_h1 : k1_cond1 i = 1#1), ∀ a, (k1_off872 v373) a + S1x16.size a ≤ S256x384.size a) ∧
  (∀ (k1_h1 : k1_cond1 i = 1#1), ∀ a, (k1_off873 v373) a + S1x16.size a ≤ S256x384.size a) ∧
  (∀ (k1_h1 : k1_cond1 i = 1#1), ∀ a, (k1_off874 v373) a + S1x16.size a ≤ S256x384.size a) ∧
  (∀ (k1_h1 : k1_cond1 i = 1#1), ∀ a, (k1_off875 v373) a + S1x16.size a ≤ S256x384.size a) ∧
  (∀ (k1_h1 : k1_cond1 i = 1#1), ∀ a, (k1_off876 v373) a + S1x16.size a ≤ S256x384.size a) ∧
  (∀ (k1_h1 : k1_cond1 i = 1#1), ∀ a, (k1_off877 v373) a + S1x16.size a ≤ S256x384.size a) ∧
  (∀ (k1_h1 : k1_cond1 i = 1#1), ∀ a, (k1_off878 v373) a + S1x16.size a ≤ S256x384.size a) ∧
  (∀ (k1_h1 : k1_cond1 i = 1#1), ∀ a, (k1_off879 v373) a + S1x16.size a ≤ S256x384.size a) ∧
  (∀ (k1_h1 : k1_cond1 i = 1#1), ∀ a, (k1_off880 v373) a + S1x16.size a ≤ S256x384.size a) ∧
  (∀ (k1_h1 : k1_cond1 i = 1#1), ∀ a, (k1_off881 v373) a + S1x16.size a ≤ S256x384.size a) ∧
  (∀ (k1_h1 : k1_cond1 i = 1#1), ∀ a, (k1_off882 v373) a + S1x16.size a ≤ S256x384.size a) ∧
  (∀ (k1_h1 : k1_cond1 i = 1#1), ∀ a, (k1_off883 v373) a + S1x16.size a ≤ S256x384.size a) ∧
  (∀ (k1_h1 : k1_cond1 i = 1#1), ∀ a, (k1_off884 v373) a + S1x16.size a ≤ S256x384.size a) ∧
  (∀ (k1_h1 : k1_cond1 i = 1#1), ∀ a, (k1_off885 v373) a + S1x16.size a ≤ S256x384.size a) ∧
  (∀ (k1_h1 : k1_cond1 i = 1#1), ∀ a, (k1_off886 v373) a + S1x16.size a ≤ S256x384.size a) ∧
  (∀ (k1_h1 : k1_cond1 i = 1#1), ∀ a, (k1_off887 v373) a + S1x16.size a ≤ S256x384.size a) ∧
  (∀ (k1_h1 : k1_cond1 i = 1#1), ∀ a, (k1_off888 v373) a + S1x16.size a ≤ S256x384.size a) ∧
  (∀ (k1_h1 : k1_cond1 i = 1#1), ∀ a, (k1_off889 v373) a + S1x16.size a ≤ S256x384.size a) ∧
  (∀ (k1_h1 : k1_cond1 i = 1#1), ∀ a, (k1_off890 v373) a + S1x16.size a ≤ S256x384.size a) ∧
  (∀ (k1_h1 : k1_cond1 i = 1#1), ∀ a, (k1_off891 v373) a + S1x16.size a ≤ S256x384.size a) ∧
  (∀ (k1_h1 : k1_cond1 i = 1#1), ∀ a, (k1_off892 v373) a + S1x16.size a ≤ S256x384.size a) ∧
  (∀ (k1_h1 : k1_cond1 i = 1#1), ∀ a, (k1_off893 v373) a + S1x16.size a ≤ S256x384.size a) ∧
  (∀ (k1_h1 : k1_cond1 i = 1#1), ∀ a, (k1_off894 v373) a + S1x16.size a ≤ S256x384.size a)
theorem k1_off871_inb : ∀ (i : grid1.Coords) (v373 : BitVec 32) (k1_hw18 : k1_chk18 i v373), ∀ (k1_h1 : k1_cond1 i = 1#1), ∀ a, (k1_off871 v373) a + S1x16.size a ≤ S256x384.size a := fun i v373 k1_hw18 k1_h1 => k1_hw18.1 k1_h1
theorem k1_off872_inb : ∀ (i : grid1.Coords) (v373 : BitVec 32) (k1_hw18 : k1_chk18 i v373), ∀ (k1_h1 : k1_cond1 i = 1#1), ∀ a, (k1_off872 v373) a + S1x16.size a ≤ S256x384.size a := fun i v373 k1_hw18 k1_h1 => k1_hw18.2.1 k1_h1
theorem k1_off873_inb : ∀ (i : grid1.Coords) (v373 : BitVec 32) (k1_hw18 : k1_chk18 i v373), ∀ (k1_h1 : k1_cond1 i = 1#1), ∀ a, (k1_off873 v373) a + S1x16.size a ≤ S256x384.size a := fun i v373 k1_hw18 k1_h1 => k1_hw18.2.2.1 k1_h1
theorem k1_off874_inb : ∀ (i : grid1.Coords) (v373 : BitVec 32) (k1_hw18 : k1_chk18 i v373), ∀ (k1_h1 : k1_cond1 i = 1#1), ∀ a, (k1_off874 v373) a + S1x16.size a ≤ S256x384.size a := fun i v373 k1_hw18 k1_h1 => k1_hw18.2.2.2.1 k1_h1
theorem k1_off875_inb : ∀ (i : grid1.Coords) (v373 : BitVec 32) (k1_hw18 : k1_chk18 i v373), ∀ (k1_h1 : k1_cond1 i = 1#1), ∀ a, (k1_off875 v373) a + S1x16.size a ≤ S256x384.size a := fun i v373 k1_hw18 k1_h1 => k1_hw18.2.2.2.2.1 k1_h1
theorem k1_off876_inb : ∀ (i : grid1.Coords) (v373 : BitVec 32) (k1_hw18 : k1_chk18 i v373), ∀ (k1_h1 : k1_cond1 i = 1#1), ∀ a, (k1_off876 v373) a + S1x16.size a ≤ S256x384.size a := fun i v373 k1_hw18 k1_h1 => k1_hw18.2.2.2.2.2.1 k1_h1
theorem k1_off877_inb : ∀ (i : grid1.Coords) (v373 : BitVec 32) (k1_hw18 : k1_chk18 i v373), ∀ (k1_h1 : k1_cond1 i = 1#1), ∀ a, (k1_off877 v373) a + S1x16.size a ≤ S256x384.size a := fun i v373 k1_hw18 k1_h1 => k1_hw18.2.2.2.2.2.2.1 k1_h1
theorem k1_off878_inb : ∀ (i : grid1.Coords) (v373 : BitVec 32) (k1_hw18 : k1_chk18 i v373), ∀ (k1_h1 : k1_cond1 i = 1#1), ∀ a, (k1_off878 v373) a + S1x16.size a ≤ S256x384.size a := fun i v373 k1_hw18 k1_h1 => k1_hw18.2.2.2.2.2.2.2.1 k1_h1
theorem k1_off879_inb : ∀ (i : grid1.Coords) (v373 : BitVec 32) (k1_hw18 : k1_chk18 i v373), ∀ (k1_h1 : k1_cond1 i = 1#1), ∀ a, (k1_off879 v373) a + S1x16.size a ≤ S256x384.size a := fun i v373 k1_hw18 k1_h1 => k1_hw18.2.2.2.2.2.2.2.2.1 k1_h1
theorem k1_off880_inb : ∀ (i : grid1.Coords) (v373 : BitVec 32) (k1_hw18 : k1_chk18 i v373), ∀ (k1_h1 : k1_cond1 i = 1#1), ∀ a, (k1_off880 v373) a + S1x16.size a ≤ S256x384.size a := fun i v373 k1_hw18 k1_h1 => k1_hw18.2.2.2.2.2.2.2.2.2.1 k1_h1
theorem k1_off881_inb : ∀ (i : grid1.Coords) (v373 : BitVec 32) (k1_hw18 : k1_chk18 i v373), ∀ (k1_h1 : k1_cond1 i = 1#1), ∀ a, (k1_off881 v373) a + S1x16.size a ≤ S256x384.size a := fun i v373 k1_hw18 k1_h1 => k1_hw18.2.2.2.2.2.2.2.2.2.2.1 k1_h1
theorem k1_off882_inb : ∀ (i : grid1.Coords) (v373 : BitVec 32) (k1_hw18 : k1_chk18 i v373), ∀ (k1_h1 : k1_cond1 i = 1#1), ∀ a, (k1_off882 v373) a + S1x16.size a ≤ S256x384.size a := fun i v373 k1_hw18 k1_h1 => k1_hw18.2.2.2.2.2.2.2.2.2.2.2.1 k1_h1
theorem k1_off883_inb : ∀ (i : grid1.Coords) (v373 : BitVec 32) (k1_hw18 : k1_chk18 i v373), ∀ (k1_h1 : k1_cond1 i = 1#1), ∀ a, (k1_off883 v373) a + S1x16.size a ≤ S256x384.size a := fun i v373 k1_hw18 k1_h1 => k1_hw18.2.2.2.2.2.2.2.2.2.2.2.2.1 k1_h1
theorem k1_off884_inb : ∀ (i : grid1.Coords) (v373 : BitVec 32) (k1_hw18 : k1_chk18 i v373), ∀ (k1_h1 : k1_cond1 i = 1#1), ∀ a, (k1_off884 v373) a + S1x16.size a ≤ S256x384.size a := fun i v373 k1_hw18 k1_h1 => k1_hw18.2.2.2.2.2.2.2.2.2.2.2.2.2.1 k1_h1
theorem k1_off885_inb : ∀ (i : grid1.Coords) (v373 : BitVec 32) (k1_hw18 : k1_chk18 i v373), ∀ (k1_h1 : k1_cond1 i = 1#1), ∀ a, (k1_off885 v373) a + S1x16.size a ≤ S256x384.size a := fun i v373 k1_hw18 k1_h1 => k1_hw18.2.2.2.2.2.2.2.2.2.2.2.2.2.2.1 k1_h1
theorem k1_off886_inb : ∀ (i : grid1.Coords) (v373 : BitVec 32) (k1_hw18 : k1_chk18 i v373), ∀ (k1_h1 : k1_cond1 i = 1#1), ∀ a, (k1_off886 v373) a + S1x16.size a ≤ S256x384.size a := fun i v373 k1_hw18 k1_h1 => k1_hw18.2.2.2.2.2.2.2.2.2.2.2.2.2.2.2.1 k1_h1
theorem k1_off887_inb : ∀ (i : grid1.Coords) (v373 : BitVec 32) (k1_hw18 : k1_chk18 i v373), ∀ (k1_h1 : k1_cond1 i = 1#1), ∀ a, (k1_off887 v373) a + S1x16.size a ≤ S256x384.size a := fun i v373 k1_hw18 k1_h1 => k1_hw18.2.2.2.2.2.2.2.2.2.2.2.2.2.2.2.2.1 k1_h1
theorem k1_off888_inb : ∀ (i : grid1.Coords) (v373 : BitVec 32) (k1_hw18 : k1_chk18 i v373), ∀ (k1_h1 : k1_cond1 i = 1#1), ∀ a, (k1_off888 v373) a + S1x16.size a ≤ S256x384.size a := fun i v373 k1_hw18 k1_h1 => k1_hw18.2.2.2.2.2.2.2.2.2.2.2.2.2.2.2.2.2.1 k1_h1
theorem k1_off889_inb : ∀ (i : grid1.Coords) (v373 : BitVec 32) (k1_hw18 : k1_chk18 i v373), ∀ (k1_h1 : k1_cond1 i = 1#1), ∀ a, (k1_off889 v373) a + S1x16.size a ≤ S256x384.size a := fun i v373 k1_hw18 k1_h1 => k1_hw18.2.2.2.2.2.2.2.2.2.2.2.2.2.2.2.2.2.2.1 k1_h1
theorem k1_off890_inb : ∀ (i : grid1.Coords) (v373 : BitVec 32) (k1_hw18 : k1_chk18 i v373), ∀ (k1_h1 : k1_cond1 i = 1#1), ∀ a, (k1_off890 v373) a + S1x16.size a ≤ S256x384.size a := fun i v373 k1_hw18 k1_h1 => k1_hw18.2.2.2.2.2.2.2.2.2.2.2.2.2.2.2.2.2.2.2.1 k1_h1
theorem k1_off891_inb : ∀ (i : grid1.Coords) (v373 : BitVec 32) (k1_hw18 : k1_chk18 i v373), ∀ (k1_h1 : k1_cond1 i = 1#1), ∀ a, (k1_off891 v373) a + S1x16.size a ≤ S256x384.size a := fun i v373 k1_hw18 k1_h1 => k1_hw18.2.2.2.2.2.2.2.2.2.2.2.2.2.2.2.2.2.2.2.2.1 k1_h1
theorem k1_off892_inb : ∀ (i : grid1.Coords) (v373 : BitVec 32) (k1_hw18 : k1_chk18 i v373), ∀ (k1_h1 : k1_cond1 i = 1#1), ∀ a, (k1_off892 v373) a + S1x16.size a ≤ S256x384.size a := fun i v373 k1_hw18 k1_h1 => k1_hw18.2.2.2.2.2.2.2.2.2.2.2.2.2.2.2.2.2.2.2.2.2.1 k1_h1
theorem k1_off893_inb : ∀ (i : grid1.Coords) (v373 : BitVec 32) (k1_hw18 : k1_chk18 i v373), ∀ (k1_h1 : k1_cond1 i = 1#1), ∀ a, (k1_off893 v373) a + S1x16.size a ≤ S256x384.size a := fun i v373 k1_hw18 k1_h1 => k1_hw18.2.2.2.2.2.2.2.2.2.2.2.2.2.2.2.2.2.2.2.2.2.2.1 k1_h1
theorem k1_off894_inb : ∀ (i : grid1.Coords) (v373 : BitVec 32) (k1_hw18 : k1_chk18 i v373), ∀ (k1_h1 : k1_cond1 i = 1#1), ∀ a, (k1_off894 v373) a + S1x16.size a ≤ S256x384.size a := fun i v373 k1_hw18 k1_h1 => k1_hw18.2.2.2.2.2.2.2.2.2.2.2.2.2.2.2.2.2.2.2.2.2.2.2 k1_h1

def k1_off895 (k1_t4 : Fin k1_t4_loop.trips) : Fin 2 → Nat :=
  let c0_i32_44 : BitVec 32 := 0#32
  let c1_i32_46 : BitVec 32 := 1#32
  let arg37 : BitVec 32 := Scf.iv c0_i32_44 c1_i32_46 k1_t4
  let c16_i32_177 : BitVec 32 := 16#32
  let v667 : BitVec 32 := Scalar.muli arg37 c16_i32_177
  let c2_i32_178 : BitVec 32 := 2#32
  let v668 : BitVec 32 := Scalar.addi v667 c2_i32_178
  let v670 : Index := Scalar.indexCast v668
  let c0_179 : Index := 0#32
  ![v670.toNat, 0]
def k1_off896 (k1_t4 : Fin k1_t4_loop.trips) : Fin 2 → Nat :=
  let c0_i32_44 : BitVec 32 := 0#32
  let c1_i32_46 : BitVec 32 := 1#32
  let arg37 : BitVec 32 := Scf.iv c0_i32_44 c1_i32_46 k1_t4
  let c16_i32_177 : BitVec 32 := 16#32
  let v667 : BitVec 32 := Scalar.muli arg37 c16_i32_177
  let c2_i32_178 : BitVec 32 := 2#32
  let v668 : BitVec 32 := Scalar.addi v667 c2_i32_178
  let v678 : Index := Scalar.indexCast v668
  let c16_181 : Index := 16#32
  ![v678.toNat, 16]
def k1_off897 (k1_t4 : Fin k1_t4_loop.trips) : Fin 2 → Nat :=
  let c0_i32_44 : BitVec 32 := 0#32
  let c1_i32_46 : BitVec 32 := 1#32
  let arg37 : BitVec 32 := Scf.iv c0_i32_44 c1_i32_46 k1_t4
  let c16_i32_177 : BitVec 32 := 16#32
  let v667 : BitVec 32 := Scalar.muli arg37 c16_i32_177
  let c2_i32_178 : BitVec 32 := 2#32
  let v668 : BitVec 32 := Scalar.addi v667 c2_i32_178
  let v686 : Index := Scalar.indexCast v668
  let c32_183 : Index := 32#32
  ![v686.toNat, 32]
def k1_off898 (k1_t4 : Fin k1_t4_loop.trips) : Fin 2 → Nat :=
  let c0_i32_44 : BitVec 32 := 0#32
  let c1_i32_46 : BitVec 32 := 1#32
  let arg37 : BitVec 32 := Scf.iv c0_i32_44 c1_i32_46 k1_t4
  let c16_i32_177 : BitVec 32 := 16#32
  let v667 : BitVec 32 := Scalar.muli arg37 c16_i32_177
  let c2_i32_178 : BitVec 32 := 2#32
  let v668 : BitVec 32 := Scalar.addi v667 c2_i32_178
  let v694 : Index := Scalar.indexCast v668
  let c48_185 : Index := 48#32
  ![v694.toNat, 48]
def k1_off899 (k1_t4 : Fin k1_t4_loop.trips) : Fin 2 → Nat :=
  let c0_i32_44 : BitVec 32 := 0#32
  let c1_i32_46 : BitVec 32 := 1#32
  let arg37 : BitVec 32 := Scf.iv c0_i32_44 c1_i32_46 k1_t4
  let c16_i32_177 : BitVec 32 := 16#32
  let v667 : BitVec 32 := Scalar.muli arg37 c16_i32_177
  let c2_i32_178 : BitVec 32 := 2#32
  let v668 : BitVec 32 := Scalar.addi v667 c2_i32_178
  let v702 : Index := Scalar.indexCast v668
  let c64_187 : Index := 64#32
  ![v702.toNat, 64]
def k1_off900 (k1_t4 : Fin k1_t4_loop.trips) : Fin 2 → Nat :=
  let c0_i32_44 : BitVec 32 := 0#32
  let c1_i32_46 : BitVec 32 := 1#32
  let arg37 : BitVec 32 := Scf.iv c0_i32_44 c1_i32_46 k1_t4
  let c16_i32_177 : BitVec 32 := 16#32
  let v667 : BitVec 32 := Scalar.muli arg37 c16_i32_177
  let c2_i32_178 : BitVec 32 := 2#32
  let v668 : BitVec 32 := Scalar.addi v667 c2_i32_178
  let v710 : Index := Scalar.indexCast v668
  let c80_189 : Index := 80#32
  ![v710.toNat, 80]
def k1_off901 (k1_t4 : Fin k1_t4_loop.trips) : Fin 2 → Nat :=
  let c0_i32_44 : BitVec 32 := 0#32
  let c1_i32_46 : BitVec 32 := 1#32
  let arg37 : BitVec 32 := Scf.iv c0_i32_44 c1_i32_46 k1_t4
  let c16_i32_177 : BitVec 32 := 16#32
  let v667 : BitVec 32 := Scalar.muli arg37 c16_i32_177
  let c2_i32_178 : BitVec 32 := 2#32
  let v668 : BitVec 32 := Scalar.addi v667 c2_i32_178
  let v718 : Index := Scalar.indexCast v668
  let c96_191 : Index := 96#32
  ![v718.toNat, 96]
def k1_off902 (k1_t4 : Fin k1_t4_loop.trips) : Fin 2 → Nat :=
  let c0_i32_44 : BitVec 32 := 0#32
  let c1_i32_46 : BitVec 32 := 1#32
  let arg37 : BitVec 32 := Scf.iv c0_i32_44 c1_i32_46 k1_t4
  let c16_i32_177 : BitVec 32 := 16#32
  let v667 : BitVec 32 := Scalar.muli arg37 c16_i32_177
  let c2_i32_178 : BitVec 32 := 2#32
  let v668 : BitVec 32 := Scalar.addi v667 c2_i32_178
  let v726 : Index := Scalar.indexCast v668
  let c112_193 : Index := 112#32
  ![v726.toNat, 112]
def k1_off903 (k1_t4 : Fin k1_t4_loop.trips) : Fin 2 → Nat :=
  let c0_i32_44 : BitVec 32 := 0#32
  let c1_i32_46 : BitVec 32 := 1#32
  let arg37 : BitVec 32 := Scf.iv c0_i32_44 c1_i32_46 k1_t4
  let c16_i32_177 : BitVec 32 := 16#32
  let v667 : BitVec 32 := Scalar.muli arg37 c16_i32_177
  let c2_i32_178 : BitVec 32 := 2#32
  let v668 : BitVec 32 := Scalar.addi v667 c2_i32_178
  let v734 : Index := Scalar.indexCast v668
  let c128_195 : Index := 128#32
  ![v734.toNat, 128]
def k1_off904 (k1_t4 : Fin k1_t4_loop.trips) : Fin 2 → Nat :=
  let c0_i32_44 : BitVec 32 := 0#32
  let c1_i32_46 : BitVec 32 := 1#32
  let arg37 : BitVec 32 := Scf.iv c0_i32_44 c1_i32_46 k1_t4
  let c16_i32_177 : BitVec 32 := 16#32
  let v667 : BitVec 32 := Scalar.muli arg37 c16_i32_177
  let c2_i32_178 : BitVec 32 := 2#32
  let v668 : BitVec 32 := Scalar.addi v667 c2_i32_178
  let v742 : Index := Scalar.indexCast v668
  let c144_197 : Index := 144#32
  ![v742.toNat, 144]
def k1_off905 (k1_t4 : Fin k1_t4_loop.trips) : Fin 2 → Nat :=
  let c0_i32_44 : BitVec 32 := 0#32
  let c1_i32_46 : BitVec 32 := 1#32
  let arg37 : BitVec 32 := Scf.iv c0_i32_44 c1_i32_46 k1_t4
  let c16_i32_177 : BitVec 32 := 16#32
  let v667 : BitVec 32 := Scalar.muli arg37 c16_i32_177
  let c2_i32_178 : BitVec 32 := 2#32
  let v668 : BitVec 32 := Scalar.addi v667 c2_i32_178
  let v750 : Index := Scalar.indexCast v668
  let c160_199 : Index := 160#32
  ![v750.toNat, 160]
def k1_off906 (k1_t4 : Fin k1_t4_loop.trips) : Fin 2 → Nat :=
  let c0_i32_44 : BitVec 32 := 0#32
  let c1_i32_46 : BitVec 32 := 1#32
  let arg37 : BitVec 32 := Scf.iv c0_i32_44 c1_i32_46 k1_t4
  let c16_i32_177 : BitVec 32 := 16#32
  let v667 : BitVec 32 := Scalar.muli arg37 c16_i32_177
  let c2_i32_178 : BitVec 32 := 2#32
  let v668 : BitVec 32 := Scalar.addi v667 c2_i32_178
  let v758 : Index := Scalar.indexCast v668
  let c176_201 : Index := 176#32
  ![v758.toNat, 176]
def k1_off907 (k1_t4 : Fin k1_t4_loop.trips) : Fin 2 → Nat :=
  let c0_i32_44 : BitVec 32 := 0#32
  let c1_i32_46 : BitVec 32 := 1#32
  let arg37 : BitVec 32 := Scf.iv c0_i32_44 c1_i32_46 k1_t4
  let c16_i32_177 : BitVec 32 := 16#32
  let v667 : BitVec 32 := Scalar.muli arg37 c16_i32_177
  let c2_i32_178 : BitVec 32 := 2#32
  let v668 : BitVec 32 := Scalar.addi v667 c2_i32_178
  let v766 : Index := Scalar.indexCast v668
  let c192_203 : Index := 192#32
  ![v766.toNat, 192]
def k1_off908 (k1_t4 : Fin k1_t4_loop.trips) : Fin 2 → Nat :=
  let c0_i32_44 : BitVec 32 := 0#32
  let c1_i32_46 : BitVec 32 := 1#32
  let arg37 : BitVec 32 := Scf.iv c0_i32_44 c1_i32_46 k1_t4
  let c16_i32_177 : BitVec 32 := 16#32
  let v667 : BitVec 32 := Scalar.muli arg37 c16_i32_177
  let c2_i32_178 : BitVec 32 := 2#32
  let v668 : BitVec 32 := Scalar.addi v667 c2_i32_178
  let v774 : Index := Scalar.indexCast v668
  let c208_205 : Index := 208#32
  ![v774.toNat, 208]
def k1_off909 (k1_t4 : Fin k1_t4_loop.trips) : Fin 2 → Nat :=
  let c0_i32_44 : BitVec 32 := 0#32
  let c1_i32_46 : BitVec 32 := 1#32
  let arg37 : BitVec 32 := Scf.iv c0_i32_44 c1_i32_46 k1_t4
  let c16_i32_177 : BitVec 32 := 16#32
  let v667 : BitVec 32 := Scalar.muli arg37 c16_i32_177
  let c2_i32_178 : BitVec 32 := 2#32
  let v668 : BitVec 32 := Scalar.addi v667 c2_i32_178
  let v782 : Index := Scalar.indexCast v668
  let c224_207 : Index := 224#32
  ![v782.toNat, 224]
def k1_off910 (k1_t4 : Fin k1_t4_loop.trips) : Fin 2 → Nat :=
  let c0_i32_44 : BitVec 32 := 0#32
  let c1_i32_46 : BitVec 32 := 1#32
  let arg37 : BitVec 32 := Scf.iv c0_i32_44 c1_i32_46 k1_t4
  let c16_i32_177 : BitVec 32 := 16#32
  let v667 : BitVec 32 := Scalar.muli arg37 c16_i32_177
  let c2_i32_178 : BitVec 32 := 2#32
  let v668 : BitVec 32 := Scalar.addi v667 c2_i32_178
  let v790 : Index := Scalar.indexCast v668
  let c240_209 : Index := 240#32
  ![v790.toNat, 240]
def k1_off911 (k1_t4 : Fin k1_t4_loop.trips) : Fin 2 → Nat :=
  let c0_i32_44 : BitVec 32 := 0#32
  let c1_i32_46 : BitVec 32 := 1#32
  let arg37 : BitVec 32 := Scf.iv c0_i32_44 c1_i32_46 k1_t4
  let c16_i32_177 : BitVec 32 := 16#32
  let v667 : BitVec 32 := Scalar.muli arg37 c16_i32_177
  let c2_i32_178 : BitVec 32 := 2#32
  let v668 : BitVec 32 := Scalar.addi v667 c2_i32_178
  let v798 : Index := Scalar.indexCast v668
  let c256_211 : Index := 256#32
  ![v798.toNat, 256]
def k1_off912 (k1_t4 : Fin k1_t4_loop.trips) : Fin 2 → Nat :=
  let c0_i32_44 : BitVec 32 := 0#32
  let c1_i32_46 : BitVec 32 := 1#32
  let arg37 : BitVec 32 := Scf.iv c0_i32_44 c1_i32_46 k1_t4
  let c16_i32_177 : BitVec 32 := 16#32
  let v667 : BitVec 32 := Scalar.muli arg37 c16_i32_177
  let c2_i32_178 : BitVec 32 := 2#32
  let v668 : BitVec 32 := Scalar.addi v667 c2_i32_178
  let v806 : Index := Scalar.indexCast v668
  let c272_213 : Index := 272#32
  ![v806.toNat, 272]
def k1_off913 (k1_t4 : Fin k1_t4_loop.trips) : Fin 2 → Nat :=
  let c0_i32_44 : BitVec 32 := 0#32
  let c1_i32_46 : BitVec 32 := 1#32
  let arg37 : BitVec 32 := Scf.iv c0_i32_44 c1_i32_46 k1_t4
  let c16_i32_177 : BitVec 32 := 16#32
  let v667 : BitVec 32 := Scalar.muli arg37 c16_i32_177
  let c2_i32_178 : BitVec 32 := 2#32
  let v668 : BitVec 32 := Scalar.addi v667 c2_i32_178
  let v814 : Index := Scalar.indexCast v668
  let c288_215 : Index := 288#32
  ![v814.toNat, 288]
def k1_off914 (k1_t4 : Fin k1_t4_loop.trips) : Fin 2 → Nat :=
  let c0_i32_44 : BitVec 32 := 0#32
  let c1_i32_46 : BitVec 32 := 1#32
  let arg37 : BitVec 32 := Scf.iv c0_i32_44 c1_i32_46 k1_t4
  let c16_i32_177 : BitVec 32 := 16#32
  let v667 : BitVec 32 := Scalar.muli arg37 c16_i32_177
  let c2_i32_178 : BitVec 32 := 2#32
  let v668 : BitVec 32 := Scalar.addi v667 c2_i32_178
  let v822 : Index := Scalar.indexCast v668
  let c304_217 : Index := 304#32
  ![v822.toNat, 304]
def k1_off915 (k1_t4 : Fin k1_t4_loop.trips) : Fin 2 → Nat :=
  let c0_i32_44 : BitVec 32 := 0#32
  let c1_i32_46 : BitVec 32 := 1#32
  let arg37 : BitVec 32 := Scf.iv c0_i32_44 c1_i32_46 k1_t4
  let c16_i32_177 : BitVec 32 := 16#32
  let v667 : BitVec 32 := Scalar.muli arg37 c16_i32_177
  let c2_i32_178 : BitVec 32 := 2#32
  let v668 : BitVec 32 := Scalar.addi v667 c2_i32_178
  let v830 : Index := Scalar.indexCast v668
  let c320_219 : Index := 320#32
  ![v830.toNat, 320]
def k1_off916 (k1_t4 : Fin k1_t4_loop.trips) : Fin 2 → Nat :=
  let c0_i32_44 : BitVec 32 := 0#32
  let c1_i32_46 : BitVec 32 := 1#32
  let arg37 : BitVec 32 := Scf.iv c0_i32_44 c1_i32_46 k1_t4
  let c16_i32_177 : BitVec 32 := 16#32
  let v667 : BitVec 32 := Scalar.muli arg37 c16_i32_177
  let c2_i32_178 : BitVec 32 := 2#32
  let v668 : BitVec 32 := Scalar.addi v667 c2_i32_178
  let v838 : Index := Scalar.indexCast v668
  let c336_221 : Index := 336#32
  ![v838.toNat, 336]
def k1_off917 (k1_t4 : Fin k1_t4_loop.trips) : Fin 2 → Nat :=
  let c0_i32_44 : BitVec 32 := 0#32
  let c1_i32_46 : BitVec 32 := 1#32
  let arg37 : BitVec 32 := Scf.iv c0_i32_44 c1_i32_46 k1_t4
  let c16_i32_177 : BitVec 32 := 16#32
  let v667 : BitVec 32 := Scalar.muli arg37 c16_i32_177
  let c2_i32_178 : BitVec 32 := 2#32
  let v668 : BitVec 32 := Scalar.addi v667 c2_i32_178
  let v846 : Index := Scalar.indexCast v668
  let c352_223 : Index := 352#32
  ![v846.toNat, 352]
def k1_off918 (k1_t4 : Fin k1_t4_loop.trips) : Fin 2 → Nat :=
  let c0_i32_44 : BitVec 32 := 0#32
  let c1_i32_46 : BitVec 32 := 1#32
  let arg37 : BitVec 32 := Scf.iv c0_i32_44 c1_i32_46 k1_t4
  let c16_i32_177 : BitVec 32 := 16#32
  let v667 : BitVec 32 := Scalar.muli arg37 c16_i32_177
  let c2_i32_178 : BitVec 32 := 2#32
  let v668 : BitVec 32 := Scalar.addi v667 c2_i32_178
  let v854 : Index := Scalar.indexCast v668
  let c368_225 : Index := 368#32
  ![v854.toNat, 368]
def k1_off919 (v666 : BitVec 32) : Fin 2 → Nat :=
  let v862 : Index := Scalar.indexCast v666
  let c0_227 : Index := 0#32
  ![v862.toNat, 0]

def k1_off920 (v666 : BitVec 32) : Fin 2 → Nat :=
  let v866 : Index := Scalar.indexCast v666
  let c16_228 : Index := 16#32
  ![v866.toNat, 16]
def k1_off921 (v666 : BitVec 32) : Fin 2 → Nat :=
  let v870 : Index := Scalar.indexCast v666
  let c32_229 : Index := 32#32
  ![v870.toNat, 32]
def k1_off922 (v666 : BitVec 32) : Fin 2 → Nat :=
  let v874 : Index := Scalar.indexCast v666
  let c48_230 : Index := 48#32
  ![v874.toNat, 48]
def k1_off923 (v666 : BitVec 32) : Fin 2 → Nat :=
  let v878 : Index := Scalar.indexCast v666
  let c64_231 : Index := 64#32
  ![v878.toNat, 64]
def k1_off924 (v666 : BitVec 32) : Fin 2 → Nat :=
  let v882 : Index := Scalar.indexCast v666
  let c80_232 : Index := 80#32
  ![v882.toNat, 80]
def k1_off925 (v666 : BitVec 32) : Fin 2 → Nat :=
  let v886 : Index := Scalar.indexCast v666
  let c96_233 : Index := 96#32
  ![v886.toNat, 96]
def k1_off926 (v666 : BitVec 32) : Fin 2 → Nat :=
  let v890 : Index := Scalar.indexCast v666
  let c112_234 : Index := 112#32
  ![v890.toNat, 112]
def k1_off927 (v666 : BitVec 32) : Fin 2 → Nat :=
  let v894 : Index := Scalar.indexCast v666
  let c128_235 : Index := 128#32
  ![v894.toNat, 128]
def k1_off928 (v666 : BitVec 32) : Fin 2 → Nat :=
  let v898 : Index := Scalar.indexCast v666
  let c144_236 : Index := 144#32
  ![v898.toNat, 144]
def k1_off929 (v666 : BitVec 32) : Fin 2 → Nat :=
  let v902 : Index := Scalar.indexCast v666
  let c160_237 : Index := 160#32
  ![v902.toNat, 160]
def k1_off930 (v666 : BitVec 32) : Fin 2 → Nat :=
  let v906 : Index := Scalar.indexCast v666
  let c176_238 : Index := 176#32
  ![v906.toNat, 176]
def k1_off931 (v666 : BitVec 32) : Fin 2 → Nat :=
  let v910 : Index := Scalar.indexCast v666
  let c192_239 : Index := 192#32
  ![v910.toNat, 192]
def k1_off932 (v666 : BitVec 32) : Fin 2 → Nat :=
  let v914 : Index := Scalar.indexCast v666
  let c208_240 : Index := 208#32
  ![v914.toNat, 208]
def k1_off933 (v666 : BitVec 32) : Fin 2 → Nat :=
  let v918 : Index := Scalar.indexCast v666
  let c224_241 : Index := 224#32
  ![v918.toNat, 224]
def k1_off934 (v666 : BitVec 32) : Fin 2 → Nat :=
  let v922 : Index := Scalar.indexCast v666
  let c240_242 : Index := 240#32
  ![v922.toNat, 240]
def k1_off935 (v666 : BitVec 32) : Fin 2 → Nat :=
  let v926 : Index := Scalar.indexCast v666
  let c256_243 : Index := 256#32
  ![v926.toNat, 256]
def k1_off936 (v666 : BitVec 32) : Fin 2 → Nat :=
  let v930 : Index := Scalar.indexCast v666
  let c272_244 : Index := 272#32
  ![v930.toNat, 272]
def k1_off937 (v666 : BitVec 32) : Fin 2 → Nat :=
  let v934 : Index := Scalar.indexCast v666
  let c288_245 : Index := 288#32
  ![v934.toNat, 288]
def k1_off938 (v666 : BitVec 32) : Fin 2 → Nat :=
  let v938 : Index := Scalar.indexCast v666
  let c304_246 : Index := 304#32
  ![v938.toNat, 304]
def k1_off939 (v666 : BitVec 32) : Fin 2 → Nat :=
  let v942 : Index := Scalar.indexCast v666
  let c320_247 : Index := 320#32
  ![v942.toNat, 320]
def k1_off940 (v666 : BitVec 32) : Fin 2 → Nat :=
  let v946 : Index := Scalar.indexCast v666
  let c336_248 : Index := 336#32
  ![v946.toNat, 336]
def k1_off941 (v666 : BitVec 32) : Fin 2 → Nat :=
  let v950 : Index := Scalar.indexCast v666
  let c352_249 : Index := 352#32
  ![v950.toNat, 352]
def k1_off942 (v666 : BitVec 32) : Fin 2 → Nat :=
  let v954 : Index := Scalar.indexCast v666
  let c368_250 : Index := 368#32
  ![v954.toNat, 368]

def k1_chk19 (i : grid1.Coords) (v666 : BitVec 32) : Prop :=
  (∀ (k1_h1 : k1_cond1 i = 1#1), ∀ a, (k1_off919 v666) a + S1x16.size a ≤ S256x384.size a) ∧
  (∀ (k1_h1 : k1_cond1 i = 1#1), ∀ a, (k1_off920 v666) a + S1x16.size a ≤ S256x384.size a) ∧
  (∀ (k1_h1 : k1_cond1 i = 1#1), ∀ a, (k1_off921 v666) a + S1x16.size a ≤ S256x384.size a) ∧
  (∀ (k1_h1 : k1_cond1 i = 1#1), ∀ a, (k1_off922 v666) a + S1x16.size a ≤ S256x384.size a) ∧
  (∀ (k1_h1 : k1_cond1 i = 1#1), ∀ a, (k1_off923 v666) a + S1x16.size a ≤ S256x384.size a) ∧
  (∀ (k1_h1 : k1_cond1 i = 1#1), ∀ a, (k1_off924 v666) a + S1x16.size a ≤ S256x384.size a) ∧
  (∀ (k1_h1 : k1_cond1 i = 1#1), ∀ a, (k1_off925 v666) a + S1x16.size a ≤ S256x384.size a) ∧
  (∀ (k1_h1 : k1_cond1 i = 1#1), ∀ a, (k1_off926 v666) a + S1x16.size a ≤ S256x384.size a) ∧
  (∀ (k1_h1 : k1_cond1 i = 1#1), ∀ a, (k1_off927 v666) a + S1x16.size a ≤ S256x384.size a) ∧
  (∀ (k1_h1 : k1_cond1 i = 1#1), ∀ a, (k1_off928 v666) a + S1x16.size a ≤ S256x384.size a) ∧
  (∀ (k1_h1 : k1_cond1 i = 1#1), ∀ a, (k1_off929 v666) a + S1x16.size a ≤ S256x384.size a) ∧
  (∀ (k1_h1 : k1_cond1 i = 1#1), ∀ a, (k1_off930 v666) a + S1x16.size a ≤ S256x384.size a) ∧
  (∀ (k1_h1 : k1_cond1 i = 1#1), ∀ a, (k1_off931 v666) a + S1x16.size a ≤ S256x384.size a) ∧
  (∀ (k1_h1 : k1_cond1 i = 1#1), ∀ a, (k1_off932 v666) a + S1x16.size a ≤ S256x384.size a) ∧
  (∀ (k1_h1 : k1_cond1 i = 1#1), ∀ a, (k1_off933 v666) a + S1x16.size a ≤ S256x384.size a) ∧
  (∀ (k1_h1 : k1_cond1 i = 1#1), ∀ a, (k1_off934 v666) a + S1x16.size a ≤ S256x384.size a) ∧
  (∀ (k1_h1 : k1_cond1 i = 1#1), ∀ a, (k1_off935 v666) a + S1x16.size a ≤ S256x384.size a) ∧
  (∀ (k1_h1 : k1_cond1 i = 1#1), ∀ a, (k1_off936 v666) a + S1x16.size a ≤ S256x384.size a) ∧
  (∀ (k1_h1 : k1_cond1 i = 1#1), ∀ a, (k1_off937 v666) a + S1x16.size a ≤ S256x384.size a) ∧
  (∀ (k1_h1 : k1_cond1 i = 1#1), ∀ a, (k1_off938 v666) a + S1x16.size a ≤ S256x384.size a) ∧
  (∀ (k1_h1 : k1_cond1 i = 1#1), ∀ a, (k1_off939 v666) a + S1x16.size a ≤ S256x384.size a) ∧
  (∀ (k1_h1 : k1_cond1 i = 1#1), ∀ a, (k1_off940 v666) a + S1x16.size a ≤ S256x384.size a) ∧
  (∀ (k1_h1 : k1_cond1 i = 1#1), ∀ a, (k1_off941 v666) a + S1x16.size a ≤ S256x384.size a) ∧
  (∀ (k1_h1 : k1_cond1 i = 1#1), ∀ a, (k1_off942 v666) a + S1x16.size a ≤ S256x384.size a)
theorem k1_off919_inb : ∀ (i : grid1.Coords) (v666 : BitVec 32) (k1_hw19 : k1_chk19 i v666), ∀ (k1_h1 : k1_cond1 i = 1#1), ∀ a, (k1_off919 v666) a + S1x16.size a ≤ S256x384.size a := fun i v666 k1_hw19 k1_h1 => k1_hw19.1 k1_h1
theorem k1_off920_inb : ∀ (i : grid1.Coords) (v666 : BitVec 32) (k1_hw19 : k1_chk19 i v666), ∀ (k1_h1 : k1_cond1 i = 1#1), ∀ a, (k1_off920 v666) a + S1x16.size a ≤ S256x384.size a := fun i v666 k1_hw19 k1_h1 => k1_hw19.2.1 k1_h1
theorem k1_off921_inb : ∀ (i : grid1.Coords) (v666 : BitVec 32) (k1_hw19 : k1_chk19 i v666), ∀ (k1_h1 : k1_cond1 i = 1#1), ∀ a, (k1_off921 v666) a + S1x16.size a ≤ S256x384.size a := fun i v666 k1_hw19 k1_h1 => k1_hw19.2.2.1 k1_h1
theorem k1_off922_inb : ∀ (i : grid1.Coords) (v666 : BitVec 32) (k1_hw19 : k1_chk19 i v666), ∀ (k1_h1 : k1_cond1 i = 1#1), ∀ a, (k1_off922 v666) a + S1x16.size a ≤ S256x384.size a := fun i v666 k1_hw19 k1_h1 => k1_hw19.2.2.2.1 k1_h1
theorem k1_off923_inb : ∀ (i : grid1.Coords) (v666 : BitVec 32) (k1_hw19 : k1_chk19 i v666), ∀ (k1_h1 : k1_cond1 i = 1#1), ∀ a, (k1_off923 v666) a + S1x16.size a ≤ S256x384.size a := fun i v666 k1_hw19 k1_h1 => k1_hw19.2.2.2.2.1 k1_h1
theorem k1_off924_inb : ∀ (i : grid1.Coords) (v666 : BitVec 32) (k1_hw19 : k1_chk19 i v666), ∀ (k1_h1 : k1_cond1 i = 1#1), ∀ a, (k1_off924 v666) a + S1x16.size a ≤ S256x384.size a := fun i v666 k1_hw19 k1_h1 => k1_hw19.2.2.2.2.2.1 k1_h1
theorem k1_off925_inb : ∀ (i : grid1.Coords) (v666 : BitVec 32) (k1_hw19 : k1_chk19 i v666), ∀ (k1_h1 : k1_cond1 i = 1#1), ∀ a, (k1_off925 v666) a + S1x16.size a ≤ S256x384.size a := fun i v666 k1_hw19 k1_h1 => k1_hw19.2.2.2.2.2.2.1 k1_h1
theorem k1_off926_inb : ∀ (i : grid1.Coords) (v666 : BitVec 32) (k1_hw19 : k1_chk19 i v666), ∀ (k1_h1 : k1_cond1 i = 1#1), ∀ a, (k1_off926 v666) a + S1x16.size a ≤ S256x384.size a := fun i v666 k1_hw19 k1_h1 => k1_hw19.2.2.2.2.2.2.2.1 k1_h1
theorem k1_off927_inb : ∀ (i : grid1.Coords) (v666 : BitVec 32) (k1_hw19 : k1_chk19 i v666), ∀ (k1_h1 : k1_cond1 i = 1#1), ∀ a, (k1_off927 v666) a + S1x16.size a ≤ S256x384.size a := fun i v666 k1_hw19 k1_h1 => k1_hw19.2.2.2.2.2.2.2.2.1 k1_h1
theorem k1_off928_inb : ∀ (i : grid1.Coords) (v666 : BitVec 32) (k1_hw19 : k1_chk19 i v666), ∀ (k1_h1 : k1_cond1 i = 1#1), ∀ a, (k1_off928 v666) a + S1x16.size a ≤ S256x384.size a := fun i v666 k1_hw19 k1_h1 => k1_hw19.2.2.2.2.2.2.2.2.2.1 k1_h1
theorem k1_off929_inb : ∀ (i : grid1.Coords) (v666 : BitVec 32) (k1_hw19 : k1_chk19 i v666), ∀ (k1_h1 : k1_cond1 i = 1#1), ∀ a, (k1_off929 v666) a + S1x16.size a ≤ S256x384.size a := fun i v666 k1_hw19 k1_h1 => k1_hw19.2.2.2.2.2.2.2.2.2.2.1 k1_h1
theorem k1_off930_inb : ∀ (i : grid1.Coords) (v666 : BitVec 32) (k1_hw19 : k1_chk19 i v666), ∀ (k1_h1 : k1_cond1 i = 1#1), ∀ a, (k1_off930 v666) a + S1x16.size a ≤ S256x384.size a := fun i v666 k1_hw19 k1_h1 => k1_hw19.2.2.2.2.2.2.2.2.2.2.2.1 k1_h1
theorem k1_off931_inb : ∀ (i : grid1.Coords) (v666 : BitVec 32) (k1_hw19 : k1_chk19 i v666), ∀ (k1_h1 : k1_cond1 i = 1#1), ∀ a, (k1_off931 v666) a + S1x16.size a ≤ S256x384.size a := fun i v666 k1_hw19 k1_h1 => k1_hw19.2.2.2.2.2.2.2.2.2.2.2.2.1 k1_h1
theorem k1_off932_inb : ∀ (i : grid1.Coords) (v666 : BitVec 32) (k1_hw19 : k1_chk19 i v666), ∀ (k1_h1 : k1_cond1 i = 1#1), ∀ a, (k1_off932 v666) a + S1x16.size a ≤ S256x384.size a := fun i v666 k1_hw19 k1_h1 => k1_hw19.2.2.2.2.2.2.2.2.2.2.2.2.2.1 k1_h1
theorem k1_off933_inb : ∀ (i : grid1.Coords) (v666 : BitVec 32) (k1_hw19 : k1_chk19 i v666), ∀ (k1_h1 : k1_cond1 i = 1#1), ∀ a, (k1_off933 v666) a + S1x16.size a ≤ S256x384.size a := fun i v666 k1_hw19 k1_h1 => k1_hw19.2.2.2.2.2.2.2.2.2.2.2.2.2.2.1 k1_h1
theorem k1_off934_inb : ∀ (i : grid1.Coords) (v666 : BitVec 32) (k1_hw19 : k1_chk19 i v666), ∀ (k1_h1 : k1_cond1 i = 1#1), ∀ a, (k1_off934 v666) a + S1x16.size a ≤ S256x384.size a := fun i v666 k1_hw19 k1_h1 => k1_hw19.2.2.2.2.2.2.2.2.2.2.2.2.2.2.2.1 k1_h1
theorem k1_off935_inb : ∀ (i : grid1.Coords) (v666 : BitVec 32) (k1_hw19 : k1_chk19 i v666), ∀ (k1_h1 : k1_cond1 i = 1#1), ∀ a, (k1_off935 v666) a + S1x16.size a ≤ S256x384.size a := fun i v666 k1_hw19 k1_h1 => k1_hw19.2.2.2.2.2.2.2.2.2.2.2.2.2.2.2.2.1 k1_h1
theorem k1_off936_inb : ∀ (i : grid1.Coords) (v666 : BitVec 32) (k1_hw19 : k1_chk19 i v666), ∀ (k1_h1 : k1_cond1 i = 1#1), ∀ a, (k1_off936 v666) a + S1x16.size a ≤ S256x384.size a := fun i v666 k1_hw19 k1_h1 => k1_hw19.2.2.2.2.2.2.2.2.2.2.2.2.2.2.2.2.2.1 k1_h1
theorem k1_off937_inb : ∀ (i : grid1.Coords) (v666 : BitVec 32) (k1_hw19 : k1_chk19 i v666), ∀ (k1_h1 : k1_cond1 i = 1#1), ∀ a, (k1_off937 v666) a + S1x16.size a ≤ S256x384.size a := fun i v666 k1_hw19 k1_h1 => k1_hw19.2.2.2.2.2.2.2.2.2.2.2.2.2.2.2.2.2.2.1 k1_h1
theorem k1_off938_inb : ∀ (i : grid1.Coords) (v666 : BitVec 32) (k1_hw19 : k1_chk19 i v666), ∀ (k1_h1 : k1_cond1 i = 1#1), ∀ a, (k1_off938 v666) a + S1x16.size a ≤ S256x384.size a := fun i v666 k1_hw19 k1_h1 => k1_hw19.2.2.2.2.2.2.2.2.2.2.2.2.2.2.2.2.2.2.2.1 k1_h1
theorem k1_off939_inb : ∀ (i : grid1.Coords) (v666 : BitVec 32) (k1_hw19 : k1_chk19 i v666), ∀ (k1_h1 : k1_cond1 i = 1#1), ∀ a, (k1_off939 v666) a + S1x16.size a ≤ S256x384.size a := fun i v666 k1_hw19 k1_h1 => k1_hw19.2.2.2.2.2.2.2.2.2.2.2.2.2.2.2.2.2.2.2.2.1 k1_h1
theorem k1_off940_inb : ∀ (i : grid1.Coords) (v666 : BitVec 32) (k1_hw19 : k1_chk19 i v666), ∀ (k1_h1 : k1_cond1 i = 1#1), ∀ a, (k1_off940 v666) a + S1x16.size a ≤ S256x384.size a := fun i v666 k1_hw19 k1_h1 => k1_hw19.2.2.2.2.2.2.2.2.2.2.2.2.2.2.2.2.2.2.2.2.2.1 k1_h1
theorem k1_off941_inb : ∀ (i : grid1.Coords) (v666 : BitVec 32) (k1_hw19 : k1_chk19 i v666), ∀ (k1_h1 : k1_cond1 i = 1#1), ∀ a, (k1_off941 v666) a + S1x16.size a ≤ S256x384.size a := fun i v666 k1_hw19 k1_h1 => k1_hw19.2.2.2.2.2.2.2.2.2.2.2.2.2.2.2.2.2.2.2.2.2.2.1 k1_h1
theorem k1_off942_inb : ∀ (i : grid1.Coords) (v666 : BitVec 32) (k1_hw19 : k1_chk19 i v666), ∀ (k1_h1 : k1_cond1 i = 1#1), ∀ a, (k1_off942 v666) a + S1x16.size a ≤ S256x384.size a := fun i v666 k1_hw19 k1_h1 => k1_hw19.2.2.2.2.2.2.2.2.2.2.2.2.2.2.2.2.2.2.2.2.2.2.2 k1_h1

def k1_off943 (k1_t4 : Fin k1_t4_loop.trips) : Fin 2 → Nat :=
  let c0_i32_44 : BitVec 32 := 0#32
  let c1_i32_46 : BitVec 32 := 1#32
  let arg37 : BitVec 32 := Scf.iv c0_i32_44 c1_i32_46 k1_t4
  let c16_i32_251 : BitVec 32 := 16#32
  let v960 : BitVec 32 := Scalar.muli arg37 c16_i32_251
  let c3_i32 : BitVec 32 := 3#32
  let v961 : BitVec 32 := Scalar.addi v960 c3_i32
  let v963 : Index := Scalar.indexCast v961
  let c0_252 : Index := 0#32
  ![v963.toNat, 0]
def k1_off944 (k1_t4 : Fin k1_t4_loop.trips) : Fin 2 → Nat :=
  let c0_i32_44 : BitVec 32 := 0#32
  let c1_i32_46 : BitVec 32 := 1#32
  let arg37 : BitVec 32 := Scf.iv c0_i32_44 c1_i32_46 k1_t4
  let c16_i32_251 : BitVec 32 := 16#32
  let v960 : BitVec 32 := Scalar.muli arg37 c16_i32_251
  let c3_i32 : BitVec 32 := 3#32
  let v961 : BitVec 32 := Scalar.addi v960 c3_i32
  let v971 : Index := Scalar.indexCast v961
  let c16_254 : Index := 16#32
  ![v971.toNat, 16]
def k1_off945 (k1_t4 : Fin k1_t4_loop.trips) : Fin 2 → Nat :=
  let c0_i32_44 : BitVec 32 := 0#32
  let c1_i32_46 : BitVec 32 := 1#32
  let arg37 : BitVec 32 := Scf.iv c0_i32_44 c1_i32_46 k1_t4
  let c16_i32_251 : BitVec 32 := 16#32
  let v960 : BitVec 32 := Scalar.muli arg37 c16_i32_251
  let c3_i32 : BitVec 32 := 3#32
  let v961 : BitVec 32 := Scalar.addi v960 c3_i32
  let v979 : Index := Scalar.indexCast v961
  let c32_256 : Index := 32#32
  ![v979.toNat, 32]
def k1_off946 (k1_t4 : Fin k1_t4_loop.trips) : Fin 2 → Nat :=
  let c0_i32_44 : BitVec 32 := 0#32
  let c1_i32_46 : BitVec 32 := 1#32
  let arg37 : BitVec 32 := Scf.iv c0_i32_44 c1_i32_46 k1_t4
  let c16_i32_251 : BitVec 32 := 16#32
  let v960 : BitVec 32 := Scalar.muli arg37 c16_i32_251
  let c3_i32 : BitVec 32 := 3#32
  let v961 : BitVec 32 := Scalar.addi v960 c3_i32
  let v987 : Index := Scalar.indexCast v961
  let c48_258 : Index := 48#32
  ![v987.toNat, 48]
def k1_off947 (k1_t4 : Fin k1_t4_loop.trips) : Fin 2 → Nat :=
  let c0_i32_44 : BitVec 32 := 0#32
  let c1_i32_46 : BitVec 32 := 1#32
  let arg37 : BitVec 32 := Scf.iv c0_i32_44 c1_i32_46 k1_t4
  let c16_i32_251 : BitVec 32 := 16#32
  let v960 : BitVec 32 := Scalar.muli arg37 c16_i32_251
  let c3_i32 : BitVec 32 := 3#32
  let v961 : BitVec 32 := Scalar.addi v960 c3_i32
  let v995 : Index := Scalar.indexCast v961
  let c64_260 : Index := 64#32
  ![v995.toNat, 64]
def k1_off948 (k1_t4 : Fin k1_t4_loop.trips) : Fin 2 → Nat :=
  let c0_i32_44 : BitVec 32 := 0#32
  let c1_i32_46 : BitVec 32 := 1#32
  let arg37 : BitVec 32 := Scf.iv c0_i32_44 c1_i32_46 k1_t4
  let c16_i32_251 : BitVec 32 := 16#32
  let v960 : BitVec 32 := Scalar.muli arg37 c16_i32_251
  let c3_i32 : BitVec 32 := 3#32
  let v961 : BitVec 32 := Scalar.addi v960 c3_i32
  let v1003 : Index := Scalar.indexCast v961
  let c80_262 : Index := 80#32
  ![v1003.toNat, 80]
def k1_off949 (k1_t4 : Fin k1_t4_loop.trips) : Fin 2 → Nat :=
  let c0_i32_44 : BitVec 32 := 0#32
  let c1_i32_46 : BitVec 32 := 1#32
  let arg37 : BitVec 32 := Scf.iv c0_i32_44 c1_i32_46 k1_t4
  let c16_i32_251 : BitVec 32 := 16#32
  let v960 : BitVec 32 := Scalar.muli arg37 c16_i32_251
  let c3_i32 : BitVec 32 := 3#32
  let v961 : BitVec 32 := Scalar.addi v960 c3_i32
  let v1011 : Index := Scalar.indexCast v961
  let c96_264 : Index := 96#32
  ![v1011.toNat, 96]
def k1_off950 (k1_t4 : Fin k1_t4_loop.trips) : Fin 2 → Nat :=
  let c0_i32_44 : BitVec 32 := 0#32
  let c1_i32_46 : BitVec 32 := 1#32
  let arg37 : BitVec 32 := Scf.iv c0_i32_44 c1_i32_46 k1_t4
  let c16_i32_251 : BitVec 32 := 16#32
  let v960 : BitVec 32 := Scalar.muli arg37 c16_i32_251
  let c3_i32 : BitVec 32 := 3#32
  let v961 : BitVec 32 := Scalar.addi v960 c3_i32
  let v1019 : Index := Scalar.indexCast v961
  let c112_266 : Index := 112#32
  ![v1019.toNat, 112]
def k1_off951 (k1_t4 : Fin k1_t4_loop.trips) : Fin 2 → Nat :=
  let c0_i32_44 : BitVec 32 := 0#32
  let c1_i32_46 : BitVec 32 := 1#32
  let arg37 : BitVec 32 := Scf.iv c0_i32_44 c1_i32_46 k1_t4
  let c16_i32_251 : BitVec 32 := 16#32
  let v960 : BitVec 32 := Scalar.muli arg37 c16_i32_251
  let c3_i32 : BitVec 32 := 3#32
  let v961 : BitVec 32 := Scalar.addi v960 c3_i32
  let v1027 : Index := Scalar.indexCast v961
  let c128_268 : Index := 128#32
  ![v1027.toNat, 128]
def k1_off952 (k1_t4 : Fin k1_t4_loop.trips) : Fin 2 → Nat :=
  let c0_i32_44 : BitVec 32 := 0#32
  let c1_i32_46 : BitVec 32 := 1#32
  let arg37 : BitVec 32 := Scf.iv c0_i32_44 c1_i32_46 k1_t4
  let c16_i32_251 : BitVec 32 := 16#32
  let v960 : BitVec 32 := Scalar.muli arg37 c16_i32_251
  let c3_i32 : BitVec 32 := 3#32
  let v961 : BitVec 32 := Scalar.addi v960 c3_i32
  let v1035 : Index := Scalar.indexCast v961
  let c144_270 : Index := 144#32
  ![v1035.toNat, 144]
def k1_off953 (k1_t4 : Fin k1_t4_loop.trips) : Fin 2 → Nat :=
  let c0_i32_44 : BitVec 32 := 0#32
  let c1_i32_46 : BitVec 32 := 1#32
  let arg37 : BitVec 32 := Scf.iv c0_i32_44 c1_i32_46 k1_t4
  let c16_i32_251 : BitVec 32 := 16#32
  let v960 : BitVec 32 := Scalar.muli arg37 c16_i32_251
  let c3_i32 : BitVec 32 := 3#32
  let v961 : BitVec 32 := Scalar.addi v960 c3_i32
  let v1043 : Index := Scalar.indexCast v961
  let c160_272 : Index := 160#32
  ![v1043.toNat, 160]
def k1_off954 (k1_t4 : Fin k1_t4_loop.trips) : Fin 2 → Nat :=
  let c0_i32_44 : BitVec 32 := 0#32
  let c1_i32_46 : BitVec 32 := 1#32
  let arg37 : BitVec 32 := Scf.iv c0_i32_44 c1_i32_46 k1_t4
  let c16_i32_251 : BitVec 32 := 16#32
  let v960 : BitVec 32 := Scalar.muli arg37 c16_i32_251
  let c3_i32 : BitVec 32 := 3#32
  let v961 : BitVec 32 := Scalar.addi v960 c3_i32
  let v1051 : Index := Scalar.indexCast v961
  let c176_274 : Index := 176#32
  ![v1051.toNat, 176]
def k1_off955 (k1_t4 : Fin k1_t4_loop.trips) : Fin 2 → Nat :=
  let c0_i32_44 : BitVec 32 := 0#32
  let c1_i32_46 : BitVec 32 := 1#32
  let arg37 : BitVec 32 := Scf.iv c0_i32_44 c1_i32_46 k1_t4
  let c16_i32_251 : BitVec 32 := 16#32
  let v960 : BitVec 32 := Scalar.muli arg37 c16_i32_251
  let c3_i32 : BitVec 32 := 3#32
  let v961 : BitVec 32 := Scalar.addi v960 c3_i32
  let v1059 : Index := Scalar.indexCast v961
  let c192_276 : Index := 192#32
  ![v1059.toNat, 192]
def k1_off956 (k1_t4 : Fin k1_t4_loop.trips) : Fin 2 → Nat :=
  let c0_i32_44 : BitVec 32 := 0#32
  let c1_i32_46 : BitVec 32 := 1#32
  let arg37 : BitVec 32 := Scf.iv c0_i32_44 c1_i32_46 k1_t4
  let c16_i32_251 : BitVec 32 := 16#32
  let v960 : BitVec 32 := Scalar.muli arg37 c16_i32_251
  let c3_i32 : BitVec 32 := 3#32
  let v961 : BitVec 32 := Scalar.addi v960 c3_i32
  let v1067 : Index := Scalar.indexCast v961
  let c208_278 : Index := 208#32
  ![v1067.toNat, 208]
def k1_off957 (k1_t4 : Fin k1_t4_loop.trips) : Fin 2 → Nat :=
  let c0_i32_44 : BitVec 32 := 0#32
  let c1_i32_46 : BitVec 32 := 1#32
  let arg37 : BitVec 32 := Scf.iv c0_i32_44 c1_i32_46 k1_t4
  let c16_i32_251 : BitVec 32 := 16#32
  let v960 : BitVec 32 := Scalar.muli arg37 c16_i32_251
  let c3_i32 : BitVec 32 := 3#32
  let v961 : BitVec 32 := Scalar.addi v960 c3_i32
  let v1075 : Index := Scalar.indexCast v961
  let c224_280 : Index := 224#32
  ![v1075.toNat, 224]
def k1_off958 (k1_t4 : Fin k1_t4_loop.trips) : Fin 2 → Nat :=
  let c0_i32_44 : BitVec 32 := 0#32
  let c1_i32_46 : BitVec 32 := 1#32
  let arg37 : BitVec 32 := Scf.iv c0_i32_44 c1_i32_46 k1_t4
  let c16_i32_251 : BitVec 32 := 16#32
  let v960 : BitVec 32 := Scalar.muli arg37 c16_i32_251
  let c3_i32 : BitVec 32 := 3#32
  let v961 : BitVec 32 := Scalar.addi v960 c3_i32
  let v1083 : Index := Scalar.indexCast v961
  let c240_282 : Index := 240#32
  ![v1083.toNat, 240]
def k1_off959 (k1_t4 : Fin k1_t4_loop.trips) : Fin 2 → Nat :=
  let c0_i32_44 : BitVec 32 := 0#32
  let c1_i32_46 : BitVec 32 := 1#32
  let arg37 : BitVec 32 := Scf.iv c0_i32_44 c1_i32_46 k1_t4
  let c16_i32_251 : BitVec 32 := 16#32
  let v960 : BitVec 32 := Scalar.muli arg37 c16_i32_251
  let c3_i32 : BitVec 32 := 3#32
  let v961 : BitVec 32 := Scalar.addi v960 c3_i32
  let v1091 : Index := Scalar.indexCast v961
  let c256_284 : Index := 256#32
  ![v1091.toNat, 256]
def k1_off960 (k1_t4 : Fin k1_t4_loop.trips) : Fin 2 → Nat :=
  let c0_i32_44 : BitVec 32 := 0#32
  let c1_i32_46 : BitVec 32 := 1#32
  let arg37 : BitVec 32 := Scf.iv c0_i32_44 c1_i32_46 k1_t4
  let c16_i32_251 : BitVec 32 := 16#32
  let v960 : BitVec 32 := Scalar.muli arg37 c16_i32_251
  let c3_i32 : BitVec 32 := 3#32
  let v961 : BitVec 32 := Scalar.addi v960 c3_i32
  let v1099 : Index := Scalar.indexCast v961
  let c272_286 : Index := 272#32
  ![v1099.toNat, 272]
def k1_off961 (k1_t4 : Fin k1_t4_loop.trips) : Fin 2 → Nat :=
  let c0_i32_44 : BitVec 32 := 0#32
  let c1_i32_46 : BitVec 32 := 1#32
  let arg37 : BitVec 32 := Scf.iv c0_i32_44 c1_i32_46 k1_t4
  let c16_i32_251 : BitVec 32 := 16#32
  let v960 : BitVec 32 := Scalar.muli arg37 c16_i32_251
  let c3_i32 : BitVec 32 := 3#32
  let v961 : BitVec 32 := Scalar.addi v960 c3_i32
  let v1107 : Index := Scalar.indexCast v961
  let c288_288 : Index := 288#32
  ![v1107.toNat, 288]
def k1_off962 (k1_t4 : Fin k1_t4_loop.trips) : Fin 2 → Nat :=
  let c0_i32_44 : BitVec 32 := 0#32
  let c1_i32_46 : BitVec 32 := 1#32
  let arg37 : BitVec 32 := Scf.iv c0_i32_44 c1_i32_46 k1_t4
  let c16_i32_251 : BitVec 32 := 16#32
  let v960 : BitVec 32 := Scalar.muli arg37 c16_i32_251
  let c3_i32 : BitVec 32 := 3#32
  let v961 : BitVec 32 := Scalar.addi v960 c3_i32
  let v1115 : Index := Scalar.indexCast v961
  let c304_290 : Index := 304#32
  ![v1115.toNat, 304]
def k1_off963 (k1_t4 : Fin k1_t4_loop.trips) : Fin 2 → Nat :=
  let c0_i32_44 : BitVec 32 := 0#32
  let c1_i32_46 : BitVec 32 := 1#32
  let arg37 : BitVec 32 := Scf.iv c0_i32_44 c1_i32_46 k1_t4
  let c16_i32_251 : BitVec 32 := 16#32
  let v960 : BitVec 32 := Scalar.muli arg37 c16_i32_251
  let c3_i32 : BitVec 32 := 3#32
  let v961 : BitVec 32 := Scalar.addi v960 c3_i32
  let v1123 : Index := Scalar.indexCast v961
  let c320_292 : Index := 320#32
  ![v1123.toNat, 320]
def k1_off964 (k1_t4 : Fin k1_t4_loop.trips) : Fin 2 → Nat :=
  let c0_i32_44 : BitVec 32 := 0#32
  let c1_i32_46 : BitVec 32 := 1#32
  let arg37 : BitVec 32 := Scf.iv c0_i32_44 c1_i32_46 k1_t4
  let c16_i32_251 : BitVec 32 := 16#32
  let v960 : BitVec 32 := Scalar.muli arg37 c16_i32_251
  let c3_i32 : BitVec 32 := 3#32
  let v961 : BitVec 32 := Scalar.addi v960 c3_i32
  let v1131 : Index := Scalar.indexCast v961
  let c336_294 : Index := 336#32
  ![v1131.toNat, 336]
def k1_off965 (k1_t4 : Fin k1_t4_loop.trips) : Fin 2 → Nat :=
  let c0_i32_44 : BitVec 32 := 0#32
  let c1_i32_46 : BitVec 32 := 1#32
  let arg37 : BitVec 32 := Scf.iv c0_i32_44 c1_i32_46 k1_t4
  let c16_i32_251 : BitVec 32 := 16#32
  let v960 : BitVec 32 := Scalar.muli arg37 c16_i32_251
  let c3_i32 : BitVec 32 := 3#32
  let v961 : BitVec 32 := Scalar.addi v960 c3_i32
  let v1139 : Index := Scalar.indexCast v961
  let c352_296 : Index := 352#32
  ![v1139.toNat, 352]
def k1_off966 (k1_t4 : Fin k1_t4_loop.trips) : Fin 2 → Nat :=
  let c0_i32_44 : BitVec 32 := 0#32
  let c1_i32_46 : BitVec 32 := 1#32
  let arg37 : BitVec 32 := Scf.iv c0_i32_44 c1_i32_46 k1_t4
  let c16_i32_251 : BitVec 32 := 16#32
  let v960 : BitVec 32 := Scalar.muli arg37 c16_i32_251
  let c3_i32 : BitVec 32 := 3#32
  let v961 : BitVec 32 := Scalar.addi v960 c3_i32
  let v1147 : Index := Scalar.indexCast v961
  let c368_298 : Index := 368#32
  ![v1147.toNat, 368]
def k1_off967 (v959 : BitVec 32) : Fin 2 → Nat :=
  let v1155 : Index := Scalar.indexCast v959
  let c0_300 : Index := 0#32
  ![v1155.toNat, 0]

def k1_off968 (v959 : BitVec 32) : Fin 2 → Nat :=
  let v1159 : Index := Scalar.indexCast v959
  let c16_301 : Index := 16#32
  ![v1159.toNat, 16]
def k1_off969 (v959 : BitVec 32) : Fin 2 → Nat :=
  let v1163 : Index := Scalar.indexCast v959
  let c32_302 : Index := 32#32
  ![v1163.toNat, 32]
def k1_off970 (v959 : BitVec 32) : Fin 2 → Nat :=
  let v1167 : Index := Scalar.indexCast v959
  let c48_303 : Index := 48#32
  ![v1167.toNat, 48]
def k1_off971 (v959 : BitVec 32) : Fin 2 → Nat :=
  let v1171 : Index := Scalar.indexCast v959
  let c64_304 : Index := 64#32
  ![v1171.toNat, 64]
def k1_off972 (v959 : BitVec 32) : Fin 2 → Nat :=
  let v1175 : Index := Scalar.indexCast v959
  let c80_305 : Index := 80#32
  ![v1175.toNat, 80]
def k1_off973 (v959 : BitVec 32) : Fin 2 → Nat :=
  let v1179 : Index := Scalar.indexCast v959
  let c96_306 : Index := 96#32
  ![v1179.toNat, 96]
def k1_off974 (v959 : BitVec 32) : Fin 2 → Nat :=
  let v1183 : Index := Scalar.indexCast v959
  let c112_307 : Index := 112#32
  ![v1183.toNat, 112]
def k1_off975 (v959 : BitVec 32) : Fin 2 → Nat :=
  let v1187 : Index := Scalar.indexCast v959
  let c128_308 : Index := 128#32
  ![v1187.toNat, 128]
def k1_off976 (v959 : BitVec 32) : Fin 2 → Nat :=
  let v1191 : Index := Scalar.indexCast v959
  let c144_309 : Index := 144#32
  ![v1191.toNat, 144]
def k1_off977 (v959 : BitVec 32) : Fin 2 → Nat :=
  let v1195 : Index := Scalar.indexCast v959
  let c160_310 : Index := 160#32
  ![v1195.toNat, 160]
def k1_off978 (v959 : BitVec 32) : Fin 2 → Nat :=
  let v1199 : Index := Scalar.indexCast v959
  let c176_311 : Index := 176#32
  ![v1199.toNat, 176]
def k1_off979 (v959 : BitVec 32) : Fin 2 → Nat :=
  let v1203 : Index := Scalar.indexCast v959
  let c192_312 : Index := 192#32
  ![v1203.toNat, 192]
def k1_off980 (v959 : BitVec 32) : Fin 2 → Nat :=
  let v1207 : Index := Scalar.indexCast v959
  let c208_313 : Index := 208#32
  ![v1207.toNat, 208]
def k1_off981 (v959 : BitVec 32) : Fin 2 → Nat :=
  let v1211 : Index := Scalar.indexCast v959
  let c224_314 : Index := 224#32
  ![v1211.toNat, 224]
def k1_off982 (v959 : BitVec 32) : Fin 2 → Nat :=
  let v1215 : Index := Scalar.indexCast v959
  let c240_315 : Index := 240#32
  ![v1215.toNat, 240]
def k1_off983 (v959 : BitVec 32) : Fin 2 → Nat :=
  let v1219 : Index := Scalar.indexCast v959
  let c256_316 : Index := 256#32
  ![v1219.toNat, 256]
def k1_off984 (v959 : BitVec 32) : Fin 2 → Nat :=
  let v1223 : Index := Scalar.indexCast v959
  let c272_317 : Index := 272#32
  ![v1223.toNat, 272]
def k1_off985 (v959 : BitVec 32) : Fin 2 → Nat :=
  let v1227 : Index := Scalar.indexCast v959
  let c288_318 : Index := 288#32
  ![v1227.toNat, 288]
def k1_off986 (v959 : BitVec 32) : Fin 2 → Nat :=
  let v1231 : Index := Scalar.indexCast v959
  let c304_319 : Index := 304#32
  ![v1231.toNat, 304]
def k1_off987 (v959 : BitVec 32) : Fin 2 → Nat :=
  let v1235 : Index := Scalar.indexCast v959
  let c320_320 : Index := 320#32
  ![v1235.toNat, 320]
def k1_off988 (v959 : BitVec 32) : Fin 2 → Nat :=
  let v1239 : Index := Scalar.indexCast v959
  let c336_321 : Index := 336#32
  ![v1239.toNat, 336]
def k1_off989 (v959 : BitVec 32) : Fin 2 → Nat :=
  let v1243 : Index := Scalar.indexCast v959
  let c352_322 : Index := 352#32
  ![v1243.toNat, 352]
def k1_off990 (v959 : BitVec 32) : Fin 2 → Nat :=
  let v1247 : Index := Scalar.indexCast v959
  let c368_323 : Index := 368#32
  ![v1247.toNat, 368]

def k1_chk20 (i : grid1.Coords) (v959 : BitVec 32) : Prop :=
  (∀ (k1_h1 : k1_cond1 i = 1#1), ∀ a, (k1_off967 v959) a + S1x16.size a ≤ S256x384.size a) ∧
  (∀ (k1_h1 : k1_cond1 i = 1#1), ∀ a, (k1_off968 v959) a + S1x16.size a ≤ S256x384.size a) ∧
  (∀ (k1_h1 : k1_cond1 i = 1#1), ∀ a, (k1_off969 v959) a + S1x16.size a ≤ S256x384.size a) ∧
  (∀ (k1_h1 : k1_cond1 i = 1#1), ∀ a, (k1_off970 v959) a + S1x16.size a ≤ S256x384.size a) ∧
  (∀ (k1_h1 : k1_cond1 i = 1#1), ∀ a, (k1_off971 v959) a + S1x16.size a ≤ S256x384.size a) ∧
  (∀ (k1_h1 : k1_cond1 i = 1#1), ∀ a, (k1_off972 v959) a + S1x16.size a ≤ S256x384.size a) ∧
  (∀ (k1_h1 : k1_cond1 i = 1#1), ∀ a, (k1_off973 v959) a + S1x16.size a ≤ S256x384.size a) ∧
  (∀ (k1_h1 : k1_cond1 i = 1#1), ∀ a, (k1_off974 v959) a + S1x16.size a ≤ S256x384.size a) ∧
  (∀ (k1_h1 : k1_cond1 i = 1#1), ∀ a, (k1_off975 v959) a + S1x16.size a ≤ S256x384.size a) ∧
  (∀ (k1_h1 : k1_cond1 i = 1#1), ∀ a, (k1_off976 v959) a + S1x16.size a ≤ S256x384.size a) ∧
  (∀ (k1_h1 : k1_cond1 i = 1#1), ∀ a, (k1_off977 v959) a + S1x16.size a ≤ S256x384.size a) ∧
  (∀ (k1_h1 : k1_cond1 i = 1#1), ∀ a, (k1_off978 v959) a + S1x16.size a ≤ S256x384.size a) ∧
  (∀ (k1_h1 : k1_cond1 i = 1#1), ∀ a, (k1_off979 v959) a + S1x16.size a ≤ S256x384.size a) ∧
  (∀ (k1_h1 : k1_cond1 i = 1#1), ∀ a, (k1_off980 v959) a + S1x16.size a ≤ S256x384.size a) ∧
  (∀ (k1_h1 : k1_cond1 i = 1#1), ∀ a, (k1_off981 v959) a + S1x16.size a ≤ S256x384.size a) ∧
  (∀ (k1_h1 : k1_cond1 i = 1#1), ∀ a, (k1_off982 v959) a + S1x16.size a ≤ S256x384.size a) ∧
  (∀ (k1_h1 : k1_cond1 i = 1#1), ∀ a, (k1_off983 v959) a + S1x16.size a ≤ S256x384.size a) ∧
  (∀ (k1_h1 : k1_cond1 i = 1#1), ∀ a, (k1_off984 v959) a + S1x16.size a ≤ S256x384.size a) ∧
  (∀ (k1_h1 : k1_cond1 i = 1#1), ∀ a, (k1_off985 v959) a + S1x16.size a ≤ S256x384.size a) ∧
  (∀ (k1_h1 : k1_cond1 i = 1#1), ∀ a, (k1_off986 v959) a + S1x16.size a ≤ S256x384.size a) ∧
  (∀ (k1_h1 : k1_cond1 i = 1#1), ∀ a, (k1_off987 v959) a + S1x16.size a ≤ S256x384.size a) ∧
  (∀ (k1_h1 : k1_cond1 i = 1#1), ∀ a, (k1_off988 v959) a + S1x16.size a ≤ S256x384.size a) ∧
  (∀ (k1_h1 : k1_cond1 i = 1#1), ∀ a, (k1_off989 v959) a + S1x16.size a ≤ S256x384.size a) ∧
  (∀ (k1_h1 : k1_cond1 i = 1#1), ∀ a, (k1_off990 v959) a + S1x16.size a ≤ S256x384.size a)
theorem k1_off967_inb : ∀ (i : grid1.Coords) (v959 : BitVec 32) (k1_hw20 : k1_chk20 i v959), ∀ (k1_h1 : k1_cond1 i = 1#1), ∀ a, (k1_off967 v959) a + S1x16.size a ≤ S256x384.size a := fun i v959 k1_hw20 k1_h1 => k1_hw20.1 k1_h1
theorem k1_off968_inb : ∀ (i : grid1.Coords) (v959 : BitVec 32) (k1_hw20 : k1_chk20 i v959), ∀ (k1_h1 : k1_cond1 i = 1#1), ∀ a, (k1_off968 v959) a + S1x16.size a ≤ S256x384.size a := fun i v959 k1_hw20 k1_h1 => k1_hw20.2.1 k1_h1
theorem k1_off969_inb : ∀ (i : grid1.Coords) (v959 : BitVec 32) (k1_hw20 : k1_chk20 i v959), ∀ (k1_h1 : k1_cond1 i = 1#1), ∀ a, (k1_off969 v959) a + S1x16.size a ≤ S256x384.size a := fun i v959 k1_hw20 k1_h1 => k1_hw20.2.2.1 k1_h1
theorem k1_off970_inb : ∀ (i : grid1.Coords) (v959 : BitVec 32) (k1_hw20 : k1_chk20 i v959), ∀ (k1_h1 : k1_cond1 i = 1#1), ∀ a, (k1_off970 v959) a + S1x16.size a ≤ S256x384.size a := fun i v959 k1_hw20 k1_h1 => k1_hw20.2.2.2.1 k1_h1
theorem k1_off971_inb : ∀ (i : grid1.Coords) (v959 : BitVec 32) (k1_hw20 : k1_chk20 i v959), ∀ (k1_h1 : k1_cond1 i = 1#1), ∀ a, (k1_off971 v959) a + S1x16.size a ≤ S256x384.size a := fun i v959 k1_hw20 k1_h1 => k1_hw20.2.2.2.2.1 k1_h1
theorem k1_off972_inb : ∀ (i : grid1.Coords) (v959 : BitVec 32) (k1_hw20 : k1_chk20 i v959), ∀ (k1_h1 : k1_cond1 i = 1#1), ∀ a, (k1_off972 v959) a + S1x16.size a ≤ S256x384.size a := fun i v959 k1_hw20 k1_h1 => k1_hw20.2.2.2.2.2.1 k1_h1
theorem k1_off973_inb : ∀ (i : grid1.Coords) (v959 : BitVec 32) (k1_hw20 : k1_chk20 i v959), ∀ (k1_h1 : k1_cond1 i = 1#1), ∀ a, (k1_off973 v959) a + S1x16.size a ≤ S256x384.size a := fun i v959 k1_hw20 k1_h1 => k1_hw20.2.2.2.2.2.2.1 k1_h1
theorem k1_off974_inb : ∀ (i : grid1.Coords) (v959 : BitVec 32) (k1_hw20 : k1_chk20 i v959), ∀ (k1_h1 : k1_cond1 i = 1#1), ∀ a, (k1_off974 v959) a + S1x16.size a ≤ S256x384.size a := fun i v959 k1_hw20 k1_h1 => k1_hw20.2.2.2.2.2.2.2.1 k1_h1
theorem k1_off975_inb : ∀ (i : grid1.Coords) (v959 : BitVec 32) (k1_hw20 : k1_chk20 i v959), ∀ (k1_h1 : k1_cond1 i = 1#1), ∀ a, (k1_off975 v959) a + S1x16.size a ≤ S256x384.size a := fun i v959 k1_hw20 k1_h1 => k1_hw20.2.2.2.2.2.2.2.2.1 k1_h1
theorem k1_off976_inb : ∀ (i : grid1.Coords) (v959 : BitVec 32) (k1_hw20 : k1_chk20 i v959), ∀ (k1_h1 : k1_cond1 i = 1#1), ∀ a, (k1_off976 v959) a + S1x16.size a ≤ S256x384.size a := fun i v959 k1_hw20 k1_h1 => k1_hw20.2.2.2.2.2.2.2.2.2.1 k1_h1
theorem k1_off977_inb : ∀ (i : grid1.Coords) (v959 : BitVec 32) (k1_hw20 : k1_chk20 i v959), ∀ (k1_h1 : k1_cond1 i = 1#1), ∀ a, (k1_off977 v959) a + S1x16.size a ≤ S256x384.size a := fun i v959 k1_hw20 k1_h1 => k1_hw20.2.2.2.2.2.2.2.2.2.2.1 k1_h1
theorem k1_off978_inb : ∀ (i : grid1.Coords) (v959 : BitVec 32) (k1_hw20 : k1_chk20 i v959), ∀ (k1_h1 : k1_cond1 i = 1#1), ∀ a, (k1_off978 v959) a + S1x16.size a ≤ S256x384.size a := fun i v959 k1_hw20 k1_h1 => k1_hw20.2.2.2.2.2.2.2.2.2.2.2.1 k1_h1
theorem k1_off979_inb : ∀ (i : grid1.Coords) (v959 : BitVec 32) (k1_hw20 : k1_chk20 i v959), ∀ (k1_h1 : k1_cond1 i = 1#1), ∀ a, (k1_off979 v959) a + S1x16.size a ≤ S256x384.size a := fun i v959 k1_hw20 k1_h1 => k1_hw20.2.2.2.2.2.2.2.2.2.2.2.2.1 k1_h1
theorem k1_off980_inb : ∀ (i : grid1.Coords) (v959 : BitVec 32) (k1_hw20 : k1_chk20 i v959), ∀ (k1_h1 : k1_cond1 i = 1#1), ∀ a, (k1_off980 v959) a + S1x16.size a ≤ S256x384.size a := fun i v959 k1_hw20 k1_h1 => k1_hw20.2.2.2.2.2.2.2.2.2.2.2.2.2.1 k1_h1
theorem k1_off981_inb : ∀ (i : grid1.Coords) (v959 : BitVec 32) (k1_hw20 : k1_chk20 i v959), ∀ (k1_h1 : k1_cond1 i = 1#1), ∀ a, (k1_off981 v959) a + S1x16.size a ≤ S256x384.size a := fun i v959 k1_hw20 k1_h1 => k1_hw20.2.2.2.2.2.2.2.2.2.2.2.2.2.2.1 k1_h1
theorem k1_off982_inb : ∀ (i : grid1.Coords) (v959 : BitVec 32) (k1_hw20 : k1_chk20 i v959), ∀ (k1_h1 : k1_cond1 i = 1#1), ∀ a, (k1_off982 v959) a + S1x16.size a ≤ S256x384.size a := fun i v959 k1_hw20 k1_h1 => k1_hw20.2.2.2.2.2.2.2.2.2.2.2.2.2.2.2.1 k1_h1
theorem k1_off983_inb : ∀ (i : grid1.Coords) (v959 : BitVec 32) (k1_hw20 : k1_chk20 i v959), ∀ (k1_h1 : k1_cond1 i = 1#1), ∀ a, (k1_off983 v959) a + S1x16.size a ≤ S256x384.size a := fun i v959 k1_hw20 k1_h1 => k1_hw20.2.2.2.2.2.2.2.2.2.2.2.2.2.2.2.2.1 k1_h1
theorem k1_off984_inb : ∀ (i : grid1.Coords) (v959 : BitVec 32) (k1_hw20 : k1_chk20 i v959), ∀ (k1_h1 : k1_cond1 i = 1#1), ∀ a, (k1_off984 v959) a + S1x16.size a ≤ S256x384.size a := fun i v959 k1_hw20 k1_h1 => k1_hw20.2.2.2.2.2.2.2.2.2.2.2.2.2.2.2.2.2.1 k1_h1
theorem k1_off985_inb : ∀ (i : grid1.Coords) (v959 : BitVec 32) (k1_hw20 : k1_chk20 i v959), ∀ (k1_h1 : k1_cond1 i = 1#1), ∀ a, (k1_off985 v959) a + S1x16.size a ≤ S256x384.size a := fun i v959 k1_hw20 k1_h1 => k1_hw20.2.2.2.2.2.2.2.2.2.2.2.2.2.2.2.2.2.2.1 k1_h1
theorem k1_off986_inb : ∀ (i : grid1.Coords) (v959 : BitVec 32) (k1_hw20 : k1_chk20 i v959), ∀ (k1_h1 : k1_cond1 i = 1#1), ∀ a, (k1_off986 v959) a + S1x16.size a ≤ S256x384.size a := fun i v959 k1_hw20 k1_h1 => k1_hw20.2.2.2.2.2.2.2.2.2.2.2.2.2.2.2.2.2.2.2.1 k1_h1
theorem k1_off987_inb : ∀ (i : grid1.Coords) (v959 : BitVec 32) (k1_hw20 : k1_chk20 i v959), ∀ (k1_h1 : k1_cond1 i = 1#1), ∀ a, (k1_off987 v959) a + S1x16.size a ≤ S256x384.size a := fun i v959 k1_hw20 k1_h1 => k1_hw20.2.2.2.2.2.2.2.2.2.2.2.2.2.2.2.2.2.2.2.2.1 k1_h1
theorem k1_off988_inb : ∀ (i : grid1.Coords) (v959 : BitVec 32) (k1_hw20 : k1_chk20 i v959), ∀ (k1_h1 : k1_cond1 i = 1#1), ∀ a, (k1_off988 v959) a + S1x16.size a ≤ S256x384.size a := fun i v959 k1_hw20 k1_h1 => k1_hw20.2.2.2.2.2.2.2.2.2.2.2.2.2.2.2.2.2.2.2.2.2.1 k1_h1
theorem k1_off989_inb : ∀ (i : grid1.Coords) (v959 : BitVec 32) (k1_hw20 : k1_chk20 i v959), ∀ (k1_h1 : k1_cond1 i = 1#1), ∀ a, (k1_off989 v959) a + S1x16.size a ≤ S256x384.size a := fun i v959 k1_hw20 k1_h1 => k1_hw20.2.2.2.2.2.2.2.2.2.2.2.2.2.2.2.2.2.2.2.2.2.2.1 k1_h1
theorem k1_off990_inb : ∀ (i : grid1.Coords) (v959 : BitVec 32) (k1_hw20 : k1_chk20 i v959), ∀ (k1_h1 : k1_cond1 i = 1#1), ∀ a, (k1_off990 v959) a + S1x16.size a ≤ S256x384.size a := fun i v959 k1_hw20 k1_h1 => k1_hw20.2.2.2.2.2.2.2.2.2.2.2.2.2.2.2.2.2.2.2.2.2.2.2 k1_h1

def k1_off991 (k1_t4 : Fin k1_t4_loop.trips) : Fin 2 → Nat :=
  let c0_i32_44 : BitVec 32 := 0#32
  let c1_i32_46 : BitVec 32 := 1#32
  let arg37 : BitVec 32 := Scf.iv c0_i32_44 c1_i32_46 k1_t4
  let c16_i32_324 : BitVec 32 := 16#32
  let v1253 : BitVec 32 := Scalar.muli arg37 c16_i32_324
  let c4_i32 : BitVec 32 := 4#32
  let v1254 : BitVec 32 := Scalar.addi v1253 c4_i32
  let v1256 : Index := Scalar.indexCast v1254
  let c0_325 : Index := 0#32
  ![v1256.toNat, 0]
def k1_off992 (k1_t4 : Fin k1_t4_loop.trips) : Fin 2 → Nat :=
  let c0_i32_44 : BitVec 32 := 0#32
  let c1_i32_46 : BitVec 32 := 1#32
  let arg37 : BitVec 32 := Scf.iv c0_i32_44 c1_i32_46 k1_t4
  let c16_i32_324 : BitVec 32 := 16#32
  let v1253 : BitVec 32 := Scalar.muli arg37 c16_i32_324
  let c4_i32 : BitVec 32 := 4#32
  let v1254 : BitVec 32 := Scalar.addi v1253 c4_i32
  let v1264 : Index := Scalar.indexCast v1254
  let c16_327 : Index := 16#32
  ![v1264.toNat, 16]
def k1_off993 (k1_t4 : Fin k1_t4_loop.trips) : Fin 2 → Nat :=
  let c0_i32_44 : BitVec 32 := 0#32
  let c1_i32_46 : BitVec 32 := 1#32
  let arg37 : BitVec 32 := Scf.iv c0_i32_44 c1_i32_46 k1_t4
  let c16_i32_324 : BitVec 32 := 16#32
  let v1253 : BitVec 32 := Scalar.muli arg37 c16_i32_324
  let c4_i32 : BitVec 32 := 4#32
  let v1254 : BitVec 32 := Scalar.addi v1253 c4_i32
  let v1272 : Index := Scalar.indexCast v1254
  let c32_329 : Index := 32#32
  ![v1272.toNat, 32]
def k1_off994 (k1_t4 : Fin k1_t4_loop.trips) : Fin 2 → Nat :=
  let c0_i32_44 : BitVec 32 := 0#32
  let c1_i32_46 : BitVec 32 := 1#32
  let arg37 : BitVec 32 := Scf.iv c0_i32_44 c1_i32_46 k1_t4
  let c16_i32_324 : BitVec 32 := 16#32
  let v1253 : BitVec 32 := Scalar.muli arg37 c16_i32_324
  let c4_i32 : BitVec 32 := 4#32
  let v1254 : BitVec 32 := Scalar.addi v1253 c4_i32
  let v1280 : Index := Scalar.indexCast v1254
  let c48_331 : Index := 48#32
  ![v1280.toNat, 48]
def k1_off995 (k1_t4 : Fin k1_t4_loop.trips) : Fin 2 → Nat :=
  let c0_i32_44 : BitVec 32 := 0#32
  let c1_i32_46 : BitVec 32 := 1#32
  let arg37 : BitVec 32 := Scf.iv c0_i32_44 c1_i32_46 k1_t4
  let c16_i32_324 : BitVec 32 := 16#32
  let v1253 : BitVec 32 := Scalar.muli arg37 c16_i32_324
  let c4_i32 : BitVec 32 := 4#32
  let v1254 : BitVec 32 := Scalar.addi v1253 c4_i32
  let v1288 : Index := Scalar.indexCast v1254
  let c64_333 : Index := 64#32
  ![v1288.toNat, 64]
def k1_off996 (k1_t4 : Fin k1_t4_loop.trips) : Fin 2 → Nat :=
  let c0_i32_44 : BitVec 32 := 0#32
  let c1_i32_46 : BitVec 32 := 1#32
  let arg37 : BitVec 32 := Scf.iv c0_i32_44 c1_i32_46 k1_t4
  let c16_i32_324 : BitVec 32 := 16#32
  let v1253 : BitVec 32 := Scalar.muli arg37 c16_i32_324
  let c4_i32 : BitVec 32 := 4#32
  let v1254 : BitVec 32 := Scalar.addi v1253 c4_i32
  let v1296 : Index := Scalar.indexCast v1254
  let c80_335 : Index := 80#32
  ![v1296.toNat, 80]
def k1_off997 (k1_t4 : Fin k1_t4_loop.trips) : Fin 2 → Nat :=
  let c0_i32_44 : BitVec 32 := 0#32
  let c1_i32_46 : BitVec 32 := 1#32
  let arg37 : BitVec 32 := Scf.iv c0_i32_44 c1_i32_46 k1_t4
  let c16_i32_324 : BitVec 32 := 16#32
  let v1253 : BitVec 32 := Scalar.muli arg37 c16_i32_324
  let c4_i32 : BitVec 32 := 4#32
  let v1254 : BitVec 32 := Scalar.addi v1253 c4_i32
  let v1304 : Index := Scalar.indexCast v1254
  let c96_337 : Index := 96#32
  ![v1304.toNat, 96]
def k1_off998 (k1_t4 : Fin k1_t4_loop.trips) : Fin 2 → Nat :=
  let c0_i32_44 : BitVec 32 := 0#32
  let c1_i32_46 : BitVec 32 := 1#32
  let arg37 : BitVec 32 := Scf.iv c0_i32_44 c1_i32_46 k1_t4
  let c16_i32_324 : BitVec 32 := 16#32
  let v1253 : BitVec 32 := Scalar.muli arg37 c16_i32_324
  let c4_i32 : BitVec 32 := 4#32
  let v1254 : BitVec 32 := Scalar.addi v1253 c4_i32
  let v1312 : Index := Scalar.indexCast v1254
  let c112_339 : Index := 112#32
  ![v1312.toNat, 112]
def k1_off999 (k1_t4 : Fin k1_t4_loop.trips) : Fin 2 → Nat :=
  let c0_i32_44 : BitVec 32 := 0#32
  let c1_i32_46 : BitVec 32 := 1#32
  let arg37 : BitVec 32 := Scf.iv c0_i32_44 c1_i32_46 k1_t4
  let c16_i32_324 : BitVec 32 := 16#32
  let v1253 : BitVec 32 := Scalar.muli arg37 c16_i32_324
  let c4_i32 : BitVec 32 := 4#32
  let v1254 : BitVec 32 := Scalar.addi v1253 c4_i32
  let v1320 : Index := Scalar.indexCast v1254
  let c128_341 : Index := 128#32
  ![v1320.toNat, 128]
def k1_off1000 (k1_t4 : Fin k1_t4_loop.trips) : Fin 2 → Nat :=
  let c0_i32_44 : BitVec 32 := 0#32
  let c1_i32_46 : BitVec 32 := 1#32
  let arg37 : BitVec 32 := Scf.iv c0_i32_44 c1_i32_46 k1_t4
  let c16_i32_324 : BitVec 32 := 16#32
  let v1253 : BitVec 32 := Scalar.muli arg37 c16_i32_324
  let c4_i32 : BitVec 32 := 4#32
  let v1254 : BitVec 32 := Scalar.addi v1253 c4_i32
  let v1328 : Index := Scalar.indexCast v1254
  let c144_343 : Index := 144#32
  ![v1328.toNat, 144]
def k1_off1001 (k1_t4 : Fin k1_t4_loop.trips) : Fin 2 → Nat :=
  let c0_i32_44 : BitVec 32 := 0#32
  let c1_i32_46 : BitVec 32 := 1#32
  let arg37 : BitVec 32 := Scf.iv c0_i32_44 c1_i32_46 k1_t4
  let c16_i32_324 : BitVec 32 := 16#32
  let v1253 : BitVec 32 := Scalar.muli arg37 c16_i32_324
  let c4_i32 : BitVec 32 := 4#32
  let v1254 : BitVec 32 := Scalar.addi v1253 c4_i32
  let v1336 : Index := Scalar.indexCast v1254
  let c160_345 : Index := 160#32
  ![v1336.toNat, 160]
def k1_off1002 (k1_t4 : Fin k1_t4_loop.trips) : Fin 2 → Nat :=
  let c0_i32_44 : BitVec 32 := 0#32
  let c1_i32_46 : BitVec 32 := 1#32
  let arg37 : BitVec 32 := Scf.iv c0_i32_44 c1_i32_46 k1_t4
  let c16_i32_324 : BitVec 32 := 16#32
  let v1253 : BitVec 32 := Scalar.muli arg37 c16_i32_324
  let c4_i32 : BitVec 32 := 4#32
  let v1254 : BitVec 32 := Scalar.addi v1253 c4_i32
  let v1344 : Index := Scalar.indexCast v1254
  let c176_347 : Index := 176#32
  ![v1344.toNat, 176]
def k1_off1003 (k1_t4 : Fin k1_t4_loop.trips) : Fin 2 → Nat :=
  let c0_i32_44 : BitVec 32 := 0#32
  let c1_i32_46 : BitVec 32 := 1#32
  let arg37 : BitVec 32 := Scf.iv c0_i32_44 c1_i32_46 k1_t4
  let c16_i32_324 : BitVec 32 := 16#32
  let v1253 : BitVec 32 := Scalar.muli arg37 c16_i32_324
  let c4_i32 : BitVec 32 := 4#32
  let v1254 : BitVec 32 := Scalar.addi v1253 c4_i32
  let v1352 : Index := Scalar.indexCast v1254
  let c192_349 : Index := 192#32
  ![v1352.toNat, 192]
def k1_off1004 (k1_t4 : Fin k1_t4_loop.trips) : Fin 2 → Nat :=
  let c0_i32_44 : BitVec 32 := 0#32
  let c1_i32_46 : BitVec 32 := 1#32
  let arg37 : BitVec 32 := Scf.iv c0_i32_44 c1_i32_46 k1_t4
  let c16_i32_324 : BitVec 32 := 16#32
  let v1253 : BitVec 32 := Scalar.muli arg37 c16_i32_324
  let c4_i32 : BitVec 32 := 4#32
  let v1254 : BitVec 32 := Scalar.addi v1253 c4_i32
  let v1360 : Index := Scalar.indexCast v1254
  let c208_351 : Index := 208#32
  ![v1360.toNat, 208]
def k1_off1005 (k1_t4 : Fin k1_t4_loop.trips) : Fin 2 → Nat :=
  let c0_i32_44 : BitVec 32 := 0#32
  let c1_i32_46 : BitVec 32 := 1#32
  let arg37 : BitVec 32 := Scf.iv c0_i32_44 c1_i32_46 k1_t4
  let c16_i32_324 : BitVec 32 := 16#32
  let v1253 : BitVec 32 := Scalar.muli arg37 c16_i32_324
  let c4_i32 : BitVec 32 := 4#32
  let v1254 : BitVec 32 := Scalar.addi v1253 c4_i32
  let v1368 : Index := Scalar.indexCast v1254
  let c224_353 : Index := 224#32
  ![v1368.toNat, 224]
def k1_off1006 (k1_t4 : Fin k1_t4_loop.trips) : Fin 2 → Nat :=
  let c0_i32_44 : BitVec 32 := 0#32
  let c1_i32_46 : BitVec 32 := 1#32
  let arg37 : BitVec 32 := Scf.iv c0_i32_44 c1_i32_46 k1_t4
  let c16_i32_324 : BitVec 32 := 16#32
  let v1253 : BitVec 32 := Scalar.muli arg37 c16_i32_324
  let c4_i32 : BitVec 32 := 4#32
  let v1254 : BitVec 32 := Scalar.addi v1253 c4_i32
  let v1376 : Index := Scalar.indexCast v1254
  let c240_355 : Index := 240#32
  ![v1376.toNat, 240]
def k1_off1007 (k1_t4 : Fin k1_t4_loop.trips) : Fin 2 → Nat :=
  let c0_i32_44 : BitVec 32 := 0#32
  let c1_i32_46 : BitVec 32 := 1#32
  let arg37 : BitVec 32 := Scf.iv c0_i32_44 c1_i32_46 k1_t4
  let c16_i32_324 : BitVec 32 := 16#32
  let v1253 : BitVec 32 := Scalar.muli arg37 c16_i32_324
  let c4_i32 : BitVec 32 := 4#32
  let v1254 : BitVec 32 := Scalar.addi v1253 c4_i32
  let v1384 : Index := Scalar.indexCast v1254
  let c256_357 : Index := 256#32
  ![v1384.toNat, 256]
def k1_off1008 (k1_t4 : Fin k1_t4_loop.trips) : Fin 2 → Nat :=
  let c0_i32_44 : BitVec 32 := 0#32
  let c1_i32_46 : BitVec 32 := 1#32
  let arg37 : BitVec 32 := Scf.iv c0_i32_44 c1_i32_46 k1_t4
  let c16_i32_324 : BitVec 32 := 16#32
  let v1253 : BitVec 32 := Scalar.muli arg37 c16_i32_324
  let c4_i32 : BitVec 32 := 4#32
  let v1254 : BitVec 32 := Scalar.addi v1253 c4_i32
  let v1392 : Index := Scalar.indexCast v1254
  let c272_359 : Index := 272#32
  ![v1392.toNat, 272]
def k1_off1009 (k1_t4 : Fin k1_t4_loop.trips) : Fin 2 → Nat :=
  let c0_i32_44 : BitVec 32 := 0#32
  let c1_i32_46 : BitVec 32 := 1#32
  let arg37 : BitVec 32 := Scf.iv c0_i32_44 c1_i32_46 k1_t4
  let c16_i32_324 : BitVec 32 := 16#32
  let v1253 : BitVec 32 := Scalar.muli arg37 c16_i32_324
  let c4_i32 : BitVec 32 := 4#32
  let v1254 : BitVec 32 := Scalar.addi v1253 c4_i32
  let v1400 : Index := Scalar.indexCast v1254
  let c288_361 : Index := 288#32
  ![v1400.toNat, 288]
def k1_off1010 (k1_t4 : Fin k1_t4_loop.trips) : Fin 2 → Nat :=
  let c0_i32_44 : BitVec 32 := 0#32
  let c1_i32_46 : BitVec 32 := 1#32
  let arg37 : BitVec 32 := Scf.iv c0_i32_44 c1_i32_46 k1_t4
  let c16_i32_324 : BitVec 32 := 16#32
  let v1253 : BitVec 32 := Scalar.muli arg37 c16_i32_324
  let c4_i32 : BitVec 32 := 4#32
  let v1254 : BitVec 32 := Scalar.addi v1253 c4_i32
  let v1408 : Index := Scalar.indexCast v1254
  let c304_363 : Index := 304#32
  ![v1408.toNat, 304]
def k1_off1011 (k1_t4 : Fin k1_t4_loop.trips) : Fin 2 → Nat :=
  let c0_i32_44 : BitVec 32 := 0#32
  let c1_i32_46 : BitVec 32 := 1#32
  let arg37 : BitVec 32 := Scf.iv c0_i32_44 c1_i32_46 k1_t4
  let c16_i32_324 : BitVec 32 := 16#32
  let v1253 : BitVec 32 := Scalar.muli arg37 c16_i32_324
  let c4_i32 : BitVec 32 := 4#32
  let v1254 : BitVec 32 := Scalar.addi v1253 c4_i32
  let v1416 : Index := Scalar.indexCast v1254
  let c320_365 : Index := 320#32
  ![v1416.toNat, 320]
def k1_off1012 (k1_t4 : Fin k1_t4_loop.trips) : Fin 2 → Nat :=
  let c0_i32_44 : BitVec 32 := 0#32
  let c1_i32_46 : BitVec 32 := 1#32
  let arg37 : BitVec 32 := Scf.iv c0_i32_44 c1_i32_46 k1_t4
  let c16_i32_324 : BitVec 32 := 16#32
  let v1253 : BitVec 32 := Scalar.muli arg37 c16_i32_324
  let c4_i32 : BitVec 32 := 4#32
  let v1254 : BitVec 32 := Scalar.addi v1253 c4_i32
  let v1424 : Index := Scalar.indexCast v1254
  let c336_367 : Index := 336#32
  ![v1424.toNat, 336]
def k1_off1013 (k1_t4 : Fin k1_t4_loop.trips) : Fin 2 → Nat :=
  let c0_i32_44 : BitVec 32 := 0#32
  let c1_i32_46 : BitVec 32 := 1#32
  let arg37 : BitVec 32 := Scf.iv c0_i32_44 c1_i32_46 k1_t4
  let c16_i32_324 : BitVec 32 := 16#32
  let v1253 : BitVec 32 := Scalar.muli arg37 c16_i32_324
  let c4_i32 : BitVec 32 := 4#32
  let v1254 : BitVec 32 := Scalar.addi v1253 c4_i32
  let v1432 : Index := Scalar.indexCast v1254
  let c352_369 : Index := 352#32
  ![v1432.toNat, 352]
def k1_off1014 (k1_t4 : Fin k1_t4_loop.trips) : Fin 2 → Nat :=
  let c0_i32_44 : BitVec 32 := 0#32
  let c1_i32_46 : BitVec 32 := 1#32
  let arg37 : BitVec 32 := Scf.iv c0_i32_44 c1_i32_46 k1_t4
  let c16_i32_324 : BitVec 32 := 16#32
  let v1253 : BitVec 32 := Scalar.muli arg37 c16_i32_324
  let c4_i32 : BitVec 32 := 4#32
  let v1254 : BitVec 32 := Scalar.addi v1253 c4_i32
  let v1440 : Index := Scalar.indexCast v1254
  let c368_371 : Index := 368#32
  ![v1440.toNat, 368]
def k1_off1015 (v1252 : BitVec 32) : Fin 2 → Nat :=
  let v1448 : Index := Scalar.indexCast v1252
  let c0_373 : Index := 0#32
  ![v1448.toNat, 0]

def k1_off1016 (v1252 : BitVec 32) : Fin 2 → Nat :=
  let v1452 : Index := Scalar.indexCast v1252
  let c16_374 : Index := 16#32
  ![v1452.toNat, 16]
def k1_off1017 (v1252 : BitVec 32) : Fin 2 → Nat :=
  let v1456 : Index := Scalar.indexCast v1252
  let c32_375 : Index := 32#32
  ![v1456.toNat, 32]
def k1_off1018 (v1252 : BitVec 32) : Fin 2 → Nat :=
  let v1460 : Index := Scalar.indexCast v1252
  let c48_376 : Index := 48#32
  ![v1460.toNat, 48]
def k1_off1019 (v1252 : BitVec 32) : Fin 2 → Nat :=
  let v1464 : Index := Scalar.indexCast v1252
  let c64_377 : Index := 64#32
  ![v1464.toNat, 64]
def k1_off1020 (v1252 : BitVec 32) : Fin 2 → Nat :=
  let v1468 : Index := Scalar.indexCast v1252
  let c80_378 : Index := 80#32
  ![v1468.toNat, 80]
def k1_off1021 (v1252 : BitVec 32) : Fin 2 → Nat :=
  let v1472 : Index := Scalar.indexCast v1252
  let c96_379 : Index := 96#32
  ![v1472.toNat, 96]
def k1_off1022 (v1252 : BitVec 32) : Fin 2 → Nat :=
  let v1476 : Index := Scalar.indexCast v1252
  let c112_380 : Index := 112#32
  ![v1476.toNat, 112]
def k1_off1023 (v1252 : BitVec 32) : Fin 2 → Nat :=
  let v1480 : Index := Scalar.indexCast v1252
  let c128_381 : Index := 128#32
  ![v1480.toNat, 128]
def k1_off1024 (v1252 : BitVec 32) : Fin 2 → Nat :=
  let v1484 : Index := Scalar.indexCast v1252
  let c144_382 : Index := 144#32
  ![v1484.toNat, 144]
def k1_off1025 (v1252 : BitVec 32) : Fin 2 → Nat :=
  let v1488 : Index := Scalar.indexCast v1252
  let c160_383 : Index := 160#32
  ![v1488.toNat, 160]
def k1_off1026 (v1252 : BitVec 32) : Fin 2 → Nat :=
  let v1492 : Index := Scalar.indexCast v1252
  let c176_384 : Index := 176#32
  ![v1492.toNat, 176]
def k1_off1027 (v1252 : BitVec 32) : Fin 2 → Nat :=
  let v1496 : Index := Scalar.indexCast v1252
  let c192_385 : Index := 192#32
  ![v1496.toNat, 192]
def k1_off1028 (v1252 : BitVec 32) : Fin 2 → Nat :=
  let v1500 : Index := Scalar.indexCast v1252
  let c208_386 : Index := 208#32
  ![v1500.toNat, 208]
def k1_off1029 (v1252 : BitVec 32) : Fin 2 → Nat :=
  let v1504 : Index := Scalar.indexCast v1252
  let c224_387 : Index := 224#32
  ![v1504.toNat, 224]
def k1_off1030 (v1252 : BitVec 32) : Fin 2 → Nat :=
  let v1508 : Index := Scalar.indexCast v1252
  let c240_388 : Index := 240#32
  ![v1508.toNat, 240]
def k1_off1031 (v1252 : BitVec 32) : Fin 2 → Nat :=
  let v1512 : Index := Scalar.indexCast v1252
  let c256_389 : Index := 256#32
  ![v1512.toNat, 256]
def k1_off1032 (v1252 : BitVec 32) : Fin 2 → Nat :=
  let v1516 : Index := Scalar.indexCast v1252
  let c272_390 : Index := 272#32
  ![v1516.toNat, 272]
def k1_off1033 (v1252 : BitVec 32) : Fin 2 → Nat :=
  let v1520 : Index := Scalar.indexCast v1252
  let c288_391 : Index := 288#32
  ![v1520.toNat, 288]
def k1_off1034 (v1252 : BitVec 32) : Fin 2 → Nat :=
  let v1524 : Index := Scalar.indexCast v1252
  let c304_392 : Index := 304#32
  ![v1524.toNat, 304]
def k1_off1035 (v1252 : BitVec 32) : Fin 2 → Nat :=
  let v1528 : Index := Scalar.indexCast v1252
  let c320_393 : Index := 320#32
  ![v1528.toNat, 320]
def k1_off1036 (v1252 : BitVec 32) : Fin 2 → Nat :=
  let v1532 : Index := Scalar.indexCast v1252
  let c336_394 : Index := 336#32
  ![v1532.toNat, 336]
def k1_off1037 (v1252 : BitVec 32) : Fin 2 → Nat :=
  let v1536 : Index := Scalar.indexCast v1252
  let c352_395 : Index := 352#32
  ![v1536.toNat, 352]
def k1_off1038 (v1252 : BitVec 32) : Fin 2 → Nat :=
  let v1540 : Index := Scalar.indexCast v1252
  let c368_396 : Index := 368#32
  ![v1540.toNat, 368]

def k1_chk21 (i : grid1.Coords) (v1252 : BitVec 32) : Prop :=
  (∀ (k1_h1 : k1_cond1 i = 1#1), ∀ a, (k1_off1015 v1252) a + S1x16.size a ≤ S256x384.size a) ∧
  (∀ (k1_h1 : k1_cond1 i = 1#1), ∀ a, (k1_off1016 v1252) a + S1x16.size a ≤ S256x384.size a) ∧
  (∀ (k1_h1 : k1_cond1 i = 1#1), ∀ a, (k1_off1017 v1252) a + S1x16.size a ≤ S256x384.size a) ∧
  (∀ (k1_h1 : k1_cond1 i = 1#1), ∀ a, (k1_off1018 v1252) a + S1x16.size a ≤ S256x384.size a) ∧
  (∀ (k1_h1 : k1_cond1 i = 1#1), ∀ a, (k1_off1019 v1252) a + S1x16.size a ≤ S256x384.size a) ∧
  (∀ (k1_h1 : k1_cond1 i = 1#1), ∀ a, (k1_off1020 v1252) a + S1x16.size a ≤ S256x384.size a) ∧
  (∀ (k1_h1 : k1_cond1 i = 1#1), ∀ a, (k1_off1021 v1252) a + S1x16.size a ≤ S256x384.size a) ∧
  (∀ (k1_h1 : k1_cond1 i = 1#1), ∀ a, (k1_off1022 v1252) a + S1x16.size a ≤ S256x384.size a) ∧
  (∀ (k1_h1 : k1_cond1 i = 1#1), ∀ a, (k1_off1023 v1252) a + S1x16.size a ≤ S256x384.size a) ∧
  (∀ (k1_h1 : k1_cond1 i = 1#1), ∀ a, (k1_off1024 v1252) a + S1x16.size a ≤ S256x384.size a) ∧
  (∀ (k1_h1 : k1_cond1 i = 1#1), ∀ a, (k1_off1025 v1252) a + S1x16.size a ≤ S256x384.size a) ∧
  (∀ (k1_h1 : k1_cond1 i = 1#1), ∀ a, (k1_off1026 v1252) a + S1x16.size a ≤ S256x384.size a) ∧
  (∀ (k1_h1 : k1_cond1 i = 1#1), ∀ a, (k1_off1027 v1252) a + S1x16.size a ≤ S256x384.size a) ∧
  (∀ (k1_h1 : k1_cond1 i = 1#1), ∀ a, (k1_off1028 v1252) a + S1x16.size a ≤ S256x384.size a) ∧
  (∀ (k1_h1 : k1_cond1 i = 1#1), ∀ a, (k1_off1029 v1252) a + S1x16.size a ≤ S256x384.size a) ∧
  (∀ (k1_h1 : k1_cond1 i = 1#1), ∀ a, (k1_off1030 v1252) a + S1x16.size a ≤ S256x384.size a) ∧
  (∀ (k1_h1 : k1_cond1 i = 1#1), ∀ a, (k1_off1031 v1252) a + S1x16.size a ≤ S256x384.size a) ∧
  (∀ (k1_h1 : k1_cond1 i = 1#1), ∀ a, (k1_off1032 v1252) a + S1x16.size a ≤ S256x384.size a) ∧
  (∀ (k1_h1 : k1_cond1 i = 1#1), ∀ a, (k1_off1033 v1252) a + S1x16.size a ≤ S256x384.size a) ∧
  (∀ (k1_h1 : k1_cond1 i = 1#1), ∀ a, (k1_off1034 v1252) a + S1x16.size a ≤ S256x384.size a) ∧
  (∀ (k1_h1 : k1_cond1 i = 1#1), ∀ a, (k1_off1035 v1252) a + S1x16.size a ≤ S256x384.size a) ∧
  (∀ (k1_h1 : k1_cond1 i = 1#1), ∀ a, (k1_off1036 v1252) a + S1x16.size a ≤ S256x384.size a) ∧
  (∀ (k1_h1 : k1_cond1 i = 1#1), ∀ a, (k1_off1037 v1252) a + S1x16.size a ≤ S256x384.size a) ∧
  (∀ (k1_h1 : k1_cond1 i = 1#1), ∀ a, (k1_off1038 v1252) a + S1x16.size a ≤ S256x384.size a)
theorem k1_off1015_inb : ∀ (i : grid1.Coords) (v1252 : BitVec 32) (k1_hw21 : k1_chk21 i v1252), ∀ (k1_h1 : k1_cond1 i = 1#1), ∀ a, (k1_off1015 v1252) a + S1x16.size a ≤ S256x384.size a := fun i v1252 k1_hw21 k1_h1 => k1_hw21.1 k1_h1
theorem k1_off1016_inb : ∀ (i : grid1.Coords) (v1252 : BitVec 32) (k1_hw21 : k1_chk21 i v1252), ∀ (k1_h1 : k1_cond1 i = 1#1), ∀ a, (k1_off1016 v1252) a + S1x16.size a ≤ S256x384.size a := fun i v1252 k1_hw21 k1_h1 => k1_hw21.2.1 k1_h1
theorem k1_off1017_inb : ∀ (i : grid1.Coords) (v1252 : BitVec 32) (k1_hw21 : k1_chk21 i v1252), ∀ (k1_h1 : k1_cond1 i = 1#1), ∀ a, (k1_off1017 v1252) a + S1x16.size a ≤ S256x384.size a := fun i v1252 k1_hw21 k1_h1 => k1_hw21.2.2.1 k1_h1
theorem k1_off1018_inb : ∀ (i : grid1.Coords) (v1252 : BitVec 32) (k1_hw21 : k1_chk21 i v1252), ∀ (k1_h1 : k1_cond1 i = 1#1), ∀ a, (k1_off1018 v1252) a + S1x16.size a ≤ S256x384.size a := fun i v1252 k1_hw21 k1_h1 => k1_hw21.2.2.2.1 k1_h1
theorem k1_off1019_inb : ∀ (i : grid1.Coords) (v1252 : BitVec 32) (k1_hw21 : k1_chk21 i v1252), ∀ (k1_h1 : k1_cond1 i = 1#1), ∀ a, (k1_off1019 v1252) a + S1x16.size a ≤ S256x384.size a := fun i v1252 k1_hw21 k1_h1 => k1_hw21.2.2.2.2.1 k1_h1
theorem k1_off1020_inb : ∀ (i : grid1.Coords) (v1252 : BitVec 32) (k1_hw21 : k1_chk21 i v1252), ∀ (k1_h1 : k1_cond1 i = 1#1), ∀ a, (k1_off1020 v1252) a + S1x16.size a ≤ S256x384.size a := fun i v1252 k1_hw21 k1_h1 => k1_hw21.2.2.2.2.2.1 k1_h1
theorem k1_off1021_inb : ∀ (i : grid1.Coords) (v1252 : BitVec 32) (k1_hw21 : k1_chk21 i v1252), ∀ (k1_h1 : k1_cond1 i = 1#1), ∀ a, (k1_off1021 v1252) a + S1x16.size a ≤ S256x384.size a := fun i v1252 k1_hw21 k1_h1 => k1_hw21.2.2.2.2.2.2.1 k1_h1
theorem k1_off1022_inb : ∀ (i : grid1.Coords) (v1252 : BitVec 32) (k1_hw21 : k1_chk21 i v1252), ∀ (k1_h1 : k1_cond1 i = 1#1), ∀ a, (k1_off1022 v1252) a + S1x16.size a ≤ S256x384.size a := fun i v1252 k1_hw21 k1_h1 => k1_hw21.2.2.2.2.2.2.2.1 k1_h1
theorem k1_off1023_inb : ∀ (i : grid1.Coords) (v1252 : BitVec 32) (k1_hw21 : k1_chk21 i v1252), ∀ (k1_h1 : k1_cond1 i = 1#1), ∀ a, (k1_off1023 v1252) a + S1x16.size a ≤ S256x384.size a := fun i v1252 k1_hw21 k1_h1 => k1_hw21.2.2.2.2.2.2.2.2.1 k1_h1
theorem k1_off1024_inb : ∀ (i : grid1.Coords) (v1252 : BitVec 32) (k1_hw21 : k1_chk21 i v1252), ∀ (k1_h1 : k1_cond1 i = 1#1), ∀ a, (k1_off1024 v1252) a + S1x16.size a ≤ S256x384.size a := fun i v1252 k1_hw21 k1_h1 => k1_hw21.2.2.2.2.2.2.2.2.2.1 k1_h1
theorem k1_off1025_inb : ∀ (i : grid1.Coords) (v1252 : BitVec 32) (k1_hw21 : k1_chk21 i v1252), ∀ (k1_h1 : k1_cond1 i = 1#1), ∀ a, (k1_off1025 v1252) a + S1x16.size a ≤ S256x384.size a := fun i v1252 k1_hw21 k1_h1 => k1_hw21.2.2.2.2.2.2.2.2.2.2.1 k1_h1
theorem k1_off1026_inb : ∀ (i : grid1.Coords) (v1252 : BitVec 32) (k1_hw21 : k1_chk21 i v1252), ∀ (k1_h1 : k1_cond1 i = 1#1), ∀ a, (k1_off1026 v1252) a + S1x16.size a ≤ S256x384.size a := fun i v1252 k1_hw21 k1_h1 => k1_hw21.2.2.2.2.2.2.2.2.2.2.2.1 k1_h1
theorem k1_off1027_inb : ∀ (i : grid1.Coords) (v1252 : BitVec 32) (k1_hw21 : k1_chk21 i v1252), ∀ (k1_h1 : k1_cond1 i = 1#1), ∀ a, (k1_off1027 v1252) a + S1x16.size a ≤ S256x384.size a := fun i v1252 k1_hw21 k1_h1 => k1_hw21.2.2.2.2.2.2.2.2.2.2.2.2.1 k1_h1
theorem k1_off1028_inb : ∀ (i : grid1.Coords) (v1252 : BitVec 32) (k1_hw21 : k1_chk21 i v1252), ∀ (k1_h1 : k1_cond1 i = 1#1), ∀ a, (k1_off1028 v1252) a + S1x16.size a ≤ S256x384.size a := fun i v1252 k1_hw21 k1_h1 => k1_hw21.2.2.2.2.2.2.2.2.2.2.2.2.2.1 k1_h1
theorem k1_off1029_inb : ∀ (i : grid1.Coords) (v1252 : BitVec 32) (k1_hw21 : k1_chk21 i v1252), ∀ (k1_h1 : k1_cond1 i = 1#1), ∀ a, (k1_off1029 v1252) a + S1x16.size a ≤ S256x384.size a := fun i v1252 k1_hw21 k1_h1 => k1_hw21.2.2.2.2.2.2.2.2.2.2.2.2.2.2.1 k1_h1
theorem k1_off1030_inb : ∀ (i : grid1.Coords) (v1252 : BitVec 32) (k1_hw21 : k1_chk21 i v1252), ∀ (k1_h1 : k1_cond1 i = 1#1), ∀ a, (k1_off1030 v1252) a + S1x16.size a ≤ S256x384.size a := fun i v1252 k1_hw21 k1_h1 => k1_hw21.2.2.2.2.2.2.2.2.2.2.2.2.2.2.2.1 k1_h1
theorem k1_off1031_inb : ∀ (i : grid1.Coords) (v1252 : BitVec 32) (k1_hw21 : k1_chk21 i v1252), ∀ (k1_h1 : k1_cond1 i = 1#1), ∀ a, (k1_off1031 v1252) a + S1x16.size a ≤ S256x384.size a := fun i v1252 k1_hw21 k1_h1 => k1_hw21.2.2.2.2.2.2.2.2.2.2.2.2.2.2.2.2.1 k1_h1
theorem k1_off1032_inb : ∀ (i : grid1.Coords) (v1252 : BitVec 32) (k1_hw21 : k1_chk21 i v1252), ∀ (k1_h1 : k1_cond1 i = 1#1), ∀ a, (k1_off1032 v1252) a + S1x16.size a ≤ S256x384.size a := fun i v1252 k1_hw21 k1_h1 => k1_hw21.2.2.2.2.2.2.2.2.2.2.2.2.2.2.2.2.2.1 k1_h1
theorem k1_off1033_inb : ∀ (i : grid1.Coords) (v1252 : BitVec 32) (k1_hw21 : k1_chk21 i v1252), ∀ (k1_h1 : k1_cond1 i = 1#1), ∀ a, (k1_off1033 v1252) a + S1x16.size a ≤ S256x384.size a := fun i v1252 k1_hw21 k1_h1 => k1_hw21.2.2.2.2.2.2.2.2.2.2.2.2.2.2.2.2.2.2.1 k1_h1
theorem k1_off1034_inb : ∀ (i : grid1.Coords) (v1252 : BitVec 32) (k1_hw21 : k1_chk21 i v1252), ∀ (k1_h1 : k1_cond1 i = 1#1), ∀ a, (k1_off1034 v1252) a + S1x16.size a ≤ S256x384.size a := fun i v1252 k1_hw21 k1_h1 => k1_hw21.2.2.2.2.2.2.2.2.2.2.2.2.2.2.2.2.2.2.2.1 k1_h1
theorem k1_off1035_inb : ∀ (i : grid1.Coords) (v1252 : BitVec 32) (k1_hw21 : k1_chk21 i v1252), ∀ (k1_h1 : k1_cond1 i = 1#1), ∀ a, (k1_off1035 v1252) a + S1x16.size a ≤ S256x384.size a := fun i v1252 k1_hw21 k1_h1 => k1_hw21.2.2.2.2.2.2.2.2.2.2.2.2.2.2.2.2.2.2.2.2.1 k1_h1
theorem k1_off1036_inb : ∀ (i : grid1.Coords) (v1252 : BitVec 32) (k1_hw21 : k1_chk21 i v1252), ∀ (k1_h1 : k1_cond1 i = 1#1), ∀ a, (k1_off1036 v1252) a + S1x16.size a ≤ S256x384.size a := fun i v1252 k1_hw21 k1_h1 => k1_hw21.2.2.2.2.2.2.2.2.2.2.2.2.2.2.2.2.2.2.2.2.2.1 k1_h1
theorem k1_off1037_inb : ∀ (i : grid1.Coords) (v1252 : BitVec 32) (k1_hw21 : k1_chk21 i v1252), ∀ (k1_h1 : k1_cond1 i = 1#1), ∀ a, (k1_off1037 v1252) a + S1x16.size a ≤ S256x384.size a := fun i v1252 k1_hw21 k1_h1 => k1_hw21.2.2.2.2.2.2.2.2.2.2.2.2.2.2.2.2.2.2.2.2.2.2.1 k1_h1
theorem k1_off1038_inb : ∀ (i : grid1.Coords) (v1252 : BitVec 32) (k1_hw21 : k1_chk21 i v1252), ∀ (k1_h1 : k1_cond1 i = 1#1), ∀ a, (k1_off1038 v1252) a + S1x16.size a ≤ S256x384.size a := fun i v1252 k1_hw21 k1_h1 => k1_hw21.2.2.2.2.2.2.2.2.2.2.2.2.2.2.2.2.2.2.2.2.2.2.2 k1_h1

def k1_off1039 (k1_t4 : Fin k1_t4_loop.trips) : Fin 2 → Nat :=
  let c0_i32_44 : BitVec 32 := 0#32
  let c1_i32_46 : BitVec 32 := 1#32
  let arg37 : BitVec 32 := Scf.iv c0_i32_44 c1_i32_46 k1_t4
  let c16_i32_397 : BitVec 32 := 16#32
  let v1546 : BitVec 32 := Scalar.muli arg37 c16_i32_397
  let c5_i32 : BitVec 32 := 5#32
  let v1547 : BitVec 32 := Scalar.addi v1546 c5_i32
  let v1549 : Index := Scalar.indexCast v1547
  let c0_398 : Index := 0#32
  ![v1549.toNat, 0]
def k1_off1040 (k1_t4 : Fin k1_t4_loop.trips) : Fin 2 → Nat :=
  let c0_i32_44 : BitVec 32 := 0#32
  let c1_i32_46 : BitVec 32 := 1#32
  let arg37 : BitVec 32 := Scf.iv c0_i32_44 c1_i32_46 k1_t4
  let c16_i32_397 : BitVec 32 := 16#32
  let v1546 : BitVec 32 := Scalar.muli arg37 c16_i32_397
  let c5_i32 : BitVec 32 := 5#32
  let v1547 : BitVec 32 := Scalar.addi v1546 c5_i32
  let v1557 : Index := Scalar.indexCast v1547
  let c16_400 : Index := 16#32
  ![v1557.toNat, 16]
def k1_off1041 (k1_t4 : Fin k1_t4_loop.trips) : Fin 2 → Nat :=
  let c0_i32_44 : BitVec 32 := 0#32
  let c1_i32_46 : BitVec 32 := 1#32
  let arg37 : BitVec 32 := Scf.iv c0_i32_44 c1_i32_46 k1_t4
  let c16_i32_397 : BitVec 32 := 16#32
  let v1546 : BitVec 32 := Scalar.muli arg37 c16_i32_397
  let c5_i32 : BitVec 32 := 5#32
  let v1547 : BitVec 32 := Scalar.addi v1546 c5_i32
  let v1565 : Index := Scalar.indexCast v1547
  let c32_402 : Index := 32#32
  ![v1565.toNat, 32]
def k1_off1042 (k1_t4 : Fin k1_t4_loop.trips) : Fin 2 → Nat :=
  let c0_i32_44 : BitVec 32 := 0#32
  let c1_i32_46 : BitVec 32 := 1#32
  let arg37 : BitVec 32 := Scf.iv c0_i32_44 c1_i32_46 k1_t4
  let c16_i32_397 : BitVec 32 := 16#32
  let v1546 : BitVec 32 := Scalar.muli arg37 c16_i32_397
  let c5_i32 : BitVec 32 := 5#32
  let v1547 : BitVec 32 := Scalar.addi v1546 c5_i32
  let v1573 : Index := Scalar.indexCast v1547
  let c48_404 : Index := 48#32
  ![v1573.toNat, 48]
def k1_off1043 (k1_t4 : Fin k1_t4_loop.trips) : Fin 2 → Nat :=
  let c0_i32_44 : BitVec 32 := 0#32
  let c1_i32_46 : BitVec 32 := 1#32
  let arg37 : BitVec 32 := Scf.iv c0_i32_44 c1_i32_46 k1_t4
  let c16_i32_397 : BitVec 32 := 16#32
  let v1546 : BitVec 32 := Scalar.muli arg37 c16_i32_397
  let c5_i32 : BitVec 32 := 5#32
  let v1547 : BitVec 32 := Scalar.addi v1546 c5_i32
  let v1581 : Index := Scalar.indexCast v1547
  let c64_406 : Index := 64#32
  ![v1581.toNat, 64]
def k1_off1044 (k1_t4 : Fin k1_t4_loop.trips) : Fin 2 → Nat :=
  let c0_i32_44 : BitVec 32 := 0#32
  let c1_i32_46 : BitVec 32 := 1#32
  let arg37 : BitVec 32 := Scf.iv c0_i32_44 c1_i32_46 k1_t4
  let c16_i32_397 : BitVec 32 := 16#32
  let v1546 : BitVec 32 := Scalar.muli arg37 c16_i32_397
  let c5_i32 : BitVec 32 := 5#32
  let v1547 : BitVec 32 := Scalar.addi v1546 c5_i32
  let v1589 : Index := Scalar.indexCast v1547
  let c80_408 : Index := 80#32
  ![v1589.toNat, 80]
def k1_off1045 (k1_t4 : Fin k1_t4_loop.trips) : Fin 2 → Nat :=
  let c0_i32_44 : BitVec 32 := 0#32
  let c1_i32_46 : BitVec 32 := 1#32
  let arg37 : BitVec 32 := Scf.iv c0_i32_44 c1_i32_46 k1_t4
  let c16_i32_397 : BitVec 32 := 16#32
  let v1546 : BitVec 32 := Scalar.muli arg37 c16_i32_397
  let c5_i32 : BitVec 32 := 5#32
  let v1547 : BitVec 32 := Scalar.addi v1546 c5_i32
  let v1597 : Index := Scalar.indexCast v1547
  let c96_410 : Index := 96#32
  ![v1597.toNat, 96]
def k1_off1046 (k1_t4 : Fin k1_t4_loop.trips) : Fin 2 → Nat :=
  let c0_i32_44 : BitVec 32 := 0#32
  let c1_i32_46 : BitVec 32 := 1#32
  let arg37 : BitVec 32 := Scf.iv c0_i32_44 c1_i32_46 k1_t4
  let c16_i32_397 : BitVec 32 := 16#32
  let v1546 : BitVec 32 := Scalar.muli arg37 c16_i32_397
  let c5_i32 : BitVec 32 := 5#32
  let v1547 : BitVec 32 := Scalar.addi v1546 c5_i32
  let v1605 : Index := Scalar.indexCast v1547
  let c112_412 : Index := 112#32
  ![v1605.toNat, 112]
def k1_off1047 (k1_t4 : Fin k1_t4_loop.trips) : Fin 2 → Nat :=
  let c0_i32_44 : BitVec 32 := 0#32
  let c1_i32_46 : BitVec 32 := 1#32
  let arg37 : BitVec 32 := Scf.iv c0_i32_44 c1_i32_46 k1_t4
  let c16_i32_397 : BitVec 32 := 16#32
  let v1546 : BitVec 32 := Scalar.muli arg37 c16_i32_397
  let c5_i32 : BitVec 32 := 5#32
  let v1547 : BitVec 32 := Scalar.addi v1546 c5_i32
  let v1613 : Index := Scalar.indexCast v1547
  let c128_414 : Index := 128#32
  ![v1613.toNat, 128]
def k1_off1048 (k1_t4 : Fin k1_t4_loop.trips) : Fin 2 → Nat :=
  let c0_i32_44 : BitVec 32 := 0#32
  let c1_i32_46 : BitVec 32 := 1#32
  let arg37 : BitVec 32 := Scf.iv c0_i32_44 c1_i32_46 k1_t4
  let c16_i32_397 : BitVec 32 := 16#32
  let v1546 : BitVec 32 := Scalar.muli arg37 c16_i32_397
  let c5_i32 : BitVec 32 := 5#32
  let v1547 : BitVec 32 := Scalar.addi v1546 c5_i32
  let v1621 : Index := Scalar.indexCast v1547
  let c144_416 : Index := 144#32
  ![v1621.toNat, 144]
def k1_off1049 (k1_t4 : Fin k1_t4_loop.trips) : Fin 2 → Nat :=
  let c0_i32_44 : BitVec 32 := 0#32
  let c1_i32_46 : BitVec 32 := 1#32
  let arg37 : BitVec 32 := Scf.iv c0_i32_44 c1_i32_46 k1_t4
  let c16_i32_397 : BitVec 32 := 16#32
  let v1546 : BitVec 32 := Scalar.muli arg37 c16_i32_397
  let c5_i32 : BitVec 32 := 5#32
  let v1547 : BitVec 32 := Scalar.addi v1546 c5_i32
  let v1629 : Index := Scalar.indexCast v1547
  let c160_418 : Index := 160#32
  ![v1629.toNat, 160]
def k1_off1050 (k1_t4 : Fin k1_t4_loop.trips) : Fin 2 → Nat :=
  let c0_i32_44 : BitVec 32 := 0#32
  let c1_i32_46 : BitVec 32 := 1#32
  let arg37 : BitVec 32 := Scf.iv c0_i32_44 c1_i32_46 k1_t4
  let c16_i32_397 : BitVec 32 := 16#32
  let v1546 : BitVec 32 := Scalar.muli arg37 c16_i32_397
  let c5_i32 : BitVec 32 := 5#32
  let v1547 : BitVec 32 := Scalar.addi v1546 c5_i32
  let v1637 : Index := Scalar.indexCast v1547
  let c176_420 : Index := 176#32
  ![v1637.toNat, 176]
def k1_off1051 (k1_t4 : Fin k1_t4_loop.trips) : Fin 2 → Nat :=
  let c0_i32_44 : BitVec 32 := 0#32
  let c1_i32_46 : BitVec 32 := 1#32
  let arg37 : BitVec 32 := Scf.iv c0_i32_44 c1_i32_46 k1_t4
  let c16_i32_397 : BitVec 32 := 16#32
  let v1546 : BitVec 32 := Scalar.muli arg37 c16_i32_397
  let c5_i32 : BitVec 32 := 5#32
  let v1547 : BitVec 32 := Scalar.addi v1546 c5_i32
  let v1645 : Index := Scalar.indexCast v1547
  let c192_422 : Index := 192#32
  ![v1645.toNat, 192]
def k1_off1052 (k1_t4 : Fin k1_t4_loop.trips) : Fin 2 → Nat :=
  let c0_i32_44 : BitVec 32 := 0#32
  let c1_i32_46 : BitVec 32 := 1#32
  let arg37 : BitVec 32 := Scf.iv c0_i32_44 c1_i32_46 k1_t4
  let c16_i32_397 : BitVec 32 := 16#32
  let v1546 : BitVec 32 := Scalar.muli arg37 c16_i32_397
  let c5_i32 : BitVec 32 := 5#32
  let v1547 : BitVec 32 := Scalar.addi v1546 c5_i32
  let v1653 : Index := Scalar.indexCast v1547
  let c208_424 : Index := 208#32
  ![v1653.toNat, 208]
def k1_off1053 (k1_t4 : Fin k1_t4_loop.trips) : Fin 2 → Nat :=
  let c0_i32_44 : BitVec 32 := 0#32
  let c1_i32_46 : BitVec 32 := 1#32
  let arg37 : BitVec 32 := Scf.iv c0_i32_44 c1_i32_46 k1_t4
  let c16_i32_397 : BitVec 32 := 16#32
  let v1546 : BitVec 32 := Scalar.muli arg37 c16_i32_397
  let c5_i32 : BitVec 32 := 5#32
  let v1547 : BitVec 32 := Scalar.addi v1546 c5_i32
  let v1661 : Index := Scalar.indexCast v1547
  let c224_426 : Index := 224#32
  ![v1661.toNat, 224]
def k1_off1054 (k1_t4 : Fin k1_t4_loop.trips) : Fin 2 → Nat :=
  let c0_i32_44 : BitVec 32 := 0#32
  let c1_i32_46 : BitVec 32 := 1#32
  let arg37 : BitVec 32 := Scf.iv c0_i32_44 c1_i32_46 k1_t4
  let c16_i32_397 : BitVec 32 := 16#32
  let v1546 : BitVec 32 := Scalar.muli arg37 c16_i32_397
  let c5_i32 : BitVec 32 := 5#32
  let v1547 : BitVec 32 := Scalar.addi v1546 c5_i32
  let v1669 : Index := Scalar.indexCast v1547
  let c240_428 : Index := 240#32
  ![v1669.toNat, 240]
def k1_off1055 (k1_t4 : Fin k1_t4_loop.trips) : Fin 2 → Nat :=
  let c0_i32_44 : BitVec 32 := 0#32
  let c1_i32_46 : BitVec 32 := 1#32
  let arg37 : BitVec 32 := Scf.iv c0_i32_44 c1_i32_46 k1_t4
  let c16_i32_397 : BitVec 32 := 16#32
  let v1546 : BitVec 32 := Scalar.muli arg37 c16_i32_397
  let c5_i32 : BitVec 32 := 5#32
  let v1547 : BitVec 32 := Scalar.addi v1546 c5_i32
  let v1677 : Index := Scalar.indexCast v1547
  let c256_430 : Index := 256#32
  ![v1677.toNat, 256]
def k1_off1056 (k1_t4 : Fin k1_t4_loop.trips) : Fin 2 → Nat :=
  let c0_i32_44 : BitVec 32 := 0#32
  let c1_i32_46 : BitVec 32 := 1#32
  let arg37 : BitVec 32 := Scf.iv c0_i32_44 c1_i32_46 k1_t4
  let c16_i32_397 : BitVec 32 := 16#32
  let v1546 : BitVec 32 := Scalar.muli arg37 c16_i32_397
  let c5_i32 : BitVec 32 := 5#32
  let v1547 : BitVec 32 := Scalar.addi v1546 c5_i32
  let v1685 : Index := Scalar.indexCast v1547
  let c272_432 : Index := 272#32
  ![v1685.toNat, 272]
def k1_off1057 (k1_t4 : Fin k1_t4_loop.trips) : Fin 2 → Nat :=
  let c0_i32_44 : BitVec 32 := 0#32
  let c1_i32_46 : BitVec 32 := 1#32
  let arg37 : BitVec 32 := Scf.iv c0_i32_44 c1_i32_46 k1_t4
  let c16_i32_397 : BitVec 32 := 16#32
  let v1546 : BitVec 32 := Scalar.muli arg37 c16_i32_397
  let c5_i32 : BitVec 32 := 5#32
  let v1547 : BitVec 32 := Scalar.addi v1546 c5_i32
  let v1693 : Index := Scalar.indexCast v1547
  let c288_434 : Index := 288#32
  ![v1693.toNat, 288]
def k1_off1058 (k1_t4 : Fin k1_t4_loop.trips) : Fin 2 → Nat :=
  let c0_i32_44 : BitVec 32 := 0#32
  let c1_i32_46 : BitVec 32 := 1#32
  let arg37 : BitVec 32 := Scf.iv c0_i32_44 c1_i32_46 k1_t4
  let c16_i32_397 : BitVec 32 := 16#32
  let v1546 : BitVec 32 := Scalar.muli arg37 c16_i32_397
  let c5_i32 : BitVec 32 := 5#32
  let v1547 : BitVec 32 := Scalar.addi v1546 c5_i32
  let v1701 : Index := Scalar.indexCast v1547
  let c304_436 : Index := 304#32
  ![v1701.toNat, 304]
def k1_off1059 (k1_t4 : Fin k1_t4_loop.trips) : Fin 2 → Nat :=
  let c0_i32_44 : BitVec 32 := 0#32
  let c1_i32_46 : BitVec 32 := 1#32
  let arg37 : BitVec 32 := Scf.iv c0_i32_44 c1_i32_46 k1_t4
  let c16_i32_397 : BitVec 32 := 16#32
  let v1546 : BitVec 32 := Scalar.muli arg37 c16_i32_397
  let c5_i32 : BitVec 32 := 5#32
  let v1547 : BitVec 32 := Scalar.addi v1546 c5_i32
  let v1709 : Index := Scalar.indexCast v1547
  let c320_438 : Index := 320#32
  ![v1709.toNat, 320]
def k1_off1060 (k1_t4 : Fin k1_t4_loop.trips) : Fin 2 → Nat :=
  let c0_i32_44 : BitVec 32 := 0#32
  let c1_i32_46 : BitVec 32 := 1#32
  let arg37 : BitVec 32 := Scf.iv c0_i32_44 c1_i32_46 k1_t4
  let c16_i32_397 : BitVec 32 := 16#32
  let v1546 : BitVec 32 := Scalar.muli arg37 c16_i32_397
  let c5_i32 : BitVec 32 := 5#32
  let v1547 : BitVec 32 := Scalar.addi v1546 c5_i32
  let v1717 : Index := Scalar.indexCast v1547
  let c336_440 : Index := 336#32
  ![v1717.toNat, 336]
def k1_off1061 (k1_t4 : Fin k1_t4_loop.trips) : Fin 2 → Nat :=
  let c0_i32_44 : BitVec 32 := 0#32
  let c1_i32_46 : BitVec 32 := 1#32
  let arg37 : BitVec 32 := Scf.iv c0_i32_44 c1_i32_46 k1_t4
  let c16_i32_397 : BitVec 32 := 16#32
  let v1546 : BitVec 32 := Scalar.muli arg37 c16_i32_397
  let c5_i32 : BitVec 32 := 5#32
  let v1547 : BitVec 32 := Scalar.addi v1546 c5_i32
  let v1725 : Index := Scalar.indexCast v1547
  let c352_442 : Index := 352#32
  ![v1725.toNat, 352]
def k1_off1062 (k1_t4 : Fin k1_t4_loop.trips) : Fin 2 → Nat :=
  let c0_i32_44 : BitVec 32 := 0#32
  let c1_i32_46 : BitVec 32 := 1#32
  let arg37 : BitVec 32 := Scf.iv c0_i32_44 c1_i32_46 k1_t4
  let c16_i32_397 : BitVec 32 := 16#32
  let v1546 : BitVec 32 := Scalar.muli arg37 c16_i32_397
  let c5_i32 : BitVec 32 := 5#32
  let v1547 : BitVec 32 := Scalar.addi v1546 c5_i32
  let v1733 : Index := Scalar.indexCast v1547
  let c368_444 : Index := 368#32
  ![v1733.toNat, 368]
def k1_off1063 (v1545 : BitVec 32) : Fin 2 → Nat :=
  let v1741 : Index := Scalar.indexCast v1545
  let c0_446 : Index := 0#32
  ![v1741.toNat, 0]

def k1_off1064 (v1545 : BitVec 32) : Fin 2 → Nat :=
  let v1745 : Index := Scalar.indexCast v1545
  let c16_447 : Index := 16#32
  ![v1745.toNat, 16]
def k1_off1065 (v1545 : BitVec 32) : Fin 2 → Nat :=
  let v1749 : Index := Scalar.indexCast v1545
  let c32_448 : Index := 32#32
  ![v1749.toNat, 32]
def k1_off1066 (v1545 : BitVec 32) : Fin 2 → Nat :=
  let v1753 : Index := Scalar.indexCast v1545
  let c48_449 : Index := 48#32
  ![v1753.toNat, 48]
def k1_off1067 (v1545 : BitVec 32) : Fin 2 → Nat :=
  let v1757 : Index := Scalar.indexCast v1545
  let c64_450 : Index := 64#32
  ![v1757.toNat, 64]
def k1_off1068 (v1545 : BitVec 32) : Fin 2 → Nat :=
  let v1761 : Index := Scalar.indexCast v1545
  let c80_451 : Index := 80#32
  ![v1761.toNat, 80]
def k1_off1069 (v1545 : BitVec 32) : Fin 2 → Nat :=
  let v1765 : Index := Scalar.indexCast v1545
  let c96_452 : Index := 96#32
  ![v1765.toNat, 96]
def k1_off1070 (v1545 : BitVec 32) : Fin 2 → Nat :=
  let v1769 : Index := Scalar.indexCast v1545
  let c112_453 : Index := 112#32
  ![v1769.toNat, 112]
def k1_off1071 (v1545 : BitVec 32) : Fin 2 → Nat :=
  let v1773 : Index := Scalar.indexCast v1545
  let c128_454 : Index := 128#32
  ![v1773.toNat, 128]
def k1_off1072 (v1545 : BitVec 32) : Fin 2 → Nat :=
  let v1777 : Index := Scalar.indexCast v1545
  let c144_455 : Index := 144#32
  ![v1777.toNat, 144]
def k1_off1073 (v1545 : BitVec 32) : Fin 2 → Nat :=
  let v1781 : Index := Scalar.indexCast v1545
  let c160_456 : Index := 160#32
  ![v1781.toNat, 160]
def k1_off1074 (v1545 : BitVec 32) : Fin 2 → Nat :=
  let v1785 : Index := Scalar.indexCast v1545
  let c176_457 : Index := 176#32
  ![v1785.toNat, 176]
def k1_off1075 (v1545 : BitVec 32) : Fin 2 → Nat :=
  let v1789 : Index := Scalar.indexCast v1545
  let c192_458 : Index := 192#32
  ![v1789.toNat, 192]
def k1_off1076 (v1545 : BitVec 32) : Fin 2 → Nat :=
  let v1793 : Index := Scalar.indexCast v1545
  let c208_459 : Index := 208#32
  ![v1793.toNat, 208]
def k1_off1077 (v1545 : BitVec 32) : Fin 2 → Nat :=
  let v1797 : Index := Scalar.indexCast v1545
  let c224_460 : Index := 224#32
  ![v1797.toNat, 224]
def k1_off1078 (v1545 : BitVec 32) : Fin 2 → Nat :=
  let v1801 : Index := Scalar.indexCast v1545
  let c240_461 : Index := 240#32
  ![v1801.toNat, 240]
def k1_off1079 (v1545 : BitVec 32) : Fin 2 → Nat :=
  let v1805 : Index := Scalar.indexCast v1545
  let c256_462 : Index := 256#32
  ![v1805.toNat, 256]
def k1_off1080 (v1545 : BitVec 32) : Fin 2 → Nat :=
  let v1809 : Index := Scalar.indexCast v1545
  let c272_463 : Index := 272#32
  ![v1809.toNat, 272]
def k1_off1081 (v1545 : BitVec 32) : Fin 2 → Nat :=
  let v1813 : Index := Scalar.indexCast v1545
  let c288_464 : Index := 288#32
  ![v1813.toNat, 288]
def k1_off1082 (v1545 : BitVec 32) : Fin 2 → Nat :=
  let v1817 : Index := Scalar.indexCast v1545
  let c304_465 : Index := 304#32
  ![v1817.toNat, 304]
def k1_off1083 (v1545 : BitVec 32) : Fin 2 → Nat :=
  let v1821 : Index := Scalar.indexCast v1545
  let c320_466 : Index := 320#32
  ![v1821.toNat, 320]
def k1_off1084 (v1545 : BitVec 32) : Fin 2 → Nat :=
  let v1825 : Index := Scalar.indexCast v1545
  let c336_467 : Index := 336#32
  ![v1825.toNat, 336]
def k1_off1085 (v1545 : BitVec 32) : Fin 2 → Nat :=
  let v1829 : Index := Scalar.indexCast v1545
  let c352_468 : Index := 352#32
  ![v1829.toNat, 352]
def k1_off1086 (v1545 : BitVec 32) : Fin 2 → Nat :=
  let v1833 : Index := Scalar.indexCast v1545
  let c368_469 : Index := 368#32
  ![v1833.toNat, 368]

def k1_chk22 (i : grid1.Coords) (v1545 : BitVec 32) : Prop :=
  (∀ (k1_h1 : k1_cond1 i = 1#1), ∀ a, (k1_off1063 v1545) a + S1x16.size a ≤ S256x384.size a) ∧
  (∀ (k1_h1 : k1_cond1 i = 1#1), ∀ a, (k1_off1064 v1545) a + S1x16.size a ≤ S256x384.size a) ∧
  (∀ (k1_h1 : k1_cond1 i = 1#1), ∀ a, (k1_off1065 v1545) a + S1x16.size a ≤ S256x384.size a) ∧
  (∀ (k1_h1 : k1_cond1 i = 1#1), ∀ a, (k1_off1066 v1545) a + S1x16.size a ≤ S256x384.size a) ∧
  (∀ (k1_h1 : k1_cond1 i = 1#1), ∀ a, (k1_off1067 v1545) a + S1x16.size a ≤ S256x384.size a) ∧
  (∀ (k1_h1 : k1_cond1 i = 1#1), ∀ a, (k1_off1068 v1545) a + S1x16.size a ≤ S256x384.size a) ∧
  (∀ (k1_h1 : k1_cond1 i = 1#1), ∀ a, (k1_off1069 v1545) a + S1x16.size a ≤ S256x384.size a) ∧
  (∀ (k1_h1 : k1_cond1 i = 1#1), ∀ a, (k1_off1070 v1545) a + S1x16.size a ≤ S256x384.size a) ∧
  (∀ (k1_h1 : k1_cond1 i = 1#1), ∀ a, (k1_off1071 v1545) a + S1x16.size a ≤ S256x384.size a) ∧
  (∀ (k1_h1 : k1_cond1 i = 1#1), ∀ a, (k1_off1072 v1545) a + S1x16.size a ≤ S256x384.size a) ∧
  (∀ (k1_h1 : k1_cond1 i = 1#1), ∀ a, (k1_off1073 v1545) a + S1x16.size a ≤ S256x384.size a) ∧
  (∀ (k1_h1 : k1_cond1 i = 1#1), ∀ a, (k1_off1074 v1545) a + S1x16.size a ≤ S256x384.size a) ∧
  (∀ (k1_h1 : k1_cond1 i = 1#1), ∀ a, (k1_off1075 v1545) a + S1x16.size a ≤ S256x384.size a) ∧
  (∀ (k1_h1 : k1_cond1 i = 1#1), ∀ a, (k1_off1076 v1545) a + S1x16.size a ≤ S256x384.size a) ∧
  (∀ (k1_h1 : k1_cond1 i = 1#1), ∀ a, (k1_off1077 v1545) a + S1x16.size a ≤ S256x384.size a) ∧
  (∀ (k1_h1 : k1_cond1 i = 1#1), ∀ a, (k1_off1078 v1545) a + S1x16.size a ≤ S256x384.size a) ∧
  (∀ (k1_h1 : k1_cond1 i = 1#1), ∀ a, (k1_off1079 v1545) a + S1x16.size a ≤ S256x384.size a) ∧
  (∀ (k1_h1 : k1_cond1 i = 1#1), ∀ a, (k1_off1080 v1545) a + S1x16.size a ≤ S256x384.size a) ∧
  (∀ (k1_h1 : k1_cond1 i = 1#1), ∀ a, (k1_off1081 v1545) a + S1x16.size a ≤ S256x384.size a) ∧
  (∀ (k1_h1 : k1_cond1 i = 1#1), ∀ a, (k1_off1082 v1545) a + S1x16.size a ≤ S256x384.size a) ∧
  (∀ (k1_h1 : k1_cond1 i = 1#1), ∀ a, (k1_off1083 v1545) a + S1x16.size a ≤ S256x384.size a) ∧
  (∀ (k1_h1 : k1_cond1 i = 1#1), ∀ a, (k1_off1084 v1545) a + S1x16.size a ≤ S256x384.size a) ∧
  (∀ (k1_h1 : k1_cond1 i = 1#1), ∀ a, (k1_off1085 v1545) a + S1x16.size a ≤ S256x384.size a) ∧
  (∀ (k1_h1 : k1_cond1 i = 1#1), ∀ a, (k1_off1086 v1545) a + S1x16.size a ≤ S256x384.size a)
theorem k1_off1063_inb : ∀ (i : grid1.Coords) (v1545 : BitVec 32) (k1_hw22 : k1_chk22 i v1545), ∀ (k1_h1 : k1_cond1 i = 1#1), ∀ a, (k1_off1063 v1545) a + S1x16.size a ≤ S256x384.size a := fun i v1545 k1_hw22 k1_h1 => k1_hw22.1 k1_h1
theorem k1_off1064_inb : ∀ (i : grid1.Coords) (v1545 : BitVec 32) (k1_hw22 : k1_chk22 i v1545), ∀ (k1_h1 : k1_cond1 i = 1#1), ∀ a, (k1_off1064 v1545) a + S1x16.size a ≤ S256x384.size a := fun i v1545 k1_hw22 k1_h1 => k1_hw22.2.1 k1_h1
theorem k1_off1065_inb : ∀ (i : grid1.Coords) (v1545 : BitVec 32) (k1_hw22 : k1_chk22 i v1545), ∀ (k1_h1 : k1_cond1 i = 1#1), ∀ a, (k1_off1065 v1545) a + S1x16.size a ≤ S256x384.size a := fun i v1545 k1_hw22 k1_h1 => k1_hw22.2.2.1 k1_h1
theorem k1_off1066_inb : ∀ (i : grid1.Coords) (v1545 : BitVec 32) (k1_hw22 : k1_chk22 i v1545), ∀ (k1_h1 : k1_cond1 i = 1#1), ∀ a, (k1_off1066 v1545) a + S1x16.size a ≤ S256x384.size a := fun i v1545 k1_hw22 k1_h1 => k1_hw22.2.2.2.1 k1_h1
theorem k1_off1067_inb : ∀ (i : grid1.Coords) (v1545 : BitVec 32) (k1_hw22 : k1_chk22 i v1545), ∀ (k1_h1 : k1_cond1 i = 1#1), ∀ a, (k1_off1067 v1545) a + S1x16.size a ≤ S256x384.size a := fun i v1545 k1_hw22 k1_h1 => k1_hw22.2.2.2.2.1 k1_h1
theorem k1_off1068_inb : ∀ (i : grid1.Coords) (v1545 : BitVec 32) (k1_hw22 : k1_chk22 i v1545), ∀ (k1_h1 : k1_cond1 i = 1#1), ∀ a, (k1_off1068 v1545) a + S1x16.size a ≤ S256x384.size a := fun i v1545 k1_hw22 k1_h1 => k1_hw22.2.2.2.2.2.1 k1_h1
theorem k1_off1069_inb : ∀ (i : grid1.Coords) (v1545 : BitVec 32) (k1_hw22 : k1_chk22 i v1545), ∀ (k1_h1 : k1_cond1 i = 1#1), ∀ a, (k1_off1069 v1545) a + S1x16.size a ≤ S256x384.size a := fun i v1545 k1_hw22 k1_h1 => k1_hw22.2.2.2.2.2.2.1 k1_h1
theorem k1_off1070_inb : ∀ (i : grid1.Coords) (v1545 : BitVec 32) (k1_hw22 : k1_chk22 i v1545), ∀ (k1_h1 : k1_cond1 i = 1#1), ∀ a, (k1_off1070 v1545) a + S1x16.size a ≤ S256x384.size a := fun i v1545 k1_hw22 k1_h1 => k1_hw22.2.2.2.2.2.2.2.1 k1_h1
theorem k1_off1071_inb : ∀ (i : grid1.Coords) (v1545 : BitVec 32) (k1_hw22 : k1_chk22 i v1545), ∀ (k1_h1 : k1_cond1 i = 1#1), ∀ a, (k1_off1071 v1545) a + S1x16.size a ≤ S256x384.size a := fun i v1545 k1_hw22 k1_h1 => k1_hw22.2.2.2.2.2.2.2.2.1 k1_h1
theorem k1_off1072_inb : ∀ (i : grid1.Coords) (v1545 : BitVec 32) (k1_hw22 : k1_chk22 i v1545), ∀ (k1_h1 : k1_cond1 i = 1#1), ∀ a, (k1_off1072 v1545) a + S1x16.size a ≤ S256x384.size a := fun i v1545 k1_hw22 k1_h1 => k1_hw22.2.2.2.2.2.2.2.2.2.1 k1_h1
theorem k1_off1073_inb : ∀ (i : grid1.Coords) (v1545 : BitVec 32) (k1_hw22 : k1_chk22 i v1545), ∀ (k1_h1 : k1_cond1 i = 1#1), ∀ a, (k1_off1073 v1545) a + S1x16.size a ≤ S256x384.size a := fun i v1545 k1_hw22 k1_h1 => k1_hw22.2.2.2.2.2.2.2.2.2.2.1 k1_h1
theorem k1_off1074_inb : ∀ (i : grid1.Coords) (v1545 : BitVec 32) (k1_hw22 : k1_chk22 i v1545), ∀ (k1_h1 : k1_cond1 i = 1#1), ∀ a, (k1_off1074 v1545) a + S1x16.size a ≤ S256x384.size a := fun i v1545 k1_hw22 k1_h1 => k1_hw22.2.2.2.2.2.2.2.2.2.2.2.1 k1_h1
theorem k1_off1075_inb : ∀ (i : grid1.Coords) (v1545 : BitVec 32) (k1_hw22 : k1_chk22 i v1545), ∀ (k1_h1 : k1_cond1 i = 1#1), ∀ a, (k1_off1075 v1545) a + S1x16.size a ≤ S256x384.size a := fun i v1545 k1_hw22 k1_h1 => k1_hw22.2.2.2.2.2.2.2.2.2.2.2.2.1 k1_h1
theorem k1_off1076_inb : ∀ (i : grid1.Coords) (v1545 : BitVec 32) (k1_hw22 : k1_chk22 i v1545), ∀ (k1_h1 : k1_cond1 i = 1#1), ∀ a, (k1_off1076 v1545) a + S1x16.size a ≤ S256x384.size a := fun i v1545 k1_hw22 k1_h1 => k1_hw22.2.2.2.2.2.2.2.2.2.2.2.2.2.1 k1_h1
theorem k1_off1077_inb : ∀ (i : grid1.Coords) (v1545 : BitVec 32) (k1_hw22 : k1_chk22 i v1545), ∀ (k1_h1 : k1_cond1 i = 1#1), ∀ a, (k1_off1077 v1545) a + S1x16.size a ≤ S256x384.size a := fun i v1545 k1_hw22 k1_h1 => k1_hw22.2.2.2.2.2.2.2.2.2.2.2.2.2.2.1 k1_h1
theorem k1_off1078_inb : ∀ (i : grid1.Coords) (v1545 : BitVec 32) (k1_hw22 : k1_chk22 i v1545), ∀ (k1_h1 : k1_cond1 i = 1#1), ∀ a, (k1_off1078 v1545) a + S1x16.size a ≤ S256x384.size a := fun i v1545 k1_hw22 k1_h1 => k1_hw22.2.2.2.2.2.2.2.2.2.2.2.2.2.2.2.1 k1_h1
theorem k1_off1079_inb : ∀ (i : grid1.Coords) (v1545 : BitVec 32) (k1_hw22 : k1_chk22 i v1545), ∀ (k1_h1 : k1_cond1 i = 1#1), ∀ a, (k1_off1079 v1545) a + S1x16.size a ≤ S256x384.size a := fun i v1545 k1_hw22 k1_h1 => k1_hw22.2.2.2.2.2.2.2.2.2.2.2.2.2.2.2.2.1 k1_h1
theorem k1_off1080_inb : ∀ (i : grid1.Coords) (v1545 : BitVec 32) (k1_hw22 : k1_chk22 i v1545), ∀ (k1_h1 : k1_cond1 i = 1#1), ∀ a, (k1_off1080 v1545) a + S1x16.size a ≤ S256x384.size a := fun i v1545 k1_hw22 k1_h1 => k1_hw22.2.2.2.2.2.2.2.2.2.2.2.2.2.2.2.2.2.1 k1_h1
theorem k1_off1081_inb : ∀ (i : grid1.Coords) (v1545 : BitVec 32) (k1_hw22 : k1_chk22 i v1545), ∀ (k1_h1 : k1_cond1 i = 1#1), ∀ a, (k1_off1081 v1545) a + S1x16.size a ≤ S256x384.size a := fun i v1545 k1_hw22 k1_h1 => k1_hw22.2.2.2.2.2.2.2.2.2.2.2.2.2.2.2.2.2.2.1 k1_h1
theorem k1_off1082_inb : ∀ (i : grid1.Coords) (v1545 : BitVec 32) (k1_hw22 : k1_chk22 i v1545), ∀ (k1_h1 : k1_cond1 i = 1#1), ∀ a, (k1_off1082 v1545) a + S1x16.size a ≤ S256x384.size a := fun i v1545 k1_hw22 k1_h1 => k1_hw22.2.2.2.2.2.2.2.2.2.2.2.2.2.2.2.2.2.2.2.1 k1_h1
theorem k1_off1083_inb : ∀ (i : grid1.Coords) (v1545 : BitVec 32) (k1_hw22 : k1_chk22 i v1545), ∀ (k1_h1 : k1_cond1 i = 1#1), ∀ a, (k1_off1083 v1545) a + S1x16.size a ≤ S256x384.size a := fun i v1545 k1_hw22 k1_h1 => k1_hw22.2.2.2.2.2.2.2.2.2.2.2.2.2.2.2.2.2.2.2.2.1 k1_h1
theorem k1_off1084_inb : ∀ (i : grid1.Coords) (v1545 : BitVec 32) (k1_hw22 : k1_chk22 i v1545), ∀ (k1_h1 : k1_cond1 i = 1#1), ∀ a, (k1_off1084 v1545) a + S1x16.size a ≤ S256x384.size a := fun i v1545 k1_hw22 k1_h1 => k1_hw22.2.2.2.2.2.2.2.2.2.2.2.2.2.2.2.2.2.2.2.2.2.1 k1_h1
theorem k1_off1085_inb : ∀ (i : grid1.Coords) (v1545 : BitVec 32) (k1_hw22 : k1_chk22 i v1545), ∀ (k1_h1 : k1_cond1 i = 1#1), ∀ a, (k1_off1085 v1545) a + S1x16.size a ≤ S256x384.size a := fun i v1545 k1_hw22 k1_h1 => k1_hw22.2.2.2.2.2.2.2.2.2.2.2.2.2.2.2.2.2.2.2.2.2.2.1 k1_h1
theorem k1_off1086_inb : ∀ (i : grid1.Coords) (v1545 : BitVec 32) (k1_hw22 : k1_chk22 i v1545), ∀ (k1_h1 : k1_cond1 i = 1#1), ∀ a, (k1_off1086 v1545) a + S1x16.size a ≤ S256x384.size a := fun i v1545 k1_hw22 k1_h1 => k1_hw22.2.2.2.2.2.2.2.2.2.2.2.2.2.2.2.2.2.2.2.2.2.2.2 k1_h1

def k1_off1087 (k1_t4 : Fin k1_t4_loop.trips) : Fin 2 → Nat :=
  let c0_i32_44 : BitVec 32 := 0#32
  let c1_i32_46 : BitVec 32 := 1#32
  let arg37 : BitVec 32 := Scf.iv c0_i32_44 c1_i32_46 k1_t4
  let c16_i32_470 : BitVec 32 := 16#32
  let v1839 : BitVec 32 := Scalar.muli arg37 c16_i32_470
  let c6_i32 : BitVec 32 := 6#32
  let v1840 : BitVec 32 := Scalar.addi v1839 c6_i32
  let v1842 : Index := Scalar.indexCast v1840
  let c0_471 : Index := 0#32
  ![v1842.toNat, 0]
def k1_off1088 (k1_t4 : Fin k1_t4_loop.trips) : Fin 2 → Nat :=
  let c0_i32_44 : BitVec 32 := 0#32
  let c1_i32_46 : BitVec 32 := 1#32
  let arg37 : BitVec 32 := Scf.iv c0_i32_44 c1_i32_46 k1_t4
  let c16_i32_470 : BitVec 32 := 16#32
  let v1839 : BitVec 32 := Scalar.muli arg37 c16_i32_470
  let c6_i32 : BitVec 32 := 6#32
  let v1840 : BitVec 32 := Scalar.addi v1839 c6_i32
  let v1850 : Index := Scalar.indexCast v1840
  let c16_473 : Index := 16#32
  ![v1850.toNat, 16]
def k1_off1089 (k1_t4 : Fin k1_t4_loop.trips) : Fin 2 → Nat :=
  let c0_i32_44 : BitVec 32 := 0#32
  let c1_i32_46 : BitVec 32 := 1#32
  let arg37 : BitVec 32 := Scf.iv c0_i32_44 c1_i32_46 k1_t4
  let c16_i32_470 : BitVec 32 := 16#32
  let v1839 : BitVec 32 := Scalar.muli arg37 c16_i32_470
  let c6_i32 : BitVec 32 := 6#32
  let v1840 : BitVec 32 := Scalar.addi v1839 c6_i32
  let v1858 : Index := Scalar.indexCast v1840
  let c32_475 : Index := 32#32
  ![v1858.toNat, 32]
def k1_off1090 (k1_t4 : Fin k1_t4_loop.trips) : Fin 2 → Nat :=
  let c0_i32_44 : BitVec 32 := 0#32
  let c1_i32_46 : BitVec 32 := 1#32
  let arg37 : BitVec 32 := Scf.iv c0_i32_44 c1_i32_46 k1_t4
  let c16_i32_470 : BitVec 32 := 16#32
  let v1839 : BitVec 32 := Scalar.muli arg37 c16_i32_470
  let c6_i32 : BitVec 32 := 6#32
  let v1840 : BitVec 32 := Scalar.addi v1839 c6_i32
  let v1866 : Index := Scalar.indexCast v1840
  let c48_477 : Index := 48#32
  ![v1866.toNat, 48]
def k1_off1091 (k1_t4 : Fin k1_t4_loop.trips) : Fin 2 → Nat :=
  let c0_i32_44 : BitVec 32 := 0#32
  let c1_i32_46 : BitVec 32 := 1#32
  let arg37 : BitVec 32 := Scf.iv c0_i32_44 c1_i32_46 k1_t4
  let c16_i32_470 : BitVec 32 := 16#32
  let v1839 : BitVec 32 := Scalar.muli arg37 c16_i32_470
  let c6_i32 : BitVec 32 := 6#32
  let v1840 : BitVec 32 := Scalar.addi v1839 c6_i32
  let v1874 : Index := Scalar.indexCast v1840
  let c64_479 : Index := 64#32
  ![v1874.toNat, 64]
def k1_off1092 (k1_t4 : Fin k1_t4_loop.trips) : Fin 2 → Nat :=
  let c0_i32_44 : BitVec 32 := 0#32
  let c1_i32_46 : BitVec 32 := 1#32
  let arg37 : BitVec 32 := Scf.iv c0_i32_44 c1_i32_46 k1_t4
  let c16_i32_470 : BitVec 32 := 16#32
  let v1839 : BitVec 32 := Scalar.muli arg37 c16_i32_470
  let c6_i32 : BitVec 32 := 6#32
  let v1840 : BitVec 32 := Scalar.addi v1839 c6_i32
  let v1882 : Index := Scalar.indexCast v1840
  let c80_481 : Index := 80#32
  ![v1882.toNat, 80]
def k1_off1093 (k1_t4 : Fin k1_t4_loop.trips) : Fin 2 → Nat :=
  let c0_i32_44 : BitVec 32 := 0#32
  let c1_i32_46 : BitVec 32 := 1#32
  let arg37 : BitVec 32 := Scf.iv c0_i32_44 c1_i32_46 k1_t4
  let c16_i32_470 : BitVec 32 := 16#32
  let v1839 : BitVec 32 := Scalar.muli arg37 c16_i32_470
  let c6_i32 : BitVec 32 := 6#32
  let v1840 : BitVec 32 := Scalar.addi v1839 c6_i32
  let v1890 : Index := Scalar.indexCast v1840
  let c96_483 : Index := 96#32
  ![v1890.toNat, 96]
def k1_off1094 (k1_t4 : Fin k1_t4_loop.trips) : Fin 2 → Nat :=
  let c0_i32_44 : BitVec 32 := 0#32
  let c1_i32_46 : BitVec 32 := 1#32
  let arg37 : BitVec 32 := Scf.iv c0_i32_44 c1_i32_46 k1_t4
  let c16_i32_470 : BitVec 32 := 16#32
  let v1839 : BitVec 32 := Scalar.muli arg37 c16_i32_470
  let c6_i32 : BitVec 32 := 6#32
  let v1840 : BitVec 32 := Scalar.addi v1839 c6_i32
  let v1898 : Index := Scalar.indexCast v1840
  let c112_485 : Index := 112#32
  ![v1898.toNat, 112]
def k1_off1095 (k1_t4 : Fin k1_t4_loop.trips) : Fin 2 → Nat :=
  let c0_i32_44 : BitVec 32 := 0#32
  let c1_i32_46 : BitVec 32 := 1#32
  let arg37 : BitVec 32 := Scf.iv c0_i32_44 c1_i32_46 k1_t4
  let c16_i32_470 : BitVec 32 := 16#32
  let v1839 : BitVec 32 := Scalar.muli arg37 c16_i32_470
  let c6_i32 : BitVec 32 := 6#32
  let v1840 : BitVec 32 := Scalar.addi v1839 c6_i32
  let v1906 : Index := Scalar.indexCast v1840
  let c128_487 : Index := 128#32
  ![v1906.toNat, 128]
def k1_off1096 (k1_t4 : Fin k1_t4_loop.trips) : Fin 2 → Nat :=
  let c0_i32_44 : BitVec 32 := 0#32
  let c1_i32_46 : BitVec 32 := 1#32
  let arg37 : BitVec 32 := Scf.iv c0_i32_44 c1_i32_46 k1_t4
  let c16_i32_470 : BitVec 32 := 16#32
  let v1839 : BitVec 32 := Scalar.muli arg37 c16_i32_470
  let c6_i32 : BitVec 32 := 6#32
  let v1840 : BitVec 32 := Scalar.addi v1839 c6_i32
  let v1914 : Index := Scalar.indexCast v1840
  let c144_489 : Index := 144#32
  ![v1914.toNat, 144]
def k1_off1097 (k1_t4 : Fin k1_t4_loop.trips) : Fin 2 → Nat :=
  let c0_i32_44 : BitVec 32 := 0#32
  let c1_i32_46 : BitVec 32 := 1#32
  let arg37 : BitVec 32 := Scf.iv c0_i32_44 c1_i32_46 k1_t4
  let c16_i32_470 : BitVec 32 := 16#32
  let v1839 : BitVec 32 := Scalar.muli arg37 c16_i32_470
  let c6_i32 : BitVec 32 := 6#32
  let v1840 : BitVec 32 := Scalar.addi v1839 c6_i32
  let v1922 : Index := Scalar.indexCast v1840
  let c160_491 : Index := 160#32
  ![v1922.toNat, 160]
def k1_off1098 (k1_t4 : Fin k1_t4_loop.trips) : Fin 2 → Nat :=
  let c0_i32_44 : BitVec 32 := 0#32
  let c1_i32_46 : BitVec 32 := 1#32
  let arg37 : BitVec 32 := Scf.iv c0_i32_44 c1_i32_46 k1_t4
  let c16_i32_470 : BitVec 32 := 16#32
  let v1839 : BitVec 32 := Scalar.muli arg37 c16_i32_470
  let c6_i32 : BitVec 32 := 6#32
  let v1840 : BitVec 32 := Scalar.addi v1839 c6_i32
  let v1930 : Index := Scalar.indexCast v1840
  let c176_493 : Index := 176#32
  ![v1930.toNat, 176]
def k1_off1099 (k1_t4 : Fin k1_t4_loop.trips) : Fin 2 → Nat :=
  let c0_i32_44 : BitVec 32 := 0#32
  let c1_i32_46 : BitVec 32 := 1#32
  let arg37 : BitVec 32 := Scf.iv c0_i32_44 c1_i32_46 k1_t4
  let c16_i32_470 : BitVec 32 := 16#32
  let v1839 : BitVec 32 := Scalar.muli arg37 c16_i32_470
  let c6_i32 : BitVec 32 := 6#32
  let v1840 : BitVec 32 := Scalar.addi v1839 c6_i32
  let v1938 : Index := Scalar.indexCast v1840
  let c192_495 : Index := 192#32
  ![v1938.toNat, 192]
def k1_off1100 (k1_t4 : Fin k1_t4_loop.trips) : Fin 2 → Nat :=
  let c0_i32_44 : BitVec 32 := 0#32
  let c1_i32_46 : BitVec 32 := 1#32
  let arg37 : BitVec 32 := Scf.iv c0_i32_44 c1_i32_46 k1_t4
  let c16_i32_470 : BitVec 32 := 16#32
  let v1839 : BitVec 32 := Scalar.muli arg37 c16_i32_470
  let c6_i32 : BitVec 32 := 6#32
  let v1840 : BitVec 32 := Scalar.addi v1839 c6_i32
  let v1946 : Index := Scalar.indexCast v1840
  let c208_497 : Index := 208#32
  ![v1946.toNat, 208]
def k1_off1101 (k1_t4 : Fin k1_t4_loop.trips) : Fin 2 → Nat :=
  let c0_i32_44 : BitVec 32 := 0#32
  let c1_i32_46 : BitVec 32 := 1#32
  let arg37 : BitVec 32 := Scf.iv c0_i32_44 c1_i32_46 k1_t4
  let c16_i32_470 : BitVec 32 := 16#32
  let v1839 : BitVec 32 := Scalar.muli arg37 c16_i32_470
  let c6_i32 : BitVec 32 := 6#32
  let v1840 : BitVec 32 := Scalar.addi v1839 c6_i32
  let v1954 : Index := Scalar.indexCast v1840
  let c224_499 : Index := 224#32
  ![v1954.toNat, 224]
def k1_off1102 (k1_t4 : Fin k1_t4_loop.trips) : Fin 2 → Nat :=
  let c0_i32_44 : BitVec 32 := 0#32
  let c1_i32_46 : BitVec 32 := 1#32
  let arg37 : BitVec 32 := Scf.iv c0_i32_44 c1_i32_46 k1_t4
  let c16_i32_470 : BitVec 32 := 16#32
  let v1839 : BitVec 32 := Scalar.muli arg37 c16_i32_470
  let c6_i32 : BitVec 32 := 6#32
  let v1840 : BitVec 32 := Scalar.addi v1839 c6_i32
  let v1962 : Index := Scalar.indexCast v1840
  let c240_501 : Index := 240#32
  ![v1962.toNat, 240]
def k1_off1103 (k1_t4 : Fin k1_t4_loop.trips) : Fin 2 → Nat :=
  let c0_i32_44 : BitVec 32 := 0#32
  let c1_i32_46 : BitVec 32 := 1#32
  let arg37 : BitVec 32 := Scf.iv c0_i32_44 c1_i32_46 k1_t4
  let c16_i32_470 : BitVec 32 := 16#32
  let v1839 : BitVec 32 := Scalar.muli arg37 c16_i32_470
  let c6_i32 : BitVec 32 := 6#32
  let v1840 : BitVec 32 := Scalar.addi v1839 c6_i32
  let v1970 : Index := Scalar.indexCast v1840
  let c256_503 : Index := 256#32
  ![v1970.toNat, 256]
def k1_off1104 (k1_t4 : Fin k1_t4_loop.trips) : Fin 2 → Nat :=
  let c0_i32_44 : BitVec 32 := 0#32
  let c1_i32_46 : BitVec 32 := 1#32
  let arg37 : BitVec 32 := Scf.iv c0_i32_44 c1_i32_46 k1_t4
  let c16_i32_470 : BitVec 32 := 16#32
  let v1839 : BitVec 32 := Scalar.muli arg37 c16_i32_470
  let c6_i32 : BitVec 32 := 6#32
  let v1840 : BitVec 32 := Scalar.addi v1839 c6_i32
  let v1978 : Index := Scalar.indexCast v1840
  let c272_505 : Index := 272#32
  ![v1978.toNat, 272]
def k1_off1105 (k1_t4 : Fin k1_t4_loop.trips) : Fin 2 → Nat :=
  let c0_i32_44 : BitVec 32 := 0#32
  let c1_i32_46 : BitVec 32 := 1#32
  let arg37 : BitVec 32 := Scf.iv c0_i32_44 c1_i32_46 k1_t4
  let c16_i32_470 : BitVec 32 := 16#32
  let v1839 : BitVec 32 := Scalar.muli arg37 c16_i32_470
  let c6_i32 : BitVec 32 := 6#32
  let v1840 : BitVec 32 := Scalar.addi v1839 c6_i32
  let v1986 : Index := Scalar.indexCast v1840
  let c288_507 : Index := 288#32
  ![v1986.toNat, 288]
def k1_off1106 (k1_t4 : Fin k1_t4_loop.trips) : Fin 2 → Nat :=
  let c0_i32_44 : BitVec 32 := 0#32
  let c1_i32_46 : BitVec 32 := 1#32
  let arg37 : BitVec 32 := Scf.iv c0_i32_44 c1_i32_46 k1_t4
  let c16_i32_470 : BitVec 32 := 16#32
  let v1839 : BitVec 32 := Scalar.muli arg37 c16_i32_470
  let c6_i32 : BitVec 32 := 6#32
  let v1840 : BitVec 32 := Scalar.addi v1839 c6_i32
  let v1994 : Index := Scalar.indexCast v1840
  let c304_509 : Index := 304#32
  ![v1994.toNat, 304]
def k1_off1107 (k1_t4 : Fin k1_t4_loop.trips) : Fin 2 → Nat :=
  let c0_i32_44 : BitVec 32 := 0#32
  let c1_i32_46 : BitVec 32 := 1#32
  let arg37 : BitVec 32 := Scf.iv c0_i32_44 c1_i32_46 k1_t4
  let c16_i32_470 : BitVec 32 := 16#32
  let v1839 : BitVec 32 := Scalar.muli arg37 c16_i32_470
  let c6_i32 : BitVec 32 := 6#32
  let v1840 : BitVec 32 := Scalar.addi v1839 c6_i32
  let v2002 : Index := Scalar.indexCast v1840
  let c320_511 : Index := 320#32
  ![v2002.toNat, 320]
def k1_off1108 (k1_t4 : Fin k1_t4_loop.trips) : Fin 2 → Nat :=
  let c0_i32_44 : BitVec 32 := 0#32
  let c1_i32_46 : BitVec 32 := 1#32
  let arg37 : BitVec 32 := Scf.iv c0_i32_44 c1_i32_46 k1_t4
  let c16_i32_470 : BitVec 32 := 16#32
  let v1839 : BitVec 32 := Scalar.muli arg37 c16_i32_470
  let c6_i32 : BitVec 32 := 6#32
  let v1840 : BitVec 32 := Scalar.addi v1839 c6_i32
  let v2010 : Index := Scalar.indexCast v1840
  let c336_513 : Index := 336#32
  ![v2010.toNat, 336]
def k1_off1109 (k1_t4 : Fin k1_t4_loop.trips) : Fin 2 → Nat :=
  let c0_i32_44 : BitVec 32 := 0#32
  let c1_i32_46 : BitVec 32 := 1#32
  let arg37 : BitVec 32 := Scf.iv c0_i32_44 c1_i32_46 k1_t4
  let c16_i32_470 : BitVec 32 := 16#32
  let v1839 : BitVec 32 := Scalar.muli arg37 c16_i32_470
  let c6_i32 : BitVec 32 := 6#32
  let v1840 : BitVec 32 := Scalar.addi v1839 c6_i32
  let v2018 : Index := Scalar.indexCast v1840
  let c352_515 : Index := 352#32
  ![v2018.toNat, 352]
def k1_off1110 (k1_t4 : Fin k1_t4_loop.trips) : Fin 2 → Nat :=
  let c0_i32_44 : BitVec 32 := 0#32
  let c1_i32_46 : BitVec 32 := 1#32
  let arg37 : BitVec 32 := Scf.iv c0_i32_44 c1_i32_46 k1_t4
  let c16_i32_470 : BitVec 32 := 16#32
  let v1839 : BitVec 32 := Scalar.muli arg37 c16_i32_470
  let c6_i32 : BitVec 32 := 6#32
  let v1840 : BitVec 32 := Scalar.addi v1839 c6_i32
  let v2026 : Index := Scalar.indexCast v1840
  let c368_517 : Index := 368#32
  ![v2026.toNat, 368]
def k1_off1111 (v1838 : BitVec 32) : Fin 2 → Nat :=
  let v2034 : Index := Scalar.indexCast v1838
  let c0_519 : Index := 0#32
  ![v2034.toNat, 0]

def k1_off1112 (v1838 : BitVec 32) : Fin 2 → Nat :=
  let v2038 : Index := Scalar.indexCast v1838
  let c16_520 : Index := 16#32
  ![v2038.toNat, 16]
def k1_off1113 (v1838 : BitVec 32) : Fin 2 → Nat :=
  let v2042 : Index := Scalar.indexCast v1838
  let c32_521 : Index := 32#32
  ![v2042.toNat, 32]
def k1_off1114 (v1838 : BitVec 32) : Fin 2 → Nat :=
  let v2046 : Index := Scalar.indexCast v1838
  let c48_522 : Index := 48#32
  ![v2046.toNat, 48]
def k1_off1115 (v1838 : BitVec 32) : Fin 2 → Nat :=
  let v2050 : Index := Scalar.indexCast v1838
  let c64_523 : Index := 64#32
  ![v2050.toNat, 64]
def k1_off1116 (v1838 : BitVec 32) : Fin 2 → Nat :=
  let v2054 : Index := Scalar.indexCast v1838
  let c80_524 : Index := 80#32
  ![v2054.toNat, 80]
def k1_off1117 (v1838 : BitVec 32) : Fin 2 → Nat :=
  let v2058 : Index := Scalar.indexCast v1838
  let c96_525 : Index := 96#32
  ![v2058.toNat, 96]
def k1_off1118 (v1838 : BitVec 32) : Fin 2 → Nat :=
  let v2062 : Index := Scalar.indexCast v1838
  let c112_526 : Index := 112#32
  ![v2062.toNat, 112]
def k1_off1119 (v1838 : BitVec 32) : Fin 2 → Nat :=
  let v2066 : Index := Scalar.indexCast v1838
  let c128_527 : Index := 128#32
  ![v2066.toNat, 128]
def k1_off1120 (v1838 : BitVec 32) : Fin 2 → Nat :=
  let v2070 : Index := Scalar.indexCast v1838
  let c144_528 : Index := 144#32
  ![v2070.toNat, 144]
def k1_off1121 (v1838 : BitVec 32) : Fin 2 → Nat :=
  let v2074 : Index := Scalar.indexCast v1838
  let c160_529 : Index := 160#32
  ![v2074.toNat, 160]
def k1_off1122 (v1838 : BitVec 32) : Fin 2 → Nat :=
  let v2078 : Index := Scalar.indexCast v1838
  let c176_530 : Index := 176#32
  ![v2078.toNat, 176]
def k1_off1123 (v1838 : BitVec 32) : Fin 2 → Nat :=
  let v2082 : Index := Scalar.indexCast v1838
  let c192_531 : Index := 192#32
  ![v2082.toNat, 192]
def k1_off1124 (v1838 : BitVec 32) : Fin 2 → Nat :=
  let v2086 : Index := Scalar.indexCast v1838
  let c208_532 : Index := 208#32
  ![v2086.toNat, 208]
def k1_off1125 (v1838 : BitVec 32) : Fin 2 → Nat :=
  let v2090 : Index := Scalar.indexCast v1838
  let c224_533 : Index := 224#32
  ![v2090.toNat, 224]
def k1_off1126 (v1838 : BitVec 32) : Fin 2 → Nat :=
  let v2094 : Index := Scalar.indexCast v1838
  let c240_534 : Index := 240#32
  ![v2094.toNat, 240]
def k1_off1127 (v1838 : BitVec 32) : Fin 2 → Nat :=
  let v2098 : Index := Scalar.indexCast v1838
  let c256_535 : Index := 256#32
  ![v2098.toNat, 256]
def k1_off1128 (v1838 : BitVec 32) : Fin 2 → Nat :=
  let v2102 : Index := Scalar.indexCast v1838
  let c272_536 : Index := 272#32
  ![v2102.toNat, 272]
def k1_off1129 (v1838 : BitVec 32) : Fin 2 → Nat :=
  let v2106 : Index := Scalar.indexCast v1838
  let c288_537 : Index := 288#32
  ![v2106.toNat, 288]
def k1_off1130 (v1838 : BitVec 32) : Fin 2 → Nat :=
  let v2110 : Index := Scalar.indexCast v1838
  let c304_538 : Index := 304#32
  ![v2110.toNat, 304]
def k1_off1131 (v1838 : BitVec 32) : Fin 2 → Nat :=
  let v2114 : Index := Scalar.indexCast v1838
  let c320_539 : Index := 320#32
  ![v2114.toNat, 320]
def k1_off1132 (v1838 : BitVec 32) : Fin 2 → Nat :=
  let v2118 : Index := Scalar.indexCast v1838
  let c336_540 : Index := 336#32
  ![v2118.toNat, 336]
def k1_off1133 (v1838 : BitVec 32) : Fin 2 → Nat :=
  let v2122 : Index := Scalar.indexCast v1838
  let c352_541 : Index := 352#32
  ![v2122.toNat, 352]
def k1_off1134 (v1838 : BitVec 32) : Fin 2 → Nat :=
  let v2126 : Index := Scalar.indexCast v1838
  let c368_542 : Index := 368#32
  ![v2126.toNat, 368]

def k1_chk23 (i : grid1.Coords) (v1838 : BitVec 32) : Prop :=
  (∀ (k1_h1 : k1_cond1 i = 1#1), ∀ a, (k1_off1111 v1838) a + S1x16.size a ≤ S256x384.size a) ∧
  (∀ (k1_h1 : k1_cond1 i = 1#1), ∀ a, (k1_off1112 v1838) a + S1x16.size a ≤ S256x384.size a) ∧
  (∀ (k1_h1 : k1_cond1 i = 1#1), ∀ a, (k1_off1113 v1838) a + S1x16.size a ≤ S256x384.size a) ∧
  (∀ (k1_h1 : k1_cond1 i = 1#1), ∀ a, (k1_off1114 v1838) a + S1x16.size a ≤ S256x384.size a) ∧
  (∀ (k1_h1 : k1_cond1 i = 1#1), ∀ a, (k1_off1115 v1838) a + S1x16.size a ≤ S256x384.size a) ∧
  (∀ (k1_h1 : k1_cond1 i = 1#1), ∀ a, (k1_off1116 v1838) a + S1x16.size a ≤ S256x384.size a) ∧
  (∀ (k1_h1 : k1_cond1 i = 1#1), ∀ a, (k1_off1117 v1838) a + S1x16.size a ≤ S256x384.size a) ∧
  (∀ (k1_h1 : k1_cond1 i = 1#1), ∀ a, (k1_off1118 v1838) a + S1x16.size a ≤ S256x384.size a) ∧
  (∀ (k1_h1 : k1_cond1 i = 1#1), ∀ a, (k1_off1119 v1838) a + S1x16.size a ≤ S256x384.size a) ∧
  (∀ (k1_h1 : k1_cond1 i = 1#1), ∀ a, (k1_off1120 v1838) a + S1x16.size a ≤ S256x384.size a) ∧
  (∀ (k1_h1 : k1_cond1 i = 1#1), ∀ a, (k1_off1121 v1838) a + S1x16.size a ≤ S256x384.size a) ∧
  (∀ (k1_h1 : k1_cond1 i = 1#1), ∀ a, (k1_off1122 v1838) a + S1x16.size a ≤ S256x384.size a) ∧
  (∀ (k1_h1 : k1_cond1 i = 1#1), ∀ a, (k1_off1123 v1838) a + S1x16.size a ≤ S256x384.size a) ∧
  (∀ (k1_h1 : k1_cond1 i = 1#1), ∀ a, (k1_off1124 v1838) a + S1x16.size a ≤ S256x384.size a) ∧
  (∀ (k1_h1 : k1_cond1 i = 1#1), ∀ a, (k1_off1125 v1838) a + S1x16.size a ≤ S256x384.size a) ∧
  (∀ (k1_h1 : k1_cond1 i = 1#1), ∀ a, (k1_off1126 v1838) a + S1x16.size a ≤ S256x384.size a) ∧
  (∀ (k1_h1 : k1_cond1 i = 1#1), ∀ a, (k1_off1127 v1838) a + S1x16.size a ≤ S256x384.size a) ∧
  (∀ (k1_h1 : k1_cond1 i = 1#1), ∀ a, (k1_off1128 v1838) a + S1x16.size a ≤ S256x384.size a) ∧
  (∀ (k1_h1 : k1_cond1 i = 1#1), ∀ a, (k1_off1129 v1838) a + S1x16.size a ≤ S256x384.size a) ∧
  (∀ (k1_h1 : k1_cond1 i = 1#1), ∀ a, (k1_off1130 v1838) a + S1x16.size a ≤ S256x384.size a) ∧
  (∀ (k1_h1 : k1_cond1 i = 1#1), ∀ a, (k1_off1131 v1838) a + S1x16.size a ≤ S256x384.size a) ∧
  (∀ (k1_h1 : k1_cond1 i = 1#1), ∀ a, (k1_off1132 v1838) a + S1x16.size a ≤ S256x384.size a) ∧
  (∀ (k1_h1 : k1_cond1 i = 1#1), ∀ a, (k1_off1133 v1838) a + S1x16.size a ≤ S256x384.size a) ∧
  (∀ (k1_h1 : k1_cond1 i = 1#1), ∀ a, (k1_off1134 v1838) a + S1x16.size a ≤ S256x384.size a)
theorem k1_off1111_inb : ∀ (i : grid1.Coords) (v1838 : BitVec 32) (k1_hw23 : k1_chk23 i v1838), ∀ (k1_h1 : k1_cond1 i = 1#1), ∀ a, (k1_off1111 v1838) a + S1x16.size a ≤ S256x384.size a := fun i v1838 k1_hw23 k1_h1 => k1_hw23.1 k1_h1
theorem k1_off1112_inb : ∀ (i : grid1.Coords) (v1838 : BitVec 32) (k1_hw23 : k1_chk23 i v1838), ∀ (k1_h1 : k1_cond1 i = 1#1), ∀ a, (k1_off1112 v1838) a + S1x16.size a ≤ S256x384.size a := fun i v1838 k1_hw23 k1_h1 => k1_hw23.2.1 k1_h1
theorem k1_off1113_inb : ∀ (i : grid1.Coords) (v1838 : BitVec 32) (k1_hw23 : k1_chk23 i v1838), ∀ (k1_h1 : k1_cond1 i = 1#1), ∀ a, (k1_off1113 v1838) a + S1x16.size a ≤ S256x384.size a := fun i v1838 k1_hw23 k1_h1 => k1_hw23.2.2.1 k1_h1
theorem k1_off1114_inb : ∀ (i : grid1.Coords) (v1838 : BitVec 32) (k1_hw23 : k1_chk23 i v1838), ∀ (k1_h1 : k1_cond1 i = 1#1), ∀ a, (k1_off1114 v1838) a + S1x16.size a ≤ S256x384.size a := fun i v1838 k1_hw23 k1_h1 => k1_hw23.2.2.2.1 k1_h1
theorem k1_off1115_inb : ∀ (i : grid1.Coords) (v1838 : BitVec 32) (k1_hw23 : k1_chk23 i v1838), ∀ (k1_h1 : k1_cond1 i = 1#1), ∀ a, (k1_off1115 v1838) a + S1x16.size a ≤ S256x384.size a := fun i v1838 k1_hw23 k1_h1 => k1_hw23.2.2.2.2.1 k1_h1
theorem k1_off1116_inb : ∀ (i : grid1.Coords) (v1838 : BitVec 32) (k1_hw23 : k1_chk23 i v1838), ∀ (k1_h1 : k1_cond1 i = 1#1), ∀ a, (k1_off1116 v1838) a + S1x16.size a ≤ S256x384.size a := fun i v1838 k1_hw23 k1_h1 => k1_hw23.2.2.2.2.2.1 k1_h1
theorem k1_off1117_inb : ∀ (i : grid1.Coords) (v1838 : BitVec 32) (k1_hw23 : k1_chk23 i v1838), ∀ (k1_h1 : k1_cond1 i = 1#1), ∀ a, (k1_off1117 v1838) a + S1x16.size a ≤ S256x384.size a := fun i v1838 k1_hw23 k1_h1 => k1_hw23.2.2.2.2.2.2.1 k1_h1
theorem k1_off1118_inb : ∀ (i : grid1.Coords) (v1838 : BitVec 32) (k1_hw23 : k1_chk23 i v1838), ∀ (k1_h1 : k1_cond1 i = 1#1), ∀ a, (k1_off1118 v1838) a + S1x16.size a ≤ S256x384.size a := fun i v1838 k1_hw23 k1_h1 => k1_hw23.2.2.2.2.2.2.2.1 k1_h1
theorem k1_off1119_inb : ∀ (i : grid1.Coords) (v1838 : BitVec 32) (k1_hw23 : k1_chk23 i v1838), ∀ (k1_h1 : k1_cond1 i = 1#1), ∀ a, (k1_off1119 v1838) a + S1x16.size a ≤ S256x384.size a := fun i v1838 k1_hw23 k1_h1 => k1_hw23.2.2.2.2.2.2.2.2.1 k1_h1
theorem k1_off1120_inb : ∀ (i : grid1.Coords) (v1838 : BitVec 32) (k1_hw23 : k1_chk23 i v1838), ∀ (k1_h1 : k1_cond1 i = 1#1), ∀ a, (k1_off1120 v1838) a + S1x16.size a ≤ S256x384.size a := fun i v1838 k1_hw23 k1_h1 => k1_hw23.2.2.2.2.2.2.2.2.2.1 k1_h1
theorem k1_off1121_inb : ∀ (i : grid1.Coords) (v1838 : BitVec 32) (k1_hw23 : k1_chk23 i v1838), ∀ (k1_h1 : k1_cond1 i = 1#1), ∀ a, (k1_off1121 v1838) a + S1x16.size a ≤ S256x384.size a := fun i v1838 k1_hw23 k1_h1 => k1_hw23.2.2.2.2.2.2.2.2.2.2.1 k1_h1
theorem k1_off1122_inb : ∀ (i : grid1.Coords) (v1838 : BitVec 32) (k1_hw23 : k1_chk23 i v1838), ∀ (k1_h1 : k1_cond1 i = 1#1), ∀ a, (k1_off1122 v1838) a + S1x16.size a ≤ S256x384.size a := fun i v1838 k1_hw23 k1_h1 => k1_hw23.2.2.2.2.2.2.2.2.2.2.2.1 k1_h1
theorem k1_off1123_inb : ∀ (i : grid1.Coords) (v1838 : BitVec 32) (k1_hw23 : k1_chk23 i v1838), ∀ (k1_h1 : k1_cond1 i = 1#1), ∀ a, (k1_off1123 v1838) a + S1x16.size a ≤ S256x384.size a := fun i v1838 k1_hw23 k1_h1 => k1_hw23.2.2.2.2.2.2.2.2.2.2.2.2.1 k1_h1
theorem k1_off1124_inb : ∀ (i : grid1.Coords) (v1838 : BitVec 32) (k1_hw23 : k1_chk23 i v1838), ∀ (k1_h1 : k1_cond1 i = 1#1), ∀ a, (k1_off1124 v1838) a + S1x16.size a ≤ S256x384.size a := fun i v1838 k1_hw23 k1_h1 => k1_hw23.2.2.2.2.2.2.2.2.2.2.2.2.2.1 k1_h1
theorem k1_off1125_inb : ∀ (i : grid1.Coords) (v1838 : BitVec 32) (k1_hw23 : k1_chk23 i v1838), ∀ (k1_h1 : k1_cond1 i = 1#1), ∀ a, (k1_off1125 v1838) a + S1x16.size a ≤ S256x384.size a := fun i v1838 k1_hw23 k1_h1 => k1_hw23.2.2.2.2.2.2.2.2.2.2.2.2.2.2.1 k1_h1
theorem k1_off1126_inb : ∀ (i : grid1.Coords) (v1838 : BitVec 32) (k1_hw23 : k1_chk23 i v1838), ∀ (k1_h1 : k1_cond1 i = 1#1), ∀ a, (k1_off1126 v1838) a + S1x16.size a ≤ S256x384.size a := fun i v1838 k1_hw23 k1_h1 => k1_hw23.2.2.2.2.2.2.2.2.2.2.2.2.2.2.2.1 k1_h1
theorem k1_off1127_inb : ∀ (i : grid1.Coords) (v1838 : BitVec 32) (k1_hw23 : k1_chk23 i v1838), ∀ (k1_h1 : k1_cond1 i = 1#1), ∀ a, (k1_off1127 v1838) a + S1x16.size a ≤ S256x384.size a := fun i v1838 k1_hw23 k1_h1 => k1_hw23.2.2.2.2.2.2.2.2.2.2.2.2.2.2.2.2.1 k1_h1
theorem k1_off1128_inb : ∀ (i : grid1.Coords) (v1838 : BitVec 32) (k1_hw23 : k1_chk23 i v1838), ∀ (k1_h1 : k1_cond1 i = 1#1), ∀ a, (k1_off1128 v1838) a + S1x16.size a ≤ S256x384.size a := fun i v1838 k1_hw23 k1_h1 => k1_hw23.2.2.2.2.2.2.2.2.2.2.2.2.2.2.2.2.2.1 k1_h1
theorem k1_off1129_inb : ∀ (i : grid1.Coords) (v1838 : BitVec 32) (k1_hw23 : k1_chk23 i v1838), ∀ (k1_h1 : k1_cond1 i = 1#1), ∀ a, (k1_off1129 v1838) a + S1x16.size a ≤ S256x384.size a := fun i v1838 k1_hw23 k1_h1 => k1_hw23.2.2.2.2.2.2.2.2.2.2.2.2.2.2.2.2.2.2.1 k1_h1
theorem k1_off1130_inb : ∀ (i : grid1.Coords) (v1838 : BitVec 32) (k1_hw23 : k1_chk23 i v1838), ∀ (k1_h1 : k1_cond1 i = 1#1), ∀ a, (k1_off1130 v1838) a + S1x16.size a ≤ S256x384.size a := fun i v1838 k1_hw23 k1_h1 => k1_hw23.2.2.2.2.2.2.2.2.2.2.2.2.2.2.2.2.2.2.2.1 k1_h1
theorem k1_off1131_inb : ∀ (i : grid1.Coords) (v1838 : BitVec 32) (k1_hw23 : k1_chk23 i v1838), ∀ (k1_h1 : k1_cond1 i = 1#1), ∀ a, (k1_off1131 v1838) a + S1x16.size a ≤ S256x384.size a := fun i v1838 k1_hw23 k1_h1 => k1_hw23.2.2.2.2.2.2.2.2.2.2.2.2.2.2.2.2.2.2.2.2.1 k1_h1
theorem k1_off1132_inb : ∀ (i : grid1.Coords) (v1838 : BitVec 32) (k1_hw23 : k1_chk23 i v1838), ∀ (k1_h1 : k1_cond1 i = 1#1), ∀ a, (k1_off1132 v1838) a + S1x16.size a ≤ S256x384.size a := fun i v1838 k1_hw23 k1_h1 => k1_hw23.2.2.2.2.2.2.2.2.2.2.2.2.2.2.2.2.2.2.2.2.2.1 k1_h1
theorem k1_off1133_inb : ∀ (i : grid1.Coords) (v1838 : BitVec 32) (k1_hw23 : k1_chk23 i v1838), ∀ (k1_h1 : k1_cond1 i = 1#1), ∀ a, (k1_off1133 v1838) a + S1x16.size a ≤ S256x384.size a := fun i v1838 k1_hw23 k1_h1 => k1_hw23.2.2.2.2.2.2.2.2.2.2.2.2.2.2.2.2.2.2.2.2.2.2.1 k1_h1
theorem k1_off1134_inb : ∀ (i : grid1.Coords) (v1838 : BitVec 32) (k1_hw23 : k1_chk23 i v1838), ∀ (k1_h1 : k1_cond1 i = 1#1), ∀ a, (k1_off1134 v1838) a + S1x16.size a ≤ S256x384.size a := fun i v1838 k1_hw23 k1_h1 => k1_hw23.2.2.2.2.2.2.2.2.2.2.2.2.2.2.2.2.2.2.2.2.2.2.2 k1_h1

def k1_off1135 (k1_t4 : Fin k1_t4_loop.trips) : Fin 2 → Nat :=
  let c0_i32_44 : BitVec 32 := 0#32
  let c1_i32_46 : BitVec 32 := 1#32
  let arg37 : BitVec 32 := Scf.iv c0_i32_44 c1_i32_46 k1_t4
  let c16_i32_543 : BitVec 32 := 16#32
  let v2132 : BitVec 32 := Scalar.muli arg37 c16_i32_543
  let c7_i32 : BitVec 32 := 7#32
  let v2133 : BitVec 32 := Scalar.addi v2132 c7_i32
  let v2135 : Index := Scalar.indexCast v2133
  let c0_544 : Index := 0#32
  ![v2135.toNat, 0]
def k1_off1136 (k1_t4 : Fin k1_t4_loop.trips) : Fin 2 → Nat :=
  let c0_i32_44 : BitVec 32 := 0#32
  let c1_i32_46 : BitVec 32 := 1#32
  let arg37 : BitVec 32 := Scf.iv c0_i32_44 c1_i32_46 k1_t4
  let c16_i32_543 : BitVec 32 := 16#32
  let v2132 : BitVec 32 := Scalar.muli arg37 c16_i32_543
  let c7_i32 : BitVec 32 := 7#32
  let v2133 : BitVec 32 := Scalar.addi v2132 c7_i32
  let v2143 : Index := Scalar.indexCast v2133
  let c16_546 : Index := 16#32
  ![v2143.toNat, 16]
def k1_off1137 (k1_t4 : Fin k1_t4_loop.trips) : Fin 2 → Nat :=
  let c0_i32_44 : BitVec 32 := 0#32
  let c1_i32_46 : BitVec 32 := 1#32
  let arg37 : BitVec 32 := Scf.iv c0_i32_44 c1_i32_46 k1_t4
  let c16_i32_543 : BitVec 32 := 16#32
  let v2132 : BitVec 32 := Scalar.muli arg37 c16_i32_543
  let c7_i32 : BitVec 32 := 7#32
  let v2133 : BitVec 32 := Scalar.addi v2132 c7_i32
  let v2151 : Index := Scalar.indexCast v2133
  let c32_548 : Index := 32#32
  ![v2151.toNat, 32]
def k1_off1138 (k1_t4 : Fin k1_t4_loop.trips) : Fin 2 → Nat :=
  let c0_i32_44 : BitVec 32 := 0#32
  let c1_i32_46 : BitVec 32 := 1#32
  let arg37 : BitVec 32 := Scf.iv c0_i32_44 c1_i32_46 k1_t4
  let c16_i32_543 : BitVec 32 := 16#32
  let v2132 : BitVec 32 := Scalar.muli arg37 c16_i32_543
  let c7_i32 : BitVec 32 := 7#32
  let v2133 : BitVec 32 := Scalar.addi v2132 c7_i32
  let v2159 : Index := Scalar.indexCast v2133
  let c48_550 : Index := 48#32
  ![v2159.toNat, 48]
def k1_off1139 (k1_t4 : Fin k1_t4_loop.trips) : Fin 2 → Nat :=
  let c0_i32_44 : BitVec 32 := 0#32
  let c1_i32_46 : BitVec 32 := 1#32
  let arg37 : BitVec 32 := Scf.iv c0_i32_44 c1_i32_46 k1_t4
  let c16_i32_543 : BitVec 32 := 16#32
  let v2132 : BitVec 32 := Scalar.muli arg37 c16_i32_543
  let c7_i32 : BitVec 32 := 7#32
  let v2133 : BitVec 32 := Scalar.addi v2132 c7_i32
  let v2167 : Index := Scalar.indexCast v2133
  let c64_552 : Index := 64#32
  ![v2167.toNat, 64]
def k1_off1140 (k1_t4 : Fin k1_t4_loop.trips) : Fin 2 → Nat :=
  let c0_i32_44 : BitVec 32 := 0#32
  let c1_i32_46 : BitVec 32 := 1#32
  let arg37 : BitVec 32 := Scf.iv c0_i32_44 c1_i32_46 k1_t4
  let c16_i32_543 : BitVec 32 := 16#32
  let v2132 : BitVec 32 := Scalar.muli arg37 c16_i32_543
  let c7_i32 : BitVec 32 := 7#32
  let v2133 : BitVec 32 := Scalar.addi v2132 c7_i32
  let v2175 : Index := Scalar.indexCast v2133
  let c80_554 : Index := 80#32
  ![v2175.toNat, 80]
def k1_off1141 (k1_t4 : Fin k1_t4_loop.trips) : Fin 2 → Nat :=
  let c0_i32_44 : BitVec 32 := 0#32
  let c1_i32_46 : BitVec 32 := 1#32
  let arg37 : BitVec 32 := Scf.iv c0_i32_44 c1_i32_46 k1_t4
  let c16_i32_543 : BitVec 32 := 16#32
  let v2132 : BitVec 32 := Scalar.muli arg37 c16_i32_543
  let c7_i32 : BitVec 32 := 7#32
  let v2133 : BitVec 32 := Scalar.addi v2132 c7_i32
  let v2183 : Index := Scalar.indexCast v2133
  let c96_556 : Index := 96#32
  ![v2183.toNat, 96]
def k1_off1142 (k1_t4 : Fin k1_t4_loop.trips) : Fin 2 → Nat :=
  let c0_i32_44 : BitVec 32 := 0#32
  let c1_i32_46 : BitVec 32 := 1#32
  let arg37 : BitVec 32 := Scf.iv c0_i32_44 c1_i32_46 k1_t4
  let c16_i32_543 : BitVec 32 := 16#32
  let v2132 : BitVec 32 := Scalar.muli arg37 c16_i32_543
  let c7_i32 : BitVec 32 := 7#32
  let v2133 : BitVec 32 := Scalar.addi v2132 c7_i32
  let v2191 : Index := Scalar.indexCast v2133
  let c112_558 : Index := 112#32
  ![v2191.toNat, 112]
def k1_off1143 (k1_t4 : Fin k1_t4_loop.trips) : Fin 2 → Nat :=
  let c0_i32_44 : BitVec 32 := 0#32
  let c1_i32_46 : BitVec 32 := 1#32
  let arg37 : BitVec 32 := Scf.iv c0_i32_44 c1_i32_46 k1_t4
  let c16_i32_543 : BitVec 32 := 16#32
  let v2132 : BitVec 32 := Scalar.muli arg37 c16_i32_543
  let c7_i32 : BitVec 32 := 7#32
  let v2133 : BitVec 32 := Scalar.addi v2132 c7_i32
  let v2199 : Index := Scalar.indexCast v2133
  let c128_560 : Index := 128#32
  ![v2199.toNat, 128]
def k1_off1144 (k1_t4 : Fin k1_t4_loop.trips) : Fin 2 → Nat :=
  let c0_i32_44 : BitVec 32 := 0#32
  let c1_i32_46 : BitVec 32 := 1#32
  let arg37 : BitVec 32 := Scf.iv c0_i32_44 c1_i32_46 k1_t4
  let c16_i32_543 : BitVec 32 := 16#32
  let v2132 : BitVec 32 := Scalar.muli arg37 c16_i32_543
  let c7_i32 : BitVec 32 := 7#32
  let v2133 : BitVec 32 := Scalar.addi v2132 c7_i32
  let v2207 : Index := Scalar.indexCast v2133
  let c144_562 : Index := 144#32
  ![v2207.toNat, 144]
def k1_off1145 (k1_t4 : Fin k1_t4_loop.trips) : Fin 2 → Nat :=
  let c0_i32_44 : BitVec 32 := 0#32
  let c1_i32_46 : BitVec 32 := 1#32
  let arg37 : BitVec 32 := Scf.iv c0_i32_44 c1_i32_46 k1_t4
  let c16_i32_543 : BitVec 32 := 16#32
  let v2132 : BitVec 32 := Scalar.muli arg37 c16_i32_543
  let c7_i32 : BitVec 32 := 7#32
  let v2133 : BitVec 32 := Scalar.addi v2132 c7_i32
  let v2215 : Index := Scalar.indexCast v2133
  let c160_564 : Index := 160#32
  ![v2215.toNat, 160]
def k1_off1146 (k1_t4 : Fin k1_t4_loop.trips) : Fin 2 → Nat :=
  let c0_i32_44 : BitVec 32 := 0#32
  let c1_i32_46 : BitVec 32 := 1#32
  let arg37 : BitVec 32 := Scf.iv c0_i32_44 c1_i32_46 k1_t4
  let c16_i32_543 : BitVec 32 := 16#32
  let v2132 : BitVec 32 := Scalar.muli arg37 c16_i32_543
  let c7_i32 : BitVec 32 := 7#32
  let v2133 : BitVec 32 := Scalar.addi v2132 c7_i32
  let v2223 : Index := Scalar.indexCast v2133
  let c176_566 : Index := 176#32
  ![v2223.toNat, 176]
def k1_off1147 (k1_t4 : Fin k1_t4_loop.trips) : Fin 2 → Nat :=
  let c0_i32_44 : BitVec 32 := 0#32
  let c1_i32_46 : BitVec 32 := 1#32
  let arg37 : BitVec 32 := Scf.iv c0_i32_44 c1_i32_46 k1_t4
  let c16_i32_543 : BitVec 32 := 16#32
  let v2132 : BitVec 32 := Scalar.muli arg37 c16_i32_543
  let c7_i32 : BitVec 32 := 7#32
  let v2133 : BitVec 32 := Scalar.addi v2132 c7_i32
  let v2231 : Index := Scalar.indexCast v2133
  let c192_568 : Index := 192#32
  ![v2231.toNat, 192]
def k1_off1148 (k1_t4 : Fin k1_t4_loop.trips) : Fin 2 → Nat :=
  let c0_i32_44 : BitVec 32 := 0#32
  let c1_i32_46 : BitVec 32 := 1#32
  let arg37 : BitVec 32 := Scf.iv c0_i32_44 c1_i32_46 k1_t4
  let c16_i32_543 : BitVec 32 := 16#32
  let v2132 : BitVec 32 := Scalar.muli arg37 c16_i32_543
  let c7_i32 : BitVec 32 := 7#32
  let v2133 : BitVec 32 := Scalar.addi v2132 c7_i32
  let v2239 : Index := Scalar.indexCast v2133
  let c208_570 : Index := 208#32
  ![v2239.toNat, 208]
def k1_off1149 (k1_t4 : Fin k1_t4_loop.trips) : Fin 2 → Nat :=
  let c0_i32_44 : BitVec 32 := 0#32
  let c1_i32_46 : BitVec 32 := 1#32
  let arg37 : BitVec 32 := Scf.iv c0_i32_44 c1_i32_46 k1_t4
  let c16_i32_543 : BitVec 32 := 16#32
  let v2132 : BitVec 32 := Scalar.muli arg37 c16_i32_543
  let c7_i32 : BitVec 32 := 7#32
  let v2133 : BitVec 32 := Scalar.addi v2132 c7_i32
  let v2247 : Index := Scalar.indexCast v2133
  let c224_572 : Index := 224#32
  ![v2247.toNat, 224]
def k1_off1150 (k1_t4 : Fin k1_t4_loop.trips) : Fin 2 → Nat :=
  let c0_i32_44 : BitVec 32 := 0#32
  let c1_i32_46 : BitVec 32 := 1#32
  let arg37 : BitVec 32 := Scf.iv c0_i32_44 c1_i32_46 k1_t4
  let c16_i32_543 : BitVec 32 := 16#32
  let v2132 : BitVec 32 := Scalar.muli arg37 c16_i32_543
  let c7_i32 : BitVec 32 := 7#32
  let v2133 : BitVec 32 := Scalar.addi v2132 c7_i32
  let v2255 : Index := Scalar.indexCast v2133
  let c240_574 : Index := 240#32
  ![v2255.toNat, 240]
def k1_off1151 (k1_t4 : Fin k1_t4_loop.trips) : Fin 2 → Nat :=
  let c0_i32_44 : BitVec 32 := 0#32
  let c1_i32_46 : BitVec 32 := 1#32
  let arg37 : BitVec 32 := Scf.iv c0_i32_44 c1_i32_46 k1_t4
  let c16_i32_543 : BitVec 32 := 16#32
  let v2132 : BitVec 32 := Scalar.muli arg37 c16_i32_543
  let c7_i32 : BitVec 32 := 7#32
  let v2133 : BitVec 32 := Scalar.addi v2132 c7_i32
  let v2263 : Index := Scalar.indexCast v2133
  let c256_576 : Index := 256#32
  ![v2263.toNat, 256]
def k1_off1152 (k1_t4 : Fin k1_t4_loop.trips) : Fin 2 → Nat :=
  let c0_i32_44 : BitVec 32 := 0#32
  let c1_i32_46 : BitVec 32 := 1#32
  let arg37 : BitVec 32 := Scf.iv c0_i32_44 c1_i32_46 k1_t4
  let c16_i32_543 : BitVec 32 := 16#32
  let v2132 : BitVec 32 := Scalar.muli arg37 c16_i32_543
  let c7_i32 : BitVec 32 := 7#32
  let v2133 : BitVec 32 := Scalar.addi v2132 c7_i32
  let v2271 : Index := Scalar.indexCast v2133
  let c272_578 : Index := 272#32
  ![v2271.toNat, 272]
def k1_off1153 (k1_t4 : Fin k1_t4_loop.trips) : Fin 2 → Nat :=
  let c0_i32_44 : BitVec 32 := 0#32
  let c1_i32_46 : BitVec 32 := 1#32
  let arg37 : BitVec 32 := Scf.iv c0_i32_44 c1_i32_46 k1_t4
  let c16_i32_543 : BitVec 32 := 16#32
  let v2132 : BitVec 32 := Scalar.muli arg37 c16_i32_543
  let c7_i32 : BitVec 32 := 7#32
  let v2133 : BitVec 32 := Scalar.addi v2132 c7_i32
  let v2279 : Index := Scalar.indexCast v2133
  let c288_580 : Index := 288#32
  ![v2279.toNat, 288]
def k1_off1154 (k1_t4 : Fin k1_t4_loop.trips) : Fin 2 → Nat :=
  let c0_i32_44 : BitVec 32 := 0#32
  let c1_i32_46 : BitVec 32 := 1#32
  let arg37 : BitVec 32 := Scf.iv c0_i32_44 c1_i32_46 k1_t4
  let c16_i32_543 : BitVec 32 := 16#32
  let v2132 : BitVec 32 := Scalar.muli arg37 c16_i32_543
  let c7_i32 : BitVec 32 := 7#32
  let v2133 : BitVec 32 := Scalar.addi v2132 c7_i32
  let v2287 : Index := Scalar.indexCast v2133
  let c304_582 : Index := 304#32
  ![v2287.toNat, 304]
def k1_off1155 (k1_t4 : Fin k1_t4_loop.trips) : Fin 2 → Nat :=
  let c0_i32_44 : BitVec 32 := 0#32
  let c1_i32_46 : BitVec 32 := 1#32
  let arg37 : BitVec 32 := Scf.iv c0_i32_44 c1_i32_46 k1_t4
  let c16_i32_543 : BitVec 32 := 16#32
  let v2132 : BitVec 32 := Scalar.muli arg37 c16_i32_543
  let c7_i32 : BitVec 32 := 7#32
  let v2133 : BitVec 32 := Scalar.addi v2132 c7_i32
  let v2295 : Index := Scalar.indexCast v2133
  let c320_584 : Index := 320#32
  ![v2295.toNat, 320]
def k1_off1156 (k1_t4 : Fin k1_t4_loop.trips) : Fin 2 → Nat :=
  let c0_i32_44 : BitVec 32 := 0#32
  let c1_i32_46 : BitVec 32 := 1#32
  let arg37 : BitVec 32 := Scf.iv c0_i32_44 c1_i32_46 k1_t4
  let c16_i32_543 : BitVec 32 := 16#32
  let v2132 : BitVec 32 := Scalar.muli arg37 c16_i32_543
  let c7_i32 : BitVec 32 := 7#32
  let v2133 : BitVec 32 := Scalar.addi v2132 c7_i32
  let v2303 : Index := Scalar.indexCast v2133
  let c336_586 : Index := 336#32
  ![v2303.toNat, 336]
def k1_off1157 (k1_t4 : Fin k1_t4_loop.trips) : Fin 2 → Nat :=
  let c0_i32_44 : BitVec 32 := 0#32
  let c1_i32_46 : BitVec 32 := 1#32
  let arg37 : BitVec 32 := Scf.iv c0_i32_44 c1_i32_46 k1_t4
  let c16_i32_543 : BitVec 32 := 16#32
  let v2132 : BitVec 32 := Scalar.muli arg37 c16_i32_543
  let c7_i32 : BitVec 32 := 7#32
  let v2133 : BitVec 32 := Scalar.addi v2132 c7_i32
  let v2311 : Index := Scalar.indexCast v2133
  let c352_588 : Index := 352#32
  ![v2311.toNat, 352]
def k1_off1158 (k1_t4 : Fin k1_t4_loop.trips) : Fin 2 → Nat :=
  let c0_i32_44 : BitVec 32 := 0#32
  let c1_i32_46 : BitVec 32 := 1#32
  let arg37 : BitVec 32 := Scf.iv c0_i32_44 c1_i32_46 k1_t4
  let c16_i32_543 : BitVec 32 := 16#32
  let v2132 : BitVec 32 := Scalar.muli arg37 c16_i32_543
  let c7_i32 : BitVec 32 := 7#32
  let v2133 : BitVec 32 := Scalar.addi v2132 c7_i32
  let v2319 : Index := Scalar.indexCast v2133
  let c368_590 : Index := 368#32
  ![v2319.toNat, 368]
def k1_off1159 (v2131 : BitVec 32) : Fin 2 → Nat :=
  let v2327 : Index := Scalar.indexCast v2131
  let c0_592 : Index := 0#32
  ![v2327.toNat, 0]

def k1_off1160 (v2131 : BitVec 32) : Fin 2 → Nat :=
  let v2331 : Index := Scalar.indexCast v2131
  let c16_593 : Index := 16#32
  ![v2331.toNat, 16]
def k1_off1161 (v2131 : BitVec 32) : Fin 2 → Nat :=
  let v2335 : Index := Scalar.indexCast v2131
  let c32_594 : Index := 32#32
  ![v2335.toNat, 32]
def k1_off1162 (v2131 : BitVec 32) : Fin 2 → Nat :=
  let v2339 : Index := Scalar.indexCast v2131
  let c48_595 : Index := 48#32
  ![v2339.toNat, 48]
def k1_off1163 (v2131 : BitVec 32) : Fin 2 → Nat :=
  let v2343 : Index := Scalar.indexCast v2131
  let c64_596 : Index := 64#32
  ![v2343.toNat, 64]
def k1_off1164 (v2131 : BitVec 32) : Fin 2 → Nat :=
  let v2347 : Index := Scalar.indexCast v2131
  let c80_597 : Index := 80#32
  ![v2347.toNat, 80]
def k1_off1165 (v2131 : BitVec 32) : Fin 2 → Nat :=
  let v2351 : Index := Scalar.indexCast v2131
  let c96_598 : Index := 96#32
  ![v2351.toNat, 96]
def k1_off1166 (v2131 : BitVec 32) : Fin 2 → Nat :=
  let v2355 : Index := Scalar.indexCast v2131
  let c112_599 : Index := 112#32
  ![v2355.toNat, 112]
def k1_off1167 (v2131 : BitVec 32) : Fin 2 → Nat :=
  let v2359 : Index := Scalar.indexCast v2131
  let c128_600 : Index := 128#32
  ![v2359.toNat, 128]
def k1_off1168 (v2131 : BitVec 32) : Fin 2 → Nat :=
  let v2363 : Index := Scalar.indexCast v2131
  let c144_601 : Index := 144#32
  ![v2363.toNat, 144]
def k1_off1169 (v2131 : BitVec 32) : Fin 2 → Nat :=
  let v2367 : Index := Scalar.indexCast v2131
  let c160_602 : Index := 160#32
  ![v2367.toNat, 160]
def k1_off1170 (v2131 : BitVec 32) : Fin 2 → Nat :=
  let v2371 : Index := Scalar.indexCast v2131
  let c176_603 : Index := 176#32
  ![v2371.toNat, 176]
def k1_off1171 (v2131 : BitVec 32) : Fin 2 → Nat :=
  let v2375 : Index := Scalar.indexCast v2131
  let c192_604 : Index := 192#32
  ![v2375.toNat, 192]
def k1_off1172 (v2131 : BitVec 32) : Fin 2 → Nat :=
  let v2379 : Index := Scalar.indexCast v2131
  let c208_605 : Index := 208#32
  ![v2379.toNat, 208]
def k1_off1173 (v2131 : BitVec 32) : Fin 2 → Nat :=
  let v2383 : Index := Scalar.indexCast v2131
  let c224_606 : Index := 224#32
  ![v2383.toNat, 224]
def k1_off1174 (v2131 : BitVec 32) : Fin 2 → Nat :=
  let v2387 : Index := Scalar.indexCast v2131
  let c240_607 : Index := 240#32
  ![v2387.toNat, 240]
def k1_off1175 (v2131 : BitVec 32) : Fin 2 → Nat :=
  let v2391 : Index := Scalar.indexCast v2131
  let c256_608 : Index := 256#32
  ![v2391.toNat, 256]
def k1_off1176 (v2131 : BitVec 32) : Fin 2 → Nat :=
  let v2395 : Index := Scalar.indexCast v2131
  let c272_609 : Index := 272#32
  ![v2395.toNat, 272]
def k1_off1177 (v2131 : BitVec 32) : Fin 2 → Nat :=
  let v2399 : Index := Scalar.indexCast v2131
  let c288_610 : Index := 288#32
  ![v2399.toNat, 288]
def k1_off1178 (v2131 : BitVec 32) : Fin 2 → Nat :=
  let v2403 : Index := Scalar.indexCast v2131
  let c304_611 : Index := 304#32
  ![v2403.toNat, 304]
def k1_off1179 (v2131 : BitVec 32) : Fin 2 → Nat :=
  let v2407 : Index := Scalar.indexCast v2131
  let c320_612 : Index := 320#32
  ![v2407.toNat, 320]
def k1_off1180 (v2131 : BitVec 32) : Fin 2 → Nat :=
  let v2411 : Index := Scalar.indexCast v2131
  let c336_613 : Index := 336#32
  ![v2411.toNat, 336]
def k1_off1181 (v2131 : BitVec 32) : Fin 2 → Nat :=
  let v2415 : Index := Scalar.indexCast v2131
  let c352_614 : Index := 352#32
  ![v2415.toNat, 352]
def k1_off1182 (v2131 : BitVec 32) : Fin 2 → Nat :=
  let v2419 : Index := Scalar.indexCast v2131
  let c368_615 : Index := 368#32
  ![v2419.toNat, 368]

def k1_chk24 (i : grid1.Coords) (v2131 : BitVec 32) : Prop :=
  (∀ (k1_h1 : k1_cond1 i = 1#1), ∀ a, (k1_off1159 v2131) a + S1x16.size a ≤ S256x384.size a) ∧
  (∀ (k1_h1 : k1_cond1 i = 1#1), ∀ a, (k1_off1160 v2131) a + S1x16.size a ≤ S256x384.size a) ∧
  (∀ (k1_h1 : k1_cond1 i = 1#1), ∀ a, (k1_off1161 v2131) a + S1x16.size a ≤ S256x384.size a) ∧
  (∀ (k1_h1 : k1_cond1 i = 1#1), ∀ a, (k1_off1162 v2131) a + S1x16.size a ≤ S256x384.size a) ∧
  (∀ (k1_h1 : k1_cond1 i = 1#1), ∀ a, (k1_off1163 v2131) a + S1x16.size a ≤ S256x384.size a) ∧
  (∀ (k1_h1 : k1_cond1 i = 1#1), ∀ a, (k1_off1164 v2131) a + S1x16.size a ≤ S256x384.size a) ∧
  (∀ (k1_h1 : k1_cond1 i = 1#1), ∀ a, (k1_off1165 v2131) a + S1x16.size a ≤ S256x384.size a) ∧
  (∀ (k1_h1 : k1_cond1 i = 1#1), ∀ a, (k1_off1166 v2131) a + S1x16.size a ≤ S256x384.size a) ∧
  (∀ (k1_h1 : k1_cond1 i = 1#1), ∀ a, (k1_off1167 v2131) a + S1x16.size a ≤ S256x384.size a) ∧
  (∀ (k1_h1 : k1_cond1 i = 1#1), ∀ a, (k1_off1168 v2131) a + S1x16.size a ≤ S256x384.size a) ∧
  (∀ (k1_h1 : k1_cond1 i = 1#1), ∀ a, (k1_off1169 v2131) a + S1x16.size a ≤ S256x384.size a) ∧
  (∀ (k1_h1 : k1_cond1 i = 1#1), ∀ a, (k1_off1170 v2131) a + S1x16.size a ≤ S256x384.size a) ∧
  (∀ (k1_h1 : k1_cond1 i = 1#1), ∀ a, (k1_off1171 v2131) a + S1x16.size a ≤ S256x384.size a) ∧
  (∀ (k1_h1 : k1_cond1 i = 1#1), ∀ a, (k1_off1172 v2131) a + S1x16.size a ≤ S256x384.size a) ∧
  (∀ (k1_h1 : k1_cond1 i = 1#1), ∀ a, (k1_off1173 v2131) a + S1x16.size a ≤ S256x384.size a) ∧
  (∀ (k1_h1 : k1_cond1 i = 1#1), ∀ a, (k1_off1174 v2131) a + S1x16.size a ≤ S256x384.size a) ∧
  (∀ (k1_h1 : k1_cond1 i = 1#1), ∀ a, (k1_off1175 v2131) a + S1x16.size a ≤ S256x384.size a) ∧
  (∀ (k1_h1 : k1_cond1 i = 1#1), ∀ a, (k1_off1176 v2131) a + S1x16.size a ≤ S256x384.size a) ∧
  (∀ (k1_h1 : k1_cond1 i = 1#1), ∀ a, (k1_off1177 v2131) a + S1x16.size a ≤ S256x384.size a) ∧
  (∀ (k1_h1 : k1_cond1 i = 1#1), ∀ a, (k1_off1178 v2131) a + S1x16.size a ≤ S256x384.size a) ∧
  (∀ (k1_h1 : k1_cond1 i = 1#1), ∀ a, (k1_off1179 v2131) a + S1x16.size a ≤ S256x384.size a) ∧
  (∀ (k1_h1 : k1_cond1 i = 1#1), ∀ a, (k1_off1180 v2131) a + S1x16.size a ≤ S256x384.size a) ∧
  (∀ (k1_h1 : k1_cond1 i = 1#1), ∀ a, (k1_off1181 v2131) a + S1x16.size a ≤ S256x384.size a) ∧
  (∀ (k1_h1 : k1_cond1 i = 1#1), ∀ a, (k1_off1182 v2131) a + S1x16.size a ≤ S256x384.size a)
theorem k1_off1159_inb : ∀ (i : grid1.Coords) (v2131 : BitVec 32) (k1_hw24 : k1_chk24 i v2131), ∀ (k1_h1 : k1_cond1 i = 1#1), ∀ a, (k1_off1159 v2131) a + S1x16.size a ≤ S256x384.size a := fun i v2131 k1_hw24 k1_h1 => k1_hw24.1 k1_h1
theorem k1_off1160_inb : ∀ (i : grid1.Coords) (v2131 : BitVec 32) (k1_hw24 : k1_chk24 i v2131), ∀ (k1_h1 : k1_cond1 i = 1#1), ∀ a, (k1_off1160 v2131) a + S1x16.size a ≤ S256x384.size a := fun i v2131 k1_hw24 k1_h1 => k1_hw24.2.1 k1_h1
theorem k1_off1161_inb : ∀ (i : grid1.Coords) (v2131 : BitVec 32) (k1_hw24 : k1_chk24 i v2131), ∀ (k1_h1 : k1_cond1 i = 1#1), ∀ a, (k1_off1161 v2131) a + S1x16.size a ≤ S256x384.size a := fun i v2131 k1_hw24 k1_h1 => k1_hw24.2.2.1 k1_h1
theorem k1_off1162_inb : ∀ (i : grid1.Coords) (v2131 : BitVec 32) (k1_hw24 : k1_chk24 i v2131), ∀ (k1_h1 : k1_cond1 i = 1#1), ∀ a, (k1_off1162 v2131) a + S1x16.size a ≤ S256x384.size a := fun i v2131 k1_hw24 k1_h1 => k1_hw24.2.2.2.1 k1_h1
theorem k1_off1163_inb : ∀ (i : grid1.Coords) (v2131 : BitVec 32) (k1_hw24 : k1_chk24 i v2131), ∀ (k1_h1 : k1_cond1 i = 1#1), ∀ a, (k1_off1163 v2131) a + S1x16.size a ≤ S256x384.size a := fun i v2131 k1_hw24 k1_h1 => k1_hw24.2.2.2.2.1 k1_h1
theorem k1_off1164_inb : ∀ (i : grid1.Coords) (v2131 : BitVec 32) (k1_hw24 : k1_chk24 i v2131), ∀ (k1_h1 : k1_cond1 i = 1#1), ∀ a, (k1_off1164 v2131) a + S1x16.size a ≤ S256x384.size a := fun i v2131 k1_hw24 k1_h1 => k1_hw24.2.2.2.2.2.1 k1_h1
theorem k1_off1165_inb : ∀ (i : grid1.Coords) (v2131 : BitVec 32) (k1_hw24 : k1_chk24 i v2131), ∀ (k1_h1 : k1_cond1 i = 1#1), ∀ a, (k1_off1165 v2131) a + S1x16.size a ≤ S256x384.size a := fun i v2131 k1_hw24 k1_h1 => k1_hw24.2.2.2.2.2.2.1 k1_h1
theorem k1_off1166_inb : ∀ (i : grid1.Coords) (v2131 : BitVec 32) (k1_hw24 : k1_chk24 i v2131), ∀ (k1_h1 : k1_cond1 i = 1#1), ∀ a, (k1_off1166 v2131) a + S1x16.size a ≤ S256x384.size a := fun i v2131 k1_hw24 k1_h1 => k1_hw24.2.2.2.2.2.2.2.1 k1_h1
theorem k1_off1167_inb : ∀ (i : grid1.Coords) (v2131 : BitVec 32) (k1_hw24 : k1_chk24 i v2131), ∀ (k1_h1 : k1_cond1 i = 1#1), ∀ a, (k1_off1167 v2131) a + S1x16.size a ≤ S256x384.size a := fun i v2131 k1_hw24 k1_h1 => k1_hw24.2.2.2.2.2.2.2.2.1 k1_h1
theorem k1_off1168_inb : ∀ (i : grid1.Coords) (v2131 : BitVec 32) (k1_hw24 : k1_chk24 i v2131), ∀ (k1_h1 : k1_cond1 i = 1#1), ∀ a, (k1_off1168 v2131) a + S1x16.size a ≤ S256x384.size a := fun i v2131 k1_hw24 k1_h1 => k1_hw24.2.2.2.2.2.2.2.2.2.1 k1_h1
theorem k1_off1169_inb : ∀ (i : grid1.Coords) (v2131 : BitVec 32) (k1_hw24 : k1_chk24 i v2131), ∀ (k1_h1 : k1_cond1 i = 1#1), ∀ a, (k1_off1169 v2131) a + S1x16.size a ≤ S256x384.size a := fun i v2131 k1_hw24 k1_h1 => k1_hw24.2.2.2.2.2.2.2.2.2.2.1 k1_h1
theorem k1_off1170_inb : ∀ (i : grid1.Coords) (v2131 : BitVec 32) (k1_hw24 : k1_chk24 i v2131), ∀ (k1_h1 : k1_cond1 i = 1#1), ∀ a, (k1_off1170 v2131) a + S1x16.size a ≤ S256x384.size a := fun i v2131 k1_hw24 k1_h1 => k1_hw24.2.2.2.2.2.2.2.2.2.2.2.1 k1_h1
theorem k1_off1171_inb : ∀ (i : grid1.Coords) (v2131 : BitVec 32) (k1_hw24 : k1_chk24 i v2131), ∀ (k1_h1 : k1_cond1 i = 1#1), ∀ a, (k1_off1171 v2131) a + S1x16.size a ≤ S256x384.size a := fun i v2131 k1_hw24 k1_h1 => k1_hw24.2.2.2.2.2.2.2.2.2.2.2.2.1 k1_h1
theorem k1_off1172_inb : ∀ (i : grid1.Coords) (v2131 : BitVec 32) (k1_hw24 : k1_chk24 i v2131), ∀ (k1_h1 : k1_cond1 i = 1#1), ∀ a, (k1_off1172 v2131) a + S1x16.size a ≤ S256x384.size a := fun i v2131 k1_hw24 k1_h1 => k1_hw24.2.2.2.2.2.2.2.2.2.2.2.2.2.1 k1_h1
theorem k1_off1173_inb : ∀ (i : grid1.Coords) (v2131 : BitVec 32) (k1_hw24 : k1_chk24 i v2131), ∀ (k1_h1 : k1_cond1 i = 1#1), ∀ a, (k1_off1173 v2131) a + S1x16.size a ≤ S256x384.size a := fun i v2131 k1_hw24 k1_h1 => k1_hw24.2.2.2.2.2.2.2.2.2.2.2.2.2.2.1 k1_h1
theorem k1_off1174_inb : ∀ (i : grid1.Coords) (v2131 : BitVec 32) (k1_hw24 : k1_chk24 i v2131), ∀ (k1_h1 : k1_cond1 i = 1#1), ∀ a, (k1_off1174 v2131) a + S1x16.size a ≤ S256x384.size a := fun i v2131 k1_hw24 k1_h1 => k1_hw24.2.2.2.2.2.2.2.2.2.2.2.2.2.2.2.1 k1_h1
theorem k1_off1175_inb : ∀ (i : grid1.Coords) (v2131 : BitVec 32) (k1_hw24 : k1_chk24 i v2131), ∀ (k1_h1 : k1_cond1 i = 1#1), ∀ a, (k1_off1175 v2131) a + S1x16.size a ≤ S256x384.size a := fun i v2131 k1_hw24 k1_h1 => k1_hw24.2.2.2.2.2.2.2.2.2.2.2.2.2.2.2.2.1 k1_h1
theorem k1_off1176_inb : ∀ (i : grid1.Coords) (v2131 : BitVec 32) (k1_hw24 : k1_chk24 i v2131), ∀ (k1_h1 : k1_cond1 i = 1#1), ∀ a, (k1_off1176 v2131) a + S1x16.size a ≤ S256x384.size a := fun i v2131 k1_hw24 k1_h1 => k1_hw24.2.2.2.2.2.2.2.2.2.2.2.2.2.2.2.2.2.1 k1_h1
theorem k1_off1177_inb : ∀ (i : grid1.Coords) (v2131 : BitVec 32) (k1_hw24 : k1_chk24 i v2131), ∀ (k1_h1 : k1_cond1 i = 1#1), ∀ a, (k1_off1177 v2131) a + S1x16.size a ≤ S256x384.size a := fun i v2131 k1_hw24 k1_h1 => k1_hw24.2.2.2.2.2.2.2.2.2.2.2.2.2.2.2.2.2.2.1 k1_h1
theorem k1_off1178_inb : ∀ (i : grid1.Coords) (v2131 : BitVec 32) (k1_hw24 : k1_chk24 i v2131), ∀ (k1_h1 : k1_cond1 i = 1#1), ∀ a, (k1_off1178 v2131) a + S1x16.size a ≤ S256x384.size a := fun i v2131 k1_hw24 k1_h1 => k1_hw24.2.2.2.2.2.2.2.2.2.2.2.2.2.2.2.2.2.2.2.1 k1_h1
theorem k1_off1179_inb : ∀ (i : grid1.Coords) (v2131 : BitVec 32) (k1_hw24 : k1_chk24 i v2131), ∀ (k1_h1 : k1_cond1 i = 1#1), ∀ a, (k1_off1179 v2131) a + S1x16.size a ≤ S256x384.size a := fun i v2131 k1_hw24 k1_h1 => k1_hw24.2.2.2.2.2.2.2.2.2.2.2.2.2.2.2.2.2.2.2.2.1 k1_h1
theorem k1_off1180_inb : ∀ (i : grid1.Coords) (v2131 : BitVec 32) (k1_hw24 : k1_chk24 i v2131), ∀ (k1_h1 : k1_cond1 i = 1#1), ∀ a, (k1_off1180 v2131) a + S1x16.size a ≤ S256x384.size a := fun i v2131 k1_hw24 k1_h1 => k1_hw24.2.2.2.2.2.2.2.2.2.2.2.2.2.2.2.2.2.2.2.2.2.1 k1_h1
theorem k1_off1181_inb : ∀ (i : grid1.Coords) (v2131 : BitVec 32) (k1_hw24 : k1_chk24 i v2131), ∀ (k1_h1 : k1_cond1 i = 1#1), ∀ a, (k1_off1181 v2131) a + S1x16.size a ≤ S256x384.size a := fun i v2131 k1_hw24 k1_h1 => k1_hw24.2.2.2.2.2.2.2.2.2.2.2.2.2.2.2.2.2.2.2.2.2.2.1 k1_h1
theorem k1_off1182_inb : ∀ (i : grid1.Coords) (v2131 : BitVec 32) (k1_hw24 : k1_chk24 i v2131), ∀ (k1_h1 : k1_cond1 i = 1#1), ∀ a, (k1_off1182 v2131) a + S1x16.size a ≤ S256x384.size a := fun i v2131 k1_hw24 k1_h1 => k1_hw24.2.2.2.2.2.2.2.2.2.2.2.2.2.2.2.2.2.2.2.2.2.2.2 k1_h1

def k1_off1183 (k1_t4 : Fin k1_t4_loop.trips) : Fin 2 → Nat :=
  let c0_i32_44 : BitVec 32 := 0#32
  let c1_i32_46 : BitVec 32 := 1#32
  let arg37 : BitVec 32 := Scf.iv c0_i32_44 c1_i32_46 k1_t4
  let c16_i32_616 : BitVec 32 := 16#32
  let v2425 : BitVec 32 := Scalar.muli arg37 c16_i32_616
  let c8_i32_617 : BitVec 32 := 8#32
  let v2426 : BitVec 32 := Scalar.addi v2425 c8_i32_617
  let v2428 : Index := Scalar.indexCast v2426
  let c0_618 : Index := 0#32
  ![v2428.toNat, 0]
def k1_off1184 (k1_t4 : Fin k1_t4_loop.trips) : Fin 2 → Nat :=
  let c0_i32_44 : BitVec 32 := 0#32
  let c1_i32_46 : BitVec 32 := 1#32
  let arg37 : BitVec 32 := Scf.iv c0_i32_44 c1_i32_46 k1_t4
  let c16_i32_616 : BitVec 32 := 16#32
  let v2425 : BitVec 32 := Scalar.muli arg37 c16_i32_616
  let c8_i32_617 : BitVec 32 := 8#32
  let v2426 : BitVec 32 := Scalar.addi v2425 c8_i32_617
  let v2436 : Index := Scalar.indexCast v2426
  let c16_620 : Index := 16#32
  ![v2436.toNat, 16]
def k1_off1185 (k1_t4 : Fin k1_t4_loop.trips) : Fin 2 → Nat :=
  let c0_i32_44 : BitVec 32 := 0#32
  let c1_i32_46 : BitVec 32 := 1#32
  let arg37 : BitVec 32 := Scf.iv c0_i32_44 c1_i32_46 k1_t4
  let c16_i32_616 : BitVec 32 := 16#32
  let v2425 : BitVec 32 := Scalar.muli arg37 c16_i32_616
  let c8_i32_617 : BitVec 32 := 8#32
  let v2426 : BitVec 32 := Scalar.addi v2425 c8_i32_617
  let v2444 : Index := Scalar.indexCast v2426
  let c32_622 : Index := 32#32
  ![v2444.toNat, 32]
def k1_off1186 (k1_t4 : Fin k1_t4_loop.trips) : Fin 2 → Nat :=
  let c0_i32_44 : BitVec 32 := 0#32
  let c1_i32_46 : BitVec 32 := 1#32
  let arg37 : BitVec 32 := Scf.iv c0_i32_44 c1_i32_46 k1_t4
  let c16_i32_616 : BitVec 32 := 16#32
  let v2425 : BitVec 32 := Scalar.muli arg37 c16_i32_616
  let c8_i32_617 : BitVec 32 := 8#32
  let v2426 : BitVec 32 := Scalar.addi v2425 c8_i32_617
  let v2452 : Index := Scalar.indexCast v2426
  let c48_624 : Index := 48#32
  ![v2452.toNat, 48]
def k1_off1187 (k1_t4 : Fin k1_t4_loop.trips) : Fin 2 → Nat :=
  let c0_i32_44 : BitVec 32 := 0#32
  let c1_i32_46 : BitVec 32 := 1#32
  let arg37 : BitVec 32 := Scf.iv c0_i32_44 c1_i32_46 k1_t4
  let c16_i32_616 : BitVec 32 := 16#32
  let v2425 : BitVec 32 := Scalar.muli arg37 c16_i32_616
  let c8_i32_617 : BitVec 32 := 8#32
  let v2426 : BitVec 32 := Scalar.addi v2425 c8_i32_617
  let v2460 : Index := Scalar.indexCast v2426
  let c64_626 : Index := 64#32
  ![v2460.toNat, 64]
def k1_off1188 (k1_t4 : Fin k1_t4_loop.trips) : Fin 2 → Nat :=
  let c0_i32_44 : BitVec 32 := 0#32
  let c1_i32_46 : BitVec 32 := 1#32
  let arg37 : BitVec 32 := Scf.iv c0_i32_44 c1_i32_46 k1_t4
  let c16_i32_616 : BitVec 32 := 16#32
  let v2425 : BitVec 32 := Scalar.muli arg37 c16_i32_616
  let c8_i32_617 : BitVec 32 := 8#32
  let v2426 : BitVec 32 := Scalar.addi v2425 c8_i32_617
  let v2468 : Index := Scalar.indexCast v2426
  let c80_628 : Index := 80#32
  ![v2468.toNat, 80]
def k1_off1189 (k1_t4 : Fin k1_t4_loop.trips) : Fin 2 → Nat :=
  let c0_i32_44 : BitVec 32 := 0#32
  let c1_i32_46 : BitVec 32 := 1#32
  let arg37 : BitVec 32 := Scf.iv c0_i32_44 c1_i32_46 k1_t4
  let c16_i32_616 : BitVec 32 := 16#32
  let v2425 : BitVec 32 := Scalar.muli arg37 c16_i32_616
  let c8_i32_617 : BitVec 32 := 8#32
  let v2426 : BitVec 32 := Scalar.addi v2425 c8_i32_617
  let v2476 : Index := Scalar.indexCast v2426
  let c96_630 : Index := 96#32
  ![v2476.toNat, 96]
def k1_off1190 (k1_t4 : Fin k1_t4_loop.trips) : Fin 2 → Nat :=
  let c0_i32_44 : BitVec 32 := 0#32
  let c1_i32_46 : BitVec 32 := 1#32
  let arg37 : BitVec 32 := Scf.iv c0_i32_44 c1_i32_46 k1_t4
  let c16_i32_616 : BitVec 32 := 16#32
  let v2425 : BitVec 32 := Scalar.muli arg37 c16_i32_616
  let c8_i32_617 : BitVec 32 := 8#32
  let v2426 : BitVec 32 := Scalar.addi v2425 c8_i32_617
  let v2484 : Index := Scalar.indexCast v2426
  let c112_632 : Index := 112#32
  ![v2484.toNat, 112]
def k1_off1191 (k1_t4 : Fin k1_t4_loop.trips) : Fin 2 → Nat :=
  let c0_i32_44 : BitVec 32 := 0#32
  let c1_i32_46 : BitVec 32 := 1#32
  let arg37 : BitVec 32 := Scf.iv c0_i32_44 c1_i32_46 k1_t4
  let c16_i32_616 : BitVec 32 := 16#32
  let v2425 : BitVec 32 := Scalar.muli arg37 c16_i32_616
  let c8_i32_617 : BitVec 32 := 8#32
  let v2426 : BitVec 32 := Scalar.addi v2425 c8_i32_617
  let v2492 : Index := Scalar.indexCast v2426
  let c128_634 : Index := 128#32
  ![v2492.toNat, 128]
def k1_off1192 (k1_t4 : Fin k1_t4_loop.trips) : Fin 2 → Nat :=
  let c0_i32_44 : BitVec 32 := 0#32
  let c1_i32_46 : BitVec 32 := 1#32
  let arg37 : BitVec 32 := Scf.iv c0_i32_44 c1_i32_46 k1_t4
  let c16_i32_616 : BitVec 32 := 16#32
  let v2425 : BitVec 32 := Scalar.muli arg37 c16_i32_616
  let c8_i32_617 : BitVec 32 := 8#32
  let v2426 : BitVec 32 := Scalar.addi v2425 c8_i32_617
  let v2500 : Index := Scalar.indexCast v2426
  let c144_636 : Index := 144#32
  ![v2500.toNat, 144]
def k1_off1193 (k1_t4 : Fin k1_t4_loop.trips) : Fin 2 → Nat :=
  let c0_i32_44 : BitVec 32 := 0#32
  let c1_i32_46 : BitVec 32 := 1#32
  let arg37 : BitVec 32 := Scf.iv c0_i32_44 c1_i32_46 k1_t4
  let c16_i32_616 : BitVec 32 := 16#32
  let v2425 : BitVec 32 := Scalar.muli arg37 c16_i32_616
  let c8_i32_617 : BitVec 32 := 8#32
  let v2426 : BitVec 32 := Scalar.addi v2425 c8_i32_617
  let v2508 : Index := Scalar.indexCast v2426
  let c160_638 : Index := 160#32
  ![v2508.toNat, 160]
def k1_off1194 (k1_t4 : Fin k1_t4_loop.trips) : Fin 2 → Nat :=
  let c0_i32_44 : BitVec 32 := 0#32
  let c1_i32_46 : BitVec 32 := 1#32
  let arg37 : BitVec 32 := Scf.iv c0_i32_44 c1_i32_46 k1_t4
  let c16_i32_616 : BitVec 32 := 16#32
  let v2425 : BitVec 32 := Scalar.muli arg37 c16_i32_616
  let c8_i32_617 : BitVec 32 := 8#32
  let v2426 : BitVec 32 := Scalar.addi v2425 c8_i32_617
  let v2516 : Index := Scalar.indexCast v2426
  let c176_640 : Index := 176#32
  ![v2516.toNat, 176]
def k1_off1195 (k1_t4 : Fin k1_t4_loop.trips) : Fin 2 → Nat :=
  let c0_i32_44 : BitVec 32 := 0#32
  let c1_i32_46 : BitVec 32 := 1#32
  let arg37 : BitVec 32 := Scf.iv c0_i32_44 c1_i32_46 k1_t4
  let c16_i32_616 : BitVec 32 := 16#32
  let v2425 : BitVec 32 := Scalar.muli arg37 c16_i32_616
  let c8_i32_617 : BitVec 32 := 8#32
  let v2426 : BitVec 32 := Scalar.addi v2425 c8_i32_617
  let v2524 : Index := Scalar.indexCast v2426
  let c192_642 : Index := 192#32
  ![v2524.toNat, 192]
def k1_off1196 (k1_t4 : Fin k1_t4_loop.trips) : Fin 2 → Nat :=
  let c0_i32_44 : BitVec 32 := 0#32
  let c1_i32_46 : BitVec 32 := 1#32
  let arg37 : BitVec 32 := Scf.iv c0_i32_44 c1_i32_46 k1_t4
  let c16_i32_616 : BitVec 32 := 16#32
  let v2425 : BitVec 32 := Scalar.muli arg37 c16_i32_616
  let c8_i32_617 : BitVec 32 := 8#32
  let v2426 : BitVec 32 := Scalar.addi v2425 c8_i32_617
  let v2532 : Index := Scalar.indexCast v2426
  let c208_644 : Index := 208#32
  ![v2532.toNat, 208]
def k1_off1197 (k1_t4 : Fin k1_t4_loop.trips) : Fin 2 → Nat :=
  let c0_i32_44 : BitVec 32 := 0#32
  let c1_i32_46 : BitVec 32 := 1#32
  let arg37 : BitVec 32 := Scf.iv c0_i32_44 c1_i32_46 k1_t4
  let c16_i32_616 : BitVec 32 := 16#32
  let v2425 : BitVec 32 := Scalar.muli arg37 c16_i32_616
  let c8_i32_617 : BitVec 32 := 8#32
  let v2426 : BitVec 32 := Scalar.addi v2425 c8_i32_617
  let v2540 : Index := Scalar.indexCast v2426
  let c224_646 : Index := 224#32
  ![v2540.toNat, 224]
def k1_off1198 (k1_t4 : Fin k1_t4_loop.trips) : Fin 2 → Nat :=
  let c0_i32_44 : BitVec 32 := 0#32
  let c1_i32_46 : BitVec 32 := 1#32
  let arg37 : BitVec 32 := Scf.iv c0_i32_44 c1_i32_46 k1_t4
  let c16_i32_616 : BitVec 32 := 16#32
  let v2425 : BitVec 32 := Scalar.muli arg37 c16_i32_616
  let c8_i32_617 : BitVec 32 := 8#32
  let v2426 : BitVec 32 := Scalar.addi v2425 c8_i32_617
  let v2548 : Index := Scalar.indexCast v2426
  let c240_648 : Index := 240#32
  ![v2548.toNat, 240]
def k1_off1199 (k1_t4 : Fin k1_t4_loop.trips) : Fin 2 → Nat :=
  let c0_i32_44 : BitVec 32 := 0#32
  let c1_i32_46 : BitVec 32 := 1#32
  let arg37 : BitVec 32 := Scf.iv c0_i32_44 c1_i32_46 k1_t4
  let c16_i32_616 : BitVec 32 := 16#32
  let v2425 : BitVec 32 := Scalar.muli arg37 c16_i32_616
  let c8_i32_617 : BitVec 32 := 8#32
  let v2426 : BitVec 32 := Scalar.addi v2425 c8_i32_617
  let v2556 : Index := Scalar.indexCast v2426
  let c256_650 : Index := 256#32
  ![v2556.toNat, 256]
def k1_off1200 (k1_t4 : Fin k1_t4_loop.trips) : Fin 2 → Nat :=
  let c0_i32_44 : BitVec 32 := 0#32
  let c1_i32_46 : BitVec 32 := 1#32
  let arg37 : BitVec 32 := Scf.iv c0_i32_44 c1_i32_46 k1_t4
  let c16_i32_616 : BitVec 32 := 16#32
  let v2425 : BitVec 32 := Scalar.muli arg37 c16_i32_616
  let c8_i32_617 : BitVec 32 := 8#32
  let v2426 : BitVec 32 := Scalar.addi v2425 c8_i32_617
  let v2564 : Index := Scalar.indexCast v2426
  let c272_652 : Index := 272#32
  ![v2564.toNat, 272]
def k1_off1201 (k1_t4 : Fin k1_t4_loop.trips) : Fin 2 → Nat :=
  let c0_i32_44 : BitVec 32 := 0#32
  let c1_i32_46 : BitVec 32 := 1#32
  let arg37 : BitVec 32 := Scf.iv c0_i32_44 c1_i32_46 k1_t4
  let c16_i32_616 : BitVec 32 := 16#32
  let v2425 : BitVec 32 := Scalar.muli arg37 c16_i32_616
  let c8_i32_617 : BitVec 32 := 8#32
  let v2426 : BitVec 32 := Scalar.addi v2425 c8_i32_617
  let v2572 : Index := Scalar.indexCast v2426
  let c288_654 : Index := 288#32
  ![v2572.toNat, 288]
def k1_off1202 (k1_t4 : Fin k1_t4_loop.trips) : Fin 2 → Nat :=
  let c0_i32_44 : BitVec 32 := 0#32
  let c1_i32_46 : BitVec 32 := 1#32
  let arg37 : BitVec 32 := Scf.iv c0_i32_44 c1_i32_46 k1_t4
  let c16_i32_616 : BitVec 32 := 16#32
  let v2425 : BitVec 32 := Scalar.muli arg37 c16_i32_616
  let c8_i32_617 : BitVec 32 := 8#32
  let v2426 : BitVec 32 := Scalar.addi v2425 c8_i32_617
  let v2580 : Index := Scalar.indexCast v2426
  let c304_656 : Index := 304#32
  ![v2580.toNat, 304]
def k1_off1203 (k1_t4 : Fin k1_t4_loop.trips) : Fin 2 → Nat :=
  let c0_i32_44 : BitVec 32 := 0#32
  let c1_i32_46 : BitVec 32 := 1#32
  let arg37 : BitVec 32 := Scf.iv c0_i32_44 c1_i32_46 k1_t4
  let c16_i32_616 : BitVec 32 := 16#32
  let v2425 : BitVec 32 := Scalar.muli arg37 c16_i32_616
  let c8_i32_617 : BitVec 32 := 8#32
  let v2426 : BitVec 32 := Scalar.addi v2425 c8_i32_617
  let v2588 : Index := Scalar.indexCast v2426
  let c320_658 : Index := 320#32
  ![v2588.toNat, 320]
def k1_off1204 (k1_t4 : Fin k1_t4_loop.trips) : Fin 2 → Nat :=
  let c0_i32_44 : BitVec 32 := 0#32
  let c1_i32_46 : BitVec 32 := 1#32
  let arg37 : BitVec 32 := Scf.iv c0_i32_44 c1_i32_46 k1_t4
  let c16_i32_616 : BitVec 32 := 16#32
  let v2425 : BitVec 32 := Scalar.muli arg37 c16_i32_616
  let c8_i32_617 : BitVec 32 := 8#32
  let v2426 : BitVec 32 := Scalar.addi v2425 c8_i32_617
  let v2596 : Index := Scalar.indexCast v2426
  let c336_660 : Index := 336#32
  ![v2596.toNat, 336]
def k1_off1205 (k1_t4 : Fin k1_t4_loop.trips) : Fin 2 → Nat :=
  let c0_i32_44 : BitVec 32 := 0#32
  let c1_i32_46 : BitVec 32 := 1#32
  let arg37 : BitVec 32 := Scf.iv c0_i32_44 c1_i32_46 k1_t4
  let c16_i32_616 : BitVec 32 := 16#32
  let v2425 : BitVec 32 := Scalar.muli arg37 c16_i32_616
  let c8_i32_617 : BitVec 32 := 8#32
  let v2426 : BitVec 32 := Scalar.addi v2425 c8_i32_617
  let v2604 : Index := Scalar.indexCast v2426
  let c352_662 : Index := 352#32
  ![v2604.toNat, 352]
def k1_off1206 (k1_t4 : Fin k1_t4_loop.trips) : Fin 2 → Nat :=
  let c0_i32_44 : BitVec 32 := 0#32
  let c1_i32_46 : BitVec 32 := 1#32
  let arg37 : BitVec 32 := Scf.iv c0_i32_44 c1_i32_46 k1_t4
  let c16_i32_616 : BitVec 32 := 16#32
  let v2425 : BitVec 32 := Scalar.muli arg37 c16_i32_616
  let c8_i32_617 : BitVec 32 := 8#32
  let v2426 : BitVec 32 := Scalar.addi v2425 c8_i32_617
  let v2612 : Index := Scalar.indexCast v2426
  let c368_664 : Index := 368#32
  ![v2612.toNat, 368]
def k1_off1207 (v2424 : BitVec 32) : Fin 2 → Nat :=
  let v2620 : Index := Scalar.indexCast v2424
  let c0_666 : Index := 0#32
  ![v2620.toNat, 0]

def k1_off1208 (v2424 : BitVec 32) : Fin 2 → Nat :=
  let v2624 : Index := Scalar.indexCast v2424
  let c16_667 : Index := 16#32
  ![v2624.toNat, 16]
def k1_off1209 (v2424 : BitVec 32) : Fin 2 → Nat :=
  let v2628 : Index := Scalar.indexCast v2424
  let c32_668 : Index := 32#32
  ![v2628.toNat, 32]
def k1_off1210 (v2424 : BitVec 32) : Fin 2 → Nat :=
  let v2632 : Index := Scalar.indexCast v2424
  let c48_669 : Index := 48#32
  ![v2632.toNat, 48]
def k1_off1211 (v2424 : BitVec 32) : Fin 2 → Nat :=
  let v2636 : Index := Scalar.indexCast v2424
  let c64_670 : Index := 64#32
  ![v2636.toNat, 64]
def k1_off1212 (v2424 : BitVec 32) : Fin 2 → Nat :=
  let v2640 : Index := Scalar.indexCast v2424
  let c80_671 : Index := 80#32
  ![v2640.toNat, 80]
def k1_off1213 (v2424 : BitVec 32) : Fin 2 → Nat :=
  let v2644 : Index := Scalar.indexCast v2424
  let c96_672 : Index := 96#32
  ![v2644.toNat, 96]
def k1_off1214 (v2424 : BitVec 32) : Fin 2 → Nat :=
  let v2648 : Index := Scalar.indexCast v2424
  let c112_673 : Index := 112#32
  ![v2648.toNat, 112]
def k1_off1215 (v2424 : BitVec 32) : Fin 2 → Nat :=
  let v2652 : Index := Scalar.indexCast v2424
  let c128_674 : Index := 128#32
  ![v2652.toNat, 128]
def k1_off1216 (v2424 : BitVec 32) : Fin 2 → Nat :=
  let v2656 : Index := Scalar.indexCast v2424
  let c144_675 : Index := 144#32
  ![v2656.toNat, 144]
def k1_off1217 (v2424 : BitVec 32) : Fin 2 → Nat :=
  let v2660 : Index := Scalar.indexCast v2424
  let c160_676 : Index := 160#32
  ![v2660.toNat, 160]
def k1_off1218 (v2424 : BitVec 32) : Fin 2 → Nat :=
  let v2664 : Index := Scalar.indexCast v2424
  let c176_677 : Index := 176#32
  ![v2664.toNat, 176]
def k1_off1219 (v2424 : BitVec 32) : Fin 2 → Nat :=
  let v2668 : Index := Scalar.indexCast v2424
  let c192_678 : Index := 192#32
  ![v2668.toNat, 192]
def k1_off1220 (v2424 : BitVec 32) : Fin 2 → Nat :=
  let v2672 : Index := Scalar.indexCast v2424
  let c208_679 : Index := 208#32
  ![v2672.toNat, 208]
def k1_off1221 (v2424 : BitVec 32) : Fin 2 → Nat :=
  let v2676 : Index := Scalar.indexCast v2424
  let c224_680 : Index := 224#32
  ![v2676.toNat, 224]
def k1_off1222 (v2424 : BitVec 32) : Fin 2 → Nat :=
  let v2680 : Index := Scalar.indexCast v2424
  let c240_681 : Index := 240#32
  ![v2680.toNat, 240]
def k1_off1223 (v2424 : BitVec 32) : Fin 2 → Nat :=
  let v2684 : Index := Scalar.indexCast v2424
  let c256_682 : Index := 256#32
  ![v2684.toNat, 256]
def k1_off1224 (v2424 : BitVec 32) : Fin 2 → Nat :=
  let v2688 : Index := Scalar.indexCast v2424
  let c272_683 : Index := 272#32
  ![v2688.toNat, 272]
def k1_off1225 (v2424 : BitVec 32) : Fin 2 → Nat :=
  let v2692 : Index := Scalar.indexCast v2424
  let c288_684 : Index := 288#32
  ![v2692.toNat, 288]
def k1_off1226 (v2424 : BitVec 32) : Fin 2 → Nat :=
  let v2696 : Index := Scalar.indexCast v2424
  let c304_685 : Index := 304#32
  ![v2696.toNat, 304]
def k1_off1227 (v2424 : BitVec 32) : Fin 2 → Nat :=
  let v2700 : Index := Scalar.indexCast v2424
  let c320_686 : Index := 320#32
  ![v2700.toNat, 320]
def k1_off1228 (v2424 : BitVec 32) : Fin 2 → Nat :=
  let v2704 : Index := Scalar.indexCast v2424
  let c336_687 : Index := 336#32
  ![v2704.toNat, 336]
def k1_off1229 (v2424 : BitVec 32) : Fin 2 → Nat :=
  let v2708 : Index := Scalar.indexCast v2424
  let c352_688 : Index := 352#32
  ![v2708.toNat, 352]
def k1_off1230 (v2424 : BitVec 32) : Fin 2 → Nat :=
  let v2712 : Index := Scalar.indexCast v2424
  let c368_689 : Index := 368#32
  ![v2712.toNat, 368]

def k1_chk25 (i : grid1.Coords) (v2424 : BitVec 32) : Prop :=
  (∀ (k1_h1 : k1_cond1 i = 1#1), ∀ a, (k1_off1207 v2424) a + S1x16.size a ≤ S256x384.size a) ∧
  (∀ (k1_h1 : k1_cond1 i = 1#1), ∀ a, (k1_off1208 v2424) a + S1x16.size a ≤ S256x384.size a) ∧
  (∀ (k1_h1 : k1_cond1 i = 1#1), ∀ a, (k1_off1209 v2424) a + S1x16.size a ≤ S256x384.size a) ∧
  (∀ (k1_h1 : k1_cond1 i = 1#1), ∀ a, (k1_off1210 v2424) a + S1x16.size a ≤ S256x384.size a) ∧
  (∀ (k1_h1 : k1_cond1 i = 1#1), ∀ a, (k1_off1211 v2424) a + S1x16.size a ≤ S256x384.size a) ∧
  (∀ (k1_h1 : k1_cond1 i = 1#1), ∀ a, (k1_off1212 v2424) a + S1x16.size a ≤ S256x384.size a) ∧
  (∀ (k1_h1 : k1_cond1 i = 1#1), ∀ a, (k1_off1213 v2424) a + S1x16.size a ≤ S256x384.size a) ∧
  (∀ (k1_h1 : k1_cond1 i = 1#1), ∀ a, (k1_off1214 v2424) a + S1x16.size a ≤ S256x384.size a) ∧
  (∀ (k1_h1 : k1_cond1 i = 1#1), ∀ a, (k1_off1215 v2424) a + S1x16.size a ≤ S256x384.size a) ∧
  (∀ (k1_h1 : k1_cond1 i = 1#1), ∀ a, (k1_off1216 v2424) a + S1x16.size a ≤ S256x384.size a) ∧
  (∀ (k1_h1 : k1_cond1 i = 1#1), ∀ a, (k1_off1217 v2424) a + S1x16.size a ≤ S256x384.size a) ∧
  (∀ (k1_h1 : k1_cond1 i = 1#1), ∀ a, (k1_off1218 v2424) a + S1x16.size a ≤ S256x384.size a) ∧
  (∀ (k1_h1 : k1_cond1 i = 1#1), ∀ a, (k1_off1219 v2424) a + S1x16.size a ≤ S256x384.size a) ∧
  (∀ (k1_h1 : k1_cond1 i = 1#1), ∀ a, (k1_off1220 v2424) a + S1x16.size a ≤ S256x384.size a) ∧
  (∀ (k1_h1 : k1_cond1 i = 1#1), ∀ a, (k1_off1221 v2424) a + S1x16.size a ≤ S256x384.size a) ∧
  (∀ (k1_h1 : k1_cond1 i = 1#1), ∀ a, (k1_off1222 v2424) a + S1x16.size a ≤ S256x384.size a) ∧
  (∀ (k1_h1 : k1_cond1 i = 1#1), ∀ a, (k1_off1223 v2424) a + S1x16.size a ≤ S256x384.size a) ∧
  (∀ (k1_h1 : k1_cond1 i = 1#1), ∀ a, (k1_off1224 v2424) a + S1x16.size a ≤ S256x384.size a) ∧
  (∀ (k1_h1 : k1_cond1 i = 1#1), ∀ a, (k1_off1225 v2424) a + S1x16.size a ≤ S256x384.size a) ∧
  (∀ (k1_h1 : k1_cond1 i = 1#1), ∀ a, (k1_off1226 v2424) a + S1x16.size a ≤ S256x384.size a) ∧
  (∀ (k1_h1 : k1_cond1 i = 1#1), ∀ a, (k1_off1227 v2424) a + S1x16.size a ≤ S256x384.size a) ∧
  (∀ (k1_h1 : k1_cond1 i = 1#1), ∀ a, (k1_off1228 v2424) a + S1x16.size a ≤ S256x384.size a) ∧
  (∀ (k1_h1 : k1_cond1 i = 1#1), ∀ a, (k1_off1229 v2424) a + S1x16.size a ≤ S256x384.size a) ∧
  (∀ (k1_h1 : k1_cond1 i = 1#1), ∀ a, (k1_off1230 v2424) a + S1x16.size a ≤ S256x384.size a)
theorem k1_off1207_inb : ∀ (i : grid1.Coords) (v2424 : BitVec 32) (k1_hw25 : k1_chk25 i v2424), ∀ (k1_h1 : k1_cond1 i = 1#1), ∀ a, (k1_off1207 v2424) a + S1x16.size a ≤ S256x384.size a := fun i v2424 k1_hw25 k1_h1 => k1_hw25.1 k1_h1
theorem k1_off1208_inb : ∀ (i : grid1.Coords) (v2424 : BitVec 32) (k1_hw25 : k1_chk25 i v2424), ∀ (k1_h1 : k1_cond1 i = 1#1), ∀ a, (k1_off1208 v2424) a + S1x16.size a ≤ S256x384.size a := fun i v2424 k1_hw25 k1_h1 => k1_hw25.2.1 k1_h1
theorem k1_off1209_inb : ∀ (i : grid1.Coords) (v2424 : BitVec 32) (k1_hw25 : k1_chk25 i v2424), ∀ (k1_h1 : k1_cond1 i = 1#1), ∀ a, (k1_off1209 v2424) a + S1x16.size a ≤ S256x384.size a := fun i v2424 k1_hw25 k1_h1 => k1_hw25.2.2.1 k1_h1
theorem k1_off1210_inb : ∀ (i : grid1.Coords) (v2424 : BitVec 32) (k1_hw25 : k1_chk25 i v2424), ∀ (k1_h1 : k1_cond1 i = 1#1), ∀ a, (k1_off1210 v2424) a + S1x16.size a ≤ S256x384.size a := fun i v2424 k1_hw25 k1_h1 => k1_hw25.2.2.2.1 k1_h1
theorem k1_off1211_inb : ∀ (i : grid1.Coords) (v2424 : BitVec 32) (k1_hw25 : k1_chk25 i v2424), ∀ (k1_h1 : k1_cond1 i = 1#1), ∀ a, (k1_off1211 v2424) a + S1x16.size a ≤ S256x384.size a := fun i v2424 k1_hw25 k1_h1 => k1_hw25.2.2.2.2.1 k1_h1
theorem k1_off1212_inb : ∀ (i : grid1.Coords) (v2424 : BitVec 32) (k1_hw25 : k1_chk25 i v2424), ∀ (k1_h1 : k1_cond1 i = 1#1), ∀ a, (k1_off1212 v2424) a + S1x16.size a ≤ S256x384.size a := fun i v2424 k1_hw25 k1_h1 => k1_hw25.2.2.2.2.2.1 k1_h1
theorem k1_off1213_inb : ∀ (i : grid1.Coords) (v2424 : BitVec 32) (k1_hw25 : k1_chk25 i v2424), ∀ (k1_h1 : k1_cond1 i = 1#1), ∀ a, (k1_off1213 v2424) a + S1x16.size a ≤ S256x384.size a := fun i v2424 k1_hw25 k1_h1 => k1_hw25.2.2.2.2.2.2.1 k1_h1
theorem k1_off1214_inb : ∀ (i : grid1.Coords) (v2424 : BitVec 32) (k1_hw25 : k1_chk25 i v2424), ∀ (k1_h1 : k1_cond1 i = 1#1), ∀ a, (k1_off1214 v2424) a + S1x16.size a ≤ S256x384.size a := fun i v2424 k1_hw25 k1_h1 => k1_hw25.2.2.2.2.2.2.2.1 k1_h1
theorem k1_off1215_inb : ∀ (i : grid1.Coords) (v2424 : BitVec 32) (k1_hw25 : k1_chk25 i v2424), ∀ (k1_h1 : k1_cond1 i = 1#1), ∀ a, (k1_off1215 v2424) a + S1x16.size a ≤ S256x384.size a := fun i v2424 k1_hw25 k1_h1 => k1_hw25.2.2.2.2.2.2.2.2.1 k1_h1
theorem k1_off1216_inb : ∀ (i : grid1.Coords) (v2424 : BitVec 32) (k1_hw25 : k1_chk25 i v2424), ∀ (k1_h1 : k1_cond1 i = 1#1), ∀ a, (k1_off1216 v2424) a + S1x16.size a ≤ S256x384.size a := fun i v2424 k1_hw25 k1_h1 => k1_hw25.2.2.2.2.2.2.2.2.2.1 k1_h1
theorem k1_off1217_inb : ∀ (i : grid1.Coords) (v2424 : BitVec 32) (k1_hw25 : k1_chk25 i v2424), ∀ (k1_h1 : k1_cond1 i = 1#1), ∀ a, (k1_off1217 v2424) a + S1x16.size a ≤ S256x384.size a := fun i v2424 k1_hw25 k1_h1 => k1_hw25.2.2.2.2.2.2.2.2.2.2.1 k1_h1
theorem k1_off1218_inb : ∀ (i : grid1.Coords) (v2424 : BitVec 32) (k1_hw25 : k1_chk25 i v2424), ∀ (k1_h1 : k1_cond1 i = 1#1), ∀ a, (k1_off1218 v2424) a + S1x16.size a ≤ S256x384.size a := fun i v2424 k1_hw25 k1_h1 => k1_hw25.2.2.2.2.2.2.2.2.2.2.2.1 k1_h1
theorem k1_off1219_inb : ∀ (i : grid1.Coords) (v2424 : BitVec 32) (k1_hw25 : k1_chk25 i v2424), ∀ (k1_h1 : k1_cond1 i = 1#1), ∀ a, (k1_off1219 v2424) a + S1x16.size a ≤ S256x384.size a := fun i v2424 k1_hw25 k1_h1 => k1_hw25.2.2.2.2.2.2.2.2.2.2.2.2.1 k1_h1
theorem k1_off1220_inb : ∀ (i : grid1.Coords) (v2424 : BitVec 32) (k1_hw25 : k1_chk25 i v2424), ∀ (k1_h1 : k1_cond1 i = 1#1), ∀ a, (k1_off1220 v2424) a + S1x16.size a ≤ S256x384.size a := fun i v2424 k1_hw25 k1_h1 => k1_hw25.2.2.2.2.2.2.2.2.2.2.2.2.2.1 k1_h1
theorem k1_off1221_inb : ∀ (i : grid1.Coords) (v2424 : BitVec 32) (k1_hw25 : k1_chk25 i v2424), ∀ (k1_h1 : k1_cond1 i = 1#1), ∀ a, (k1_off1221 v2424) a + S1x16.size a ≤ S256x384.size a := fun i v2424 k1_hw25 k1_h1 => k1_hw25.2.2.2.2.2.2.2.2.2.2.2.2.2.2.1 k1_h1
theorem k1_off1222_inb : ∀ (i : grid1.Coords) (v2424 : BitVec 32) (k1_hw25 : k1_chk25 i v2424), ∀ (k1_h1 : k1_cond1 i = 1#1), ∀ a, (k1_off1222 v2424) a + S1x16.size a ≤ S256x384.size a := fun i v2424 k1_hw25 k1_h1 => k1_hw25.2.2.2.2.2.2.2.2.2.2.2.2.2.2.2.1 k1_h1
theorem k1_off1223_inb : ∀ (i : grid1.Coords) (v2424 : BitVec 32) (k1_hw25 : k1_chk25 i v2424), ∀ (k1_h1 : k1_cond1 i = 1#1), ∀ a, (k1_off1223 v2424) a + S1x16.size a ≤ S256x384.size a := fun i v2424 k1_hw25 k1_h1 => k1_hw25.2.2.2.2.2.2.2.2.2.2.2.2.2.2.2.2.1 k1_h1
theorem k1_off1224_inb : ∀ (i : grid1.Coords) (v2424 : BitVec 32) (k1_hw25 : k1_chk25 i v2424), ∀ (k1_h1 : k1_cond1 i = 1#1), ∀ a, (k1_off1224 v2424) a + S1x16.size a ≤ S256x384.size a := fun i v2424 k1_hw25 k1_h1 => k1_hw25.2.2.2.2.2.2.2.2.2.2.2.2.2.2.2.2.2.1 k1_h1
theorem k1_off1225_inb : ∀ (i : grid1.Coords) (v2424 : BitVec 32) (k1_hw25 : k1_chk25 i v2424), ∀ (k1_h1 : k1_cond1 i = 1#1), ∀ a, (k1_off1225 v2424) a + S1x16.size a ≤ S256x384.size a := fun i v2424 k1_hw25 k1_h1 => k1_hw25.2.2.2.2.2.2.2.2.2.2.2.2.2.2.2.2.2.2.1 k1_h1
theorem k1_off1226_inb : ∀ (i : grid1.Coords) (v2424 : BitVec 32) (k1_hw25 : k1_chk25 i v2424), ∀ (k1_h1 : k1_cond1 i = 1#1), ∀ a, (k1_off1226 v2424) a + S1x16.size a ≤ S256x384.size a := fun i v2424 k1_hw25 k1_h1 => k1_hw25.2.2.2.2.2.2.2.2.2.2.2.2.2.2.2.2.2.2.2.1 k1_h1
theorem k1_off1227_inb : ∀ (i : grid1.Coords) (v2424 : BitVec 32) (k1_hw25 : k1_chk25 i v2424), ∀ (k1_h1 : k1_cond1 i = 1#1), ∀ a, (k1_off1227 v2424) a + S1x16.size a ≤ S256x384.size a := fun i v2424 k1_hw25 k1_h1 => k1_hw25.2.2.2.2.2.2.2.2.2.2.2.2.2.2.2.2.2.2.2.2.1 k1_h1
theorem k1_off1228_inb : ∀ (i : grid1.Coords) (v2424 : BitVec 32) (k1_hw25 : k1_chk25 i v2424), ∀ (k1_h1 : k1_cond1 i = 1#1), ∀ a, (k1_off1228 v2424) a + S1x16.size a ≤ S256x384.size a := fun i v2424 k1_hw25 k1_h1 => k1_hw25.2.2.2.2.2.2.2.2.2.2.2.2.2.2.2.2.2.2.2.2.2.1 k1_h1
theorem k1_off1229_inb : ∀ (i : grid1.Coords) (v2424 : BitVec 32) (k1_hw25 : k1_chk25 i v2424), ∀ (k1_h1 : k1_cond1 i = 1#1), ∀ a, (k1_off1229 v2424) a + S1x16.size a ≤ S256x384.size a := fun i v2424 k1_hw25 k1_h1 => k1_hw25.2.2.2.2.2.2.2.2.2.2.2.2.2.2.2.2.2.2.2.2.2.2.1 k1_h1
theorem k1_off1230_inb : ∀ (i : grid1.Coords) (v2424 : BitVec 32) (k1_hw25 : k1_chk25 i v2424), ∀ (k1_h1 : k1_cond1 i = 1#1), ∀ a, (k1_off1230 v2424) a + S1x16.size a ≤ S256x384.size a := fun i v2424 k1_hw25 k1_h1 => k1_hw25.2.2.2.2.2.2.2.2.2.2.2.2.2.2.2.2.2.2.2.2.2.2.2 k1_h1

def k1_off1231 (k1_t4 : Fin k1_t4_loop.trips) : Fin 2 → Nat :=
  let c0_i32_44 : BitVec 32 := 0#32
  let c1_i32_46 : BitVec 32 := 1#32
  let arg37 : BitVec 32 := Scf.iv c0_i32_44 c1_i32_46 k1_t4
  let c16_i32_690 : BitVec 32 := 16#32
  let v2718 : BitVec 32 := Scalar.muli arg37 c16_i32_690
  let c9_i32 : BitVec 32 := 9#32
  let v2719 : BitVec 32 := Scalar.addi v2718 c9_i32
  let v2721 : Index := Scalar.indexCast v2719
  let c0_691 : Index := 0#32
  ![v2721.toNat, 0]
def k1_off1232 (k1_t4 : Fin k1_t4_loop.trips) : Fin 2 → Nat :=
  let c0_i32_44 : BitVec 32 := 0#32
  let c1_i32_46 : BitVec 32 := 1#32
  let arg37 : BitVec 32 := Scf.iv c0_i32_44 c1_i32_46 k1_t4
  let c16_i32_690 : BitVec 32 := 16#32
  let v2718 : BitVec 32 := Scalar.muli arg37 c16_i32_690
  let c9_i32 : BitVec 32 := 9#32
  let v2719 : BitVec 32 := Scalar.addi v2718 c9_i32
  let v2729 : Index := Scalar.indexCast v2719
  let c16_693 : Index := 16#32
  ![v2729.toNat, 16]
def k1_off1233 (k1_t4 : Fin k1_t4_loop.trips) : Fin 2 → Nat :=
  let c0_i32_44 : BitVec 32 := 0#32
  let c1_i32_46 : BitVec 32 := 1#32
  let arg37 : BitVec 32 := Scf.iv c0_i32_44 c1_i32_46 k1_t4
  let c16_i32_690 : BitVec 32 := 16#32
  let v2718 : BitVec 32 := Scalar.muli arg37 c16_i32_690
  let c9_i32 : BitVec 32 := 9#32
  let v2719 : BitVec 32 := Scalar.addi v2718 c9_i32
  let v2737 : Index := Scalar.indexCast v2719
  let c32_695 : Index := 32#32
  ![v2737.toNat, 32]
def k1_off1234 (k1_t4 : Fin k1_t4_loop.trips) : Fin 2 → Nat :=
  let c0_i32_44 : BitVec 32 := 0#32
  let c1_i32_46 : BitVec 32 := 1#32
  let arg37 : BitVec 32 := Scf.iv c0_i32_44 c1_i32_46 k1_t4
  let c16_i32_690 : BitVec 32 := 16#32
  let v2718 : BitVec 32 := Scalar.muli arg37 c16_i32_690
  let c9_i32 : BitVec 32 := 9#32
  let v2719 : BitVec 32 := Scalar.addi v2718 c9_i32
  let v2745 : Index := Scalar.indexCast v2719
  let c48_697 : Index := 48#32
  ![v2745.toNat, 48]
def k1_off1235 (k1_t4 : Fin k1_t4_loop.trips) : Fin 2 → Nat :=
  let c0_i32_44 : BitVec 32 := 0#32
  let c1_i32_46 : BitVec 32 := 1#32
  let arg37 : BitVec 32 := Scf.iv c0_i32_44 c1_i32_46 k1_t4
  let c16_i32_690 : BitVec 32 := 16#32
  let v2718 : BitVec 32 := Scalar.muli arg37 c16_i32_690
  let c9_i32 : BitVec 32 := 9#32
  let v2719 : BitVec 32 := Scalar.addi v2718 c9_i32
  let v2753 : Index := Scalar.indexCast v2719
  let c64_699 : Index := 64#32
  ![v2753.toNat, 64]
def k1_off1236 (k1_t4 : Fin k1_t4_loop.trips) : Fin 2 → Nat :=
  let c0_i32_44 : BitVec 32 := 0#32
  let c1_i32_46 : BitVec 32 := 1#32
  let arg37 : BitVec 32 := Scf.iv c0_i32_44 c1_i32_46 k1_t4
  let c16_i32_690 : BitVec 32 := 16#32
  let v2718 : BitVec 32 := Scalar.muli arg37 c16_i32_690
  let c9_i32 : BitVec 32 := 9#32
  let v2719 : BitVec 32 := Scalar.addi v2718 c9_i32
  let v2761 : Index := Scalar.indexCast v2719
  let c80_701 : Index := 80#32
  ![v2761.toNat, 80]
def k1_off1237 (k1_t4 : Fin k1_t4_loop.trips) : Fin 2 → Nat :=
  let c0_i32_44 : BitVec 32 := 0#32
  let c1_i32_46 : BitVec 32 := 1#32
  let arg37 : BitVec 32 := Scf.iv c0_i32_44 c1_i32_46 k1_t4
  let c16_i32_690 : BitVec 32 := 16#32
  let v2718 : BitVec 32 := Scalar.muli arg37 c16_i32_690
  let c9_i32 : BitVec 32 := 9#32
  let v2719 : BitVec 32 := Scalar.addi v2718 c9_i32
  let v2769 : Index := Scalar.indexCast v2719
  let c96_703 : Index := 96#32
  ![v2769.toNat, 96]
def k1_off1238 (k1_t4 : Fin k1_t4_loop.trips) : Fin 2 → Nat :=
  let c0_i32_44 : BitVec 32 := 0#32
  let c1_i32_46 : BitVec 32 := 1#32
  let arg37 : BitVec 32 := Scf.iv c0_i32_44 c1_i32_46 k1_t4
  let c16_i32_690 : BitVec 32 := 16#32
  let v2718 : BitVec 32 := Scalar.muli arg37 c16_i32_690
  let c9_i32 : BitVec 32 := 9#32
  let v2719 : BitVec 32 := Scalar.addi v2718 c9_i32
  let v2777 : Index := Scalar.indexCast v2719
  let c112_705 : Index := 112#32
  ![v2777.toNat, 112]
def k1_off1239 (k1_t4 : Fin k1_t4_loop.trips) : Fin 2 → Nat :=
  let c0_i32_44 : BitVec 32 := 0#32
  let c1_i32_46 : BitVec 32 := 1#32
  let arg37 : BitVec 32 := Scf.iv c0_i32_44 c1_i32_46 k1_t4
  let c16_i32_690 : BitVec 32 := 16#32
  let v2718 : BitVec 32 := Scalar.muli arg37 c16_i32_690
  let c9_i32 : BitVec 32 := 9#32
  let v2719 : BitVec 32 := Scalar.addi v2718 c9_i32
  let v2785 : Index := Scalar.indexCast v2719
  let c128_707 : Index := 128#32
  ![v2785.toNat, 128]
def k1_off1240 (k1_t4 : Fin k1_t4_loop.trips) : Fin 2 → Nat :=
  let c0_i32_44 : BitVec 32 := 0#32
  let c1_i32_46 : BitVec 32 := 1#32
  let arg37 : BitVec 32 := Scf.iv c0_i32_44 c1_i32_46 k1_t4
  let c16_i32_690 : BitVec 32 := 16#32
  let v2718 : BitVec 32 := Scalar.muli arg37 c16_i32_690
  let c9_i32 : BitVec 32 := 9#32
  let v2719 : BitVec 32 := Scalar.addi v2718 c9_i32
  let v2793 : Index := Scalar.indexCast v2719
  let c144_709 : Index := 144#32
  ![v2793.toNat, 144]
def k1_off1241 (k1_t4 : Fin k1_t4_loop.trips) : Fin 2 → Nat :=
  let c0_i32_44 : BitVec 32 := 0#32
  let c1_i32_46 : BitVec 32 := 1#32
  let arg37 : BitVec 32 := Scf.iv c0_i32_44 c1_i32_46 k1_t4
  let c16_i32_690 : BitVec 32 := 16#32
  let v2718 : BitVec 32 := Scalar.muli arg37 c16_i32_690
  let c9_i32 : BitVec 32 := 9#32
  let v2719 : BitVec 32 := Scalar.addi v2718 c9_i32
  let v2801 : Index := Scalar.indexCast v2719
  let c160_711 : Index := 160#32
  ![v2801.toNat, 160]
def k1_off1242 (k1_t4 : Fin k1_t4_loop.trips) : Fin 2 → Nat :=
  let c0_i32_44 : BitVec 32 := 0#32
  let c1_i32_46 : BitVec 32 := 1#32
  let arg37 : BitVec 32 := Scf.iv c0_i32_44 c1_i32_46 k1_t4
  let c16_i32_690 : BitVec 32 := 16#32
  let v2718 : BitVec 32 := Scalar.muli arg37 c16_i32_690
  let c9_i32 : BitVec 32 := 9#32
  let v2719 : BitVec 32 := Scalar.addi v2718 c9_i32
  let v2809 : Index := Scalar.indexCast v2719
  let c176_713 : Index := 176#32
  ![v2809.toNat, 176]
def k1_off1243 (k1_t4 : Fin k1_t4_loop.trips) : Fin 2 → Nat :=
  let c0_i32_44 : BitVec 32 := 0#32
  let c1_i32_46 : BitVec 32 := 1#32
  let arg37 : BitVec 32 := Scf.iv c0_i32_44 c1_i32_46 k1_t4
  let c16_i32_690 : BitVec 32 := 16#32
  let v2718 : BitVec 32 := Scalar.muli arg37 c16_i32_690
  let c9_i32 : BitVec 32 := 9#32
  let v2719 : BitVec 32 := Scalar.addi v2718 c9_i32
  let v2817 : Index := Scalar.indexCast v2719
  let c192_715 : Index := 192#32
  ![v2817.toNat, 192]
def k1_off1244 (k1_t4 : Fin k1_t4_loop.trips) : Fin 2 → Nat :=
  let c0_i32_44 : BitVec 32 := 0#32
  let c1_i32_46 : BitVec 32 := 1#32
  let arg37 : BitVec 32 := Scf.iv c0_i32_44 c1_i32_46 k1_t4
  let c16_i32_690 : BitVec 32 := 16#32
  let v2718 : BitVec 32 := Scalar.muli arg37 c16_i32_690
  let c9_i32 : BitVec 32 := 9#32
  let v2719 : BitVec 32 := Scalar.addi v2718 c9_i32
  let v2825 : Index := Scalar.indexCast v2719
  let c208_717 : Index := 208#32
  ![v2825.toNat, 208]
def k1_off1245 (k1_t4 : Fin k1_t4_loop.trips) : Fin 2 → Nat :=
  let c0_i32_44 : BitVec 32 := 0#32
  let c1_i32_46 : BitVec 32 := 1#32
  let arg37 : BitVec 32 := Scf.iv c0_i32_44 c1_i32_46 k1_t4
  let c16_i32_690 : BitVec 32 := 16#32
  let v2718 : BitVec 32 := Scalar.muli arg37 c16_i32_690
  let c9_i32 : BitVec 32 := 9#32
  let v2719 : BitVec 32 := Scalar.addi v2718 c9_i32
  let v2833 : Index := Scalar.indexCast v2719
  let c224_719 : Index := 224#32
  ![v2833.toNat, 224]
def k1_off1246 (k1_t4 : Fin k1_t4_loop.trips) : Fin 2 → Nat :=
  let c0_i32_44 : BitVec 32 := 0#32
  let c1_i32_46 : BitVec 32 := 1#32
  let arg37 : BitVec 32 := Scf.iv c0_i32_44 c1_i32_46 k1_t4
  let c16_i32_690 : BitVec 32 := 16#32
  let v2718 : BitVec 32 := Scalar.muli arg37 c16_i32_690
  let c9_i32 : BitVec 32 := 9#32
  let v2719 : BitVec 32 := Scalar.addi v2718 c9_i32
  let v2841 : Index := Scalar.indexCast v2719
  let c240_721 : Index := 240#32
  ![v2841.toNat, 240]
def k1_off1247 (k1_t4 : Fin k1_t4_loop.trips) : Fin 2 → Nat :=
  let c0_i32_44 : BitVec 32 := 0#32
  let c1_i32_46 : BitVec 32 := 1#32
  let arg37 : BitVec 32 := Scf.iv c0_i32_44 c1_i32_46 k1_t4
  let c16_i32_690 : BitVec 32 := 16#32
  let v2718 : BitVec 32 := Scalar.muli arg37 c16_i32_690
  let c9_i32 : BitVec 32 := 9#32
  let v2719 : BitVec 32 := Scalar.addi v2718 c9_i32
  let v2849 : Index := Scalar.indexCast v2719
  let c256_723 : Index := 256#32
  ![v2849.toNat, 256]
def k1_off1248 (k1_t4 : Fin k1_t4_loop.trips) : Fin 2 → Nat :=
  let c0_i32_44 : BitVec 32 := 0#32
  let c1_i32_46 : BitVec 32 := 1#32
  let arg37 : BitVec 32 := Scf.iv c0_i32_44 c1_i32_46 k1_t4
  let c16_i32_690 : BitVec 32 := 16#32
  let v2718 : BitVec 32 := Scalar.muli arg37 c16_i32_690
  let c9_i32 : BitVec 32 := 9#32
  let v2719 : BitVec 32 := Scalar.addi v2718 c9_i32
  let v2857 : Index := Scalar.indexCast v2719
  let c272_725 : Index := 272#32
  ![v2857.toNat, 272]
def k1_off1249 (k1_t4 : Fin k1_t4_loop.trips) : Fin 2 → Nat :=
  let c0_i32_44 : BitVec 32 := 0#32
  let c1_i32_46 : BitVec 32 := 1#32
  let arg37 : BitVec 32 := Scf.iv c0_i32_44 c1_i32_46 k1_t4
  let c16_i32_690 : BitVec 32 := 16#32
  let v2718 : BitVec 32 := Scalar.muli arg37 c16_i32_690
  let c9_i32 : BitVec 32 := 9#32
  let v2719 : BitVec 32 := Scalar.addi v2718 c9_i32
  let v2865 : Index := Scalar.indexCast v2719
  let c288_727 : Index := 288#32
  ![v2865.toNat, 288]
def k1_off1250 (k1_t4 : Fin k1_t4_loop.trips) : Fin 2 → Nat :=
  let c0_i32_44 : BitVec 32 := 0#32
  let c1_i32_46 : BitVec 32 := 1#32
  let arg37 : BitVec 32 := Scf.iv c0_i32_44 c1_i32_46 k1_t4
  let c16_i32_690 : BitVec 32 := 16#32
  let v2718 : BitVec 32 := Scalar.muli arg37 c16_i32_690
  let c9_i32 : BitVec 32 := 9#32
  let v2719 : BitVec 32 := Scalar.addi v2718 c9_i32
  let v2873 : Index := Scalar.indexCast v2719
  let c304_729 : Index := 304#32
  ![v2873.toNat, 304]
def k1_off1251 (k1_t4 : Fin k1_t4_loop.trips) : Fin 2 → Nat :=
  let c0_i32_44 : BitVec 32 := 0#32
  let c1_i32_46 : BitVec 32 := 1#32
  let arg37 : BitVec 32 := Scf.iv c0_i32_44 c1_i32_46 k1_t4
  let c16_i32_690 : BitVec 32 := 16#32
  let v2718 : BitVec 32 := Scalar.muli arg37 c16_i32_690
  let c9_i32 : BitVec 32 := 9#32
  let v2719 : BitVec 32 := Scalar.addi v2718 c9_i32
  let v2881 : Index := Scalar.indexCast v2719
  let c320_731 : Index := 320#32
  ![v2881.toNat, 320]
def k1_off1252 (k1_t4 : Fin k1_t4_loop.trips) : Fin 2 → Nat :=
  let c0_i32_44 : BitVec 32 := 0#32
  let c1_i32_46 : BitVec 32 := 1#32
  let arg37 : BitVec 32 := Scf.iv c0_i32_44 c1_i32_46 k1_t4
  let c16_i32_690 : BitVec 32 := 16#32
  let v2718 : BitVec 32 := Scalar.muli arg37 c16_i32_690
  let c9_i32 : BitVec 32 := 9#32
  let v2719 : BitVec 32 := Scalar.addi v2718 c9_i32
  let v2889 : Index := Scalar.indexCast v2719
  let c336_733 : Index := 336#32
  ![v2889.toNat, 336]
def k1_off1253 (k1_t4 : Fin k1_t4_loop.trips) : Fin 2 → Nat :=
  let c0_i32_44 : BitVec 32 := 0#32
  let c1_i32_46 : BitVec 32 := 1#32
  let arg37 : BitVec 32 := Scf.iv c0_i32_44 c1_i32_46 k1_t4
  let c16_i32_690 : BitVec 32 := 16#32
  let v2718 : BitVec 32 := Scalar.muli arg37 c16_i32_690
  let c9_i32 : BitVec 32 := 9#32
  let v2719 : BitVec 32 := Scalar.addi v2718 c9_i32
  let v2897 : Index := Scalar.indexCast v2719
  let c352_735 : Index := 352#32
  ![v2897.toNat, 352]
def k1_off1254 (k1_t4 : Fin k1_t4_loop.trips) : Fin 2 → Nat :=
  let c0_i32_44 : BitVec 32 := 0#32
  let c1_i32_46 : BitVec 32 := 1#32
  let arg37 : BitVec 32 := Scf.iv c0_i32_44 c1_i32_46 k1_t4
  let c16_i32_690 : BitVec 32 := 16#32
  let v2718 : BitVec 32 := Scalar.muli arg37 c16_i32_690
  let c9_i32 : BitVec 32 := 9#32
  let v2719 : BitVec 32 := Scalar.addi v2718 c9_i32
  let v2905 : Index := Scalar.indexCast v2719
  let c368_737 : Index := 368#32
  ![v2905.toNat, 368]
def k1_off1255 (v2717 : BitVec 32) : Fin 2 → Nat :=
  let v2913 : Index := Scalar.indexCast v2717
  let c0_739 : Index := 0#32
  ![v2913.toNat, 0]

def k1_off1256 (v2717 : BitVec 32) : Fin 2 → Nat :=
  let v2917 : Index := Scalar.indexCast v2717
  let c16_740 : Index := 16#32
  ![v2917.toNat, 16]
def k1_off1257 (v2717 : BitVec 32) : Fin 2 → Nat :=
  let v2921 : Index := Scalar.indexCast v2717
  let c32_741 : Index := 32#32
  ![v2921.toNat, 32]
def k1_off1258 (v2717 : BitVec 32) : Fin 2 → Nat :=
  let v2925 : Index := Scalar.indexCast v2717
  let c48_742 : Index := 48#32
  ![v2925.toNat, 48]
def k1_off1259 (v2717 : BitVec 32) : Fin 2 → Nat :=
  let v2929 : Index := Scalar.indexCast v2717
  let c64_743 : Index := 64#32
  ![v2929.toNat, 64]
def k1_off1260 (v2717 : BitVec 32) : Fin 2 → Nat :=
  let v2933 : Index := Scalar.indexCast v2717
  let c80_744 : Index := 80#32
  ![v2933.toNat, 80]
def k1_off1261 (v2717 : BitVec 32) : Fin 2 → Nat :=
  let v2937 : Index := Scalar.indexCast v2717
  let c96_745 : Index := 96#32
  ![v2937.toNat, 96]
def k1_off1262 (v2717 : BitVec 32) : Fin 2 → Nat :=
  let v2941 : Index := Scalar.indexCast v2717
  let c112_746 : Index := 112#32
  ![v2941.toNat, 112]
def k1_off1263 (v2717 : BitVec 32) : Fin 2 → Nat :=
  let v2945 : Index := Scalar.indexCast v2717
  let c128_747 : Index := 128#32
  ![v2945.toNat, 128]
def k1_off1264 (v2717 : BitVec 32) : Fin 2 → Nat :=
  let v2949 : Index := Scalar.indexCast v2717
  let c144_748 : Index := 144#32
  ![v2949.toNat, 144]
def k1_off1265 (v2717 : BitVec 32) : Fin 2 → Nat :=
  let v2953 : Index := Scalar.indexCast v2717
  let c160_749 : Index := 160#32
  ![v2953.toNat, 160]
def k1_off1266 (v2717 : BitVec 32) : Fin 2 → Nat :=
  let v2957 : Index := Scalar.indexCast v2717
  let c176_750 : Index := 176#32
  ![v2957.toNat, 176]
def k1_off1267 (v2717 : BitVec 32) : Fin 2 → Nat :=
  let v2961 : Index := Scalar.indexCast v2717
  let c192_751 : Index := 192#32
  ![v2961.toNat, 192]
def k1_off1268 (v2717 : BitVec 32) : Fin 2 → Nat :=
  let v2965 : Index := Scalar.indexCast v2717
  let c208_752 : Index := 208#32
  ![v2965.toNat, 208]
def k1_off1269 (v2717 : BitVec 32) : Fin 2 → Nat :=
  let v2969 : Index := Scalar.indexCast v2717
  let c224_753 : Index := 224#32
  ![v2969.toNat, 224]
def k1_off1270 (v2717 : BitVec 32) : Fin 2 → Nat :=
  let v2973 : Index := Scalar.indexCast v2717
  let c240_754 : Index := 240#32
  ![v2973.toNat, 240]
def k1_off1271 (v2717 : BitVec 32) : Fin 2 → Nat :=
  let v2977 : Index := Scalar.indexCast v2717
  let c256_755 : Index := 256#32
  ![v2977.toNat, 256]
def k1_off1272 (v2717 : BitVec 32) : Fin 2 → Nat :=
  let v2981 : Index := Scalar.indexCast v2717
  let c272_756 : Index := 272#32
  ![v2981.toNat, 272]
def k1_off1273 (v2717 : BitVec 32) : Fin 2 → Nat :=
  let v2985 : Index := Scalar.indexCast v2717
  let c288_757 : Index := 288#32
  ![v2985.toNat, 288]
def k1_off1274 (v2717 : BitVec 32) : Fin 2 → Nat :=
  let v2989 : Index := Scalar.indexCast v2717
  let c304_758 : Index := 304#32
  ![v2989.toNat, 304]
def k1_off1275 (v2717 : BitVec 32) : Fin 2 → Nat :=
  let v2993 : Index := Scalar.indexCast v2717
  let c320_759 : Index := 320#32
  ![v2993.toNat, 320]
def k1_off1276 (v2717 : BitVec 32) : Fin 2 → Nat :=
  let v2997 : Index := Scalar.indexCast v2717
  let c336_760 : Index := 336#32
  ![v2997.toNat, 336]
def k1_off1277 (v2717 : BitVec 32) : Fin 2 → Nat :=
  let v3001 : Index := Scalar.indexCast v2717
  let c352_761 : Index := 352#32
  ![v3001.toNat, 352]
def k1_off1278 (v2717 : BitVec 32) : Fin 2 → Nat :=
  let v3005 : Index := Scalar.indexCast v2717
  let c368_762 : Index := 368#32
  ![v3005.toNat, 368]

def k1_chk26 (i : grid1.Coords) (v2717 : BitVec 32) : Prop :=
  (∀ (k1_h1 : k1_cond1 i = 1#1), ∀ a, (k1_off1255 v2717) a + S1x16.size a ≤ S256x384.size a) ∧
  (∀ (k1_h1 : k1_cond1 i = 1#1), ∀ a, (k1_off1256 v2717) a + S1x16.size a ≤ S256x384.size a) ∧
  (∀ (k1_h1 : k1_cond1 i = 1#1), ∀ a, (k1_off1257 v2717) a + S1x16.size a ≤ S256x384.size a) ∧
  (∀ (k1_h1 : k1_cond1 i = 1#1), ∀ a, (k1_off1258 v2717) a + S1x16.size a ≤ S256x384.size a) ∧
  (∀ (k1_h1 : k1_cond1 i = 1#1), ∀ a, (k1_off1259 v2717) a + S1x16.size a ≤ S256x384.size a) ∧
  (∀ (k1_h1 : k1_cond1 i = 1#1), ∀ a, (k1_off1260 v2717) a + S1x16.size a ≤ S256x384.size a) ∧
  (∀ (k1_h1 : k1_cond1 i = 1#1), ∀ a, (k1_off1261 v2717) a + S1x16.size a ≤ S256x384.size a) ∧
  (∀ (k1_h1 : k1_cond1 i = 1#1), ∀ a, (k1_off1262 v2717) a + S1x16.size a ≤ S256x384.size a) ∧
  (∀ (k1_h1 : k1_cond1 i = 1#1), ∀ a, (k1_off1263 v2717) a + S1x16.size a ≤ S256x384.size a) ∧
  (∀ (k1_h1 : k1_cond1 i = 1#1), ∀ a, (k1_off1264 v2717) a + S1x16.size a ≤ S256x384.size a) ∧
  (∀ (k1_h1 : k1_cond1 i = 1#1), ∀ a, (k1_off1265 v2717) a + S1x16.size a ≤ S256x384.size a) ∧
  (∀ (k1_h1 : k1_cond1 i = 1#1), ∀ a, (k1_off1266 v2717) a + S1x16.size a ≤ S256x384.size a) ∧
  (∀ (k1_h1 : k1_cond1 i = 1#1), ∀ a, (k1_off1267 v2717) a + S1x16.size a ≤ S256x384.size a) ∧
  (∀ (k1_h1 : k1_cond1 i = 1#1), ∀ a, (k1_off1268 v2717) a + S1x16.size a ≤ S256x384.size a) ∧
  (∀ (k1_h1 : k1_cond1 i = 1#1), ∀ a, (k1_off1269 v2717) a + S1x16.size a ≤ S256x384.size a) ∧
  (∀ (k1_h1 : k1_cond1 i = 1#1), ∀ a, (k1_off1270 v2717) a + S1x16.size a ≤ S256x384.size a) ∧
  (∀ (k1_h1 : k1_cond1 i = 1#1), ∀ a, (k1_off1271 v2717) a + S1x16.size a ≤ S256x384.size a) ∧
  (∀ (k1_h1 : k1_cond1 i = 1#1), ∀ a, (k1_off1272 v2717) a + S1x16.size a ≤ S256x384.size a) ∧
  (∀ (k1_h1 : k1_cond1 i = 1#1), ∀ a, (k1_off1273 v2717) a + S1x16.size a ≤ S256x384.size a) ∧
  (∀ (k1_h1 : k1_cond1 i = 1#1), ∀ a, (k1_off1274 v2717) a + S1x16.size a ≤ S256x384.size a) ∧
  (∀ (k1_h1 : k1_cond1 i = 1#1), ∀ a, (k1_off1275 v2717) a + S1x16.size a ≤ S256x384.size a) ∧
  (∀ (k1_h1 : k1_cond1 i = 1#1), ∀ a, (k1_off1276 v2717) a + S1x16.size a ≤ S256x384.size a) ∧
  (∀ (k1_h1 : k1_cond1 i = 1#1), ∀ a, (k1_off1277 v2717) a + S1x16.size a ≤ S256x384.size a) ∧
  (∀ (k1_h1 : k1_cond1 i = 1#1), ∀ a, (k1_off1278 v2717) a + S1x16.size a ≤ S256x384.size a)
theorem k1_off1255_inb : ∀ (i : grid1.Coords) (v2717 : BitVec 32) (k1_hw26 : k1_chk26 i v2717), ∀ (k1_h1 : k1_cond1 i = 1#1), ∀ a, (k1_off1255 v2717) a + S1x16.size a ≤ S256x384.size a := fun i v2717 k1_hw26 k1_h1 => k1_hw26.1 k1_h1
theorem k1_off1256_inb : ∀ (i : grid1.Coords) (v2717 : BitVec 32) (k1_hw26 : k1_chk26 i v2717), ∀ (k1_h1 : k1_cond1 i = 1#1), ∀ a, (k1_off1256 v2717) a + S1x16.size a ≤ S256x384.size a := fun i v2717 k1_hw26 k1_h1 => k1_hw26.2.1 k1_h1
theorem k1_off1257_inb : ∀ (i : grid1.Coords) (v2717 : BitVec 32) (k1_hw26 : k1_chk26 i v2717), ∀ (k1_h1 : k1_cond1 i = 1#1), ∀ a, (k1_off1257 v2717) a + S1x16.size a ≤ S256x384.size a := fun i v2717 k1_hw26 k1_h1 => k1_hw26.2.2.1 k1_h1
theorem k1_off1258_inb : ∀ (i : grid1.Coords) (v2717 : BitVec 32) (k1_hw26 : k1_chk26 i v2717), ∀ (k1_h1 : k1_cond1 i = 1#1), ∀ a, (k1_off1258 v2717) a + S1x16.size a ≤ S256x384.size a := fun i v2717 k1_hw26 k1_h1 => k1_hw26.2.2.2.1 k1_h1
theorem k1_off1259_inb : ∀ (i : grid1.Coords) (v2717 : BitVec 32) (k1_hw26 : k1_chk26 i v2717), ∀ (k1_h1 : k1_cond1 i = 1#1), ∀ a, (k1_off1259 v2717) a + S1x16.size a ≤ S256x384.size a := fun i v2717 k1_hw26 k1_h1 => k1_hw26.2.2.2.2.1 k1_h1
theorem k1_off1260_inb : ∀ (i : grid1.Coords) (v2717 : BitVec 32) (k1_hw26 : k1_chk26 i v2717), ∀ (k1_h1 : k1_cond1 i = 1#1), ∀ a, (k1_off1260 v2717) a + S1x16.size a ≤ S256x384.size a := fun i v2717 k1_hw26 k1_h1 => k1_hw26.2.2.2.2.2.1 k1_h1
theorem k1_off1261_inb : ∀ (i : grid1.Coords) (v2717 : BitVec 32) (k1_hw26 : k1_chk26 i v2717), ∀ (k1_h1 : k1_cond1 i = 1#1), ∀ a, (k1_off1261 v2717) a + S1x16.size a ≤ S256x384.size a := fun i v2717 k1_hw26 k1_h1 => k1_hw26.2.2.2.2.2.2.1 k1_h1
theorem k1_off1262_inb : ∀ (i : grid1.Coords) (v2717 : BitVec 32) (k1_hw26 : k1_chk26 i v2717), ∀ (k1_h1 : k1_cond1 i = 1#1), ∀ a, (k1_off1262 v2717) a + S1x16.size a ≤ S256x384.size a := fun i v2717 k1_hw26 k1_h1 => k1_hw26.2.2.2.2.2.2.2.1 k1_h1
theorem k1_off1263_inb : ∀ (i : grid1.Coords) (v2717 : BitVec 32) (k1_hw26 : k1_chk26 i v2717), ∀ (k1_h1 : k1_cond1 i = 1#1), ∀ a, (k1_off1263 v2717) a + S1x16.size a ≤ S256x384.size a := fun i v2717 k1_hw26 k1_h1 => k1_hw26.2.2.2.2.2.2.2.2.1 k1_h1
theorem k1_off1264_inb : ∀ (i : grid1.Coords) (v2717 : BitVec 32) (k1_hw26 : k1_chk26 i v2717), ∀ (k1_h1 : k1_cond1 i = 1#1), ∀ a, (k1_off1264 v2717) a + S1x16.size a ≤ S256x384.size a := fun i v2717 k1_hw26 k1_h1 => k1_hw26.2.2.2.2.2.2.2.2.2.1 k1_h1
theorem k1_off1265_inb : ∀ (i : grid1.Coords) (v2717 : BitVec 32) (k1_hw26 : k1_chk26 i v2717), ∀ (k1_h1 : k1_cond1 i = 1#1), ∀ a, (k1_off1265 v2717) a + S1x16.size a ≤ S256x384.size a := fun i v2717 k1_hw26 k1_h1 => k1_hw26.2.2.2.2.2.2.2.2.2.2.1 k1_h1
theorem k1_off1266_inb : ∀ (i : grid1.Coords) (v2717 : BitVec 32) (k1_hw26 : k1_chk26 i v2717), ∀ (k1_h1 : k1_cond1 i = 1#1), ∀ a, (k1_off1266 v2717) a + S1x16.size a ≤ S256x384.size a := fun i v2717 k1_hw26 k1_h1 => k1_hw26.2.2.2.2.2.2.2.2.2.2.2.1 k1_h1
theorem k1_off1267_inb : ∀ (i : grid1.Coords) (v2717 : BitVec 32) (k1_hw26 : k1_chk26 i v2717), ∀ (k1_h1 : k1_cond1 i = 1#1), ∀ a, (k1_off1267 v2717) a + S1x16.size a ≤ S256x384.size a := fun i v2717 k1_hw26 k1_h1 => k1_hw26.2.2.2.2.2.2.2.2.2.2.2.2.1 k1_h1
theorem k1_off1268_inb : ∀ (i : grid1.Coords) (v2717 : BitVec 32) (k1_hw26 : k1_chk26 i v2717), ∀ (k1_h1 : k1_cond1 i = 1#1), ∀ a, (k1_off1268 v2717) a + S1x16.size a ≤ S256x384.size a := fun i v2717 k1_hw26 k1_h1 => k1_hw26.2.2.2.2.2.2.2.2.2.2.2.2.2.1 k1_h1
theorem k1_off1269_inb : ∀ (i : grid1.Coords) (v2717 : BitVec 32) (k1_hw26 : k1_chk26 i v2717), ∀ (k1_h1 : k1_cond1 i = 1#1), ∀ a, (k1_off1269 v2717) a + S1x16.size a ≤ S256x384.size a := fun i v2717 k1_hw26 k1_h1 => k1_hw26.2.2.2.2.2.2.2.2.2.2.2.2.2.2.1 k1_h1
theorem k1_off1270_inb : ∀ (i : grid1.Coords) (v2717 : BitVec 32) (k1_hw26 : k1_chk26 i v2717), ∀ (k1_h1 : k1_cond1 i = 1#1), ∀ a, (k1_off1270 v2717) a + S1x16.size a ≤ S256x384.size a := fun i v2717 k1_hw26 k1_h1 => k1_hw26.2.2.2.2.2.2.2.2.2.2.2.2.2.2.2.1 k1_h1
theorem k1_off1271_inb : ∀ (i : grid1.Coords) (v2717 : BitVec 32) (k1_hw26 : k1_chk26 i v2717), ∀ (k1_h1 : k1_cond1 i = 1#1), ∀ a, (k1_off1271 v2717) a + S1x16.size a ≤ S256x384.size a := fun i v2717 k1_hw26 k1_h1 => k1_hw26.2.2.2.2.2.2.2.2.2.2.2.2.2.2.2.2.1 k1_h1
theorem k1_off1272_inb : ∀ (i : grid1.Coords) (v2717 : BitVec 32) (k1_hw26 : k1_chk26 i v2717), ∀ (k1_h1 : k1_cond1 i = 1#1), ∀ a, (k1_off1272 v2717) a + S1x16.size a ≤ S256x384.size a := fun i v2717 k1_hw26 k1_h1 => k1_hw26.2.2.2.2.2.2.2.2.2.2.2.2.2.2.2.2.2.1 k1_h1
theorem k1_off1273_inb : ∀ (i : grid1.Coords) (v2717 : BitVec 32) (k1_hw26 : k1_chk26 i v2717), ∀ (k1_h1 : k1_cond1 i = 1#1), ∀ a, (k1_off1273 v2717) a + S1x16.size a ≤ S256x384.size a := fun i v2717 k1_hw26 k1_h1 => k1_hw26.2.2.2.2.2.2.2.2.2.2.2.2.2.2.2.2.2.2.1 k1_h1
theorem k1_off1274_inb : ∀ (i : grid1.Coords) (v2717 : BitVec 32) (k1_hw26 : k1_chk26 i v2717), ∀ (k1_h1 : k1_cond1 i = 1#1), ∀ a, (k1_off1274 v2717) a + S1x16.size a ≤ S256x384.size a := fun i v2717 k1_hw26 k1_h1 => k1_hw26.2.2.2.2.2.2.2.2.2.2.2.2.2.2.2.2.2.2.2.1 k1_h1
theorem k1_off1275_inb : ∀ (i : grid1.Coords) (v2717 : BitVec 32) (k1_hw26 : k1_chk26 i v2717), ∀ (k1_h1 : k1_cond1 i = 1#1), ∀ a, (k1_off1275 v2717) a + S1x16.size a ≤ S256x384.size a := fun i v2717 k1_hw26 k1_h1 => k1_hw26.2.2.2.2.2.2.2.2.2.2.2.2.2.2.2.2.2.2.2.2.1 k1_h1
theorem k1_off1276_inb : ∀ (i : grid1.Coords) (v2717 : BitVec 32) (k1_hw26 : k1_chk26 i v2717), ∀ (k1_h1 : k1_cond1 i = 1#1), ∀ a, (k1_off1276 v2717) a + S1x16.size a ≤ S256x384.size a := fun i v2717 k1_hw26 k1_h1 => k1_hw26.2.2.2.2.2.2.2.2.2.2.2.2.2.2.2.2.2.2.2.2.2.1 k1_h1
theorem k1_off1277_inb : ∀ (i : grid1.Coords) (v2717 : BitVec 32) (k1_hw26 : k1_chk26 i v2717), ∀ (k1_h1 : k1_cond1 i = 1#1), ∀ a, (k1_off1277 v2717) a + S1x16.size a ≤ S256x384.size a := fun i v2717 k1_hw26 k1_h1 => k1_hw26.2.2.2.2.2.2.2.2.2.2.2.2.2.2.2.2.2.2.2.2.2.2.1 k1_h1
theorem k1_off1278_inb : ∀ (i : grid1.Coords) (v2717 : BitVec 32) (k1_hw26 : k1_chk26 i v2717), ∀ (k1_h1 : k1_cond1 i = 1#1), ∀ a, (k1_off1278 v2717) a + S1x16.size a ≤ S256x384.size a := fun i v2717 k1_hw26 k1_h1 => k1_hw26.2.2.2.2.2.2.2.2.2.2.2.2.2.2.2.2.2.2.2.2.2.2.2 k1_h1

def k1_off1279 (k1_t4 : Fin k1_t4_loop.trips) : Fin 2 → Nat :=
  let c0_i32_44 : BitVec 32 := 0#32
  let c1_i32_46 : BitVec 32 := 1#32
  let arg37 : BitVec 32 := Scf.iv c0_i32_44 c1_i32_46 k1_t4
  let c16_i32_763 : BitVec 32 := 16#32
  let v3011 : BitVec 32 := Scalar.muli arg37 c16_i32_763
  let c10_i32 : BitVec 32 := 10#32
  let v3012 : BitVec 32 := Scalar.addi v3011 c10_i32
  let v3014 : Index := Scalar.indexCast v3012
  let c0_764 : Index := 0#32
  ![v3014.toNat, 0]
def k1_off1280 (k1_t4 : Fin k1_t4_loop.trips) : Fin 2 → Nat :=
  let c0_i32_44 : BitVec 32 := 0#32
  let c1_i32_46 : BitVec 32 := 1#32
  let arg37 : BitVec 32 := Scf.iv c0_i32_44 c1_i32_46 k1_t4
  let c16_i32_763 : BitVec 32 := 16#32
  let v3011 : BitVec 32 := Scalar.muli arg37 c16_i32_763
  let c10_i32 : BitVec 32 := 10#32
  let v3012 : BitVec 32 := Scalar.addi v3011 c10_i32
  let v3022 : Index := Scalar.indexCast v3012
  let c16_766 : Index := 16#32
  ![v3022.toNat, 16]
def k1_off1281 (k1_t4 : Fin k1_t4_loop.trips) : Fin 2 → Nat :=
  let c0_i32_44 : BitVec 32 := 0#32
  let c1_i32_46 : BitVec 32 := 1#32
  let arg37 : BitVec 32 := Scf.iv c0_i32_44 c1_i32_46 k1_t4
  let c16_i32_763 : BitVec 32 := 16#32
  let v3011 : BitVec 32 := Scalar.muli arg37 c16_i32_763
  let c10_i32 : BitVec 32 := 10#32
  let v3012 : BitVec 32 := Scalar.addi v3011 c10_i32
  let v3030 : Index := Scalar.indexCast v3012
  let c32_768 : Index := 32#32
  ![v3030.toNat, 32]
def k1_off1282 (k1_t4 : Fin k1_t4_loop.trips) : Fin 2 → Nat :=
  let c0_i32_44 : BitVec 32 := 0#32
  let c1_i32_46 : BitVec 32 := 1#32
  let arg37 : BitVec 32 := Scf.iv c0_i32_44 c1_i32_46 k1_t4
  let c16_i32_763 : BitVec 32 := 16#32
  let v3011 : BitVec 32 := Scalar.muli arg37 c16_i32_763
  let c10_i32 : BitVec 32 := 10#32
  let v3012 : BitVec 32 := Scalar.addi v3011 c10_i32
  let v3038 : Index := Scalar.indexCast v3012
  let c48_770 : Index := 48#32
  ![v3038.toNat, 48]
def k1_off1283 (k1_t4 : Fin k1_t4_loop.trips) : Fin 2 → Nat :=
  let c0_i32_44 : BitVec 32 := 0#32
  let c1_i32_46 : BitVec 32 := 1#32
  let arg37 : BitVec 32 := Scf.iv c0_i32_44 c1_i32_46 k1_t4
  let c16_i32_763 : BitVec 32 := 16#32
  let v3011 : BitVec 32 := Scalar.muli arg37 c16_i32_763
  let c10_i32 : BitVec 32 := 10#32
  let v3012 : BitVec 32 := Scalar.addi v3011 c10_i32
  let v3046 : Index := Scalar.indexCast v3012
  let c64_772 : Index := 64#32
  ![v3046.toNat, 64]
def k1_off1284 (k1_t4 : Fin k1_t4_loop.trips) : Fin 2 → Nat :=
  let c0_i32_44 : BitVec 32 := 0#32
  let c1_i32_46 : BitVec 32 := 1#32
  let arg37 : BitVec 32 := Scf.iv c0_i32_44 c1_i32_46 k1_t4
  let c16_i32_763 : BitVec 32 := 16#32
  let v3011 : BitVec 32 := Scalar.muli arg37 c16_i32_763
  let c10_i32 : BitVec 32 := 10#32
  let v3012 : BitVec 32 := Scalar.addi v3011 c10_i32
  let v3054 : Index := Scalar.indexCast v3012
  let c80_774 : Index := 80#32
  ![v3054.toNat, 80]
def k1_off1285 (k1_t4 : Fin k1_t4_loop.trips) : Fin 2 → Nat :=
  let c0_i32_44 : BitVec 32 := 0#32
  let c1_i32_46 : BitVec 32 := 1#32
  let arg37 : BitVec 32 := Scf.iv c0_i32_44 c1_i32_46 k1_t4
  let c16_i32_763 : BitVec 32 := 16#32
  let v3011 : BitVec 32 := Scalar.muli arg37 c16_i32_763
  let c10_i32 : BitVec 32 := 10#32
  let v3012 : BitVec 32 := Scalar.addi v3011 c10_i32
  let v3062 : Index := Scalar.indexCast v3012
  let c96_776 : Index := 96#32
  ![v3062.toNat, 96]
def k1_off1286 (k1_t4 : Fin k1_t4_loop.trips) : Fin 2 → Nat :=
  let c0_i32_44 : BitVec 32 := 0#32
  let c1_i32_46 : BitVec 32 := 1#32
  let arg37 : BitVec 32 := Scf.iv c0_i32_44 c1_i32_46 k1_t4
  let c16_i32_763 : BitVec 32 := 16#32
  let v3011 : BitVec 32 := Scalar.muli arg37 c16_i32_763
  let c10_i32 : BitVec 32 := 10#32
  let v3012 : BitVec 32 := Scalar.addi v3011 c10_i32
  let v3070 : Index := Scalar.indexCast v3012
  let c112_778 : Index := 112#32
  ![v3070.toNat, 112]
def k1_off1287 (k1_t4 : Fin k1_t4_loop.trips) : Fin 2 → Nat :=
  let c0_i32_44 : BitVec 32 := 0#32
  let c1_i32_46 : BitVec 32 := 1#32
  let arg37 : BitVec 32 := Scf.iv c0_i32_44 c1_i32_46 k1_t4
  let c16_i32_763 : BitVec 32 := 16#32
  let v3011 : BitVec 32 := Scalar.muli arg37 c16_i32_763
  let c10_i32 : BitVec 32 := 10#32
  let v3012 : BitVec 32 := Scalar.addi v3011 c10_i32
  let v3078 : Index := Scalar.indexCast v3012
  let c128_780 : Index := 128#32
  ![v3078.toNat, 128]
def k1_off1288 (k1_t4 : Fin k1_t4_loop.trips) : Fin 2 → Nat :=
  let c0_i32_44 : BitVec 32 := 0#32
  let c1_i32_46 : BitVec 32 := 1#32
  let arg37 : BitVec 32 := Scf.iv c0_i32_44 c1_i32_46 k1_t4
  let c16_i32_763 : BitVec 32 := 16#32
  let v3011 : BitVec 32 := Scalar.muli arg37 c16_i32_763
  let c10_i32 : BitVec 32 := 10#32
  let v3012 : BitVec 32 := Scalar.addi v3011 c10_i32
  let v3086 : Index := Scalar.indexCast v3012
  let c144_782 : Index := 144#32
  ![v3086.toNat, 144]
def k1_off1289 (k1_t4 : Fin k1_t4_loop.trips) : Fin 2 → Nat :=
  let c0_i32_44 : BitVec 32 := 0#32
  let c1_i32_46 : BitVec 32 := 1#32
  let arg37 : BitVec 32 := Scf.iv c0_i32_44 c1_i32_46 k1_t4
  let c16_i32_763 : BitVec 32 := 16#32
  let v3011 : BitVec 32 := Scalar.muli arg37 c16_i32_763
  let c10_i32 : BitVec 32 := 10#32
  let v3012 : BitVec 32 := Scalar.addi v3011 c10_i32
  let v3094 : Index := Scalar.indexCast v3012
  let c160_784 : Index := 160#32
  ![v3094.toNat, 160]
def k1_off1290 (k1_t4 : Fin k1_t4_loop.trips) : Fin 2 → Nat :=
  let c0_i32_44 : BitVec 32 := 0#32
  let c1_i32_46 : BitVec 32 := 1#32
  let arg37 : BitVec 32 := Scf.iv c0_i32_44 c1_i32_46 k1_t4
  let c16_i32_763 : BitVec 32 := 16#32
  let v3011 : BitVec 32 := Scalar.muli arg37 c16_i32_763
  let c10_i32 : BitVec 32 := 10#32
  let v3012 : BitVec 32 := Scalar.addi v3011 c10_i32
  let v3102 : Index := Scalar.indexCast v3012
  let c176_786 : Index := 176#32
  ![v3102.toNat, 176]
def k1_off1291 (k1_t4 : Fin k1_t4_loop.trips) : Fin 2 → Nat :=
  let c0_i32_44 : BitVec 32 := 0#32
  let c1_i32_46 : BitVec 32 := 1#32
  let arg37 : BitVec 32 := Scf.iv c0_i32_44 c1_i32_46 k1_t4
  let c16_i32_763 : BitVec 32 := 16#32
  let v3011 : BitVec 32 := Scalar.muli arg37 c16_i32_763
  let c10_i32 : BitVec 32 := 10#32
  let v3012 : BitVec 32 := Scalar.addi v3011 c10_i32
  let v3110 : Index := Scalar.indexCast v3012
  let c192_788 : Index := 192#32
  ![v3110.toNat, 192]
def k1_off1292 (k1_t4 : Fin k1_t4_loop.trips) : Fin 2 → Nat :=
  let c0_i32_44 : BitVec 32 := 0#32
  let c1_i32_46 : BitVec 32 := 1#32
  let arg37 : BitVec 32 := Scf.iv c0_i32_44 c1_i32_46 k1_t4
  let c16_i32_763 : BitVec 32 := 16#32
  let v3011 : BitVec 32 := Scalar.muli arg37 c16_i32_763
  let c10_i32 : BitVec 32 := 10#32
  let v3012 : BitVec 32 := Scalar.addi v3011 c10_i32
  let v3118 : Index := Scalar.indexCast v3012
  let c208_790 : Index := 208#32
  ![v3118.toNat, 208]
def k1_off1293 (k1_t4 : Fin k1_t4_loop.trips) : Fin 2 → Nat :=
  let c0_i32_44 : BitVec 32 := 0#32
  let c1_i32_46 : BitVec 32 := 1#32
  let arg37 : BitVec 32 := Scf.iv c0_i32_44 c1_i32_46 k1_t4
  let c16_i32_763 : BitVec 32 := 16#32
  let v3011 : BitVec 32 := Scalar.muli arg37 c16_i32_763
  let c10_i32 : BitVec 32 := 10#32
  let v3012 : BitVec 32 := Scalar.addi v3011 c10_i32
  let v3126 : Index := Scalar.indexCast v3012
  let c224_792 : Index := 224#32
  ![v3126.toNat, 224]
def k1_off1294 (k1_t4 : Fin k1_t4_loop.trips) : Fin 2 → Nat :=
  let c0_i32_44 : BitVec 32 := 0#32
  let c1_i32_46 : BitVec 32 := 1#32
  let arg37 : BitVec 32 := Scf.iv c0_i32_44 c1_i32_46 k1_t4
  let c16_i32_763 : BitVec 32 := 16#32
  let v3011 : BitVec 32 := Scalar.muli arg37 c16_i32_763
  let c10_i32 : BitVec 32 := 10#32
  let v3012 : BitVec 32 := Scalar.addi v3011 c10_i32
  let v3134 : Index := Scalar.indexCast v3012
  let c240_794 : Index := 240#32
  ![v3134.toNat, 240]
def k1_off1295 (k1_t4 : Fin k1_t4_loop.trips) : Fin 2 → Nat :=
  let c0_i32_44 : BitVec 32 := 0#32
  let c1_i32_46 : BitVec 32 := 1#32
  let arg37 : BitVec 32 := Scf.iv c0_i32_44 c1_i32_46 k1_t4
  let c16_i32_763 : BitVec 32 := 16#32
  let v3011 : BitVec 32 := Scalar.muli arg37 c16_i32_763
  let c10_i32 : BitVec 32 := 10#32
  let v3012 : BitVec 32 := Scalar.addi v3011 c10_i32
  let v3142 : Index := Scalar.indexCast v3012
  let c256_796 : Index := 256#32
  ![v3142.toNat, 256]
def k1_off1296 (k1_t4 : Fin k1_t4_loop.trips) : Fin 2 → Nat :=
  let c0_i32_44 : BitVec 32 := 0#32
  let c1_i32_46 : BitVec 32 := 1#32
  let arg37 : BitVec 32 := Scf.iv c0_i32_44 c1_i32_46 k1_t4
  let c16_i32_763 : BitVec 32 := 16#32
  let v3011 : BitVec 32 := Scalar.muli arg37 c16_i32_763
  let c10_i32 : BitVec 32 := 10#32
  let v3012 : BitVec 32 := Scalar.addi v3011 c10_i32
  let v3150 : Index := Scalar.indexCast v3012
  let c272_798 : Index := 272#32
  ![v3150.toNat, 272]
def k1_off1297 (k1_t4 : Fin k1_t4_loop.trips) : Fin 2 → Nat :=
  let c0_i32_44 : BitVec 32 := 0#32
  let c1_i32_46 : BitVec 32 := 1#32
  let arg37 : BitVec 32 := Scf.iv c0_i32_44 c1_i32_46 k1_t4
  let c16_i32_763 : BitVec 32 := 16#32
  let v3011 : BitVec 32 := Scalar.muli arg37 c16_i32_763
  let c10_i32 : BitVec 32 := 10#32
  let v3012 : BitVec 32 := Scalar.addi v3011 c10_i32
  let v3158 : Index := Scalar.indexCast v3012
  let c288_800 : Index := 288#32
  ![v3158.toNat, 288]
def k1_off1298 (k1_t4 : Fin k1_t4_loop.trips) : Fin 2 → Nat :=
  let c0_i32_44 : BitVec 32 := 0#32
  let c1_i32_46 : BitVec 32 := 1#32
  let arg37 : BitVec 32 := Scf.iv c0_i32_44 c1_i32_46 k1_t4
  let c16_i32_763 : BitVec 32 := 16#32
  let v3011 : BitVec 32 := Scalar.muli arg37 c16_i32_763
  let c10_i32 : BitVec 32 := 10#32
  let v3012 : BitVec 32 := Scalar.addi v3011 c10_i32
  let v3166 : Index := Scalar.indexCast v3012
  let c304_802 : Index := 304#32
  ![v3166.toNat, 304]
def k1_off1299 (k1_t4 : Fin k1_t4_loop.trips) : Fin 2 → Nat :=
  let c0_i32_44 : BitVec 32 := 0#32
  let c1_i32_46 : BitVec 32 := 1#32
  let arg37 : BitVec 32 := Scf.iv c0_i32_44 c1_i32_46 k1_t4
  let c16_i32_763 : BitVec 32 := 16#32
  let v3011 : BitVec 32 := Scalar.muli arg37 c16_i32_763
  let c10_i32 : BitVec 32 := 10#32
  let v3012 : BitVec 32 := Scalar.addi v3011 c10_i32
  let v3174 : Index := Scalar.indexCast v3012
  let c320_804 : Index := 320#32
  ![v3174.toNat, 320]
def k1_off1300 (k1_t4 : Fin k1_t4_loop.trips) : Fin 2 → Nat :=
  let c0_i32_44 : BitVec 32 := 0#32
  let c1_i32_46 : BitVec 32 := 1#32
  let arg37 : BitVec 32 := Scf.iv c0_i32_44 c1_i32_46 k1_t4
  let c16_i32_763 : BitVec 32 := 16#32
  let v3011 : BitVec 32 := Scalar.muli arg37 c16_i32_763
  let c10_i32 : BitVec 32 := 10#32
  let v3012 : BitVec 32 := Scalar.addi v3011 c10_i32
  let v3182 : Index := Scalar.indexCast v3012
  let c336_806 : Index := 336#32
  ![v3182.toNat, 336]
def k1_off1301 (k1_t4 : Fin k1_t4_loop.trips) : Fin 2 → Nat :=
  let c0_i32_44 : BitVec 32 := 0#32
  let c1_i32_46 : BitVec 32 := 1#32
  let arg37 : BitVec 32 := Scf.iv c0_i32_44 c1_i32_46 k1_t4
  let c16_i32_763 : BitVec 32 := 16#32
  let v3011 : BitVec 32 := Scalar.muli arg37 c16_i32_763
  let c10_i32 : BitVec 32 := 10#32
  let v3012 : BitVec 32 := Scalar.addi v3011 c10_i32
  let v3190 : Index := Scalar.indexCast v3012
  let c352_808 : Index := 352#32
  ![v3190.toNat, 352]
def k1_off1302 (k1_t4 : Fin k1_t4_loop.trips) : Fin 2 → Nat :=
  let c0_i32_44 : BitVec 32 := 0#32
  let c1_i32_46 : BitVec 32 := 1#32
  let arg37 : BitVec 32 := Scf.iv c0_i32_44 c1_i32_46 k1_t4
  let c16_i32_763 : BitVec 32 := 16#32
  let v3011 : BitVec 32 := Scalar.muli arg37 c16_i32_763
  let c10_i32 : BitVec 32 := 10#32
  let v3012 : BitVec 32 := Scalar.addi v3011 c10_i32
  let v3198 : Index := Scalar.indexCast v3012
  let c368_810 : Index := 368#32
  ![v3198.toNat, 368]
def k1_off1303 (v3010 : BitVec 32) : Fin 2 → Nat :=
  let v3206 : Index := Scalar.indexCast v3010
  let c0_812 : Index := 0#32
  ![v3206.toNat, 0]

def k1_off1304 (v3010 : BitVec 32) : Fin 2 → Nat :=
  let v3210 : Index := Scalar.indexCast v3010
  let c16_813 : Index := 16#32
  ![v3210.toNat, 16]
def k1_off1305 (v3010 : BitVec 32) : Fin 2 → Nat :=
  let v3214 : Index := Scalar.indexCast v3010
  let c32_814 : Index := 32#32
  ![v3214.toNat, 32]
def k1_off1306 (v3010 : BitVec 32) : Fin 2 → Nat :=
  let v3218 : Index := Scalar.indexCast v3010
  let c48_815 : Index := 48#32
  ![v3218.toNat, 48]
def k1_off1307 (v3010 : BitVec 32) : Fin 2 → Nat :=
  let v3222 : Index := Scalar.indexCast v3010
  let c64_816 : Index := 64#32
  ![v3222.toNat, 64]
def k1_off1308 (v3010 : BitVec 32) : Fin 2 → Nat :=
  let v3226 : Index := Scalar.indexCast v3010
  let c80_817 : Index := 80#32
  ![v3226.toNat, 80]
def k1_off1309 (v3010 : BitVec 32) : Fin 2 → Nat :=
  let v3230 : Index := Scalar.indexCast v3010
  let c96_818 : Index := 96#32
  ![v3230.toNat, 96]
def k1_off1310 (v3010 : BitVec 32) : Fin 2 → Nat :=
  let v3234 : Index := Scalar.indexCast v3010
  let c112_819 : Index := 112#32
  ![v3234.toNat, 112]
def k1_off1311 (v3010 : BitVec 32) : Fin 2 → Nat :=
  let v3238 : Index := Scalar.indexCast v3010
  let c128_820 : Index := 128#32
  ![v3238.toNat, 128]
def k1_off1312 (v3010 : BitVec 32) : Fin 2 → Nat :=
  let v3242 : Index := Scalar.indexCast v3010
  let c144_821 : Index := 144#32
  ![v3242.toNat, 144]
def k1_off1313 (v3010 : BitVec 32) : Fin 2 → Nat :=
  let v3246 : Index := Scalar.indexCast v3010
  let c160_822 : Index := 160#32
  ![v3246.toNat, 160]
def k1_off1314 (v3010 : BitVec 32) : Fin 2 → Nat :=
  let v3250 : Index := Scalar.indexCast v3010
  let c176_823 : Index := 176#32
  ![v3250.toNat, 176]
def k1_off1315 (v3010 : BitVec 32) : Fin 2 → Nat :=
  let v3254 : Index := Scalar.indexCast v3010
  let c192_824 : Index := 192#32
  ![v3254.toNat, 192]
def k1_off1316 (v3010 : BitVec 32) : Fin 2 → Nat :=
  let v3258 : Index := Scalar.indexCast v3010
  let c208_825 : Index := 208#32
  ![v3258.toNat, 208]
def k1_off1317 (v3010 : BitVec 32) : Fin 2 → Nat :=
  let v3262 : Index := Scalar.indexCast v3010
  let c224_826 : Index := 224#32
  ![v3262.toNat, 224]
def k1_off1318 (v3010 : BitVec 32) : Fin 2 → Nat :=
  let v3266 : Index := Scalar.indexCast v3010
  let c240_827 : Index := 240#32
  ![v3266.toNat, 240]
def k1_off1319 (v3010 : BitVec 32) : Fin 2 → Nat :=
  let v3270 : Index := Scalar.indexCast v3010
  let c256_828 : Index := 256#32
  ![v3270.toNat, 256]
def k1_off1320 (v3010 : BitVec 32) : Fin 2 → Nat :=
  let v3274 : Index := Scalar.indexCast v3010
  let c272_829 : Index := 272#32
  ![v3274.toNat, 272]
def k1_off1321 (v3010 : BitVec 32) : Fin 2 → Nat :=
  let v3278 : Index := Scalar.indexCast v3010
  let c288_830 : Index := 288#32
  ![v3278.toNat, 288]
def k1_off1322 (v3010 : BitVec 32) : Fin 2 → Nat :=
  let v3282 : Index := Scalar.indexCast v3010
  let c304_831 : Index := 304#32
  ![v3282.toNat, 304]
def k1_off1323 (v3010 : BitVec 32) : Fin 2 → Nat :=
  let v3286 : Index := Scalar.indexCast v3010
  let c320_832 : Index := 320#32
  ![v3286.toNat, 320]
def k1_off1324 (v3010 : BitVec 32) : Fin 2 → Nat :=
  let v3290 : Index := Scalar.indexCast v3010
  let c336_833 : Index := 336#32
  ![v3290.toNat, 336]
def k1_off1325 (v3010 : BitVec 32) : Fin 2 → Nat :=
  let v3294 : Index := Scalar.indexCast v3010
  let c352_834 : Index := 352#32
  ![v3294.toNat, 352]
def k1_off1326 (v3010 : BitVec 32) : Fin 2 → Nat :=
  let v3298 : Index := Scalar.indexCast v3010
  let c368_835 : Index := 368#32
  ![v3298.toNat, 368]

def k1_chk27 (i : grid1.Coords) (v3010 : BitVec 32) : Prop :=
  (∀ (k1_h1 : k1_cond1 i = 1#1), ∀ a, (k1_off1303 v3010) a + S1x16.size a ≤ S256x384.size a) ∧
  (∀ (k1_h1 : k1_cond1 i = 1#1), ∀ a, (k1_off1304 v3010) a + S1x16.size a ≤ S256x384.size a) ∧
  (∀ (k1_h1 : k1_cond1 i = 1#1), ∀ a, (k1_off1305 v3010) a + S1x16.size a ≤ S256x384.size a) ∧
  (∀ (k1_h1 : k1_cond1 i = 1#1), ∀ a, (k1_off1306 v3010) a + S1x16.size a ≤ S256x384.size a) ∧
  (∀ (k1_h1 : k1_cond1 i = 1#1), ∀ a, (k1_off1307 v3010) a + S1x16.size a ≤ S256x384.size a) ∧
  (∀ (k1_h1 : k1_cond1 i = 1#1), ∀ a, (k1_off1308 v3010) a + S1x16.size a ≤ S256x384.size a) ∧
  (∀ (k1_h1 : k1_cond1 i = 1#1), ∀ a, (k1_off1309 v3010) a + S1x16.size a ≤ S256x384.size a) ∧
  (∀ (k1_h1 : k1_cond1 i = 1#1), ∀ a, (k1_off1310 v3010) a + S1x16.size a ≤ S256x384.size a) ∧
  (∀ (k1_h1 : k1_cond1 i = 1#1), ∀ a, (k1_off1311 v3010) a + S1x16.size a ≤ S256x384.size a) ∧
  (∀ (k1_h1 : k1_cond1 i = 1#1), ∀ a, (k1_off1312 v3010) a + S1x16.size a ≤ S256x384.size a) ∧
  (∀ (k1_h1 : k1_cond1 i = 1#1), ∀ a, (k1_off1313 v3010) a + S1x16.size a ≤ S256x384.size a) ∧
  (∀ (k1_h1 : k1_cond1 i = 1#1), ∀ a, (k1_off1314 v3010) a + S1x16.size a ≤ S256x384.size a) ∧
  (∀ (k1_h1 : k1_cond1 i = 1#1), ∀ a, (k1_off1315 v3010) a + S1x16.size a ≤ S256x384.size a) ∧
  (∀ (k1_h1 : k1_cond1 i = 1#1), ∀ a, (k1_off1316 v3010) a + S1x16.size a ≤ S256x384.size a) ∧
  (∀ (k1_h1 : k1_cond1 i = 1#1), ∀ a, (k1_off1317 v3010) a + S1x16.size a ≤ S256x384.size a) ∧
  (∀ (k1_h1 : k1_cond1 i = 1#1), ∀ a, (k1_off1318 v3010) a + S1x16.size a ≤ S256x384.size a) ∧
  (∀ (k1_h1 : k1_cond1 i = 1#1), ∀ a, (k1_off1319 v3010) a + S1x16.size a ≤ S256x384.size a) ∧
  (∀ (k1_h1 : k1_cond1 i = 1#1), ∀ a, (k1_off1320 v3010) a + S1x16.size a ≤ S256x384.size a) ∧
  (∀ (k1_h1 : k1_cond1 i = 1#1), ∀ a, (k1_off1321 v3010) a + S1x16.size a ≤ S256x384.size a) ∧
  (∀ (k1_h1 : k1_cond1 i = 1#1), ∀ a, (k1_off1322 v3010) a + S1x16.size a ≤ S256x384.size a) ∧
  (∀ (k1_h1 : k1_cond1 i = 1#1), ∀ a, (k1_off1323 v3010) a + S1x16.size a ≤ S256x384.size a) ∧
  (∀ (k1_h1 : k1_cond1 i = 1#1), ∀ a, (k1_off1324 v3010) a + S1x16.size a ≤ S256x384.size a) ∧
  (∀ (k1_h1 : k1_cond1 i = 1#1), ∀ a, (k1_off1325 v3010) a + S1x16.size a ≤ S256x384.size a) ∧
  (∀ (k1_h1 : k1_cond1 i = 1#1), ∀ a, (k1_off1326 v3010) a + S1x16.size a ≤ S256x384.size a)
theorem k1_off1303_inb : ∀ (i : grid1.Coords) (v3010 : BitVec 32) (k1_hw27 : k1_chk27 i v3010), ∀ (k1_h1 : k1_cond1 i = 1#1), ∀ a, (k1_off1303 v3010) a + S1x16.size a ≤ S256x384.size a := fun i v3010 k1_hw27 k1_h1 => k1_hw27.1 k1_h1
theorem k1_off1304_inb : ∀ (i : grid1.Coords) (v3010 : BitVec 32) (k1_hw27 : k1_chk27 i v3010), ∀ (k1_h1 : k1_cond1 i = 1#1), ∀ a, (k1_off1304 v3010) a + S1x16.size a ≤ S256x384.size a := fun i v3010 k1_hw27 k1_h1 => k1_hw27.2.1 k1_h1
theorem k1_off1305_inb : ∀ (i : grid1.Coords) (v3010 : BitVec 32) (k1_hw27 : k1_chk27 i v3010), ∀ (k1_h1 : k1_cond1 i = 1#1), ∀ a, (k1_off1305 v3010) a + S1x16.size a ≤ S256x384.size a := fun i v3010 k1_hw27 k1_h1 => k1_hw27.2.2.1 k1_h1
theorem k1_off1306_inb : ∀ (i : grid1.Coords) (v3010 : BitVec 32) (k1_hw27 : k1_chk27 i v3010), ∀ (k1_h1 : k1_cond1 i = 1#1), ∀ a, (k1_off1306 v3010) a + S1x16.size a ≤ S256x384.size a := fun i v3010 k1_hw27 k1_h1 => k1_hw27.2.2.2.1 k1_h1
theorem k1_off1307_inb : ∀ (i : grid1.Coords) (v3010 : BitVec 32) (k1_hw27 : k1_chk27 i v3010), ∀ (k1_h1 : k1_cond1 i = 1#1), ∀ a, (k1_off1307 v3010) a + S1x16.size a ≤ S256x384.size a := fun i v3010 k1_hw27 k1_h1 => k1_hw27.2.2.2.2.1 k1_h1
theorem k1_off1308_inb : ∀ (i : grid1.Coords) (v3010 : BitVec 32) (k1_hw27 : k1_chk27 i v3010), ∀ (k1_h1 : k1_cond1 i = 1#1), ∀ a, (k1_off1308 v3010) a + S1x16.size a ≤ S256x384.size a := fun i v3010 k1_hw27 k1_h1 => k1_hw27.2.2.2.2.2.1 k1_h1
theorem k1_off1309_inb : ∀ (i : grid1.Coords) (v3010 : BitVec 32) (k1_hw27 : k1_chk27 i v3010), ∀ (k1_h1 : k1_cond1 i = 1#1), ∀ a, (k1_off1309 v3010) a + S1x16.size a ≤ S256x384.size a := fun i v3010 k1_hw27 k1_h1 => k1_hw27.2.2.2.2.2.2.1 k1_h1
theorem k1_off1310_inb : ∀ (i : grid1.Coords) (v3010 : BitVec 32) (k1_hw27 : k1_chk27 i v3010), ∀ (k1_h1 : k1_cond1 i = 1#1), ∀ a, (k1_off1310 v3010) a + S1x16.size a ≤ S256x384.size a := fun i v3010 k1_hw27 k1_h1 => k1_hw27.2.2.2.2.2.2.2.1 k1_h1
theorem k1_off1311_inb : ∀ (i : grid1.Coords) (v3010 : BitVec 32) (k1_hw27 : k1_chk27 i v3010), ∀ (k1_h1 : k1_cond1 i = 1#1), ∀ a, (k1_off1311 v3010) a + S1x16.size a ≤ S256x384.size a := fun i v3010 k1_hw27 k1_h1 => k1_hw27.2.2.2.2.2.2.2.2.1 k1_h1
theorem k1_off1312_inb : ∀ (i : grid1.Coords) (v3010 : BitVec 32) (k1_hw27 : k1_chk27 i v3010), ∀ (k1_h1 : k1_cond1 i = 1#1), ∀ a, (k1_off1312 v3010) a + S1x16.size a ≤ S256x384.size a := fun i v3010 k1_hw27 k1_h1 => k1_hw27.2.2.2.2.2.2.2.2.2.1 k1_h1
theorem k1_off1313_inb : ∀ (i : grid1.Coords) (v3010 : BitVec 32) (k1_hw27 : k1_chk27 i v3010), ∀ (k1_h1 : k1_cond1 i = 1#1), ∀ a, (k1_off1313 v3010) a + S1x16.size a ≤ S256x384.size a := fun i v3010 k1_hw27 k1_h1 => k1_hw27.2.2.2.2.2.2.2.2.2.2.1 k1_h1
theorem k1_off1314_inb : ∀ (i : grid1.Coords) (v3010 : BitVec 32) (k1_hw27 : k1_chk27 i v3010), ∀ (k1_h1 : k1_cond1 i = 1#1), ∀ a, (k1_off1314 v3010) a + S1x16.size a ≤ S256x384.size a := fun i v3010 k1_hw27 k1_h1 => k1_hw27.2.2.2.2.2.2.2.2.2.2.2.1 k1_h1
theorem k1_off1315_inb : ∀ (i : grid1.Coords) (v3010 : BitVec 32) (k1_hw27 : k1_chk27 i v3010), ∀ (k1_h1 : k1_cond1 i = 1#1), ∀ a, (k1_off1315 v3010) a + S1x16.size a ≤ S256x384.size a := fun i v3010 k1_hw27 k1_h1 => k1_hw27.2.2.2.2.2.2.2.2.2.2.2.2.1 k1_h1
theorem k1_off1316_inb : ∀ (i : grid1.Coords) (v3010 : BitVec 32) (k1_hw27 : k1_chk27 i v3010), ∀ (k1_h1 : k1_cond1 i = 1#1), ∀ a, (k1_off1316 v3010) a + S1x16.size a ≤ S256x384.size a := fun i v3010 k1_hw27 k1_h1 => k1_hw27.2.2.2.2.2.2.2.2.2.2.2.2.2.1 k1_h1
theorem k1_off1317_inb : ∀ (i : grid1.Coords) (v3010 : BitVec 32) (k1_hw27 : k1_chk27 i v3010), ∀ (k1_h1 : k1_cond1 i = 1#1), ∀ a, (k1_off1317 v3010) a + S1x16.size a ≤ S256x384.size a := fun i v3010 k1_hw27 k1_h1 => k1_hw27.2.2.2.2.2.2.2.2.2.2.2.2.2.2.1 k1_h1
theorem k1_off1318_inb : ∀ (i : grid1.Coords) (v3010 : BitVec 32) (k1_hw27 : k1_chk27 i v3010), ∀ (k1_h1 : k1_cond1 i = 1#1), ∀ a, (k1_off1318 v3010) a + S1x16.size a ≤ S256x384.size a := fun i v3010 k1_hw27 k1_h1 => k1_hw27.2.2.2.2.2.2.2.2.2.2.2.2.2.2.2.1 k1_h1
theorem k1_off1319_inb : ∀ (i : grid1.Coords) (v3010 : BitVec 32) (k1_hw27 : k1_chk27 i v3010), ∀ (k1_h1 : k1_cond1 i = 1#1), ∀ a, (k1_off1319 v3010) a + S1x16.size a ≤ S256x384.size a := fun i v3010 k1_hw27 k1_h1 => k1_hw27.2.2.2.2.2.2.2.2.2.2.2.2.2.2.2.2.1 k1_h1
theorem k1_off1320_inb : ∀ (i : grid1.Coords) (v3010 : BitVec 32) (k1_hw27 : k1_chk27 i v3010), ∀ (k1_h1 : k1_cond1 i = 1#1), ∀ a, (k1_off1320 v3010) a + S1x16.size a ≤ S256x384.size a := fun i v3010 k1_hw27 k1_h1 => k1_hw27.2.2.2.2.2.2.2.2.2.2.2.2.2.2.2.2.2.1 k1_h1
theorem k1_off1321_inb : ∀ (i : grid1.Coords) (v3010 : BitVec 32) (k1_hw27 : k1_chk27 i v3010), ∀ (k1_h1 : k1_cond1 i = 1#1), ∀ a, (k1_off1321 v3010) a + S1x16.size a ≤ S256x384.size a := fun i v3010 k1_hw27 k1_h1 => k1_hw27.2.2.2.2.2.2.2.2.2.2.2.2.2.2.2.2.2.2.1 k1_h1
theorem k1_off1322_inb : ∀ (i : grid1.Coords) (v3010 : BitVec 32) (k1_hw27 : k1_chk27 i v3010), ∀ (k1_h1 : k1_cond1 i = 1#1), ∀ a, (k1_off1322 v3010) a + S1x16.size a ≤ S256x384.size a := fun i v3010 k1_hw27 k1_h1 => k1_hw27.2.2.2.2.2.2.2.2.2.2.2.2.2.2.2.2.2.2.2.1 k1_h1
theorem k1_off1323_inb : ∀ (i : grid1.Coords) (v3010 : BitVec 32) (k1_hw27 : k1_chk27 i v3010), ∀ (k1_h1 : k1_cond1 i = 1#1), ∀ a, (k1_off1323 v3010) a + S1x16.size a ≤ S256x384.size a := fun i v3010 k1_hw27 k1_h1 => k1_hw27.2.2.2.2.2.2.2.2.2.2.2.2.2.2.2.2.2.2.2.2.1 k1_h1
theorem k1_off1324_inb : ∀ (i : grid1.Coords) (v3010 : BitVec 32) (k1_hw27 : k1_chk27 i v3010), ∀ (k1_h1 : k1_cond1 i = 1#1), ∀ a, (k1_off1324 v3010) a + S1x16.size a ≤ S256x384.size a := fun i v3010 k1_hw27 k1_h1 => k1_hw27.2.2.2.2.2.2.2.2.2.2.2.2.2.2.2.2.2.2.2.2.2.1 k1_h1
theorem k1_off1325_inb : ∀ (i : grid1.Coords) (v3010 : BitVec 32) (k1_hw27 : k1_chk27 i v3010), ∀ (k1_h1 : k1_cond1 i = 1#1), ∀ a, (k1_off1325 v3010) a + S1x16.size a ≤ S256x384.size a := fun i v3010 k1_hw27 k1_h1 => k1_hw27.2.2.2.2.2.2.2.2.2.2.2.2.2.2.2.2.2.2.2.2.2.2.1 k1_h1
theorem k1_off1326_inb : ∀ (i : grid1.Coords) (v3010 : BitVec 32) (k1_hw27 : k1_chk27 i v3010), ∀ (k1_h1 : k1_cond1 i = 1#1), ∀ a, (k1_off1326 v3010) a + S1x16.size a ≤ S256x384.size a := fun i v3010 k1_hw27 k1_h1 => k1_hw27.2.2.2.2.2.2.2.2.2.2.2.2.2.2.2.2.2.2.2.2.2.2.2 k1_h1

def k1_off1327 (k1_t4 : Fin k1_t4_loop.trips) : Fin 2 → Nat :=
  let c0_i32_44 : BitVec 32 := 0#32
  let c1_i32_46 : BitVec 32 := 1#32
  let arg37 : BitVec 32 := Scf.iv c0_i32_44 c1_i32_46 k1_t4
  let c16_i32_836 : BitVec 32 := 16#32
  let v3304 : BitVec 32 := Scalar.muli arg37 c16_i32_836
  let c11_i32 : BitVec 32 := 11#32
  let v3305 : BitVec 32 := Scalar.addi v3304 c11_i32
  let v3307 : Index := Scalar.indexCast v3305
  let c0_837 : Index := 0#32
  ![v3307.toNat, 0]
def k1_off1328 (k1_t4 : Fin k1_t4_loop.trips) : Fin 2 → Nat :=
  let c0_i32_44 : BitVec 32 := 0#32
  let c1_i32_46 : BitVec 32 := 1#32
  let arg37 : BitVec 32 := Scf.iv c0_i32_44 c1_i32_46 k1_t4
  let c16_i32_836 : BitVec 32 := 16#32
  let v3304 : BitVec 32 := Scalar.muli arg37 c16_i32_836
  let c11_i32 : BitVec 32 := 11#32
  let v3305 : BitVec 32 := Scalar.addi v3304 c11_i32
  let v3315 : Index := Scalar.indexCast v3305
  let c16_839 : Index := 16#32
  ![v3315.toNat, 16]
def k1_off1329 (k1_t4 : Fin k1_t4_loop.trips) : Fin 2 → Nat :=
  let c0_i32_44 : BitVec 32 := 0#32
  let c1_i32_46 : BitVec 32 := 1#32
  let arg37 : BitVec 32 := Scf.iv c0_i32_44 c1_i32_46 k1_t4
  let c16_i32_836 : BitVec 32 := 16#32
  let v3304 : BitVec 32 := Scalar.muli arg37 c16_i32_836
  let c11_i32 : BitVec 32 := 11#32
  let v3305 : BitVec 32 := Scalar.addi v3304 c11_i32
  let v3323 : Index := Scalar.indexCast v3305
  let c32_841 : Index := 32#32
  ![v3323.toNat, 32]
def k1_off1330 (k1_t4 : Fin k1_t4_loop.trips) : Fin 2 → Nat :=
  let c0_i32_44 : BitVec 32 := 0#32
  let c1_i32_46 : BitVec 32 := 1#32
  let arg37 : BitVec 32 := Scf.iv c0_i32_44 c1_i32_46 k1_t4
  let c16_i32_836 : BitVec 32 := 16#32
  let v3304 : BitVec 32 := Scalar.muli arg37 c16_i32_836
  let c11_i32 : BitVec 32 := 11#32
  let v3305 : BitVec 32 := Scalar.addi v3304 c11_i32
  let v3331 : Index := Scalar.indexCast v3305
  let c48_843 : Index := 48#32
  ![v3331.toNat, 48]
def k1_off1331 (k1_t4 : Fin k1_t4_loop.trips) : Fin 2 → Nat :=
  let c0_i32_44 : BitVec 32 := 0#32
  let c1_i32_46 : BitVec 32 := 1#32
  let arg37 : BitVec 32 := Scf.iv c0_i32_44 c1_i32_46 k1_t4
  let c16_i32_836 : BitVec 32 := 16#32
  let v3304 : BitVec 32 := Scalar.muli arg37 c16_i32_836
  let c11_i32 : BitVec 32 := 11#32
  let v3305 : BitVec 32 := Scalar.addi v3304 c11_i32
  let v3339 : Index := Scalar.indexCast v3305
  let c64_845 : Index := 64#32
  ![v3339.toNat, 64]
def k1_off1332 (k1_t4 : Fin k1_t4_loop.trips) : Fin 2 → Nat :=
  let c0_i32_44 : BitVec 32 := 0#32
  let c1_i32_46 : BitVec 32 := 1#32
  let arg37 : BitVec 32 := Scf.iv c0_i32_44 c1_i32_46 k1_t4
  let c16_i32_836 : BitVec 32 := 16#32
  let v3304 : BitVec 32 := Scalar.muli arg37 c16_i32_836
  let c11_i32 : BitVec 32 := 11#32
  let v3305 : BitVec 32 := Scalar.addi v3304 c11_i32
  let v3347 : Index := Scalar.indexCast v3305
  let c80_847 : Index := 80#32
  ![v3347.toNat, 80]
def k1_off1333 (k1_t4 : Fin k1_t4_loop.trips) : Fin 2 → Nat :=
  let c0_i32_44 : BitVec 32 := 0#32
  let c1_i32_46 : BitVec 32 := 1#32
  let arg37 : BitVec 32 := Scf.iv c0_i32_44 c1_i32_46 k1_t4
  let c16_i32_836 : BitVec 32 := 16#32
  let v3304 : BitVec 32 := Scalar.muli arg37 c16_i32_836
  let c11_i32 : BitVec 32 := 11#32
  let v3305 : BitVec 32 := Scalar.addi v3304 c11_i32
  let v3355 : Index := Scalar.indexCast v3305
  let c96_849 : Index := 96#32
  ![v3355.toNat, 96]
def k1_off1334 (k1_t4 : Fin k1_t4_loop.trips) : Fin 2 → Nat :=
  let c0_i32_44 : BitVec 32 := 0#32
  let c1_i32_46 : BitVec 32 := 1#32
  let arg37 : BitVec 32 := Scf.iv c0_i32_44 c1_i32_46 k1_t4
  let c16_i32_836 : BitVec 32 := 16#32
  let v3304 : BitVec 32 := Scalar.muli arg37 c16_i32_836
  let c11_i32 : BitVec 32 := 11#32
  let v3305 : BitVec 32 := Scalar.addi v3304 c11_i32
  let v3363 : Index := Scalar.indexCast v3305
  let c112_851 : Index := 112#32
  ![v3363.toNat, 112]
def k1_off1335 (k1_t4 : Fin k1_t4_loop.trips) : Fin 2 → Nat :=
  let c0_i32_44 : BitVec 32 := 0#32
  let c1_i32_46 : BitVec 32 := 1#32
  let arg37 : BitVec 32 := Scf.iv c0_i32_44 c1_i32_46 k1_t4
  let c16_i32_836 : BitVec 32 := 16#32
  let v3304 : BitVec 32 := Scalar.muli arg37 c16_i32_836
  let c11_i32 : BitVec 32 := 11#32
  let v3305 : BitVec 32 := Scalar.addi v3304 c11_i32
  let v3371 : Index := Scalar.indexCast v3305
  let c128_853 : Index := 128#32
  ![v3371.toNat, 128]
def k1_off1336 (k1_t4 : Fin k1_t4_loop.trips) : Fin 2 → Nat :=
  let c0_i32_44 : BitVec 32 := 0#32
  let c1_i32_46 : BitVec 32 := 1#32
  let arg37 : BitVec 32 := Scf.iv c0_i32_44 c1_i32_46 k1_t4
  let c16_i32_836 : BitVec 32 := 16#32
  let v3304 : BitVec 32 := Scalar.muli arg37 c16_i32_836
  let c11_i32 : BitVec 32 := 11#32
  let v3305 : BitVec 32 := Scalar.addi v3304 c11_i32
  let v3379 : Index := Scalar.indexCast v3305
  let c144_855 : Index := 144#32
  ![v3379.toNat, 144]
def k1_off1337 (k1_t4 : Fin k1_t4_loop.trips) : Fin 2 → Nat :=
  let c0_i32_44 : BitVec 32 := 0#32
  let c1_i32_46 : BitVec 32 := 1#32
  let arg37 : BitVec 32 := Scf.iv c0_i32_44 c1_i32_46 k1_t4
  let c16_i32_836 : BitVec 32 := 16#32
  let v3304 : BitVec 32 := Scalar.muli arg37 c16_i32_836
  let c11_i32 : BitVec 32 := 11#32
  let v3305 : BitVec 32 := Scalar.addi v3304 c11_i32
  let v3387 : Index := Scalar.indexCast v3305
  let c160_857 : Index := 160#32
  ![v3387.toNat, 160]
def k1_off1338 (k1_t4 : Fin k1_t4_loop.trips) : Fin 2 → Nat :=
  let c0_i32_44 : BitVec 32 := 0#32
  let c1_i32_46 : BitVec 32 := 1#32
  let arg37 : BitVec 32 := Scf.iv c0_i32_44 c1_i32_46 k1_t4
  let c16_i32_836 : BitVec 32 := 16#32
  let v3304 : BitVec 32 := Scalar.muli arg37 c16_i32_836
  let c11_i32 : BitVec 32 := 11#32
  let v3305 : BitVec 32 := Scalar.addi v3304 c11_i32
  let v3395 : Index := Scalar.indexCast v3305
  let c176_859 : Index := 176#32
  ![v3395.toNat, 176]
def k1_off1339 (k1_t4 : Fin k1_t4_loop.trips) : Fin 2 → Nat :=
  let c0_i32_44 : BitVec 32 := 0#32
  let c1_i32_46 : BitVec 32 := 1#32
  let arg37 : BitVec 32 := Scf.iv c0_i32_44 c1_i32_46 k1_t4
  let c16_i32_836 : BitVec 32 := 16#32
  let v3304 : BitVec 32 := Scalar.muli arg37 c16_i32_836
  let c11_i32 : BitVec 32 := 11#32
  let v3305 : BitVec 32 := Scalar.addi v3304 c11_i32
  let v3403 : Index := Scalar.indexCast v3305
  let c192_861 : Index := 192#32
  ![v3403.toNat, 192]
def k1_off1340 (k1_t4 : Fin k1_t4_loop.trips) : Fin 2 → Nat :=
  let c0_i32_44 : BitVec 32 := 0#32
  let c1_i32_46 : BitVec 32 := 1#32
  let arg37 : BitVec 32 := Scf.iv c0_i32_44 c1_i32_46 k1_t4
  let c16_i32_836 : BitVec 32 := 16#32
  let v3304 : BitVec 32 := Scalar.muli arg37 c16_i32_836
  let c11_i32 : BitVec 32 := 11#32
  let v3305 : BitVec 32 := Scalar.addi v3304 c11_i32
  let v3411 : Index := Scalar.indexCast v3305
  let c208_863 : Index := 208#32
  ![v3411.toNat, 208]
def k1_off1341 (k1_t4 : Fin k1_t4_loop.trips) : Fin 2 → Nat :=
  let c0_i32_44 : BitVec 32 := 0#32
  let c1_i32_46 : BitVec 32 := 1#32
  let arg37 : BitVec 32 := Scf.iv c0_i32_44 c1_i32_46 k1_t4
  let c16_i32_836 : BitVec 32 := 16#32
  let v3304 : BitVec 32 := Scalar.muli arg37 c16_i32_836
  let c11_i32 : BitVec 32 := 11#32
  let v3305 : BitVec 32 := Scalar.addi v3304 c11_i32
  let v3419 : Index := Scalar.indexCast v3305
  let c224_865 : Index := 224#32
  ![v3419.toNat, 224]
def k1_off1342 (k1_t4 : Fin k1_t4_loop.trips) : Fin 2 → Nat :=
  let c0_i32_44 : BitVec 32 := 0#32
  let c1_i32_46 : BitVec 32 := 1#32
  let arg37 : BitVec 32 := Scf.iv c0_i32_44 c1_i32_46 k1_t4
  let c16_i32_836 : BitVec 32 := 16#32
  let v3304 : BitVec 32 := Scalar.muli arg37 c16_i32_836
  let c11_i32 : BitVec 32 := 11#32
  let v3305 : BitVec 32 := Scalar.addi v3304 c11_i32
  let v3427 : Index := Scalar.indexCast v3305
  let c240_867 : Index := 240#32
  ![v3427.toNat, 240]
def k1_off1343 (k1_t4 : Fin k1_t4_loop.trips) : Fin 2 → Nat :=
  let c0_i32_44 : BitVec 32 := 0#32
  let c1_i32_46 : BitVec 32 := 1#32
  let arg37 : BitVec 32 := Scf.iv c0_i32_44 c1_i32_46 k1_t4
  let c16_i32_836 : BitVec 32 := 16#32
  let v3304 : BitVec 32 := Scalar.muli arg37 c16_i32_836
  let c11_i32 : BitVec 32 := 11#32
  let v3305 : BitVec 32 := Scalar.addi v3304 c11_i32
  let v3435 : Index := Scalar.indexCast v3305
  let c256_869 : Index := 256#32
  ![v3435.toNat, 256]
def k1_off1344 (k1_t4 : Fin k1_t4_loop.trips) : Fin 2 → Nat :=
  let c0_i32_44 : BitVec 32 := 0#32
  let c1_i32_46 : BitVec 32 := 1#32
  let arg37 : BitVec 32 := Scf.iv c0_i32_44 c1_i32_46 k1_t4
  let c16_i32_836 : BitVec 32 := 16#32
  let v3304 : BitVec 32 := Scalar.muli arg37 c16_i32_836
  let c11_i32 : BitVec 32 := 11#32
  let v3305 : BitVec 32 := Scalar.addi v3304 c11_i32
  let v3443 : Index := Scalar.indexCast v3305
  let c272_871 : Index := 272#32
  ![v3443.toNat, 272]
def k1_off1345 (k1_t4 : Fin k1_t4_loop.trips) : Fin 2 → Nat :=
  let c0_i32_44 : BitVec 32 := 0#32
  let c1_i32_46 : BitVec 32 := 1#32
  let arg37 : BitVec 32 := Scf.iv c0_i32_44 c1_i32_46 k1_t4
  let c16_i32_836 : BitVec 32 := 16#32
  let v3304 : BitVec 32 := Scalar.muli arg37 c16_i32_836
  let c11_i32 : BitVec 32 := 11#32
  let v3305 : BitVec 32 := Scalar.addi v3304 c11_i32
  let v3451 : Index := Scalar.indexCast v3305
  let c288_873 : Index := 288#32
  ![v3451.toNat, 288]
def k1_off1346 (k1_t4 : Fin k1_t4_loop.trips) : Fin 2 → Nat :=
  let c0_i32_44 : BitVec 32 := 0#32
  let c1_i32_46 : BitVec 32 := 1#32
  let arg37 : BitVec 32 := Scf.iv c0_i32_44 c1_i32_46 k1_t4
  let c16_i32_836 : BitVec 32 := 16#32
  let v3304 : BitVec 32 := Scalar.muli arg37 c16_i32_836
  let c11_i32 : BitVec 32 := 11#32
  let v3305 : BitVec 32 := Scalar.addi v3304 c11_i32
  let v3459 : Index := Scalar.indexCast v3305
  let c304_875 : Index := 304#32
  ![v3459.toNat, 304]
def k1_off1347 (k1_t4 : Fin k1_t4_loop.trips) : Fin 2 → Nat :=
  let c0_i32_44 : BitVec 32 := 0#32
  let c1_i32_46 : BitVec 32 := 1#32
  let arg37 : BitVec 32 := Scf.iv c0_i32_44 c1_i32_46 k1_t4
  let c16_i32_836 : BitVec 32 := 16#32
  let v3304 : BitVec 32 := Scalar.muli arg37 c16_i32_836
  let c11_i32 : BitVec 32 := 11#32
  let v3305 : BitVec 32 := Scalar.addi v3304 c11_i32
  let v3467 : Index := Scalar.indexCast v3305
  let c320_877 : Index := 320#32
  ![v3467.toNat, 320]
def k1_off1348 (k1_t4 : Fin k1_t4_loop.trips) : Fin 2 → Nat :=
  let c0_i32_44 : BitVec 32 := 0#32
  let c1_i32_46 : BitVec 32 := 1#32
  let arg37 : BitVec 32 := Scf.iv c0_i32_44 c1_i32_46 k1_t4
  let c16_i32_836 : BitVec 32 := 16#32
  let v3304 : BitVec 32 := Scalar.muli arg37 c16_i32_836
  let c11_i32 : BitVec 32 := 11#32
  let v3305 : BitVec 32 := Scalar.addi v3304 c11_i32
  let v3475 : Index := Scalar.indexCast v3305
  let c336_879 : Index := 336#32
  ![v3475.toNat, 336]
def k1_off1349 (k1_t4 : Fin k1_t4_loop.trips) : Fin 2 → Nat :=
  let c0_i32_44 : BitVec 32 := 0#32
  let c1_i32_46 : BitVec 32 := 1#32
  let arg37 : BitVec 32 := Scf.iv c0_i32_44 c1_i32_46 k1_t4
  let c16_i32_836 : BitVec 32 := 16#32
  let v3304 : BitVec 32 := Scalar.muli arg37 c16_i32_836
  let c11_i32 : BitVec 32 := 11#32
  let v3305 : BitVec 32 := Scalar.addi v3304 c11_i32
  let v3483 : Index := Scalar.indexCast v3305
  let c352_881 : Index := 352#32
  ![v3483.toNat, 352]
def k1_off1350 (k1_t4 : Fin k1_t4_loop.trips) : Fin 2 → Nat :=
  let c0_i32_44 : BitVec 32 := 0#32
  let c1_i32_46 : BitVec 32 := 1#32
  let arg37 : BitVec 32 := Scf.iv c0_i32_44 c1_i32_46 k1_t4
  let c16_i32_836 : BitVec 32 := 16#32
  let v3304 : BitVec 32 := Scalar.muli arg37 c16_i32_836
  let c11_i32 : BitVec 32 := 11#32
  let v3305 : BitVec 32 := Scalar.addi v3304 c11_i32
  let v3491 : Index := Scalar.indexCast v3305
  let c368_883 : Index := 368#32
  ![v3491.toNat, 368]
def k1_off1351 (v3303 : BitVec 32) : Fin 2 → Nat :=
  let v3499 : Index := Scalar.indexCast v3303
  let c0_885 : Index := 0#32
  ![v3499.toNat, 0]

def k1_off1352 (v3303 : BitVec 32) : Fin 2 → Nat :=
  let v3503 : Index := Scalar.indexCast v3303
  let c16_886 : Index := 16#32
  ![v3503.toNat, 16]
def k1_off1353 (v3303 : BitVec 32) : Fin 2 → Nat :=
  let v3507 : Index := Scalar.indexCast v3303
  let c32_887 : Index := 32#32
  ![v3507.toNat, 32]
def k1_off1354 (v3303 : BitVec 32) : Fin 2 → Nat :=
  let v3511 : Index := Scalar.indexCast v3303
  let c48_888 : Index := 48#32
  ![v3511.toNat, 48]
def k1_off1355 (v3303 : BitVec 32) : Fin 2 → Nat :=
  let v3515 : Index := Scalar.indexCast v3303
  let c64_889 : Index := 64#32
  ![v3515.toNat, 64]
def k1_off1356 (v3303 : BitVec 32) : Fin 2 → Nat :=
  let v3519 : Index := Scalar.indexCast v3303
  let c80_890 : Index := 80#32
  ![v3519.toNat, 80]
def k1_off1357 (v3303 : BitVec 32) : Fin 2 → Nat :=
  let v3523 : Index := Scalar.indexCast v3303
  let c96_891 : Index := 96#32
  ![v3523.toNat, 96]
def k1_off1358 (v3303 : BitVec 32) : Fin 2 → Nat :=
  let v3527 : Index := Scalar.indexCast v3303
  let c112_892 : Index := 112#32
  ![v3527.toNat, 112]
def k1_off1359 (v3303 : BitVec 32) : Fin 2 → Nat :=
  let v3531 : Index := Scalar.indexCast v3303
  let c128_893 : Index := 128#32
  ![v3531.toNat, 128]
def k1_off1360 (v3303 : BitVec 32) : Fin 2 → Nat :=
  let v3535 : Index := Scalar.indexCast v3303
  let c144_894 : Index := 144#32
  ![v3535.toNat, 144]
def k1_off1361 (v3303 : BitVec 32) : Fin 2 → Nat :=
  let v3539 : Index := Scalar.indexCast v3303
  let c160_895 : Index := 160#32
  ![v3539.toNat, 160]
def k1_off1362 (v3303 : BitVec 32) : Fin 2 → Nat :=
  let v3543 : Index := Scalar.indexCast v3303
  let c176_896 : Index := 176#32
  ![v3543.toNat, 176]
def k1_off1363 (v3303 : BitVec 32) : Fin 2 → Nat :=
  let v3547 : Index := Scalar.indexCast v3303
  let c192_897 : Index := 192#32
  ![v3547.toNat, 192]
def k1_off1364 (v3303 : BitVec 32) : Fin 2 → Nat :=
  let v3551 : Index := Scalar.indexCast v3303
  let c208_898 : Index := 208#32
  ![v3551.toNat, 208]
def k1_off1365 (v3303 : BitVec 32) : Fin 2 → Nat :=
  let v3555 : Index := Scalar.indexCast v3303
  let c224_899 : Index := 224#32
  ![v3555.toNat, 224]
def k1_off1366 (v3303 : BitVec 32) : Fin 2 → Nat :=
  let v3559 : Index := Scalar.indexCast v3303
  let c240_900 : Index := 240#32
  ![v3559.toNat, 240]
def k1_off1367 (v3303 : BitVec 32) : Fin 2 → Nat :=
  let v3563 : Index := Scalar.indexCast v3303
  let c256_901 : Index := 256#32
  ![v3563.toNat, 256]
def k1_off1368 (v3303 : BitVec 32) : Fin 2 → Nat :=
  let v3567 : Index := Scalar.indexCast v3303
  let c272_902 : Index := 272#32
  ![v3567.toNat, 272]
def k1_off1369 (v3303 : BitVec 32) : Fin 2 → Nat :=
  let v3571 : Index := Scalar.indexCast v3303
  let c288_903 : Index := 288#32
  ![v3571.toNat, 288]
def k1_off1370 (v3303 : BitVec 32) : Fin 2 → Nat :=
  let v3575 : Index := Scalar.indexCast v3303
  let c304_904 : Index := 304#32
  ![v3575.toNat, 304]
def k1_off1371 (v3303 : BitVec 32) : Fin 2 → Nat :=
  let v3579 : Index := Scalar.indexCast v3303
  let c320_905 : Index := 320#32
  ![v3579.toNat, 320]
def k1_off1372 (v3303 : BitVec 32) : Fin 2 → Nat :=
  let v3583 : Index := Scalar.indexCast v3303
  let c336_906 : Index := 336#32
  ![v3583.toNat, 336]
def k1_off1373 (v3303 : BitVec 32) : Fin 2 → Nat :=
  let v3587 : Index := Scalar.indexCast v3303
  let c352_907 : Index := 352#32
  ![v3587.toNat, 352]
def k1_off1374 (v3303 : BitVec 32) : Fin 2 → Nat :=
  let v3591 : Index := Scalar.indexCast v3303
  let c368_908 : Index := 368#32
  ![v3591.toNat, 368]

def k1_chk28 (i : grid1.Coords) (v3303 : BitVec 32) : Prop :=
  (∀ (k1_h1 : k1_cond1 i = 1#1), ∀ a, (k1_off1351 v3303) a + S1x16.size a ≤ S256x384.size a) ∧
  (∀ (k1_h1 : k1_cond1 i = 1#1), ∀ a, (k1_off1352 v3303) a + S1x16.size a ≤ S256x384.size a) ∧
  (∀ (k1_h1 : k1_cond1 i = 1#1), ∀ a, (k1_off1353 v3303) a + S1x16.size a ≤ S256x384.size a) ∧
  (∀ (k1_h1 : k1_cond1 i = 1#1), ∀ a, (k1_off1354 v3303) a + S1x16.size a ≤ S256x384.size a) ∧
  (∀ (k1_h1 : k1_cond1 i = 1#1), ∀ a, (k1_off1355 v3303) a + S1x16.size a ≤ S256x384.size a) ∧
  (∀ (k1_h1 : k1_cond1 i = 1#1), ∀ a, (k1_off1356 v3303) a + S1x16.size a ≤ S256x384.size a) ∧
  (∀ (k1_h1 : k1_cond1 i = 1#1), ∀ a, (k1_off1357 v3303) a + S1x16.size a ≤ S256x384.size a) ∧
  (∀ (k1_h1 : k1_cond1 i = 1#1), ∀ a, (k1_off1358 v3303) a + S1x16.size a ≤ S256x384.size a) ∧
  (∀ (k1_h1 : k1_cond1 i = 1#1), ∀ a, (k1_off1359 v3303) a + S1x16.size a ≤ S256x384.size a) ∧
  (∀ (k1_h1 : k1_cond1 i = 1#1), ∀ a, (k1_off1360 v3303) a + S1x16.size a ≤ S256x384.size a) ∧
  (∀ (k1_h1 : k1_cond1 i = 1#1), ∀ a, (k1_off1361 v3303) a + S1x16.size a ≤ S256x384.size a) ∧
  (∀ (k1_h1 : k1_cond1 i = 1#1), ∀ a, (k1_off1362 v3303) a + S1x16.size a ≤ S256x384.size a) ∧
  (∀ (k1_h1 : k1_cond1 i = 1#1), ∀ a, (k1_off1363 v3303) a + S1x16.size a ≤ S256x384.size a) ∧
  (∀ (k1_h1 : k1_cond1 i = 1#1), ∀ a, (k1_off1364 v3303) a + S1x16.size a ≤ S256x384.size a) ∧
  (∀ (k1_h1 : k1_cond1 i = 1#1), ∀ a, (k1_off1365 v3303) a + S1x16.size a ≤ S256x384.size a) ∧
  (∀ (k1_h1 : k1_cond1 i = 1#1), ∀ a, (k1_off1366 v3303) a + S1x16.size a ≤ S256x384.size a) ∧
  (∀ (k1_h1 : k1_cond1 i = 1#1), ∀ a, (k1_off1367 v3303) a + S1x16.size a ≤ S256x384.size a) ∧
  (∀ (k1_h1 : k1_cond1 i = 1#1), ∀ a, (k1_off1368 v3303) a + S1x16.size a ≤ S256x384.size a) ∧
  (∀ (k1_h1 : k1_cond1 i = 1#1), ∀ a, (k1_off1369 v3303) a + S1x16.size a ≤ S256x384.size a) ∧
  (∀ (k1_h1 : k1_cond1 i = 1#1), ∀ a, (k1_off1370 v3303) a + S1x16.size a ≤ S256x384.size a) ∧
  (∀ (k1_h1 : k1_cond1 i = 1#1), ∀ a, (k1_off1371 v3303) a + S1x16.size a ≤ S256x384.size a) ∧
  (∀ (k1_h1 : k1_cond1 i = 1#1), ∀ a, (k1_off1372 v3303) a + S1x16.size a ≤ S256x384.size a) ∧
  (∀ (k1_h1 : k1_cond1 i = 1#1), ∀ a, (k1_off1373 v3303) a + S1x16.size a ≤ S256x384.size a) ∧
  (∀ (k1_h1 : k1_cond1 i = 1#1), ∀ a, (k1_off1374 v3303) a + S1x16.size a ≤ S256x384.size a)
theorem k1_off1351_inb : ∀ (i : grid1.Coords) (v3303 : BitVec 32) (k1_hw28 : k1_chk28 i v3303), ∀ (k1_h1 : k1_cond1 i = 1#1), ∀ a, (k1_off1351 v3303) a + S1x16.size a ≤ S256x384.size a := fun i v3303 k1_hw28 k1_h1 => k1_hw28.1 k1_h1
theorem k1_off1352_inb : ∀ (i : grid1.Coords) (v3303 : BitVec 32) (k1_hw28 : k1_chk28 i v3303), ∀ (k1_h1 : k1_cond1 i = 1#1), ∀ a, (k1_off1352 v3303) a + S1x16.size a ≤ S256x384.size a := fun i v3303 k1_hw28 k1_h1 => k1_hw28.2.1 k1_h1
theorem k1_off1353_inb : ∀ (i : grid1.Coords) (v3303 : BitVec 32) (k1_hw28 : k1_chk28 i v3303), ∀ (k1_h1 : k1_cond1 i = 1#1), ∀ a, (k1_off1353 v3303) a + S1x16.size a ≤ S256x384.size a := fun i v3303 k1_hw28 k1_h1 => k1_hw28.2.2.1 k1_h1
theorem k1_off1354_inb : ∀ (i : grid1.Coords) (v3303 : BitVec 32) (k1_hw28 : k1_chk28 i v3303), ∀ (k1_h1 : k1_cond1 i = 1#1), ∀ a, (k1_off1354 v3303) a + S1x16.size a ≤ S256x384.size a := fun i v3303 k1_hw28 k1_h1 => k1_hw28.2.2.2.1 k1_h1
theorem k1_off1355_inb : ∀ (i : grid1.Coords) (v3303 : BitVec 32) (k1_hw28 : k1_chk28 i v3303), ∀ (k1_h1 : k1_cond1 i = 1#1), ∀ a, (k1_off1355 v3303) a + S1x16.size a ≤ S256x384.size a := fun i v3303 k1_hw28 k1_h1 => k1_hw28.2.2.2.2.1 k1_h1
theorem k1_off1356_inb : ∀ (i : grid1.Coords) (v3303 : BitVec 32) (k1_hw28 : k1_chk28 i v3303), ∀ (k1_h1 : k1_cond1 i = 1#1), ∀ a, (k1_off1356 v3303) a + S1x16.size a ≤ S256x384.size a := fun i v3303 k1_hw28 k1_h1 => k1_hw28.2.2.2.2.2.1 k1_h1
theorem k1_off1357_inb : ∀ (i : grid1.Coords) (v3303 : BitVec 32) (k1_hw28 : k1_chk28 i v3303), ∀ (k1_h1 : k1_cond1 i = 1#1), ∀ a, (k1_off1357 v3303) a + S1x16.size a ≤ S256x384.size a := fun i v3303 k1_hw28 k1_h1 => k1_hw28.2.2.2.2.2.2.1 k1_h1
theorem k1_off1358_inb : ∀ (i : grid1.Coords) (v3303 : BitVec 32) (k1_hw28 : k1_chk28 i v3303), ∀ (k1_h1 : k1_cond1 i = 1#1), ∀ a, (k1_off1358 v3303) a + S1x16.size a ≤ S256x384.size a := fun i v3303 k1_hw28 k1_h1 => k1_hw28.2.2.2.2.2.2.2.1 k1_h1
theorem k1_off1359_inb : ∀ (i : grid1.Coords) (v3303 : BitVec 32) (k1_hw28 : k1_chk28 i v3303), ∀ (k1_h1 : k1_cond1 i = 1#1), ∀ a, (k1_off1359 v3303) a + S1x16.size a ≤ S256x384.size a := fun i v3303 k1_hw28 k1_h1 => k1_hw28.2.2.2.2.2.2.2.2.1 k1_h1
theorem k1_off1360_inb : ∀ (i : grid1.Coords) (v3303 : BitVec 32) (k1_hw28 : k1_chk28 i v3303), ∀ (k1_h1 : k1_cond1 i = 1#1), ∀ a, (k1_off1360 v3303) a + S1x16.size a ≤ S256x384.size a := fun i v3303 k1_hw28 k1_h1 => k1_hw28.2.2.2.2.2.2.2.2.2.1 k1_h1
theorem k1_off1361_inb : ∀ (i : grid1.Coords) (v3303 : BitVec 32) (k1_hw28 : k1_chk28 i v3303), ∀ (k1_h1 : k1_cond1 i = 1#1), ∀ a, (k1_off1361 v3303) a + S1x16.size a ≤ S256x384.size a := fun i v3303 k1_hw28 k1_h1 => k1_hw28.2.2.2.2.2.2.2.2.2.2.1 k1_h1
theorem k1_off1362_inb : ∀ (i : grid1.Coords) (v3303 : BitVec 32) (k1_hw28 : k1_chk28 i v3303), ∀ (k1_h1 : k1_cond1 i = 1#1), ∀ a, (k1_off1362 v3303) a + S1x16.size a ≤ S256x384.size a := fun i v3303 k1_hw28 k1_h1 => k1_hw28.2.2.2.2.2.2.2.2.2.2.2.1 k1_h1
theorem k1_off1363_inb : ∀ (i : grid1.Coords) (v3303 : BitVec 32) (k1_hw28 : k1_chk28 i v3303), ∀ (k1_h1 : k1_cond1 i = 1#1), ∀ a, (k1_off1363 v3303) a + S1x16.size a ≤ S256x384.size a := fun i v3303 k1_hw28 k1_h1 => k1_hw28.2.2.2.2.2.2.2.2.2.2.2.2.1 k1_h1
theorem k1_off1364_inb : ∀ (i : grid1.Coords) (v3303 : BitVec 32) (k1_hw28 : k1_chk28 i v3303), ∀ (k1_h1 : k1_cond1 i = 1#1), ∀ a, (k1_off1364 v3303) a + S1x16.size a ≤ S256x384.size a := fun i v3303 k1_hw28 k1_h1 => k1_hw28.2.2.2.2.2.2.2.2.2.2.2.2.2.1 k1_h1
theorem k1_off1365_inb : ∀ (i : grid1.Coords) (v3303 : BitVec 32) (k1_hw28 : k1_chk28 i v3303), ∀ (k1_h1 : k1_cond1 i = 1#1), ∀ a, (k1_off1365 v3303) a + S1x16.size a ≤ S256x384.size a := fun i v3303 k1_hw28 k1_h1 => k1_hw28.2.2.2.2.2.2.2.2.2.2.2.2.2.2.1 k1_h1
theorem k1_off1366_inb : ∀ (i : grid1.Coords) (v3303 : BitVec 32) (k1_hw28 : k1_chk28 i v3303), ∀ (k1_h1 : k1_cond1 i = 1#1), ∀ a, (k1_off1366 v3303) a + S1x16.size a ≤ S256x384.size a := fun i v3303 k1_hw28 k1_h1 => k1_hw28.2.2.2.2.2.2.2.2.2.2.2.2.2.2.2.1 k1_h1
theorem k1_off1367_inb : ∀ (i : grid1.Coords) (v3303 : BitVec 32) (k1_hw28 : k1_chk28 i v3303), ∀ (k1_h1 : k1_cond1 i = 1#1), ∀ a, (k1_off1367 v3303) a + S1x16.size a ≤ S256x384.size a := fun i v3303 k1_hw28 k1_h1 => k1_hw28.2.2.2.2.2.2.2.2.2.2.2.2.2.2.2.2.1 k1_h1
theorem k1_off1368_inb : ∀ (i : grid1.Coords) (v3303 : BitVec 32) (k1_hw28 : k1_chk28 i v3303), ∀ (k1_h1 : k1_cond1 i = 1#1), ∀ a, (k1_off1368 v3303) a + S1x16.size a ≤ S256x384.size a := fun i v3303 k1_hw28 k1_h1 => k1_hw28.2.2.2.2.2.2.2.2.2.2.2.2.2.2.2.2.2.1 k1_h1
theorem k1_off1369_inb : ∀ (i : grid1.Coords) (v3303 : BitVec 32) (k1_hw28 : k1_chk28 i v3303), ∀ (k1_h1 : k1_cond1 i = 1#1), ∀ a, (k1_off1369 v3303) a + S1x16.size a ≤ S256x384.size a := fun i v3303 k1_hw28 k1_h1 => k1_hw28.2.2.2.2.2.2.2.2.2.2.2.2.2.2.2.2.2.2.1 k1_h1
theorem k1_off1370_inb : ∀ (i : grid1.Coords) (v3303 : BitVec 32) (k1_hw28 : k1_chk28 i v3303), ∀ (k1_h1 : k1_cond1 i = 1#1), ∀ a, (k1_off1370 v3303) a + S1x16.size a ≤ S256x384.size a := fun i v3303 k1_hw28 k1_h1 => k1_hw28.2.2.2.2.2.2.2.2.2.2.2.2.2.2.2.2.2.2.2.1 k1_h1
theorem k1_off1371_inb : ∀ (i : grid1.Coords) (v3303 : BitVec 32) (k1_hw28 : k1_chk28 i v3303), ∀ (k1_h1 : k1_cond1 i = 1#1), ∀ a, (k1_off1371 v3303) a + S1x16.size a ≤ S256x384.size a := fun i v3303 k1_hw28 k1_h1 => k1_hw28.2.2.2.2.2.2.2.2.2.2.2.2.2.2.2.2.2.2.2.2.1 k1_h1
theorem k1_off1372_inb : ∀ (i : grid1.Coords) (v3303 : BitVec 32) (k1_hw28 : k1_chk28 i v3303), ∀ (k1_h1 : k1_cond1 i = 1#1), ∀ a, (k1_off1372 v3303) a + S1x16.size a ≤ S256x384.size a := fun i v3303 k1_hw28 k1_h1 => k1_hw28.2.2.2.2.2.2.2.2.2.2.2.2.2.2.2.2.2.2.2.2.2.1 k1_h1
theorem k1_off1373_inb : ∀ (i : grid1.Coords) (v3303 : BitVec 32) (k1_hw28 : k1_chk28 i v3303), ∀ (k1_h1 : k1_cond1 i = 1#1), ∀ a, (k1_off1373 v3303) a + S1x16.size a ≤ S256x384.size a := fun i v3303 k1_hw28 k1_h1 => k1_hw28.2.2.2.2.2.2.2.2.2.2.2.2.2.2.2.2.2.2.2.2.2.2.1 k1_h1
theorem k1_off1374_inb : ∀ (i : grid1.Coords) (v3303 : BitVec 32) (k1_hw28 : k1_chk28 i v3303), ∀ (k1_h1 : k1_cond1 i = 1#1), ∀ a, (k1_off1374 v3303) a + S1x16.size a ≤ S256x384.size a := fun i v3303 k1_hw28 k1_h1 => k1_hw28.2.2.2.2.2.2.2.2.2.2.2.2.2.2.2.2.2.2.2.2.2.2.2 k1_h1

def k1_off1375 (k1_t4 : Fin k1_t4_loop.trips) : Fin 2 → Nat :=
  let c0_i32_44 : BitVec 32 := 0#32
  let c1_i32_46 : BitVec 32 := 1#32
  let arg37 : BitVec 32 := Scf.iv c0_i32_44 c1_i32_46 k1_t4
  let c16_i32_909 : BitVec 32 := 16#32
  let v3597 : BitVec 32 := Scalar.muli arg37 c16_i32_909
  let c12_i32 : BitVec 32 := 12#32
  let v3598 : BitVec 32 := Scalar.addi v3597 c12_i32
  let v3600 : Index := Scalar.indexCast v3598
  let c0_910 : Index := 0#32
  ![v3600.toNat, 0]
def k1_off1376 (k1_t4 : Fin k1_t4_loop.trips) : Fin 2 → Nat :=
  let c0_i32_44 : BitVec 32 := 0#32
  let c1_i32_46 : BitVec 32 := 1#32
  let arg37 : BitVec 32 := Scf.iv c0_i32_44 c1_i32_46 k1_t4
  let c16_i32_909 : BitVec 32 := 16#32
  let v3597 : BitVec 32 := Scalar.muli arg37 c16_i32_909
  let c12_i32 : BitVec 32 := 12#32
  let v3598 : BitVec 32 := Scalar.addi v3597 c12_i32
  let v3608 : Index := Scalar.indexCast v3598
  let c16_912 : Index := 16#32
  ![v3608.toNat, 16]
def k1_off1377 (k1_t4 : Fin k1_t4_loop.trips) : Fin 2 → Nat :=
  let c0_i32_44 : BitVec 32 := 0#32
  let c1_i32_46 : BitVec 32 := 1#32
  let arg37 : BitVec 32 := Scf.iv c0_i32_44 c1_i32_46 k1_t4
  let c16_i32_909 : BitVec 32 := 16#32
  let v3597 : BitVec 32 := Scalar.muli arg37 c16_i32_909
  let c12_i32 : BitVec 32 := 12#32
  let v3598 : BitVec 32 := Scalar.addi v3597 c12_i32
  let v3616 : Index := Scalar.indexCast v3598
  let c32_914 : Index := 32#32
  ![v3616.toNat, 32]
def k1_off1378 (k1_t4 : Fin k1_t4_loop.trips) : Fin 2 → Nat :=
  let c0_i32_44 : BitVec 32 := 0#32
  let c1_i32_46 : BitVec 32 := 1#32
  let arg37 : BitVec 32 := Scf.iv c0_i32_44 c1_i32_46 k1_t4
  let c16_i32_909 : BitVec 32 := 16#32
  let v3597 : BitVec 32 := Scalar.muli arg37 c16_i32_909
  let c12_i32 : BitVec 32 := 12#32
  let v3598 : BitVec 32 := Scalar.addi v3597 c12_i32
  let v3624 : Index := Scalar.indexCast v3598
  let c48_916 : Index := 48#32
  ![v3624.toNat, 48]
def k1_off1379 (k1_t4 : Fin k1_t4_loop.trips) : Fin 2 → Nat :=
  let c0_i32_44 : BitVec 32 := 0#32
  let c1_i32_46 : BitVec 32 := 1#32
  let arg37 : BitVec 32 := Scf.iv c0_i32_44 c1_i32_46 k1_t4
  let c16_i32_909 : BitVec 32 := 16#32
  let v3597 : BitVec 32 := Scalar.muli arg37 c16_i32_909
  let c12_i32 : BitVec 32 := 12#32
  let v3598 : BitVec 32 := Scalar.addi v3597 c12_i32
  let v3632 : Index := Scalar.indexCast v3598
  let c64_918 : Index := 64#32
  ![v3632.toNat, 64]
def k1_off1380 (k1_t4 : Fin k1_t4_loop.trips) : Fin 2 → Nat :=
  let c0_i32_44 : BitVec 32 := 0#32
  let c1_i32_46 : BitVec 32 := 1#32
  let arg37 : BitVec 32 := Scf.iv c0_i32_44 c1_i32_46 k1_t4
  let c16_i32_909 : BitVec 32 := 16#32
  let v3597 : BitVec 32 := Scalar.muli arg37 c16_i32_909
  let c12_i32 : BitVec 32 := 12#32
  let v3598 : BitVec 32 := Scalar.addi v3597 c12_i32
  let v3640 : Index := Scalar.indexCast v3598
  let c80_920 : Index := 80#32
  ![v3640.toNat, 80]
def k1_off1381 (k1_t4 : Fin k1_t4_loop.trips) : Fin 2 → Nat :=
  let c0_i32_44 : BitVec 32 := 0#32
  let c1_i32_46 : BitVec 32 := 1#32
  let arg37 : BitVec 32 := Scf.iv c0_i32_44 c1_i32_46 k1_t4
  let c16_i32_909 : BitVec 32 := 16#32
  let v3597 : BitVec 32 := Scalar.muli arg37 c16_i32_909
  let c12_i32 : BitVec 32 := 12#32
  let v3598 : BitVec 32 := Scalar.addi v3597 c12_i32
  let v3648 : Index := Scalar.indexCast v3598
  let c96_922 : Index := 96#32
  ![v3648.toNat, 96]
def k1_off1382 (k1_t4 : Fin k1_t4_loop.trips) : Fin 2 → Nat :=
  let c0_i32_44 : BitVec 32 := 0#32
  let c1_i32_46 : BitVec 32 := 1#32
  let arg37 : BitVec 32 := Scf.iv c0_i32_44 c1_i32_46 k1_t4
  let c16_i32_909 : BitVec 32 := 16#32
  let v3597 : BitVec 32 := Scalar.muli arg37 c16_i32_909
  let c12_i32 : BitVec 32 := 12#32
  let v3598 : BitVec 32 := Scalar.addi v3597 c12_i32
  let v3656 : Index := Scalar.indexCast v3598
  let c112_924 : Index := 112#32
  ![v3656.toNat, 112]
def k1_off1383 (k1_t4 : Fin k1_t4_loop.trips) : Fin 2 → Nat :=
  let c0_i32_44 : BitVec 32 := 0#32
  let c1_i32_46 : BitVec 32 := 1#32
  let arg37 : BitVec 32 := Scf.iv c0_i32_44 c1_i32_46 k1_t4
  let c16_i32_909 : BitVec 32 := 16#32
  let v3597 : BitVec 32 := Scalar.muli arg37 c16_i32_909
  let c12_i32 : BitVec 32 := 12#32
  let v3598 : BitVec 32 := Scalar.addi v3597 c12_i32
  let v3664 : Index := Scalar.indexCast v3598
  let c128_926 : Index := 128#32
  ![v3664.toNat, 128]
def k1_off1384 (k1_t4 : Fin k1_t4_loop.trips) : Fin 2 → Nat :=
  let c0_i32_44 : BitVec 32 := 0#32
  let c1_i32_46 : BitVec 32 := 1#32
  let arg37 : BitVec 32 := Scf.iv c0_i32_44 c1_i32_46 k1_t4
  let c16_i32_909 : BitVec 32 := 16#32
  let v3597 : BitVec 32 := Scalar.muli arg37 c16_i32_909
  let c12_i32 : BitVec 32 := 12#32
  let v3598 : BitVec 32 := Scalar.addi v3597 c12_i32
  let v3672 : Index := Scalar.indexCast v3598
  let c144_928 : Index := 144#32
  ![v3672.toNat, 144]
def k1_off1385 (k1_t4 : Fin k1_t4_loop.trips) : Fin 2 → Nat :=
  let c0_i32_44 : BitVec 32 := 0#32
  let c1_i32_46 : BitVec 32 := 1#32
  let arg37 : BitVec 32 := Scf.iv c0_i32_44 c1_i32_46 k1_t4
  let c16_i32_909 : BitVec 32 := 16#32
  let v3597 : BitVec 32 := Scalar.muli arg37 c16_i32_909
  let c12_i32 : BitVec 32 := 12#32
  let v3598 : BitVec 32 := Scalar.addi v3597 c12_i32
  let v3680 : Index := Scalar.indexCast v3598
  let c160_930 : Index := 160#32
  ![v3680.toNat, 160]
def k1_off1386 (k1_t4 : Fin k1_t4_loop.trips) : Fin 2 → Nat :=
  let c0_i32_44 : BitVec 32 := 0#32
  let c1_i32_46 : BitVec 32 := 1#32
  let arg37 : BitVec 32 := Scf.iv c0_i32_44 c1_i32_46 k1_t4
  let c16_i32_909 : BitVec 32 := 16#32
  let v3597 : BitVec 32 := Scalar.muli arg37 c16_i32_909
  let c12_i32 : BitVec 32 := 12#32
  let v3598 : BitVec 32 := Scalar.addi v3597 c12_i32
  let v3688 : Index := Scalar.indexCast v3598
  let c176_932 : Index := 176#32
  ![v3688.toNat, 176]
def k1_off1387 (k1_t4 : Fin k1_t4_loop.trips) : Fin 2 → Nat :=
  let c0_i32_44 : BitVec 32 := 0#32
  let c1_i32_46 : BitVec 32 := 1#32
  let arg37 : BitVec 32 := Scf.iv c0_i32_44 c1_i32_46 k1_t4
  let c16_i32_909 : BitVec 32 := 16#32
  let v3597 : BitVec 32 := Scalar.muli arg37 c16_i32_909
  let c12_i32 : BitVec 32 := 12#32
  let v3598 : BitVec 32 := Scalar.addi v3597 c12_i32
  let v3696 : Index := Scalar.indexCast v3598
  let c192_934 : Index := 192#32
  ![v3696.toNat, 192]
def k1_off1388 (k1_t4 : Fin k1_t4_loop.trips) : Fin 2 → Nat :=
  let c0_i32_44 : BitVec 32 := 0#32
  let c1_i32_46 : BitVec 32 := 1#32
  let arg37 : BitVec 32 := Scf.iv c0_i32_44 c1_i32_46 k1_t4
  let c16_i32_909 : BitVec 32 := 16#32
  let v3597 : BitVec 32 := Scalar.muli arg37 c16_i32_909
  let c12_i32 : BitVec 32 := 12#32
  let v3598 : BitVec 32 := Scalar.addi v3597 c12_i32
  let v3704 : Index := Scalar.indexCast v3598
  let c208_936 : Index := 208#32
  ![v3704.toNat, 208]
def k1_off1389 (k1_t4 : Fin k1_t4_loop.trips) : Fin 2 → Nat :=
  let c0_i32_44 : BitVec 32 := 0#32
  let c1_i32_46 : BitVec 32 := 1#32
  let arg37 : BitVec 32 := Scf.iv c0_i32_44 c1_i32_46 k1_t4
  let c16_i32_909 : BitVec 32 := 16#32
  let v3597 : BitVec 32 := Scalar.muli arg37 c16_i32_909
  let c12_i32 : BitVec 32 := 12#32
  let v3598 : BitVec 32 := Scalar.addi v3597 c12_i32
  let v3712 : Index := Scalar.indexCast v3598
  let c224_938 : Index := 224#32
  ![v3712.toNat, 224]
def k1_off1390 (k1_t4 : Fin k1_t4_loop.trips) : Fin 2 → Nat :=
  let c0_i32_44 : BitVec 32 := 0#32
  let c1_i32_46 : BitVec 32 := 1#32
  let arg37 : BitVec 32 := Scf.iv c0_i32_44 c1_i32_46 k1_t4
  let c16_i32_909 : BitVec 32 := 16#32
  let v3597 : BitVec 32 := Scalar.muli arg37 c16_i32_909
  let c12_i32 : BitVec 32 := 12#32
  let v3598 : BitVec 32 := Scalar.addi v3597 c12_i32
  let v3720 : Index := Scalar.indexCast v3598
  let c240_940 : Index := 240#32
  ![v3720.toNat, 240]
def k1_off1391 (k1_t4 : Fin k1_t4_loop.trips) : Fin 2 → Nat :=
  let c0_i32_44 : BitVec 32 := 0#32
  let c1_i32_46 : BitVec 32 := 1#32
  let arg37 : BitVec 32 := Scf.iv c0_i32_44 c1_i32_46 k1_t4
  let c16_i32_909 : BitVec 32 := 16#32
  let v3597 : BitVec 32 := Scalar.muli arg37 c16_i32_909
  let c12_i32 : BitVec 32 := 12#32
  let v3598 : BitVec 32 := Scalar.addi v3597 c12_i32
  let v3728 : Index := Scalar.indexCast v3598
  let c256_942 : Index := 256#32
  ![v3728.toNat, 256]
def k1_off1392 (k1_t4 : Fin k1_t4_loop.trips) : Fin 2 → Nat :=
  let c0_i32_44 : BitVec 32 := 0#32
  let c1_i32_46 : BitVec 32 := 1#32
  let arg37 : BitVec 32 := Scf.iv c0_i32_44 c1_i32_46 k1_t4
  let c16_i32_909 : BitVec 32 := 16#32
  let v3597 : BitVec 32 := Scalar.muli arg37 c16_i32_909
  let c12_i32 : BitVec 32 := 12#32
  let v3598 : BitVec 32 := Scalar.addi v3597 c12_i32
  let v3736 : Index := Scalar.indexCast v3598
  let c272_944 : Index := 272#32
  ![v3736.toNat, 272]
def k1_off1393 (k1_t4 : Fin k1_t4_loop.trips) : Fin 2 → Nat :=
  let c0_i32_44 : BitVec 32 := 0#32
  let c1_i32_46 : BitVec 32 := 1#32
  let arg37 : BitVec 32 := Scf.iv c0_i32_44 c1_i32_46 k1_t4
  let c16_i32_909 : BitVec 32 := 16#32
  let v3597 : BitVec 32 := Scalar.muli arg37 c16_i32_909
  let c12_i32 : BitVec 32 := 12#32
  let v3598 : BitVec 32 := Scalar.addi v3597 c12_i32
  let v3744 : Index := Scalar.indexCast v3598
  let c288_946 : Index := 288#32
  ![v3744.toNat, 288]
def k1_off1394 (k1_t4 : Fin k1_t4_loop.trips) : Fin 2 → Nat :=
  let c0_i32_44 : BitVec 32 := 0#32
  let c1_i32_46 : BitVec 32 := 1#32
  let arg37 : BitVec 32 := Scf.iv c0_i32_44 c1_i32_46 k1_t4
  let c16_i32_909 : BitVec 32 := 16#32
  let v3597 : BitVec 32 := Scalar.muli arg37 c16_i32_909
  let c12_i32 : BitVec 32 := 12#32
  let v3598 : BitVec 32 := Scalar.addi v3597 c12_i32
  let v3752 : Index := Scalar.indexCast v3598
  let c304_948 : Index := 304#32
  ![v3752.toNat, 304]
def k1_off1395 (k1_t4 : Fin k1_t4_loop.trips) : Fin 2 → Nat :=
  let c0_i32_44 : BitVec 32 := 0#32
  let c1_i32_46 : BitVec 32 := 1#32
  let arg37 : BitVec 32 := Scf.iv c0_i32_44 c1_i32_46 k1_t4
  let c16_i32_909 : BitVec 32 := 16#32
  let v3597 : BitVec 32 := Scalar.muli arg37 c16_i32_909
  let c12_i32 : BitVec 32 := 12#32
  let v3598 : BitVec 32 := Scalar.addi v3597 c12_i32
  let v3760 : Index := Scalar.indexCast v3598
  let c320_950 : Index := 320#32
  ![v3760.toNat, 320]
def k1_off1396 (k1_t4 : Fin k1_t4_loop.trips) : Fin 2 → Nat :=
  let c0_i32_44 : BitVec 32 := 0#32
  let c1_i32_46 : BitVec 32 := 1#32
  let arg37 : BitVec 32 := Scf.iv c0_i32_44 c1_i32_46 k1_t4
  let c16_i32_909 : BitVec 32 := 16#32
  let v3597 : BitVec 32 := Scalar.muli arg37 c16_i32_909
  let c12_i32 : BitVec 32 := 12#32
  let v3598 : BitVec 32 := Scalar.addi v3597 c12_i32
  let v3768 : Index := Scalar.indexCast v3598
  let c336_952 : Index := 336#32
  ![v3768.toNat, 336]
def k1_off1397 (k1_t4 : Fin k1_t4_loop.trips) : Fin 2 → Nat :=
  let c0_i32_44 : BitVec 32 := 0#32
  let c1_i32_46 : BitVec 32 := 1#32
  let arg37 : BitVec 32 := Scf.iv c0_i32_44 c1_i32_46 k1_t4
  let c16_i32_909 : BitVec 32 := 16#32
  let v3597 : BitVec 32 := Scalar.muli arg37 c16_i32_909
  let c12_i32 : BitVec 32 := 12#32
  let v3598 : BitVec 32 := Scalar.addi v3597 c12_i32
  let v3776 : Index := Scalar.indexCast v3598
  let c352_954 : Index := 352#32
  ![v3776.toNat, 352]
def k1_off1398 (k1_t4 : Fin k1_t4_loop.trips) : Fin 2 → Nat :=
  let c0_i32_44 : BitVec 32 := 0#32
  let c1_i32_46 : BitVec 32 := 1#32
  let arg37 : BitVec 32 := Scf.iv c0_i32_44 c1_i32_46 k1_t4
  let c16_i32_909 : BitVec 32 := 16#32
  let v3597 : BitVec 32 := Scalar.muli arg37 c16_i32_909
  let c12_i32 : BitVec 32 := 12#32
  let v3598 : BitVec 32 := Scalar.addi v3597 c12_i32
  let v3784 : Index := Scalar.indexCast v3598
  let c368_956 : Index := 368#32
  ![v3784.toNat, 368]
def k1_off1399 (v3596 : BitVec 32) : Fin 2 → Nat :=
  let v3792 : Index := Scalar.indexCast v3596
  let c0_958 : Index := 0#32
  ![v3792.toNat, 0]

def k1_off1400 (v3596 : BitVec 32) : Fin 2 → Nat :=
  let v3796 : Index := Scalar.indexCast v3596
  let c16_959 : Index := 16#32
  ![v3796.toNat, 16]
def k1_off1401 (v3596 : BitVec 32) : Fin 2 → Nat :=
  let v3800 : Index := Scalar.indexCast v3596
  let c32_960 : Index := 32#32
  ![v3800.toNat, 32]
def k1_off1402 (v3596 : BitVec 32) : Fin 2 → Nat :=
  let v3804 : Index := Scalar.indexCast v3596
  let c48_961 : Index := 48#32
  ![v3804.toNat, 48]
def k1_off1403 (v3596 : BitVec 32) : Fin 2 → Nat :=
  let v3808 : Index := Scalar.indexCast v3596
  let c64_962 : Index := 64#32
  ![v3808.toNat, 64]
def k1_off1404 (v3596 : BitVec 32) : Fin 2 → Nat :=
  let v3812 : Index := Scalar.indexCast v3596
  let c80_963 : Index := 80#32
  ![v3812.toNat, 80]
def k1_off1405 (v3596 : BitVec 32) : Fin 2 → Nat :=
  let v3816 : Index := Scalar.indexCast v3596
  let c96_964 : Index := 96#32
  ![v3816.toNat, 96]
def k1_off1406 (v3596 : BitVec 32) : Fin 2 → Nat :=
  let v3820 : Index := Scalar.indexCast v3596
  let c112_965 : Index := 112#32
  ![v3820.toNat, 112]
def k1_off1407 (v3596 : BitVec 32) : Fin 2 → Nat :=
  let v3824 : Index := Scalar.indexCast v3596
  let c128_966 : Index := 128#32
  ![v3824.toNat, 128]
def k1_off1408 (v3596 : BitVec 32) : Fin 2 → Nat :=
  let v3828 : Index := Scalar.indexCast v3596
  let c144_967 : Index := 144#32
  ![v3828.toNat, 144]
def k1_off1409 (v3596 : BitVec 32) : Fin 2 → Nat :=
  let v3832 : Index := Scalar.indexCast v3596
  let c160_968 : Index := 160#32
  ![v3832.toNat, 160]
def k1_off1410 (v3596 : BitVec 32) : Fin 2 → Nat :=
  let v3836 : Index := Scalar.indexCast v3596
  let c176_969 : Index := 176#32
  ![v3836.toNat, 176]
def k1_off1411 (v3596 : BitVec 32) : Fin 2 → Nat :=
  let v3840 : Index := Scalar.indexCast v3596
  let c192_970 : Index := 192#32
  ![v3840.toNat, 192]
def k1_off1412 (v3596 : BitVec 32) : Fin 2 → Nat :=
  let v3844 : Index := Scalar.indexCast v3596
  let c208_971 : Index := 208#32
  ![v3844.toNat, 208]
def k1_off1413 (v3596 : BitVec 32) : Fin 2 → Nat :=
  let v3848 : Index := Scalar.indexCast v3596
  let c224_972 : Index := 224#32
  ![v3848.toNat, 224]
def k1_off1414 (v3596 : BitVec 32) : Fin 2 → Nat :=
  let v3852 : Index := Scalar.indexCast v3596
  let c240_973 : Index := 240#32
  ![v3852.toNat, 240]
def k1_off1415 (v3596 : BitVec 32) : Fin 2 → Nat :=
  let v3856 : Index := Scalar.indexCast v3596
  let c256_974 : Index := 256#32
  ![v3856.toNat, 256]
def k1_off1416 (v3596 : BitVec 32) : Fin 2 → Nat :=
  let v3860 : Index := Scalar.indexCast v3596
  let c272_975 : Index := 272#32
  ![v3860.toNat, 272]
def k1_off1417 (v3596 : BitVec 32) : Fin 2 → Nat :=
  let v3864 : Index := Scalar.indexCast v3596
  let c288_976 : Index := 288#32
  ![v3864.toNat, 288]
def k1_off1418 (v3596 : BitVec 32) : Fin 2 → Nat :=
  let v3868 : Index := Scalar.indexCast v3596
  let c304_977 : Index := 304#32
  ![v3868.toNat, 304]
def k1_off1419 (v3596 : BitVec 32) : Fin 2 → Nat :=
  let v3872 : Index := Scalar.indexCast v3596
  let c320_978 : Index := 320#32
  ![v3872.toNat, 320]
def k1_off1420 (v3596 : BitVec 32) : Fin 2 → Nat :=
  let v3876 : Index := Scalar.indexCast v3596
  let c336_979 : Index := 336#32
  ![v3876.toNat, 336]
def k1_off1421 (v3596 : BitVec 32) : Fin 2 → Nat :=
  let v3880 : Index := Scalar.indexCast v3596
  let c352_980 : Index := 352#32
  ![v3880.toNat, 352]
def k1_off1422 (v3596 : BitVec 32) : Fin 2 → Nat :=
  let v3884 : Index := Scalar.indexCast v3596
  let c368_981 : Index := 368#32
  ![v3884.toNat, 368]

def k1_chk29 (i : grid1.Coords) (v3596 : BitVec 32) : Prop :=
  (∀ (k1_h1 : k1_cond1 i = 1#1), ∀ a, (k1_off1399 v3596) a + S1x16.size a ≤ S256x384.size a) ∧
  (∀ (k1_h1 : k1_cond1 i = 1#1), ∀ a, (k1_off1400 v3596) a + S1x16.size a ≤ S256x384.size a) ∧
  (∀ (k1_h1 : k1_cond1 i = 1#1), ∀ a, (k1_off1401 v3596) a + S1x16.size a ≤ S256x384.size a) ∧
  (∀ (k1_h1 : k1_cond1 i = 1#1), ∀ a, (k1_off1402 v3596) a + S1x16.size a ≤ S256x384.size a) ∧
  (∀ (k1_h1 : k1_cond1 i = 1#1), ∀ a, (k1_off1403 v3596) a + S1x16.size a ≤ S256x384.size a) ∧
  (∀ (k1_h1 : k1_cond1 i = 1#1), ∀ a, (k1_off1404 v3596) a + S1x16.size a ≤ S256x384.size a) ∧
  (∀ (k1_h1 : k1_cond1 i = 1#1), ∀ a, (k1_off1405 v3596) a + S1x16.size a ≤ S256x384.size a) ∧
  (∀ (k1_h1 : k1_cond1 i = 1#1), ∀ a, (k1_off1406 v3596) a + S1x16.size a ≤ S256x384.size a) ∧
  (∀ (k1_h1 : k1_cond1 i = 1#1), ∀ a, (k1_off1407 v3596) a + S1x16.size a ≤ S256x384.size a) ∧
  (∀ (k1_h1 : k1_cond1 i = 1#1), ∀ a, (k1_off1408 v3596) a + S1x16.size a ≤ S256x384.size a) ∧
  (∀ (k1_h1 : k1_cond1 i = 1#1), ∀ a, (k1_off1409 v3596) a + S1x16.size a ≤ S256x384.size a) ∧
  (∀ (k1_h1 : k1_cond1 i = 1#1), ∀ a, (k1_off1410 v3596) a + S1x16.size a ≤ S256x384.size a) ∧
  (∀ (k1_h1 : k1_cond1 i = 1#1), ∀ a, (k1_off1411 v3596) a + S1x16.size a ≤ S256x384.size a) ∧
  (∀ (k1_h1 : k1_cond1 i = 1#1), ∀ a, (k1_off1412 v3596) a + S1x16.size a ≤ S256x384.size a) ∧
  (∀ (k1_h1 : k1_cond1 i = 1#1), ∀ a, (k1_off1413 v3596) a + S1x16.size a ≤ S256x384.size a) ∧
  (∀ (k1_h1 : k1_cond1 i = 1#1), ∀ a, (k1_off1414 v3596) a + S1x16.size a ≤ S256x384.size a) ∧
  (∀ (k1_h1 : k1_cond1 i = 1#1), ∀ a, (k1_off1415 v3596) a + S1x16.size a ≤ S256x384.size a) ∧
  (∀ (k1_h1 : k1_cond1 i = 1#1), ∀ a, (k1_off1416 v3596) a + S1x16.size a ≤ S256x384.size a) ∧
  (∀ (k1_h1 : k1_cond1 i = 1#1), ∀ a, (k1_off1417 v3596) a + S1x16.size a ≤ S256x384.size a) ∧
  (∀ (k1_h1 : k1_cond1 i = 1#1), ∀ a, (k1_off1418 v3596) a + S1x16.size a ≤ S256x384.size a) ∧
  (∀ (k1_h1 : k1_cond1 i = 1#1), ∀ a, (k1_off1419 v3596) a + S1x16.size a ≤ S256x384.size a) ∧
  (∀ (k1_h1 : k1_cond1 i = 1#1), ∀ a, (k1_off1420 v3596) a + S1x16.size a ≤ S256x384.size a) ∧
  (∀ (k1_h1 : k1_cond1 i = 1#1), ∀ a, (k1_off1421 v3596) a + S1x16.size a ≤ S256x384.size a) ∧
  (∀ (k1_h1 : k1_cond1 i = 1#1), ∀ a, (k1_off1422 v3596) a + S1x16.size a ≤ S256x384.size a)
theorem k1_off1399_inb : ∀ (i : grid1.Coords) (v3596 : BitVec 32) (k1_hw29 : k1_chk29 i v3596), ∀ (k1_h1 : k1_cond1 i = 1#1), ∀ a, (k1_off1399 v3596) a + S1x16.size a ≤ S256x384.size a := fun i v3596 k1_hw29 k1_h1 => k1_hw29.1 k1_h1
theorem k1_off1400_inb : ∀ (i : grid1.Coords) (v3596 : BitVec 32) (k1_hw29 : k1_chk29 i v3596), ∀ (k1_h1 : k1_cond1 i = 1#1), ∀ a, (k1_off1400 v3596) a + S1x16.size a ≤ S256x384.size a := fun i v3596 k1_hw29 k1_h1 => k1_hw29.2.1 k1_h1
theorem k1_off1401_inb : ∀ (i : grid1.Coords) (v3596 : BitVec 32) (k1_hw29 : k1_chk29 i v3596), ∀ (k1_h1 : k1_cond1 i = 1#1), ∀ a, (k1_off1401 v3596) a + S1x16.size a ≤ S256x384.size a := fun i v3596 k1_hw29 k1_h1 => k1_hw29.2.2.1 k1_h1
theorem k1_off1402_inb : ∀ (i : grid1.Coords) (v3596 : BitVec 32) (k1_hw29 : k1_chk29 i v3596), ∀ (k1_h1 : k1_cond1 i = 1#1), ∀ a, (k1_off1402 v3596) a + S1x16.size a ≤ S256x384.size a := fun i v3596 k1_hw29 k1_h1 => k1_hw29.2.2.2.1 k1_h1
theorem k1_off1403_inb : ∀ (i : grid1.Coords) (v3596 : BitVec 32) (k1_hw29 : k1_chk29 i v3596), ∀ (k1_h1 : k1_cond1 i = 1#1), ∀ a, (k1_off1403 v3596) a + S1x16.size a ≤ S256x384.size a := fun i v3596 k1_hw29 k1_h1 => k1_hw29.2.2.2.2.1 k1_h1
theorem k1_off1404_inb : ∀ (i : grid1.Coords) (v3596 : BitVec 32) (k1_hw29 : k1_chk29 i v3596), ∀ (k1_h1 : k1_cond1 i = 1#1), ∀ a, (k1_off1404 v3596) a + S1x16.size a ≤ S256x384.size a := fun i v3596 k1_hw29 k1_h1 => k1_hw29.2.2.2.2.2.1 k1_h1
theorem k1_off1405_inb : ∀ (i : grid1.Coords) (v3596 : BitVec 32) (k1_hw29 : k1_chk29 i v3596), ∀ (k1_h1 : k1_cond1 i = 1#1), ∀ a, (k1_off1405 v3596) a + S1x16.size a ≤ S256x384.size a := fun i v3596 k1_hw29 k1_h1 => k1_hw29.2.2.2.2.2.2.1 k1_h1
theorem k1_off1406_inb : ∀ (i : grid1.Coords) (v3596 : BitVec 32) (k1_hw29 : k1_chk29 i v3596), ∀ (k1_h1 : k1_cond1 i = 1#1), ∀ a, (k1_off1406 v3596) a + S1x16.size a ≤ S256x384.size a := fun i v3596 k1_hw29 k1_h1 => k1_hw29.2.2.2.2.2.2.2.1 k1_h1
theorem k1_off1407_inb : ∀ (i : grid1.Coords) (v3596 : BitVec 32) (k1_hw29 : k1_chk29 i v3596), ∀ (k1_h1 : k1_cond1 i = 1#1), ∀ a, (k1_off1407 v3596) a + S1x16.size a ≤ S256x384.size a := fun i v3596 k1_hw29 k1_h1 => k1_hw29.2.2.2.2.2.2.2.2.1 k1_h1
theorem k1_off1408_inb : ∀ (i : grid1.Coords) (v3596 : BitVec 32) (k1_hw29 : k1_chk29 i v3596), ∀ (k1_h1 : k1_cond1 i = 1#1), ∀ a, (k1_off1408 v3596) a + S1x16.size a ≤ S256x384.size a := fun i v3596 k1_hw29 k1_h1 => k1_hw29.2.2.2.2.2.2.2.2.2.1 k1_h1
theorem k1_off1409_inb : ∀ (i : grid1.Coords) (v3596 : BitVec 32) (k1_hw29 : k1_chk29 i v3596), ∀ (k1_h1 : k1_cond1 i = 1#1), ∀ a, (k1_off1409 v3596) a + S1x16.size a ≤ S256x384.size a := fun i v3596 k1_hw29 k1_h1 => k1_hw29.2.2.2.2.2.2.2.2.2.2.1 k1_h1
theorem k1_off1410_inb : ∀ (i : grid1.Coords) (v3596 : BitVec 32) (k1_hw29 : k1_chk29 i v3596), ∀ (k1_h1 : k1_cond1 i = 1#1), ∀ a, (k1_off1410 v3596) a + S1x16.size a ≤ S256x384.size a := fun i v3596 k1_hw29 k1_h1 => k1_hw29.2.2.2.2.2.2.2.2.2.2.2.1 k1_h1
theorem k1_off1411_inb : ∀ (i : grid1.Coords) (v3596 : BitVec 32) (k1_hw29 : k1_chk29 i v3596), ∀ (k1_h1 : k1_cond1 i = 1#1), ∀ a, (k1_off1411 v3596) a + S1x16.size a ≤ S256x384.size a := fun i v3596 k1_hw29 k1_h1 => k1_hw29.2.2.2.2.2.2.2.2.2.2.2.2.1 k1_h1
theorem k1_off1412_inb : ∀ (i : grid1.Coords) (v3596 : BitVec 32) (k1_hw29 : k1_chk29 i v3596), ∀ (k1_h1 : k1_cond1 i = 1#1), ∀ a, (k1_off1412 v3596) a + S1x16.size a ≤ S256x384.size a := fun i v3596 k1_hw29 k1_h1 => k1_hw29.2.2.2.2.2.2.2.2.2.2.2.2.2.1 k1_h1
theorem k1_off1413_inb : ∀ (i : grid1.Coords) (v3596 : BitVec 32) (k1_hw29 : k1_chk29 i v3596), ∀ (k1_h1 : k1_cond1 i = 1#1), ∀ a, (k1_off1413 v3596) a + S1x16.size a ≤ S256x384.size a := fun i v3596 k1_hw29 k1_h1 => k1_hw29.2.2.2.2.2.2.2.2.2.2.2.2.2.2.1 k1_h1
theorem k1_off1414_inb : ∀ (i : grid1.Coords) (v3596 : BitVec 32) (k1_hw29 : k1_chk29 i v3596), ∀ (k1_h1 : k1_cond1 i = 1#1), ∀ a, (k1_off1414 v3596) a + S1x16.size a ≤ S256x384.size a := fun i v3596 k1_hw29 k1_h1 => k1_hw29.2.2.2.2.2.2.2.2.2.2.2.2.2.2.2.1 k1_h1
theorem k1_off1415_inb : ∀ (i : grid1.Coords) (v3596 : BitVec 32) (k1_hw29 : k1_chk29 i v3596), ∀ (k1_h1 : k1_cond1 i = 1#1), ∀ a, (k1_off1415 v3596) a + S1x16.size a ≤ S256x384.size a := fun i v3596 k1_hw29 k1_h1 => k1_hw29.2.2.2.2.2.2.2.2.2.2.2.2.2.2.2.2.1 k1_h1
theorem k1_off1416_inb : ∀ (i : grid1.Coords) (v3596 : BitVec 32) (k1_hw29 : k1_chk29 i v3596), ∀ (k1_h1 : k1_cond1 i = 1#1), ∀ a, (k1_off1416 v3596) a + S1x16.size a ≤ S256x384.size a := fun i v3596 k1_hw29 k1_h1 => k1_hw29.2.2.2.2.2.2.2.2.2.2.2.2.2.2.2.2.2.1 k1_h1
theorem k1_off1417_inb : ∀ (i : grid1.Coords) (v3596 : BitVec 32) (k1_hw29 : k1_chk29 i v3596), ∀ (k1_h1 : k1_cond1 i = 1#1), ∀ a, (k1_off1417 v3596) a + S1x16.size a ≤ S256x384.size a := fun i v3596 k1_hw29 k1_h1 => k1_hw29.2.2.2.2.2.2.2.2.2.2.2.2.2.2.2.2.2.2.1 k1_h1
theorem k1_off1418_inb : ∀ (i : grid1.Coords) (v3596 : BitVec 32) (k1_hw29 : k1_chk29 i v3596), ∀ (k1_h1 : k1_cond1 i = 1#1), ∀ a, (k1_off1418 v3596) a + S1x16.size a ≤ S256x384.size a := fun i v3596 k1_hw29 k1_h1 => k1_hw29.2.2.2.2.2.2.2.2.2.2.2.2.2.2.2.2.2.2.2.1 k1_h1
theorem k1_off1419_inb : ∀ (i : grid1.Coords) (v3596 : BitVec 32) (k1_hw29 : k1_chk29 i v3596), ∀ (k1_h1 : k1_cond1 i = 1#1), ∀ a, (k1_off1419 v3596) a + S1x16.size a ≤ S256x384.size a := fun i v3596 k1_hw29 k1_h1 => k1_hw29.2.2.2.2.2.2.2.2.2.2.2.2.2.2.2.2.2.2.2.2.1 k1_h1
theorem k1_off1420_inb : ∀ (i : grid1.Coords) (v3596 : BitVec 32) (k1_hw29 : k1_chk29 i v3596), ∀ (k1_h1 : k1_cond1 i = 1#1), ∀ a, (k1_off1420 v3596) a + S1x16.size a ≤ S256x384.size a := fun i v3596 k1_hw29 k1_h1 => k1_hw29.2.2.2.2.2.2.2.2.2.2.2.2.2.2.2.2.2.2.2.2.2.1 k1_h1
theorem k1_off1421_inb : ∀ (i : grid1.Coords) (v3596 : BitVec 32) (k1_hw29 : k1_chk29 i v3596), ∀ (k1_h1 : k1_cond1 i = 1#1), ∀ a, (k1_off1421 v3596) a + S1x16.size a ≤ S256x384.size a := fun i v3596 k1_hw29 k1_h1 => k1_hw29.2.2.2.2.2.2.2.2.2.2.2.2.2.2.2.2.2.2.2.2.2.2.1 k1_h1
theorem k1_off1422_inb : ∀ (i : grid1.Coords) (v3596 : BitVec 32) (k1_hw29 : k1_chk29 i v3596), ∀ (k1_h1 : k1_cond1 i = 1#1), ∀ a, (k1_off1422 v3596) a + S1x16.size a ≤ S256x384.size a := fun i v3596 k1_hw29 k1_h1 => k1_hw29.2.2.2.2.2.2.2.2.2.2.2.2.2.2.2.2.2.2.2.2.2.2.2 k1_h1

def k1_off1423 (k1_t4 : Fin k1_t4_loop.trips) : Fin 2 → Nat :=
  let c0_i32_44 : BitVec 32 := 0#32
  let c1_i32_46 : BitVec 32 := 1#32
  let arg37 : BitVec 32 := Scf.iv c0_i32_44 c1_i32_46 k1_t4
  let c16_i32_982 : BitVec 32 := 16#32
  let v3890 : BitVec 32 := Scalar.muli arg37 c16_i32_982
  let c13_i32 : BitVec 32 := 13#32
  let v3891 : BitVec 32 := Scalar.addi v3890 c13_i32
  let v3893 : Index := Scalar.indexCast v3891
  let c0_983 : Index := 0#32
  ![v3893.toNat, 0]
def k1_off1424 (k1_t4 : Fin k1_t4_loop.trips) : Fin 2 → Nat :=
  let c0_i32_44 : BitVec 32 := 0#32
  let c1_i32_46 : BitVec 32 := 1#32
  let arg37 : BitVec 32 := Scf.iv c0_i32_44 c1_i32_46 k1_t4
  let c16_i32_982 : BitVec 32 := 16#32
  let v3890 : BitVec 32 := Scalar.muli arg37 c16_i32_982
  let c13_i32 : BitVec 32 := 13#32
  let v3891 : BitVec 32 := Scalar.addi v3890 c13_i32
  let v3901 : Index := Scalar.indexCast v3891
  let c16_985 : Index := 16#32
  ![v3901.toNat, 16]
def k1_off1425 (k1_t4 : Fin k1_t4_loop.trips) : Fin 2 → Nat :=
  let c0_i32_44 : BitVec 32 := 0#32
  let c1_i32_46 : BitVec 32 := 1#32
  let arg37 : BitVec 32 := Scf.iv c0_i32_44 c1_i32_46 k1_t4
  let c16_i32_982 : BitVec 32 := 16#32
  let v3890 : BitVec 32 := Scalar.muli arg37 c16_i32_982
  let c13_i32 : BitVec 32 := 13#32
  let v3891 : BitVec 32 := Scalar.addi v3890 c13_i32
  let v3909 : Index := Scalar.indexCast v3891
  let c32_987 : Index := 32#32
  ![v3909.toNat, 32]
def k1_off1426 (k1_t4 : Fin k1_t4_loop.trips) : Fin 2 → Nat :=
  let c0_i32_44 : BitVec 32 := 0#32
  let c1_i32_46 : BitVec 32 := 1#32
  let arg37 : BitVec 32 := Scf.iv c0_i32_44 c1_i32_46 k1_t4
  let c16_i32_982 : BitVec 32 := 16#32
  let v3890 : BitVec 32 := Scalar.muli arg37 c16_i32_982
  let c13_i32 : BitVec 32 := 13#32
  let v3891 : BitVec 32 := Scalar.addi v3890 c13_i32
  let v3917 : Index := Scalar.indexCast v3891
  let c48_989 : Index := 48#32
  ![v3917.toNat, 48]
def k1_off1427 (k1_t4 : Fin k1_t4_loop.trips) : Fin 2 → Nat :=
  let c0_i32_44 : BitVec 32 := 0#32
  let c1_i32_46 : BitVec 32 := 1#32
  let arg37 : BitVec 32 := Scf.iv c0_i32_44 c1_i32_46 k1_t4
  let c16_i32_982 : BitVec 32 := 16#32
  let v3890 : BitVec 32 := Scalar.muli arg37 c16_i32_982
  let c13_i32 : BitVec 32 := 13#32
  let v3891 : BitVec 32 := Scalar.addi v3890 c13_i32
  let v3925 : Index := Scalar.indexCast v3891
  let c64_991 : Index := 64#32
  ![v3925.toNat, 64]
def k1_off1428 (k1_t4 : Fin k1_t4_loop.trips) : Fin 2 → Nat :=
  let c0_i32_44 : BitVec 32 := 0#32
  let c1_i32_46 : BitVec 32 := 1#32
  let arg37 : BitVec 32 := Scf.iv c0_i32_44 c1_i32_46 k1_t4
  let c16_i32_982 : BitVec 32 := 16#32
  let v3890 : BitVec 32 := Scalar.muli arg37 c16_i32_982
  let c13_i32 : BitVec 32 := 13#32
  let v3891 : BitVec 32 := Scalar.addi v3890 c13_i32
  let v3933 : Index := Scalar.indexCast v3891
  let c80_993 : Index := 80#32
  ![v3933.toNat, 80]
def k1_off1429 (k1_t4 : Fin k1_t4_loop.trips) : Fin 2 → Nat :=
  let c0_i32_44 : BitVec 32 := 0#32
  let c1_i32_46 : BitVec 32 := 1#32
  let arg37 : BitVec 32 := Scf.iv c0_i32_44 c1_i32_46 k1_t4
  let c16_i32_982 : BitVec 32 := 16#32
  let v3890 : BitVec 32 := Scalar.muli arg37 c16_i32_982
  let c13_i32 : BitVec 32 := 13#32
  let v3891 : BitVec 32 := Scalar.addi v3890 c13_i32
  let v3941 : Index := Scalar.indexCast v3891
  let c96_995 : Index := 96#32
  ![v3941.toNat, 96]
def k1_off1430 (k1_t4 : Fin k1_t4_loop.trips) : Fin 2 → Nat :=
  let c0_i32_44 : BitVec 32 := 0#32
  let c1_i32_46 : BitVec 32 := 1#32
  let arg37 : BitVec 32 := Scf.iv c0_i32_44 c1_i32_46 k1_t4
  let c16_i32_982 : BitVec 32 := 16#32
  let v3890 : BitVec 32 := Scalar.muli arg37 c16_i32_982
  let c13_i32 : BitVec 32 := 13#32
  let v3891 : BitVec 32 := Scalar.addi v3890 c13_i32
  let v3949 : Index := Scalar.indexCast v3891
  let c112_997 : Index := 112#32
  ![v3949.toNat, 112]
def k1_off1431 (k1_t4 : Fin k1_t4_loop.trips) : Fin 2 → Nat :=
  let c0_i32_44 : BitVec 32 := 0#32
  let c1_i32_46 : BitVec 32 := 1#32
  let arg37 : BitVec 32 := Scf.iv c0_i32_44 c1_i32_46 k1_t4
  let c16_i32_982 : BitVec 32 := 16#32
  let v3890 : BitVec 32 := Scalar.muli arg37 c16_i32_982
  let c13_i32 : BitVec 32 := 13#32
  let v3891 : BitVec 32 := Scalar.addi v3890 c13_i32
  let v3957 : Index := Scalar.indexCast v3891
  let c128_999 : Index := 128#32
  ![v3957.toNat, 128]
def k1_off1432 (k1_t4 : Fin k1_t4_loop.trips) : Fin 2 → Nat :=
  let c0_i32_44 : BitVec 32 := 0#32
  let c1_i32_46 : BitVec 32 := 1#32
  let arg37 : BitVec 32 := Scf.iv c0_i32_44 c1_i32_46 k1_t4
  let c16_i32_982 : BitVec 32 := 16#32
  let v3890 : BitVec 32 := Scalar.muli arg37 c16_i32_982
  let c13_i32 : BitVec 32 := 13#32
  let v3891 : BitVec 32 := Scalar.addi v3890 c13_i32
  let v3965 : Index := Scalar.indexCast v3891
  let c144_1001 : Index := 144#32
  ![v3965.toNat, 144]
def k1_off1433 (k1_t4 : Fin k1_t4_loop.trips) : Fin 2 → Nat :=
  let c0_i32_44 : BitVec 32 := 0#32
  let c1_i32_46 : BitVec 32 := 1#32
  let arg37 : BitVec 32 := Scf.iv c0_i32_44 c1_i32_46 k1_t4
  let c16_i32_982 : BitVec 32 := 16#32
  let v3890 : BitVec 32 := Scalar.muli arg37 c16_i32_982
  let c13_i32 : BitVec 32 := 13#32
  let v3891 : BitVec 32 := Scalar.addi v3890 c13_i32
  let v3973 : Index := Scalar.indexCast v3891
  let c160_1003 : Index := 160#32
  ![v3973.toNat, 160]
def k1_off1434 (k1_t4 : Fin k1_t4_loop.trips) : Fin 2 → Nat :=
  let c0_i32_44 : BitVec 32 := 0#32
  let c1_i32_46 : BitVec 32 := 1#32
  let arg37 : BitVec 32 := Scf.iv c0_i32_44 c1_i32_46 k1_t4
  let c16_i32_982 : BitVec 32 := 16#32
  let v3890 : BitVec 32 := Scalar.muli arg37 c16_i32_982
  let c13_i32 : BitVec 32 := 13#32
  let v3891 : BitVec 32 := Scalar.addi v3890 c13_i32
  let v3981 : Index := Scalar.indexCast v3891
  let c176_1005 : Index := 176#32
  ![v3981.toNat, 176]
def k1_off1435 (k1_t4 : Fin k1_t4_loop.trips) : Fin 2 → Nat :=
  let c0_i32_44 : BitVec 32 := 0#32
  let c1_i32_46 : BitVec 32 := 1#32
  let arg37 : BitVec 32 := Scf.iv c0_i32_44 c1_i32_46 k1_t4
  let c16_i32_982 : BitVec 32 := 16#32
  let v3890 : BitVec 32 := Scalar.muli arg37 c16_i32_982
  let c13_i32 : BitVec 32 := 13#32
  let v3891 : BitVec 32 := Scalar.addi v3890 c13_i32
  let v3989 : Index := Scalar.indexCast v3891
  let c192_1007 : Index := 192#32
  ![v3989.toNat, 192]
def k1_off1436 (k1_t4 : Fin k1_t4_loop.trips) : Fin 2 → Nat :=
  let c0_i32_44 : BitVec 32 := 0#32
  let c1_i32_46 : BitVec 32 := 1#32
  let arg37 : BitVec 32 := Scf.iv c0_i32_44 c1_i32_46 k1_t4
  let c16_i32_982 : BitVec 32 := 16#32
  let v3890 : BitVec 32 := Scalar.muli arg37 c16_i32_982
  let c13_i32 : BitVec 32 := 13#32
  let v3891 : BitVec 32 := Scalar.addi v3890 c13_i32
  let v3997 : Index := Scalar.indexCast v3891
  let c208_1009 : Index := 208#32
  ![v3997.toNat, 208]
def k1_off1437 (k1_t4 : Fin k1_t4_loop.trips) : Fin 2 → Nat :=
  let c0_i32_44 : BitVec 32 := 0#32
  let c1_i32_46 : BitVec 32 := 1#32
  let arg37 : BitVec 32 := Scf.iv c0_i32_44 c1_i32_46 k1_t4
  let c16_i32_982 : BitVec 32 := 16#32
  let v3890 : BitVec 32 := Scalar.muli arg37 c16_i32_982
  let c13_i32 : BitVec 32 := 13#32
  let v3891 : BitVec 32 := Scalar.addi v3890 c13_i32
  let v4005 : Index := Scalar.indexCast v3891
  let c224_1011 : Index := 224#32
  ![v4005.toNat, 224]
def k1_off1438 (k1_t4 : Fin k1_t4_loop.trips) : Fin 2 → Nat :=
  let c0_i32_44 : BitVec 32 := 0#32
  let c1_i32_46 : BitVec 32 := 1#32
  let arg37 : BitVec 32 := Scf.iv c0_i32_44 c1_i32_46 k1_t4
  let c16_i32_982 : BitVec 32 := 16#32
  let v3890 : BitVec 32 := Scalar.muli arg37 c16_i32_982
  let c13_i32 : BitVec 32 := 13#32
  let v3891 : BitVec 32 := Scalar.addi v3890 c13_i32
  let v4013 : Index := Scalar.indexCast v3891
  let c240_1013 : Index := 240#32
  ![v4013.toNat, 240]
def k1_off1439 (k1_t4 : Fin k1_t4_loop.trips) : Fin 2 → Nat :=
  let c0_i32_44 : BitVec 32 := 0#32
  let c1_i32_46 : BitVec 32 := 1#32
  let arg37 : BitVec 32 := Scf.iv c0_i32_44 c1_i32_46 k1_t4
  let c16_i32_982 : BitVec 32 := 16#32
  let v3890 : BitVec 32 := Scalar.muli arg37 c16_i32_982
  let c13_i32 : BitVec 32 := 13#32
  let v3891 : BitVec 32 := Scalar.addi v3890 c13_i32
  let v4021 : Index := Scalar.indexCast v3891
  let c256_1015 : Index := 256#32
  ![v4021.toNat, 256]
def k1_off1440 (k1_t4 : Fin k1_t4_loop.trips) : Fin 2 → Nat :=
  let c0_i32_44 : BitVec 32 := 0#32
  let c1_i32_46 : BitVec 32 := 1#32
  let arg37 : BitVec 32 := Scf.iv c0_i32_44 c1_i32_46 k1_t4
  let c16_i32_982 : BitVec 32 := 16#32
  let v3890 : BitVec 32 := Scalar.muli arg37 c16_i32_982
  let c13_i32 : BitVec 32 := 13#32
  let v3891 : BitVec 32 := Scalar.addi v3890 c13_i32
  let v4029 : Index := Scalar.indexCast v3891
  let c272_1017 : Index := 272#32
  ![v4029.toNat, 272]
def k1_off1441 (k1_t4 : Fin k1_t4_loop.trips) : Fin 2 → Nat :=
  let c0_i32_44 : BitVec 32 := 0#32
  let c1_i32_46 : BitVec 32 := 1#32
  let arg37 : BitVec 32 := Scf.iv c0_i32_44 c1_i32_46 k1_t4
  let c16_i32_982 : BitVec 32 := 16#32
  let v3890 : BitVec 32 := Scalar.muli arg37 c16_i32_982
  let c13_i32 : BitVec 32 := 13#32
  let v3891 : BitVec 32 := Scalar.addi v3890 c13_i32
  let v4037 : Index := Scalar.indexCast v3891
  let c288_1019 : Index := 288#32
  ![v4037.toNat, 288]
def k1_off1442 (k1_t4 : Fin k1_t4_loop.trips) : Fin 2 → Nat :=
  let c0_i32_44 : BitVec 32 := 0#32
  let c1_i32_46 : BitVec 32 := 1#32
  let arg37 : BitVec 32 := Scf.iv c0_i32_44 c1_i32_46 k1_t4
  let c16_i32_982 : BitVec 32 := 16#32
  let v3890 : BitVec 32 := Scalar.muli arg37 c16_i32_982
  let c13_i32 : BitVec 32 := 13#32
  let v3891 : BitVec 32 := Scalar.addi v3890 c13_i32
  let v4045 : Index := Scalar.indexCast v3891
  let c304_1021 : Index := 304#32
  ![v4045.toNat, 304]
def k1_off1443 (k1_t4 : Fin k1_t4_loop.trips) : Fin 2 → Nat :=
  let c0_i32_44 : BitVec 32 := 0#32
  let c1_i32_46 : BitVec 32 := 1#32
  let arg37 : BitVec 32 := Scf.iv c0_i32_44 c1_i32_46 k1_t4
  let c16_i32_982 : BitVec 32 := 16#32
  let v3890 : BitVec 32 := Scalar.muli arg37 c16_i32_982
  let c13_i32 : BitVec 32 := 13#32
  let v3891 : BitVec 32 := Scalar.addi v3890 c13_i32
  let v4053 : Index := Scalar.indexCast v3891
  let c320_1023 : Index := 320#32
  ![v4053.toNat, 320]
def k1_off1444 (k1_t4 : Fin k1_t4_loop.trips) : Fin 2 → Nat :=
  let c0_i32_44 : BitVec 32 := 0#32
  let c1_i32_46 : BitVec 32 := 1#32
  let arg37 : BitVec 32 := Scf.iv c0_i32_44 c1_i32_46 k1_t4
  let c16_i32_982 : BitVec 32 := 16#32
  let v3890 : BitVec 32 := Scalar.muli arg37 c16_i32_982
  let c13_i32 : BitVec 32 := 13#32
  let v3891 : BitVec 32 := Scalar.addi v3890 c13_i32
  let v4061 : Index := Scalar.indexCast v3891
  let c336_1025 : Index := 336#32
  ![v4061.toNat, 336]
def k1_off1445 (k1_t4 : Fin k1_t4_loop.trips) : Fin 2 → Nat :=
  let c0_i32_44 : BitVec 32 := 0#32
  let c1_i32_46 : BitVec 32 := 1#32
  let arg37 : BitVec 32 := Scf.iv c0_i32_44 c1_i32_46 k1_t4
  let c16_i32_982 : BitVec 32 := 16#32
  let v3890 : BitVec 32 := Scalar.muli arg37 c16_i32_982
  let c13_i32 : BitVec 32 := 13#32
  let v3891 : BitVec 32 := Scalar.addi v3890 c13_i32
  let v4069 : Index := Scalar.indexCast v3891
  let c352_1027 : Index := 352#32
  ![v4069.toNat, 352]
def k1_off1446 (k1_t4 : Fin k1_t4_loop.trips) : Fin 2 → Nat :=
  let c0_i32_44 : BitVec 32 := 0#32
  let c1_i32_46 : BitVec 32 := 1#32
  let arg37 : BitVec 32 := Scf.iv c0_i32_44 c1_i32_46 k1_t4
  let c16_i32_982 : BitVec 32 := 16#32
  let v3890 : BitVec 32 := Scalar.muli arg37 c16_i32_982
  let c13_i32 : BitVec 32 := 13#32
  let v3891 : BitVec 32 := Scalar.addi v3890 c13_i32
  let v4077 : Index := Scalar.indexCast v3891
  let c368_1029 : Index := 368#32
  ![v4077.toNat, 368]
def k1_off1447 (v3889 : BitVec 32) : Fin 2 → Nat :=
  let v4085 : Index := Scalar.indexCast v3889
  let c0_1031 : Index := 0#32
  ![v4085.toNat, 0]

def k1_off1448 (v3889 : BitVec 32) : Fin 2 → Nat :=
  let v4089 : Index := Scalar.indexCast v3889
  let c16_1032 : Index := 16#32
  ![v4089.toNat, 16]
def k1_off1449 (v3889 : BitVec 32) : Fin 2 → Nat :=
  let v4093 : Index := Scalar.indexCast v3889
  let c32_1033 : Index := 32#32
  ![v4093.toNat, 32]
def k1_off1450 (v3889 : BitVec 32) : Fin 2 → Nat :=
  let v4097 : Index := Scalar.indexCast v3889
  let c48_1034 : Index := 48#32
  ![v4097.toNat, 48]
def k1_off1451 (v3889 : BitVec 32) : Fin 2 → Nat :=
  let v4101 : Index := Scalar.indexCast v3889
  let c64_1035 : Index := 64#32
  ![v4101.toNat, 64]
def k1_off1452 (v3889 : BitVec 32) : Fin 2 → Nat :=
  let v4105 : Index := Scalar.indexCast v3889
  let c80_1036 : Index := 80#32
  ![v4105.toNat, 80]
def k1_off1453 (v3889 : BitVec 32) : Fin 2 → Nat :=
  let v4109 : Index := Scalar.indexCast v3889
  let c96_1037 : Index := 96#32
  ![v4109.toNat, 96]
def k1_off1454 (v3889 : BitVec 32) : Fin 2 → Nat :=
  let v4113 : Index := Scalar.indexCast v3889
  let c112_1038 : Index := 112#32
  ![v4113.toNat, 112]
def k1_off1455 (v3889 : BitVec 32) : Fin 2 → Nat :=
  let v4117 : Index := Scalar.indexCast v3889
  let c128_1039 : Index := 128#32
  ![v4117.toNat, 128]
def k1_off1456 (v3889 : BitVec 32) : Fin 2 → Nat :=
  let v4121 : Index := Scalar.indexCast v3889
  let c144_1040 : Index := 144#32
  ![v4121.toNat, 144]
def k1_off1457 (v3889 : BitVec 32) : Fin 2 → Nat :=
  let v4125 : Index := Scalar.indexCast v3889
  let c160_1041 : Index := 160#32
  ![v4125.toNat, 160]
def k1_off1458 (v3889 : BitVec 32) : Fin 2 → Nat :=
  let v4129 : Index := Scalar.indexCast v3889
  let c176_1042 : Index := 176#32
  ![v4129.toNat, 176]
def k1_off1459 (v3889 : BitVec 32) : Fin 2 → Nat :=
  let v4133 : Index := Scalar.indexCast v3889
  let c192_1043 : Index := 192#32
  ![v4133.toNat, 192]
def k1_off1460 (v3889 : BitVec 32) : Fin 2 → Nat :=
  let v4137 : Index := Scalar.indexCast v3889
  let c208_1044 : Index := 208#32
  ![v4137.toNat, 208]
def k1_off1461 (v3889 : BitVec 32) : Fin 2 → Nat :=
  let v4141 : Index := Scalar.indexCast v3889
  let c224_1045 : Index := 224#32
  ![v4141.toNat, 224]
def k1_off1462 (v3889 : BitVec 32) : Fin 2 → Nat :=
  let v4145 : Index := Scalar.indexCast v3889
  let c240_1046 : Index := 240#32
  ![v4145.toNat, 240]
def k1_off1463 (v3889 : BitVec 32) : Fin 2 → Nat :=
  let v4149 : Index := Scalar.indexCast v3889
  let c256_1047 : Index := 256#32
  ![v4149.toNat, 256]
def k1_off1464 (v3889 : BitVec 32) : Fin 2 → Nat :=
  let v4153 : Index := Scalar.indexCast v3889
  let c272_1048 : Index := 272#32
  ![v4153.toNat, 272]
def k1_off1465 (v3889 : BitVec 32) : Fin 2 → Nat :=
  let v4157 : Index := Scalar.indexCast v3889
  let c288_1049 : Index := 288#32
  ![v4157.toNat, 288]
def k1_off1466 (v3889 : BitVec 32) : Fin 2 → Nat :=
  let v4161 : Index := Scalar.indexCast v3889
  let c304_1050 : Index := 304#32
  ![v4161.toNat, 304]
def k1_off1467 (v3889 : BitVec 32) : Fin 2 → Nat :=
  let v4165 : Index := Scalar.indexCast v3889
  let c320_1051 : Index := 320#32
  ![v4165.toNat, 320]
def k1_off1468 (v3889 : BitVec 32) : Fin 2 → Nat :=
  let v4169 : Index := Scalar.indexCast v3889
  let c336_1052 : Index := 336#32
  ![v4169.toNat, 336]
def k1_off1469 (v3889 : BitVec 32) : Fin 2 → Nat :=
  let v4173 : Index := Scalar.indexCast v3889
  let c352_1053 : Index := 352#32
  ![v4173.toNat, 352]
def k1_off1470 (v3889 : BitVec 32) : Fin 2 → Nat :=
  let v4177 : Index := Scalar.indexCast v3889
  let c368_1054 : Index := 368#32
  ![v4177.toNat, 368]

def k1_chk30 (i : grid1.Coords) (v3889 : BitVec 32) : Prop :=
  (∀ (k1_h1 : k1_cond1 i = 1#1), ∀ a, (k1_off1447 v3889) a + S1x16.size a ≤ S256x384.size a) ∧
  (∀ (k1_h1 : k1_cond1 i = 1#1), ∀ a, (k1_off1448 v3889) a + S1x16.size a ≤ S256x384.size a) ∧
  (∀ (k1_h1 : k1_cond1 i = 1#1), ∀ a, (k1_off1449 v3889) a + S1x16.size a ≤ S256x384.size a) ∧
  (∀ (k1_h1 : k1_cond1 i = 1#1), ∀ a, (k1_off1450 v3889) a + S1x16.size a ≤ S256x384.size a) ∧
  (∀ (k1_h1 : k1_cond1 i = 1#1), ∀ a, (k1_off1451 v3889) a + S1x16.size a ≤ S256x384.size a) ∧
  (∀ (k1_h1 : k1_cond1 i = 1#1), ∀ a, (k1_off1452 v3889) a + S1x16.size a ≤ S256x384.size a) ∧
  (∀ (k1_h1 : k1_cond1 i = 1#1), ∀ a, (k1_off1453 v3889) a + S1x16.size a ≤ S256x384.size a) ∧
  (∀ (k1_h1 : k1_cond1 i = 1#1), ∀ a, (k1_off1454 v3889) a + S1x16.size a ≤ S256x384.size a) ∧
  (∀ (k1_h1 : k1_cond1 i = 1#1), ∀ a, (k1_off1455 v3889) a + S1x16.size a ≤ S256x384.size a) ∧
  (∀ (k1_h1 : k1_cond1 i = 1#1), ∀ a, (k1_off1456 v3889) a + S1x16.size a ≤ S256x384.size a) ∧
  (∀ (k1_h1 : k1_cond1 i = 1#1), ∀ a, (k1_off1457 v3889) a + S1x16.size a ≤ S256x384.size a) ∧
  (∀ (k1_h1 : k1_cond1 i = 1#1), ∀ a, (k1_off1458 v3889) a + S1x16.size a ≤ S256x384.size a) ∧
  (∀ (k1_h1 : k1_cond1 i = 1#1), ∀ a, (k1_off1459 v3889) a + S1x16.size a ≤ S256x384.size a) ∧
  (∀ (k1_h1 : k1_cond1 i = 1#1), ∀ a, (k1_off1460 v3889) a + S1x16.size a ≤ S256x384.size a) ∧
  (∀ (k1_h1 : k1_cond1 i = 1#1), ∀ a, (k1_off1461 v3889) a + S1x16.size a ≤ S256x384.size a) ∧
  (∀ (k1_h1 : k1_cond1 i = 1#1), ∀ a, (k1_off1462 v3889) a + S1x16.size a ≤ S256x384.size a) ∧
  (∀ (k1_h1 : k1_cond1 i = 1#1), ∀ a, (k1_off1463 v3889) a + S1x16.size a ≤ S256x384.size a) ∧
  (∀ (k1_h1 : k1_cond1 i = 1#1), ∀ a, (k1_off1464 v3889) a + S1x16.size a ≤ S256x384.size a) ∧
  (∀ (k1_h1 : k1_cond1 i = 1#1), ∀ a, (k1_off1465 v3889) a + S1x16.size a ≤ S256x384.size a) ∧
  (∀ (k1_h1 : k1_cond1 i = 1#1), ∀ a, (k1_off1466 v3889) a + S1x16.size a ≤ S256x384.size a) ∧
  (∀ (k1_h1 : k1_cond1 i = 1#1), ∀ a, (k1_off1467 v3889) a + S1x16.size a ≤ S256x384.size a) ∧
  (∀ (k1_h1 : k1_cond1 i = 1#1), ∀ a, (k1_off1468 v3889) a + S1x16.size a ≤ S256x384.size a) ∧
  (∀ (k1_h1 : k1_cond1 i = 1#1), ∀ a, (k1_off1469 v3889) a + S1x16.size a ≤ S256x384.size a) ∧
  (∀ (k1_h1 : k1_cond1 i = 1#1), ∀ a, (k1_off1470 v3889) a + S1x16.size a ≤ S256x384.size a)
theorem k1_off1447_inb : ∀ (i : grid1.Coords) (v3889 : BitVec 32) (k1_hw30 : k1_chk30 i v3889), ∀ (k1_h1 : k1_cond1 i = 1#1), ∀ a, (k1_off1447 v3889) a + S1x16.size a ≤ S256x384.size a := fun i v3889 k1_hw30 k1_h1 => k1_hw30.1 k1_h1
theorem k1_off1448_inb : ∀ (i : grid1.Coords) (v3889 : BitVec 32) (k1_hw30 : k1_chk30 i v3889), ∀ (k1_h1 : k1_cond1 i = 1#1), ∀ a, (k1_off1448 v3889) a + S1x16.size a ≤ S256x384.size a := fun i v3889 k1_hw30 k1_h1 => k1_hw30.2.1 k1_h1
theorem k1_off1449_inb : ∀ (i : grid1.Coords) (v3889 : BitVec 32) (k1_hw30 : k1_chk30 i v3889), ∀ (k1_h1 : k1_cond1 i = 1#1), ∀ a, (k1_off1449 v3889) a + S1x16.size a ≤ S256x384.size a := fun i v3889 k1_hw30 k1_h1 => k1_hw30.2.2.1 k1_h1
theorem k1_off1450_inb : ∀ (i : grid1.Coords) (v3889 : BitVec 32) (k1_hw30 : k1_chk30 i v3889), ∀ (k1_h1 : k1_cond1 i = 1#1), ∀ a, (k1_off1450 v3889) a + S1x16.size a ≤ S256x384.size a := fun i v3889 k1_hw30 k1_h1 => k1_hw30.2.2.2.1 k1_h1
theorem k1_off1451_inb : ∀ (i : grid1.Coords) (v3889 : BitVec 32) (k1_hw30 : k1_chk30 i v3889), ∀ (k1_h1 : k1_cond1 i = 1#1), ∀ a, (k1_off1451 v3889) a + S1x16.size a ≤ S256x384.size a := fun i v3889 k1_hw30 k1_h1 => k1_hw30.2.2.2.2.1 k1_h1
theorem k1_off1452_inb : ∀ (i : grid1.Coords) (v3889 : BitVec 32) (k1_hw30 : k1_chk30 i v3889), ∀ (k1_h1 : k1_cond1 i = 1#1), ∀ a, (k1_off1452 v3889) a + S1x16.size a ≤ S256x384.size a := fun i v3889 k1_hw30 k1_h1 => k1_hw30.2.2.2.2.2.1 k1_h1
theorem k1_off1453_inb : ∀ (i : grid1.Coords) (v3889 : BitVec 32) (k1_hw30 : k1_chk30 i v3889), ∀ (k1_h1 : k1_cond1 i = 1#1), ∀ a, (k1_off1453 v3889) a + S1x16.size a ≤ S256x384.size a := fun i v3889 k1_hw30 k1_h1 => k1_hw30.2.2.2.2.2.2.1 k1_h1
theorem k1_off1454_inb : ∀ (i : grid1.Coords) (v3889 : BitVec 32) (k1_hw30 : k1_chk30 i v3889), ∀ (k1_h1 : k1_cond1 i = 1#1), ∀ a, (k1_off1454 v3889) a + S1x16.size a ≤ S256x384.size a := fun i v3889 k1_hw30 k1_h1 => k1_hw30.2.2.2.2.2.2.2.1 k1_h1
theorem k1_off1455_inb : ∀ (i : grid1.Coords) (v3889 : BitVec 32) (k1_hw30 : k1_chk30 i v3889), ∀ (k1_h1 : k1_cond1 i = 1#1), ∀ a, (k1_off1455 v3889) a + S1x16.size a ≤ S256x384.size a := fun i v3889 k1_hw30 k1_h1 => k1_hw30.2.2.2.2.2.2.2.2.1 k1_h1
theorem k1_off1456_inb : ∀ (i : grid1.Coords) (v3889 : BitVec 32) (k1_hw30 : k1_chk30 i v3889), ∀ (k1_h1 : k1_cond1 i = 1#1), ∀ a, (k1_off1456 v3889) a + S1x16.size a ≤ S256x384.size a := fun i v3889 k1_hw30 k1_h1 => k1_hw30.2.2.2.2.2.2.2.2.2.1 k1_h1
theorem k1_off1457_inb : ∀ (i : grid1.Coords) (v3889 : BitVec 32) (k1_hw30 : k1_chk30 i v3889), ∀ (k1_h1 : k1_cond1 i = 1#1), ∀ a, (k1_off1457 v3889) a + S1x16.size a ≤ S256x384.size a := fun i v3889 k1_hw30 k1_h1 => k1_hw30.2.2.2.2.2.2.2.2.2.2.1 k1_h1
theorem k1_off1458_inb : ∀ (i : grid1.Coords) (v3889 : BitVec 32) (k1_hw30 : k1_chk30 i v3889), ∀ (k1_h1 : k1_cond1 i = 1#1), ∀ a, (k1_off1458 v3889) a + S1x16.size a ≤ S256x384.size a := fun i v3889 k1_hw30 k1_h1 => k1_hw30.2.2.2.2.2.2.2.2.2.2.2.1 k1_h1
theorem k1_off1459_inb : ∀ (i : grid1.Coords) (v3889 : BitVec 32) (k1_hw30 : k1_chk30 i v3889), ∀ (k1_h1 : k1_cond1 i = 1#1), ∀ a, (k1_off1459 v3889) a + S1x16.size a ≤ S256x384.size a := fun i v3889 k1_hw30 k1_h1 => k1_hw30.2.2.2.2.2.2.2.2.2.2.2.2.1 k1_h1
theorem k1_off1460_inb : ∀ (i : grid1.Coords) (v3889 : BitVec 32) (k1_hw30 : k1_chk30 i v3889), ∀ (k1_h1 : k1_cond1 i = 1#1), ∀ a, (k1_off1460 v3889) a + S1x16.size a ≤ S256x384.size a := fun i v3889 k1_hw30 k1_h1 => k1_hw30.2.2.2.2.2.2.2.2.2.2.2.2.2.1 k1_h1
theorem k1_off1461_inb : ∀ (i : grid1.Coords) (v3889 : BitVec 32) (k1_hw30 : k1_chk30 i v3889), ∀ (k1_h1 : k1_cond1 i = 1#1), ∀ a, (k1_off1461 v3889) a + S1x16.size a ≤ S256x384.size a := fun i v3889 k1_hw30 k1_h1 => k1_hw30.2.2.2.2.2.2.2.2.2.2.2.2.2.2.1 k1_h1
theorem k1_off1462_inb : ∀ (i : grid1.Coords) (v3889 : BitVec 32) (k1_hw30 : k1_chk30 i v3889), ∀ (k1_h1 : k1_cond1 i = 1#1), ∀ a, (k1_off1462 v3889) a + S1x16.size a ≤ S256x384.size a := fun i v3889 k1_hw30 k1_h1 => k1_hw30.2.2.2.2.2.2.2.2.2.2.2.2.2.2.2.1 k1_h1
theorem k1_off1463_inb : ∀ (i : grid1.Coords) (v3889 : BitVec 32) (k1_hw30 : k1_chk30 i v3889), ∀ (k1_h1 : k1_cond1 i = 1#1), ∀ a, (k1_off1463 v3889) a + S1x16.size a ≤ S256x384.size a := fun i v3889 k1_hw30 k1_h1 => k1_hw30.2.2.2.2.2.2.2.2.2.2.2.2.2.2.2.2.1 k1_h1
theorem k1_off1464_inb : ∀ (i : grid1.Coords) (v3889 : BitVec 32) (k1_hw30 : k1_chk30 i v3889), ∀ (k1_h1 : k1_cond1 i = 1#1), ∀ a, (k1_off1464 v3889) a + S1x16.size a ≤ S256x384.size a := fun i v3889 k1_hw30 k1_h1 => k1_hw30.2.2.2.2.2.2.2.2.2.2.2.2.2.2.2.2.2.1 k1_h1
theorem k1_off1465_inb : ∀ (i : grid1.Coords) (v3889 : BitVec 32) (k1_hw30 : k1_chk30 i v3889), ∀ (k1_h1 : k1_cond1 i = 1#1), ∀ a, (k1_off1465 v3889) a + S1x16.size a ≤ S256x384.size a := fun i v3889 k1_hw30 k1_h1 => k1_hw30.2.2.2.2.2.2.2.2.2.2.2.2.2.2.2.2.2.2.1 k1_h1
theorem k1_off1466_inb : ∀ (i : grid1.Coords) (v3889 : BitVec 32) (k1_hw30 : k1_chk30 i v3889), ∀ (k1_h1 : k1_cond1 i = 1#1), ∀ a, (k1_off1466 v3889) a + S1x16.size a ≤ S256x384.size a := fun i v3889 k1_hw30 k1_h1 => k1_hw30.2.2.2.2.2.2.2.2.2.2.2.2.2.2.2.2.2.2.2.1 k1_h1
theorem k1_off1467_inb : ∀ (i : grid1.Coords) (v3889 : BitVec 32) (k1_hw30 : k1_chk30 i v3889), ∀ (k1_h1 : k1_cond1 i = 1#1), ∀ a, (k1_off1467 v3889) a + S1x16.size a ≤ S256x384.size a := fun i v3889 k1_hw30 k1_h1 => k1_hw30.2.2.2.2.2.2.2.2.2.2.2.2.2.2.2.2.2.2.2.2.1 k1_h1
theorem k1_off1468_inb : ∀ (i : grid1.Coords) (v3889 : BitVec 32) (k1_hw30 : k1_chk30 i v3889), ∀ (k1_h1 : k1_cond1 i = 1#1), ∀ a, (k1_off1468 v3889) a + S1x16.size a ≤ S256x384.size a := fun i v3889 k1_hw30 k1_h1 => k1_hw30.2.2.2.2.2.2.2.2.2.2.2.2.2.2.2.2.2.2.2.2.2.1 k1_h1
theorem k1_off1469_inb : ∀ (i : grid1.Coords) (v3889 : BitVec 32) (k1_hw30 : k1_chk30 i v3889), ∀ (k1_h1 : k1_cond1 i = 1#1), ∀ a, (k1_off1469 v3889) a + S1x16.size a ≤ S256x384.size a := fun i v3889 k1_hw30 k1_h1 => k1_hw30.2.2.2.2.2.2.2.2.2.2.2.2.2.2.2.2.2.2.2.2.2.2.1 k1_h1
theorem k1_off1470_inb : ∀ (i : grid1.Coords) (v3889 : BitVec 32) (k1_hw30 : k1_chk30 i v3889), ∀ (k1_h1 : k1_cond1 i = 1#1), ∀ a, (k1_off1470 v3889) a + S1x16.size a ≤ S256x384.size a := fun i v3889 k1_hw30 k1_h1 => k1_hw30.2.2.2.2.2.2.2.2.2.2.2.2.2.2.2.2.2.2.2.2.2.2.2 k1_h1

def k1_off1471 (k1_t4 : Fin k1_t4_loop.trips) : Fin 2 → Nat :=
  let c0_i32_44 : BitVec 32 := 0#32
  let c1_i32_46 : BitVec 32 := 1#32
  let arg37 : BitVec 32 := Scf.iv c0_i32_44 c1_i32_46 k1_t4
  let c16_i32_1055 : BitVec 32 := 16#32
  let v4183 : BitVec 32 := Scalar.muli arg37 c16_i32_1055
  let c14_i32 : BitVec 32 := 14#32
  let v4184 : BitVec 32 := Scalar.addi v4183 c14_i32
  let v4186 : Index := Scalar.indexCast v4184
  let c0_1056 : Index := 0#32
  ![v4186.toNat, 0]
def k1_off1472 (k1_t4 : Fin k1_t4_loop.trips) : Fin 2 → Nat :=
  let c0_i32_44 : BitVec 32 := 0#32
  let c1_i32_46 : BitVec 32 := 1#32
  let arg37 : BitVec 32 := Scf.iv c0_i32_44 c1_i32_46 k1_t4
  let c16_i32_1055 : BitVec 32 := 16#32
  let v4183 : BitVec 32 := Scalar.muli arg37 c16_i32_1055
  let c14_i32 : BitVec 32 := 14#32
  let v4184 : BitVec 32 := Scalar.addi v4183 c14_i32
  let v4194 : Index := Scalar.indexCast v4184
  let c16_1058 : Index := 16#32
  ![v4194.toNat, 16]
def k1_off1473 (k1_t4 : Fin k1_t4_loop.trips) : Fin 2 → Nat :=
  let c0_i32_44 : BitVec 32 := 0#32
  let c1_i32_46 : BitVec 32 := 1#32
  let arg37 : BitVec 32 := Scf.iv c0_i32_44 c1_i32_46 k1_t4
  let c16_i32_1055 : BitVec 32 := 16#32
  let v4183 : BitVec 32 := Scalar.muli arg37 c16_i32_1055
  let c14_i32 : BitVec 32 := 14#32
  let v4184 : BitVec 32 := Scalar.addi v4183 c14_i32
  let v4202 : Index := Scalar.indexCast v4184
  let c32_1060 : Index := 32#32
  ![v4202.toNat, 32]
def k1_off1474 (k1_t4 : Fin k1_t4_loop.trips) : Fin 2 → Nat :=
  let c0_i32_44 : BitVec 32 := 0#32
  let c1_i32_46 : BitVec 32 := 1#32
  let arg37 : BitVec 32 := Scf.iv c0_i32_44 c1_i32_46 k1_t4
  let c16_i32_1055 : BitVec 32 := 16#32
  let v4183 : BitVec 32 := Scalar.muli arg37 c16_i32_1055
  let c14_i32 : BitVec 32 := 14#32
  let v4184 : BitVec 32 := Scalar.addi v4183 c14_i32
  let v4210 : Index := Scalar.indexCast v4184
  let c48_1062 : Index := 48#32
  ![v4210.toNat, 48]
def k1_off1475 (k1_t4 : Fin k1_t4_loop.trips) : Fin 2 → Nat :=
  let c0_i32_44 : BitVec 32 := 0#32
  let c1_i32_46 : BitVec 32 := 1#32
  let arg37 : BitVec 32 := Scf.iv c0_i32_44 c1_i32_46 k1_t4
  let c16_i32_1055 : BitVec 32 := 16#32
  let v4183 : BitVec 32 := Scalar.muli arg37 c16_i32_1055
  let c14_i32 : BitVec 32 := 14#32
  let v4184 : BitVec 32 := Scalar.addi v4183 c14_i32
  let v4218 : Index := Scalar.indexCast v4184
  let c64_1064 : Index := 64#32
  ![v4218.toNat, 64]
def k1_off1476 (k1_t4 : Fin k1_t4_loop.trips) : Fin 2 → Nat :=
  let c0_i32_44 : BitVec 32 := 0#32
  let c1_i32_46 : BitVec 32 := 1#32
  let arg37 : BitVec 32 := Scf.iv c0_i32_44 c1_i32_46 k1_t4
  let c16_i32_1055 : BitVec 32 := 16#32
  let v4183 : BitVec 32 := Scalar.muli arg37 c16_i32_1055
  let c14_i32 : BitVec 32 := 14#32
  let v4184 : BitVec 32 := Scalar.addi v4183 c14_i32
  let v4226 : Index := Scalar.indexCast v4184
  let c80_1066 : Index := 80#32
  ![v4226.toNat, 80]
def k1_off1477 (k1_t4 : Fin k1_t4_loop.trips) : Fin 2 → Nat :=
  let c0_i32_44 : BitVec 32 := 0#32
  let c1_i32_46 : BitVec 32 := 1#32
  let arg37 : BitVec 32 := Scf.iv c0_i32_44 c1_i32_46 k1_t4
  let c16_i32_1055 : BitVec 32 := 16#32
  let v4183 : BitVec 32 := Scalar.muli arg37 c16_i32_1055
  let c14_i32 : BitVec 32 := 14#32
  let v4184 : BitVec 32 := Scalar.addi v4183 c14_i32
  let v4234 : Index := Scalar.indexCast v4184
  let c96_1068 : Index := 96#32
  ![v4234.toNat, 96]
def k1_off1478 (k1_t4 : Fin k1_t4_loop.trips) : Fin 2 → Nat :=
  let c0_i32_44 : BitVec 32 := 0#32
  let c1_i32_46 : BitVec 32 := 1#32
  let arg37 : BitVec 32 := Scf.iv c0_i32_44 c1_i32_46 k1_t4
  let c16_i32_1055 : BitVec 32 := 16#32
  let v4183 : BitVec 32 := Scalar.muli arg37 c16_i32_1055
  let c14_i32 : BitVec 32 := 14#32
  let v4184 : BitVec 32 := Scalar.addi v4183 c14_i32
  let v4242 : Index := Scalar.indexCast v4184
  let c112_1070 : Index := 112#32
  ![v4242.toNat, 112]
def k1_off1479 (k1_t4 : Fin k1_t4_loop.trips) : Fin 2 → Nat :=
  let c0_i32_44 : BitVec 32 := 0#32
  let c1_i32_46 : BitVec 32 := 1#32
  let arg37 : BitVec 32 := Scf.iv c0_i32_44 c1_i32_46 k1_t4
  let c16_i32_1055 : BitVec 32 := 16#32
  let v4183 : BitVec 32 := Scalar.muli arg37 c16_i32_1055
  let c14_i32 : BitVec 32 := 14#32
  let v4184 : BitVec 32 := Scalar.addi v4183 c14_i32
  let v4250 : Index := Scalar.indexCast v4184
  let c128_1072 : Index := 128#32
  ![v4250.toNat, 128]
def k1_off1480 (k1_t4 : Fin k1_t4_loop.trips) : Fin 2 → Nat :=
  let c0_i32_44 : BitVec 32 := 0#32
  let c1_i32_46 : BitVec 32 := 1#32
  let arg37 : BitVec 32 := Scf.iv c0_i32_44 c1_i32_46 k1_t4
  let c16_i32_1055 : BitVec 32 := 16#32
  let v4183 : BitVec 32 := Scalar.muli arg37 c16_i32_1055
  let c14_i32 : BitVec 32 := 14#32
  let v4184 : BitVec 32 := Scalar.addi v4183 c14_i32
  let v4258 : Index := Scalar.indexCast v4184
  let c144_1074 : Index := 144#32
  ![v4258.toNat, 144]
def k1_off1481 (k1_t4 : Fin k1_t4_loop.trips) : Fin 2 → Nat :=
  let c0_i32_44 : BitVec 32 := 0#32
  let c1_i32_46 : BitVec 32 := 1#32
  let arg37 : BitVec 32 := Scf.iv c0_i32_44 c1_i32_46 k1_t4
  let c16_i32_1055 : BitVec 32 := 16#32
  let v4183 : BitVec 32 := Scalar.muli arg37 c16_i32_1055
  let c14_i32 : BitVec 32 := 14#32
  let v4184 : BitVec 32 := Scalar.addi v4183 c14_i32
  let v4266 : Index := Scalar.indexCast v4184
  let c160_1076 : Index := 160#32
  ![v4266.toNat, 160]
def k1_off1482 (k1_t4 : Fin k1_t4_loop.trips) : Fin 2 → Nat :=
  let c0_i32_44 : BitVec 32 := 0#32
  let c1_i32_46 : BitVec 32 := 1#32
  let arg37 : BitVec 32 := Scf.iv c0_i32_44 c1_i32_46 k1_t4
  let c16_i32_1055 : BitVec 32 := 16#32
  let v4183 : BitVec 32 := Scalar.muli arg37 c16_i32_1055
  let c14_i32 : BitVec 32 := 14#32
  let v4184 : BitVec 32 := Scalar.addi v4183 c14_i32
  let v4274 : Index := Scalar.indexCast v4184
  let c176_1078 : Index := 176#32
  ![v4274.toNat, 176]
def k1_off1483 (k1_t4 : Fin k1_t4_loop.trips) : Fin 2 → Nat :=
  let c0_i32_44 : BitVec 32 := 0#32
  let c1_i32_46 : BitVec 32 := 1#32
  let arg37 : BitVec 32 := Scf.iv c0_i32_44 c1_i32_46 k1_t4
  let c16_i32_1055 : BitVec 32 := 16#32
  let v4183 : BitVec 32 := Scalar.muli arg37 c16_i32_1055
  let c14_i32 : BitVec 32 := 14#32
  let v4184 : BitVec 32 := Scalar.addi v4183 c14_i32
  let v4282 : Index := Scalar.indexCast v4184
  let c192_1080 : Index := 192#32
  ![v4282.toNat, 192]
def k1_off1484 (k1_t4 : Fin k1_t4_loop.trips) : Fin 2 → Nat :=
  let c0_i32_44 : BitVec 32 := 0#32
  let c1_i32_46 : BitVec 32 := 1#32
  let arg37 : BitVec 32 := Scf.iv c0_i32_44 c1_i32_46 k1_t4
  let c16_i32_1055 : BitVec 32 := 16#32
  let v4183 : BitVec 32 := Scalar.muli arg37 c16_i32_1055
  let c14_i32 : BitVec 32 := 14#32
  let v4184 : BitVec 32 := Scalar.addi v4183 c14_i32
  let v4290 : Index := Scalar.indexCast v4184
  let c208_1082 : Index := 208#32
  ![v4290.toNat, 208]
def k1_off1485 (k1_t4 : Fin k1_t4_loop.trips) : Fin 2 → Nat :=
  let c0_i32_44 : BitVec 32 := 0#32
  let c1_i32_46 : BitVec 32 := 1#32
  let arg37 : BitVec 32 := Scf.iv c0_i32_44 c1_i32_46 k1_t4
  let c16_i32_1055 : BitVec 32 := 16#32
  let v4183 : BitVec 32 := Scalar.muli arg37 c16_i32_1055
  let c14_i32 : BitVec 32 := 14#32
  let v4184 : BitVec 32 := Scalar.addi v4183 c14_i32
  let v4298 : Index := Scalar.indexCast v4184
  let c224_1084 : Index := 224#32
  ![v4298.toNat, 224]
def k1_off1486 (k1_t4 : Fin k1_t4_loop.trips) : Fin 2 → Nat :=
  let c0_i32_44 : BitVec 32 := 0#32
  let c1_i32_46 : BitVec 32 := 1#32
  let arg37 : BitVec 32 := Scf.iv c0_i32_44 c1_i32_46 k1_t4
  let c16_i32_1055 : BitVec 32 := 16#32
  let v4183 : BitVec 32 := Scalar.muli arg37 c16_i32_1055
  let c14_i32 : BitVec 32 := 14#32
  let v4184 : BitVec 32 := Scalar.addi v4183 c14_i32
  let v4306 : Index := Scalar.indexCast v4184
  let c240_1086 : Index := 240#32
  ![v4306.toNat, 240]
def k1_off1487 (k1_t4 : Fin k1_t4_loop.trips) : Fin 2 → Nat :=
  let c0_i32_44 : BitVec 32 := 0#32
  let c1_i32_46 : BitVec 32 := 1#32
  let arg37 : BitVec 32 := Scf.iv c0_i32_44 c1_i32_46 k1_t4
  let c16_i32_1055 : BitVec 32 := 16#32
  let v4183 : BitVec 32 := Scalar.muli arg37 c16_i32_1055
  let c14_i32 : BitVec 32 := 14#32
  let v4184 : BitVec 32 := Scalar.addi v4183 c14_i32
  let v4314 : Index := Scalar.indexCast v4184
  let c256_1088 : Index := 256#32
  ![v4314.toNat, 256]
def k1_off1488 (k1_t4 : Fin k1_t4_loop.trips) : Fin 2 → Nat :=
  let c0_i32_44 : BitVec 32 := 0#32
  let c1_i32_46 : BitVec 32 := 1#32
  let arg37 : BitVec 32 := Scf.iv c0_i32_44 c1_i32_46 k1_t4
  let c16_i32_1055 : BitVec 32 := 16#32
  let v4183 : BitVec 32 := Scalar.muli arg37 c16_i32_1055
  let c14_i32 : BitVec 32 := 14#32
  let v4184 : BitVec 32 := Scalar.addi v4183 c14_i32
  let v4322 : Index := Scalar.indexCast v4184
  let c272_1090 : Index := 272#32
  ![v4322.toNat, 272]
def k1_off1489 (k1_t4 : Fin k1_t4_loop.trips) : Fin 2 → Nat :=
  let c0_i32_44 : BitVec 32 := 0#32
  let c1_i32_46 : BitVec 32 := 1#32
  let arg37 : BitVec 32 := Scf.iv c0_i32_44 c1_i32_46 k1_t4
  let c16_i32_1055 : BitVec 32 := 16#32
  let v4183 : BitVec 32 := Scalar.muli arg37 c16_i32_1055
  let c14_i32 : BitVec 32 := 14#32
  let v4184 : BitVec 32 := Scalar.addi v4183 c14_i32
  let v4330 : Index := Scalar.indexCast v4184
  let c288_1092 : Index := 288#32
  ![v4330.toNat, 288]
def k1_off1490 (k1_t4 : Fin k1_t4_loop.trips) : Fin 2 → Nat :=
  let c0_i32_44 : BitVec 32 := 0#32
  let c1_i32_46 : BitVec 32 := 1#32
  let arg37 : BitVec 32 := Scf.iv c0_i32_44 c1_i32_46 k1_t4
  let c16_i32_1055 : BitVec 32 := 16#32
  let v4183 : BitVec 32 := Scalar.muli arg37 c16_i32_1055
  let c14_i32 : BitVec 32 := 14#32
  let v4184 : BitVec 32 := Scalar.addi v4183 c14_i32
  let v4338 : Index := Scalar.indexCast v4184
  let c304_1094 : Index := 304#32
  ![v4338.toNat, 304]
def k1_off1491 (k1_t4 : Fin k1_t4_loop.trips) : Fin 2 → Nat :=
  let c0_i32_44 : BitVec 32 := 0#32
  let c1_i32_46 : BitVec 32 := 1#32
  let arg37 : BitVec 32 := Scf.iv c0_i32_44 c1_i32_46 k1_t4
  let c16_i32_1055 : BitVec 32 := 16#32
  let v4183 : BitVec 32 := Scalar.muli arg37 c16_i32_1055
  let c14_i32 : BitVec 32 := 14#32
  let v4184 : BitVec 32 := Scalar.addi v4183 c14_i32
  let v4346 : Index := Scalar.indexCast v4184
  let c320_1096 : Index := 320#32
  ![v4346.toNat, 320]
def k1_off1492 (k1_t4 : Fin k1_t4_loop.trips) : Fin 2 → Nat :=
  let c0_i32_44 : BitVec 32 := 0#32
  let c1_i32_46 : BitVec 32 := 1#32
  let arg37 : BitVec 32 := Scf.iv c0_i32_44 c1_i32_46 k1_t4
  let c16_i32_1055 : BitVec 32 := 16#32
  let v4183 : BitVec 32 := Scalar.muli arg37 c16_i32_1055
  let c14_i32 : BitVec 32 := 14#32
  let v4184 : BitVec 32 := Scalar.addi v4183 c14_i32
  let v4354 : Index := Scalar.indexCast v4184
  let c336_1098 : Index := 336#32
  ![v4354.toNat, 336]
def k1_off1493 (k1_t4 : Fin k1_t4_loop.trips) : Fin 2 → Nat :=
  let c0_i32_44 : BitVec 32 := 0#32
  let c1_i32_46 : BitVec 32 := 1#32
  let arg37 : BitVec 32 := Scf.iv c0_i32_44 c1_i32_46 k1_t4
  let c16_i32_1055 : BitVec 32 := 16#32
  let v4183 : BitVec 32 := Scalar.muli arg37 c16_i32_1055
  let c14_i32 : BitVec 32 := 14#32
  let v4184 : BitVec 32 := Scalar.addi v4183 c14_i32
  let v4362 : Index := Scalar.indexCast v4184
  let c352_1100 : Index := 352#32
  ![v4362.toNat, 352]
def k1_off1494 (k1_t4 : Fin k1_t4_loop.trips) : Fin 2 → Nat :=
  let c0_i32_44 : BitVec 32 := 0#32
  let c1_i32_46 : BitVec 32 := 1#32
  let arg37 : BitVec 32 := Scf.iv c0_i32_44 c1_i32_46 k1_t4
  let c16_i32_1055 : BitVec 32 := 16#32
  let v4183 : BitVec 32 := Scalar.muli arg37 c16_i32_1055
  let c14_i32 : BitVec 32 := 14#32
  let v4184 : BitVec 32 := Scalar.addi v4183 c14_i32
  let v4370 : Index := Scalar.indexCast v4184
  let c368_1102 : Index := 368#32
  ![v4370.toNat, 368]
def k1_off1495 (v4182 : BitVec 32) : Fin 2 → Nat :=
  let v4378 : Index := Scalar.indexCast v4182
  let c0_1104 : Index := 0#32
  ![v4378.toNat, 0]

def k1_off1496 (v4182 : BitVec 32) : Fin 2 → Nat :=
  let v4382 : Index := Scalar.indexCast v4182
  let c16_1105 : Index := 16#32
  ![v4382.toNat, 16]
def k1_off1497 (v4182 : BitVec 32) : Fin 2 → Nat :=
  let v4386 : Index := Scalar.indexCast v4182
  let c32_1106 : Index := 32#32
  ![v4386.toNat, 32]
def k1_off1498 (v4182 : BitVec 32) : Fin 2 → Nat :=
  let v4390 : Index := Scalar.indexCast v4182
  let c48_1107 : Index := 48#32
  ![v4390.toNat, 48]
def k1_off1499 (v4182 : BitVec 32) : Fin 2 → Nat :=
  let v4394 : Index := Scalar.indexCast v4182
  let c64_1108 : Index := 64#32
  ![v4394.toNat, 64]
def k1_off1500 (v4182 : BitVec 32) : Fin 2 → Nat :=
  let v4398 : Index := Scalar.indexCast v4182
  let c80_1109 : Index := 80#32
  ![v4398.toNat, 80]
def k1_off1501 (v4182 : BitVec 32) : Fin 2 → Nat :=
  let v4402 : Index := Scalar.indexCast v4182
  let c96_1110 : Index := 96#32
  ![v4402.toNat, 96]
def k1_off1502 (v4182 : BitVec 32) : Fin 2 → Nat :=
  let v4406 : Index := Scalar.indexCast v4182
  let c112_1111 : Index := 112#32
  ![v4406.toNat, 112]
def k1_off1503 (v4182 : BitVec 32) : Fin 2 → Nat :=
  let v4410 : Index := Scalar.indexCast v4182
  let c128_1112 : Index := 128#32
  ![v4410.toNat, 128]
def k1_off1504 (v4182 : BitVec 32) : Fin 2 → Nat :=
  let v4414 : Index := Scalar.indexCast v4182
  let c144_1113 : Index := 144#32
  ![v4414.toNat, 144]
def k1_off1505 (v4182 : BitVec 32) : Fin 2 → Nat :=
  let v4418 : Index := Scalar.indexCast v4182
  let c160_1114 : Index := 160#32
  ![v4418.toNat, 160]
def k1_off1506 (v4182 : BitVec 32) : Fin 2 → Nat :=
  let v4422 : Index := Scalar.indexCast v4182
  let c176_1115 : Index := 176#32
  ![v4422.toNat, 176]
def k1_off1507 (v4182 : BitVec 32) : Fin 2 → Nat :=
  let v4426 : Index := Scalar.indexCast v4182
  let c192_1116 : Index := 192#32
  ![v4426.toNat, 192]
def k1_off1508 (v4182 : BitVec 32) : Fin 2 → Nat :=
  let v4430 : Index := Scalar.indexCast v4182
  let c208_1117 : Index := 208#32
  ![v4430.toNat, 208]
def k1_off1509 (v4182 : BitVec 32) : Fin 2 → Nat :=
  let v4434 : Index := Scalar.indexCast v4182
  let c224_1118 : Index := 224#32
  ![v4434.toNat, 224]
def k1_off1510 (v4182 : BitVec 32) : Fin 2 → Nat :=
  let v4438 : Index := Scalar.indexCast v4182
  let c240_1119 : Index := 240#32
  ![v4438.toNat, 240]
def k1_off1511 (v4182 : BitVec 32) : Fin 2 → Nat :=
  let v4442 : Index := Scalar.indexCast v4182
  let c256_1120 : Index := 256#32
  ![v4442.toNat, 256]
def k1_off1512 (v4182 : BitVec 32) : Fin 2 → Nat :=
  let v4446 : Index := Scalar.indexCast v4182
  let c272_1121 : Index := 272#32
  ![v4446.toNat, 272]
def k1_off1513 (v4182 : BitVec 32) : Fin 2 → Nat :=
  let v4450 : Index := Scalar.indexCast v4182
  let c288_1122 : Index := 288#32
  ![v4450.toNat, 288]
def k1_off1514 (v4182 : BitVec 32) : Fin 2 → Nat :=
  let v4454 : Index := Scalar.indexCast v4182
  let c304_1123 : Index := 304#32
  ![v4454.toNat, 304]
def k1_off1515 (v4182 : BitVec 32) : Fin 2 → Nat :=
  let v4458 : Index := Scalar.indexCast v4182
  let c320_1124 : Index := 320#32
  ![v4458.toNat, 320]
def k1_off1516 (v4182 : BitVec 32) : Fin 2 → Nat :=
  let v4462 : Index := Scalar.indexCast v4182
  let c336_1125 : Index := 336#32
  ![v4462.toNat, 336]
def k1_off1517 (v4182 : BitVec 32) : Fin 2 → Nat :=
  let v4466 : Index := Scalar.indexCast v4182
  let c352_1126 : Index := 352#32
  ![v4466.toNat, 352]
def k1_off1518 (v4182 : BitVec 32) : Fin 2 → Nat :=
  let v4470 : Index := Scalar.indexCast v4182
  let c368_1127 : Index := 368#32
  ![v4470.toNat, 368]

def k1_chk31 (i : grid1.Coords) (v4182 : BitVec 32) : Prop :=
  (∀ (k1_h1 : k1_cond1 i = 1#1), ∀ a, (k1_off1495 v4182) a + S1x16.size a ≤ S256x384.size a) ∧
  (∀ (k1_h1 : k1_cond1 i = 1#1), ∀ a, (k1_off1496 v4182) a + S1x16.size a ≤ S256x384.size a) ∧
  (∀ (k1_h1 : k1_cond1 i = 1#1), ∀ a, (k1_off1497 v4182) a + S1x16.size a ≤ S256x384.size a) ∧
  (∀ (k1_h1 : k1_cond1 i = 1#1), ∀ a, (k1_off1498 v4182) a + S1x16.size a ≤ S256x384.size a) ∧
  (∀ (k1_h1 : k1_cond1 i = 1#1), ∀ a, (k1_off1499 v4182) a + S1x16.size a ≤ S256x384.size a) ∧
  (∀ (k1_h1 : k1_cond1 i = 1#1), ∀ a, (k1_off1500 v4182) a + S1x16.size a ≤ S256x384.size a) ∧
  (∀ (k1_h1 : k1_cond1 i = 1#1), ∀ a, (k1_off1501 v4182) a + S1x16.size a ≤ S256x384.size a) ∧
  (∀ (k1_h1 : k1_cond1 i = 1#1), ∀ a, (k1_off1502 v4182) a + S1x16.size a ≤ S256x384.size a) ∧
  (∀ (k1_h1 : k1_cond1 i = 1#1), ∀ a, (k1_off1503 v4182) a + S1x16.size a ≤ S256x384.size a) ∧
  (∀ (k1_h1 : k1_cond1 i = 1#1), ∀ a, (k1_off1504 v4182) a + S1x16.size a ≤ S256x384.size a) ∧
  (∀ (k1_h1 : k1_cond1 i = 1#1), ∀ a, (k1_off1505 v4182) a + S1x16.size a ≤ S256x384.size a) ∧
  (∀ (k1_h1 : k1_cond1 i = 1#1), ∀ a, (k1_off1506 v4182) a + S1x16.size a ≤ S256x384.size a) ∧
  (∀ (k1_h1 : k1_cond1 i = 1#1), ∀ a, (k1_off1507 v4182) a + S1x16.size a ≤ S256x384.size a) ∧
  (∀ (k1_h1 : k1_cond1 i = 1#1), ∀ a, (k1_off1508 v4182) a + S1x16.size a ≤ S256x384.size a) ∧
  (∀ (k1_h1 : k1_cond1 i = 1#1), ∀ a, (k1_off1509 v4182) a + S1x16.size a ≤ S256x384.size a) ∧
  (∀ (k1_h1 : k1_cond1 i = 1#1), ∀ a, (k1_off1510 v4182) a + S1x16.size a ≤ S256x384.size a) ∧
  (∀ (k1_h1 : k1_cond1 i = 1#1), ∀ a, (k1_off1511 v4182) a + S1x16.size a ≤ S256x384.size a) ∧
  (∀ (k1_h1 : k1_cond1 i = 1#1), ∀ a, (k1_off1512 v4182) a + S1x16.size a ≤ S256x384.size a) ∧
  (∀ (k1_h1 : k1_cond1 i = 1#1), ∀ a, (k1_off1513 v4182) a + S1x16.size a ≤ S256x384.size a) ∧
  (∀ (k1_h1 : k1_cond1 i = 1#1), ∀ a, (k1_off1514 v4182) a + S1x16.size a ≤ S256x384.size a) ∧
  (∀ (k1_h1 : k1_cond1 i = 1#1), ∀ a, (k1_off1515 v4182) a + S1x16.size a ≤ S256x384.size a) ∧
  (∀ (k1_h1 : k1_cond1 i = 1#1), ∀ a, (k1_off1516 v4182) a + S1x16.size a ≤ S256x384.size a) ∧
  (∀ (k1_h1 : k1_cond1 i = 1#1), ∀ a, (k1_off1517 v4182) a + S1x16.size a ≤ S256x384.size a) ∧
  (∀ (k1_h1 : k1_cond1 i = 1#1), ∀ a, (k1_off1518 v4182) a + S1x16.size a ≤ S256x384.size a)
theorem k1_off1495_inb : ∀ (i : grid1.Coords) (v4182 : BitVec 32) (k1_hw31 : k1_chk31 i v4182), ∀ (k1_h1 : k1_cond1 i = 1#1), ∀ a, (k1_off1495 v4182) a + S1x16.size a ≤ S256x384.size a := fun i v4182 k1_hw31 k1_h1 => k1_hw31.1 k1_h1
theorem k1_off1496_inb : ∀ (i : grid1.Coords) (v4182 : BitVec 32) (k1_hw31 : k1_chk31 i v4182), ∀ (k1_h1 : k1_cond1 i = 1#1), ∀ a, (k1_off1496 v4182) a + S1x16.size a ≤ S256x384.size a := fun i v4182 k1_hw31 k1_h1 => k1_hw31.2.1 k1_h1
theorem k1_off1497_inb : ∀ (i : grid1.Coords) (v4182 : BitVec 32) (k1_hw31 : k1_chk31 i v4182), ∀ (k1_h1 : k1_cond1 i = 1#1), ∀ a, (k1_off1497 v4182) a + S1x16.size a ≤ S256x384.size a := fun i v4182 k1_hw31 k1_h1 => k1_hw31.2.2.1 k1_h1
theorem k1_off1498_inb : ∀ (i : grid1.Coords) (v4182 : BitVec 32) (k1_hw31 : k1_chk31 i v4182), ∀ (k1_h1 : k1_cond1 i = 1#1), ∀ a, (k1_off1498 v4182) a + S1x16.size a ≤ S256x384.size a := fun i v4182 k1_hw31 k1_h1 => k1_hw31.2.2.2.1 k1_h1
theorem k1_off1499_inb : ∀ (i : grid1.Coords) (v4182 : BitVec 32) (k1_hw31 : k1_chk31 i v4182), ∀ (k1_h1 : k1_cond1 i = 1#1), ∀ a, (k1_off1499 v4182) a + S1x16.size a ≤ S256x384.size a := fun i v4182 k1_hw31 k1_h1 => k1_hw31.2.2.2.2.1 k1_h1
theorem k1_off1500_inb : ∀ (i : grid1.Coords) (v4182 : BitVec 32) (k1_hw31 : k1_chk31 i v4182), ∀ (k1_h1 : k1_cond1 i = 1#1), ∀ a, (k1_off1500 v4182) a + S1x16.size a ≤ S256x384.size a := fun i v4182 k1_hw31 k1_h1 => k1_hw31.2.2.2.2.2.1 k1_h1
theorem k1_off1501_inb : ∀ (i : grid1.Coords) (v4182 : BitVec 32) (k1_hw31 : k1_chk31 i v4182), ∀ (k1_h1 : k1_cond1 i = 1#1), ∀ a, (k1_off1501 v4182) a + S1x16.size a ≤ S256x384.size a := fun i v4182 k1_hw31 k1_h1 => k1_hw31.2.2.2.2.2.2.1 k1_h1
theorem k1_off1502_inb : ∀ (i : grid1.Coords) (v4182 : BitVec 32) (k1_hw31 : k1_chk31 i v4182), ∀ (k1_h1 : k1_cond1 i = 1#1), ∀ a, (k1_off1502 v4182) a + S1x16.size a ≤ S256x384.size a := fun i v4182 k1_hw31 k1_h1 => k1_hw31.2.2.2.2.2.2.2.1 k1_h1
theorem k1_off1503_inb : ∀ (i : grid1.Coords) (v4182 : BitVec 32) (k1_hw31 : k1_chk31 i v4182), ∀ (k1_h1 : k1_cond1 i = 1#1), ∀ a, (k1_off1503 v4182) a + S1x16.size a ≤ S256x384.size a := fun i v4182 k1_hw31 k1_h1 => k1_hw31.2.2.2.2.2.2.2.2.1 k1_h1
theorem k1_off1504_inb : ∀ (i : grid1.Coords) (v4182 : BitVec 32) (k1_hw31 : k1_chk31 i v4182), ∀ (k1_h1 : k1_cond1 i = 1#1), ∀ a, (k1_off1504 v4182) a + S1x16.size a ≤ S256x384.size a := fun i v4182 k1_hw31 k1_h1 => k1_hw31.2.2.2.2.2.2.2.2.2.1 k1_h1
theorem k1_off1505_inb : ∀ (i : grid1.Coords) (v4182 : BitVec 32) (k1_hw31 : k1_chk31 i v4182), ∀ (k1_h1 : k1_cond1 i = 1#1), ∀ a, (k1_off1505 v4182) a + S1x16.size a ≤ S256x384.size a := fun i v4182 k1_hw31 k1_h1 => k1_hw31.2.2.2.2.2.2.2.2.2.2.1 k1_h1
theorem k1_off1506_inb : ∀ (i : grid1.Coords) (v4182 : BitVec 32) (k1_hw31 : k1_chk31 i v4182), ∀ (k1_h1 : k1_cond1 i = 1#1), ∀ a, (k1_off1506 v4182) a + S1x16.size a ≤ S256x384.size a := fun i v4182 k1_hw31 k1_h1 => k1_hw31.2.2.2.2.2.2.2.2.2.2.2.1 k1_h1
theorem k1_off1507_inb : ∀ (i : grid1.Coords) (v4182 : BitVec 32) (k1_hw31 : k1_chk31 i v4182), ∀ (k1_h1 : k1_cond1 i = 1#1), ∀ a, (k1_off1507 v4182) a + S1x16.size a ≤ S256x384.size a := fun i v4182 k1_hw31 k1_h1 => k1_hw31.2.2.2.2.2.2.2.2.2.2.2.2.1 k1_h1
theorem k1_off1508_inb : ∀ (i : grid1.Coords) (v4182 : BitVec 32) (k1_hw31 : k1_chk31 i v4182), ∀ (k1_h1 : k1_cond1 i = 1#1), ∀ a, (k1_off1508 v4182) a + S1x16.size a ≤ S256x384.size a := fun i v4182 k1_hw31 k1_h1 => k1_hw31.2.2.2.2.2.2.2.2.2.2.2.2.2.1 k1_h1
theorem k1_off1509_inb : ∀ (i : grid1.Coords) (v4182 : BitVec 32) (k1_hw31 : k1_chk31 i v4182), ∀ (k1_h1 : k1_cond1 i = 1#1), ∀ a, (k1_off1509 v4182) a + S1x16.size a ≤ S256x384.size a := fun i v4182 k1_hw31 k1_h1 => k1_hw31.2.2.2.2.2.2.2.2.2.2.2.2.2.2.1 k1_h1
theorem k1_off1510_inb : ∀ (i : grid1.Coords) (v4182 : BitVec 32) (k1_hw31 : k1_chk31 i v4182), ∀ (k1_h1 : k1_cond1 i = 1#1), ∀ a, (k1_off1510 v4182) a + S1x16.size a ≤ S256x384.size a := fun i v4182 k1_hw31 k1_h1 => k1_hw31.2.2.2.2.2.2.2.2.2.2.2.2.2.2.2.1 k1_h1
theorem k1_off1511_inb : ∀ (i : grid1.Coords) (v4182 : BitVec 32) (k1_hw31 : k1_chk31 i v4182), ∀ (k1_h1 : k1_cond1 i = 1#1), ∀ a, (k1_off1511 v4182) a + S1x16.size a ≤ S256x384.size a := fun i v4182 k1_hw31 k1_h1 => k1_hw31.2.2.2.2.2.2.2.2.2.2.2.2.2.2.2.2.1 k1_h1
theorem k1_off1512_inb : ∀ (i : grid1.Coords) (v4182 : BitVec 32) (k1_hw31 : k1_chk31 i v4182), ∀ (k1_h1 : k1_cond1 i = 1#1), ∀ a, (k1_off1512 v4182) a + S1x16.size a ≤ S256x384.size a := fun i v4182 k1_hw31 k1_h1 => k1_hw31.2.2.2.2.2.2.2.2.2.2.2.2.2.2.2.2.2.1 k1_h1
theorem k1_off1513_inb : ∀ (i : grid1.Coords) (v4182 : BitVec 32) (k1_hw31 : k1_chk31 i v4182), ∀ (k1_h1 : k1_cond1 i = 1#1), ∀ a, (k1_off1513 v4182) a + S1x16.size a ≤ S256x384.size a := fun i v4182 k1_hw31 k1_h1 => k1_hw31.2.2.2.2.2.2.2.2.2.2.2.2.2.2.2.2.2.2.1 k1_h1
theorem k1_off1514_inb : ∀ (i : grid1.Coords) (v4182 : BitVec 32) (k1_hw31 : k1_chk31 i v4182), ∀ (k1_h1 : k1_cond1 i = 1#1), ∀ a, (k1_off1514 v4182) a + S1x16.size a ≤ S256x384.size a := fun i v4182 k1_hw31 k1_h1 => k1_hw31.2.2.2.2.2.2.2.2.2.2.2.2.2.2.2.2.2.2.2.1 k1_h1
theorem k1_off1515_inb : ∀ (i : grid1.Coords) (v4182 : BitVec 32) (k1_hw31 : k1_chk31 i v4182), ∀ (k1_h1 : k1_cond1 i = 1#1), ∀ a, (k1_off1515 v4182) a + S1x16.size a ≤ S256x384.size a := fun i v4182 k1_hw31 k1_h1 => k1_hw31.2.2.2.2.2.2.2.2.2.2.2.2.2.2.2.2.2.2.2.2.1 k1_h1
theorem k1_off1516_inb : ∀ (i : grid1.Coords) (v4182 : BitVec 32) (k1_hw31 : k1_chk31 i v4182), ∀ (k1_h1 : k1_cond1 i = 1#1), ∀ a, (k1_off1516 v4182) a + S1x16.size a ≤ S256x384.size a := fun i v4182 k1_hw31 k1_h1 => k1_hw31.2.2.2.2.2.2.2.2.2.2.2.2.2.2.2.2.2.2.2.2.2.1 k1_h1
theorem k1_off1517_inb : ∀ (i : grid1.Coords) (v4182 : BitVec 32) (k1_hw31 : k1_chk31 i v4182), ∀ (k1_h1 : k1_cond1 i = 1#1), ∀ a, (k1_off1517 v4182) a + S1x16.size a ≤ S256x384.size a := fun i v4182 k1_hw31 k1_h1 => k1_hw31.2.2.2.2.2.2.2.2.2.2.2.2.2.2.2.2.2.2.2.2.2.2.1 k1_h1
theorem k1_off1518_inb : ∀ (i : grid1.Coords) (v4182 : BitVec 32) (k1_hw31 : k1_chk31 i v4182), ∀ (k1_h1 : k1_cond1 i = 1#1), ∀ a, (k1_off1518 v4182) a + S1x16.size a ≤ S256x384.size a := fun i v4182 k1_hw31 k1_h1 => k1_hw31.2.2.2.2.2.2.2.2.2.2.2.2.2.2.2.2.2.2.2.2.2.2.2 k1_h1

def k1_off1519 (k1_t4 : Fin k1_t4_loop.trips) : Fin 2 → Nat :=
  let c0_i32_44 : BitVec 32 := 0#32
  let c1_i32_46 : BitVec 32 := 1#32
  let arg37 : BitVec 32 := Scf.iv c0_i32_44 c1_i32_46 k1_t4
  let c16_i32_1128 : BitVec 32 := 16#32
  let v4476 : BitVec 32 := Scalar.muli arg37 c16_i32_1128
  let c15_i32 : BitVec 32 := 15#32
  let v4477 : BitVec 32 := Scalar.addi v4476 c15_i32
  let v4479 : Index := Scalar.indexCast v4477
  let c0_1129 : Index := 0#32
  ![v4479.toNat, 0]
def k1_off1520 (k1_t4 : Fin k1_t4_loop.trips) : Fin 2 → Nat :=
  let c0_i32_44 : BitVec 32 := 0#32
  let c1_i32_46 : BitVec 32 := 1#32
  let arg37 : BitVec 32 := Scf.iv c0_i32_44 c1_i32_46 k1_t4
  let c16_i32_1128 : BitVec 32 := 16#32
  let v4476 : BitVec 32 := Scalar.muli arg37 c16_i32_1128
  let c15_i32 : BitVec 32 := 15#32
  let v4477 : BitVec 32 := Scalar.addi v4476 c15_i32
  let v4487 : Index := Scalar.indexCast v4477
  let c16_1131 : Index := 16#32
  ![v4487.toNat, 16]
def k1_off1521 (k1_t4 : Fin k1_t4_loop.trips) : Fin 2 → Nat :=
  let c0_i32_44 : BitVec 32 := 0#32
  let c1_i32_46 : BitVec 32 := 1#32
  let arg37 : BitVec 32 := Scf.iv c0_i32_44 c1_i32_46 k1_t4
  let c16_i32_1128 : BitVec 32 := 16#32
  let v4476 : BitVec 32 := Scalar.muli arg37 c16_i32_1128
  let c15_i32 : BitVec 32 := 15#32
  let v4477 : BitVec 32 := Scalar.addi v4476 c15_i32
  let v4495 : Index := Scalar.indexCast v4477
  let c32_1133 : Index := 32#32
  ![v4495.toNat, 32]
def k1_off1522 (k1_t4 : Fin k1_t4_loop.trips) : Fin 2 → Nat :=
  let c0_i32_44 : BitVec 32 := 0#32
  let c1_i32_46 : BitVec 32 := 1#32
  let arg37 : BitVec 32 := Scf.iv c0_i32_44 c1_i32_46 k1_t4
  let c16_i32_1128 : BitVec 32 := 16#32
  let v4476 : BitVec 32 := Scalar.muli arg37 c16_i32_1128
  let c15_i32 : BitVec 32 := 15#32
  let v4477 : BitVec 32 := Scalar.addi v4476 c15_i32
  let v4503 : Index := Scalar.indexCast v4477
  let c48_1135 : Index := 48#32
  ![v4503.toNat, 48]
def k1_off1523 (k1_t4 : Fin k1_t4_loop.trips) : Fin 2 → Nat :=
  let c0_i32_44 : BitVec 32 := 0#32
  let c1_i32_46 : BitVec 32 := 1#32
  let arg37 : BitVec 32 := Scf.iv c0_i32_44 c1_i32_46 k1_t4
  let c16_i32_1128 : BitVec 32 := 16#32
  let v4476 : BitVec 32 := Scalar.muli arg37 c16_i32_1128
  let c15_i32 : BitVec 32 := 15#32
  let v4477 : BitVec 32 := Scalar.addi v4476 c15_i32
  let v4511 : Index := Scalar.indexCast v4477
  let c64_1137 : Index := 64#32
  ![v4511.toNat, 64]
def k1_off1524 (k1_t4 : Fin k1_t4_loop.trips) : Fin 2 → Nat :=
  let c0_i32_44 : BitVec 32 := 0#32
  let c1_i32_46 : BitVec 32 := 1#32
  let arg37 : BitVec 32 := Scf.iv c0_i32_44 c1_i32_46 k1_t4
  let c16_i32_1128 : BitVec 32 := 16#32
  let v4476 : BitVec 32 := Scalar.muli arg37 c16_i32_1128
  let c15_i32 : BitVec 32 := 15#32
  let v4477 : BitVec 32 := Scalar.addi v4476 c15_i32
  let v4519 : Index := Scalar.indexCast v4477
  let c80_1139 : Index := 80#32
  ![v4519.toNat, 80]
def k1_off1525 (k1_t4 : Fin k1_t4_loop.trips) : Fin 2 → Nat :=
  let c0_i32_44 : BitVec 32 := 0#32
  let c1_i32_46 : BitVec 32 := 1#32
  let arg37 : BitVec 32 := Scf.iv c0_i32_44 c1_i32_46 k1_t4
  let c16_i32_1128 : BitVec 32 := 16#32
  let v4476 : BitVec 32 := Scalar.muli arg37 c16_i32_1128
  let c15_i32 : BitVec 32 := 15#32
  let v4477 : BitVec 32 := Scalar.addi v4476 c15_i32
  let v4527 : Index := Scalar.indexCast v4477
  let c96_1141 : Index := 96#32
  ![v4527.toNat, 96]
def k1_off1526 (k1_t4 : Fin k1_t4_loop.trips) : Fin 2 → Nat :=
  let c0_i32_44 : BitVec 32 := 0#32
  let c1_i32_46 : BitVec 32 := 1#32
  let arg37 : BitVec 32 := Scf.iv c0_i32_44 c1_i32_46 k1_t4
  let c16_i32_1128 : BitVec 32 := 16#32
  let v4476 : BitVec 32 := Scalar.muli arg37 c16_i32_1128
  let c15_i32 : BitVec 32 := 15#32
  let v4477 : BitVec 32 := Scalar.addi v4476 c15_i32
  let v4535 : Index := Scalar.indexCast v4477
  let c112_1143 : Index := 112#32
  ![v4535.toNat, 112]
def k1_off1527 (k1_t4 : Fin k1_t4_loop.trips) : Fin 2 → Nat :=
  let c0_i32_44 : BitVec 32 := 0#32
  let c1_i32_46 : BitVec 32 := 1#32
  let arg37 : BitVec 32 := Scf.iv c0_i32_44 c1_i32_46 k1_t4
  let c16_i32_1128 : BitVec 32 := 16#32
  let v4476 : BitVec 32 := Scalar.muli arg37 c16_i32_1128
  let c15_i32 : BitVec 32 := 15#32
  let v4477 : BitVec 32 := Scalar.addi v4476 c15_i32
  let v4543 : Index := Scalar.indexCast v4477
  let c128_1145 : Index := 128#32
  ![v4543.toNat, 128]
def k1_off1528 (k1_t4 : Fin k1_t4_loop.trips) : Fin 2 → Nat :=
  let c0_i32_44 : BitVec 32 := 0#32
  let c1_i32_46 : BitVec 32 := 1#32
  let arg37 : BitVec 32 := Scf.iv c0_i32_44 c1_i32_46 k1_t4
  let c16_i32_1128 : BitVec 32 := 16#32
  let v4476 : BitVec 32 := Scalar.muli arg37 c16_i32_1128
  let c15_i32 : BitVec 32 := 15#32
  let v4477 : BitVec 32 := Scalar.addi v4476 c15_i32
  let v4551 : Index := Scalar.indexCast v4477
  let c144_1147 : Index := 144#32
  ![v4551.toNat, 144]
def k1_off1529 (k1_t4 : Fin k1_t4_loop.trips) : Fin 2 → Nat :=
  let c0_i32_44 : BitVec 32 := 0#32
  let c1_i32_46 : BitVec 32 := 1#32
  let arg37 : BitVec 32 := Scf.iv c0_i32_44 c1_i32_46 k1_t4
  let c16_i32_1128 : BitVec 32 := 16#32
  let v4476 : BitVec 32 := Scalar.muli arg37 c16_i32_1128
  let c15_i32 : BitVec 32 := 15#32
  let v4477 : BitVec 32 := Scalar.addi v4476 c15_i32
  let v4559 : Index := Scalar.indexCast v4477
  let c160_1149 : Index := 160#32
  ![v4559.toNat, 160]
def k1_off1530 (k1_t4 : Fin k1_t4_loop.trips) : Fin 2 → Nat :=
  let c0_i32_44 : BitVec 32 := 0#32
  let c1_i32_46 : BitVec 32 := 1#32
  let arg37 : BitVec 32 := Scf.iv c0_i32_44 c1_i32_46 k1_t4
  let c16_i32_1128 : BitVec 32 := 16#32
  let v4476 : BitVec 32 := Scalar.muli arg37 c16_i32_1128
  let c15_i32 : BitVec 32 := 15#32
  let v4477 : BitVec 32 := Scalar.addi v4476 c15_i32
  let v4567 : Index := Scalar.indexCast v4477
  let c176_1151 : Index := 176#32
  ![v4567.toNat, 176]
def k1_off1531 (k1_t4 : Fin k1_t4_loop.trips) : Fin 2 → Nat :=
  let c0_i32_44 : BitVec 32 := 0#32
  let c1_i32_46 : BitVec 32 := 1#32
  let arg37 : BitVec 32 := Scf.iv c0_i32_44 c1_i32_46 k1_t4
  let c16_i32_1128 : BitVec 32 := 16#32
  let v4476 : BitVec 32 := Scalar.muli arg37 c16_i32_1128
  let c15_i32 : BitVec 32 := 15#32
  let v4477 : BitVec 32 := Scalar.addi v4476 c15_i32
  let v4575 : Index := Scalar.indexCast v4477
  let c192_1153 : Index := 192#32
  ![v4575.toNat, 192]
def k1_off1532 (k1_t4 : Fin k1_t4_loop.trips) : Fin 2 → Nat :=
  let c0_i32_44 : BitVec 32 := 0#32
  let c1_i32_46 : BitVec 32 := 1#32
  let arg37 : BitVec 32 := Scf.iv c0_i32_44 c1_i32_46 k1_t4
  let c16_i32_1128 : BitVec 32 := 16#32
  let v4476 : BitVec 32 := Scalar.muli arg37 c16_i32_1128
  let c15_i32 : BitVec 32 := 15#32
  let v4477 : BitVec 32 := Scalar.addi v4476 c15_i32
  let v4583 : Index := Scalar.indexCast v4477
  let c208_1155 : Index := 208#32
  ![v4583.toNat, 208]
def k1_off1533 (k1_t4 : Fin k1_t4_loop.trips) : Fin 2 → Nat :=
  let c0_i32_44 : BitVec 32 := 0#32
  let c1_i32_46 : BitVec 32 := 1#32
  let arg37 : BitVec 32 := Scf.iv c0_i32_44 c1_i32_46 k1_t4
  let c16_i32_1128 : BitVec 32 := 16#32
  let v4476 : BitVec 32 := Scalar.muli arg37 c16_i32_1128
  let c15_i32 : BitVec 32 := 15#32
  let v4477 : BitVec 32 := Scalar.addi v4476 c15_i32
  let v4591 : Index := Scalar.indexCast v4477
  let c224_1157 : Index := 224#32
  ![v4591.toNat, 224]
def k1_off1534 (k1_t4 : Fin k1_t4_loop.trips) : Fin 2 → Nat :=
  let c0_i32_44 : BitVec 32 := 0#32
  let c1_i32_46 : BitVec 32 := 1#32
  let arg37 : BitVec 32 := Scf.iv c0_i32_44 c1_i32_46 k1_t4
  let c16_i32_1128 : BitVec 32 := 16#32
  let v4476 : BitVec 32 := Scalar.muli arg37 c16_i32_1128
  let c15_i32 : BitVec 32 := 15#32
  let v4477 : BitVec 32 := Scalar.addi v4476 c15_i32
  let v4599 : Index := Scalar.indexCast v4477
  let c240_1159 : Index := 240#32
  ![v4599.toNat, 240]
def k1_off1535 (k1_t4 : Fin k1_t4_loop.trips) : Fin 2 → Nat :=
  let c0_i32_44 : BitVec 32 := 0#32
  let c1_i32_46 : BitVec 32 := 1#32
  let arg37 : BitVec 32 := Scf.iv c0_i32_44 c1_i32_46 k1_t4
  let c16_i32_1128 : BitVec 32 := 16#32
  let v4476 : BitVec 32 := Scalar.muli arg37 c16_i32_1128
  let c15_i32 : BitVec 32 := 15#32
  let v4477 : BitVec 32 := Scalar.addi v4476 c15_i32
  let v4607 : Index := Scalar.indexCast v4477
  let c256_1161 : Index := 256#32
  ![v4607.toNat, 256]
def k1_off1536 (k1_t4 : Fin k1_t4_loop.trips) : Fin 2 → Nat :=
  let c0_i32_44 : BitVec 32 := 0#32
  let c1_i32_46 : BitVec 32 := 1#32
  let arg37 : BitVec 32 := Scf.iv c0_i32_44 c1_i32_46 k1_t4
  let c16_i32_1128 : BitVec 32 := 16#32
  let v4476 : BitVec 32 := Scalar.muli arg37 c16_i32_1128
  let c15_i32 : BitVec 32 := 15#32
  let v4477 : BitVec 32 := Scalar.addi v4476 c15_i32
  let v4615 : Index := Scalar.indexCast v4477
  let c272_1163 : Index := 272#32
  ![v4615.toNat, 272]
def k1_off1537 (k1_t4 : Fin k1_t4_loop.trips) : Fin 2 → Nat :=
  let c0_i32_44 : BitVec 32 := 0#32
  let c1_i32_46 : BitVec 32 := 1#32
  let arg37 : BitVec 32 := Scf.iv c0_i32_44 c1_i32_46 k1_t4
  let c16_i32_1128 : BitVec 32 := 16#32
  let v4476 : BitVec 32 := Scalar.muli arg37 c16_i32_1128
  let c15_i32 : BitVec 32 := 15#32
  let v4477 : BitVec 32 := Scalar.addi v4476 c15_i32
  let v4623 : Index := Scalar.indexCast v4477
  let c288_1165 : Index := 288#32
  ![v4623.toNat, 288]
def k1_off1538 (k1_t4 : Fin k1_t4_loop.trips) : Fin 2 → Nat :=
  let c0_i32_44 : BitVec 32 := 0#32
  let c1_i32_46 : BitVec 32 := 1#32
  let arg37 : BitVec 32 := Scf.iv c0_i32_44 c1_i32_46 k1_t4
  let c16_i32_1128 : BitVec 32 := 16#32
  let v4476 : BitVec 32 := Scalar.muli arg37 c16_i32_1128
  let c15_i32 : BitVec 32 := 15#32
  let v4477 : BitVec 32 := Scalar.addi v4476 c15_i32
  let v4631 : Index := Scalar.indexCast v4477
  let c304_1167 : Index := 304#32
  ![v4631.toNat, 304]
def k1_off1539 (k1_t4 : Fin k1_t4_loop.trips) : Fin 2 → Nat :=
  let c0_i32_44 : BitVec 32 := 0#32
  let c1_i32_46 : BitVec 32 := 1#32
  let arg37 : BitVec 32 := Scf.iv c0_i32_44 c1_i32_46 k1_t4
  let c16_i32_1128 : BitVec 32 := 16#32
  let v4476 : BitVec 32 := Scalar.muli arg37 c16_i32_1128
  let c15_i32 : BitVec 32 := 15#32
  let v4477 : BitVec 32 := Scalar.addi v4476 c15_i32
  let v4639 : Index := Scalar.indexCast v4477
  let c320_1169 : Index := 320#32
  ![v4639.toNat, 320]
def k1_off1540 (k1_t4 : Fin k1_t4_loop.trips) : Fin 2 → Nat :=
  let c0_i32_44 : BitVec 32 := 0#32
  let c1_i32_46 : BitVec 32 := 1#32
  let arg37 : BitVec 32 := Scf.iv c0_i32_44 c1_i32_46 k1_t4
  let c16_i32_1128 : BitVec 32 := 16#32
  let v4476 : BitVec 32 := Scalar.muli arg37 c16_i32_1128
  let c15_i32 : BitVec 32 := 15#32
  let v4477 : BitVec 32 := Scalar.addi v4476 c15_i32
  let v4647 : Index := Scalar.indexCast v4477
  let c336_1171 : Index := 336#32
  ![v4647.toNat, 336]
def k1_off1541 (k1_t4 : Fin k1_t4_loop.trips) : Fin 2 → Nat :=
  let c0_i32_44 : BitVec 32 := 0#32
  let c1_i32_46 : BitVec 32 := 1#32
  let arg37 : BitVec 32 := Scf.iv c0_i32_44 c1_i32_46 k1_t4
  let c16_i32_1128 : BitVec 32 := 16#32
  let v4476 : BitVec 32 := Scalar.muli arg37 c16_i32_1128
  let c15_i32 : BitVec 32 := 15#32
  let v4477 : BitVec 32 := Scalar.addi v4476 c15_i32
  let v4655 : Index := Scalar.indexCast v4477
  let c352_1173 : Index := 352#32
  ![v4655.toNat, 352]
def k1_off1542 (k1_t4 : Fin k1_t4_loop.trips) : Fin 2 → Nat :=
  let c0_i32_44 : BitVec 32 := 0#32
  let c1_i32_46 : BitVec 32 := 1#32
  let arg37 : BitVec 32 := Scf.iv c0_i32_44 c1_i32_46 k1_t4
  let c16_i32_1128 : BitVec 32 := 16#32
  let v4476 : BitVec 32 := Scalar.muli arg37 c16_i32_1128
  let c15_i32 : BitVec 32 := 15#32
  let v4477 : BitVec 32 := Scalar.addi v4476 c15_i32
  let v4663 : Index := Scalar.indexCast v4477
  let c368_1175 : Index := 368#32
  ![v4663.toNat, 368]
def k1_off1543 (v4475 : BitVec 32) : Fin 2 → Nat :=
  let v4671 : Index := Scalar.indexCast v4475
  let c0_1177 : Index := 0#32
  ![v4671.toNat, 0]

def k1_off1544 (v4475 : BitVec 32) : Fin 2 → Nat :=
  let v4675 : Index := Scalar.indexCast v4475
  let c16_1178 : Index := 16#32
  ![v4675.toNat, 16]
def k1_off1545 (v4475 : BitVec 32) : Fin 2 → Nat :=
  let v4679 : Index := Scalar.indexCast v4475
  let c32_1179 : Index := 32#32
  ![v4679.toNat, 32]
def k1_off1546 (v4475 : BitVec 32) : Fin 2 → Nat :=
  let v4683 : Index := Scalar.indexCast v4475
  let c48_1180 : Index := 48#32
  ![v4683.toNat, 48]
def k1_off1547 (v4475 : BitVec 32) : Fin 2 → Nat :=
  let v4687 : Index := Scalar.indexCast v4475
  let c64_1181 : Index := 64#32
  ![v4687.toNat, 64]
def k1_off1548 (v4475 : BitVec 32) : Fin 2 → Nat :=
  let v4691 : Index := Scalar.indexCast v4475
  let c80_1182 : Index := 80#32
  ![v4691.toNat, 80]
def k1_off1549 (v4475 : BitVec 32) : Fin 2 → Nat :=
  let v4695 : Index := Scalar.indexCast v4475
  let c96_1183 : Index := 96#32
  ![v4695.toNat, 96]
def k1_off1550 (v4475 : BitVec 32) : Fin 2 → Nat :=
  let v4699 : Index := Scalar.indexCast v4475
  let c112_1184 : Index := 112#32
  ![v4699.toNat, 112]
def k1_off1551 (v4475 : BitVec 32) : Fin 2 → Nat :=
  let v4703 : Index := Scalar.indexCast v4475
  let c128_1185 : Index := 128#32
  ![v4703.toNat, 128]
def k1_off1552 (v4475 : BitVec 32) : Fin 2 → Nat :=
  let v4707 : Index := Scalar.indexCast v4475
  let c144_1186 : Index := 144#32
  ![v4707.toNat, 144]
def k1_off1553 (v4475 : BitVec 32) : Fin 2 → Nat :=
  let v4711 : Index := Scalar.indexCast v4475
  let c160_1187 : Index := 160#32
  ![v4711.toNat, 160]
def k1_off1554 (v4475 : BitVec 32) : Fin 2 → Nat :=
  let v4715 : Index := Scalar.indexCast v4475
  let c176_1188 : Index := 176#32
  ![v4715.toNat, 176]
def k1_off1555 (v4475 : BitVec 32) : Fin 2 → Nat :=
  let v4719 : Index := Scalar.indexCast v4475
  let c192_1189 : Index := 192#32
  ![v4719.toNat, 192]
def k1_off1556 (v4475 : BitVec 32) : Fin 2 → Nat :=
  let v4723 : Index := Scalar.indexCast v4475
  let c208_1190 : Index := 208#32
  ![v4723.toNat, 208]
def k1_off1557 (v4475 : BitVec 32) : Fin 2 → Nat :=
  let v4727 : Index := Scalar.indexCast v4475
  let c224_1191 : Index := 224#32
  ![v4727.toNat, 224]
def k1_off1558 (v4475 : BitVec 32) : Fin 2 → Nat :=
  let v4731 : Index := Scalar.indexCast v4475
  let c240_1192 : Index := 240#32
  ![v4731.toNat, 240]
def k1_off1559 (v4475 : BitVec 32) : Fin 2 → Nat :=
  let v4735 : Index := Scalar.indexCast v4475
  let c256_1193 : Index := 256#32
  ![v4735.toNat, 256]
def k1_off1560 (v4475 : BitVec 32) : Fin 2 → Nat :=
  let v4739 : Index := Scalar.indexCast v4475
  let c272_1194 : Index := 272#32
  ![v4739.toNat, 272]
def k1_off1561 (v4475 : BitVec 32) : Fin 2 → Nat :=
  let v4743 : Index := Scalar.indexCast v4475
  let c288_1195 : Index := 288#32
  ![v4743.toNat, 288]
def k1_off1562 (v4475 : BitVec 32) : Fin 2 → Nat :=
  let v4747 : Index := Scalar.indexCast v4475
  let c304_1196 : Index := 304#32
  ![v4747.toNat, 304]
def k1_off1563 (v4475 : BitVec 32) : Fin 2 → Nat :=
  let v4751 : Index := Scalar.indexCast v4475
  let c320_1197 : Index := 320#32
  ![v4751.toNat, 320]
def k1_off1564 (v4475 : BitVec 32) : Fin 2 → Nat :=
  let v4755 : Index := Scalar.indexCast v4475
  let c336_1198 : Index := 336#32
  ![v4755.toNat, 336]
def k1_off1565 (v4475 : BitVec 32) : Fin 2 → Nat :=
  let v4759 : Index := Scalar.indexCast v4475
  let c352_1199 : Index := 352#32
  ![v4759.toNat, 352]
def k1_off1566 (v4475 : BitVec 32) : Fin 2 → Nat :=
  let v4763 : Index := Scalar.indexCast v4475
  let c368_1200 : Index := 368#32
  ![v4763.toNat, 368]

def k1_chk32 (i : grid1.Coords) (v4475 : BitVec 32) : Prop :=
  (∀ (k1_h1 : k1_cond1 i = 1#1), ∀ a, (k1_off1543 v4475) a + S1x16.size a ≤ S256x384.size a) ∧
  (∀ (k1_h1 : k1_cond1 i = 1#1), ∀ a, (k1_off1544 v4475) a + S1x16.size a ≤ S256x384.size a) ∧
  (∀ (k1_h1 : k1_cond1 i = 1#1), ∀ a, (k1_off1545 v4475) a + S1x16.size a ≤ S256x384.size a) ∧
  (∀ (k1_h1 : k1_cond1 i = 1#1), ∀ a, (k1_off1546 v4475) a + S1x16.size a ≤ S256x384.size a) ∧
  (∀ (k1_h1 : k1_cond1 i = 1#1), ∀ a, (k1_off1547 v4475) a + S1x16.size a ≤ S256x384.size a) ∧
  (∀ (k1_h1 : k1_cond1 i = 1#1), ∀ a, (k1_off1548 v4475) a + S1x16.size a ≤ S256x384.size a) ∧
  (∀ (k1_h1 : k1_cond1 i = 1#1), ∀ a, (k1_off1549 v4475) a + S1x16.size a ≤ S256x384.size a) ∧
  (∀ (k1_h1 : k1_cond1 i = 1#1), ∀ a, (k1_off1550 v4475) a + S1x16.size a ≤ S256x384.size a) ∧
  (∀ (k1_h1 : k1_cond1 i = 1#1), ∀ a, (k1_off1551 v4475) a + S1x16.size a ≤ S256x384.size a) ∧
  (∀ (k1_h1 : k1_cond1 i = 1#1), ∀ a, (k1_off1552 v4475) a + S1x16.size a ≤ S256x384.size a) ∧
  (∀ (k1_h1 : k1_cond1 i = 1#1), ∀ a, (k1_off1553 v4475) a + S1x16.size a ≤ S256x384.size a) ∧
  (∀ (k1_h1 : k1_cond1 i = 1#1), ∀ a, (k1_off1554 v4475) a + S1x16.size a ≤ S256x384.size a) ∧
  (∀ (k1_h1 : k1_cond1 i = 1#1), ∀ a, (k1_off1555 v4475) a + S1x16.size a ≤ S256x384.size a) ∧
  (∀ (k1_h1 : k1_cond1 i = 1#1), ∀ a, (k1_off1556 v4475) a + S1x16.size a ≤ S256x384.size a) ∧
  (∀ (k1_h1 : k1_cond1 i = 1#1), ∀ a, (k1_off1557 v4475) a + S1x16.size a ≤ S256x384.size a) ∧
  (∀ (k1_h1 : k1_cond1 i = 1#1), ∀ a, (k1_off1558 v4475) a + S1x16.size a ≤ S256x384.size a) ∧
  (∀ (k1_h1 : k1_cond1 i = 1#1), ∀ a, (k1_off1559 v4475) a + S1x16.size a ≤ S256x384.size a) ∧
  (∀ (k1_h1 : k1_cond1 i = 1#1), ∀ a, (k1_off1560 v4475) a + S1x16.size a ≤ S256x384.size a) ∧
  (∀ (k1_h1 : k1_cond1 i = 1#1), ∀ a, (k1_off1561 v4475) a + S1x16.size a ≤ S256x384.size a) ∧
  (∀ (k1_h1 : k1_cond1 i = 1#1), ∀ a, (k1_off1562 v4475) a + S1x16.size a ≤ S256x384.size a) ∧
  (∀ (k1_h1 : k1_cond1 i = 1#1), ∀ a, (k1_off1563 v4475) a + S1x16.size a ≤ S256x384.size a) ∧
  (∀ (k1_h1 : k1_cond1 i = 1#1), ∀ a, (k1_off1564 v4475) a + S1x16.size a ≤ S256x384.size a) ∧
  (∀ (k1_h1 : k1_cond1 i = 1#1), ∀ a, (k1_off1565 v4475) a + S1x16.size a ≤ S256x384.size a) ∧
  (∀ (k1_h1 : k1_cond1 i = 1#1), ∀ a, (k1_off1566 v4475) a + S1x16.size a ≤ S256x384.size a)
theorem k1_off1543_inb : ∀ (i : grid1.Coords) (v4475 : BitVec 32) (k1_hw32 : k1_chk32 i v4475), ∀ (k1_h1 : k1_cond1 i = 1#1), ∀ a, (k1_off1543 v4475) a + S1x16.size a ≤ S256x384.size a := fun i v4475 k1_hw32 k1_h1 => k1_hw32.1 k1_h1
theorem k1_off1544_inb : ∀ (i : grid1.Coords) (v4475 : BitVec 32) (k1_hw32 : k1_chk32 i v4475), ∀ (k1_h1 : k1_cond1 i = 1#1), ∀ a, (k1_off1544 v4475) a + S1x16.size a ≤ S256x384.size a := fun i v4475 k1_hw32 k1_h1 => k1_hw32.2.1 k1_h1
theorem k1_off1545_inb : ∀ (i : grid1.Coords) (v4475 : BitVec 32) (k1_hw32 : k1_chk32 i v4475), ∀ (k1_h1 : k1_cond1 i = 1#1), ∀ a, (k1_off1545 v4475) a + S1x16.size a ≤ S256x384.size a := fun i v4475 k1_hw32 k1_h1 => k1_hw32.2.2.1 k1_h1
theorem k1_off1546_inb : ∀ (i : grid1.Coords) (v4475 : BitVec 32) (k1_hw32 : k1_chk32 i v4475), ∀ (k1_h1 : k1_cond1 i = 1#1), ∀ a, (k1_off1546 v4475) a + S1x16.size a ≤ S256x384.size a := fun i v4475 k1_hw32 k1_h1 => k1_hw32.2.2.2.1 k1_h1
theorem k1_off1547_inb : ∀ (i : grid1.Coords) (v4475 : BitVec 32) (k1_hw32 : k1_chk32 i v4475), ∀ (k1_h1 : k1_cond1 i = 1#1), ∀ a, (k1_off1547 v4475) a + S1x16.size a ≤ S256x384.size a := fun i v4475 k1_hw32 k1_h1 => k1_hw32.2.2.2.2.1 k1_h1
theorem k1_off1548_inb : ∀ (i : grid1.Coords) (v4475 : BitVec 32) (k1_hw32 : k1_chk32 i v4475), ∀ (k1_h1 : k1_cond1 i = 1#1), ∀ a, (k1_off1548 v4475) a + S1x16.size a ≤ S256x384.size a := fun i v4475 k1_hw32 k1_h1 => k1_hw32.2.2.2.2.2.1 k1_h1
theorem k1_off1549_inb : ∀ (i : grid1.Coords) (v4475 : BitVec 32) (k1_hw32 : k1_chk32 i v4475), ∀ (k1_h1 : k1_cond1 i = 1#1), ∀ a, (k1_off1549 v4475) a + S1x16.size a ≤ S256x384.size a := fun i v4475 k1_hw32 k1_h1 => k1_hw32.2.2.2.2.2.2.1 k1_h1
theorem k1_off1550_inb : ∀ (i : grid1.Coords) (v4475 : BitVec 32) (k1_hw32 : k1_chk32 i v4475), ∀ (k1_h1 : k1_cond1 i = 1#1), ∀ a, (k1_off1550 v4475) a + S1x16.size a ≤ S256x384.size a := fun i v4475 k1_hw32 k1_h1 => k1_hw32.2.2.2.2.2.2.2.1 k1_h1
theorem k1_off1551_inb : ∀ (i : grid1.Coords) (v4475 : BitVec 32) (k1_hw32 : k1_chk32 i v4475), ∀ (k1_h1 : k1_cond1 i = 1#1), ∀ a, (k1_off1551 v4475) a + S1x16.size a ≤ S256x384.size a := fun i v4475 k1_hw32 k1_h1 => k1_hw32.2.2.2.2.2.2.2.2.1 k1_h1
theorem k1_off1552_inb : ∀ (i : grid1.Coords) (v4475 : BitVec 32) (k1_hw32 : k1_chk32 i v4475), ∀ (k1_h1 : k1_cond1 i = 1#1), ∀ a, (k1_off1552 v4475) a + S1x16.size a ≤ S256x384.size a := fun i v4475 k1_hw32 k1_h1 => k1_hw32.2.2.2.2.2.2.2.2.2.1 k1_h1
theorem k1_off1553_inb : ∀ (i : grid1.Coords) (v4475 : BitVec 32) (k1_hw32 : k1_chk32 i v4475), ∀ (k1_h1 : k1_cond1 i = 1#1), ∀ a, (k1_off1553 v4475) a + S1x16.size a ≤ S256x384.size a := fun i v4475 k1_hw32 k1_h1 => k1_hw32.2.2.2.2.2.2.2.2.2.2.1 k1_h1
theorem k1_off1554_inb : ∀ (i : grid1.Coords) (v4475 : BitVec 32) (k1_hw32 : k1_chk32 i v4475), ∀ (k1_h1 : k1_cond1 i = 1#1), ∀ a, (k1_off1554 v4475) a + S1x16.size a ≤ S256x384.size a := fun i v4475 k1_hw32 k1_h1 => k1_hw32.2.2.2.2.2.2.2.2.2.2.2.1 k1_h1
theorem k1_off1555_inb : ∀ (i : grid1.Coords) (v4475 : BitVec 32) (k1_hw32 : k1_chk32 i v4475), ∀ (k1_h1 : k1_cond1 i = 1#1), ∀ a, (k1_off1555 v4475) a + S1x16.size a ≤ S256x384.size a := fun i v4475 k1_hw32 k1_h1 => k1_hw32.2.2.2.2.2.2.2.2.2.2.2.2.1 k1_h1
theorem k1_off1556_inb : ∀ (i : grid1.Coords) (v4475 : BitVec 32) (k1_hw32 : k1_chk32 i v4475), ∀ (k1_h1 : k1_cond1 i = 1#1), ∀ a, (k1_off1556 v4475) a + S1x16.size a ≤ S256x384.size a := fun i v4475 k1_hw32 k1_h1 => k1_hw32.2.2.2.2.2.2.2.2.2.2.2.2.2.1 k1_h1
theorem k1_off1557_inb : ∀ (i : grid1.Coords) (v4475 : BitVec 32) (k1_hw32 : k1_chk32 i v4475), ∀ (k1_h1 : k1_cond1 i = 1#1), ∀ a, (k1_off1557 v4475) a + S1x16.size a ≤ S256x384.size a := fun i v4475 k1_hw32 k1_h1 => k1_hw32.2.2.2.2.2.2.2.2.2.2.2.2.2.2.1 k1_h1
theorem k1_off1558_inb : ∀ (i : grid1.Coords) (v4475 : BitVec 32) (k1_hw32 : k1_chk32 i v4475), ∀ (k1_h1 : k1_cond1 i = 1#1), ∀ a, (k1_off1558 v4475) a + S1x16.size a ≤ S256x384.size a := fun i v4475 k1_hw32 k1_h1 => k1_hw32.2.2.2.2.2.2.2.2.2.2.2.2.2.2.2.1 k1_h1
theorem k1_off1559_inb : ∀ (i : grid1.Coords) (v4475 : BitVec 32) (k1_hw32 : k1_chk32 i v4475), ∀ (k1_h1 : k1_cond1 i = 1#1), ∀ a, (k1_off1559 v4475) a + S1x16.size a ≤ S256x384.size a := fun i v4475 k1_hw32 k1_h1 => k1_hw32.2.2.2.2.2.2.2.2.2.2.2.2.2.2.2.2.1 k1_h1
theorem k1_off1560_inb : ∀ (i : grid1.Coords) (v4475 : BitVec 32) (k1_hw32 : k1_chk32 i v4475), ∀ (k1_h1 : k1_cond1 i = 1#1), ∀ a, (k1_off1560 v4475) a + S1x16.size a ≤ S256x384.size a := fun i v4475 k1_hw32 k1_h1 => k1_hw32.2.2.2.2.2.2.2.2.2.2.2.2.2.2.2.2.2.1 k1_h1
theorem k1_off1561_inb : ∀ (i : grid1.Coords) (v4475 : BitVec 32) (k1_hw32 : k1_chk32 i v4475), ∀ (k1_h1 : k1_cond1 i = 1#1), ∀ a, (k1_off1561 v4475) a + S1x16.size a ≤ S256x384.size a := fun i v4475 k1_hw32 k1_h1 => k1_hw32.2.2.2.2.2.2.2.2.2.2.2.2.2.2.2.2.2.2.1 k1_h1
theorem k1_off1562_inb : ∀ (i : grid1.Coords) (v4475 : BitVec 32) (k1_hw32 : k1_chk32 i v4475), ∀ (k1_h1 : k1_cond1 i = 1#1), ∀ a, (k1_off1562 v4475) a + S1x16.size a ≤ S256x384.size a := fun i v4475 k1_hw32 k1_h1 => k1_hw32.2.2.2.2.2.2.2.2.2.2.2.2.2.2.2.2.2.2.2.1 k1_h1
theorem k1_off1563_inb : ∀ (i : grid1.Coords) (v4475 : BitVec 32) (k1_hw32 : k1_chk32 i v4475), ∀ (k1_h1 : k1_cond1 i = 1#1), ∀ a, (k1_off1563 v4475) a + S1x16.size a ≤ S256x384.size a := fun i v4475 k1_hw32 k1_h1 => k1_hw32.2.2.2.2.2.2.2.2.2.2.2.2.2.2.2.2.2.2.2.2.1 k1_h1
theorem k1_off1564_inb : ∀ (i : grid1.Coords) (v4475 : BitVec 32) (k1_hw32 : k1_chk32 i v4475), ∀ (k1_h1 : k1_cond1 i = 1#1), ∀ a, (k1_off1564 v4475) a + S1x16.size a ≤ S256x384.size a := fun i v4475 k1_hw32 k1_h1 => k1_hw32.2.2.2.2.2.2.2.2.2.2.2.2.2.2.2.2.2.2.2.2.2.1 k1_h1
theorem k1_off1565_inb : ∀ (i : grid1.Coords) (v4475 : BitVec 32) (k1_hw32 : k1_chk32 i v4475), ∀ (k1_h1 : k1_cond1 i = 1#1), ∀ a, (k1_off1565 v4475) a + S1x16.size a ≤ S256x384.size a := fun i v4475 k1_hw32 k1_h1 => k1_hw32.2.2.2.2.2.2.2.2.2.2.2.2.2.2.2.2.2.2.2.2.2.2.1 k1_h1
theorem k1_off1566_inb : ∀ (i : grid1.Coords) (v4475 : BitVec 32) (k1_hw32 : k1_chk32 i v4475), ∀ (k1_h1 : k1_cond1 i = 1#1), ∀ a, (k1_off1566 v4475) a + S1x16.size a ≤ S256x384.size a := fun i v4475 k1_hw32 k1_h1 => k1_hw32.2.2.2.2.2.2.2.2.2.2.2.2.2.2.2.2.2.2.2.2.2.2.2 k1_h1

def k1_cond3 (k1_t2 : Fin k1_t2_loop.trips) : BitVec 1 :=
  let c0_i32_22 : BitVec 32 := 0#32
  let c1_i32_24 : BitVec 32 := 1#32
  let arg11 : BitVec 32 := Scf.iv c0_i32_22 c1_i32_24 k1_t2
  let c2_i32_39 : BitVec 32 := 2#32
  let v61 : BitVec 32 := Scalar.muli arg11 c2_i32_39
  let c1_i32_40 : BitVec 32 := 1#32
  let v62 : BitVec 32 := Scalar.addi v61 c1_i32_40
  let c2_i32_48 : BitVec 32 := 2#32
  let v69 : BitVec 32 := Scalar.addi v62 c2_i32_48
  let c16_i32_49 : BitVec 32 := 16#32
  let v70 : BitVec 1 := Scalar.cmpi .slt v69 c16_i32_49
  let v71 : BitVec 32 := Scalar.extui v70
  let c0_i32_50 : BitVec 32 := 0#32
  let v72 : BitVec 1 := Scalar.cmpi .ne v71 c0_i32_50
  v72

def k1_off1567 (i : grid1.Coords) (k1_t2 : Fin k1_t2_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c8_i32 : BitVec 32 := 8#32
  let v32 : BitVec 32 := Scalar.muli v28 c8_i32
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32_0 : BitVec 32 := 2#32
  let c0_i32_2 : BitVec 32 := 0#32
  let v8 : BitVec 1 := Scalar.cmpi .sgt c2_i32_0 c0_i32_2
  let v9 : BitVec 32 := Scalar.extui v8
  let c0_i32_3 : BitVec 32 := 0#32
  let v10 : BitVec 1 := Scalar.cmpi .slt c2_i32_0 c0_i32_3
  let v11 : BitVec 32 := Scalar.extui v10
  let v12 : BitVec 32 := Scalar.subi v9 v11
  let v13 : BitVec 1 := Scalar.cmpi .ne v7 v12
  let v14 : BitVec 32 := Scalar.remsi v1 c2_i32_0
  let c0_i32_4 : BitVec 32 := 0#32
  let v15 : BitVec 1 := Scalar.cmpi .ne v14 c0_i32_4
  let v16 : BitVec 1 := Scalar.andi v13 v15
  let v2 : BitVec 32 := Scalar.divsi v1 c2_i32_0
  let c1_i32 : BitVec 32 := 1#32
  let v17 : BitVec 32 := Scalar.subi v2 c1_i32
  let v18 : BitVec 32 := Scalar.select v16 v17 v2
  let v33 : BitVec 32 := Scalar.addi v32 v18
  let c512_i32 : BitVec 32 := 512#32
  let v34 : BitVec 32 := Scalar.muli v33 c512_i32
  let c0_i32_22 : BitVec 32 := 0#32
  let c1_i32_24 : BitVec 32 := 1#32
  let arg11 : BitVec 32 := Scf.iv c0_i32_22 c1_i32_24 k1_t2
  let c2_i32_39 : BitVec 32 := 2#32
  let v61 : BitVec 32 := Scalar.muli arg11 c2_i32_39
  let c1_i32_40 : BitVec 32 := 1#32
  let v62 : BitVec 32 := Scalar.addi v61 c1_i32_40
  let c2_i32_48 : BitVec 32 := 2#32
  let v69 : BitVec 32 := Scalar.addi v62 c2_i32_48
  let c32_i32_51 : BitVec 32 := 32#32
  let v73 : BitVec 32 := Scalar.muli v69 c32_i32_51
  let v74 : BitVec 32 := Scalar.addi v34 v73
  let c0_i32_52 : BitVec 32 := 0#32
  ![v74.toNat, 0]
def k1_off1568 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32_0 : BitVec 32 := 2#32
  let c0_i32_2 : BitVec 32 := 0#32
  let v8 : BitVec 1 := Scalar.cmpi .sgt c2_i32_0 c0_i32_2
  let v9 : BitVec 32 := Scalar.extui v8
  let c0_i32_3 : BitVec 32 := 0#32
  let v10 : BitVec 1 := Scalar.cmpi .slt c2_i32_0 c0_i32_3
  let v11 : BitVec 32 := Scalar.extui v10
  let v12 : BitVec 32 := Scalar.subi v9 v11
  let v13 : BitVec 1 := Scalar.cmpi .ne v7 v12
  let v14 : BitVec 32 := Scalar.remsi v1 c2_i32_0
  let c0_i32_4 : BitVec 32 := 0#32
  let v15 : BitVec 1 := Scalar.cmpi .ne v14 c0_i32_4
  let v16 : BitVec 1 := Scalar.andi v13 v15
  let v2 : BitVec 32 := Scalar.divsi v1 c2_i32_0
  let c1_i32 : BitVec 32 := 1#32
  let v17 : BitVec 32 := Scalar.subi v2 c1_i32
  let v18 : BitVec 32 := Scalar.select v16 v17 v2
  let c256_i32_26 : BitVec 32 := 256#32
  let v47 : BitVec 32 := Scalar.muli v18 c256_i32_26
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c384_i32 : BitVec 32 := 384#32
  let v48 : BitVec 32 := Scalar.muli v28 c384_i32
  ![v47.toNat, v48.toNat]
abbrev grid2 : Pipeline.Grid := ⟨2, ![8, 2], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc2_transform_2 (i : grid2.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.addi arg0 c8_i32
  let c0_i32 : BitVec 32 := 0#32
  let c0_i32_0 : BitVec 32 := 0#32
  let c0_i32_1 : BitVec 32 := 0#32
  ![v0.toNat, c0_i32.toNat, arg1.toNat, c0_i32_0.toNat]

def cc2_transform_3 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage2_0 : Fin 1 → Memref sig .tc .vmem S1x13 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false, false]

abbrev stage2_1 : Fin 2 → Memref sig .tc .vmem S1x1x256 .i32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev stage2_2 : Fin 2 → Memref sig .tc .vmem S1x13x256x768 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev stage2_3 : Fin 2 → Memref sig .tc .vmem S1x256x768 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S16x13x512x768 : Shape := ⟨4, ![16, 13, 512, 768]⟩
abbrev S16x512 : Shape := ⟨2, ![16, 512]⟩
abbrev S13 : Shape := ⟨1, ![13]⟩
abbrev S_ : Shape := ⟨0, ![]⟩
abbrev S1 : Shape := ⟨1, ![1]⟩
abbrev S16x512x768 : Shape := ⟨3, ![16, 512, 768]⟩
abbrev S16 : Shape := ⟨1, ![16]⟩
abbrev S16x1 : Shape := ⟨2, ![16, 1]⟩
abbrev S16x256x768 : Shape := ⟨3, ![16, 256, 768]⟩
abbrev S16x512x1 : Shape := ⟨3, ![16, 512, 1]⟩
abbrev S16x512x2 : Shape := ⟨3, ![16, 512, 2]⟩

abbrev nBuf : Space → Nat
  | .hbm => 40
  | .vmem => 0
  | .smem => 0
  | _ => 0

abbrev bufTy : (tb : Table) → Fin (tcTables nBuf tb) → BufTy
  | .hbm, ⟨0, _⟩ => ⟨S16x13x512x768, .f32⟩
  | .hbm, ⟨1, _⟩ => ⟨S16x512, .i32⟩
  | .hbm, ⟨2, _⟩ => ⟨S13, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S1, .f32⟩
  | .hbm, ⟨8, _⟩ => ⟨S13, .f32⟩
  | .hbm, ⟨9, _⟩ => ⟨S13, .f32⟩
  | .hbm, ⟨10, _⟩ => ⟨S13, .f32⟩
  | .hbm, ⟨11, _⟩ => ⟨S_, .f32⟩
  | .hbm, ⟨12, _⟩ => ⟨S_, .f32⟩
  | .hbm, ⟨13, _⟩ => ⟨S1, .f32⟩
  | .hbm, ⟨14, _⟩ => ⟨S13, .f32⟩
  | .hbm, ⟨15, _⟩ => ⟨S13, .f32⟩
  | .hbm, ⟨16, _⟩ => ⟨S16x512x768, .f32⟩
  | .hbm, ⟨17, _⟩ => ⟨S16, .i32⟩
  | .hbm, ⟨18, _⟩ => ⟨S16x1, .i32⟩
  | .hbm, ⟨19, _⟩ => ⟨S16x512, .i32⟩
  | .hbm, ⟨20, _⟩ => ⟨S_, .f32⟩
  | .hbm, ⟨21, _⟩ => ⟨S16x256x768, .f32⟩
  | .hbm, ⟨22, _⟩ => ⟨S_, .i32⟩
  | .hbm, ⟨23, _⟩ => ⟨S16x512, .i32⟩
  | .hbm, ⟨24, _⟩ => ⟨S16x512, .i1⟩
  | .hbm, ⟨25, _⟩ => ⟨S_, .i32⟩
  | .hbm, ⟨26, _⟩ => ⟨S16x512, .i32⟩
  | .hbm, ⟨27, _⟩ => ⟨S16x512, .i32⟩
  | .hbm, ⟨28, _⟩ => ⟨S16x512, .i32⟩
  | .hbm, ⟨29, _⟩ => ⟨S_, .i32⟩
  | .hbm, ⟨30, _⟩ => ⟨S16x512, .i32⟩
  | .hbm, ⟨31, _⟩ => ⟨S16x512, .i1⟩
  | .hbm, ⟨32, _⟩ => ⟨S_, .i32⟩
  | .hbm, ⟨33, _⟩ => ⟨S16x512, .i32⟩
  | .hbm, ⟨34, _⟩ => ⟨S16x512, .i32⟩
  | .hbm, ⟨35, _⟩ => ⟨S16x512, .i32⟩
  | .hbm, ⟨36, _⟩ => ⟨S16x512x1, .i32⟩
  | .hbm, ⟨37, _⟩ => ⟨S16x512x1, .i32⟩
  | .hbm, ⟨38, _⟩ => ⟨S16x512x2, .i32⟩
  | .hbm, ⟨39, _⟩ => ⟨S16x256x768, .f32⟩
  | _, _ => ⟨S16x13x512x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_c : Ref sig .tc := ⟨.hbm, 22, rfl⟩
abbrev main_v15 : Ref sig .tc := ⟨.hbm, 23, rfl⟩
abbrev main_v16 : Ref sig .tc := ⟨.hbm, 24, rfl⟩
abbrev main_c_3 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_c_4 : Ref sig .tc := ⟨.hbm, 29, rfl⟩
abbrev main_v20 : Ref sig .tc := ⟨.hbm, 30, rfl⟩
abbrev main_v21 : Ref sig .tc := ⟨.hbm, 31, rfl⟩
abbrev main_c_5 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩

abbrev nD : Nat := 1
abbrev τ : Topo := Topo.v7x

variable {F : FTy → Type} [FloatOps F]
-- ==== Proof.Spec.lean ====
module

public import proofs.«01_k».proof.Proof.Gen.ReferenceIdeal.Run
public import Idealize.ShloMosaic.Lib.Pipeline.ValueKit
public import Idealize.ShloMosaic.Lib.Routing.OpsPair

@[expose] public section

set_option maxRecDepth 16384

noncomputable section

open Idealize.ShloMosaic
open scoped BigOperators

namespace Cert.Spec

/-- The softmax of the layer weights, on the extended reals: `exp (w l - max w) / ∑ exp (w k - max w)`. -/
def weight (w : FVec Ideal ⟨1, ![13]⟩ .f32) (l : Fin 13) : EReal :=
  let mx : EReal := (Finset.univ : Finset (Fin 13)).fold max ⊥ (fun k => w (ix1 k))
  Ideal.div (Ideal.exp (w (ix1 l) - mx)) (∑ k : Fin 13, Ideal.exp (w (ix1 k) - mx))

/-- The features mixed over the layer axis at batch `b`, position `s`, feature `d`. -/
def mix (x : FVec Ideal ⟨4, ![16, 13, 512, 768]⟩ .f32) (w : FVec Ideal ⟨1, ![13]⟩ .f32) (b : Fin 16) (s : Fin 512) (d : Fin 768) : EReal :=
  ∑ l : Fin 13, x (ix4 b l s d) * weight w l

/-- The word sums: at batch `b`, word `v`, feature `d`, the sum of the mixed features over the positions whose word is `v`. -/
def words (x : FVec Ideal ⟨4, ![16, 13, 512, 768]⟩ .f32) (ids : IVec ⟨2, ![16, 512]⟩ 32) (w : FVec Ideal ⟨1, ![13]⟩ .f32)
    (b : Fin 16) (v : Fin 256) (d : Fin 768) : EReal :=
  ∑ s : Fin 512, if (ids (ix2 b s)).toInt = (v.val : Int) then mix x w b s d else 0

open Cert.ReferenceIdeal Cert.ReferenceIdeal.Gen

/-- The reference's weights, as its run leaves them. -/
abbrev refWeights (w : FVec Ideal S13 .f32) : FVec Ideal S13 .f32 :=
  Host.divf (Host.exp (subf w (broadcastInDim S13 ![0] bcast_S1_S13_0 (broadcastInDim S1 ![] bcast_S_S1 (maximumf (constant S_ .f32 0xFF800000#32) (Host.reduce FloatOps.maximumf w (constant S_ .f32 0xFF800000#32) reducesTo_S13_S_d0 h_S_)))))) (broadcastInDim S13 ![0] bcast_S1_S13_0 (broadcastInDim S1 ![] bcast_S_S1 (Host.reduceAdd (Host.exp (subf w (broadcastInDim S13 ![0] bcast_S1_S13_0 (broadcastInDim S1 ![] bcast_S_S1 (maximumf (constant S_ .f32 0xFF800000#32) (Host.reduce FloatOps.maximumf w (constant S_ .f32 0xFF800000#32) reducesTo_S13_S_d0 h_S_)))))) (constant S_ .f32 0x00000000#32) reducesTo_S13_S_d0 h_S_)))

/-- The word of `-∞` is the least extended real. -/
theorem ofBits_neg_inf : Ideal.ofBits .f32 0xFF800000#32 = ⊥ := by simp [Ideal.ofBits, Ideal.ieee]

/-- The reference's weights are the softmax. -/
theorem refWeights_apply (w : FVec Ideal S13 .f32) (l : Fin 13) : refWeights w (ix1 l) = weight w l := by
  pointwise [refWeights, weight]
  rw [ofBits_neg_inf]
  simp only [bot_sup_eq, max_bot_left]

/-- The reference's mixed features. -/
theorem refMix_apply (x : FVec Ideal S16x13x512x768 .f32) (w : FVec Ideal S13 .f32) (b : Fin 16) (s : Fin 512) (d : Fin 768) :
    Host.dotGeneral dot_S16x13x512x768_S13_S16x512x768_1_0_023_n_n_n none x (refWeights w) (ix3 b s d) = mix x w b s d := by
  have h : Host.dotGeneral dot_S16x13x512x768_S13_S16x512x768_1_0_023_n_n_n none x (refWeights w) (ix3 b s d)
      = ∑ l : Fin 13, x (ix4 b l s d) * refWeights w (ix1 l) := by
    generalize refWeights w = W
    pointwise []
  rw [h]
  exact Finset.sum_congr rfl fun l _ => by rw [refWeights_apply]

/-- How the reference's scatter places its updates. -/
abbrev scat := scatter_S16x256x768_S16x512x2_S16x512x768_2_01_01_2

/-- The first result coordinate an update starts at is its first index word. -/
theorem scat_start0 (idx : IVec S16x512x2 32) (b : Fin 16) (s : Fin 512) (d : Fin 768) :
    scat.start (ix3 b s d) idx 0 = (idx (ix3 b s (0 : Fin 2))).toInt := by
  unfold ScatterDims.start
  rw [dif_pos (by decide)]
  congr 2
  funext a
  match a with
  | ⟨0, _⟩ => rfl
  | ⟨1, _⟩ => rfl
  | ⟨2, _⟩ => rfl

/-- The second is its second index word. -/
theorem scat_start1 (idx : IVec S16x512x2 32) (b : Fin 16) (s : Fin 512) (d : Fin 768) :
    scat.start (ix3 b s d) idx 1 = (idx (ix3 b s (1 : Fin 2))).toInt := by
  unfold ScatterDims.start
  rw [dif_pos (by decide)]
  congr 2
  funext a
  match a with
  | ⟨0, _⟩ => rfl
  | ⟨1, _⟩ => rfl
  | ⟨2, _⟩ => rfl

/-- The third starts at zero. -/
theorem scat_start2 (idx : IVec S16x512x2 32) (j : S16x512x768.Idx) : scat.start j idx 2 = 0 := by
  unfold ScatterDims.start
  rw [dif_neg (by decide)]

/-- An update does not spread over the first coordinate. -/
theorem scat_window0 (j : S16x512x768.Idx) : scat.window j 0 = 0 := by
  unfold ScatterDims.window
  rw [dif_neg (by decide)]
/-- Nor over the second. -/
theorem scat_window1 (j : S16x512x768.Idx) : scat.window j 1 = 0 := by
  unfold ScatterDims.window
  rw [dif_neg (by decide)]
/-- It spreads over the third by its feature. -/
theorem scat_window2 (b : Fin 16) (s : Fin 512) (d : Fin 768) : scat.window (ix3 b s d) 2 = d.val := by
  unfold ScatterDims.window
  rw [dif_pos (by decide)]
  rfl

/-- A scatter update of batch `b'`, position `s`, feature `d'` lands where its two index words and its feature say. -/
theorem scat_lands (idx : IVec S16x512x2 32) (b' : Fin 16) (s : Fin 512) (d' : Fin 768) (b : Fin 16) (v : Fin 256) (d : Fin 768) :
    scat.resultIdx? (ix3 b' s d') idx = some (ix3 b v d) ↔
      (idx (ix3 b' s (0 : Fin 2))).toInt = (b.val : Int) ∧ (idx (ix3 b' s (1 : Fin 2))).toInt = (v.val : Int) ∧ d' = d := by
  rw [Routing.resultIdx?_eq_some]
  constructor
  · intro h
    have h0 := h 0
    have h1 := h 1
    have h2 := h 2
    rw [scat_start0, scat_window0] at h0
    rw [scat_start1, scat_window1] at h1
    rw [scat_start2, scat_window2] at h2
    refine ⟨by simpa [ix3] using h0, by simpa [ix3] using h1, Fin.ext ?_⟩
    have : ((0 : Int) + (d'.val : Int)) = (d.val : Int) := h2
    omega
  · rintro ⟨h0, h1, rfl⟩ a
    match a with
    | ⟨0, _⟩ => exact (by rw [show (⟨0, _⟩ : Fin 3) = 0 from rfl, scat_start0, scat_window0, h0]; simp [ix3])
    | ⟨1, _⟩ => exact (by rw [show (⟨1, _⟩ : Fin 3) = 1 from rfl, scat_start1, scat_window1, h1]; simp [ix3])
    | ⟨2, _⟩ => exact (by rw [show (⟨2, _⟩ : Fin 3) = 2 from rfl, scat_start2, scat_window2]; simp [ix3])

/-- The reference's index words: the batch number beside the word number, each with the wrap of a negative index. -/
abbrev refIdx (ids : IVec S16x512 32) : IVec S16x512x2 32 :=
  (concatenate S16x512x2 2 [⟨S16x512x1, (broadcastInDim S16x512x1 ![0, 1] bcast_S16x512_S16x512x1_0_1 (select (cmpi .slt (broadcastInDim S16x512 ![0, 1] bcast_S16x1_S16x512_0_1 (broadcastInDim S16x1 ![0] bcast_S16_S16x1_0 (iotaInDim S16 32 0))) (broadcastInDim S16x512 ![] bcast_S_S16x512 (constantI S_ 32 0#32))) (addi (broadcastInDim S16x512 ![0, 1] bcast_S16x1_S16x512_0_1 (broadcastInDim S16x1 ![0] bcast_S16_S16x1_0 (iotaInDim S16 32 0))) (broadcastInDim S16x512 ![] bcast_S_S16x512 (constantI S_ 32 16#32))) (broadcastInDim S16x512 ![0, 1] bcast_S16x1_S16x512_0_1 (broadcastInDim S16x1 ![0] bcast_S16_S16x1_0 (iotaInDim S16 32 0)))))⟩, ⟨S16x512x1, (broadcastInDim S16x512x1 ![0, 1] bcast_S16x512_S16x512x1_0_1 (select (cmpi .slt ids (broadcastInDim S16x512 ![] bcast_S_S16x512 (constantI S_ 32 0#32))) (addi ids (broadcastInDim S16x512 ![] bcast_S_S16x512 (constantI S_ 32 256#32))) ids))⟩] concatenates_S16x512x1_S16x512x1_S16x512x2_d2)

/-- The wrap of a negative index leaves a word that is not negative alone. -/
theorem wrap_nonneg (i k : BitVec 32) (h : 0 ≤ i.toInt) : Scalar.select (IntOp.cmpi .slt i 0#32) (IntOp.addi i k) i = i := by
  have : ¬ i.toInt < 0 := by omega
  simp [Scalar.select, IntOp.cmpi, BitVec.slt, this]

/-- The first index word of a position is its batch. -/
theorem refIdx_batch (ids : IVec S16x512 32) (b : Fin 16) (s : Fin 512) : (refIdx ids (ix3 b s (0 : Fin 2))).toInt = (b.val : Int) := by
  have hb : (BitVec.ofNat 32 b.val).toInt = (b.val : Int) := by
    have := b.isLt
    rw [BitVec.toInt_eq_toNat_of_lt (by rw [BitVec.toNat_ofNat]; omega), BitVec.toNat_ofNat]
    omega
  pointwise [refIdx]
  rw [wrap_nonneg _ _ (by omega)]
  exact hb

/-- The second index word of a position is its word number, where that is not negative. -/
theorem refIdx_word (ids : IVec S16x512 32) (b : Fin 16) (s : Fin 512) (h : 0 ≤ (ids (ix2 b s)).toInt) :
    refIdx ids (ix3 b s (1 : Fin 2)) = ids (ix2 b s) := by
  pointwise [refIdx]
  exact wrap_nonneg _ _ h

/-- The reference's result, read at an element: the word sum, where no word number is negative. -/
theorem ref_apply (x : FVec Ideal S16x13x512x768 .f32) (ids : IVec S16x512 32) (w : FVec Ideal S13 .f32)
    (h : ∀ (b : Fin 16) (s : Fin 512), 0 ≤ (ids (ix2 b s)).toInt) (b : Fin 16) (v : Fin 256) (d : Fin 768) :
    Host.scatterAdd scat (broadcastInDim S16x256x768 ![] bcast_S_S16x256x768 (constant S_ .f32 0x00000000#32)) (refIdx ids)
      (Host.dotGeneral dot_S16x13x512x768_S13_S16x512x768_1_0_023_n_n_n none x (refWeights w)) (ix3 b v d) = words x ids w b v d := by
  show Ideal.hostScatterAdd scat _ _ _ (ix3 b v d) = _
  unfold Ideal.hostScatterAdd
  have hz : broadcastInDim S16x256x768 ![] bcast_S_S16x256x768 (constant (F := Ideal) S_ .f32 0x00000000#32) (ix3 b v d) = 0 := by
    pointwise []
  rw [hz, zero_add]
  unfold words
  rw [← Finset.sum_filter]
  refine Finset.sum_bij' (fun j _ => j 1) (fun s _ => ix3 b s d) ?_ ?_ ?_ ?_ ?_
  · intro j hj
    obtain ⟨b', s, d', rfl⟩ : ∃ b' s d', j = ix3 b' s d' := ⟨j 0, j 1, j 2, by funext a; fin_cases a <;> rfl⟩
    obtain ⟨-, hj⟩ := Finset.mem_filter.mp hj
    obtain ⟨h0, h1, rfl⟩ := (scat_lands _ _ _ _ _ _ _).mp hj
    rw [refIdx_batch] at h0
    obtain rfl : b' = b := Fin.ext (by omega)
    rw [refIdx_word _ _ _ (h _ _)] at h1
    exact Finset.mem_filter.mpr ⟨Finset.mem_univ _, h1⟩
  · intro s hs
    obtain ⟨-, hs⟩ := Finset.mem_filter.mp hs
    refine Finset.mem_filter.mpr ⟨Finset.mem_univ _, (scat_lands _ _ _ _ _ _ _).mpr ⟨refIdx_batch _ _ _, ?_, rfl⟩⟩
    rw [refIdx_word _ _ _ (h _ _)]
    exact hs
  · intro j hj
    obtain ⟨b', s, d', rfl⟩ : ∃ b' s d', j = ix3 b' s d' := ⟨j 0, j 1, j 2, by funext a; fin_cases a <;> rfl⟩
    obtain ⟨-, hj⟩ := Finset.mem_filter.mp hj
    obtain ⟨h0, h1, rfl⟩ := (scat_lands _ _ _ _ _ _ _).mp hj
    rw [refIdx_batch] at h0
    obtain rfl : b' = b := Fin.ext (by omega)
    rfl
  · intro s hs
    rfl
  · intro j hj
    obtain ⟨b', s, d', rfl⟩ : ∃ b' s d', j = ix3 b' s d' := ⟨j 0, j 1, j 2, by funext a; fin_cases a <;> rfl⟩
    obtain ⟨-, hj⟩ := Finset.mem_filter.mp hj
    obtain ⟨h0, h1, rfl⟩ := (scat_lands _ _ _ _ _ _ _).mp hj
    rw [refIdx_batch] at h0
    obtain rfl : b' = b := Fin.ext (by omega)
    exact refMix_apply _ _ _ _ _

end Cert.Spec
end
-- ==== Proof.Rows.lean ====
/-
  The SparseCore kernel's group of sixteen rows, written once: the printed group is sixteen copies of one row, each
  copy 24 pairs of loads with their running sums and 24 stores. Here a row is one program by recursion over its 24
  column tiles, a group is sixteen rows, and the printed groups are equal to it by unfolding.
-/
module

public import proofs.«01_k».proof.Proof.Gen.KernelIdeal
public import proofs.«01_k».proof.Proof.Gen.KernelIdeal.Skeleton
public import Idealize.ShloMosaic.Lib.Tactic

@[expose] public section

noncomputable section

namespace Cert.Proof.Rows

open Cert.KernelIdeal Cert.KernelIdeal.Gen
open Idealize.ShloMosaic Idealize.SL.Sem

variable {F : FTy → Type} [FloatOps F]

/-- The running sums, one vector of 16 lanes per column tile. -/
abbrev Acc (F : FTy → Type) : Type := Nat → FVec F S16 .f32

/-- The loop's carried values as printed: the word of the previous row and the 24 running sums. -/
abbrev Tup (F : FTy → Type) : Type := BitVec 32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32

/-- The carried values of a word and running sums. -/
def toTup (w : BitVec 32) (a : Acc F) : Tup F :=
  (w, a 0, a 1, a 2, a 3, a 4, a 5, a 6, a 7, a 8, a 9, a 10, a 11, a 12, a 13, a 14, a 15, a 16, a 17, a 18, a 19, a 20, a 21, a 22, a 23)

/-- The running sums of the carried values. -/
def accOf : Tup F → Acc F
  | (_, a0, a1, a2, a3, a4, a5, a6, a7, a8, a9, a10, a11, a12, a13, a14, a15, a16, a17, a18, a19, a20, a21, a22, a23) =>
    fun | 0 => a0 | 1 => a1 | 2 => a2 | 3 => a3 | 4 => a4 | 5 => a5 | 6 => a6 | 7 => a7 | 8 => a8 | 9 => a9 | 10 => a10 | 11 => a11
        | 12 => a12 | 13 => a13 | 14 => a14 | 15 => a15 | 16 => a16 | 17 => a17 | 18 => a18 | 19 => a19 | 20 => a20 | 21 => a21 | 22 => a22 | _ => a23

/-- Tile `j` of the running sums replaced. -/
def put (a : Acc F) (j : Nat) (x : FVec F S16 .f32) : Acc F := fun k => bif Nat.beq k j then x else a k

/-- One row's step of a tile's running sum: the row itself at the start of a word, the sum with it otherwise. -/
def step (c : BitVec 1) (a : FVec F S16 .f32) (u v : Vec F S1x16 .f32) : FVec F S16 .f32 :=
  Scalar.select c (shapeCast S16 u shapeCasts_S1x16_S16 : FVec F S16 .f32) (addf a (shapeCast S16 v shapeCasts_S1x16_S16 : FVec F S16 .f32))

/-- The row of a chunk that row `r` of group `t` is, as the kernel computes it. -/
def rowIx (t : Nat) (r : BitVec 32) : BitVec 32 := Scalar.addi (Scalar.muli (Scf.iv 0#32 1#32 t) 16#32) r

/-- Tile `j` of a row. -/
def tileOff (n : BitVec 32) (j : Nat) : Fin 2 → Nat := ![(Scalar.indexCast n).toNat, 16 * j]

theorem tile_inb {n : BitVec 32} {R : Nat} (hn : n.toNat < R) {j : Nat} (hj : j < 24) :
    ∀ a, (tileOff n j) a + S1x16.size a ≤ (![R, 384] : Fin 2 → Nat) a := by
  intro a
  match a with
  | 0 => show n.toNat + 1 ≤ R; omega
  | 1 => show 16 * j + 16 ≤ 384; omega

section Thread

variable {c : Fin τ.nSC} {s : Fin τ.nSub}

/-- The loads of tiles `j, …, j + n - 1` of row `w` of a chunk, each twice, and their steps of the running sums. -/
def loads (buf : Memref sig .scVector .vmem S32x384 .f32) (w : BitVec 32) (hw : w.toNat < 32) (new : BitVec 1) :
    (n j : Nat) → n + j = 24 → Acc F → Prog (TpuEff nD τ sig (Elt F) Λ₀ (.scVector c s)) (Acc F)
  | 0, _, _, a => pure a
  | n + 1, j, h, a => do
    let u : Vec F S1x16 .f32 ← Prog.lift (.load buf (Rect.unit (s := S32x384) (tileOff w j) S1x16.size (tile_inb hw (by omega))).toLoadRect (View.loadsAt_vmem h_S1x16))
    let v : Vec F S1x16 .f32 ← Prog.lift (.load buf (Rect.unit (s := S32x384) (tileOff w j) S1x16.size (tile_inb hw (by omega))).toLoadRect (View.loadsAt_vmem h_S1x16))
    loads buf w hw new n (j + 1) (by omega) (put a j (step new (a j) u v))

/-- The stores of tiles `j, …, j + n - 1` of the running sums to row `w` of the accumulator (each after a load that
    nothing reads). -/
def stores (acc : Memref sig .scVector .vmem S256x384 .f32) (w : BitVec 32) (hw : w.toNat < 256) (a : Acc F) :
    (n j : Nat) → n + j = 24 → Prog (TpuEff nD τ sig (Elt F) Λ₀ (.scVector c s)) PUnit
  | 0, _, _ => pure ⟨⟩
  | n + 1, j, h => do
    let _ : Vec F S1x16 .f32 ← Prog.lift (.load acc (Rect.unit (s := S256x384) (tileOff w j) S1x16.size (tile_inb hw (by omega))).toLoadRect (View.loadsAt_vmem h_S1x16))
    Prog.lift (.store acc (Rect.unit (s := S256x384) (tileOff w j) S1x16.size (tile_inb hw (by omega)))
      (shapeCast S1x16 (a j) shapeCasts_S16_S1x16 : FVec F S1x16 .f32) Finset.univ (View.stores_vmem_bits_univ h_S1x16 rfl) (.inl rfl))
    stores acc w hw a n (j + 1) (by omega)

end Thread

theorem chk_lt {i : grid1.Coords} (h1 : k1_cond1 i = 1#1) {w : BitVec 32} (h : k1_chk1 i w) : w.toNat < 256 := by
  have h := k1_off53_inb i w h h1 0
  have h' : w.toNat + 1 ≤ 256 := h
  omega

theorem chk_of_lt {i : grid1.Coords} {w : BitVec 32} (h : w.toNat < 256) : k1_chk1 i w := by
  refine ⟨?_, ?_, ?_, ?_, ?_, ?_, ?_, ?_, ?_, ?_, ?_, ?_, ?_, ?_, ?_, ?_, ?_, ?_, ?_, ?_, ?_, ?_, ?_, ?_⟩ <;>
    exact fun _ a => match a with
      | 0 => (show w.toNat + 1 ≤ 256 from h)
      | 1 => Nat.le_of_ble_eq_true rfl

theorem zero_lt (t : Fin k1_t1_loop.trips) : (Scf.iv 0#32 1#32 t.val : BitVec 32).toNat < 256 := by
  revert t; decide +kernel

theorem rowIx_toNat {t : Nat} (ht : t < 2) {r : Nat} (hr : r < 16) : (rowIx t (BitVec.ofNat 32 r)).toNat = 16 * t + r := by
  have h : ∀ t : Fin 2, ∀ r : Fin 16, (rowIx t.val (BitVec.ofNat 32 r.val)).toNat = 16 * t.val + r.val := by decide +kernel
  exact h ⟨t, ht⟩ ⟨r, hr⟩

theorem row_lt {t : Nat} (ht : t < 2) {r : Nat} (hr : r < 16) : (rowIx t (BitVec.ofNat 32 r)).toNat < 32 := by
  rw [rowIx_toNat ht hr]; omega

theorem word_slices {r : Nat} (hr : r < 16) : S16.Slices ![r] S1 :=
  ⟨rfl, fun a => match a with | 0 => (show r + 1 ≤ 16 by omega)⟩

/-- Word `r` of a group's sixteen words. -/
def word (v : Vec F S16 .i32) (r : Nat) (hr : r < 16) : BitVec 32 :=
  extractAt ![0] (extractStridedSlice S1 ![r] (shapeCast S16 v shapeCasts_S16_S16 : IVec S16 32) (word_slices hr)) inpos_S1_p0

/-- Row `r` of group `t` of a chunk: its word `w` checked, the 24 tiles summed, the 24 sums stored to row `w`. -/
def row (i : grid1.Coords) (h1 : k1_cond1 i = 1#1) (buf : Memref sig .scVector .vmem S32x384 .f32)
    (acc : Memref sig .scVector .vmem S256x384 .f32) (x : BitVec 32) (hx : x.toNat < 32) (w : BitVec 32) (p : BitVec 32) (a : Acc F) :
    Prog (TpuEff nD τ sig (Elt F) Λ₀ (.scVector ((i 0).castLE hcore1) ((i 1).castLE hsub1))) (Acc F) := do
  have hw : k1_chk1 i w := (← Prog.lift (TpuEff.assume (k1_chk1 i w) (k1_chk1.dec i w))).down
  let a' ← loads buf x hx (Scalar.cmpi .ne w p) 24 0 rfl a
  stores acc w (chk_lt h1 hw) a' 24 0 rfl
  pure a'

/-- Rows `r, …, r + n - 1` of group `t` of a chunk, one after another. -/
def rows (i : grid1.Coords) (h1 : k1_cond1 i = 1#1) (buf : Memref sig .scVector .vmem S32x384 .f32)
    (acc : Memref sig .scVector .vmem S256x384 .f32) (t : Nat) (ht : t < 2) (v : Vec F S16 .i32) :
    (n r : Nat) → n + r = 16 → BitVec 32 → Acc F →
      Prog (TpuEff nD τ sig (Elt F) Λ₀ (.scVector ((i 0).castLE hcore1) ((i 1).castLE hsub1))) (Tup F)
  | 0, _, _, p, a => pure (toTup p a)
  | n + 1, r, h, p, a => do
    let a' ← row i h1 buf acc (rowIx t (BitVec.ofNat 32 r)) (row_lt ht (by omega)) (word v r (by omega)) p a
    rows i h1 buf acc t ht v n (r + 1) (by omega) (word v r (by omega)) a'

/-- A group: its sixteen words loaded, then its sixteen rows. -/
def group (i : grid1.Coords) (h1 : k1_cond1 i = 1#1) (buf : Memref sig .scVector .vmem S32x384 .f32)
    (acc : Memref sig .scVector .vmem S256x384 .f32) (ids : Memref sig .scVector .vmem S512 .i32)
    (off : Fin 1 → Nat) (hoff : ∀ a, off a + S16.size a ≤ S512.size a) (t : Nat) (ht : t < 2) (x : Tup F) :
    Prog (TpuEff nD τ sig (Elt F) Λ₀ (.scVector ((i 0).castLE hcore1) ((i 1).castLE hsub1))) (Tup F) := do
  let v : Vec F S16 .i32 ← Prog.lift (.load ids (Rect.unit (s := S512) off S16.size hoff).toLoadRect (View.loadsAt_vmem h_S16))
  rows i h1 buf acc t ht v 16 0 rfl x.1 (accOf x)

end Cert.Proof.Rows

end
-- ==== Proof.RowsEq.lean ====
/-
  The two printed groups of the SparseCore kernel are `Rows.group`, on the first and on the second buffer of the ring.
-/
module

public import proofs.«01_k».proof.Proof.Rows

@[expose] public section

set_option maxRecDepth 1000000

noncomputable section

namespace Cert.Proof.Rows

open Cert.KernelIdeal Cert.KernelIdeal.Gen
open Idealize.ShloMosaic Idealize.SL.Sem

variable {F : FTy → Type} [FloatOps F]

variable (i : grid1.Coords) (arg2 : Memref sig .scVector .hbm S8192x384 .f32) (harg2 : arg2.IsWhole) (arg3 : Memref sig .scVector .hbm S4096 .i32) (harg3 : arg3.IsWhole)
  (arg4 : Memref sig .scVector .hbm S2048x768 .f32) (harg4 : arg4.IsWhole) (arg5 : Memref sig .scVector .vmem S32x384 .f32) (harg5 : arg5.IsWhole)
  (arg6 : Memref sig .scVector .vmem S32x384 .f32) (harg6 : arg6.IsWhole) (arg7 : Memref sig .scVector .vmem S256x384 .f32) (harg7 : arg7.IsWhole)
  (arg8 : Memref sig .scVector .vmem S512 .i32) (harg8 : arg8.IsWhole) (arg9 : DmaSems sig S_) (arg10 : DmaSems sig S_) (v49_r0 : DmaSems sig S_) (v49_r1 : DmaSems sig S_)

theorem t3_eq (k1_h1 : k1_cond1 i = 1#1) (k1_t2 : Fin k1_t2_loop.trips) (v50 : BitVec 32) (t : Fin k1_t3_loop.trips) (x : Tup F) :
    k1_t3_body i arg2 harg2 arg3 harg3 arg4 harg4 arg5 harg5 arg6 harg6 arg7 harg7 arg8 harg8 arg9 arg10 v49_r0 v49_r1 k1_h1 k1_t2 v50 t x
      = group i k1_h1 arg5 arg7 arg8 (k1_off28 k1_t2 t) (k1_off28_inb i k1_t2 t k1_h1) t.val (Nat.lt_of_lt_of_eq t.isLt (by decide)) x := by
  sl_kernel_rfl

theorem t4_eq (k1_h1 : k1_cond1 i = 1#1) (k1_t2 : Fin k1_t2_loop.trips) (v62 : BitVec 32) (t : Fin k1_t4_loop.trips) (x : Tup F) :
    k1_t4_body i arg2 harg2 arg3 harg3 arg4 harg4 arg5 harg5 arg6 harg6 arg7 harg7 arg8 harg8 arg9 arg10 v49_r0 v49_r1 k1_h1 k1_t2 v62 t x
      = group i k1_h1 arg6 arg7 arg8 (k1_off798 k1_t2 t) (k1_off798_inb i k1_t2 t k1_h1) t.val (Nat.lt_of_lt_of_eq t.isLt (by decide)) x := by
  sl_kernel_rfl

/-- Row `t` of the accumulator set to zeros. -/
def zeroRow (k1_h1 : k1_cond1 i = 1#1) (t : Fin k1_t1_loop.trips) :
    Prog (TpuEff nD τ sig (Elt F) Λ₀ (.scVector ((i 0).castLE hcore1) ((i 1).castLE hsub1))) (BitVec 32) := do
  stores arg7 (Scf.iv 0#32 1#32 t) (zero_lt t) (fun _ => k1_pay1 (F := F)) 24 0 rfl
  pure 0#32

theorem t1_eq (k1_h1 : k1_cond1 i = 1#1) (t : Fin k1_t1_loop.trips) (x : BitVec 32) :
    k1_t1_body (F := F) i arg2 harg2 arg3 harg3 arg4 harg4 arg5 harg5 arg6 harg6 arg7 harg7 arg8 harg8 arg9 arg10 v49_r0 v49_r1 k1_h1 t x
      = zeroRow i arg7 k1_h1 t := by
  sl_kernel_rfl

/-- The first group of a trip of the ring, on its first buffer. -/
abbrev group3 (k1_h1 : k1_cond1 i = 1#1) (k1_t2 : Fin k1_t2_loop.trips) (t : Fin k1_t3_loop.trips) (x : Tup F) :
    Prog (TpuEff nD τ sig (Elt F) Λ₀ (.scVector ((i 0).castLE hcore1) ((i 1).castLE hsub1))) (Tup F) :=
  group i k1_h1 arg5 arg7 arg8 (k1_off28 k1_t2 t) (k1_off28_inb i k1_t2 t k1_h1) t.val (Nat.lt_of_lt_of_eq t.isLt (by decide)) x

/-- The second, on its second buffer. -/
abbrev group4 (k1_h1 : k1_cond1 i = 1#1) (k1_t2 : Fin k1_t2_loop.trips) (t : Fin k1_t4_loop.trips) (x : Tup F) :
    Prog (TpuEff nD τ sig (Elt F) Λ₀ (.scVector ((i 0).castLE hcore1) ((i 1).castLE hsub1))) (Tup F) :=
  group i k1_h1 arg6 arg7 arg8 (k1_off798 k1_t2 t) (k1_off798_inb i k1_t2 t k1_h1) t.val (Nat.lt_of_lt_of_eq t.isLt (by decide)) x

/-- A trip of the ring: the first buffer's chunk waited for and summed, the next chunk but one fetched into it if there
    is one, then the same on the second buffer. -/
def ring (k1_h1 : k1_cond1 i = 1#1) (k1_t2 : Fin k1_t2_loop.trips) (x : Tup F) :
    Prog (TpuEff nD τ sig (Elt F) Λ₀ (.scVector ((i 0).castLE hcore1) ((i 1).castLE hsub1))) (Tup F) := do
  Prog.lift (.waitDma2 arg9.sem (arg2.slice (Rect.unit (s := S8192x384) (k1_off27 i k1_t2 0#32) S32x384.size (k1_off27_inb i k1_t2 k1_h1 0)) (fun _ => rfl)) arg5 (View.wordExact_bits rfl) harg5.wordExact)
  let y ← Scf.Loop.for k1_t3_loop (k1_t3_ok i k1_h1) x (group3 i arg5 arg7 arg8 k1_h1 k1_t2)
  if k1_h2 : k1_cond2 k1_t2 = 1#1 then do
    Prog.lift (.enqueueDma (arg2.slice (Rect.unit (s := S8192x384) (k1_off797 i k1_t2) S32x384.size (k1_off797_inb i k1_t2 k1_h1 k1_h2)) (fun _ => rfl)) (.here arg5) (.dma arg9.sem) (View.wordExact_bits rfl) harg5.wordExact ⟨Or.inl rfl, trivial⟩)
    pure ⟨⟩
  else pure ⟨⟩
  Prog.lift (.waitDma2 arg10.sem (arg2.slice (Rect.unit (s := S8192x384) (k1_off27 i k1_t2 1#32) S32x384.size (k1_off27_inb i k1_t2 k1_h1 1)) (fun _ => rfl)) arg6 (View.wordExact_bits rfl) harg6.wordExact)
  let z ← Scf.Loop.for k1_t4_loop (k1_t4_ok i k1_h1) y (group4 i arg6 arg7 arg8 k1_h1 k1_t2)
  if k1_h3 : k1_cond3 k1_t2 = 1#1 then do
    Prog.lift (.enqueueDma (arg2.slice (Rect.unit (s := S8192x384) (k1_off1567 i k1_t2) S32x384.size (k1_off1567_inb i k1_t2 k1_h1 k1_h3)) (fun _ => rfl)) (.here arg6) (.dma arg10.sem) (View.wordExact_bits rfl) harg6.wordExact ⟨Or.inl rfl, trivial⟩)
    pure ⟨⟩
  else pure ⟨⟩
  pure z

/-- The kernel on one tile: its batch's words fetched, its accumulator zeroed, the ring primed and run, its accumulator
    written out. The tiles past the sixteenth do nothing. -/
def segsum : Prog (TpuEff nD τ sig (Elt F) Λ₀ (.scVector ((i 0).castLE hcore1) ((i 1).castLE hsub1))) PUnit := do
  if k1_h1 : k1_cond1 i = 1#1 then do
    Prog.lift (.enqueueDma (arg3.slice (Rect.unit (s := S4096) (k1_off1 i) S512.size (k1_off1_inb i k1_h1)) (fun _ => rfl)) (.here arg8) (.dma v49_r0.sem) (View.wordExact_bits rfl) harg8.wordExact ⟨Or.inl rfl, trivial⟩)
    Prog.lift (.waitDma2 v49_r0.sem (arg3.slice (Rect.unit (s := S4096) (k1_off1 i) S512.size (k1_off1_inb i k1_h1)) (fun _ => rfl)) arg8 (View.wordExact_bits rfl) harg8.wordExact)
    let _ ← Scf.Loop.for k1_t1_loop (k1_t1_ok i k1_h1) 0#32 (fun t _ => zeroRow (F := F) i arg7 k1_h1 t)
    Prog.lift (.enqueueDma (arg2.slice (Rect.unit (s := S8192x384) (k1_off26 i 0#32) S32x384.size (k1_off26_inb i k1_h1 0)) (fun _ => rfl)) (.here arg5) (.dma arg9.sem) (View.wordExact_bits rfl) harg5.wordExact ⟨Or.inl rfl, trivial⟩)
    Prog.lift (.enqueueDma (arg2.slice (Rect.unit (s := S8192x384) (k1_off26 i 32#32) S32x384.size (k1_off26_inb i k1_h1 1)) (fun _ => rfl)) (.here arg6) (.dma arg10.sem) (View.wordExact_bits rfl) harg6.wordExact ⟨Or.inl rfl, trivial⟩)
    let _ ← Scf.Loop.for k1_t2_loop (k1_t2_ok i k1_h1) (toTup 4294967295#32 fun _ => k1_pay1 (F := F)) (ring i arg2 arg5 harg5 arg6 harg6 arg7 arg8 arg9 arg10 k1_h1)
    Prog.lift (.enqueueDma arg7 (.here (arg4.slice (Rect.unit (s := S2048x768) (k1_off1568 i) S256x384.size (k1_off1568_inb i k1_h1)) (fun _ => rfl))) (.dma v49_r1.sem) harg7.wordExact (View.wordExact_bits rfl) ⟨Or.inl rfl, trivial⟩)
    Prog.lift (.waitDma2 v49_r1.sem arg7 (arg4.slice (Rect.unit (s := S2048x768) (k1_off1568 i) S256x384.size (k1_off1568_inb i k1_h1)) (fun _ => rfl)) harg7.wordExact (View.wordExact_bits rfl))
    pure ⟨⟩
  else pure ⟨⟩
  pure ⟨⟩

theorem segsum_eq :
    cc1__sc_segsum (F := F) i arg2 harg2 arg3 harg3 arg4 harg4 arg5 harg5 arg6 harg6 arg7 harg7 arg8 harg8 arg9 arg10 v49_r0 v49_r1
      = segsum i arg2 arg3 arg4 arg5 harg5 arg6 harg6 arg7 harg7 arg8 harg8 arg9 arg10 v49_r0 v49_r1 := by
  rw [cc1__sc_segsum_eq_skeleton]
  sl_kernel_rfl

end Cert.Proof.Rows

end
-- ==== Proof.Model.lean ====
/-
  What a tile of the SparseCore kernel computes, as functions of its words and of its rows alone: the word before a
  row, the 24 running sums before a row, the accumulator before a row.
-/
module

public import proofs.«01_k».proof.Proof.RowsEq
public import Idealize.ShloMosaic.Lib.Pipeline.ValueKit

@[expose] public section

noncomputable section

namespace Cert.Proof.Model

open Cert.KernelIdeal Cert.KernelIdeal.Gen Cert.Proof.Rows
open Idealize.ShloMosaic

variable {F : FTy → Type} [FloatOps F] (ids : Nat → BitVec 32) (att : Nat → Nat → F .f32)

/-- The word of the row before row `k`; before the first, a word no row has. -/
def prev : Nat → BitVec 32
  | 0 => 4294967295#32
  | k + 1 => ids k

/-- Column tile `j` of row `k`. -/
def tile (k j : Nat) : Vec F S1x16 .f32 := fun y => att k (16 * j + (y 1).val)

/-- The running sums before row `k`. -/
def sum : Nat → Acc F
  | 0 => fun _ => k1_pay1
  | k + 1 => fun j => step (Scalar.cmpi .ne (ids k) (prev ids k)) (sum k j) (tile att k j) (tile att k j)

/-- Entry `d` of running sums laid side by side. -/
def lane (a : Acc F) (d : Nat) : F .f32 := a (d / 16) (ix1 (⟨d % 16, Nat.mod_lt _ (by decide)⟩ : Fin 16))

/-- The accumulator before row `k`, at word `w` and column `d`. -/
def arr : Nat → Nat → Nat → F .f32
  | 0, _, d => lane (fun _ => k1_pay1) d
  | k + 1, w, d => if w = (ids k).toNat then lane (sum ids att (k + 1)) d else arr k w d

/-- The carried values before row `k`. -/
def AtRow (k : Nat) (x : Tup F) : Prop := ∃ a : Acc F, x = toTup (prev ids k) a ∧ ∀ j < 24, a j = sum ids att k j

end Cert.Proof.Model

end
-- ==== Proof.RowsWp.lean ====
/-
  The row, the rows and the group of the SparseCore kernel, run: each keeps the buffers and carries the model's values.
-/
module

public import proofs.«01_k».proof.Proof.Model
public import Idealize.ShloMosaic.Lib.SparseCore.Quiescent
public import Idealize.ShloMosaic.Lib.SparseCore.Ops
public import Idealize.ShloMosaic.Lib.WritesUnit
public import Idealize.ShloMosaic.Lib.ValueLayout
public import Idealize.ShloMosaic.Lib.Pipeline.Kit

@[expose] public section

set_option maxRecDepth 16384

noncomputable section

namespace Cert.Proof.Rows

open Cert.KernelIdeal Cert.KernelIdeal.Gen Cert.Proof.Model
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

/-- The ghost state: the handshakes' rounds, the pipelines' rounds, the transfers' counters. -/
abbrev UH : Type := URounds (GSem nD τ sig) ℕ
abbrev UP : Type := URounds (GSem nD τ sig) Unit
abbrev UU : Type := UH × (UP × Counters)
abbrev MM (F : FTy → Type) := MT nD τ sig (HIx 1) (Elt F) ℕ UU ℕ
abbrev 𝒱₀ : Variants := Variants.none

/-- A tile load of a buffer whose row `x` is row `k` of the features reads tile `j` of row `k`. -/
theorem readAt_tile {sp : CoreSpace} (buf : Memref sig .scVector sp S32x384 .f32) (fb : buf.view.ty.Contents (Elt F)) (x : BitVec 32)
    (att : Nat → Nat → F .f32) (k : Nat) (hb : ∀ y : S32x384.Idx, (y 0).val = x.toNat → buf.view.read (Elt F) fb y = att k (y 1).val)
    (j : Nat) (inb : ∀ a, (tileOff x j) a + S1x16.size a ≤ S32x384.size a) :
    buf.view.readAt (Elt F) (Rect.unit (s := S32x384) (tileOff x j) S1x16.size inb).toLoadRect fb = tile att k j := by
  funext y
  refine (View.readAt_apply _ _ _).trans ((hb _ ?_).trans ?_)
  · show x.toNat + 1 * (y 0).val = x.toNat
    have h0 : (y 0).val < 1 := (y 0).isLt
    omega
  · show att k (16 * j + 1 * (y 1).val) = att k (16 * j + (y 1).val)
    rw [Nat.one_mul]

section Thread

variable (d : Dev nD) {c : Fin τ.nSC} {s : Fin τ.nSub}

/-- The loads of a row: the running sums step by its tiles. -/
theorem wp_loads (buf : Memref sig .scVector .vmem S32x384 .f32) (fb : Buf (Elt F) (buf.view.loc (V d c s))) (x : BitVec 32) (hx : x.toNat < 32) (new : BitVec 1)
    (att : Nat → Nat → F .f32) (k : Nat) (hb : ∀ y : S32x384.Idx, (y 0).val = x.toNat → buf.view.read (Elt F) fb y = att k (y 1).val) :
    ∀ (n j : Nat) (h : n + j = 24) (a : Acc F),
      (buf.view.loc (V d c s) ↦{fullShare} fb : sProp (MM F))
        ⊢ wp frame (wpE (defs₀ (F := F)) 𝒱₀ (V d c s) none) Set.univ (loads buf x hx new n j h a)
            fun a' => iprop(⌜∀ i < 24, a' i = if j ≤ i then step new (a i) (tile att k i) (tile att k i) else a i⌝ ∗ buf.view.loc (V d c s) ↦{fullShare} fb) := by
  intro n
  induction n with
  | zero =>
    intro j h a
    show _ ⊢ wp _ _ _ (Prog.ret a) _
    rw [wp_ret]
    iintro H
    imodintro
    isplitr
    · ipureintro
      intro i hi
      rw [if_neg (by omega)]
    · iexact H
  | succ n ih =>
    intro j h a
    iintro H
    iapply (wp_load 𝒱₀ (V d c s) none Set.univ (Finset.subset_univ _)) $$ H
    iintro H
    iapply (wp_load 𝒱₀ (V d c s) none Set.univ (Finset.subset_univ _)) $$ H
    iintro H
    rw [readAt_tile buf fb x att k hb]
    iapply (wp_wand_r frame _ _)
    isplitl [H]
    · iapply (ih (j + 1) (by omega) (put a j (step new (a j) (tile att k j) (tile att k j)))); iexact H
    · iintro %a' ⟨%ha, H⟩
      isplitr
      · ipureintro
        intro i hi
        rw [ha i hi]
        by_cases hj : i = j
        · subst hj
          rw [if_neg (by omega), if_pos le_rfl]
          simp [put]
        · have hne : put a j (step new (a j) (tile att k j) (tile att k j)) i = a i := by
            show (bif Nat.beq i j then _ else a i) = a i
            rw [show Nat.beq i j = false by rw [← Bool.not_eq_true, Nat.beq_eq]; exact hj]
            rfl
          rw [hne]
          by_cases hlt : j + 1 ≤ i
          · rw [if_pos hlt, if_pos (by omega)]
          · rw [if_neg hlt, if_neg (by omega)]
      · iexact H

/-- The accumulator after a tile's store. -/
theorem read_tileStore (acc : Memref sig .scVector .vmem S256x384 .f32) (f : acc.view.ty.Contents (Elt F)) (w : BitVec 32) (j : Nat)
    (inb : ∀ a, (tileOff w j) a + S1x16.size a ≤ S256x384.size a) (u : FVec F S16 .f32) (y : S256x384.Idx) :
    acc.view.read (Elt F) ((acc.access (Rect.unit (s := S256x384) (tileOff w j) S1x16.size inb)).write (Elt F) f
        (shapeCast S1x16 u shapeCasts_S16_S1x16 : FVec F S1x16 .f32) Finset.univ) y
      = if (y 0).val = w.toNat ∧ (y 1).val / 16 = j then u (ix1 (⟨(y 1).val % 16, Nat.mod_lt _ (by decide)⟩ : Fin 16)) else acc.view.read (Elt F) f y := by
  have hw : ∀ x : S1x16.Idx, (shapeCast S1x16 u shapeCasts_S16_S1x16 : FVec F S1x16 .f32) x = u (ix1 (⟨(x 1).val, (x 1).isLt⟩ : Fin 16)) := fun x => by
    rw [Idealize.ShloMosaic.ValueIdx.eq_ix2 x]
    exact Idealize.ShloMosaic.ValueIdx.shapeCast_a_1a_apply _ _ _ _
  refine (View.read_writes_cons_unit acc.view f inb (shapeCast S1x16 u shapeCasts_S16_S1x16 : FVec F S1x16 .f32) [] y rfl).trans ?_
  by_cases h : ∀ a, (tileOff w j) a ≤ (y a).val ∧ (y a).val < (tileOff w j) a + S1x16.size a
  · have h0 : w.toNat ≤ (y 0).val ∧ (y 0).val < w.toNat + 1 := h 0
    have h1 : 16 * j ≤ (y 1).val ∧ (y 1).val < 16 * j + 16 := h 1
    rw [dif_pos h, if_pos ⟨by omega, by omega⟩]
    refine (hw _).trans (congrArg u (congrArg ix1 (Fin.ext ?_)))
    show (y 1).val - 16 * j = (y 1).val % 16
    omega
  · rw [dif_neg h, if_neg]
    · rfl
    · rintro ⟨h0, h1⟩
      refine h fun a => ?_
      match a with
      | 0 => show w.toNat ≤ (y 0).val ∧ (y 0).val < w.toNat + 1; omega
      | 1 => show 16 * j ≤ (y 1).val ∧ (y 1).val < 16 * j + 16; omega

/-- A tile's store, by the accumulator it stores to. -/
theorem wp_tileStore (acc : Memref sig .scVector .vmem S256x384 .f32) (f : Buf (Elt F) (acc.view.loc (V d c s))) {r : Rect S256x384}
    {w : r.shape.Idx → Elt F .f32} {hx : (acc.access r).Stores Finset.univ} {hm : (Finset.univ : Finset r.shape.Idx) = Finset.univ ∨ ∀ a, r.stride a = 1}
    {α : Type} {k : PUnit → Prog (TpuEff nD τ sig (Elt F) Λ₀ (.scVector c s)) α} {Q : α → sProp (MM F)} :
    (acc.view.loc (V d c s) ↦{fullShare} f : sProp (MM F))
      ⊢ iprop(((acc.view.loc (V d c s) ↦{fullShare} (show Buf (Elt F) (acc.view.loc (V d c s)) from (acc.access r).write (Elt F) f w Finset.univ))
            -∗ wp frame (wpE (defs₀ (F := F)) 𝒱₀ (V d c s) none) Set.univ (k ⟨⟩) Q)
          -∗ wp frame (wpE (defs₀ (F := F)) 𝒱₀ (V d c s) none) Set.univ (.op (.store acc r w Finset.univ hx hm) k) Q) := by
  have h := @wp_store (c := V d c s) (defs := defs₀ (F := F)) (𝒱 := 𝒱₀) (bd := none) (E := Set.univ) (m := acc) (r := r) (w := w) (hx := hx) (hm := hm) (k := k) (Q := Q) (f := f) (S := Finset.univ) (hS := Finset.subset_univ _)
  exact h _ _

/-- The stores of a row: the accumulator's row is the running sums side by side. -/
theorem wp_stores (acc : Memref sig .scVector .vmem S256x384 .f32) (w : BitVec 32) (hw : w.toNat < 256) (a : Acc F) :
    ∀ (n j : Nat) (h : n + j = 24) (f : Buf (Elt F) (acc.view.loc (V d c s))),
      (acc.view.loc (V d c s) ↦{fullShare} f : sProp (MM F))
        ⊢ wp frame (wpE (defs₀ (F := F)) 𝒱₀ (V d c s) none) Set.univ (stores acc w hw a n j h)
            fun _ => iprop(∃ f', ⌜∀ y : S256x384.Idx, acc.view.read (Elt F) f' y
              = if (y 0).val = w.toNat ∧ j ≤ (y 1).val / 16 then lane a (y 1).val else acc.view.read (Elt F) f y⌝
              ∗ acc.view.loc (V d c s) ↦{fullShare} f') := by
  intro n
  induction n with
  | zero =>
    intro j h f
    show _ ⊢ wp _ _ _ (Prog.ret _) _
    rw [wp_ret]
    iintro H
    imodintro
    iexists f
    isplitr
    · ipureintro
      intro y
      have h1 : (y 1).val < 384 := (y 1).isLt
      rw [if_neg (by omega)]
    · iexact H
  | succ n ih =>
    intro j h f
    iintro H
    iapply (wp_load 𝒱₀ (V d c s) none Set.univ (Finset.subset_univ _)) $$ H
    iintro H
    iapply (wp_tileStore d acc f) $$ H
    iintro H
    iapply (wp_wand_r frame _ _)
    isplitl [H]
    · iapply (ih (j + 1) (by omega)); iexact H
    · iintro %_ ⟨%f', %hf, H⟩
      iexists f'
      isplitr
      · ipureintro
        intro y
        rw [hf y, read_tileStore]
        by_cases h0 : (y 0).val = w.toNat
        · by_cases h1 : (y 1).val / 16 = j
          · rw [if_neg (by omega), if_pos ⟨h0, h1⟩, if_pos ⟨h0, by omega⟩, lane, h1]
          · by_cases h2 : j + 1 ≤ (y 1).val / 16
            · rw [if_pos ⟨h0, h2⟩, if_pos ⟨h0, by omega⟩]
            · rw [if_neg (by omega), if_neg (by omega), if_neg (by omega)]
        · rw [if_neg (by omega), if_neg (by omega), if_neg (by omega)]
      · iexact H

end Thread

end Cert.Proof.Rows

end
-- ==== Proof.GroupWp.lean ====
/-
  A row, sixteen rows and a group of the SparseCore kernel, run: the running sums and the accumulator step by the model.
-/
module

public import proofs.«01_k».proof.Proof.RowsWp

@[expose] public section

set_option maxRecDepth 16384

noncomputable section

namespace Cert.Proof.Rows

open Cert.KernelIdeal Cert.KernelIdeal.Gen Cert.Proof.Model
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] (ids : Nat → BitVec 32) (att : Nat → Nat → F .f32)

/-- The accumulator's buffer holds what the model has before row `k`. -/
def ArrIs (acc : Memref sig .scVector .vmem S256x384 .f32) (k : Nat) (f : acc.view.ty.Contents (Elt F)) : Prop :=
  ∀ y : S256x384.Idx, acc.view.read (Elt F) f y = arr ids att k (y 0).val (y 1).val

/-- The tile at coordinates `i`. -/
abbrev tv (d : Dev nD) (i : grid1.Coords) : Thread nD τ := V d ((i 0).castLE hcore1) ((i 1).castLE hsub1)

variable (d : Dev nD) (i : grid1.Coords) (h1 : k1_cond1 i = 1#1) (buf : Memref sig .scVector .vmem S32x384 .f32)
  (acc : Memref sig .scVector .vmem S256x384 .f32) (fb : Buf (Elt F) (buf.view.loc (tv d i)))

/-- Row `k`. -/
theorem wp_row (x : BitVec 32) (hx : x.toNat < 32) (k : Nat) (hw : (ids k).toNat < 256) (a : Acc F) (ha : ∀ j < 24, a j = sum ids att k j)
    (hb : ∀ y : S32x384.Idx, (y 0).val = x.toNat → buf.view.read (Elt F) fb y = att k (y 1).val)
    (f : Buf (Elt F) (acc.view.loc (tv d i))) (hf : ArrIs ids att acc k f) :
    iprop((buf.view.loc (tv d i) ↦{fullShare} fb) ∗ acc.view.loc (tv d i) ↦{fullShare} f)
      ⊢ (wp frame (wpE (defs₀ (F := F)) 𝒱₀ (tv d i) none) Set.univ (row i h1 buf acc x hx (ids k) (prev ids k) a)
          fun a' => iprop(⌜∀ j < 24, a' j = sum ids att (k + 1) j⌝ ∗ (buf.view.loc (tv d i) ↦{fullShare} fb)
            ∗ ∃ f', ⌜ArrIs ids att acc (k + 1) f'⌝ ∗ acc.view.loc (tv d i) ↦{fullShare} f') : sProp (MM F)) := by
  refine BI.Entails.trans ?_ (wp_assume 𝒱₀ (tv d i) none Set.univ (chk_of_lt hw))
  show _ ⊢ wp _ _ _ (loads buf x hx (Scalar.cmpi .ne (ids k) (prev ids k)) 24 0 rfl a
    >>= fun a' => stores acc (ids k) (chk_lt h1 (chk_of_lt hw)) a' 24 0 rfl >>= fun _ => Prog.ret a') _
  rw [wp_bind]
  iintro ⟨Hb, Ha⟩
  iapply (wp_wand_r frame _ _)
  isplitl [Hb]
  · iapply (wp_loads d buf fb x hx _ att k hb 24 0 rfl a); iexact Hb
  iintro %a' ⟨%ha', Hb⟩
  rw [wp_bind]
  iapply (wp_wand_r frame _ _)
  isplitl [Ha]
  · iapply (wp_stores d acc (ids k) _ a' 24 0 rfl f); iexact Ha
  iintro %_ ⟨%f', %hf', Ha⟩
  have hsum : ∀ j < 24, a' j = sum ids att (k + 1) j := fun j hj => by
    rw [ha' j hj, if_pos (Nat.zero_le _), ha j hj]; rfl
  rw [wp_ret]
  imodintro
  isplitr
  · ipureintro; exact hsum
  isplitl [Hb]; · iexact Hb
  iexists f'
  isplitr
  · ipureintro
    intro y
    have hy1 : (y 1).val < 384 := (y 1).isLt
    rw [hf' y, arr]
    by_cases h : (y 0).val = (ids k).toNat
    · rw [if_pos ⟨h, Nat.zero_le _⟩, if_pos h, lane, lane, hsum _ (by omega)]
    · rw [if_neg (fun e => h e.1), if_neg h, hf y]
  · iexact Ha

/-- Rows `K + r, …` of a group. -/
theorem wp_rows (t : Nat) (ht : t < 2) (K : Nat) (v : Vec F S16 .i32) (hv : ∀ r (hr : r < 16), word v r hr = ids (K + r))
    (hw : ∀ k, (ids k).toNat < 256) (hb : ∀ r < 16, ∀ y : S32x384.Idx, (y 0).val = 16 * t + r → buf.view.read (Elt F) fb y = att (K + r) (y 1).val) :
    ∀ (n r : Nat) (h : n + r = 16) (a : Acc F) (ha : ∀ j < 24, a j = sum ids att (K + r) j)
      (f : Buf (Elt F) (acc.view.loc (tv d i))) (hf : ArrIs ids att acc (K + r) f),
    iprop((buf.view.loc (tv d i) ↦{fullShare} fb) ∗ acc.view.loc (tv d i) ↦{fullShare} f)
      ⊢ (wp frame (wpE (defs₀ (F := F)) 𝒱₀ (tv d i) none) Set.univ (rows i h1 buf acc t ht v n r h (prev ids (K + r)) a)
          fun x => iprop(⌜AtRow ids att (K + 16) x⌝ ∗ (buf.view.loc (tv d i) ↦{fullShare} fb)
            ∗ ∃ f', ⌜ArrIs ids att acc (K + 16) f'⌝ ∗ acc.view.loc (tv d i) ↦{fullShare} f') : sProp (MM F)) := by
  intro n
  induction n with
  | zero =>
    intro r h a ha f hf
    obtain rfl : r = 16 := by omega
    show _ ⊢ wp _ _ _ (Prog.ret _) _
    rw [wp_ret]
    iintro ⟨Hb, Ha⟩
    imodintro
    isplitr
    · ipureintro; exact ⟨a, rfl, ha⟩
    isplitl [Hb]; · iexact Hb
    iexists f
    isplitr
    · ipureintro; exact hf
    · iexact Ha
  | succ n ih =>
    intro r h a ha f hf
    show _ ⊢ wp _ _ _ (row i h1 buf acc (rowIx t (BitVec.ofNat 32 r)) (row_lt ht (by omega)) (word v r (by omega)) (prev ids (K + r)) a
      >>= fun a' => rows i h1 buf acc t ht v n (r + 1) (by omega) (word v r (by omega)) a') _
    rw [hv r (by omega), wp_bind]
    iintro H
    iapply (wp_wand_r frame _ _)
    isplitl [H]
    · iapply (wp_row ids att d i h1 buf acc fb (rowIx t (BitVec.ofNat 32 r)) (row_lt ht (by omega)) (K + r) (hw _) a ha
        (fun y hy => hb r (by omega) y (hy.trans (rowIx_toNat ht (by omega)))) f hf)
      iexact H
    iintro %a' ⟨%ha', Hb, %f', %hf', Ha⟩
    iapply (ih (r + 1) (by omega) a' ha' f' hf')
    isplitl [Hb] <;> iassumption

/-- A group's word is its entry. -/
theorem word_eq (v : Vec F S16 .i32) (r : Nat) (hr : r < 16) : word v r hr = v (ix1 (⟨r, hr⟩ : Fin 16)) := by
  unfold word
  rw [shapeCast_self]
  exact congrArg v (funext fun a => match a with | 0 => Fin.ext rfl)

/-- A group of sixteen rows from row `K`. -/
theorem wp_group (idb : Memref sig .scVector .vmem S512 .i32) (fi : Buf (Elt F) (idb.view.loc (tv d i)))
    (off : Fin 1 → Nat) (hoff : ∀ a, off a + S16.size a ≤ S512.size a) (t : Nat) (ht : t < 2) (K : Nat)
    (hv : ∀ r < 16, ∀ y : S512.Idx, (y 0).val = off 0 + r → idb.view.read (Elt F) fi y = ids (K + r))
    (hw : ∀ k, (ids k).toNat < 256) (hb : ∀ r < 16, ∀ y : S32x384.Idx, (y 0).val = 16 * t + r → buf.view.read (Elt F) fb y = att (K + r) (y 1).val)
    (x : Tup F) (hx : AtRow ids att K x) :
    iprop((buf.view.loc (tv d i) ↦{fullShare} fb) ∗ (idb.view.loc (tv d i) ↦{fullShare} fi)
        ∗ ∃ f, ⌜ArrIs ids att acc K f⌝ ∗ acc.view.loc (tv d i) ↦{fullShare} f)
      ⊢ (wp frame (wpE (defs₀ (F := F)) 𝒱₀ (tv d i) none) Set.univ (group i h1 buf acc idb off hoff t ht x)
          fun x' => iprop(⌜AtRow ids att (K + 16) x'⌝ ∗ (buf.view.loc (tv d i) ↦{fullShare} fb) ∗ (idb.view.loc (tv d i) ↦{fullShare} fi)
            ∗ ∃ f', ⌜ArrIs ids att acc (K + 16) f'⌝ ∗ acc.view.loc (tv d i) ↦{fullShare} f') : sProp (MM F)) := by
  obtain ⟨a, rfl, ha⟩ := hx
  iintro ⟨Hb, Hi, %f, %hf, Ha⟩
  iapply (wp_load 𝒱₀ (tv d i) none Set.univ (Finset.subset_univ _)) $$ Hi
  iintro Hi
  iapply (wp_wand_r frame _ _)
  isplitl [Hb Ha]
  · iapply (wp_rows ids att d i h1 buf acc fb t ht K _ (fun r hr => ?_) hw hb 16 0 rfl (accOf (toTup (prev ids K) a)) (fun j hj => ?_) f hf)
    rotate_left 2
    · isplitl [Hb] <;> iassumption
    · rw [word_eq]
      exact hv r hr _ (by show off 0 + 1 * r = off 0 + r; rw [Nat.one_mul])
    · rw [Nat.add_zero, ← ha j hj]
      match j, hj with
      | 0, _ => rfl | 1, _ => rfl | 2, _ => rfl | 3, _ => rfl | 4, _ => rfl | 5, _ => rfl | 6, _ => rfl | 7, _ => rfl
      | 8, _ => rfl | 9, _ => rfl | 10, _ => rfl | 11, _ => rfl | 12, _ => rfl | 13, _ => rfl | 14, _ => rfl | 15, _ => rfl
      | 16, _ => rfl | 17, _ => rfl | 18, _ => rfl | 19, _ => rfl | 20, _ => rfl | 21, _ => rfl | 22, _ => rfl | 23, _ => rfl
      | _ + 24, h => omega
  iintro %x' ⟨%hx', Hb, Ha⟩
  isplitr
  · ipureintro; exact hx'
  isplitl [Hb]; · iexact Hb
  isplitl [Hi]; · iexact Hi
  iexact Ha

end Cert.Proof.Rows

end
-- ==== Proof.Offsets.lean ====
/-
  Where the SparseCore kernel's copies begin, in closed form, by the tile's core and subcore.
-/
module

public import proofs.«01_k».proof.Proof.Model

@[expose] public section

noncomputable section

namespace Cert.Proof.Rows

open Cert.KernelIdeal Cert.KernelIdeal.Gen
open Idealize.ShloMosaic

/-- The coordinates of subcore `s` of core `c`. -/
def coordsV (c : Fin 2) (s : Fin 16) : grid1.Coords :=
  fun | 0 => c | 1 => s | ⟨_ + 2, h⟩ => absurd h (Nat.not_lt.2 (Nat.le_add_left _ _))

/-- The sixteen tiles that work are the first eight subcores of each core. -/
theorem cond1_iff : ∀ (c : Fin 2) (s : Fin 16), k1_cond1 (coordsV c s) = 1#1 ↔ s.val < 8 := by decide +kernel

theorem off1_eq : ∀ (c : Fin 2) (s : Fin 16), s.val < 8 → k1_off1 (coordsV c s) = ![512 * s.val] := by decide +kernel
theorem off26_0 : ∀ (c : Fin 2) (s : Fin 16), s.val < 8 → k1_off26 (coordsV c s) 0#32 = ![512 * (8 * c.val + s.val) + 32 * 0, 0] := by decide +kernel
theorem off26_1 : ∀ (c : Fin 2) (s : Fin 16), s.val < 8 → k1_off26 (coordsV c s) 32#32 = ![512 * (8 * c.val + s.val) + 32 * 1, 0] := by decide +kernel
theorem off797_eq : ∀ (c : Fin 2) (s : Fin 16) (t : Fin k1_t2_loop.trips), s.val < 8 →
    k1_off797 (coordsV c s) t = ![512 * (8 * c.val + s.val) + 32 * (2 * (t.val + 1)), 0] := by decide +kernel
theorem off1567_eq : ∀ (c : Fin 2) (s : Fin 16) (t : Fin k1_t2_loop.trips), s.val < 8 →
    k1_off1567 (coordsV c s) t = ![512 * (8 * c.val + s.val) + 32 * (2 * (t.val + 1) + 1), 0] := by decide +kernel
theorem off1568_eq : ∀ (c : Fin 2) (s : Fin 16), s.val < 8 → k1_off1568 (coordsV c s) = ![256 * s.val, 384 * c.val] := by decide +kernel
theorem cond2_iff : ∀ t : Fin k1_t2_loop.trips, k1_cond2 t = 1#1 ↔ t.val < 7 := by decide +kernel
theorem cond3_iff : ∀ t : Fin k1_t2_loop.trips, k1_cond3 t = 1#1 ↔ t.val < 7 := by decide +kernel
theorem trips1 : k1_t1_loop.trips = 256 := by decide +kernel
theorem trips2 : k1_t2_loop.trips = 8 := by decide +kernel
theorem trips3 : k1_t3_loop.trips = 2 := by decide +kernel
theorem trips4 : k1_t4_loop.trips = 2 := by decide +kernel

end Cert.Proof.Rows

end
-- ==== Proof.Fetch.lean ====
/-
  The copies of a tile of the SparseCore kernel: a chunk of 32 rows of features fetched into a buffer of the ring, and
  its wait.
-/
module

public import proofs.«01_k».proof.Proof.GroupWp
public import proofs.«01_k».proof.Proof.Offsets

@[expose] public section

set_option maxRecDepth 16384

noncomputable section

namespace Cert.Proof.Rows

open Cert.KernelIdeal Cert.KernelIdeal.Gen Cert.Proof.Model
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

/-- The features, the words and the sums, as a tile addresses them. -/
abbrev aV : Memref sig .scVector .hbm S8192x384 .f32 := Memref.whole main_v2_scv
abbrev iV : Memref sig .scVector .hbm S4096 .i32 := Memref.whole main_v4_scv
abbrev oV : Memref sig .scVector .hbm S2048x768 .f32 := Memref.whole main_v5_scv

/-- The words of subcore `s`'s batch. -/
def idsOf (fi : S4096.Idx → BitVec 32) (s : Nat) (k : Nat) : BitVec 32 :=
  fi (ix1 (⟨(512 * s + k) % 4096, Nat.mod_lt _ (by decide)⟩ : Fin 4096))

/-- The rows of subcore `s`'s batch and core `c`'s half of the columns. -/
def attOf (fa : S8192x384.Idx → F .f32) (c s : Nat) (k e : Nat) : F .f32 :=
  fa (ix2 (⟨(512 * (8 * c + s) + k) % 8192, Nat.mod_lt _ (by decide)⟩ : Fin 8192) (⟨e % 384, Nat.mod_lt _ (by decide)⟩ : Fin 384))

variable (d : Dev nD) (c : Fin 2) (s : Fin 16)

/-- A buffer of the ring holds chunk `n`. -/
def ChunkIs (fa : S8192x384.Idx → F .f32) (buf : Memref sig .scVector .vmem S32x384 .f32) (n : Nat) (f : buf.view.ty.Contents (Elt F)) : Prop :=
  ∀ y : S32x384.Idx, buf.view.read (Elt F) f y = attOf fa c.val s.val (32 * n + (y 0).val) (y 1).val

/-- A chunk on its way into a buffer of the ring, and the share of the other features kept meanwhile. -/
def InFlight (q : PosShare TreeShare) (fa : S8192x384.Idx → F .f32) (buf : Memref sig .scVector .vmem S32x384 .f32) (sm : DmaSems sig S_) (n : Nat) : sProp (MM F) :=
  iprop(∃ S : Finset S8192x384.Idx,
    Transfers.Flight countersEmb (tv d (coordsV c s)) (.dma sm.sem) (none : HIx 1) buf.view.dmaCredit
        iprop((∃ f, ⌜ChunkIs c s fa buf n f⌝ ∗ buf.view.loc (tv d (coordsV c s)) ↦{fullShare} f) ∗ aV.view.loc (tv d (coordsV c s)) ↦[S]{q} fa)
      ∗ aV.view.loc (tv d (coordsV c s)) ↦[Finset.univ \ S]{q} fa)

/-- The rows of a chunk, as a copy addresses them. -/
abbrev srcV (off : Fin 2 → Nat) (inb : ∀ a, off a + S32x384.size a ≤ S8192x384.size a) : Memref sig .scVector .hbm S32x384 .f32 :=
  aV.slice (Rect.unit (s := S8192x384) off S32x384.size inb) (fun _ => rfl)

/-- What a chunk's copy writes. -/
theorem chunk_written (hs : s.val < 8) (fa : S8192x384.Idx → F .f32) (buf : Memref sig .scVector .vmem S32x384 .f32) (n : Nat) (hn : n < 16) {off : Fin 2 → Nat}
    (hoff : off = ![512 * (8 * c.val + s.val) + 32 * n, 0]) (inb : ∀ a, off a + S32x384.size a ≤ S8192x384.size a) (f0 : buf.view.ty.Contents (Elt F)) :
    ChunkIs c s fa buf n (buf.view.write (Elt F) f0
      ((srcV off inb).view.read (Elt F) fa) Finset.univ) := by
  subst hoff
  intro y
  rw [View.read_write_of_mem _ _ (Finset.mem_univ _)]
  refine (View.read_apply _ _).trans ((cast_eq _ _).trans (congrArg fa (funext fun a => ?_)))
  have h0 : (y 0).val < 32 := (y 0).isLt
  have h1 : (y 1).val < 384 := (y 1).isLt
  have hc := c.isLt
  match a with
  | 0 =>
    refine Fin.ext ?_
    show 512 * (8 * c.val + s.val) + 32 * n + 1 * (y 0).val = (512 * (8 * c.val + s.val) + (32 * n + (y 0).val)) % 8192
    omega
  | 1 =>
    refine Fin.ext ?_
    show 0 + 1 * (y 1).val = (y 1).val % 384
    omega

/-- What a chunk's copy delivers. -/
theorem landed (hs : s.val < 8) (q : PosShare TreeShare) (fa : S8192x384.Idx → F .f32) (buf : Memref sig .scVector .vmem S32x384 .f32)
    (n : Nat) (hn : n < 16) {off : Fin 2 → Nat} (hoff : off = ![512 * (8 * c.val + s.val) + 32 * n, 0])
    (inb : ∀ a, off a + S32x384.size a ≤ S8192x384.size a) (f0 : Buf (Elt F) (buf.view.loc (tv d (coordsV c s)))) (I : Finset S8192x384.Idx) :
    iprop((buf.view.loc (tv d (coordsV c s)) ↦{fullShare} buf.view.write (Elt F) f0 (ReadAs.same.apply ((srcV off inb).view.read (Elt F) fa)) Finset.univ)
        ∗ aV.view.loc (tv d (coordsV c s)) ↦[I]{q} fa)
      ⊢ (iprop((∃ f, ⌜ChunkIs c s fa buf n f⌝ ∗ buf.view.loc (tv d (coordsV c s)) ↦{fullShare} f)
        ∗ aV.view.loc (tv d (coordsV c s)) ↦[I]{q} fa) : sProp (MM F)) := by
  iintro ⟨Hb, Ha⟩
  isplitr [Ha]
  · iexists _
    isplitr
    · ipureintro
      exact chunk_written c s hs fa buf n hn hoff inb f0
    · iexact Hb
  · iexact Ha

/-- A chunk's copy issued. -/
theorem wp_fetch (hs : s.val < 8) (q : PosShare TreeShare) (fa : S8192x384.Idx → F .f32) (buf : Memref sig .scVector .vmem S32x384 .f32) (hN : 0 < buf.view.dmaCredit)
    (sm : DmaSems sig S_) (n : Nat) (hn : n < 16) {off : Fin 2 → Nat}
    (hoff : off = ![512 * (8 * c.val + s.val) + 32 * n, 0]) (inb : ∀ a, off a + S32x384.size a ≤ S8192x384.size a)
    {hsrc : (srcV off inb).view.WordExact} {hdst : buf.view.WordExact}
    {hsem : (DmaTarget.here (nD := nD) (p := (tv d (coordsV c s)).2) buf).Typed .hbm (.dma sm.sem)} {α : Type}
    {k : PUnit → Prog (TpuEff nD τ sig (Elt F) Λ₀ (tv d (coordsV c s)).2) α} {Q : α → sProp (MM F)} :
    iprop((∃ f, buf.view.loc (tv d (coordsV c s)) ↦{fullShare} f) ∗ semVal (tv d (coordsV c s), .dma sm.sem) 0 ∗ aV.view.loc (tv d (coordsV c s)) ↦{q} fa)
      ⊢ iprop((InFlight d c s q fa buf sm n -∗ wp frame (wpE (defs₀ (F := F)) 𝒱₀ (tv d (coordsV c s)) none) Set.univ (k ⟨⟩) Q)
          -∗ wp frame (wpE (defs₀ (F := F)) 𝒱₀ (tv d (coordsV c s)) none) Set.univ
            (.op (.enqueueDma (srcV off inb) (.here buf) (.dma sm.sem) hsrc hdst hsem) k) Q) := by
  iintro ⟨⟨%f0, Hb⟩, Hsem, Ha⟩ Hk
  ihave Has := (pointsTo_split_subset (q := q) (f := fa) (S := Finset.univ) (Finset.subset_univ (srcV off inb).view.set)).1 $$ Ha
  icases Has with ⟨Has, Har⟩
  iapply (Transfers.wp_dmaLocal countersEmb 𝒱₀ (tv d (coordsV c s)) none (src := srcV off inb) (dst := buf)
    (none : HIx 1) buf.view.dmaCredit rfl hN (Finset.subset_univ _)) $$ [Has Hb Hsem]
  · isplitl [Has]; · iexact Has
    isplitl [Hb]; · iexact Hb
    iexact Hsem
  iintro Hfl
  iapply Hk
  unfold InFlight
  iexists ((srcV off inb).view.set : Finset S8192x384.Idx)
  isplitl [Hfl]
  · iapply (Transfers.Flight_mono countersEmb (tv d (coordsV c s)) (landed d c s hs q fa buf n hn hoff inb f0 (srcV off inb).view.set)); iexact Hfl
  · iexact Har

/-- A chunk's copy awaited: its buffer holds the chunk. -/
theorem wp_fetched (q : PosShare TreeShare) (fa : S8192x384.Idx → F .f32) (buf : Memref sig .scVector .vmem S32x384 .f32)
    (sm : DmaSems sig S_) (n : Nat) {srcw : Memref sig .scVector .hbm S32x384 .f32}
    {hsrc : srcw.view.WordExact} {hdst : buf.view.WordExact} {α : Type}
    {k : PUnit → Prog (TpuEff nD τ sig (Elt F) Λ₀ (tv d (coordsV c s)).2) α} {Q : α → sProp (MM F)}
    (O : CellTallies nD τ sig (HIx 1)) (W : Waits sig (HIx 1)) :
    iprop(Transfers.MayWaits (tv d (coordsV c s)) (none : HIx 1) O ∗ InFlight d c s q fa buf sm n
        ∗ ∃ W', ⌜∀ p ∈ W', p ∈ W ∨ p.2 = none⌝ ∗ owes (tv d (coordsV c s)) O W')
      ⊢ iprop((iprop((∃ f, ⌜ChunkIs c s fa buf n f⌝ ∗ buf.view.loc (tv d (coordsV c s)) ↦{fullShare} f)
              ∗ semVal (tv d (coordsV c s), .dma sm.sem) 0 ∗ (aV.view.loc (tv d (coordsV c s)) ↦{q} fa)
              ∗ ∃ W', ⌜∀ p ∈ W', p ∈ W ∨ p.2 = none⌝ ∗ owes (tv d (coordsV c s)) O W')
            -∗ wp frame (wpE (defs₀ (F := F)) 𝒱₀ (tv d (coordsV c s)) none) Set.univ (k ⟨⟩) Q)
          -∗ wp frame (wpE (defs₀ (F := F)) 𝒱₀ (tv d (coordsV c s)) none) Set.univ (.op (.waitDma2 sm.sem srcw buf hsrc hdst) k) Q) := by
  unfold InFlight
  iintro ⟨Hmw, ⟨%S, Hfl, Har⟩, %W', %hW', HO⟩ Hk
  iapply (Transfers.wp_waitLocalO countersEmb 𝒱₀ (tv d (coordsV c s)) none (none : HIx 1) (rfl : buf.view.dmaCredit = _)) $$ [Hfl HO Hmw]
  · isplitl [Hfl]; · iexact Hfl
    isplitl [HO]; · iexact HO
    iapply (Transfers.MayWaits.elim (SemLoc.dma sm.sem)); iexact Hmw
  iintro ⟨⟨Hb, Has⟩, Hsem, HO⟩
  iapply Hk
  isplitl [Hb]; · iexact Hb
  isplitl [Hsem]; · iexact Hsem
  isplitl [Has Har]
  · iapply (pointsTo_split_subset (q := q) (f := fa) (S := Finset.univ) (Finset.subset_univ S)).2
    isplitl [Has] <;> iassumption
  iexists _
  isplitr
  swap; · iexact HO
  ipureintro
  intro p hp
  rcases Finset.mem_insert.mp hp with hp | hp
  · exact .inr (hp ▸ rfl)
  · exact hW' p hp

end Cert.Proof.Rows

end
-- ==== Proof.Ring.lean ====
/-
  The SparseCore kernel's two loops, run: the accumulator set to zeros, and the ring of two buffers.
-/
module

public import proofs.«01_k».proof.Proof.Fetch

@[expose] public section

set_option maxRecDepth 16384

noncomputable section

namespace Cert.Proof.Rows

open Cert.KernelIdeal Cert.KernelIdeal.Gen Cert.Proof.Model
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

variable (d : Dev nD) (c : Fin 2) (s : Fin 16)

theorem iv_zero_toNat (t : Fin k1_t1_loop.trips) : (Scf.iv 0#32 1#32 t.val : BitVec 32).toNat = t.val := by
  revert t; decide +kernel

/-- The accumulator set to zeros, row by row. -/
theorem wp_zero (ids : Nat → BitVec 32) (att : Nat → Nat → F .f32) (i : grid1.Coords) (h1 : k1_cond1 i = 1#1)
    (acc : Memref sig .scVector .vmem S256x384 .f32) :
    iprop(∃ f, acc.view.loc (tv d i) ↦{fullShare} f)
      ⊢ (wp frame (wpE (defs₀ (F := F)) 𝒱₀ (tv d i) none) Set.univ
          (Scf.Loop.for k1_t1_loop (k1_t1_ok i h1) 0#32 (fun t _ => zeroRow (F := F) i acc h1 t))
          fun _ => iprop(∃ f, ⌜ArrIs ids att acc 0 f⌝ ∗ acc.view.loc (tv d i) ↦{fullShare} f) : sProp (MM F)) := by
  let I : Nat → BitVec 32 → sProp (MM F) := fun k _ =>
    iprop(∃ f, ⌜∀ y : S256x384.Idx, (y 0).val < k → acc.view.read (Elt F) f y = arr ids att 0 (y 0).val (y 1).val⌝ ∗ acc.view.loc (tv d i) ↦{fullShare} f)
  iintro ⟨%f, H⟩
  iapply (Scf.wp_for frame _ _ _ _ _ _ _ _ I ?_)
  rotate_left
  · isplitl [H]
    · iexists f
      isplitr
      · ipureintro; exact fun y hy => absurd hy (Nat.not_lt_zero _)
      · iexact H
    · iintro %_ ⟨%f', %hf', H⟩
      iexists f'
      isplitr
      · ipureintro
        intro y
        exact hf' y (Nat.lt_of_lt_of_eq (y 0).isLt (Eq.symm trips1))
      · iexact H
  · intro t x
    show _ ⊢ wp _ _ _ (stores acc (Scf.iv 0#32 1#32 t) (zero_lt t) (fun _ => k1_pay1 (F := F)) 24 0 rfl >>= fun _ => Prog.ret 0#32) _
    rw [wp_bind]
    iintro ⟨%f, %hf, H⟩
    iapply (wp_wand_r frame _ _)
    isplitl [H]
    · iapply (wp_stores d acc (Scf.iv 0#32 1#32 t) (zero_lt t) (fun _ => k1_pay1 (F := F)) 24 0 rfl f); iexact H
    iintro %_ ⟨%f', %hf', H⟩
    rw [wp_ret]
    imodintro
    iexists f'
    isplitr
    · ipureintro
      intro y hy
      rw [hf' y, iv_zero_toNat]
      by_cases h : (y 0).val = t.val
      · rw [if_pos ⟨h, Nat.zero_le _⟩]; rfl
      · rw [if_neg (fun e => h e.1)]
        exact hf y (by omega)
    · iexact H

/-- The two groups of a chunk. -/
theorem wp_groups (fa : S8192x384.Idx → F .f32) (ids : Nat → BitVec 32) (hw : ∀ k, (ids k).toNat < 256) (h1 : k1_cond1 (coordsV c s) = 1#1)
    (buf : Memref sig .scVector .vmem S32x384 .f32) (acc : Memref sig .scVector .vmem S256x384 .f32) (idb : Memref sig .scVector .vmem S512 .i32)
    (fi : Buf (Elt F) (idb.view.loc (tv d (coordsV c s)))) (hfi : ∀ y : S512.Idx, idb.view.read (Elt F) fi y = ids (y 0).val)
    (l : Scf.Loop 32) (ok : l.OK) (hl : l.trips = 2) (off : Fin l.trips → Fin 1 → Nat) (n : Nat) (hoff : ∀ t, off t = ![32 * n + 16 * t.val])
    (inb : ∀ t a, off t a + S16.size a ≤ S512.size a) (hlt : ∀ t : Fin l.trips, t.val < 2) (x : Tup F) (hx : AtRow ids (attOf fa c.val s.val) (32 * n) x)
    {α : Type} {kk : Tup F → Prog (TpuEff nD τ sig (Elt F) Λ₀ (tv d (coordsV c s)).2) α} {Q : α → sProp (MM F)} :
    iprop((∃ f, ⌜ChunkIs c s fa buf n f⌝ ∗ buf.view.loc (tv d (coordsV c s)) ↦{fullShare} f) ∗ (idb.view.loc (tv d (coordsV c s)) ↦{fullShare} fi)
        ∗ ∃ f, ⌜ArrIs ids (attOf fa c.val s.val) acc (32 * n) f⌝ ∗ acc.view.loc (tv d (coordsV c s)) ↦{fullShare} f)
      ⊢ iprop((∀ x', iprop(⌜AtRow ids (attOf fa c.val s.val) (32 * (n + 1)) x'⌝ ∗ (∃ f, buf.view.loc (tv d (coordsV c s)) ↦{fullShare} f)
            ∗ (idb.view.loc (tv d (coordsV c s)) ↦{fullShare} fi)
            ∗ ∃ f, ⌜ArrIs ids (attOf fa c.val s.val) acc (32 * (n + 1)) f⌝ ∗ acc.view.loc (tv d (coordsV c s)) ↦{fullShare} f)
            -∗ wp frame (wpE (defs₀ (F := F)) 𝒱₀ (tv d (coordsV c s)) none) Set.univ (kk x') Q)
          -∗ wp frame (wpE (defs₀ (F := F)) 𝒱₀ (tv d (coordsV c s)) none) Set.univ
          (Scf.Loop.for l ok x (fun t x => group (coordsV c s) h1 buf acc idb (off t) (inb t) t.val (hlt t) x) >>= kk) Q) := by
  iintro ⟨⟨%fb, %hfb, Hb⟩, Hi, Ha⟩ Hk
  let I : Nat → Tup F → sProp (MM F) := fun k x =>
    iprop(⌜AtRow ids (attOf fa c.val s.val) (32 * n + 16 * k) x⌝ ∗ (buf.view.loc (tv d (coordsV c s)) ↦{fullShare} fb)
      ∗ (idb.view.loc (tv d (coordsV c s)) ↦{fullShare} fi)
      ∗ ∃ f, ⌜ArrIs ids (attOf fa c.val s.val) acc (32 * n + 16 * k) f⌝ ∗ acc.view.loc (tv d (coordsV c s)) ↦{fullShare} f)
  rw [wp_bind]
  iapply (Scf.wp_for frame _ _ _ _ _ _ _ _ I ?_)
  rotate_left
  · isplitl [Hb Hi Ha]
    · isplitr
      · ipureintro; exact hx
      isplitl [Hb]; · iexact Hb
      isplitl [Hi]; · iexact Hi
      iexact Ha
    · iintro %x' H
      have e : I l.trips x' = I 2 x' := by rw [hl]
      ihave H := (Entails.of_eq e) $$ H
      icases H with ⟨%hx', Hb, Hi, Ha⟩
      iapply Hk $$ %x'
      isplitr
      · ipureintro; exact hx'
      isplitl [Hb]; · iexists fb; iexact Hb
      isplitl [Hi]; · iexact Hi
      iexact Ha
  · intro t x
    have ht := hlt t
    iintro ⟨%hx, Hb, Hi, Ha⟩
    iapply (wp_wand_r frame _ _)
    isplitl [Hb Hi Ha]
    · iapply (wp_group ids (attOf fa c.val s.val) d (coordsV c s) h1 buf acc fb idb fi (off t) (inb t) t.val (hlt t) (32 * n + 16 * t.val)
        (fun r hr y hy => by
          rw [hfi y, hy, hoff t]; rfl)
        hw (fun r hr y hy => by
          rw [hfb y, hy, Nat.add_assoc]) x hx)
      isplitl [Hb]; · iexact Hb
      isplitl [Hi]; · iexact Hi
      iexact Ha
    · iintro %x' H
      iexact H

/-- A buffer of the ring before a trip: chunk `n` on its way, or, past the last chunk, at rest. -/
def Half (q : PosShare TreeShare) (fa : S8192x384.Idx → F .f32) (buf : Memref sig .scVector .vmem S32x384 .f32) (sm : DmaSems sig S_) (n : Nat) : sProp (MM F) :=
  if n < 16 then InFlight d c s q fa buf sm n
  else iprop((∃ f, buf.view.loc (tv d (coordsV c s)) ↦{fullShare} f) ∗ semVal (tv d (coordsV c s), .dma sm.sem) 0 ∗ aV.view.loc (tv d (coordsV c s)) ↦{q} fa)

/-- The next chunk fetched, if there is one. -/
theorem wp_refetch (hs : s.val < 8) (q : PosShare TreeShare) (fa : S8192x384.Idx → F .f32) (buf : Memref sig .scVector .vmem S32x384 .f32) (hN : 0 < buf.view.dmaCredit)
    (sm : DmaSems sig S_) (n : Nat) {P : Prop} [Decidable P] (hP : P ↔ n < 16) {off : Fin 2 → Nat}
    (hoff : off = ![512 * (8 * c.val + s.val) + 32 * n, 0]) (inb : P → ∀ a, off a + S32x384.size a ≤ S8192x384.size a)
    {hsrc : ∀ h : P, (srcV off (inb h)).view.WordExact} {hdst : buf.view.WordExact}
    {hsem : P → (DmaTarget.here (nD := nD) (p := (tv d (coordsV c s)).2) buf).Typed .hbm (.dma sm.sem)} {α : Type}
    {k : PUnit → Prog (TpuEff nD τ sig (Elt F) Λ₀ (tv d (coordsV c s)).2) α} {Q : α → sProp (MM F)} :
    iprop((∃ f, buf.view.loc (tv d (coordsV c s)) ↦{fullShare} f) ∗ semVal (tv d (coordsV c s), .dma sm.sem) 0 ∗ aV.view.loc (tv d (coordsV c s)) ↦{q} fa)
      ⊢ iprop((Half d c s q fa buf sm n -∗ wp frame (wpE (defs₀ (F := F)) 𝒱₀ (tv d (coordsV c s)) none) Set.univ (k ⟨⟩) Q)
          -∗ wp frame (wpE (defs₀ (F := F)) 𝒱₀ (tv d (coordsV c s)) none) Set.univ
          (if h : P then (.op (.enqueueDma (srcV off (inb h)) (.here buf) (.dma sm.sem) (hsrc h) hdst (hsem h)) fun _ => k ⟨⟩) else k ⟨⟩) Q) := by
  by_cases h : P
  · rw [dif_pos h]
    iintro H Hk
    iapply (wp_fetch d c s hs q fa buf hN sm n (hP.mp h) hoff (inb h)) $$ H
    iintro H
    iapply Hk
    unfold Half
    rw [if_pos (hP.mp h)]
    iexact H
  · rw [dif_neg h]
    iintro H Hk
    iapply Hk
    unfold Half
    rw [if_neg (mt hP.mpr h)]
    iexact H

/-- A program at its end. -/
theorem wp_done {α : Type} (z : α) {Q : α → sProp (MM F)} :
    Q z ⊢ wp frame (wpE (defs₀ (F := F)) 𝒱₀ (tv d (coordsV c s)) none) Set.univ (Prog.ret z) Q := by
  rw [wp_ret]
  iintro H
  imodintro
  iexact H

end Cert.Proof.Rows

end
-- ==== Proof.Trips.lean ====
/-
  The ring run: eight trips, two chunks each.
-/
module

public import proofs.«01_k».proof.Proof.Ring

@[expose] public section

set_option maxRecDepth 16384

noncomputable section

namespace Cert.Proof.Rows

open Cert.KernelIdeal Cert.KernelIdeal.Gen Cert.Proof.Model
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

variable (d : Dev nD) (c : Fin 2) (s : Fin 16)

section Trip

variable (fa : S8192x384.Idx → F .f32) (ids : Nat → BitVec 32)
  (b0 : Memref sig .scVector .vmem S32x384 .f32) (b1 : Memref sig .scVector .vmem S32x384 .f32)
  (acc : Memref sig .scVector .vmem S256x384 .f32) (idb : Memref sig .scVector .vmem S512 .i32)
  (sm0 sm1 : DmaSems sig S_) (ql qr : PosShare TreeShare)
  (fi : Buf (Elt F) (idb.view.loc (tv d (coordsV c s)))) (O : CellTallies nD τ sig (HIx 1)) (W : Waits sig (HIx 1))

/-- What the ring holds before chunk `n`, when the next chunk of its first buffer is `n0` and that of its second `n1`. -/
def Held (n n0 n1 : Nat) (x : Tup F) : sProp (MM F) :=
  iprop(⌜AtRow ids (attOf fa c.val s.val) (32 * n) x⌝ ∗ Transfers.MayWaits (tv d (coordsV c s)) (none : HIx 1) O
    ∗ (idb.view.loc (tv d (coordsV c s)) ↦{fullShare} fi)
    ∗ (∃ f, ⌜ArrIs ids (attOf fa c.val s.val) acc (32 * n) f⌝ ∗ acc.view.loc (tv d (coordsV c s)) ↦{fullShare} f)
    ∗ Half d c s ql fa b0 sm0 n0 ∗ Half d c s qr fa b1 sm1 n1
    ∗ ∃ W', ⌜∀ p ∈ W', p ∈ W ∨ p.2 = none⌝ ∗ owes (tv d (coordsV c s)) O W')

/-- One trip of the ring. -/
theorem wp_ring (hs : s.val < 8) (hw : ∀ k, (ids k).toNat < 256) (h1 : k1_cond1 (coordsV c s) = 1#1)
    (hb0 : b0.IsWhole) (hb1 : b1.IsWhole) (hN0 : 0 < b0.view.dmaCredit) (hN1 : 0 < b1.view.dmaCredit)
    (hfi : ∀ y : S512.Idx, idb.view.read (Elt F) fi y = ids (y 0).val) (t : Fin k1_t2_loop.trips) (x : Tup F) :
    Held d c s fa ids b0 b1 acc idb sm0 sm1 ql qr fi O W (2 * t.val) (2 * t.val) (2 * t.val + 1) x
      ⊢ wp frame (wpE (defs₀ (F := F)) 𝒱₀ (tv d (coordsV c s)) none) Set.univ
          (ring (coordsV c s) aV b0 hb0 b1 hb1 acc idb sm0 sm1 h1 t x)
          (Held d c s fa ids b0 b1 acc idb sm0 sm1 ql qr fi O W (2 * (t.val + 1)) (2 * (t.val + 1)) (2 * (t.val + 1) + 1)) := by
  have ht : t.val < 8 := Nat.lt_of_lt_of_eq t.isLt trips2
  unfold Held
  iintro ⟨%hx, #Hmw, Hi, Ha, H0, H1, HO⟩
  ihave H0 := (Entails.of_eq (show Half d c s ql fa b0 sm0 (2 * t.val) = InFlight d c s ql fa b0 sm0 (2 * t.val) from if_pos (by omega))) $$ H0
  ihave H1 := (Entails.of_eq (show Half d c s qr fa b1 sm1 (2 * t.val + 1) = InFlight d c s qr fa b1 sm1 (2 * t.val + 1) from if_pos (by omega))) $$ H1
  unfold ring
  iapply (wp_fetched d c s ql fa b0 sm0 (2 * t.val) O W) $$ [H0 HO]
  · isplitr; · iexact Hmw
    isplitl [H0]; · iexact H0
    iexact HO
  iintro ⟨Hb0, Hs0, Hl, HO⟩
  iapply (wp_groups d c s fa ids hw h1 b0 acc idb fi hfi k1_t3_loop _ trips3 (k1_off28 t) (2 * t.val)
      (fun u => by rw [k1_off28_eq]; congr 1; omega) _ _ x hx) $$ [Hb0 Hi Ha]
  · isplitl [Hb0]; · iexact Hb0
    isplitl [Hi]; · iexact Hi
    iexact Ha
  iintro %y ⟨%hy, Hb0, Hi, Ha⟩
  iapply (wp_refetch d c s hs ql fa b0 hN0 sm0 (2 * (t.val + 1)) (by rw [cond2_iff]; omega) (off797_eq c s t hs) _) $$ [Hb0 Hs0 Hl]
  · isplitl [Hb0]; · iexact Hb0
    isplitl [Hs0]; · iexact Hs0
    iexact Hl
  iintro H0
  iapply (wp_fetched d c s qr fa b1 sm1 (2 * t.val + 1) O W) $$ [H1 HO]
  · isplitr; · iexact Hmw
    isplitl [H1]; · iexact H1
    iexact HO
  iintro ⟨Hb1, Hs1, Hr, HO⟩
  iapply (wp_groups d c s fa ids hw h1 b1 acc idb fi hfi k1_t4_loop _ trips4 (k1_off798 t) (2 * t.val + 1)
      (fun u => by rw [k1_off798_eq]; congr 1; omega) _ _ y hy) $$ [Hb1 Hi Ha]
  · isplitl [Hb1]; · iexact Hb1
    isplitl [Hi]; · iexact Hi
    iexact Ha
  iintro %z ⟨%hz, Hb1, Hi, Ha⟩
  iapply (wp_refetch d c s hs qr fa b1 hN1 sm1 (2 * (t.val + 1) + 1) (by rw [cond3_iff]; omega) (off1567_eq c s t hs) _) $$ [Hb1 Hs1 Hr]
  · isplitl [Hb1]; · iexact Hb1
    isplitl [Hs1]; · iexact Hs1
    iexact Hr
  iintro H1
  iapply (wp_done d c s z)
  isplitr
  · ipureintro
    exact hz
  isplitr; · iexact Hmw
  isplitl [Hi]; · iexact Hi
  isplitl [Ha]; · iexact Ha
  isplitl [H0]; · iexact H0
  isplitl [H1]; · iexact H1
  iexact HO

end Trip

end Cert.Proof.Rows

end
-- ==== Proof.Tile.lean ====
/-
  The SparseCore kernel on one tile, from its shares of the features and of the words to its block of the output.
-/
module

public import proofs.«01_k».proof.Proof.Trips

@[expose] public section

set_option maxRecDepth 16384

noncomputable section

namespace Cert.Proof.Rows

open Cert.KernelIdeal Cert.KernelIdeal.Gen Cert.Proof.Model
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

variable (d : Dev nD) (c : Fin 2) (s : Fin 16)

/-- The block of the output that subcore `s` of core `c` writes. -/
def outSet (c : Fin 2) (s : Fin 16) : Finset S2048x768.Idx :=
  Finset.univ.filter fun y : S2048x768.Idx => (y 0).val / 256 = s.val ∧ (y 1).val / 384 = c.val

/-- The output: row `256 b + w` is the sum of batch `b`'s rows whose word is `w`. -/
def outG (fa : S8192x384.Idx → F .f32) (fi : S4096.Idx → BitVec 32) (y : S2048x768.Idx) : F .f32 :=
  arr (idsOf fi ((y 0).val / 256)) (attOf fa ((y 1).val / 384) ((y 0).val / 256)) 512 ((y 0).val % 256) ((y 1).val % 384)

/-- The words of a batch, as their copy addresses them. -/
abbrev idsV (off : Fin 1 → Nat) (inb : ∀ a, off a + S512.size a ≤ S4096.size a) : Memref sig .scVector .hbm S512 .i32 :=
  iV.slice (Rect.unit (s := S4096) off S512.size inb) (fun _ => rfl)

/-- A block of the output, as its copy addresses it. -/
abbrev outV (off : Fin 2 → Nat) (inb : ∀ a, off a + S256x384.size a ≤ S2048x768.size a) : Memref sig .scVector .hbm S256x384 .f32 :=
  oV.slice (Rect.unit (s := S2048x768) off S256x384.size inb) (fun _ => rfl)

/-- What the words' copy writes. -/
theorem ids_written (hs : s.val < 8) (fi : S4096.Idx → BitVec 32) (idb : Memref sig .scVector .vmem S512 .i32) {off : Fin 1 → Nat}
    (hoff : off = ![512 * s.val]) (inb : ∀ a, off a + S512.size a ≤ S4096.size a) (f0 : idb.view.ty.Contents (Elt F)) (y : S512.Idx) :
    idb.view.read (Elt F) (idb.view.write (Elt F) f0 ((idsV off inb).view.read (Elt F) fi) Finset.univ) y = idsOf fi s.val (y 0).val := by
  subst hoff
  rw [View.read_write_of_mem _ _ (Finset.mem_univ _)]
  refine (View.read_apply _ _).trans ((cast_eq _ _).trans (congrArg fi (funext fun a => ?_)))
  have h0 : (y 0).val < 512 := (y 0).isLt
  match a with
  | 0 =>
    refine Fin.ext ?_
    show 512 * s.val + 1 * (y 0).val = (512 * s.val + (y 0).val) % 4096
    omega

/-- The words copied in and awaited. -/
theorem wp_ids (hs : s.val < 8) (q : PosShare TreeShare) (fi : S4096.Idx → BitVec 32) (idb : Memref sig .scVector .vmem S512 .i32) (hN : 0 < idb.view.dmaCredit)
    (sm : DmaSems sig S_) {off : Fin 1 → Nat}
    (hoff : off = ![512 * s.val]) (inb : ∀ a, off a + S512.size a ≤ S4096.size a)
    {hsrc hsrc' : (idsV off inb).view.WordExact} {hdst hdst' : idb.view.WordExact}
    {hsem : (DmaTarget.here (nD := nD) (p := (tv d (coordsV c s)).2) idb).Typed .hbm (.dma sm.sem)} {α : Type}
    {k : PUnit → Prog (TpuEff nD τ sig (Elt F) Λ₀ (tv d (coordsV c s)).2) α} {Q : α → sProp (MM F)}
    (O : CellTallies nD τ sig (HIx 1)) (W : Waits sig (HIx 1)) :
    iprop(Transfers.MayWaits (tv d (coordsV c s)) (none : HIx 1) O
        ∗ (∃ f, idb.view.loc (tv d (coordsV c s)) ↦{fullShare} f) ∗ semVal (tv d (coordsV c s), .dma sm.sem) 0
        ∗ (iV.view.loc (tv d (coordsV c s)) ↦{q} fi)
        ∗ ∃ W', ⌜∀ p ∈ W', p ∈ W ∨ p.2 = none⌝ ∗ owes (tv d (coordsV c s)) O W')
      ⊢ iprop((iprop((∃ f, ⌜∀ y : S512.Idx, idb.view.read (Elt F) f y = idsOf fi s.val (y 0).val⌝ ∗ idb.view.loc (tv d (coordsV c s)) ↦{fullShare} f)
              ∗ semVal (tv d (coordsV c s), .dma sm.sem) 0 ∗ (iV.view.loc (tv d (coordsV c s)) ↦{q} fi)
              ∗ ∃ W', ⌜∀ p ∈ W', p ∈ W ∨ p.2 = none⌝ ∗ owes (tv d (coordsV c s)) O W')
            -∗ wp frame (wpE (defs₀ (F := F)) 𝒱₀ (tv d (coordsV c s)) none) Set.univ (k ⟨⟩) Q)
          -∗ wp frame (wpE (defs₀ (F := F)) 𝒱₀ (tv d (coordsV c s)) none) Set.univ
            (.op (.enqueueDma (idsV off inb) (.here idb) (.dma sm.sem) hsrc hdst hsem) fun _ =>
              .op (.waitDma2 sm.sem (idsV off inb) idb hsrc' hdst') k) Q) := by
  iintro ⟨#Hmw, ⟨%f0, Hb⟩, Hsem, Ha, %W', %hW', HO⟩ Hk
  ihave Has := (pointsTo_split_subset (q := q) (f := fi) (S := Finset.univ) (Finset.subset_univ (idsV off inb).view.set)).1 $$ Ha
  icases Has with ⟨Has, Har⟩
  iapply (Transfers.wp_dmaLocal countersEmb 𝒱₀ (tv d (coordsV c s)) none (src := idsV off inb) (dst := idb)
    (none : HIx 1) idb.view.dmaCredit rfl hN (Finset.subset_univ _)) $$ [Has Hb Hsem]
  · isplitl [Has]; · iexact Has
    isplitl [Hb]; · iexact Hb
    iexact Hsem
  iintro Hfl
  iapply (Transfers.wp_waitLocalO countersEmb 𝒱₀ (tv d (coordsV c s)) none (none : HIx 1) (rfl : idb.view.dmaCredit = _)) $$ [Hfl HO]
  · isplitl [Hfl]; · iexact Hfl
    isplitl [HO]; · iexact HO
    iapply (Transfers.MayWaits.elim (SemLoc.dma sm.sem)); iexact Hmw
  iintro ⟨⟨Hb, Has⟩, Hsem, HO⟩
  iapply Hk
  isplitl [Hb]
  · iexists _
    isplitr
    · ipureintro
      exact ids_written s hs fi idb hoff inb f0
    · iexact Hb
  isplitl [Hsem]; · iexact Hsem
  isplitl [Has Har]
  · iapply (pointsTo_split_subset (q := q) (f := fi) (S := Finset.univ) (Finset.subset_univ (idsV off inb).view.set)).2
    isplitl [Has] <;> iassumption
  iexists _
  isplitr
  swap; · iexact HO
  ipureintro
  intro p hp
  rcases Finset.mem_insert.mp hp with hp | hp
  · exact .inr (hp ▸ rfl)
  · exact hW' p hp

/-- The index of the block's entry in the output. -/
theorem outV_emb (hs : s.val < 8) {off : Fin 2 → Nat} (hoff : off = ![256 * s.val, 384 * c.val]) (inb : ∀ a, off a + S256x384.size a ≤ S2048x768.size a)
    (x : S256x384.Idx) (y : S2048x768.Idx) (h : (outV off inb).view.emb x = y) :
    (y 0).val = 256 * s.val + (x 0).val ∧ (y 1).val = 384 * c.val + (x 1).val := by
  subst hoff
  subst h
  constructor
  · show 256 * s.val + 1 * (x 0).val = _
    omega
  · show 384 * c.val + 1 * (x 1).val = _
    omega

/-- The block's entries are in its share. -/
theorem outV_subset (hs : s.val < 8) {off : Fin 2 → Nat} (hoff : off = ![256 * s.val, 384 * c.val]) (inb : ∀ a, off a + S256x384.size a ≤ S2048x768.size a) :
    (outV off inb).view.set ⊆ outSet c s := by
  intro y hy
  obtain ⟨x, -, hx⟩ := Finset.mem_map.mp hy
  obtain ⟨h0, h1⟩ := outV_emb c s hs hoff inb x y hx
  have hx0 : (x 0).val < 256 := (x 0).isLt
  have hx1 : (x 1).val < 384 := (x 1).isLt
  refine Finset.mem_filter.mpr ⟨Finset.mem_univ _, ?_, ?_⟩ <;> omega

/-- What the block's copy writes, entry by entry of its share. -/
theorem out_written (hs : s.val < 8) (fa : S8192x384.Idx → F .f32) (fi : S4096.Idx → BitVec 32) (acc : Memref sig .scVector .vmem S256x384 .f32) {off : Fin 2 → Nat}
    (hoff : off = ![256 * s.val, 384 * c.val]) (inb : ∀ a, off a + S256x384.size a ≤ S2048x768.size a) (f0 : S2048x768.Idx → F .f32)
    (f : acc.view.ty.Contents (Elt F)) (hf : ArrIs (idsOf fi s.val) (attOf fa c.val s.val) acc 512 f) :
    ∀ y ∈ outSet c s, (outV off inb).view.write (Elt F) f0 (acc.view.read (Elt F) f) Finset.univ y = outG fa fi y := by
  intro y hy
  obtain ⟨-, h0, h1⟩ := Finset.mem_filter.mp hy
  let x : S256x384.Idx := ix2 (⟨(y 0).val % 256, Nat.mod_lt _ (by decide)⟩ : Fin 256) (⟨(y 1).val % 384, Nat.mod_lt _ (by decide)⟩ : Fin 384)
  have hx : (outV off inb).view.emb x = y := by
    subst hoff
    funext a
    match a with
    | 0 =>
      refine Fin.ext ?_
      show 256 * s.val + 1 * ((y 0).val % 256) = (y 0).val
      omega
    | 1 =>
      refine Fin.ext ?_
      show 384 * c.val + 1 * ((y 1).val % 384) = (y 1).val
      omega
  rw [← hx, View.write_emb_of_mem _ _ (Finset.mem_univ _), hx]
  refine (cast_eq _ _).trans ((hf x).trans ?_)
  unfold outG
  rw [h0, h1]
  rfl

theorem out_credit : 0 < oV.view.ref.dmaCredit S256x384 .f32 := by decide

/-- The block copied out and awaited. -/
theorem wp_out (hs : s.val < 8) (fa : S8192x384.Idx → F .f32) (fi : S4096.Idx → BitVec 32) (acc : Memref sig .scVector .vmem S256x384 .f32)
    (hacc : acc.IsWhole)
    (sm : DmaSems sig S_) {off : Fin 2 → Nat}
    (hoff : off = ![256 * s.val, 384 * c.val]) (inb : ∀ a, off a + S256x384.size a ≤ S2048x768.size a)
    {hsrc hsrc' : acc.view.WordExact} {hdst hdst' : (outV off inb).view.WordExact}
    {hsem : (DmaTarget.here (nD := nD) (p := (tv d (coordsV c s)).2) (outV off inb)).Typed .vmem (.dma sm.sem)} {α : Type}
    {k : PUnit → Prog (TpuEff nD τ sig (Elt F) Λ₀ (tv d (coordsV c s)).2) α} {Q : α → sProp (MM F)}
    (O : CellTallies nD τ sig (HIx 1)) (W : Waits sig (HIx 1)) :
    iprop(Transfers.MayWaits (tv d (coordsV c s)) (none : HIx 1) O
        ∗ (∃ f, ⌜ArrIs (idsOf fi s.val) (attOf fa c.val s.val) acc 512 f⌝ ∗ acc.view.loc (tv d (coordsV c s)) ↦{fullShare} f)
        ∗ semVal (tv d (coordsV c s), .dma sm.sem) 0
        ∗ (∃ f, oV.view.loc (tv d (coordsV c s)) ↦[outSet c s]{fullShare} f)
        ∗ ∃ W', ⌜∀ p ∈ W', p ∈ W ∨ p.2 = none⌝ ∗ owes (tv d (coordsV c s)) O W')
      ⊢ iprop((iprop((∃ f, acc.view.loc (tv d (coordsV c s)) ↦{fullShare} f)
              ∗ semVal (tv d (coordsV c s), .dma sm.sem) 0 ∗ (oV.view.loc (tv d (coordsV c s)) ↦[outSet c s]{fullShare} outG fa fi)
              ∗ ∃ W', ⌜∀ p ∈ W', p ∈ W ∨ p.2 = none⌝ ∗ owes (tv d (coordsV c s)) O W')
            -∗ wp frame (wpE (defs₀ (F := F)) 𝒱₀ (tv d (coordsV c s)) none) Set.univ (k ⟨⟩) Q)
          -∗ wp frame (wpE (defs₀ (F := F)) 𝒱₀ (tv d (coordsV c s)) none) Set.univ
            (.op (.enqueueDma acc (.here (outV off inb)) (.dma sm.sem) hsrc hdst hsem) fun _ =>
              .op (.waitDma2 sm.sem acc (outV off inb) hsrc' hdst') k) Q) := by
  iintro ⟨#Hmw, ⟨%f, %hf, Hb⟩, Hsem, ⟨%f0, Ho⟩, %W', %hW', HO⟩ Hk
  ihave Hb2 := (pointsTo_split_subset (q := fullShare) (f := f) (S := Finset.univ) (Finset.subset_univ acc.view.set)).1 $$ Hb
  icases Hb2 with ⟨Hb, Hbr⟩
  iapply (Transfers.wp_dmaLocal countersEmb 𝒱₀ (tv d (coordsV c s)) none (src := acc) (dst := outV off inb)
    (none : HIx 1) (outV off inb).view.dmaCredit rfl out_credit (outV_subset c s hs hoff inb)) $$ [Hb Ho Hsem]
  · isplitl [Hb]; · iexact Hb
    isplitl [Ho]; · iexact Ho
    iexact Hsem
  iintro Hfl
  iapply (Transfers.wp_waitLocalO countersEmb 𝒱₀ (tv d (coordsV c s)) none (none : HIx 1) (rfl : (outV off inb).view.dmaCredit = _)) $$ [Hfl HO]
  · isplitl [Hfl]; · iexact Hfl
    isplitl [HO]; · iexact HO
    iapply (Transfers.MayWaits.elim (SemLoc.dma sm.sem)); iexact Hmw
  iintro ⟨⟨Ho, Hb⟩, Hsem, HO⟩
  iapply Hk
  isplitl [Hb Hbr]
  · iexists f
    iapply (pointsTo_split_subset (q := fullShare) (f := f) (S := Finset.univ) (Finset.subset_univ acc.view.set)).2
    isplitl [Hb] <;> iassumption
  isplitl [Hsem]; · iexact Hsem
  isplitl [Ho]
  · iapply (Entails.of_eq (pointsTo_congr (ℓ := oV.view.loc (tv d (coordsV c s))) (I := outSet c s) (q := fullShare)
      (out_written c s hs fa fi acc hoff inb f0 f hf))); iexact Ho
  iexists _
  isplitr
  swap; · iexact HO
  ipureintro
  intro p hp
  rcases Finset.mem_insert.mp hp with hp | hp
  · exact .inr (hp ▸ rfl)
  · exact hW' p hp

end Cert.Proof.Rows

end
-- ==== Proof.Body.lean ====
/-
  The SparseCore kernel's whole run on one tile.
-/
module

public import proofs.«01_k».proof.Proof.Tile

@[expose] public section

set_option maxRecDepth 16384

noncomputable section

namespace Cert.Proof.Rows

open Cert.KernelIdeal Cert.KernelIdeal.Gen Cert.Proof.Model
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

variable (d : Dev nD) (c : Fin 2) (s : Fin 16)

theorem wp_zero_then (ids : Nat → BitVec 32) (att : Nat → Nat → F .f32) (h1 : k1_cond1 (coordsV c s) = 1#1)
    (acc : Memref sig .scVector .vmem S256x384 .f32)
    {α : Type} {kk : BitVec 32 → Prog (TpuEff nD τ sig (Elt F) Λ₀ (tv d (coordsV c s)).2) α} {Q : α → sProp (MM F)} :
    iprop(∃ f, acc.view.loc (tv d (coordsV c s)) ↦{fullShare} f)
      ⊢ iprop((∀ x, iprop(∃ f, ⌜ArrIs ids att acc 0 f⌝ ∗ acc.view.loc (tv d (coordsV c s)) ↦{fullShare} f)
            -∗ wp frame (wpE (defs₀ (F := F)) 𝒱₀ (tv d (coordsV c s)) none) Set.univ (kk x) Q)
          -∗ wp frame (wpE (defs₀ (F := F)) 𝒱₀ (tv d (coordsV c s)) none) Set.univ
          (Scf.Loop.for k1_t1_loop (k1_t1_ok (coordsV c s) h1) 0#32 (fun t _ => zeroRow (F := F) (coordsV c s) acc h1 t) >>= kk) Q) := by
  iintro H Hk
  rw [wp_bind]
  iapply (wp_wand_r frame _ _)
  isplitl [H]
  · iapply (wp_zero d ids att (coordsV c s) h1 acc); iexact H
  iintro %x H
  iapply Hk $$ %x
  iexact H

section Trip

variable (fa : S8192x384.Idx → F .f32) (ids : Nat → BitVec 32)
  (b0 : Memref sig .scVector .vmem S32x384 .f32) (b1 : Memref sig .scVector .vmem S32x384 .f32)
  (acc : Memref sig .scVector .vmem S256x384 .f32) (idb : Memref sig .scVector .vmem S512 .i32)
  (sm0 sm1 : DmaSems sig S_) (ql qr : PosShare TreeShare)
  (fi : Buf (Elt F) (idb.view.loc (tv d (coordsV c s)))) (O : CellTallies nD τ sig (HIx 1)) (W : Waits sig (HIx 1))

/-- The ring's eight trips. -/
theorem wp_rings (hs : s.val < 8) (hw : ∀ k, (ids k).toNat < 256) (h1 : k1_cond1 (coordsV c s) = 1#1)
    (hb0 : b0.IsWhole) (hb1 : b1.IsWhole) (hN0 : 0 < b0.view.dmaCredit) (hN1 : 0 < b1.view.dmaCredit)
    (hfi : ∀ y : S512.Idx, idb.view.read (Elt F) fi y = ids (y 0).val) (x : Tup F)
    {α : Type} {kk : Tup F → Prog (TpuEff nD τ sig (Elt F) Λ₀ (tv d (coordsV c s)).2) α} {Q : α → sProp (MM F)} :
    Held d c s fa ids b0 b1 acc idb sm0 sm1 ql qr fi O W 0 0 1 x
      ⊢ iprop((∀ x', Held d c s fa ids b0 b1 acc idb sm0 sm1 ql qr fi O W 16 16 17 x'
            -∗ wp frame (wpE (defs₀ (F := F)) 𝒱₀ (tv d (coordsV c s)) none) Set.univ (kk x') Q)
          -∗ wp frame (wpE (defs₀ (F := F)) 𝒱₀ (tv d (coordsV c s)) none) Set.univ
          (Scf.Loop.for k1_t2_loop (k1_t2_ok (coordsV c s) h1) x (ring (coordsV c s) aV b0 hb0 b1 hb1 acc idb sm0 sm1 h1) >>= kk) Q) := by
  let I : Nat → Tup F → sProp (MM F) := fun t x => Held d c s fa ids b0 b1 acc idb sm0 sm1 ql qr fi O W (2 * t) (2 * t) (2 * t + 1) x
  iintro H Hk
  rw [wp_bind]
  iapply (Scf.wp_for frame _ _ _ _ _ _ _ _ I ?_)
  rotate_left
  · isplitl [H]
    · iexact H
    · iintro %x' H
      have e : I k1_t2_loop.trips x' = I 8 x' := by rw [trips2]
      ihave H := (Entails.of_eq e) $$ H
      iapply Hk $$ %x'
      iexact H
  · intro t x
    exact wp_ring d c s fa ids b0 b1 acc idb sm0 sm1 ql qr fi O W hs hw h1 hb0 hb1 hN0 hN1 hfi t x

end Trip

/-- A tile of the first eight subcores. -/
theorem wp_active (hs : s.val < 8) (fa : S8192x384.Idx → F .f32) (fi : S4096.Idx → BitVec 32) (hw : ∀ y, (fi y).toNat < 256)
    (b0 : Memref sig .scVector .vmem S32x384 .f32) (hb0 : b0.IsWhole) (b1 : Memref sig .scVector .vmem S32x384 .f32) (hb1 : b1.IsWhole)
    (acc : Memref sig .scVector .vmem S256x384 .f32) (hacc : acc.IsWhole) (idb : Memref sig .scVector .vmem S512 .i32) (hidb : idb.IsWhole)
    (sm0 sm1 r0 r1 : DmaSems sig S_) (q q' : PosShare TreeShare)
    (hN0 : 0 < b0.view.dmaCredit) (hN1 : 0 < b1.view.dmaCredit) (hNi : 0 < idb.view.dmaCredit)
    (O : CellTallies nD τ sig (HIx 1)) (W : Waits sig (HIx 1)) :
    iprop(Transfers.MayWaits (tv d (coordsV c s)) (none : HIx 1) O
        ∗ (aV.view.loc (tv d (coordsV c s)) ↦{q} fa) ∗ (iV.view.loc (tv d (coordsV c s)) ↦{q'} fi)
        ∗ (∃ f, oV.view.loc (tv d (coordsV c s)) ↦[outSet c s]{fullShare} f)
        ∗ (∃ f, b0.view.loc (tv d (coordsV c s)) ↦{fullShare} f) ∗ (∃ f, b1.view.loc (tv d (coordsV c s)) ↦{fullShare} f)
        ∗ (∃ f, acc.view.loc (tv d (coordsV c s)) ↦{fullShare} f) ∗ (∃ f, idb.view.loc (tv d (coordsV c s)) ↦{fullShare} f)
        ∗ semVal (tv d (coordsV c s), .dma sm0.sem) 0 ∗ semVal (tv d (coordsV c s), .dma sm1.sem) 0
        ∗ semVal (tv d (coordsV c s), .dma r0.sem) 0 ∗ semVal (tv d (coordsV c s), .dma r1.sem) 0
        ∗ ∃ W', ⌜∀ p ∈ W', p ∈ W ∨ p.2 = none⌝ ∗ owes (tv d (coordsV c s)) O W')
      ⊢ (wp frame (wpE (defs₀ (F := F)) 𝒱₀ (tv d (coordsV c s)) none) Set.univ
          (segsum (coordsV c s) aV iV oV b0 hb0 b1 hb1 acc hacc idb hidb sm0 sm1 r0 r1)
          fun _ => iprop((aV.view.loc (tv d (coordsV c s)) ↦{q} fa) ∗ (iV.view.loc (tv d (coordsV c s)) ↦{q'} fi)
            ∗ (oV.view.loc (tv d (coordsV c s)) ↦[outSet c s]{fullShare} outG fa fi)
            ∗ (∃ f, b0.view.loc (tv d (coordsV c s)) ↦{fullShare} f) ∗ (∃ f, b1.view.loc (tv d (coordsV c s)) ↦{fullShare} f)
            ∗ (∃ f, acc.view.loc (tv d (coordsV c s)) ↦{fullShare} f) ∗ (∃ f, idb.view.loc (tv d (coordsV c s)) ↦{fullShare} f)
            ∗ semVal (tv d (coordsV c s), .dma sm0.sem) 0 ∗ semVal (tv d (coordsV c s), .dma sm1.sem) 0
            ∗ semVal (tv d (coordsV c s), .dma r0.sem) 0 ∗ semVal (tv d (coordsV c s), .dma r1.sem) 0
            ∗ ∃ W', ⌜∀ p ∈ W', p ∈ W ∨ p.2 = none⌝ ∗ owes (tv d (coordsV c s)) O W')
        : sProp (MM F)) := by
  have h1 : k1_cond1 (coordsV c s) = 1#1 := (cond1_iff c s).mpr hs
  have e : segsum (F := F) (coordsV c s) aV iV oV b0 hb0 b1 hb1 acc hacc idb hidb sm0 sm1 r0 r1 = _ := dif_pos h1
  rw [e]
  iintro ⟨#Hmw, Ha, Hi, Ho, Hb0, Hb1, Hacc, Hid, Hs0, Hs1, Hr0, Hr1, HO⟩
  iapply (wp_ids d c s hs q' fi idb hNi r0 (off1_eq c s hs) (k1_off1_inb (coordsV c s) h1) O W) $$ [Hid Hr0 Hi HO]
  · isplitr; · iexact Hmw
    isplitl [Hid]; · iexact Hid
    isplitl [Hr0]; · iexact Hr0
    isplitl [Hi]; · iexact Hi
    iexact HO
  iintro ⟨⟨%fid, %hfid, Hid⟩, Hr0, Hi, HO⟩
  iapply (wp_zero_then d c s (idsOf fi s.val) (attOf fa c.val s.val) h1 acc) $$ Hacc
  iintro %_ Hacc
  ihave Ha := (pointsTo_share (PosShare.mem_left_op_right q)).1 $$ Ha
  icases Ha with ⟨Hl, Hr⟩
  iapply (wp_fetch d c s hs q.left fa b0 hN0 sm0 0 (by decide) (off26_0 c s hs) (k1_off26_inb (coordsV c s) h1 0)) $$ [Hb0 Hs0 Hl]
  · isplitl [Hb0]; · iexact Hb0
    isplitl [Hs0]; · iexact Hs0
    iexact Hl
  iintro Hb0
  iapply (wp_fetch d c s hs q.right fa b1 hN1 sm1 1 (by decide) (off26_1 c s hs) (k1_off26_inb (coordsV c s) h1 1)) $$ [Hb1 Hs1 Hr]
  · isplitl [Hb1]; · iexact Hb1
    isplitl [Hs1]; · iexact Hs1
    iexact Hr
  iintro Hb1
  iapply (wp_rings d c s fa (idsOf fi s.val) b0 b1 acc idb sm0 sm1 q.left q.right fid O W hs (fun k => hw _) h1 hb0 hb1 hN0 hN1 hfid
    (toTup 4294967295#32 fun _ => k1_pay1 (F := F))) $$ [Hid Hacc Hb0 Hb1 HO]
  · unfold Held
    isplitr
    · ipureintro
      exact ⟨fun _ => k1_pay1, rfl, fun _ _ => rfl⟩
    isplitr; · iexact Hmw
    isplitl [Hid]; · iexact Hid
    isplitl [Hacc]; · iexact Hacc
    isplitl [Hb0]
    · iapply (Entails.of_eq (show InFlight d c s q.left fa b0 sm0 0 = Half d c s q.left fa b0 sm0 0 from (if_pos (by decide)).symm)); iexact Hb0
    isplitl [Hb1]
    · iapply (Entails.of_eq (show InFlight d c s q.right fa b1 sm1 1 = Half d c s q.right fa b1 sm1 1 from (if_pos (by decide)).symm)); iexact Hb1
    iexact HO
  iintro %x' H
  unfold Held
  icases H with ⟨-, -, Hid, Hacc, H0, H1, HO⟩
  ihave H0 := (Entails.of_eq (show Half d c s q.left fa b0 sm0 16 = _ from if_neg (by decide))) $$ H0
  ihave H1 := (Entails.of_eq (show Half d c s q.right fa b1 sm1 17 = _ from if_neg (by decide))) $$ H1
  icases H0 with ⟨Hb0, Hs0, Hl⟩
  icases H1 with ⟨Hb1, Hs1, Hr⟩
  iapply (wp_out d c s hs fa fi acc hacc r1 (off1568_eq c s hs) (k1_off1568_inb (coordsV c s) h1) O W) $$ [Hacc Hr1 Ho HO]
  · isplitr; · iexact Hmw
    isplitl [Hacc]; · iexact Hacc
    isplitl [Hr1]; · iexact Hr1
    isplitl [Ho]; · iexact Ho
    iexact HO
  iintro ⟨Hacc, Hr1, Ho, HO⟩
  iapply (wp_done d c s _)
  isplitl [Hl Hr]
  · iapply (pointsTo_share (PosShare.mem_left_op_right q)).2
    isplitl [Hl] <;> iassumption
  isplitl [Hi]; · iexact Hi
  isplitl [Ho]; · iexact Ho
  isplitl [Hb0]; · iexact Hb0
  isplitl [Hb1]; · iexact Hb1
  isplitl [Hacc]; · iexact Hacc
  isplitl [Hid]
  · iexists fid; iexact Hid
  isplitl [Hs0]; · iexact Hs0
  isplitl [Hs1]; · iexact Hs1
  isplitl [Hr0]; · iexact Hr0
  isplitl [Hr1]; · iexact Hr1
  iexact HO

/-- The other tiles have no block of the output. -/
theorem outSet_empty (hs : ¬ s.val < 8) : outSet c s = ∅ := by
  refine Finset.filter_eq_empty_iff.mpr fun y _ h => hs ?_
  have h0 : (y 0).val < 2048 := (y 0).isLt
  omega

end Cert.Proof.Rows

end
-- ==== Proof.Obl.lean ====
/-
  The SparseCore call: what its handshakes carry, each tile's run from its part of it, and how a core's part is dealt to
  its tiles and joined again.
-/
module

public import proofs.«01_k».proof.Proof.Body
public import Idealize.ShloMosaic.Lib.SparseCore.Quiescent
public import Idealize.ShloMosaic.Lib.SparseCore.Ops
public import Idealize.ShloMosaic.Lib.StableHlo.Run
public import Idealize.ShloMosaic.Lib.Pipeline.Kit

@[expose] public section

set_option maxRecDepth 16384

noncomputable section

namespace Cert.Proof.Launch

open Cert.KernelIdeal Cert.KernelIdeal.Gen Cert.Proof.Model Cert.Proof.Rows
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

/-! ## The program as the launch theorem sees it -/

abbrev ΛP : Labels := Pipeline.Sig Λ₀ (Fin 2) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D : Defs nD τ sig (Elt F) (ΛP (F := F)) := Pipeline.defs pcfgs defs₀
abbrev 𝒱 : Variants := 𝒱₀.lift
abbrev v₀ : 𝒱.V := Sum.inl none
abbrev EH : Emb UH (MM F) := embL

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## What the handshakes carry -/

abbrev aLoc (d : Dev nD) : Loc nD τ sig := (SparseCore.T d).loc main_v2
abbrev iLoc (d : Dev nD) : Loc nD τ sig := (SparseCore.T d).loc main_v4
abbrev oLoc (d : Dev nD) : Loc nD τ sig := (SparseCore.T d).loc main_v5

/-- A core's share of what every tile reads, and a tile's. -/
def qC (c : Fin 2) : PosShare TreeShare := Transfers.dealOf fullShare (Finset.univ : Finset (Fin 2)) c
def qT (c : Fin 2) (s : Fin 16) : PosShare TreeShare := Transfers.dealOf (qC c) (Finset.univ : Finset (Fin 16)) s

/-- A core's half of the output's columns. -/
def coreSet (c : Fin 2) : Finset S2048x768.Idx := Finset.univ.filter fun y : S2048x768.Idx => (y 1).val / 384 = c.val

variable (fa : Dev nD → S8192x384.Idx → F .f32) (fi : Dev nD → S4096.Idx → BitVec 32)

abbrev stP (d : Dev nD) (c : Fin 2) : sProp (MM F) := iprop((aLoc d ↦{qC c} fa d) ∗ (iLoc d ↦{qC c} fi d) ∗ ∃ f, oLoc d ↦[coreSet c]{fullShare} f)
abbrev dnP (d : Dev nD) (c : Fin 2) : sProp (MM F) := iprop((aLoc d ↦{qC c} fa d) ∗ (iLoc d ↦{qC c} fi d) ∗ oLoc d ↦[coreSet c]{fullShare} outG (fa d) (fi d))
abbrev goP (d : Dev nD) (c : Fin 2) (s : Fin 16) : sProp (MM F) := iprop((aLoc d ↦{qT c s} fa d) ∗ (iLoc d ↦{qT c s} fi d) ∗ ∃ f, oLoc d ↦[outSet c s]{fullShare} f)
abbrev tdP (d : Dev nD) (c : Fin 2) (s : Fin 16) : sProp (MM F) := iprop((aLoc d ↦{qT c s} fa d) ∗ (iLoc d ↦{qT c s} fi d) ∗ oLoc d ↦[outSet c s]{fullShare} outG (fa d) (fi d))

/-- The call takes a share of the features and of the words and half of the output to each core, and from there to each
    tile, and brings them back, the output's entries at the sums. -/
def P : (K (F := F)).Pay (nD := nD) (Val := Elt F) (Name := ℕ) (U := UU) where
  st := fun q d c => match q with | 0 => stP fa fi d (Fin.cast nCore_zero c)
  dn := fun q d c => match q with | 0 => dnP fa fi d (Fin.cast nCore_zero c)
  go := fun q d c i => match q with | 0 => goP fa fi d (Fin.cast nCore_zero c) (Fin.cast nSub_zero i)
  td := fun q d c i => match q with | 0 => tdP fa fi d (Fin.cast nCore_zero c) (Fin.cast nSub_zero i)
  x := fun _ _ => iprop(emp)

instance P_storable : (P (F := F) fa fi).IsStorable where
  st q d c := match q with
    | 0 => (inferInstance : BI.Storable (upEmb : UEmb _ (MM F)) (stP fa fi d (Fin.cast nCore_zero c)))
  dn q d c := match q with
    | 0 => (inferInstance : BI.Storable (upEmb : UEmb _ (MM F)) (dnP fa fi d (Fin.cast nCore_zero c)))
  go q d c i := match q with
    | 0 => (inferInstance : BI.Storable (upEmb : UEmb _ (MM F)) (goP fa fi d (Fin.cast nCore_zero c) (Fin.cast nSub_zero i)))
  td q d c i := match q with
    | 0 => (inferInstance : BI.Storable (upEmb : UEmb _ (MM F)) (tdP fa fi d (Fin.cast nCore_zero c) (Fin.cast nSub_zero i)))

/-! ## A tile -/

section Tile

variable (d : Dev nD) (c : Fin 2) (s : Fin 16)

abbrev th : Thread nD τ := tv d (coordsV c s)

abbrev b0 : Memref sig .scVector .vmem S32x384 .f32 := Memref.whole cc1_scratch0
abbrev b1 : Memref sig .scVector .vmem S32x384 .f32 := Memref.whole cc1_scratch1
abbrev b2 : Memref sig .scVector .vmem S256x384 .f32 := Memref.whole cc1_scratch2
abbrev b3 : Memref sig .scVector .vmem S512 .i32 := Memref.whole cc1_scratch3

abbrev cell4 : GSem nD τ sig := (th d c s, .dma cc1_scratch4.sem)
abbrev cell5 : GSem nD τ sig := (th d c s, .dma cc1_scratch5.sem)
abbrev cell6 : GSem nD τ sig := (th d c s, .dma cc1_scoped0.sem)
abbrev cell7 : GSem nD τ sig := (th d c s, .dma cc1_scoped1.sem)

theorem cell_ne {a b : SemLoc sig} (h : a ≠ b) : ((th d c s, a) : GSem nD τ sig) ≠ (th d c s, b) := fun e => h (congrArg Prod.snd e)

theorem ownSems0_V :
    (ownSems0 (th d c s) : sProp (MM F))
      = iprop(semVal (cell4 d c s) 0 ∗ semVal (cell5 d c s) 0 ∗ semVal (cell6 d c s) 0 ∗ semVal (cell7 d c s) 0
          ∗ bigSep (((((ownCells (th d c s)).erase (cell4 d c s)).erase (cell5 d c s)).erase (cell6 d c s)).erase (cell7 d c s)) fun g => semVal g 0) := by
  have m4 : cell4 d c s ∈ ownCells (th d c s) := mem_ownCells.mpr ⟨rfl, by show (SemLoc.dma cc1_scratch4.sem : SemLoc sig).isScoped .scVector = true; decide⟩
  have m5 : cell5 d c s ∈ ownCells (th d c s) := mem_ownCells.mpr ⟨rfl, by show (SemLoc.dma cc1_scratch5.sem : SemLoc sig).isScoped .scVector = true; decide⟩
  have m6 : cell6 d c s ∈ ownCells (th d c s) := mem_ownCells.mpr ⟨rfl, by show (SemLoc.dma cc1_scoped0.sem : SemLoc sig).isScoped .scVector = true; decide⟩
  have m7 : cell7 d c s ∈ ownCells (th d c s) := mem_ownCells.mpr ⟨rfl, by show (SemLoc.dma cc1_scoped1.sem : SemLoc sig).isScoped .scVector = true; decide⟩
  have n54 : cell5 d c s ≠ cell4 d c s := cell_ne d c s (by decide)
  have n64 : cell6 d c s ≠ cell4 d c s := cell_ne d c s (by decide)
  have n65 : cell6 d c s ≠ cell5 d c s := cell_ne d c s (by decide)
  have n74 : cell7 d c s ≠ cell4 d c s := cell_ne d c s (by decide)
  have n75 : cell7 d c s ≠ cell5 d c s := cell_ne d c s (by decide)
  have n76 : cell7 d c s ≠ cell6 d c s := cell_ne d c s (by decide)
  unfold SparseCore.Cfg.ownSems0
  rw [SparseCore.bigSep_erase' m4, SparseCore.bigSep_erase' (Finset.mem_erase.mpr ⟨n54, m5⟩),
    SparseCore.bigSep_erase' (Finset.mem_erase.mpr ⟨n65, Finset.mem_erase.mpr ⟨n64, m6⟩⟩),
    SparseCore.bigSep_erase' (Finset.mem_erase.mpr ⟨n76, Finset.mem_erase.mpr ⟨n75, Finset.mem_erase.mpr ⟨n74, m7⟩⟩⟩)]

abbrev refOf (b : Ref sig .scVector) : DevRef τ sig := (th d c s).2.devRef b

theorem ref_ne {a b : Ref sig .scVector} (h : a ≠ b) : refOf d c s a ≠ refOf d c s b := fun e => h (Proc.devRef_injective _ e)

theorem ownBufs_V :
    (ownBufs (th d c s) : sProp (MM F))
      = iprop((∃ f, (b0).view.loc (th d c s) ↦{fullShare} f) ∗ (∃ f, (b1).view.loc (th d c s) ↦{fullShare} f)
          ∗ (∃ f, (b2).view.loc (th d c s) ↦{fullShare} f) ∗ (∃ f, (b3).view.loc (th d c s) ↦{fullShare} f)
          ∗ bigSep (((((ownRefs (τ := τ) (th d c s).2).erase (refOf d c s cc1_scratch0)).erase (refOf d c s cc1_scratch1)).erase (refOf d c s cc1_scratch2)).erase (refOf d c s cc1_scratch3))
              fun b => iprop(∃ f, ((d, b) : Loc nD τ sig) ↦{fullShare} f)) := by
  have m0 : refOf d c s cc1_scratch0 ∈ ownRefs (τ := τ) (th d c s).2 := SparseCore.Cfg.mem_ownRefs_of_owner (p := (th d c s).2) rfl
  have m1 : refOf d c s cc1_scratch1 ∈ ownRefs (τ := τ) (th d c s).2 := SparseCore.Cfg.mem_ownRefs_of_owner (p := (th d c s).2) rfl
  have m2 : refOf d c s cc1_scratch2 ∈ ownRefs (τ := τ) (th d c s).2 := SparseCore.Cfg.mem_ownRefs_of_owner (p := (th d c s).2) rfl
  have m3 : refOf d c s cc1_scratch3 ∈ ownRefs (τ := τ) (th d c s).2 := SparseCore.Cfg.mem_ownRefs_of_owner (p := (th d c s).2) rfl
  have n10 : refOf d c s cc1_scratch1 ≠ refOf d c s cc1_scratch0 := ref_ne d c s (by decide)
  have n20 : refOf d c s cc1_scratch2 ≠ refOf d c s cc1_scratch0 := ref_ne d c s (by decide)
  have n21 : refOf d c s cc1_scratch2 ≠ refOf d c s cc1_scratch1 := ref_ne d c s (by decide)
  have n30 : refOf d c s cc1_scratch3 ≠ refOf d c s cc1_scratch0 := ref_ne d c s (by decide)
  have n31 : refOf d c s cc1_scratch3 ≠ refOf d c s cc1_scratch1 := ref_ne d c s (by decide)
  have n32 : refOf d c s cc1_scratch3 ≠ refOf d c s cc1_scratch2 := ref_ne d c s (by decide)
  unfold SparseCore.Cfg.ownBufs
  refine (SparseCore.bigSep_erase' m0).trans ?_
  rw [SparseCore.bigSep_erase' (Finset.mem_erase.mpr ⟨n10, m1⟩),
    SparseCore.bigSep_erase' (Finset.mem_erase.mpr ⟨n21, Finset.mem_erase.mpr ⟨n20, m2⟩⟩),
    SparseCore.bigSep_erase' (Finset.mem_erase.mpr ⟨n32, Finset.mem_erase.mpr ⟨n31, Finset.mem_erase.mpr ⟨n30, m3⟩⟩⟩)]

/-- A tile's run, from its part of the call's operands to its part of the results. -/
theorem tile_body (hw : ∀ y, (fi d y).toNat < 256) (O : CellTallies nD τ sig (HIx 1)) (W : Waits sig (HIx 1)) (hO : ∀ g, O g none = 0) :
    iprop(levAts (K (F := F)).L (K (F := F)).lev ∗ emp ∗ goP fa fi d c s
        ∗ scopedBufs (th d c s) ∗ scopedSems0 (th d c s) ∗ owes (th d c s) O W)
      ⊢ (wp frame (wpE (defs₀ (F := F)) 𝒱₀ (th d c s) none) Set.univ
          (cc1__sc_segsum (coordsV c s) aV (Memref.isWhole_whole _) iV (Memref.isWhole_whole _) oV (Memref.isWhole_whole _)
            b0 (Memref.isWhole_whole _) b1 (Memref.isWhole_whole _) b2 (Memref.isWhole_whole _) b3 (Memref.isWhole_whole _)
            cc1_scratch4 cc1_scratch5 cc1_scoped0 cc1_scoped1)
          fun _ => iprop(tdP fa fi d c s ∗ scopedBufs (th d c s) ∗ scopedSems0 (th d c s)
            ∗ ∃ W', ⌜∀ p ∈ W', p ∈ W ∨ p.2 = none⌝ ∗ owes (th d c s) O W') : sProp (MM F)) := by
  rw [segsum_eq]
  by_cases hs : s.val < 8
  · rw [(K (F := F)).scopedBufs_V facts d _ _, SparseCore.Cfg.scopedSems0_V (Val := Elt F) d _ _, ownSems0_V, ownBufs_V]
    iintro ⟨#Hlv, -, ⟨Ha, Hi, Ho⟩, ⟨H0, H1, H2, H3, Hbufs⟩, ⟨S4, S5, S6, S7, Hsems⟩, HO⟩
    ihave Hmw := (show levAts (K (F := F)).L (K (F := F)).lev ⊢ Transfers.MayWaits (th d c s) (none : HIx 1) O from
      (K (F := F)).mayWaits_none (thr := th d c s) hO) $$ Hlv
    iapply (wp_wand_r frame _ _)
    isplitl [Hmw Ha Hi Ho H0 H1 H2 H3 S4 S5 S6 S7 HO]
    · iapply (wp_active d c s hs (fa d) (fi d) hw b0 (Memref.isWhole_whole _) b1 (Memref.isWhole_whole _) b2 (Memref.isWhole_whole _) b3 (Memref.isWhole_whole _)
        cc1_scratch4 cc1_scratch5 cc1_scoped0 cc1_scoped1 (qT c s) (qT c s) (by decide) (by decide) (by decide) O W)
      isplitl [Hmw]; · iexact Hmw
      isplitl [Ha]; · iexact Ha
      isplitl [Hi]; · iexact Hi
      isplitl [Ho]; · iexact Ho
      isplitl [H0]; · iexact H0
      isplitl [H1]; · iexact H1
      isplitl [H2]; · iexact H2
      isplitl [H3]; · iexact H3
      isplitl [S4]; · iexact S4
      isplitl [S5]; · iexact S5
      isplitl [S6]; · iexact S6
      isplitl [S7]; · iexact S7
      iexists W
      isplitr
      · ipureintro; exact fun p hp => .inl hp
      · iexact HO
    iintro %_ ⟨Ha, Hi, Ho, H0, H1, H2, H3, S4, S5, S6, S7, HO⟩
    isplitl [Ha Hi Ho]
    · isplitl [Ha]; · iexact Ha
      isplitl [Hi]; · iexact Hi
      iexact Ho
    isplitl [H0 H1 H2 H3 Hbufs]
    · isplitl [H0]; · iexact H0
      isplitl [H1]; · iexact H1
      isplitl [H2]; · iexact H2
      isplitl [H3]; · iexact H3
      iexact Hbufs
    isplitl [S4 S5 S6 S7 Hsems]
    · isplitl [S4]; · iexact S4
      isplitl [S5]; · iexact S5
      isplitl [S6]; · iexact S6
      isplitl [S7]; · iexact S7
      iexact Hsems
    iexact HO
  · have h1 : ¬ k1_cond1 (coordsV c s) = 1#1 := mt (cond1_iff c s).mp hs
    have e : segsum (F := F) (coordsV c s) aV iV oV b0 (Memref.isWhole_whole _) b1 (Memref.isWhole_whole _) b2 (Memref.isWhole_whole _) b3 (Memref.isWhole_whole _)
        cc1_scratch4 cc1_scratch5 cc1_scoped0 cc1_scoped1 = _ := dif_neg h1
    rw [e]
    iintro ⟨-, -, ⟨Ha, Hi, %f, Ho⟩, Hb, Hs, HO⟩
    iapply (wp_done d c s _)
    isplitl [Ha Hi Ho]
    · isplitl [Ha]; · iexact Ha
      isplitl [Hi]; · iexact Hi
      iapply (Entails.of_eq (pointsTo_congr (ℓ := oLoc d) (I := outSet c s) (q := fullShare) (f := f) (g := outG (fa d) (fi d))
        (fun y hy => absurd hy (by rw [outSet_empty c s hs]; exact Finset.notMem_empty y)))); iexact Ho
    isplitl [Hb]; · iexact Hb
    isplitl [Hs]; · iexact Hs
    iexists W
    isplitr
    · ipureintro; exact fun p hp => .inl hp
    · iexact HO

end Tile

theorem obl_post {thr : Thread nD τ} {A B C : sProp (MM F)} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem defs₀_vector (c : Fin τ.nSC) (s : Fin τ.nSub) :
    defs₀ (F := F) (.scVector c s) 1 ()
      = SparseCore.onTile hcore1 hsub1 (fun c s => cc1__sc_segsum (coordsV c s) aV (Memref.isWhole_whole _) iV (Memref.isWhole_whole _) oV (Memref.isWhole_whole _)
            b0 (Memref.isWhole_whole _) b1 (Memref.isWhole_whole _) b2 (Memref.isWhole_whole _) b3 (Memref.isWhole_whole _)
            cc1_scratch4 cc1_scratch5 cc1_scoped0 cc1_scoped1) ⟨⟩ c s := rfl

theorem tileObl (hw : ∀ d y, (fi d y).toNat < 256) : (K (F := F)).TileObl (D (F := F)) 𝒱 (P fa fi) v₀ 0 := by
  intro d c i O W hO _ _
  simp only [show (P fa fi).ox = fun _ _ => 0 from rfl, add_zero]
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body fa fi d (⟨_, hci.1⟩ : Fin 2) (⟨_, hci.2⟩ : Fin 16) (hw d) O W hO).trans (wp_mono frame _ _ fun _ => obl_post)

/-! ## The operands dealt and joined -/

theorem outSet_disjoint (c : Fin 2) : ∀ i ∈ (Finset.univ : Finset (Fin 16)), ∀ j ∈ (Finset.univ : Finset (Fin 16)), i ≠ j → Disjoint (outSet c i) (outSet c j) := by
  intro i _ j _ h
  refine Finset.disjoint_left.mpr fun y hi hj => h (Fin.ext ?_)
  exact (Finset.mem_filter.mp hi).2.1.symm.trans (Finset.mem_filter.mp hj).2.1

theorem outSet_cover (c : Fin 2) : (Finset.univ : Finset (Fin 16)).biUnion (outSet c) = coreSet c := by
  ext y
  have h0 : (y 0).val < 2048 := (y 0).isLt
  simp only [Finset.mem_biUnion, Finset.mem_univ, true_and, outSet, coreSet, Finset.mem_filter]
  exact ⟨fun ⟨_, _, h⟩ => h, fun h => ⟨⟨(y 0).val / 256, by omega⟩, rfl, h⟩⟩

theorem coreSet_disjoint : ∀ i ∈ (Finset.univ : Finset (Fin 2)), ∀ j ∈ (Finset.univ : Finset (Fin 2)), i ≠ j → Disjoint (coreSet i) (coreSet j) := by
  intro i _ j _ h
  refine Finset.disjoint_left.mpr fun y hi hj => h (Fin.ext ?_)
  exact (Finset.mem_filter.mp hi).2.symm.trans (Finset.mem_filter.mp hj).2

theorem coreSet_cover : (Finset.univ : Finset (Fin 2)).biUnion coreSet = Finset.univ := by
  ext y
  have h1 : (y 1).val < 768 := (y 1).isLt
  simp only [Finset.mem_biUnion, Finset.mem_univ, true_and, coreSet, Finset.mem_filter, iff_true]
  exact ⟨⟨(y 1).val / 384, by omega⟩, rfl⟩

theorem bigSep_tiles (Φ : Fin 16 → sProp (MM F)) :
    (bigSep Finset.univ fun i : Fin ((K (F := F)).nSub 0) => Φ (Fin.cast nSub_zero i)) = bigSep Finset.univ Φ :=
  bigSep_congr fun _ _ => congrArg Φ (Fin.ext rfl)

theorem bigSep_cores (Φ : Fin 2 → sProp (MM F)) :
    (bigSep Finset.univ fun i : Fin ((K (F := F)).nCore 0) => Φ (Fin.cast nCore_zero i)) = bigSep Finset.univ Φ :=
  bigSep_congr fun _ _ => congrArg Φ (Fin.ext rfl)

theorem out_tiles (d : Dev nD) (c : Fin 2) (f : Buf (Elt F) (oLoc d)) :
    (oLoc d ↦[coreSet c]{fullShare} f : sProp (MM F)) = bigSep Finset.univ fun i : Fin 16 => oLoc d ↦[outSet c i]{fullShare} f := by
  rw [← pointsTo_biUnion Finset.univ (ℓ := oLoc d) (outSet c) (outSet_disjoint c), outSet_cover]

theorem out_cores (d : Dev nD) (f : Buf (Elt F) (oLoc d)) :
    (oLoc d ↦{fullShare} f : sProp (MM F)) = bigSep Finset.univ fun c : Fin 2 => oLoc d ↦[coreSet c]{fullShare} f := by
  rw [← pointsTo_biUnion Finset.univ (ℓ := oLoc d) coreSet coreSet_disjoint, coreSet_cover]

theorem read_tiles (ℓ : Loc nD τ sig) (c : Fin 2) (f : Buf (Elt F) ℓ) :
    (ℓ ↦{qC c} f : sProp (MM F)) = bigSep Finset.univ fun i : Fin 16 => ℓ ↦{qT c i} f :=
  Transfers.pointsTo_deal (Finset.univ : Finset (Fin 16)) Finset.univ_nonempty (qC c)

theorem read_cores (ℓ : Loc nD τ sig) (f : Buf (Elt F) ℓ) :
    (ℓ ↦{fullShare} f : sProp (MM F)) = bigSep Finset.univ fun c : Fin 2 => ℓ ↦{qC c} f :=
  Transfers.pointsTo_deal (Finset.univ : Finset (Fin 2)) Finset.univ_nonempty fullShare

theorem some_tiles (d : Dev nD) (c : Fin 2) (f : Buf (Elt F) (oLoc d)) :
    (oLoc d ↦[coreSet c]{fullShare} f : sProp (MM F)) ⊢ bigSep Finset.univ fun i : Fin 16 => iprop(∃ f, oLoc d ↦[outSet c i]{fullShare} f) := by
  rw [out_tiles d c f]
  have h : ∀ i, (oLoc d ↦[outSet c i]{fullShare} f : sProp (MM F)) ⊢ iprop(∃ f, oLoc d ↦[outSet c i]{fullShare} f) := fun i => by
    iintro H; iexists f; iexact H
  exact bigSep_mono fun i _ => h i

theorem some_cores (d : Dev nD) (f : Buf (Elt F) (oLoc d)) :
    (oLoc d ↦{fullShare} f : sProp (MM F)) ⊢ bigSep Finset.univ fun c : Fin 2 => iprop(∃ f, oLoc d ↦[coreSet c]{fullShare} f) := by
  rw [out_cores d f]
  have h : ∀ i, (oLoc d ↦[coreSet i]{fullShare} f : sProp (MM F)) ⊢ iprop(∃ f, oLoc d ↦[coreSet i]{fullShare} f) := fun i => by
    iintro H; iexists f; iexact H
  exact bigSep_mono fun i _ => h i

theorem vecSplit : (K (F := F)).VecSplit' (P fa fi) 0 := by
  intro d c
  show stP fa fi d (Fin.cast nCore_zero c) ⊢ |={Set.univ}=> iprop(
      (bigSep Finset.univ fun i : Fin ((K (F := F)).nSub 0) => goP fa fi d (Fin.cast nCore_zero c) (Fin.cast nSub_zero i))
      ∗ ((bigSep Finset.univ fun i : Fin ((K (F := F)).nSub 0) => tdP fa fi d (Fin.cast nCore_zero c) (Fin.cast nSub_zero i))
          -∗ dnP fa fi d (Fin.cast nCore_zero c)))
  generalize Fin.cast nCore_zero c = c'
  rw [bigSep_tiles (F := F) (fun i => goP fa fi d c' i), bigSep_tiles (F := F) (fun i => tdP fa fi d c' i), bigSep_sep', bigSep_sep', bigSep_sep', bigSep_sep']
  unfold stP dnP
  rw [read_tiles (aLoc d) c', read_tiles (iLoc d) c', out_tiles d c' (outG (fa d) (fi d))]
  iintro ⟨Ha, Hi, %f, Ho⟩
  imodintro
  isplitl [Ha Hi Ho]
  · isplitl [Ha]; · iexact Ha
    isplitl [Hi]; · iexact Hi
    iapply (some_tiles d c' f); iexact Ho
  iintro ⟨Ha, Hi, Ho⟩
  isplitl [Ha]; · iexact Ha
  isplitl [Hi]; · iexact Hi
  iexact Ho

/-- The call's operands, dealt to the cores. -/
theorem st_cores (d : Dev nD) :
    iprop((aLoc d ↦{fullShare} fa d) ∗ (iLoc d ↦{fullShare} fi d) ∗ ∃ f, oLoc d ↦{fullShare} f)
      ⊢ (bigSep Finset.univ fun c : Fin ((K (F := F)).nCore 0) => (P fa fi).st 0 d c : sProp (MM F)) := by
  show _ ⊢ bigSep Finset.univ fun c : Fin ((K (F := F)).nCore 0) => stP fa fi d (Fin.cast nCore_zero c)
  rw [bigSep_cores (F := F) (fun c => stP fa fi d c), bigSep_sep', bigSep_sep', read_cores (aLoc d), read_cores (iLoc d)]
  iintro ⟨Ha, Hi, %f, Ho⟩
  isplitl [Ha]; · iexact Ha
  isplitl [Hi]; · iexact Hi
  iapply (some_cores d f); iexact Ho

/-- Its results, joined. -/
theorem dn_cores (d : Dev nD) :
    (bigSep Finset.univ fun c : Fin ((K (F := F)).nCore 0) => (P fa fi).dn 0 d c : sProp (MM F))
      ⊢ iprop((aLoc d ↦{fullShare} fa d) ∗ (iLoc d ↦{fullShare} fi d) ∗ oLoc d ↦{fullShare} outG (fa d) (fi d)) := by
  show (bigSep Finset.univ fun c : Fin ((K (F := F)).nCore 0) => dnP fa fi d (Fin.cast nCore_zero c)) ⊢ _
  rw [bigSep_cores (F := F) (fun c => dnP fa fi d c), bigSep_sep', bigSep_sep', read_cores (aLoc d), read_cores (iLoc d), out_cores d (outG (fa d) (fi d))]

end Cert.Proof.Launch

end
-- ==== Proof.Mix.lean ====
/-
  The first TensorCore call, which mixes the layers: its body's run, and its proof data from any contents of the arrays.
-/
module

public import proofs.«01_k».proof.Proof.Obl
public import proofs.«01_k».proof.Proof.Gen.KernelIdeal.Points
public import proofs.«01_k».proof.Proof.Gen.KernelIdeal.Launch
public import Idealize.ShloMosaic.Lib.Pipeline.FrameBody
public import Idealize.ShloMosaic.Lib.Ring
public import Idealize.ShloMosaic.Lib.WordCmp

@[expose] public section

set_option maxRecDepth 16384

noncomputable section

namespace Cert.Proof.Launch

open Cert.KernelIdeal Cert.KernelIdeal.Gen Cert.Proof.Model Cert.Proof.Rows
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.Cfg (HIx)
open Idealize.ShloMosaic.Tactic
open Idealize.ShloMosaic.Pipeline (Dat BodyObligation)

variable {F : FTy → Type} [FloatOps F]

/-! ## The body's run -/

set_option maxHeartbeats 1000000 in
/-- The pieces that the body's stores leave in the output's staging buffer, the last first, with the proof that from its
    three staging buffers held whole the body runs to the inputs' as they were and the output's with those pieces written. -/
noncomputable def mixRun (c : Dev nD) (i : grid0.Coords) (arg2 : Memref sig .tc .vmem S1x13 .f32) (harg2 : arg2.IsWhole)
    (arg3 : Memref sig .tc .vmem S1x13x256x768 .f32) (harg3 : arg3.IsWhole) (arg4 : Memref sig .tc .vmem S2x1x256x384 .f32) (harg4 : arg4.IsWhole)
    (w : Vec F S1x13 .f32) (X : Vec F S1x13x256x768 .f32) :
    { L : List (View.Piece (Elt F) S2x1x256x384 .f32) // ∀ (E : Set ℕ) (Q : PUnit → sProp (MM F)),
    iprop(owns (c : Thread nD τ) arg2 fullShare w ∗ owns (c : Thread nD τ) arg3 fullShare X ∗ (∃ d, owns (c : Thread nD τ) arg4 fullShare d)
        ∗ (iprop(owns (c : Thread nD τ) arg2 fullShare w ∗ owns (c : Thread nD τ) arg3 fullShare X
            ∗ (∃ f, arg4.view.loc (c : Thread nD τ) ↦[arg4.view.set]{fullShare} arg4.view.writes (Elt F) f L)) -∗ Q ⟨⟩))
      ⊢ wp frame (wpE (defs₀ (F := F)) 𝒱₀ (c : Thread nD τ) none) E (cc0__mix_body i arg2 harg2 arg3 harg3 arg4 harg4) Q } := by
  refine ⟨?_, fun E Q => ?run⟩
  case run =>
    simp only [cc0__mix_body_eq_skeleton]; unfold cc0__mix_body_skel
    simp only [k0_part1_eq_skeleton, k0_part2_eq_skeleton, k0_part3_eq_skeleton]
    unfold owns
    iintro ⟨⟨%f0, %hf0, H0⟩, ⟨%f1, %hf1, H1⟩, ⟨%d2, %f2, -, H2⟩, Hk⟩
    obtain rfl := harg2.eq_unread hf0; obtain rfl := harg3.eq_unread hf1
    sl_exec
    sl_step
    iapply Hk
    isplitl [H0]
    · iexists _; isplitr; · ipureintro; exact harg2.read_unread _
      iexact H0
    isplitl [H1]
    · iexists _; isplitr; · ipureintro; exact harg3.read_unread _
      iexact H1
    iexists _; iexact H2

/-- The two stores tile the output's block. -/
theorem mix_cover (c : Dev nD) (i : grid0.Coords) (arg2 : Memref sig .tc .vmem S1x13 .f32) (harg2 : arg2.IsWhole)
    (arg3 : Memref sig .tc .vmem S1x13x256x768 .f32) (harg3 : arg3.IsWhole) (arg4 : Memref sig .tc .vmem S2x1x256x384 .f32) (harg4 : arg4.IsWhole)
    (w : Vec F S1x13 .f32) (X : Vec F S1x13x256x768 .f32) (y : S2x1x256x384.Idx) :
    ∃ pc ∈ (mixRun c i arg2 harg2 arg3 harg3 arg4 harg4 w X).1, y ∈ pc.1.set :=
  View.cover_of_tiledL (mixRun c i arg2 harg2 arg3 harg3 arg4 harg4 w X).1 S1x1x256x384.size (by sl_kernel_rfl) y

/-- One staging buffer of the output, through which its contents are stated. -/
abbrev mixView : View sig .tc .vmem S2x1x256x384 .f32 := (Memref.whole cc0_stg2_0 : Memref sig .tc .vmem S2x1x256x384 .f32).view

/-- What the body leaves in the output's staging buffer. -/
def mixOut (c : Dev nD) (i : grid0.Coords) (arg2 : Memref sig .tc .vmem S1x13 .f32) (harg2 : arg2.IsWhole)
    (arg3 : Memref sig .tc .vmem S1x13x256x768 .f32) (harg3 : arg3.IsWhole) (arg4 : Memref sig .tc .vmem S2x1x256x384 .f32) (harg4 : arg4.IsWhole)
    (w : Vec F S1x13 .f32) (X : Vec F S1x13x256x768 .f32) : Vec F S2x1x256x384 .f32 :=
  mixView.read (Elt F) (mixView.writes (Elt F) mixView.junk (mixRun c i arg2 harg2 arg3 harg3 arg4 harg4 w X).1)

/-! ## The proof data -/

-- What every array holds when the call is met: one valuation per device.
variable (Vv : Dev nD → Valuation τ sig (Elt F))

/-- The staging memrefs at a point. -/
abbrev ms0_0 (t : Fin cfg0.N) : Memref sig .tc .vmem S1x13 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x13x256x768 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2x1x256x384 .f32 := win0_2.stage (cfg0.slots t 2)
abbrev hs0_2 (t : Fin cfg0.N) : (ms0_2 t).IsWhole := hstage0_2 ((cfg0.slots t 2).cast nbuf0_2)

/-- Each window's block at a point, off the array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (Vv c (Proc.devRef .tc (Pipeline.arrRef spec0 w)))

/-- What the body leaves in the output's staging buffer at a point. -/
def outsAt0 (c : Dev nD) (t : Fin cfg0.N) : Vec F S2x1x256x384 .f32 :=
  mixOut c (grid0.coords t) (ms0_0 t) (hs0_0 t) (ms0_1 t) (hs0_1 t) (ms0_2 t) (hs0_2 t) (iblk0 Vv c 0 t) (iblk0 Vv c 1 t)

/-- The proof data of the call while the core still owes the starts of the SparseCore calls from `n` on. -/
def dat0 (n : ℕ) (c : Dev nD) : Dat τ (Elt F) (HIx 1) ℕ UU ℕ cfg0 c where
  A w := Vv c (Proc.devRef .tc (Pipeline.arrRef spec0 w))
  after w t := match w with
    | ⟨0, _⟩ => iblk0 Vv c 0 t
    | ⟨1, _⟩ => iblk0 Vv c 1 t
    | ⟨2, _⟩ => outsAt0 Vv c t
  Φ _ := Pipeline.scopedRest spec0 c
  q _ := fullShare
  owed _ := (K (F := F)).Otc c n
  recorded _ := { p | (K (F := F)).lev ((c : Thread nD τ), p.1) p.2 ≤ 8 * n }

theorem A0_eq (n : ℕ) (c : Dev nD) (w : Fin cfg0.W) : (dat0 Vv n c).A w = Vv c (Proc.devRef .tc (Pipeline.arrRef spec0 w)) := by
  dsimp only [dat0]
theorem after0_0 (n : ℕ) (c : Dev nD) (t : Fin cfg0.N) : (dat0 Vv n c).after 0 t = iblk0 Vv c 0 t := by dsimp only [dat0]
theorem after0_1 (n : ℕ) (c : Dev nD) (t : Fin cfg0.N) : (dat0 Vv n c).after 1 t = iblk0 Vv c 1 t := by dsimp only [dat0]
theorem after0_2 (n : ℕ) (c : Dev nD) (t : Fin cfg0.N) : (dat0 Vv n c).after 2 t = outsAt0 Vv c t := by dsimp only [dat0]

/-- An input's staging buffer holds its block at every point. -/
theorem before0_0 (n : ℕ) (c : Dev nD) (t : Fin cfg0.N) (d) : (dat0 Vv n c).before 0 t d = iblk0 Vv c 0 t :=
  ((dat0 Vv n c).before_in_eq_fetched 0 rfl (fun _ => rfl) (fun _ _ _ => rfl)
    (fun t => by rw [after0_0]; unfold Dat.blockOf iblk0; rw [A0_eq]; try rfl) t d).trans (by unfold Dat.fetched Dat.blockOf iblk0; rw [A0_eq]; try rfl)
theorem before0_1 (n : ℕ) (c : Dev nD) (t : Fin cfg0.N) (d) : (dat0 Vv n c).before 1 t d = iblk0 Vv c 1 t :=
  ((dat0 Vv n c).before_in_eq_fetched 1 rfl (fun _ => rfl) (fun _ _ _ => rfl)
    (fun t => by rw [after0_1]; unfold Dat.blockOf iblk0; rw [A0_eq]; try rfl) t d).trans (by unfold Dat.fetched Dat.blockOf iblk0; rw [A0_eq]; try rfl)

/-- The body at a point, from the staging buffers as the call hands them over. -/
theorem sound0 (n : ℕ) (c : Dev nD) (t : Fin cfg0.N) :
    iprop((dat0 Vv n c).Φ t.castSucc ∗ (dat0 Vv n c).owesAt none t.castSucc
        ∗ (∃ d, owns (c : Thread nD τ) (ms0_0 t) fullShare ((dat0 Vv n c).before 0 t d))
        ∗ (∃ d, owns (c : Thread nD τ) (ms0_1 t) fullShare ((dat0 Vv n c).before 1 t d))
        ∗ (∃ d, owns (c : Thread nD τ) (ms0_2 t) fullShare ((dat0 Vv n c).before 2 t d)))
      ⊢ wp frame (wpE (defs₀ (F := F)) 𝒱₀ (c : Thread nD τ) none) Set.univ (bodyAt0 t)
          fun _ => iprop((dat0 Vv n c).Φ t.succ ∗ (dat0 Vv n c).owesAt none t.succ
            ∗ owns (c : Thread nD τ) (ms0_0 t) fullShare ((dat0 Vv n c).after 0 t)
            ∗ owns (c : Thread nD τ) (ms0_1 t) fullShare ((dat0 Vv n c).after 1 t)
            ∗ owns (c : Thread nD τ) (ms0_2 t) fullShare ((dat0 Vv n c).after 2 t)) := by
  unfold bodyAt0
  simp only [before0_0, before0_1]
  rw [show (dat0 Vv n c).Φ t.succ = (dat0 Vv n c).Φ t.castSucc from rfl,
    show (dat0 Vv n c).owesAt none t.succ = (dat0 Vv n c).owesAt none t.castSucc from rfl, after0_0, after0_1, after0_2]
  unfold outsAt0 mixOut
  iintro ⟨HΦ, Ho, ⟨%d0, H0⟩, ⟨%d1, H1⟩, ⟨%d2, H2⟩⟩
  iapply ((mixRun c (grid0.coords t) _ _ _ _ _ _ (iblk0 Vv c 0 t) (iblk0 Vv c 1 t)).2 Set.univ _)
  isplitl [H0]; · iexact H0
  isplitl [H1]; · iexact H1
  isplitl [H2]; · iexists _; iexact H2
  iintro ⟨H0, H1, ⟨%e2, H2⟩⟩
  isplitl [HΦ]; · iexact HΦ
  isplitl [Ho]; · iexact Ho
  isplitl [H0]; · iexact H0
  isplitl [H1]; · iexact H1
  unfold owns; iexists _; isplitr
  swap; · iexact H2
  ipureintro; exact View.read_writes_of_cover _ _ _ _ _ (mix_cover c _ _ _ _ _ _ _ _ _)

theorem row0 (t : Fin cfg0.N) : defs₀ (F := F) .tc cfg0.body (cfg0.bodyArgs t (cfg0.slots t)) = bodyAt0 t := rfl

theorem obl0 (n : ℕ) (c : Dev nD) : BodyObligation (dat0 Vv n c) (defs₀ (F := F)) 𝒱₀ none Set.univ := fun t => by
  rw [bigSep_W0, bigSep_W0, row0]
  exact triple_restated (sound0 Vv n c t) rfl .rfl fun _ => .rfl

end Cert.Proof.Launch

end
-- ==== Proof.Fused.lean ====
/-
  The second TensorCore call, which mixes the layers and adds up its batches' words: its body's two runs, and its proof
  data from any contents of the arrays.
-/
module

public import proofs.«01_k».proof.Proof.Mix
public import proofs.«01_k».proof.Proof.Gen.KernelIdeal.Points
public import proofs.«01_k».proof.Proof.Gen.KernelIdeal.Launch
public import Idealize.ShloMosaic.Lib.Pipeline.FrameBody
public import Idealize.ShloMosaic.Lib.Ring
public import Idealize.ShloMosaic.Lib.WordCmp

@[expose] public section

set_option maxRecDepth 16384

noncomputable section

namespace Cert.Proof.Launch

open Cert.KernelIdeal Cert.KernelIdeal.Gen Cert.Proof.Model Cert.Proof.Rows
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.Cfg (HIx)
open Idealize.ShloMosaic.Tactic
open Idealize.ShloMosaic.Pipeline (Dat BodyObligation)

variable {F : FTy → Type} [FloatOps F]

/-! ## The body's runs -/

/-- The body's branch: the first block of a batch's positions. -/
abbrev first2 (i : grid2.Coords) : Prop := (Scalar.cmpi .ne (Scalar.extui (Scalar.cmpi .eq (BitVec.ofNat 32 (i 1).val) 0#32)) 0#32) = 1#1

/-- The branch is taken at the even points. -/
theorem first2_even (t : Fin cfg2.N) (h : t.val % 2 = 0) : first2 (grid2.coords t) := by
  have ht : t.val < 16 := Nat.lt_of_lt_of_eq t.isLt N_2
  have e1 : (grid2.coords t 1).val = t.val / 1 % 2 := Pipeline.Grid.coords_val t 1 (by decide) rfl
  simp only [first2, e1]
  word_cmp
theorem first2_odd (t : Fin cfg2.N) (h : ¬ t.val % 2 = 0) : ¬ first2 (grid2.coords t) := by
  have ht : t.val < 16 := Nat.lt_of_lt_of_eq t.isLt N_2
  have e1 : (grid2.coords t 1).val = t.val / 1 % 2 := Pipeline.Grid.coords_val t 1 (by decide) rfl
  simp only [first2, e1]
  word_cmp

set_option maxHeartbeats 1000000 in
/-- The pieces that the body leaves in the output's staging buffer at a batch's first block, whatever it held. -/
noncomputable def fusRunA (c : Dev nD) (i : grid2.Coords) (arg2 : Memref sig .tc .vmem S1x13 .f32) (harg2 : arg2.IsWhole) (arg3 : Memref sig .tc .vmem S1x1x256 .i32) (harg3 : arg3.IsWhole)
    (arg4 : Memref sig .tc .vmem S1x13x256x768 .f32) (harg4 : arg4.IsWhole) (arg5 : Memref sig .tc .vmem S1x256x768 .f32) (harg5 : arg5.IsWhole)
    (hc0 : first2 i) (w : Vec F S1x13 .f32) (I : Vec F S1x1x256 .i32) (X : Vec F S1x13x256x768 .f32) :
    { L : List (View.Piece (Elt F) S1x256x768 .f32) // ∀ (E : Set ℕ) (Q : PUnit → sProp (MM F)),
    iprop(owns (c : Thread nD τ) arg2 fullShare w ∗ owns (c : Thread nD τ) arg3 fullShare I ∗ owns (c : Thread nD τ) arg4 fullShare X
        ∗ (∃ d, owns (c : Thread nD τ) arg5 fullShare d)
        ∗ (iprop(owns (c : Thread nD τ) arg2 fullShare w ∗ owns (c : Thread nD τ) arg3 fullShare I ∗ owns (c : Thread nD τ) arg4 fullShare X
            ∗ (∃ f, arg5.view.loc (c : Thread nD τ) ↦[arg5.view.set]{fullShare} arg5.view.writes (Elt F) f L)) -∗ Q ⟨⟩))
      ⊢ wp frame (wpE (defs₀ (F := F)) 𝒱₀ (c : Thread nD τ) none) E (cc2__fused_body i arg2 harg2 arg3 harg3 arg4 harg4 arg5 harg5) Q } := by
  refine ⟨?_, fun E Q => ?run⟩
  case run =>
    simp only [cc2__fused_body_eq_skeleton]; unfold cc2__fused_body_skel
    simp only [k2_part1_eq_skeleton, k2_part2_eq_skeleton, k2_part3_eq_skeleton]
    unfold owns
    iintro ⟨⟨%f0, %hf0, H0⟩, ⟨%f1, %hf1, H1⟩, ⟨%f2, %hf2, H2⟩, ⟨%d3, %f3, -, H3⟩, Hk⟩
    obtain rfl := harg2.eq_unread hf0; obtain rfl := harg3.eq_unread hf1; obtain rfl := harg4.eq_unread hf2
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact H3

set_option maxHeartbeats 1000000 in
/-- The same at a batch's second block, where the body adds to what the buffer held. -/
noncomputable def fusRunB (c : Dev nD) (i : grid2.Coords) (arg2 : Memref sig .tc .vmem S1x13 .f32) (harg2 : arg2.IsWhole) (arg3 : Memref sig .tc .vmem S1x1x256 .i32) (harg3 : arg3.IsWhole)
    (arg4 : Memref sig .tc .vmem S1x13x256x768 .f32) (harg4 : arg4.IsWhole) (arg5 : Memref sig .tc .vmem S1x256x768 .f32) (harg5 : arg5.IsWhole)
    (hc0 : ¬ first2 i) (w : Vec F S1x13 .f32) (I : Vec F S1x1x256 .i32) (X : Vec F S1x13x256x768 .f32) (Y : Vec F S1x256x768 .f32) :
    { L : List (View.Piece (Elt F) S1x256x768 .f32) // ∀ (E : Set ℕ) (Q : PUnit → sProp (MM F)),
    iprop(owns (c : Thread nD τ) arg2 fullShare w ∗ owns (c : Thread nD τ) arg3 fullShare I ∗ owns (c : Thread nD τ) arg4 fullShare X
        ∗ owns (c : Thread nD τ) arg5 fullShare Y
        ∗ (iprop(owns (c : Thread nD τ) arg2 fullShare w ∗ owns (c : Thread nD τ) arg3 fullShare I ∗ owns (c : Thread nD τ) arg4 fullShare X
            ∗ (∃ f, arg5.view.loc (c : Thread nD τ) ↦[arg5.view.set]{fullShare} arg5.view.writes (Elt F) f L)) -∗ Q ⟨⟩))
      ⊢ wp frame (wpE (defs₀ (F := F)) 𝒱₀ (c : Thread nD τ) none) E (cc2__fused_body i arg2 harg2 arg3 harg3 arg4 harg4 arg5 harg5) Q } := by
  refine ⟨?_, fun E Q => ?run⟩
  case run =>
    simp only [cc2__fused_body_eq_skeleton]; unfold cc2__fused_body_skel
    simp only [k2_part1_eq_skeleton, k2_part2_eq_skeleton, k2_part3_eq_skeleton]
    unfold owns
    iintro ⟨⟨%f0, %hf0, H0⟩, ⟨%f1, %hf1, H1⟩, ⟨%f2, %hf2, H2⟩, ⟨%f3, %hf3, H3⟩, Hk⟩
    obtain rfl := harg2.eq_unread hf0; obtain rfl := harg3.eq_unread hf1; obtain rfl := harg4.eq_unread hf2; obtain rfl := harg5.eq_unread hf3
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact H3

/-- The stores of a batch's first block cover the output's block. -/
theorem fus_coverA (c : Dev nD) (i : grid2.Coords) (arg2 : Memref sig .tc .vmem S1x13 .f32) (harg2 : arg2.IsWhole) (arg3 : Memref sig .tc .vmem S1x1x256 .i32) (harg3 : arg3.IsWhole)
    (arg4 : Memref sig .tc .vmem S1x13x256x768 .f32) (harg4 : arg4.IsWhole) (arg5 : Memref sig .tc .vmem S1x256x768 .f32) (harg5 : arg5.IsWhole)
    (hc0 : first2 i) (w : Vec F S1x13 .f32) (I : Vec F S1x1x256 .i32) (X : Vec F S1x13x256x768 .f32) (y : S1x256x768.Idx) :
    ∃ pc ∈ (fusRunA c i arg2 harg2 arg3 harg3 arg4 harg4 arg5 harg5 hc0 w I X).1, y ∈ pc.1.set :=
  View.cover_of_tiledL (fusRunA c i arg2 harg2 arg3 harg3 arg4 harg4 arg5 harg5 hc0 w I X).1 S1x256x768.size (by sl_kernel_rfl) y

/-- So do those of its second. -/
theorem fus_coverB (c : Dev nD) (i : grid2.Coords) (arg2 : Memref sig .tc .vmem S1x13 .f32) (harg2 : arg2.IsWhole) (arg3 : Memref sig .tc .vmem S1x1x256 .i32) (harg3 : arg3.IsWhole)
    (arg4 : Memref sig .tc .vmem S1x13x256x768 .f32) (harg4 : arg4.IsWhole) (arg5 : Memref sig .tc .vmem S1x256x768 .f32) (harg5 : arg5.IsWhole)
    (hc0 : ¬ first2 i) (w : Vec F S1x13 .f32) (I : Vec F S1x1x256 .i32) (X : Vec F S1x13x256x768 .f32) (Y : Vec F S1x256x768 .f32) (y : S1x256x768.Idx) :
    ∃ pc ∈ (fusRunB c i arg2 harg2 arg3 harg3 arg4 harg4 arg5 harg5 hc0 w I X Y).1, y ∈ pc.1.set :=
  View.cover_of_tiledL (fusRunB c i arg2 harg2 arg3 harg3 arg4 harg4 arg5 harg5 hc0 w I X Y).1 S1x256x768.size (by sl_kernel_rfl) y

/-- One staging buffer of the output, through which its contents are stated. -/
abbrev fusView : View sig .tc .vmem S1x256x768 .f32 := (Memref.whole cc2_stg3_0 : Memref sig .tc .vmem S1x256x768 .f32).view

/-- What the body leaves in the output's staging buffer at a batch's first block. -/
def fusOutA (c : Dev nD) (i : grid2.Coords) (arg2 : Memref sig .tc .vmem S1x13 .f32) (harg2 : arg2.IsWhole) (arg3 : Memref sig .tc .vmem S1x1x256 .i32) (harg3 : arg3.IsWhole)
    (arg4 : Memref sig .tc .vmem S1x13x256x768 .f32) (harg4 : arg4.IsWhole) (arg5 : Memref sig .tc .vmem S1x256x768 .f32) (harg5 : arg5.IsWhole)
    (hc0 : first2 i) (w : Vec F S1x13 .f32) (I : Vec F S1x1x256 .i32) (X : Vec F S1x13x256x768 .f32) : Vec F S1x256x768 .f32 :=
  fusView.read (Elt F) (fusView.writes (Elt F) fusView.junk (fusRunA c i arg2 harg2 arg3 harg3 arg4 harg4 arg5 harg5 hc0 w I X).1)

/-- What it leaves there at a batch's second block, over `Y`. -/
def fusOutB (c : Dev nD) (i : grid2.Coords) (arg2 : Memref sig .tc .vmem S1x13 .f32) (harg2 : arg2.IsWhole) (arg3 : Memref sig .tc .vmem S1x1x256 .i32) (harg3 : arg3.IsWhole)
    (arg4 : Memref sig .tc .vmem S1x13x256x768 .f32) (harg4 : arg4.IsWhole) (arg5 : Memref sig .tc .vmem S1x256x768 .f32) (harg5 : arg5.IsWhole)
    (hc0 : ¬ first2 i) (w : Vec F S1x13 .f32) (I : Vec F S1x1x256 .i32) (X : Vec F S1x13x256x768 .f32) (Y : Vec F S1x256x768 .f32) : Vec F S1x256x768 .f32 :=
  fusView.read (Elt F) (fusView.writes (Elt F) fusView.junk (fusRunB c i arg2 harg2 arg3 harg3 arg4 harg4 arg5 harg5 hc0 w I X Y).1)

/-! ## The proof data -/

variable (Vv : Dev nD → Valuation τ sig (Elt F))

/-- The staging memrefs at a point. -/
abbrev ms2_0 (t : Fin cfg2.N) : Memref sig .tc .vmem S1x13 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1x1x256 .i32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x13x256x768 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1x256x768 .f32 := win2_3.stage (cfg2.slots t 3)
abbrev hs2_3 (t : Fin cfg2.N) : (ms2_3 t).IsWhole := hstage2_3 ((cfg2.slots t 3).cast nbuf2_3)

/-- Each window's block at a point, off the array as the call finds it. -/
def iblk2 (c : Dev nD) (w : Fin cfg2.W) (t : Fin cfg2.N) : ((cfg2.win w).xblock (cfg2.grid.coords t)).Idx → Elt F (cfg2.win w).elt :=
  ((cfg2.win w).blk t).view.read (Elt F) (Vv c (Proc.devRef .tc (Pipeline.arrRef spec2 w)))

/-- The point before. -/
abbrev prev2 (t : Fin cfg2.N) : Fin cfg2.N := ⟨t.val - 1, by have := t.isLt; omega⟩

/-- What the body leaves in the output's staging buffer at an even point, -/
def outA2 (c : Dev nD) (t : Fin cfg2.N) (h : t.val % 2 = 0) : Vec F S1x256x768 .f32 :=
  fusOutA c (grid2.coords t) (ms2_0 t) (hs2_0 t) (ms2_1 t) (hs2_1 t) (ms2_2 t) (hs2_2 t) (ms2_3 t) (hs2_3 t) (first2_even t h)
    (iblk2 Vv c 0 t) (iblk2 Vv c 1 t) (iblk2 Vv c 2 t)

/-- and at an odd one, over what the even one before it left. -/
def outB2 (c : Dev nD) (t : Fin cfg2.N) (h : ¬ t.val % 2 = 0) : Vec F S1x256x768 .f32 :=
  fusOutB c (grid2.coords t) (ms2_0 t) (hs2_0 t) (ms2_1 t) (hs2_1 t) (ms2_2 t) (hs2_2 t) (ms2_3 t) (hs2_3 t) (first2_odd t h)
    (iblk2 Vv c 0 t) (iblk2 Vv c 1 t) (iblk2 Vv c 2 t) (outA2 Vv c (prev2 t) (by show (t.val - 1) % 2 = 0; omega))

/-- What the body leaves in the output's staging buffer at a point. -/
def outsAt2 (c : Dev nD) (t : Fin cfg2.N) : Vec F S1x256x768 .f32 :=
  if h : t.val % 2 = 0 then outA2 Vv c t h else outB2 Vv c t h

/-- The proof data of the call while the core still owes the starts of the SparseCore calls from `n` on. -/
def dat2 (n : ℕ) (c : Dev nD) : Dat τ (Elt F) (HIx 1) ℕ UU ℕ cfg2 c where
  A w := Vv c (Proc.devRef .tc (Pipeline.arrRef spec2 w))
  after w t := match w with
    | ⟨0, _⟩ => iblk2 Vv c 0 t
    | ⟨1, _⟩ => iblk2 Vv c 1 t
    | ⟨2, _⟩ => iblk2 Vv c 2 t
    | ⟨3, _⟩ => outsAt2 Vv c t
  Φ _ := Pipeline.scopedRest spec2 c
  q _ := fullShare
  owed _ := (K (F := F)).Otc c n
  recorded _ := { p | (K (F := F)).lev ((c : Thread nD τ), p.1) p.2 ≤ 8 * n }

theorem A2_eq (n : ℕ) (c : Dev nD) (w : Fin cfg2.W) : (dat2 Vv n c).A w = Vv c (Proc.devRef .tc (Pipeline.arrRef spec2 w)) := by
  dsimp only [dat2]
theorem after2_0 (n : ℕ) (c : Dev nD) (t : Fin cfg2.N) : (dat2 Vv n c).after 0 t = iblk2 Vv c 0 t := by dsimp only [dat2]
theorem after2_1 (n : ℕ) (c : Dev nD) (t : Fin cfg2.N) : (dat2 Vv n c).after 1 t = iblk2 Vv c 1 t := by dsimp only [dat2]
theorem after2_2 (n : ℕ) (c : Dev nD) (t : Fin cfg2.N) : (dat2 Vv n c).after 2 t = iblk2 Vv c 2 t := by dsimp only [dat2]
theorem after2_3 (n : ℕ) (c : Dev nD) (t : Fin cfg2.N) : (dat2 Vv n c).after 3 t = outsAt2 Vv c t := by dsimp only [dat2]

/-- An input's staging buffer holds its block at every point. -/
theorem before2_0 (n : ℕ) (c : Dev nD) (t : Fin cfg2.N) (d) : (dat2 Vv n c).before 0 t d = iblk2 Vv c 0 t :=
  ((dat2 Vv n c).before_in_eq_fetched 0 rfl (fun _ => rfl) (fun _ _ _ => rfl)
    (fun t => by rw [after2_0]; unfold Dat.blockOf iblk2; rw [A2_eq]; try rfl) t d).trans (by unfold Dat.fetched Dat.blockOf iblk2; rw [A2_eq]; try rfl)
theorem before2_1 (n : ℕ) (c : Dev nD) (t : Fin cfg2.N) (d) : (dat2 Vv n c).before 1 t d = iblk2 Vv c 1 t :=
  ((dat2 Vv n c).before_in_eq_fetched 1 rfl (fun _ => rfl) (fun _ _ _ => rfl)
    (fun t => by rw [after2_1]; unfold Dat.blockOf iblk2; rw [A2_eq]; try rfl) t d).trans (by unfold Dat.fetched Dat.blockOf iblk2; rw [A2_eq]; try rfl)
theorem before2_2 (n : ℕ) (c : Dev nD) (t : Fin cfg2.N) (d) : (dat2 Vv n c).before 2 t d = iblk2 Vv c 2 t :=
  ((dat2 Vv n c).before_in_eq_fetched 2 rfl (fun _ => rfl) (fun _ _ _ => rfl)
    (fun t => by rw [after2_2]; unfold Dat.blockOf iblk2; rw [A2_eq]; try rfl) t d).trans (by unfold Dat.fetched Dat.blockOf iblk2; rw [A2_eq]; try rfl)

/-- At an odd point the output's staging buffer holds what the even point before left. -/
theorem before2_3 (n : ℕ) (c : Dev nD) (t : Fin cfg2.N) (h : ¬ t.val % 2 = 0) (d) :
    (dat2 Vv n c).before 3 t d = outA2 Vv c (prev2 t) (by show (t.val - 1) % 2 = 0; omega) := by
  rw [(dat2 Vv n c).before_out_kept 3 rfl t (by omega)
    (by cases hf : (cfg2.win 3).flush ⟨t.val - 1, _⟩ with
        | false => rfl
        | true => exact absurd ((flush2_3 _).mp hf) (by show ¬ (t.val - 1) % 2 = 1; omega)) (fun _ => rfl) (fun _ _ => rfl) d]
  rw [after2_3]; exact dif_pos _

/-- The body at a point, from the staging buffers as the call hands them over. -/
theorem sound2 (n : ℕ) (c : Dev nD) (t : Fin cfg2.N) :
    iprop((dat2 Vv n c).Φ t.castSucc ∗ (dat2 Vv n c).owesAt none t.castSucc
        ∗ (∃ d, owns (c : Thread nD τ) (ms2_0 t) fullShare ((dat2 Vv n c).before 0 t d))
        ∗ (∃ d, owns (c : Thread nD τ) (ms2_1 t) fullShare ((dat2 Vv n c).before 1 t d))
        ∗ (∃ d, owns (c : Thread nD τ) (ms2_2 t) fullShare ((dat2 Vv n c).before 2 t d))
        ∗ (∃ d, owns (c : Thread nD τ) (ms2_3 t) fullShare ((dat2 Vv n c).before 3 t d)))
      ⊢ wp frame (wpE (defs₀ (F := F)) 𝒱₀ (c : Thread nD τ) none) Set.univ (bodyAt2 t)
          fun _ => iprop((dat2 Vv n c).Φ t.succ ∗ (dat2 Vv n c).owesAt none t.succ
            ∗ owns (c : Thread nD τ) (ms2_0 t) fullShare ((dat2 Vv n c).after 0 t)
            ∗ owns (c : Thread nD τ) (ms2_1 t) fullShare ((dat2 Vv n c).after 1 t)
            ∗ owns (c : Thread nD τ) (ms2_2 t) fullShare ((dat2 Vv n c).after 2 t)
            ∗ owns (c : Thread nD τ) (ms2_3 t) fullShare ((dat2 Vv n c).after 3 t)) := by
  unfold bodyAt2
  simp only [before2_0, before2_1, before2_2]
  rw [show (dat2 Vv n c).Φ t.succ = (dat2 Vv n c).Φ t.castSucc from rfl,
    show (dat2 Vv n c).owesAt none t.succ = (dat2 Vv n c).owesAt none t.castSucc from rfl, after2_0, after2_1, after2_2, after2_3]
  by_cases h : t.val % 2 = 0
  · rw [show outsAt2 Vv c t = outA2 Vv c t h from dif_pos h]
    unfold outA2 fusOutA
    iintro ⟨HΦ, Ho, ⟨%d0, H0⟩, ⟨%d1, H1⟩, ⟨%d2, H2⟩, ⟨%d3, H3⟩⟩
    iapply ((fusRunA c (grid2.coords t) _ _ _ _ _ _ _ _ (first2_even t h) (iblk2 Vv c 0 t) (iblk2 Vv c 1 t) (iblk2 Vv c 2 t)).2 Set.univ _)
    isplitl [H0]; · iexact H0
    isplitl [H1]; · iexact H1
    isplitl [H2]; · iexact H2
    isplitl [H3]; · iexists _; iexact H3
    iintro ⟨H0, H1, H2, ⟨%e3, H3⟩⟩
    isplitl [HΦ]; · iexact HΦ
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (fus_coverA c _ _ _ _ _ _ _ _ _ _ _ _ _)
  · rw [show outsAt2 Vv c t = outB2 Vv c t h from dif_neg h]
    simp only [before2_3 Vv n c t h]
    unfold outB2 fusOutB
    iintro ⟨HΦ, Ho, ⟨%d0, H0⟩, ⟨%d1, H1⟩, ⟨%d2, H2⟩, ⟨%d3, H3⟩⟩
    iapply ((fusRunB c (grid2.coords t) _ _ _ _ _ _ _ _ (first2_odd t h) (iblk2 Vv c 0 t) (iblk2 Vv c 1 t) (iblk2 Vv c 2 t)
      (outA2 Vv c (prev2 t) (by show (t.val - 1) % 2 = 0; omega))).2 Set.univ _)
    isplitl [H0]; · iexact H0
    isplitl [H1]; · iexact H1
    isplitl [H2]; · iexact H2
    isplitl [H3]; · iexact H3
    iintro ⟨H0, H1, H2, ⟨%e3, H3⟩⟩
    isplitl [HΦ]; · iexact HΦ
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (fus_coverB c _ _ _ _ _ _ _ _ _ _ _ _ _ _)

theorem row2 (t : Fin cfg2.N) : defs₀ (F := F) .tc cfg2.body (cfg2.bodyArgs t (cfg2.slots t)) = bodyAt2 t := rfl

theorem obl2 (n : ℕ) (c : Dev nD) : BodyObligation (dat2 Vv n c) (defs₀ (F := F)) 𝒱₀ none Set.univ := fun t => by
  rw [bigSep_W2, bigSep_W2, row2]
  exact triple_restated (sound2 Vv n c t) rfl .rfl fun _ => .rfl

end Cert.Proof.Launch

end
-- ==== Proof.Region.lean ====
/-
  A TensorCore call of @main between the SparseCore calls: entered from the unscoped arrays held at a valuation, left at the
  valuation its windows' write-backs make of it, what the core owes and the bound on its recorded waits kept.
-/
module

public import proofs.«01_k».proof.Proof.Fused
public import proofs.«01_k».proof.Proof.Gen.KernelIdeal.Points
public import proofs.«01_k».proof.Proof.Gen.KernelIdeal.Launch
public import Idealize.ShloMosaic.Lib.Pipeline.RegionArraysS
public import Idealize.ShloMosaic.Lib.Ring
public import Idealize.ShloMosaic.Lib.WordCmp

@[expose] public section

set_option maxRecDepth 16384

noncomputable section

namespace Cert.Proof.Launch

open Cert.KernelIdeal Cert.KernelIdeal.Gen Cert.Proof.Model Cert.Proof.Rows
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.Cfg (HIx)
open Idealize.ShloMosaic.Tactic
open Idealize.ShloMosaic.Pipeline (Dat BodyObligation)

variable {F : FTy → Type} [FloatOps F]

abbrev adm (q : Fin 2) : (pcfgs (F := F) q).Adm := (cfgs q).toPCfg_adm

/-- A family of proof data, one per TensorCore call. -/
abbrev Data (F : FTy → Type) [FloatOps F] : Type :=
  (p : Fin 2) → (c : Dev nD) → Dat τ (Elt F) (HIx 1) ℕ UU ℕ (Pipeline.pin (pcfgs (F := F)) adm p) c

/-- The core's recorded waits are at or below the levels of the SparseCore calls it has left behind. -/
abbrev owing (n : ℕ) (c : Dev nD) : sProp (MM F) :=
  iprop(∃ W, ⌜(K (F := F)).WBelow (SparseCore.T c) W (8 * n)⌝ ∗ owes (c : Thread nD τ) ((K (F := F)).Otc c n) W)

set_option backward.isDefEq.respectTransparency.types false in
/-- The call's region. -/
def seg (pd : Data F) (n : ℕ) (p : Fin 2) (kit : Pipeline.PLaunchFacts (nD := nD) (τ := τ) (pcfgs (F := F)) p)
    (hK : (pcfgs (F := F) p).pre.K = 0)
    (hbody : ∀ c, Pipeline.BodyObligationLoose (pd p c) (defs₀ (F := F)) 𝒱₀ none Set.univ)
    (howed : ∀ c t, (pd p c).owed t = (K (F := F)).Otc c n)
    (hrec : ∀ c t, (pd p c).recorded t = { q | (K (F := F)).lev ((c : Thread nD τ), q.1) q.2 ≤ 8 * n })
    (hshare : ∀ c w, (pd p c).share w = fullShare)
    (hΦ : ∀ c t, (pd p c).Φ t = Pipeline.scopedRest (Pipeline.pin (pcfgs (F := F)) adm p).spec c)
    (W : Dev nD → Valuation τ sig (Elt F))
    (hW : ∀ c w, (pd p c).arrAt w 0 = W c (Proc.devRef .tc (Pipeline.arrRef (Pipeline.pin (pcfgs (F := F)) adm p).spec w))) :
    Pipeline.RegionSeg (pcfgs (F := F)) adm pd none (defs₀ (F := F)) 𝒱₀ (K (F := F)).L (K (F := F)).lev p where
  win := kit.to₀.win
  block_pos := kit.to₀.block_pos
  stage_whole := kit.to₀.stage_whole
  K := PEmpty
  osem k := k.elim
  ho := Pipeline.OwnSemFacts.none _
  hbody := hbody
  hwaits c := Pipeline.cellsWaits_of_cut (Pipeline.pin (pcfgs (F := F)) adm) pd none p c (8 * n) ((K (F := F)).Otc c n) (howed c)
    (fun _ _ => Finset.mem_univ _) (fun _ _ => Nat.zero_le _)
    (fun g i h => ⟨Finset.mem_univ _, SparseCore.Cfg.lev_of_Otc_pos h⟩)
  pre c := iprop(StableHlo.held (c.tc : Thread nD τ) (Pipeline.ucRefs τ sig) (W c) ∗ owing n c)
  post c := iprop(StableHlo.held (c.tc : Thread nD τ) (Pipeline.ucRefs τ sig) (Pipeline.afterRegion (pd p c) (W c)) ∗ owing n c)
  X c := iprop(emp)
  Y c := iprop(emp)
  Z c := StableHlo.held (c.tc : Thread nD τ) (Pipeline.ucRefs τ sig \ Pipeline.arrRefs (pcfgs (F := F) p).spec) (W c)
  hentry c := by
    rw [Pipeline.ownSems0_none, Pipeline.prefHeld_of_none _ hK,
      Pipeline.arrays_held (pcfgs (F := F)) adm pd p kit c (hshare c) ((pd p c).arrAt · 0) (W c) (hW c),
      StableHlo.held_sub_split (c.tc : Thread nD τ) (Pipeline.arrRefs_sub_ucRefs (pcfgs (F := F) p).spec kit.win.arr_unscoped) (W c)]
    iintro ⟨⟨⟨Ha, Hu⟩, %Wd, %hWd, HO⟩, -, -⟩
    imodintro
    isplitl [Ha]; · iexact Ha
    isplitr; · iempintro
    isplitl [HO]
    · unfold Dat.owesAt Pipeline.owesWithin Dat.bound
      rw [howed c 0, hrec c]
      iexists Wd; isplitr; · ipureintro; exact fun q hq => Or.inl (hWd q hq)
      iexact HO
    isplitr; · iempintro
    iexact Hu
  hin c := by
    rw [hΦ]
    iintro ⟨-, -, Hr⟩; iexact Hr
  hout c := by
    rw [hΦ, Pipeline.ownSems0_none]
    iintro Hr
    isplitr; · iempintro
    isplitr; · iempintro
    iexact Hr
  hexit c := by
    rw [Pipeline.arrays_held (pcfgs (F := F)) adm pd p kit c (hshare c) ((pd p c).arrAt · _) (Pipeline.afterRegion (pd p c) (W c))
        (fun w => (Pipeline.afterRegion_arr (pd p c) (W c) kit.win.arr_inj w).symm),
      StableHlo.held_sub_split (c.tc : Thread nD τ) (Pipeline.arrRefs_sub_ucRefs (pcfgs (F := F) p).spec kit.win.arr_unscoped) (Pipeline.afterRegion (pd p c) (W c))]
    iintro ⟨Ha, HO, -, Hu⟩
    imodintro
    isplitl [Ha Hu]
    · isplitl [Ha]; · iexact Ha
      rw [StableHlo.held_congr (c.tc : Thread nD τ) (Pipeline.afterRegion_off (pd p c) (W c) (Pipeline.ucRefs τ sig))]
      iexact Hu
    unfold Dat.owesAt Pipeline.owesWithin Dat.bound
    rw [howed c (Fin.last _), hrec c]
    icases HO with ⟨%Wd, %hWd, HO⟩
    iexists Wd; isplitr
    · ipureintro
      intro q hq
      rcases hWd hq with h | ⟨w, s, h⟩
      · exact h
      · subst h; exact Nat.zero_le _
    iexact HO

end Cert.Proof.Launch

end
-- ==== Proof.Main.lean ====
/-
  The steps of @main: its host operations, what the arrays hold from one to the next, and the rules that step over a host
  operation and over a TensorCore call.
-/
module

public import proofs.«01_k».proof.Proof.Region
public import proofs.«01_k».proof.Proof.Gen.KernelIdeal.Points
public import proofs.«01_k».proof.Proof.Gen.KernelIdeal.Launch
public import Idealize.ShloMosaic.Lib.Pipeline.RegionArraysS
public import Idealize.ShloMosaic.Lib.Ring
public import Idealize.ShloMosaic.Lib.WordCmp

@[expose] public section

set_option maxRecDepth 16384

noncomputable section

namespace Cert.Proof.Launch

open Cert.KernelIdeal Cert.KernelIdeal.Gen Cert.Proof.Model Cert.Proof.Rows
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.Cfg (HIx)
open Idealize.ShloMosaic.Tactic
open Idealize.ShloMosaic.Pipeline (Dat BodyObligation)

variable {F : FTy → Type} [FloatOps F]

/-! ## The host operations -/

/-- The layer weights as a row. -/
abbrev opW : HloOp τ sig (Elt F) := StableHlo.reshape main_arg2 main_v0 (rfl : (.f32 : EltTy) = .f32) shapeCasts_S13_S1x13
/-- The mixed features as rows. -/
abbrev opA : HloOp τ sig (Elt F) := StableHlo.reshape main_v1 main_v2 (rfl : (.f32 : EltTy) = .f32) shapeCasts_S2x8x512x384_S8192x384
/-- The first eight batches' word ids. -/
abbrev opS : HloOp τ sig (Elt F) := StableHlo.unary main_arg1 main_v3 ((extractStridedSlice S8x512 ![0, 0] · slices_S16x512_S8x512_0_0) : (⟨S16x512, .i32⟩ : BufTy).Contents (Elt F) → (⟨S8x512, .i32⟩ : BufTy).Contents (Elt F))
/-- The same in a line. -/
abbrev opI : HloOp τ sig (Elt F) := StableHlo.reshape main_v3 main_v4 (rfl : (.i32 : EltTy) = .i32) shapeCasts_S8x512_S4096
/-- The last eight batches' word ids. -/
abbrev opT : HloOp τ sig (Elt F) := StableHlo.unary main_arg1 main_v6 ((extractStridedSlice S8x512 ![8, 0] · slices_S16x512_S8x512_8_0) : (⟨S16x512, .i32⟩ : BufTy).Contents (Elt F) → (⟨S8x512, .i32⟩ : BufTy).Contents (Elt F))
/-- The same, a batch a slab. -/
abbrev opJ : HloOp τ sig (Elt F) := StableHlo.reshape main_v6 main_v7 (rfl : (.i32 : EltTy) = .i32) shapeCasts_S8x512_S8x1x512
/-- The SparseCore call's output by batch. -/
abbrev opO : HloOp τ sig (Elt F) := StableHlo.reshape main_v5 main_v9 (rfl : (.f32 : EltTy) = .f32) shapeCasts_S2048x768_S8x256x768
/-- Both halves, one after the other. -/
abbrev opR : HloOp τ sig (Elt F) := StableHlo.binary main_v9 main_v8 main_v10 ((fun a b => concatenate S16x256x768 0 [⟨S8x256x768, a⟩, ⟨S8x256x768, b⟩] concatenates_S8x256x768_S8x256x768_S16x256x768_d0) : (⟨S8x256x768, .f32⟩ : BufTy).Contents (Elt F) → (⟨S8x256x768, .f32⟩ : BufTy).Contents (Elt F) → (⟨S16x256x768, .f32⟩ : BufTy).Contents (Elt F))

variable (m : (ℓ : Loc nD τ sig) → Buf (Elt F) ℓ) (ρ : Dev nD → PrngReg)

/-! ## What the arrays hold, step by step -/

abbrev ref (b : Ref sig .tc) : DevRef τ sig := Proc.devRef .tc b

/-- At the first TensorCore call, -/
def W1 (d : Dev nD) : Valuation τ sig (Elt F) := (opW (F := F)).result fun b => m (d, b)
/-- after it, -/
def W2 (d : Dev nD) : Valuation τ sig (Elt F) := Pipeline.afterRegion (dat0 (W1 m) 0 d) (W1 m d)
/-- at the SparseCore call, -/
def W3 (d : Dev nD) : Valuation τ sig (Elt F) := (opI (F := F)).result ((opS (F := F)).result ((opA (F := F)).result (W2 m d)))
/-- the features and the ids that it reads, -/
def fa (d : Dev nD) : Buf (Elt F) (aLoc d) := W3 m d (ref main_v2)
def fi (d : Dev nD) : Buf (Elt F) (iLoc d) := W3 m d (ref main_v4)
/-- after it, -/
def W4 (d : Dev nD) : Valuation τ sig (Elt F) := Function.update (W3 m d) (ref main_v5) (outG (fa m d) (fi m d))
/-- at the second TensorCore call, -/
def W5 (d : Dev nD) : Valuation τ sig (Elt F) := (opJ (F := F)).result ((opT (F := F)).result (W4 m d))
/-- after it, -/
def W6 (d : Dev nD) : Valuation τ sig (Elt F) := Pipeline.afterRegion (dat2 (W5 m) 1 d) (W5 m d)
/-- and at the end. -/
def W7 (d : Dev nD) : Valuation τ sig (Elt F) := (opR (F := F)).result ((opO (F := F)).result (W6 m d))

/-! ## The calls' regions -/

/-- The two TensorCore calls' proof data. -/
def pd (V : Dev nD → Valuation τ sig (Elt F)) (n : ℕ) : Data F := fun p c => match p with
  | ⟨0, _⟩ => dat0 V n c
  | ⟨1, _⟩ => dat2 V n c

abbrev EP : Emb UP (MM F) := (Emb.inl : Emb UP (UP × Counters)).trans embR
instance EP_landsIn : (EP (F := F)).LandsIn (upEmb : UEmb _ (MM F)) := by unfold EP; infer_instance

theorem rest0 (V : Dev nD → Valuation τ sig (Elt F)) (n : ℕ) (c : Dev nD) (t) :
    (dat0 V n c).Φ t = Pipeline.scopedRest (Pipeline.pin (pcfgs (F := F)) adm 0).spec c := by
  dsimp only [dat0]; rfl
theorem rest2 (V : Dev nD → Valuation τ sig (Elt F)) (n : ℕ) (c : Dev nD) (t) :
    (dat2 V n c).Φ t = Pipeline.scopedRest (Pipeline.pin (pcfgs (F := F)) adm 1).spec c := by
  dsimp only [dat2]; rfl

def seg0 : Pipeline.RegionSeg (pcfgs (F := F)) adm (pd (W1 m) 0) none (defs₀ (F := F)) 𝒱₀ (K (F := F)).L (K (F := F)).lev 0 :=
  seg (pd (W1 m) 0) 0 0 launch0.toP rfl (fun c => (obl0 (W1 m) 0 c).loose) (fun _ _ => rfl) (fun _ _ => rfl)
    (fun c => (dat0 (W1 m) 0 c).share_full fun _ => rfl) (rest0 (W1 m) 0) (W1 m) (fun c w => A0_eq (W1 m) 0 c w)

def seg2 : Pipeline.RegionSeg (pcfgs (F := F)) adm (pd (W5 m) 1) none (defs₀ (F := F)) 𝒱₀ (K (F := F)).L (K (F := F)).lev 1 :=
  seg (pd (W5 m) 1) 1 1 launch2.toP rfl (fun c => (obl2 (W5 m) 1 c).loose) (fun _ _ => rfl) (fun _ _ => rfl)
    (fun c => (dat2 (W5 m) 1 c).share_full fun _ => rfl) (rest2 (W5 m) 1) (W5 m) (fun c w => A2_eq (W5 m) 1 c w)

/-- A TensorCore call in @main. -/
theorem wp_call {dd : Data F} {p : Fin 2} (R : Pipeline.RegionSeg (pcfgs (F := F)) adm dd none (defs₀ (F := F)) 𝒱₀ (K (F := F)).L (K (F := F)).lev p)
    (d : Dev nD) (Q : PUnit → sProp (MM F)) :
    (iprop((iprop(boundary (SparseCore.T d) ∗ R.post d) -∗ Q ⟨⟩) ∗ boundary (SparseCore.T d) ∗ R.pre d ∗ levAts (K (F := F)).L (K (F := F)).lev
        ∗ Pipeline.cellsGhost (Pipeline.pin (pcfgs (F := F)) adm) EP p d ∗ Pipeline.toksInit (Pipeline.pin (pcfgs (F := F)) adm) EP p d) : sProp (MM F))
      ⊢ wp frame (wpE ((K (F := F)).defs (D (F := F))) 𝒱 (SparseCore.T d) none) Set.univ
          (Prog.lift (.customCall (SparseCore.inner (Pipeline.entry p)) ())) Q := by
  refine BI.Entails.trans ?_ ((K (F := F)).wp_liftProg (D (F := F)) 𝒱 (SparseCore.T d) Set.univ none
    (Prog.op (.customCall (Pipeline.entry p) ()) Prog.ret) Q)
  exact (sep_mono_left (wand_mono_right (le_wp_ret _ _ _ _ Q))).trans
    (Pipeline.RegionSeg.wp (pcfgs (F := F)) adm dd none cellOf_inj EP (defs₀ (F := F)) 𝒱₀ _ _ R d none (fun u hu => nomatch hu) Prog.ret Q)

/-- A host operation in @main. -/
theorem wp_host (op : HloOp τ sig (Elt F)) (hS : op.bufs ⊆ StableHlo.tcRefs τ sig) (hf : op.fresh = ∅) (d : Dev nD) (V : Valuation τ sig (Elt F))
    (Q : PUnit → sProp (MM F)) :
    (iprop((iprop(boundary (SparseCore.T d) ∗ StableHlo.held (SparseCore.T d) (Pipeline.ucRefs τ sig) (op.result V)) -∗ Q ⟨⟩)
        ∗ boundary (SparseCore.T d) ∗ StableHlo.held (SparseCore.T d) (Pipeline.ucRefs τ sig) V) : sProp (MM F))
      ⊢ wp frame (wpE ((K (F := F)).defs (D (F := F))) 𝒱 (SparseCore.T d) none) Set.univ (hlo rfl op (fun _ => .ret ⟨⟩)) Q := by
  iintro ⟨Hk, Hb⟩
  iapply (StableHlo.wp_hlo_within 𝒱 (SparseCore.T d) none Set.univ (op := op) (Pipeline.sub_ucRefs op hS) (V := V) (hf := hf)) $$ Hb
  iintro H
  rw [wp_ret]; imodintro
  iapply Hk; iexact H

end Cert.Proof.Launch

end
-- ==== Proof.Whole.lean ====
/-
  The run of the whole program: @main's host operations and calls in order over the unscoped arrays, the launch element of
  the ghost state, and the launch.
-/
module

public import proofs.«01_k».proof.Proof.Main
public import proofs.«01_k».proof.Proof.Gen.KernelIdeal.Points
public import proofs.«01_k».proof.Proof.Gen.KernelIdeal.Launch
public import Idealize.ShloMosaic.Lib.Pipeline.RegionArraysS
public import Idealize.ShloMosaic.Lib.Ring
public import Idealize.ShloMosaic.Lib.WordCmp

@[expose] public section

set_option maxRecDepth 16384

noncomputable section

namespace Cert.Proof.Launch

open Cert.KernelIdeal Cert.KernelIdeal.Gen Cert.Proof.Model Cert.Proof.Rows
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.Cfg (HIx)
open Idealize.ShloMosaic.Tactic
open Idealize.ShloMosaic.Pipeline (Dat BodyObligation)

variable {F : FTy → Type} [FloatOps F]

variable (m : (ℓ : Loc nD τ sig) → Buf (Elt F) ℓ) (ρ : Dev nD → PrngReg)

/-! ## The TensorCore's state between calls -/

/-- What the TensorCore holds of the SparseCore handshakes beside what it owes. -/
def tcRest (d : Dev nD) (n : ℕ) : sProp (MM F) :=
  iprop(atPos EH ((K (F := F)).doneCell d) n ∅ 0 ∗ reached EH ((K (F := F)).doneCell d) n
    ∗ (bigSep Finset.univ fun c : Fin τ.nSC => reached EH ((K (F := F)).startCell d c) ((K (F := F)).sRank c n))
    ∗ bigSep (SparseCore.Cfg.callsFrom n) fun q => bigSep Finset.univ fun c : Fin ((K (F := F)).nCore q) =>
        iprop(dutyTok EH ((K (F := F)).startCell d ((K (F := F)).core q c)) ((K (F := F)).sRank ((K (F := F)).core q c) q.val) 0
          ∗ cred (tallyAt ((K (F := F)).doneCell d) (some (SparseCore.Cfg.Blocks.last (N := 1) q)) 1)))

theorem tcSt_eq (d : Dev nD) (n : ℕ) : ((K (F := F)).tcSt EH d n : sProp (MM F)) = iprop(owing n d ∗ tcRest d n) := rfl

/-! ## The SparseCore call -/

/-- The arrays that the SparseCore call touches. -/
def scRefs : Finset (DevRef τ sig) := {ref main_v2, ref main_v4, ref main_v5}

theorem scRefs_sub : scRefs ⊆ Pipeline.ucRefs τ sig := by
  intro b hb
  simp only [scRefs, Finset.mem_insert, Finset.mem_singleton] at hb
  rcases hb with rfl | rfl | rfl <;>
  exact Finset.mem_filter.2 ⟨StableHlo.devRef_mem_tcRefs _, by decide⟩

theorem held_sc (d : Dev nD) (V : Valuation τ sig (Elt F)) :
    (StableHlo.held (SparseCore.T d) scRefs V : sProp (MM F))
      = iprop((aLoc d ↦{fullShare} V (ref main_v2)) ∗ (iLoc d ↦{fullShare} V (ref main_v4)) ∗ oLoc d ↦{fullShare} V (ref main_v5)) := by
  unfold StableHlo.held scRefs
  rw [SparseCore.bigSep_insert' (by decide), SparseCore.bigSep_insert' (by decide), bigSep_singleton]

theorem W4_v5 (d : Dev nD) : W4 m d (ref main_v5) = outG (fa m d) (fi m d) := by
  unfold W4; exact Function.update_self ..
theorem W4_ne (d : Dev nD) {b : DevRef τ sig} (h : b ≠ ref main_v5) : W4 m d b = W3 m d b := by
  unfold W4; exact Function.update_of_ne h ..

theorem held_off (d : Dev nD) :
    (StableHlo.held (SparseCore.T d) (Pipeline.ucRefs τ sig \ scRefs) (W4 m d) : sProp (MM F))
      = StableHlo.held (SparseCore.T d) (Pipeline.ucRefs τ sig \ scRefs) (W3 m d) :=
  StableHlo.held_congr _ fun b hb => W4_ne m d fun e => (Finset.mem_sdiff.1 hb).2 (by rw [e]; decide)

/-- The SparseCore call in @main. -/
theorem wp_sc (κ : GSem nD τ sig → ℕ) (d : Dev nD) (Q : PUnit → sProp (MM F)) :
    (iprop((iprop((K (F := F)).tcSt EH d 1 ∗ StableHlo.held (SparseCore.T d) (Pipeline.ucRefs τ sig) (W4 m d)) -∗ Q ⟨⟩)
        ∗ (K (F := F)).ctx EH (P (fa m) (fi m)) κ ∗ (K (F := F)).tcSt EH d 0
        ∗ StableHlo.held (SparseCore.T d) (Pipeline.ucRefs τ sig) (W3 m d)) : sProp (MM F))
      ⊢ wp frame (wpE ((K (F := F)).defs (D (F := F))) 𝒱 (SparseCore.T d) none) Set.univ ((K (F := F)).run d 0) Q := by
  rw [StableHlo.held_sub_split _ scRefs_sub (W3 m d), StableHlo.held_sub_split _ scRefs_sub (W4 m d), held_sc, held_sc, held_off,
    W4_v5, W4_ne m d (show ref main_v2 ≠ ref main_v5 by decide), W4_ne m d (show ref main_v4 ≠ ref main_v5 by decide)]
  iintro ⟨Hk, Hctx, Hst, ⟨Ha, Hi, Ho⟩, Hoff⟩
  iapply ((K (F := F)).wp_run (D (F := F)) 𝒱 (EH := EH) (P := P (fa m) (fi m)) κ d 0)
  isplitl [Hctx]; · iexact Hctx
  isplitl [Hst]; · iexact Hst
  isplitl [Ha Hi Ho]
  · iapply (st_cores (fa m) (fi m) d)
    isplitl [Ha]; · iexact Ha
    isplitl [Hi]; · iexact Hi
    iexists _; iexact Ho
  iintro ⟨Hst, Hdn⟩
  iapply Hk
  isplitl [Hst]; · iexact Hst
  isplitl [Hdn]
  · iapply (dn_cores (fa m) (fi m) d); iexact Hdn
  iexact Hoff

/-! ## The launch element of the ghost state -/

abbrev pinned (p : Fin 2) := Pipeline.pin (pcfgs (F := F)) adm p

/-- The handshakes' rounds, the TensorCore pipelines' rounds, and the transfers' counters. -/
def u₀ : UU := (initOf (K (F := F)).hsCells (K (F := F)).hsToks,
  (initOf (Pipeline.cells (pinned (F := F)) cellOf_inj) (Pipeline.launchToks (pinned (F := F)) cellOf_inj), 1))

/-- What the launch gives a device's TensorCore for its two calls. -/
def G (d : Dev nD) : sProp (MM F) :=
  iprop((bigSep Finset.univ fun p => Pipeline.cellsGhost (pinned (F := F)) EP p d)
    ∗ bigSep Finset.univ fun p => Pipeline.toksInit (pinned (F := F)) EP p d)

theorem hu₀ : (ownU (u₀ (F := F)) : sProp (MM F))
    ⊢ |={Set.univ}=> iprop(BI.own (EH (initOf (K (F := F)).hsCells (K (F := F)).hsToks)) ∗ (bigSep Finset.univ fun d : Dev nD => G d)
        ∗ bigSep Finset.univ fun thr : Thread nD τ => bigSep Finset.univ fun q : Fin 1 => (P (fa m) (fi m)).x q thr) := by
  unfold u₀ G
  rw [bigSep_sep', show (bigSep Finset.univ fun thr : Thread nD τ => bigSep Finset.univ fun q : Fin 1 => (P (fa m) (fi m)).x q thr)
      = bigSep Finset.univ fun _ => iprop(emp) from bigSep_congr fun _ _ => bigSep_univ_of_subsingleton (0 : Fin 1), show (bigSep Finset.univ fun _ : Thread nD τ => iprop(emp)) = (iprop(emp) : sProp (MM F)) from bigSep_emp_const _]
  iintro Hu
  ihave H := (ownU_pair _ _) $$ Hu
  icases H with ⟨HH, HR⟩
  ihave H := (own_pair_emb embR _ _) $$ HR
  icases H with ⟨HP, -⟩
  imod (Pipeline.fund_ghost (pinned (F := F)) EP cellOf_inj) $$ HP with ⟨Hg, Ht⟩
  imodintro
  isplitl [HH]; · iexact HH
  isplitl [Hg Ht]
  · isplitl [Hg]; · iexact Hg
    iexact Ht
  iempintro

theorem G_eq (d : Dev nD) : G (F := F) d
    = iprop((Pipeline.cellsGhost (pinned (F := F)) EP 0 d ∗ Pipeline.cellsGhost (pinned (F := F)) EP 1 d)
      ∗ (Pipeline.toksInit (pinned (F := F)) EP 0 d ∗ Pipeline.toksInit (pinned (F := F)) EP 1 d)) := by
  unfold G
  rw [show (Finset.univ : Finset (Fin 2)) = {0, 1} by decide, SparseCore.bigSep_insert' (by decide), bigSep_singleton,
    SparseCore.bigSep_insert' (by decide), bigSep_singleton]

/-! ## @main on the TensorCore -/

abbrev heldAt (d : Dev nD) (V : Valuation τ sig (Elt F)) : sProp (MM F) := StableHlo.held (SparseCore.T d) (Pipeline.ucRefs τ sig) V

theorem seg0_pre (d : Dev nD) : (iprop(heldAt d (W1 m d) ∗ owing 0 d) : sProp (MM F)) = (seg0 m).pre d := rfl
theorem seg0_post (d : Dev nD) : (seg0 m).post d = (iprop(heldAt d (W2 m d) ∗ owing 0 d) : sProp (MM F)) := rfl
theorem seg2_pre (d : Dev nD) : (iprop(heldAt d (W5 m d) ∗ owing 1 d) : sProp (MM F)) = (seg2 m).pre d := rfl
theorem seg2_post (d : Dev nD) : (seg2 m).post d = (iprop(heldAt d (W6 m d) ∗ owing 1 d) : sProp (MM F)) := rfl

abbrev FIN (d : Dev nD) : sProp (MM F) := StableHlo.held (SparseCore.T d) (Pipeline.ucRefs τ sig) (W7 m d)

theorem hmain (κ : GSem nD τ sig → ℕ) (d : Dev nD) :
    iprop((K (F := F)).ctx EH (P (fa m) (fi m)) κ ∗ (K (F := F)).tcSt EH d 0 ∗ (K (F := F)).tcRes m ρ d ∗ G d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [show (unscopedBufs d (fun b => m ((SparseCore.T d).loc b)) : sProp (MM F))
      = StableHlo.held (SparseCore.T d) (Pipeline.ucRefs τ sig) (fun b => m (d, b)) from Pipeline.unscopedBufs_held d fun b => m (d, b), G_eq]
  simp only [main, wp_bind, wp_pure]
  iintro ⟨#Hctx, Hst, ⟨Hb, Hh, Hts, -⟩, ⟨Hg0, Hg2⟩, Ht0, Ht2⟩
  ihave Hlev := (SparseCore.Cfg.ctx_levAts κ) $$ Hctx
  iapply (wp_host opW (StableHlo.reshape_bufs_sub ..) rfl d (fun b => m (d, b)))
  isplitr [Hb Hh]
  swap
  · isplitl [Hb]; · iexact Hb
    iexact Hh
  iintro ⟨Hb, Hh⟩
  ihave Hst := (Entails.of_eq (tcSt_eq d 0)) $$ Hst
  icases Hst with ⟨How, Hrest⟩
  iapply (wp_call (seg0 m) d)
  isplitr [Hb Hh How Hg0 Ht0 Hlev]
  swap
  · isplitl [Hb]; · iexact Hb
    isplitl [Hh How]
    · iapply (Entails.of_eq (seg0_pre m d))
      isplitl [Hh]; · iexact Hh
      iexact How
    isplitl [Hlev]; · iexact Hlev
    isplitl [Hg0]; · iexact Hg0
    iexact Ht0
  iintro ⟨Hb, Hpost⟩
  ihave Hpost := (Entails.of_eq (seg0_post m d)) $$ Hpost
  icases Hpost with ⟨Hh, How⟩
  iapply (wp_host opA (StableHlo.reshape_bufs_sub ..) rfl d (W2 m d))
  isplitr [Hb Hh]
  swap
  · isplitl [Hb]; · iexact Hb
    iexact Hh
  iintro ⟨Hb, Hh⟩
  iapply (wp_host opS (StableHlo.unary_bufs_sub ..) rfl d (opA.result (W2 m d)))
  isplitr [Hb Hh]
  swap
  · isplitl [Hb]; · iexact Hb
    iexact Hh
  iintro ⟨Hb, Hh⟩
  iapply (wp_host opI (StableHlo.reshape_bufs_sub ..) rfl d (opS.result (opA.result (W2 m d))))
  isplitr [Hb Hh]
  swap
  · isplitl [Hb]; · iexact Hb
    iexact Hh
  iintro ⟨Hb, Hh⟩
  iapply (wp_sc m κ d)
  isplitr [Hrest How Hh]
  swap
  · isplitr; · iexact Hctx
    isplitl [Hrest How]
    · iapply (Entails.of_eq (tcSt_eq d 0).symm)
      isplitl [How]; · iexact How
      iexact Hrest
    iexact Hh
  iintro ⟨Hst, Hh⟩
  iapply (wp_host opT (StableHlo.unary_bufs_sub ..) rfl d (W4 m d))
  isplitr [Hb Hh]
  swap
  · isplitl [Hb]; · iexact Hb
    iexact Hh
  iintro ⟨Hb, Hh⟩
  iapply (wp_host opJ (StableHlo.reshape_bufs_sub ..) rfl d (opT.result (W4 m d)))
  isplitr [Hb Hh]
  swap
  · isplitl [Hb]; · iexact Hb
    iexact Hh
  iintro ⟨Hb, Hh⟩
  ihave Hst := (Entails.of_eq (tcSt_eq d 1)) $$ Hst
  icases Hst with ⟨How, Hrest⟩
  iapply (wp_call (seg2 m) d)
  isplitr [Hb Hh How Hg2 Ht2 Hlev]
  swap
  · isplitl [Hb]; · iexact Hb
    isplitl [Hh How]
    · iapply (Entails.of_eq (seg2_pre m d))
      isplitl [Hh]; · iexact Hh
      iexact How
    isplitl [Hlev]; · iexact Hlev
    isplitl [Hg2]; · iexact Hg2
    iexact Ht2
  iintro ⟨Hb, Hpost⟩
  ihave Hpost := (Entails.of_eq (seg2_post m d)) $$ Hpost
  icases Hpost with ⟨Hh, How⟩
  iapply (wp_host opO (StableHlo.reshape_bufs_sub ..) rfl d (W6 m d))
  isplitr [Hb Hh]
  swap
  · isplitl [Hb]; · iexact Hb
    iexact Hh
  iintro ⟨Hb, Hh⟩
  iapply (wp_host opR (StableHlo.binary_bufs_sub ..) rfl d (opO.result (W6 m d)))
  isplitr [Hb Hh]
  swap
  · isplitl [Hb]; · iexact Hb
    iexact Hh
  iintro ⟨Hb, Hh⟩
  imodintro
  isplitl [How Hrest]
  · iapply (Entails.of_eq (tcSt_eq d 1).symm)
    isplitl [How]; · iexact How
    iexact Hrest
  isplitl [Hh]; · iexact Hh
  isplitl [Hb] <;> iassumption

/-! ## The launch -/

/-- At the end every unscoped array of the device holds what the steps made of it. -/
def fq (d : Dev nD) (s' : Phys nD τ sig (Elt F)) : Prop := ∀ b ∈ Pipeline.ucRefs τ sig, s'.mem.mem (d, b) = W7 m d b

theorem hfin (d : Dev nD) (s' : Phys nD τ sig (Elt F)) : iprop(FIN m d ∗ SI s') ⊢ (⌜fq m d s'⌝ : sProp (MM F)) :=
  (sep_comm.1).trans (SI_pointsTo_bufs_agree (st := s') (c := d) (qs := fun _ => fullShare) (F := W7 m d) (Pipeline.ucRefs τ sig))

/-- The memory at the end: the unscoped arrays as the steps leave them, every semaphore at zero. -/
def QC : PUnit × MemSt nD τ sig (Elt F) → Prop := fun r =>
  (∀ d : Dev nD, ∀ b ∈ Pipeline.ucRefs τ sig, r.2.mem (d, b) = W7 m d b) ∧ r.2.sem = fun _ => 0

theorem run_main [∀ e, Nonempty (Elt F e)] (hw : ∀ d y, (fi m d y).toNat < 256) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P (fa m) (fi m)) (A := ∅) facts v₀
    (fun q hq => match q with | 0 => nomatch hq)
    (fun q _ => match q with | 0 => tileObl (fa m) (fi m) hw)
    (fun q _ => match q with | 0 => SparseCore.Cfg.VecSplit.of_plain (vecSplit (fa m) (fi m)))
    m ρ main G (FIN m) (u₀ (F := F)) (sep_elim_left.trans (hu₀ m)) (hmain m ρ) (fq m) (hfin m) (QC m) (fun _ h hz => ⟨h, hz⟩)

end Cert.Proof.Launch

end
-- ==== Proof.Steps.lean ====
/-
  What the arrays hold along @main, read at an element: the arguments are kept, the word ids and the weights reach the calls
  as they were given, and the result is the two halves side by side.
-/
module

public import proofs.«01_k».proof.Proof.Whole
public import proofs.«01_k».proof.Proof.Gen.KernelIdeal.Points
public import proofs.«01_k».proof.Proof.Gen.KernelIdeal.Launch
public import Idealize.ShloMosaic.Lib.Pipeline.RegionArraysS
public import Idealize.ShloMosaic.Lib.Ring
public import Idealize.ShloMosaic.Lib.Pipeline.ValueKit
public import Idealize.ShloMosaic.Lib.WordCmp

@[expose] public section

set_option maxRecDepth 16384

noncomputable section

namespace Cert.Proof.Launch

open Cert.KernelIdeal Cert.KernelIdeal.Gen Cert.Proof.Model Cert.Proof.Rows
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.Cfg (HIx)
open Idealize.ShloMosaic.Tactic
open Idealize.ShloMosaic.Pipeline (Dat BodyObligation)

variable {F : FTy → Type} [FloatOps F]

variable (m : (ℓ : Loc nD τ sig) → Buf (Elt F) ℓ)

/-! ## What each step leaves alone -/

theorem mem_uc (b : Ref sig .tc) (h : ¬ (Proc.devRef (τ := τ) (sig := sig) .tc b).isScoped) : ref b ∈ Pipeline.ucRefs τ sig :=
  Finset.mem_filter.2 ⟨StableHlo.devRef_mem_tcRefs b, h⟩

theorem W1_keeps (d : Dev nD) {b : Ref sig .tc} (h : b ≠ main_v0) : W1 m d (ref b) = m (d, ref b) :=
  StableHlo.reshape_result_ne _ _ _ _ _ _ _ h

theorem arr0_inj : Function.Injective (Pipeline.arrRef spec0) := by decide
theorem arr2_inj : Function.Injective (Pipeline.arrRef spec2) := by decide

/-- The first TensorCore call changes only its output array, -/
theorem W2_keeps (d : Dev nD) {b : Ref sig .tc} (h : b ≠ main_v1) : W2 m d (ref b) = W1 m d (ref b) :=
  Pipeline.afterRegion_keeps (dat0 (W1 m) 0 d) (W1 m d) arr0_inj (fun w => A0_eq (W1 m) 0 d w) b fun w e => by
    revert h; subst e; revert w; decide

theorem W3_keeps (d : Dev nD) {b : Ref sig .tc} (h2 : b ≠ main_v2) (h3 : b ≠ main_v3) (h4 : b ≠ main_v4) : W3 m d (ref b) = W2 m d (ref b) :=
  (StableHlo.reshape_result_ne _ _ _ _ _ _ _ h4).trans ((StableHlo.unary_result_ne _ _ _ _ _ _ h3).trans (StableHlo.reshape_result_ne _ _ _ _ _ _ _ h2))

theorem W5_keeps (d : Dev nD) {b : Ref sig .tc} (h6 : b ≠ main_v6) (h7 : b ≠ main_v7) : W5 m d (ref b) = W4 m d (ref b) :=
  (StableHlo.reshape_result_ne _ _ _ _ _ _ _ h7).trans (StableHlo.unary_result_ne _ _ _ _ _ _ h6)

/-- So does the second. -/
theorem W6_keeps (d : Dev nD) {b : Ref sig .tc} (h : b ≠ main_v8) : W6 m d (ref b) = W5 m d (ref b) :=
  Pipeline.afterRegion_keeps (dat2 (W5 m) 1 d) (W5 m d) arr2_inj (fun w => A2_eq (W5 m) 1 d w) b fun w e => by
    revert h; subst e; revert w; decide

theorem W7_keeps (d : Dev nD) {b : Ref sig .tc} (h9 : b ≠ main_v9) (h10 : b ≠ main_v10) : W7 m d (ref b) = W6 m d (ref b) :=
  (StableHlo.binary_result_ne _ _ _ _ _ _ _ _ h10).trans (StableHlo.reshape_result_ne _ _ _ _ _ _ _ h9)

/-- An array that no step writes is at the end as it was given. -/
theorem W5_arg (d : Dev nD) {b : Ref sig .tc} (h : b ∉ ({main_v0, main_v1, main_v2, main_v3, main_v4, main_v5, main_v6, main_v7} : Finset (Ref sig .tc))) :
    W4 m d (ref b) = m (d, ref b) ∧ W5 m d (ref b) = m (d, ref b) := by
  simp only [Finset.mem_insert, Finset.mem_singleton, not_or] at h
  obtain ⟨h0, h1, h2, h3, h4, h5, h6, h7⟩ := h
  have e : W4 m d (ref b) = m (d, ref b) :=
    (W4_ne m d (StableHlo.devRef_ne_of_ne h5)).trans ((W3_keeps m d h2 h3 h4).trans ((W2_keeps m d h1).trans (W1_keeps m d h0)))
  exact ⟨e, (W5_keeps m d h6 h7).trans e⟩

theorem W7_arg (d : Dev nD) {b : Ref sig .tc} (h : b ∉ ({main_v0, main_v1, main_v2, main_v3, main_v4, main_v5, main_v6, main_v7} : Finset (Ref sig .tc)))
    (h8 : b ≠ main_v8) (h9 : b ≠ main_v9) (h10 : b ≠ main_v10) : W7 m d (ref b) = m (d, ref b) :=
  (W7_keeps m d h9 h10).trans ((W6_keeps m d h8).trans (W5_arg m d h).2)

/-! ## What the calls read and what the result is -/

/-- The weights' row that both TensorCore calls read. -/
theorem W1_v0 (d : Dev nD) (l : Fin 13) : (W1 m d (ref main_v0) : Vec F S1x13 .f32) (ix2 (0 : Fin 1) l) = (m (d, ref main_arg2) : Vec F S13 .f32) (ix1 l) := by
  have e := StableHlo.reshape_result main_arg2 main_v0 (rfl : (.f32 : EltTy) = .f32) shapeCasts_S13_S1x13 (by decide) (by decide) (fun b => m (d, b))
  refine (congrFun (show W1 m d (ref main_v0) = _ from e) _).trans ?_
  pointwise []

/-- The features that the SparseCore call reads: the first TensorCore call's output by rows. -/
theorem fa_apply (d : Dev nD) (p : Fin 2) (b : Fin 8) (s : Fin 512) (c : Fin 384) (h : 4096 * p.val + 512 * b.val + s.val < 8192) :
    (fa m d : Vec F S8192x384 .f32) (ix2 ⟨4096 * p.val + 512 * b.val + s.val, h⟩ c) = (W2 m d (ref main_v1) : Vec F S2x8x512x384 .f32) (ix4 p b s c) := by
  have e := StableHlo.reshape_result main_v1 main_v2 (rfl : (.f32 : EltTy) = .f32) shapeCasts_S2x8x512x384_S8192x384 (by decide) (by decide) (W2 m d)
  have e1 : W3 m d (ref main_v2) = (opA (F := F)).result (W2 m d) (ref main_v2) :=
    (StableHlo.reshape_result_ne _ _ _ _ _ _ _ (by decide)).trans (StableHlo.unary_result_ne _ _ _ _ _ _ (by decide))
  have e' : fa m d = _ := e1.trans e
  refine (congrFun e' _).trans ?_
  generalize (W2 m d) (Proc.devRef .tc main_v1) = X
  pointwise []

/-- The word ids that it reads: the first eight batches'. -/
theorem fi_apply (d : Dev nD) (b : Fin 8) (s : Fin 512) (h : 512 * b.val + s.val < 4096) :
    (fi m d : Vec F S4096 .i32) (ix1 ⟨512 * b.val + s.val, h⟩) = (m (d, ref main_arg1) : Vec F S16x512 .i32) (ix2 ⟨b.val, by omega⟩ s) := by
  have e := StableHlo.reshape_result main_v3 main_v4 (rfl : (.i32 : EltTy) = .i32) shapeCasts_S8x512_S4096 (by decide) (by decide)
    ((opS (F := F)).result ((opA (F := F)).result (W2 m d)))
  have e' : fi m d = _ := e
  refine (congrFun e' _).trans ?_
  rw [StableHlo.unary_result]
  rw [show (opA (F := F)).result (W2 m d) (Proc.devRef .tc main_arg1) = m (d, ref main_arg1) from
    (StableHlo.reshape_result_ne _ _ _ _ _ _ _ (by decide)).trans ((W2_keeps m d (by decide)).trans (W1_keeps m d (by decide)))]
  generalize m (d, ref main_arg1) = X
  pointwise []

/-- The word ids that the second TensorCore call reads: the last eight batches'. -/
theorem W5_v7 (d : Dev nD) (b : Fin 8) (s : Fin 512) :
    (W5 m d (ref main_v7) : Vec F S8x1x512 .i32) (ix3 b (0 : Fin 1) s) = (m (d, ref main_arg1) : Vec F S16x512 .i32) (ix2 ⟨8 + b.val, by omega⟩ s) := by
  have e := StableHlo.reshape_result main_v6 main_v7 (rfl : (.i32 : EltTy) = .i32) shapeCasts_S8x512_S8x1x512 (by decide) (by decide)
    ((opT (F := F)).result (W4 m d))
  refine (congrFun (show W5 m d (ref main_v7) = _ from e) _).trans ?_
  rw [StableHlo.unary_result]
  rw [show W4 m d (Proc.devRef .tc main_arg1) = m (d, ref main_arg1) from (W5_arg m d (by decide)).1]
  generalize m (d, ref main_arg1) = X
  pointwise []

/-- The features that the second TensorCore call reads are the given ones. -/
theorem W5_arg0 (d : Dev nD) : W5 m d (ref main_arg0) = m (d, ref main_arg0) := (W5_arg m d (by decide)).2

/-- The weights' row that it reads. -/
theorem W5_v0 (d : Dev nD) : W5 m d (ref main_v0) = W1 m d (ref main_v0) :=
  (W5_keeps m d (by decide) (by decide)).trans ((W4_ne m d (by decide)).trans ((W3_keeps m d (by decide) (by decide) (by decide)).trans
    (W2_keeps m d (by decide))))

/-- The features that the first reads. -/
theorem W1_arg0 (d : Dev nD) : W1 m d (ref main_arg0) = m (d, ref main_arg0) := W1_keeps m d (by decide)

/-- The first eight batches of the result are the SparseCore call's output. -/
theorem W7_lo (d : Dev nD) (b : Fin 8) (v : Fin 256) (f : Fin 768) (h : b.val * 256 + v.val < 2048) :
    (W7 m d (ref main_v10) : Vec F S16x256x768 .f32) (ix3 ⟨b.val, by omega⟩ v f)
      = (outG (fa m d) (fi m d) : Vec F S2048x768 .f32) (ix2 ⟨b.val * 256 + v.val, h⟩ f) := by
  have e : W7 m d (ref main_v10) = _ := StableHlo.binary_result main_v9 main_v8 main_v10 _ _ _ _ ((opO (F := F)).result (W6 m d))
  refine (congrFun e _).trans ?_
  rw [show (opO (F := F)).result (W6 m d) (Proc.devRef .tc main_v9) = _ from
    StableHlo.reshape_result main_v5 main_v9 (rfl : (.f32 : EltTy) = .f32) shapeCasts_S2048x768_S8x256x768 (by decide) (by decide) (W6 m d)]
  rw [show W6 m d (Proc.devRef .tc main_v5) = outG (fa m d) (fi m d) from
    (W6_keeps m d (by decide)).trans ((W5_keeps m d (by decide) (by decide)).trans (W4_v5 m d))]
  generalize outG (fa m d) (fi m d) = X
  generalize (opO (F := F)).result (W6 m d) (Proc.devRef .tc main_v8) = Y
  pointwise []

/-- Its last eight are the second TensorCore call's. -/
theorem W7_hi (d : Dev nD) (b : Fin 8) (v : Fin 256) (f : Fin 768) :
    (W7 m d (ref main_v10) : Vec F S16x256x768 .f32) (ix3 ⟨8 + b.val, by omega⟩ v f) = (W6 m d (ref main_v8) : Vec F S8x256x768 .f32) (ix3 b v f) := by
  have e : W7 m d (ref main_v10) = _ := StableHlo.binary_result main_v9 main_v8 main_v10 _ _ _ _ ((opO (F := F)).result (W6 m d))
  refine (congrFun e _).trans ?_
  rw [show (opO (F := F)).result (W6 m d) (Proc.devRef .tc main_v8) = W6 m d (ref main_v8) from StableHlo.reshape_result_ne _ _ _ _ _ _ _ (by decide)]
  generalize W6 m d (ref main_v8) = Y
  generalize (opO (F := F)).result (W6 m d) (Proc.devRef .tc main_v9) = X
  pointwise []

end Cert.Proof.Launch

end
-- ==== Proof.Segment.lean ====
/-
  The SparseCore's sums on the extended reals: where the word ids of a batch are sorted, the accumulator's row of a word is
  the sum of the rows with that word.
-/
module

public import proofs.«01_k».proof.Proof.Steps
public import Idealize.ShloMosaic.Lib.Pipeline.ValueKit

@[expose] public section

set_option maxRecDepth 16384

noncomputable section

namespace Cert.Proof.Segment

open Cert.KernelIdeal Cert.KernelIdeal.Gen Cert.Proof.Model Cert.Proof.Rows
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.Cfg (HIx)
open Idealize.ShloMosaic.Tactic
open Idealize.ShloMosaic.Pipeline (Dat BodyObligation)

/-! ## One row's step, read at a column -/

theorem lane_zero (d : Nat) : lane (F := Ideal) (fun _ => k1_pay1) d = (0 : EReal) := by
  unfold lane
  pointwise [k1_pay1]

theorem step_apply (c : BitVec 1) (a : FVec Ideal S16 .f32) (u : Vec Ideal S1x16 .f32) (i : Fin 16) :
    step c a u u (ix1 i) = if c = 1#1 then (u (ix2 (0 : Fin 1) i) : EReal) else a (ix1 i) + u (ix2 (0 : Fin 1) i) := by
  pointwise [step]
  rfl

variable (ids : Nat → BitVec 32) (att : Nat → Nat → Ideal .f32)

theorem ne_bit (u v : BitVec 32) : (Scalar.cmpi .ne u v : BitVec 1) = 1#1 ↔ u ≠ v := by
  show BitVec.ofBool (u != v) = 1#1 ↔ u ≠ v
  by_cases h : u = v
  · simp [h]
  · rw [bne_iff_ne.2 h]
    exact iff_of_true rfl h

theorem lane_succ (k d : Nat) :
    lane (sum ids att (k + 1)) d = if ids k ≠ prev ids k then (att k d : EReal) else lane (sum ids att k) d + att k d := by
  unfold lane
  refine (step_apply _ _ _ _).trans ?_
  have e : tile att k (d / 16) (ix2 (0 : Fin 1) (⟨d % 16, Nat.mod_lt _ (by decide)⟩ : Fin 16)) = att k d := by
    show att k (16 * (d / 16) + d % 16) = att k d
    rw [Nat.div_add_mod]
  rw [e]
  exact if_congr (ne_bit _ _) rfl rfl

/-! ## The running sum and the accumulator -/

/-- The sum of the rows before row `k` whose word is `w`, at a column. -/
def upto (k w d : Nat) : EReal := ∑ r ∈ Finset.range k, if (ids r).toNat = w then (att r d : EReal) else 0

theorem upto_succ (k w d : Nat) : upto ids att (k + 1) w d = upto ids att k w d + if (ids k).toNat = w then (att k d : EReal) else 0 :=
  Finset.sum_range_succ _ _

variable (n : Nat) (hlt : ∀ k < n, (ids k).toNat < 256) (hle : ∀ k, k + 1 < n → (ids k).toNat ≤ (ids (k + 1)).toNat)
include hlt hle

/-- The words do not go down. -/
theorem mono {k l : Nat} (h : k ≤ l) (hl : l < n) : (ids k).toNat ≤ (ids l).toNat := by
  induction l, h using Nat.le_induction with
  | base => exact le_rfl
  | succ l h ih => exact (ih (by omega)).trans (hle l hl)

/-- After row `k` the running sum is the sum of the rows up to it with its word. -/
theorem lane_sum (k : Nat) (hk : k < n) (d : Nat) : lane (sum ids att (k + 1)) d = upto ids att (k + 1) (ids k).toNat d := by
  induction k with
  | zero =>
    rw [lane_succ, if_pos (fun e => absurd (congrArg BitVec.toNat e) (fun h => by have h1 := hlt 0 hk; rw [h] at h1; exact absurd h1 (by show ¬ (0xFFFFFFFF#32 : BitVec 32).toNat < 256; decide))), upto_succ, if_pos rfl]
    exact (zero_add _).symm
  | succ k ih =>
    rw [lane_succ, upto_succ, if_pos rfl]
    show (if ids (k + 1) ≠ ids k then (att (k + 1) d : EReal) else _) = _
    by_cases e : ids (k + 1) = ids k
    · rw [if_neg (not_not.2 e), ih (by omega), e]
    · rw [if_pos e]
      have hz : upto ids att (k + 1) (ids (k + 1)).toNat d = 0 := by
        refine Finset.sum_eq_zero fun r hr => if_neg fun h => ?_
        have hr' := Finset.mem_range.1 hr
        have h1 := mono ids n hlt hle (show r ≤ k by omega) (by omega)
        have h2 := hle k hk
        exact e (BitVec.eq_of_toNat_eq (by omega))
      rw [hz, zero_add]

/-- After all rows the accumulator's row of a word is the sum of the rows with that word. -/
theorem arr_eq (k : Nat) (hk : k ≤ n) (w d : Nat) : arr ids att k w d = upto ids att k w d := by
  induction k with
  | zero => exact lane_zero d
  | succ k ih =>
    unfold arr
    rw [upto_succ]
    by_cases h : w = (ids k).toNat
    · subst h
      rw [if_pos rfl, lane_sum ids att n hlt hle k (by omega) d, upto_succ]
    · rw [if_neg h, ih (by omega), if_neg (fun e => h e.symm), add_zero]

end Cert.Proof.Segment

end
-- ==== Proof.Payloads.lean ====
/-
  What the two TensorCore bodies compute on the extended reals, at an index: the softmax of the layer weights, the mix over
  the layers, and the contraction with the one-hot matrix of the words.
-/
module

public import proofs.«01_k».proof.Proof.Gen.KernelIdeal.Skeleton
public import proofs.«01_k».proof.Proof.Spec
public import Idealize.ShloMosaic.Lib.Pipeline.ValueKit

@[expose] public section

set_option maxRecDepth 16384

noncomputable section

namespace Cert.Proof.Payloads

open Cert.KernelIdeal Cert.KernelIdeal.Gen
open Idealize.ShloMosaic Idealize.ShloMosaic.TcCoe
open scoped BigOperators

/-! ## Loads of one layer, and sums over the layers -/

/-- Layer `l`'s slab of the staged block, as the bodies load it. -/
abbrev slab (X : Vec Ideal S1x13x256x768 .f32) (l : Nat) (h : ∀ a, (![0, l, 0, 0] : Fin 4 → Nat) a + (![1, 1, 256, 768] : Fin 4 → Nat) a ≤ S1x13x256x768.size a) :
    FVec Ideal S1x1x256x768 .f32 :=
  View.ld X (Rect.unit (s := S1x13x256x768) ![0, l, 0, 0] ![1, 1, 256, 768] h)

/-- The slab at a position and a feature. -/
theorem slab_apply (X : FVec Ideal S1x13x256x768 .f32) (l : Fin 13) (h) (s : Fin 256) (f : Fin 768) : slab X l.val h (ix4 0 0 s f) = X (ix4 0 l s f) := by
  refine congrArg X ?_
  funext a
  fin_cases a <;> (apply Fin.ext; simp [Rect.unit, Rect.emb, ix4])

/-- A sum over the thirteen layers, added in order. -/
theorem sum13 (g : Fin 13 → EReal) :
    ∑ l, g l = g 0 + g 1 + g 2 + g 3 + g 4 + g 5 + g 6 + g 7 + g 8 + g 9 + g 10 + g 11 + g 12 := by
  simp only [Fin.sum_univ_castSucc, Fin.sum_univ_zero, zero_add]
  rfl

/-- The softmax of the staged layer weights. -/
abbrev wt (v0 : FVec Ideal S1x13 .f32) (l : Fin 13) : EReal := Cert.Spec.weight (fun i => v0 (ix2 (0 : Fin 1) (i 0))) l

/-- The mix over the layers of the staged block. -/
def mixOf (w : FVec Ideal S1x13 .f32) (X : FVec Ideal S1x13x256x768 .f32) (s : Fin 256) (f : Fin 768) : EReal :=
  ∑ l : Fin 13, X (ix4 0 l s f) * wt w l

/-- The mix, its thirteen terms added in order over the loaded slabs. -/
theorem mixOf_eq (w : FVec Ideal S1x13 .f32) (X : FVec Ideal S1x13x256x768 .f32) (s : Fin 256) (f : Fin 768) :
    slab X 0 inb_S1x13x256x768_S1x1x256x768_0_0_0_0 (ix4 0 0 s f) * wt w 0 + slab X 1 inb_S1x13x256x768_S1x1x256x768_0_1_0_0 (ix4 0 0 s f) * wt w 1
      + slab X 2 inb_S1x13x256x768_S1x1x256x768_0_2_0_0 (ix4 0 0 s f) * wt w 2 + slab X 3 inb_S1x13x256x768_S1x1x256x768_0_3_0_0 (ix4 0 0 s f) * wt w 3
      + slab X 4 inb_S1x13x256x768_S1x1x256x768_0_4_0_0 (ix4 0 0 s f) * wt w 4 + slab X 5 inb_S1x13x256x768_S1x1x256x768_0_5_0_0 (ix4 0 0 s f) * wt w 5
      + slab X 6 inb_S1x13x256x768_S1x1x256x768_0_6_0_0 (ix4 0 0 s f) * wt w 6 + slab X 7 inb_S1x13x256x768_S1x1x256x768_0_7_0_0 (ix4 0 0 s f) * wt w 7
      + slab X 8 inb_S1x13x256x768_S1x1x256x768_0_8_0_0 (ix4 0 0 s f) * wt w 8 + slab X 9 inb_S1x13x256x768_S1x1x256x768_0_9_0_0 (ix4 0 0 s f) * wt w 9
      + slab X 10 inb_S1x13x256x768_S1x1x256x768_0_10_0_0 (ix4 0 0 s f) * wt w 10 + slab X 11 inb_S1x13x256x768_S1x1x256x768_0_11_0_0 (ix4 0 0 s f) * wt w 11
      + slab X 12 inb_S1x13x256x768_S1x1x256x768_0_12_0_0 (ix4 0 0 s f) * wt w 12 = mixOf w X s f := by
  unfold mixOf
  rw [sum13]
  have h (l : Fin 13) (h) := slab_apply X l h s f
  exact congrArg₂ (· + ·) (congrArg₂ (· + ·) (congrArg₂ (· + ·) (congrArg₂ (· + ·) (congrArg₂ (· + ·) (congrArg₂ (· + ·) (congrArg₂ (· + ·)
    (congrArg₂ (· + ·) (congrArg₂ (· + ·) (congrArg₂ (· + ·) (congrArg₂ (· + ·) (congrArg₂ (· + ·) (congrArg (· * _) (h 0 _))
      (congrArg (· * _) (h 1 _))) (congrArg (· * _) (h 2 _))) (congrArg (· * _) (h 3 _))) (congrArg (· * _) (h 4 _))) (congrArg (· * _) (h 5 _)))
      (congrArg (· * _) (h 6 _))) (congrArg (· * _) (h 7 _))) (congrArg (· * _) (h 8 _))) (congrArg (· * _) (h 9 _))) (congrArg (· * _) (h 10 _)))
      (congrArg (· * _) (h 11 _))) (congrArg (· * _) (h 12 _))

/-! ## The first call's body -/

/-- The body's layer weights are the softmax of the staged layer weights. -/
theorem mix_weights (v0 : FVec Ideal S1x13 .f32) (l : Fin 13) : k0_pay1 (F := Ideal) v0 (ix1 l) = wt v0 l := by
  pointwise [k0_pay1, Cert.Spec.weight]
  rw [Cert.Spec.ofBits_neg_inf]

/-- The first three terms of the mix. -/
theorem mix_three (v0 : FVec Ideal S1x13 .f32) (a b c : FVec Ideal S1x1x256x768 .f32) (s : Fin 256) (f : Fin 768) :
    k0_pay2 v0 a b c (ix2 s f) = a (ix4 0 0 s f) * k0_pay1 v0 (ix1 0) + b (ix4 0 0 s f) * k0_pay1 v0 (ix1 1) + c (ix4 0 0 s f) * k0_pay1 v0 (ix1 2) := by
  pointwise [k0_pay2]

/-- The fourth layer's slab without its two leading unit axes. -/
theorem mix_slab (a : FVec Ideal S1x1x256x768 .f32) (s : Fin 256) (f : Fin 768) : k0_pay3 (F := Ideal) a (ix2 s f) = a (ix4 0 0 s f) := by
  pointwise [k0_pay3]

/-- The fourth weight, as it is cut out of the weights. -/
theorem mix_fourth (v0 : FVec Ideal S1x13 .f32) : k0_pay4 (F := Ideal) v0 (ix1 0) = k0_pay1 (F := Ideal) v0 (ix1 3) := by
  pointwise [k0_pay4]

/-- The next six terms of the mix, added to the first three. -/
theorem mix_six (w : FVec Ideal S13 .f32) (A B : FVec Ideal S256x768 .f32) (W : FVec Ideal S1 .f32) (a b c d e : FVec Ideal S1x1x256x768 .f32) (s : Fin 256) (f : Fin 768) :
    k0_pay5 w A B W a b c d e (ix2 s f) = A (ix2 s f) + B (ix2 s f) * W (ix1 0) + a (ix4 0 0 s f) * w (ix1 4) + b (ix4 0 0 s f) * w (ix1 5)
      + c (ix4 0 0 s f) * w (ix1 6) + d (ix4 0 0 s f) * w (ix1 7) + e (ix4 0 0 s f) * w (ix1 8) := by
  pointwise [k0_pay5]

/-- The last four terms of the mix. -/
theorem mix_last (w : FVec Ideal S13 .f32) (A : FVec Ideal S256x768 .f32) (a b c d : FVec Ideal S1x1x256x768 .f32) (s : Fin 256) (f : Fin 768) :
    k0_pay6 w A a b c d (ix2 s f) = A (ix2 s f) + a (ix4 0 0 s f) * w (ix1 9) + b (ix4 0 0 s f) * w (ix1 10) + c (ix4 0 0 s f) * w (ix1 11)
      + d (ix4 0 0 s f) * w (ix1 12) := by
  pointwise [k0_pay6]

/-- The body's first store holds the mix's first half of the columns. -/
theorem mix_lo (w : FVec Ideal S13 .f32) (A : FVec Ideal S256x768 .f32) (a b c d : FVec Ideal S1x1x256x768 .f32) (s : Fin 256) (f : Fin 384) :
    k0_pay7 w A a b c d (ix4 0 0 s f) = k0_pay6 w A a b c d (ix2 s (⟨f.val, by have := f.isLt; omega⟩ : Fin 768)) := by
  unfold k0_pay7
  generalize k0_pay6 w A a b c d = M
  pointwise []

/-- Its second store holds the other half. -/
theorem mix_hi (w : FVec Ideal S13 .f32) (A : FVec Ideal S256x768 .f32) (a b c d : FVec Ideal S1x1x256x768 .f32) (s : Fin 256) (f : Fin 384) :
    k0_pay8 w A a b c d (ix4 0 0 s f) = k0_pay6 w A a b c d (ix2 s (⟨384 + f.val, by have := f.isLt; omega⟩ : Fin 768)) := by
  unfold k0_pay8
  generalize k0_pay6 w A a b c d = M
  pointwise []

/-- The body's mix over its staged blocks. -/
theorem mix_body (w : FVec Ideal S1x13 .f32) (X : FVec Ideal S1x13x256x768 .f32) (s : Fin 256) (f : Fin 768) :
    k0_pay6 (F := Ideal) (k0_pay1 w) (k0_pay5 (k0_pay1 w) (k0_pay2 w (slab X 0 inb_S1x13x256x768_S1x1x256x768_0_0_0_0) (slab X 1 inb_S1x13x256x768_S1x1x256x768_0_1_0_0) (slab X 2 inb_S1x13x256x768_S1x1x256x768_0_2_0_0))
        (k0_pay3 (slab X 3 inb_S1x13x256x768_S1x1x256x768_0_3_0_0)) (k0_pay4 w) (slab X 4 inb_S1x13x256x768_S1x1x256x768_0_4_0_0) (slab X 5 inb_S1x13x256x768_S1x1x256x768_0_5_0_0) (slab X 6 inb_S1x13x256x768_S1x1x256x768_0_6_0_0) (slab X 7 inb_S1x13x256x768_S1x1x256x768_0_7_0_0) (slab X 8 inb_S1x13x256x768_S1x1x256x768_0_8_0_0))
        (slab X 9 inb_S1x13x256x768_S1x1x256x768_0_9_0_0) (slab X 10 inb_S1x13x256x768_S1x1x256x768_0_10_0_0) (slab X 11 inb_S1x13x256x768_S1x1x256x768_0_11_0_0) (slab X 12 inb_S1x13x256x768_S1x1x256x768_0_12_0_0) (ix2 s f) = mixOf w X s f := by
  rw [mix_last, mix_six, mix_three, mix_slab, mix_fourth]
  simp only [mix_weights]
  exact mixOf_eq w X s f

/-! ## The second call's body -/

/-- The body's layer weights are the softmax of the staged layer weights. -/
theorem fus_weights (v0 : FVec Ideal S1x13 .f32) (l : Fin 13) : k2_pay3 (F := Ideal) v0 (ix1 l) = wt v0 l := by
  pointwise [k2_pay3, Cert.Spec.weight]
  rw [Cert.Spec.ofBits_neg_inf]

/-- The first three terms of the mix. -/
theorem fus_three (v0 : FVec Ideal S1x13 .f32) (a b c : FVec Ideal S1x1x256x768 .f32) (s : Fin 256) (f : Fin 768) :
    k2_pay4 v0 a b c (ix2 s f) = a (ix4 0 0 s f) * k2_pay3 v0 (ix1 0) + b (ix4 0 0 s f) * k2_pay3 v0 (ix1 1) + c (ix4 0 0 s f) * k2_pay3 v0 (ix1 2) := by
  pointwise [k2_pay4]

/-- The fourth layer's slab without its two leading unit axes. -/
theorem fus_slab (a : FVec Ideal S1x1x256x768 .f32) (s : Fin 256) (f : Fin 768) : k2_pay5 (F := Ideal) a (ix2 s f) = a (ix4 0 0 s f) := by
  pointwise [k2_pay5]

/-- The fourth weight, as it is cut out of the weights. -/
theorem fus_fourth (v0 : FVec Ideal S1x13 .f32) : k2_pay6 (F := Ideal) v0 (ix1 0) = k2_pay3 (F := Ideal) v0 (ix1 3) := by
  pointwise [k2_pay6]

/-- The next six terms of the mix, added to the first three. -/
theorem fus_six (w : FVec Ideal S13 .f32) (A B : FVec Ideal S256x768 .f32) (W : FVec Ideal S1 .f32) (a b c d e : FVec Ideal S1x1x256x768 .f32) (s : Fin 256) (f : Fin 768) :
    k2_pay7 w A B W a b c d e (ix2 s f) = A (ix2 s f) + B (ix2 s f) * W (ix1 0) + a (ix4 0 0 s f) * w (ix1 4) + b (ix4 0 0 s f) * w (ix1 5)
      + c (ix4 0 0 s f) * w (ix1 6) + d (ix4 0 0 s f) * w (ix1 7) + e (ix4 0 0 s f) * w (ix1 8) := by
  pointwise [k2_pay7]

/-- A comparison's bit, widened and read as a float, is one or zero. -/
theorem onehot (a b : BitVec 32) : (FloatOps.sitofp (F := Ideal) .f32 (BitVec.setWidth 32 (IntOp.cmpi .eq a b)) : EReal) = if a = b then 1 else 0 := by
  by_cases h : a = b
  · subst h
    simp [IntOp.cmpi, FloatOps.sitofp]
  · simp [IntOp.cmpi, FloatOps.sitofp, beq_false_of_ne h]
    exact h

/-- The contraction with the one-hot matrix: the positions whose word is `v`, their mixes completed by the last four terms. -/
theorem fus_contract (w : FVec Ideal S13 .f32) (A : FVec Ideal S256x768 .f32) (a b c d : FVec Ideal S1x1x256x768 .f32) (I : IVec S1x1x256 32) (v : Fin 256) (f : Fin 768) :
    k2_pay8 w A a b c d I (ix2 v f) = ∑ s : Fin 256, if I (ix3 0 0 s) = BitVec.ofNat 32 v.val then
      A (ix2 s f) + a (ix4 0 0 s f) * w (ix1 9) + b (ix4 0 0 s f) * w (ix1 10) + c (ix4 0 0 s f) * w (ix1 11) + d (ix4 0 0 s f) * w (ix1 12) else 0 := by
  pointwise [k2_pay8]
  refine Finset.sum_congr rfl fun s _ => ?_
  rw [onehot]
  split <;> simp

/-- The store adds the contraction to what the output's block holds. -/
theorem fus_add (A : FVec Ideal S256x768 .f32) (Y : FVec Ideal S1x256x768 .f32) (v : Fin 256) (f : Fin 768) :
    k2_pay2 A Y (ix3 0 v f) = Y (ix3 0 v f) + A (ix2 v f) := by
  pointwise [k2_pay2]

/-- The zeros stored at a batch's first block. -/
theorem fus_zero (v : Fin 256) (f : Fin 768) : k2_pay1 (F := Ideal) (ix3 0 v f) = (0 : EReal) := by
  pointwise [k2_pay1]

/-- A word below 256 equals an index word exactly when the index, read signed, is that number. -/
theorem eq_ofNat_iff (a : BitVec 32) (v : Fin 256) : a = BitVec.ofNat 32 v.val ↔ a.toInt = (v.val : Int) := by
  have hv := v.isLt
  have h : (BitVec.ofNat 32 v.val).toInt = (v.val : Int) := by
    rw [BitVec.toInt_eq_toNat_of_lt (by rw [BitVec.toNat_ofNat]; omega), BitVec.toNat_ofNat]
    omega
  rw [← h]
  exact ⟨fun e => by rw [e], fun e => BitVec.eq_of_toInt_eq e⟩

/-- The sum of the mixes at the block's positions whose word is `v`. -/
def partOf (w : FVec Ideal S1x13 .f32) (I : IVec S1x1x256 32) (X : FVec Ideal S1x13x256x768 .f32) (v : Fin 256) (f : Fin 768) : EReal :=
  ∑ s : Fin 256, if (I (ix3 0 0 s)).toInt = (v.val : Int) then mixOf w X s f else 0

/-- The body's contraction over its staged blocks. -/
theorem fus_body (w : FVec Ideal S1x13 .f32) (X : FVec Ideal S1x13x256x768 .f32) (I : IVec S1x1x256 32) (v : Fin 256) (f : Fin 768) :
    k2_pay8 (F := Ideal) (k2_pay3 w) (k2_pay7 (k2_pay3 w) (k2_pay4 w (slab X 0 inb_S1x13x256x768_S1x1x256x768_0_0_0_0) (slab X 1 inb_S1x13x256x768_S1x1x256x768_0_1_0_0) (slab X 2 inb_S1x13x256x768_S1x1x256x768_0_2_0_0))
        (k2_pay5 (slab X 3 inb_S1x13x256x768_S1x1x256x768_0_3_0_0)) (k2_pay6 w) (slab X 4 inb_S1x13x256x768_S1x1x256x768_0_4_0_0) (slab X 5 inb_S1x13x256x768_S1x1x256x768_0_5_0_0) (slab X 6 inb_S1x13x256x768_S1x1x256x768_0_6_0_0) (slab X 7 inb_S1x13x256x768_S1x1x256x768_0_7_0_0) (slab X 8 inb_S1x13x256x768_S1x1x256x768_0_8_0_0))
        (slab X 9 inb_S1x13x256x768_S1x1x256x768_0_9_0_0) (slab X 10 inb_S1x13x256x768_S1x1x256x768_0_10_0_0) (slab X 11 inb_S1x13x256x768_S1x1x256x768_0_11_0_0) (slab X 12 inb_S1x13x256x768_S1x1x256x768_0_12_0_0) I (ix2 v f) = partOf w I X v f := by
  rw [fus_contract]
  refine Finset.sum_congr rfl fun s _ => ?_
  rw [if_congr (eq_ofNat_iff _ v) rfl rfl]
  congr 1
  rw [fus_six, fus_three, fus_slab, fus_fourth]
  simp only [fus_weights]
  exact mixOf_eq w X s f

end Cert.Proof.Payloads

end
-- ==== Proof.MixValue.lean ====
/-
  What the first TensorCore call leaves in its array on the extended reals: the features mixed over the layers, the columns
  in two halves.
-/
module

public import proofs.«01_k».proof.Proof.Steps
public import proofs.«01_k».proof.Proof.Payloads

@[expose] public section

set_option maxRecDepth 16384

noncomputable section

namespace Cert.Proof.Launch

open Cert.KernelIdeal Cert.KernelIdeal.Gen Cert.Proof.Model Cert.Proof.Rows Cert.Proof.Payloads
open Idealize.ShloMosaic Idealize.ShloMosaic.TcCoe
open Idealize.ShloMosaic.Pipeline (Dat)

/-- The block each window holds at grid point `t`: the whole weights, and batch `t / 2` and its block of positions of the features and of the mix. -/
theorem idx0 : ∀ t : Fin cfg0.N, win0_0.index t = ![0, 0] ∧ win0_1.index t = ![t.val / 2, 0, t.val % 2, 0]
    ∧ win0_2.index t = ![0, t.val / 2, t.val % 2, 0] :=
  (by decide +kernel : ∀ t : Fin grid0.N, _)

/-- The mix over the staged blocks, as the two halves of the output's block hold it. -/
theorem mixOut_apply (c : Dev nD) (i : grid0.Coords) (arg2 : Memref sig .tc .vmem S1x13 .f32) (harg2 : arg2.IsWhole)
    (arg3 : Memref sig .tc .vmem S1x13x256x768 .f32) (harg3 : arg3.IsWhole) (arg4 : Memref sig .tc .vmem S2x1x256x384 .f32) (harg4 : arg4.IsWhole)
    (w : FVec Ideal S1x13 .f32) (X : FVec Ideal S1x13x256x768 .f32) (p : Fin 2) (s : Fin 256) (f : Fin 384) :
    mixOut (F := Ideal) c i arg2 harg2 arg3 harg3 arg4 harg4 w X (ix4 p 0 s f)
      = mixOf w X s (⟨384 * p.val + f.val, by have := p.isLt; have := f.isLt; omega⟩ : Fin 768) := by
  unfold mixOut
  frame_out
  have e (x : S1x1x256x384.Idx) : x = ix4 (0 : Fin 1) (0 : Fin 1) (x 2) (x 3) := by
    funext a; fin_cases a; exact Subsingleton.elim (α := Fin 1) _ _; exact Subsingleton.elim (α := Fin 1) _ _; rfl; rfl
  canon_tiles x h
  case piece0 =>
    obtain rfl : p = 1 := by have hp := p.isLt; apply Fin.ext; show p.val = 1; have : p.val = 1 + (x 0).val := h0; omega
    have h2' : s.val = (x 2).val := h2
    have h3' : f.val = (x 3).val := h3
    rw [e x]
    refine (mix_hi _ _ _ _ _ _ (x 2) (x 3)).trans ((mix_body w X (x 2) _).trans ?_)
    exact congrArg₂ (mixOf w X) (Fin.ext h2'.symm) (Fin.ext (by show 384 + (x 3).val = 384 * 1 + f.val; omega))
  case piece1 =>
    obtain rfl : p = 0 := by apply Fin.ext; show p.val = 0; have : p.val = (x 0).val := h0; omega
    have h2' : s.val = (x 2).val := h2
    have h3' : f.val = (x 3).val := h3
    rw [e x]
    refine (mix_lo _ _ _ _ _ _ (x 2) (x 3)).trans ((mix_body w X (x 2) _).trans ?_)
    exact congrArg₂ (mixOf w X) (Fin.ext h2'.symm) (Fin.ext (by show (x 3).val = 384 * 0 + f.val; omega))

/-- The mix array. -/
def mixG (x : FVec Ideal S16x13x512x768 .f32) (w : FVec Ideal S1x13 .f32) : FVec Ideal S2x8x512x384 .f32 :=
  fun i => Cert.Spec.mix x (fun l => w (ix2 (0 : Fin 1) (l 0))) (⟨(i 1).val, by have : (i 1).val < 8 := (i 1).isLt; omega⟩ : Fin 16) (i 2)
    (⟨384 * (i 0).val + (i 3).val, by have : (i 0).val < 2 := (i 0).isLt; have : (i 3).val < 384 := (i 3).isLt; omega⟩ : Fin 768)

variable (Vv : Dev nD → Valuation τ sig (Elt Ideal))

/-- After the call its array holds the mix. -/
theorem mix_final (n : ℕ) (d : Dev nD) : (dat0 Vv n d).arrAt 2 cfg0.N = mixG (Vv d (ref main_arg0)) (Vv d (ref main_v0)) := by
  refine (dat0 Vv n d).arrAt_eq_of_covers 2 _ (by decide +kernel) fun t _ y => ?_
  blk_simp
  rw [after0_2]
  unfold outsAt0
  obtain ⟨p, s, f, rfl⟩ : ∃ (p : Fin 2) (s : Fin 256) (f : Fin 384), y = ix4 p (0 : Fin 1) s f :=
    ⟨y 0, y 2, y 3, by funext a; fin_cases a; rfl; exact Subsingleton.elim (α := Fin 1) _ _; rfl; rfl⟩
  refine (mixOut_apply _ _ _ _ _ _ _ _ _ _ p s f).trans ?_
  unfold mixG mixOf wt Cert.Spec.mix
  blk_point [iblk0, ref, idx0 t]

end Cert.Proof.Launch

end
-- ==== Proof.FusedValue.lean ====
/-
  What the second TensorCore call leaves in its array on the extended reals: the word sums of the last eight batches.
-/
module

public import proofs.«01_k».proof.Proof.Steps
public import proofs.«01_k».proof.Proof.Payloads
public import Mathlib.Algebra.BigOperators.Fin

@[expose] public section

set_option maxRecDepth 16384

noncomputable section

namespace Cert.Proof.Launch

open Cert.KernelIdeal Cert.KernelIdeal.Gen Cert.Proof.Model Cert.Proof.Rows Cert.Proof.Payloads
open Idealize.ShloMosaic Idealize.ShloMosaic.TcCoe
open Idealize.ShloMosaic.Pipeline (Dat)

/-- The block each window holds at grid point `t`: the whole weights, block `t % 2` of batch `t / 2`'s words, the same of batch `8 + t / 2`'s
    features, and batch `t / 2` of the sums. -/
theorem idx2 : ∀ t : Fin cfg2.N, win2_0.index t = ![0, 0] ∧ win2_1.index t = ![t.val / 2, 0, t.val % 2]
    ∧ win2_2.index t = ![t.val / 2 + 8, 0, t.val % 2, 0] ∧ win2_3.index t = ![t.val / 2, 0, 0] :=
  (by decide +kernel : ∀ t : Fin grid2.N, _)

variable (c : Dev nD) (i : grid2.Coords) (arg2 : Memref sig .tc .vmem S1x13 .f32) (harg2 : arg2.IsWhole) (arg3 : Memref sig .tc .vmem S1x1x256 .i32) (harg3 : arg3.IsWhole)
    (arg4 : Memref sig .tc .vmem S1x13x256x768 .f32) (harg4 : arg4.IsWhole) (arg5 : Memref sig .tc .vmem S1x256x768 .f32) (harg5 : arg5.IsWhole)
    (w : FVec Ideal S1x13 .f32) (I : IVec S1x1x256 32) (X : FVec Ideal S1x13x256x768 .f32) (v : Fin 256) (f : Fin 768)

/-- A batch's first block leaves its part of the sums, -/
theorem fusOutA_apply (hc0 : first2 i) :
    fusOutA (F := Ideal) c i arg2 harg2 arg3 harg3 arg4 harg4 arg5 harg5 hc0 w I X (ix3 0 v f) = partOf w I X v f := by
  unfold fusOutA
  frame_out
  refine (fus_add _ _ v f).trans ?_
  rw [fus_zero, zero_add]
  exact fus_body w X I v f

/-- and its second adds its own part to what the first left. -/
theorem fusOutB_apply (hc0 : ¬ first2 i) (Y : FVec Ideal S1x256x768 .f32) :
    fusOutB (F := Ideal) c i arg2 harg2 arg3 harg3 arg4 harg4 arg5 harg5 hc0 w I X Y (ix3 0 v f) = (Y (ix3 0 v f) + partOf w I X v f : EReal) := by
  unfold fusOutB
  frame_out
  refine (fus_add _ _ v f).trans ?_
  exact congrArg (_ + ·) (fus_body w X I v f)

/-- The mix at a batch, a position and a feature, over the features and the staged weights. -/
abbrev mixAt (x : FVec Ideal S16x13x512x768 .f32) (w : FVec Ideal S1x13 .f32) (b : Fin 8) (s : Fin 512) (f : Fin 768) : EReal :=
  Cert.Spec.mix x (fun l => w (ix2 (0 : Fin 1) (l 0))) (⟨b.val + 8, by have := b.isLt; omega⟩ : Fin 16) s f

/-- The array of the sums. -/
def fusG (x : FVec Ideal S16x13x512x768 .f32) (ids : IVec S8x1x512 32) (w : FVec Ideal S1x13 .f32) : FVec Ideal S8x256x768 .f32 :=
  fun i => ∑ s : Fin 512, if (ids (ix3 (i 0) (0 : Fin 1) s)).toInt = ((i 1).val : Int) then mixAt x w (i 0) s (i 2) else 0

variable (Vv : Dev nD → Valuation τ sig (Elt Ideal))

/-- The part of a batch's block, over the arrays. -/
theorem part_apply (d : Dev nD) (t : Fin cfg2.N) (b : Fin 8) (hb : b.val = t.val / 2) :
    partOf (iblk2 Vv d 0 t) (iblk2 Vv d 1 t) (iblk2 Vv d 2 t) v f
      = ∑ s : Fin 256, if (Vv d (ref main_v7) (ix3 b (0 : Fin 1) (⟨t.val % 2 * 256 + s.val, by have := s.isLt; omega⟩ : Fin 512))).toInt = (v.val : Int) then
          mixAt (Vv d (ref main_arg0)) (Vv d (ref main_v0)) b (⟨t.val % 2 * 256 + s.val, by have := s.isLt; omega⟩ : Fin 512) f else 0 := by
  obtain ⟨bv, hbv⟩ := b
  obtain rfl : bv = t.val / 2 := hb
  unfold partOf mixOf wt mixAt Cert.Spec.mix
  blk_point [iblk2, ref, idx2 t]

/-- After the call its array holds the sums. -/
theorem fus_final (n : ℕ) (d : Dev nD) : (dat2 Vv n d).arrAt 3 cfg2.N = fusG (Vv d (ref main_arg0)) (Vv d (ref main_v7)) (Vv d (ref main_v0)) := by
  refine (dat2 Vv n d).arrAt_eq_of_covers 3 _ (by decide +kernel) fun t ht y => ?_
  have hodd : t.val % 2 = 1 := (flush2_3 t).mp ht
  have hN : t.val < 16 := Nat.lt_of_lt_of_eq t.isLt N_2
  rw [after2_3]
  obtain ⟨v, f, rfl⟩ : ∃ (v : Fin 256) (f : Fin 768), y = ix3 (0 : Fin 1) v f :=
    ⟨y 1, y 2, by funext a; fin_cases a; exact Subsingleton.elim (α := Fin 1) _ _; rfl; rfl⟩
  have hE : ((cfg2.win 3).blk t).view.emb (ix3 (0 : Fin 1) v f) = (ix3 (⟨t.val / 2, by omega⟩ : Fin 8) v f : S8x256x768.Idx) := by
    blk_ext [idx2 t]
  have hp : (prev2 t).val = t.val - 1 := rfl
  have e : outsAt2 Vv d t (ix3 (0 : Fin 1) v f) = (partOf (iblk2 Vv d 0 (prev2 t)) (iblk2 Vv d 1 (prev2 t)) (iblk2 Vv d 2 (prev2 t)) v f
      + partOf (iblk2 Vv d 0 t) (iblk2 Vv d 1 t) (iblk2 Vv d 2 t) v f : EReal) := by
    rw [show outsAt2 Vv d t = outB2 Vv d t (by omega) from dif_neg _]
    unfold outB2
    rw [fusOutB_apply]
    unfold outA2
    rw [fusOutA_apply]
  refine Eq.trans (b := (outsAt2 Vv d t (ix3 (0 : Fin 1) v f) : EReal)) rfl ?_
  refine e.trans (Eq.trans ?_ (congrArg (fusG (Vv d (ref main_arg0)) (Vv d (ref main_v7)) (Vv d (ref main_v0))) hE).symm)
  rw [part_apply v f Vv d (prev2 t) (⟨t.val / 2, by omega⟩ : Fin 8) (by show t.val / 2 = (t.val - 1) / 2; omega),
    part_apply v f Vv d t (⟨t.val / 2, by omega⟩ : Fin 8) rfl]
  refine Eq.trans (congrArg₂ (· + ·) (Finset.sum_congr rfl fun s _ => ?_) (Finset.sum_congr rfl fun s _ => ?_))
    (Fin.sum_univ_add (M := EReal) (a := 256) (b := 256) _).symm
  · have h : (⟨(prev2 t).val % 2 * 256 + s.val, by have := s.isLt; omega⟩ : Fin 512) = Fin.castAdd 256 s :=
      Fin.ext (by show (t.val - 1) % 2 * 256 + s.val = s.val; omega)
    rw [h]; rfl
  · have h : (⟨t.val % 2 * 256 + s.val, by have := s.isLt; omega⟩ : Fin 512) = Fin.natAdd 256 s :=
      Fin.ext (by show t.val % 2 * 256 + s.val = 256 + s.val; omega)
    rw [h]; rfl

end Cert.Proof.Launch

end
-- ==== Proof.Frames.lean ====
/-
  The frame of the kernel: it runs, its arguments end unchanged, and every semaphore reads zero, where the word ids are in
  range.
-/
module

public import proofs.«01_k».proof.Proof.Steps
public import proofs.«01_k».proof.Proof.Gen.KernelIdeal.Points
public import proofs.«01_k».proof.Proof.Gen.KernelIdeal.Launch
public import Idealize.ShloMosaic.Lib.Pipeline.RegionArraysS
public import Idealize.ShloMosaic.Lib.Ring
public import Idealize.ShloMosaic.Lib.Pipeline.ValueKit
public import Idealize.ShloMosaic.Lib.WordCmp
public import Idealize.ShloMosaic.Lib.ReduceAll
public import proofs.«01_k».proof.Defs
public import proofs.«01_k».proof.Proof.Gen.Kernel
public import proofs.«01_k».proof.Proof.Gen.Pre_ids_in_range
public import proofs.«01_k».proof.Proof.Gen.Pre_ids_sorted

@[expose] public section

set_option maxRecDepth 16384

noncomputable section

namespace Cert.Proof.Launch

open Cert.KernelIdeal Cert.KernelIdeal.Gen Cert.Proof.Model Cert.Proof.Rows
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.Cfg (HIx)
open Idealize.ShloMosaic.Tactic
open Idealize.ShloMosaic.Pipeline (Dat BodyObligation)

variable {F : FTy → Type} [FloatOps F]

variable (m : (ℓ : Loc nD τ sig) → Buf (Elt F) ℓ) (ρ : Dev nD → PrngReg)

/-- Every word id of a launch memory is below 256. -/
def InRange : Prop := ∀ (d : Dev nD) (b : Fin 16) (s : Fin 512), ((m (d, ref main_arg1) : Vec F S16x512 .i32) (ix2 b s)).toNat < 256

theorem fi_lt (hm : InRange m) (d : Dev nD) (y) : (fi m d y).toNat < 256 := by
  have hy : (y 0).val < 4096 := (y 0).isLt
  have h := fi_apply m d ⟨(y 0).val / 512, by omega⟩ ⟨(y 0).val % 512, Nat.mod_lt _ (by decide)⟩ (by show 512 * ((y 0).val / 512) + (y 0).val % 512 < 4096; omega)
  have e : y = ix1 ⟨512 * ((y 0).val / 512) + (y 0).val % 512, by omega⟩ := by
    funext a; match a with
    | ⟨0, _⟩ => exact Fin.ext (by show (y 0).val = 512 * ((y 0).val / 512) + (y 0).val % 512; omega)
  rw [e]
  exact lt_of_eq_of_lt (congrArg BitVec.toNat h) (hm d _ _)

/-- What the frame says of the memory at the end. -/
abbrev Kept (r : PUnit × MemSt nD τ sig (Elt F)) : Prop :=
  (∀ c : Dev nD, r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)) ∧ r.2.sem = fun _ => 0

theorem kept_of_QC (r : PUnit × MemSt nD τ sig (Elt F)) (h : QC m r) : Kept m r :=
  ⟨fun c => ⟨(h.1 c _ (mem_uc main_arg0 (by decide))).trans (W7_arg m c (by decide) (by decide) (by decide) (by decide)),
    (h.1 c _ (mem_uc main_arg1 (by decide))).trans (W7_arg m c (by decide) (by decide) (by decide) (by decide)),
    (h.1 c _ (mem_uc main_arg2 (by decide))).trans (W7_arg m c (by decide) (by decide) (by decide) (by decide))⟩, h.2⟩

/-- The kernel's frame, over any floats. -/
theorem run_kept [∀ e, Nonempty (Elt F e)] (hm : InRange m) :
    θ_run (Cert.KernelIdeal.defs (F := F)) (Cert.KernelIdeal.threads (F := F)) ⟨m, fun _ => 0, ρ⟩ (Kept m) :=
  (θ_run Cert.KernelIdeal.defs _ _).mono (fun r h => kept_of_QC m r h) (run_main m ρ (fi_lt m hm))

/-! ## The preconditions, read at an element -/

theorem andi_ofBool (p q : Bool) : IntOp.andi (BitVec.ofBool p) (BitVec.ofBool q) = BitVec.ofBool (p && q) := by
  cases p <;> cases q <;> decide
theorem ofBool_eq_one (p : Bool) : (BitVec.ofBool p = 1#1) ↔ p = true := by cases p <;> decide

theorem lt_of_bits (v : BitVec 32) (e : IntOp.andi (IntOp.cmpi .sge v 0#32) (IntOp.cmpi .slt v 256#32) = 1#1) : v.toNat < 256 := by
  simp only [IntOp.cmpi, andi_ofBool, ofBool_eq_one, Bool.and_eq_true, BitVec.sle_eq_decide, BitVec.slt_eq_decide,
    decide_eq_true_eq, BitVec.toInt_eq_toNat_cond, BitVec.toNat_ofNat, Nat.reducePow, Nat.reduceMod] at e
  omega

theorem le_of_bits (u v : BitVec 32) (hu : u.toNat < 256) (hv : v.toNat < 256) (e : IntOp.cmpi .sge u v = 1#1) : v.toNat ≤ u.toNat := by
  simp only [IntOp.cmpi, ofBool_eq_one, BitVec.sle_eq_decide, decide_eq_true_eq, BitVec.toInt_eq_toNat_cond, Nat.reducePow] at e
  omega

theorem range_of_pre {G : FTy → Type} [FloatOps G] (x : FVec G Cert.Pre_ids_in_range.S16x13x512x768 .f32) (ids : IVec Cert.Pre_ids_in_range.S16x512 32)
    (w : FVec G Cert.Pre_ids_in_range.S13 .f32) (h : (haveI := Cert.Pre_ids_in_range.Gen.facts; Cert.Pre_ids_in_range.fn (F := G) x ids w) = fun _ => 1#1)
    (b : Fin 16) (s : Fin 512) : (ids (ix2 b s)).toNat < 256 := by
  have h1 := Host.reduce_andi_all _ _ _ _ _ (congrFun h (fun a => a.elim0)) (ix2 b s)
  refine lt_of_bits _ ?_
  rw [← h1]
  pointwise []

theorem both_of_andi : ∀ a b : BitVec 1, IntOp.andi a b = 1#1 → a = 1#1 ∧ b = 1#1 := by decide

theorem sorted_of_pre {G : FTy → Type} [FloatOps G] (x : FVec G Cert.Pre_ids_sorted.S16x13x512x768 .f32) (ids : IVec Cert.Pre_ids_sorted.S16x512 32)
    (w : FVec G Cert.Pre_ids_sorted.S13 .f32) (h : (haveI := Cert.Pre_ids_sorted.Gen.facts; Cert.Pre_ids_sorted.fn (F := G) x ids w) = fun _ => 1#1) :
    (∀ (b : Fin 16) (s : Fin 512), (ids (ix2 b s)).toNat < 256)
      ∧ ∀ (b : Fin 16) (s : Fin 511), (ids (ix2 b ⟨s.val, by omega⟩)).toNat ≤ (ids (ix2 b ⟨1 + s.val, by omega⟩)).toNat := by
  have e := congrFun h (fun a => a.elim0)
  dsimp only [Cert.Pre_ids_sorted.fn] at e
  obtain ⟨h5, h9⟩ := both_of_andi _ _ e
  have hr : ∀ (b : Fin 16) (s : Fin 512), (ids (ix2 b s)).toNat < 256 := fun b s => by
    have h1 := Host.reduce_andi_all _ _ _ _ _ h5 (ix2 b s)
    refine lt_of_bits _ ?_
    rw [← h1]
    pointwise []
  refine ⟨hr, fun b s => le_of_bits _ _ (hr _ _) (hr _ _) ?_⟩
  have h1 := Host.reduce_andi_all _ _ _ _ _ h9 (ix2 b s)
  rw [← h1]
  pointwise []

/-! ## The frames -/

theorem frameI : (haveI := Cert.KernelIdeal.Gen.facts; haveI := Cert.Pre_ids_in_range.Gen.facts; Cert.quiescent_KernelIdeal) :=
  fun m g hpre => run_kept (F := Ideal) m g fun d b s => range_of_pre _ _ _ (hpre d) b s

theorem frameS : (haveI := Cert.KernelIdeal.Gen.facts; haveI := Cert.Pre_ids_sorted.Gen.facts; Cert.quiescent_KernelIdeal_pre_ids_sorted) :=
  fun m g hpre => run_kept (F := Ideal) m g fun d b s => (sorted_of_pre _ _ _ (hpre d)).1 b s

/-- The printed kernel and the kernel on the extended reals are one program over any floats: the idealization rewrote nothing. -/
theorem same_run (m : (ℓ : Loc nD τ sig) → Buf (Elt F) ℓ) (g : Dev nD → PrngReg) (X : PUnit × MemSt nD τ sig (Elt F) → Prop) :
    θ_run (Cert.Kernel.defs (F := F)) (Cert.Kernel.threads (F := F)) ⟨m, fun _ => 0, g⟩ X
      = θ_run (Cert.KernelIdeal.defs (F := F)) (Cert.KernelIdeal.threads (F := F)) ⟨m, fun _ => 0, g⟩ X := by
  sl_kernel_rfl

theorem frameB : (haveI := Cert.Kernel.Gen.facts; haveI := Cert.Pre_ids_in_range.Gen.facts; Cert.quiescent_Kernel) :=
  fun m g hpre => (same_run (F := Bits) m g (Kept m)).mpr (run_kept (F := Bits) m g fun d b s => range_of_pre _ _ _ (hpre d) b s)

end Cert.Proof.Launch

end
-- ==== Proof.Result.lean ====
/-
  The result of the whole kernel on the extended reals: every batch's word sums, the first eight from the SparseCore call and
  the last eight from the second TensorCore call.
-/
module

public import proofs.«01_k».proof.Proof.Segment
public import proofs.«01_k».proof.Proof.MixValue
public import proofs.«01_k».proof.Proof.FusedValue
public import proofs.«01_k».proof.Proof.Frames

@[expose] public section

set_option maxRecDepth 16384

noncomputable section

namespace Cert.Proof.Launch

open Cert.KernelIdeal Cert.KernelIdeal.Gen Cert.Proof.Model Cert.Proof.Rows
open Idealize.ShloMosaic Idealize.ShloMosaic.TcCoe Idealize.SL.Sem
open Idealize.ShloMosaic.Pipeline (Dat)
open scoped BigOperators

variable (m : (ℓ : Loc nD τ sig) → Buf (Elt Ideal) ℓ) (ρ : Dev nD → PrngReg)

/-- A device's features, word ids and layer weights. -/
abbrev xs (d : Dev nD) : FVec Ideal S16x13x512x768 .f32 := m (d, ref main_arg0)
abbrev is (d : Dev nD) : IVec S16x512 32 := m (d, ref main_arg1)
abbrev ws (d : Dev nD) : FVec Ideal S13 .f32 := m (d, ref main_arg2)

/-- The staged row of the weights holds the weights. -/
theorem row_ws (d : Dev nD) : (fun l => (W1 m d (ref main_v0) : FVec Ideal S1x13 .f32) (ix2 (0 : Fin 1) (l 0)) : FVec Ideal S13 .f32) = ws m d := by
  funext l
  refine (W1_v0 m d (l 0)).trans ?_
  exact congrArg (ws m d) (by funext a; fin_cases a; rfl)

/-- After the first TensorCore call its array holds the mix of the first eight batches. -/
theorem W2_v1 (d : Dev nD) (p : Fin 2) (b : Fin 8) (s : Fin 512) (c : Fin 384) :
    (W2 m d (ref main_v1) : FVec Ideal S2x8x512x384 .f32) (ix4 p b s c)
      = Cert.Spec.mix (xs m d) (ws m d) (⟨b.val, by omega⟩ : Fin 16) s (⟨384 * p.val + c.val, by omega⟩ : Fin 768) := by
  have e : W2 m d (ref main_v1) = _ := (Pipeline.afterRegion_arr (dat0 (W1 m) 0 d) (W1 m d) arr0_inj 2).trans (mix_final (W1 m) 0 d)
  refine (congrFun e _).trans ?_
  unfold mixG
  rw [W1_arg0, row_ws]
  rfl

/-- The sums over any copies of the last eight batches' words and of the weights. -/
theorem fusG_words (x : FVec Ideal S16x13x512x768 .f32) (ids : IVec S16x512 32) (w : FVec Ideal S13 .f32) (ids8 : IVec S8x1x512 32) (row : FVec Ideal S1x13 .f32)
    (hi : ∀ (b : Fin 8) (s : Fin 512), ids8 (ix3 b (0 : Fin 1) s) = ids (ix2 (⟨8 + b.val, by omega⟩ : Fin 16) s))
    (hw : (fun l => row (ix2 (0 : Fin 1) (l 0)) : FVec Ideal S13 .f32) = w) (b : Fin 8) (v : Fin 256) (f : Fin 768) :
    fusG x ids8 row (ix3 b v f) = Cert.Spec.words x ids w (⟨8 + b.val, by omega⟩ : Fin 16) v f := by
  subst hw
  refine Finset.sum_congr rfl fun s _ => if_congr (by rw [← hi b s]; rfl) ?_ rfl
  exact congrArg (fun c : Fin 16 => Cert.Spec.mix x _ c s f) (Fin.ext (Nat.add_comm b.val 8))

/-- After the second TensorCore call its array holds the word sums of the last eight. -/
theorem W6_v8 (d : Dev nD) (b : Fin 8) (v : Fin 256) (f : Fin 768) :
    (W6 m d (ref main_v8) : FVec Ideal S8x256x768 .f32) (ix3 b v f)
      = Cert.Spec.words (xs m d) (is m d) (ws m d) (⟨8 + b.val, by omega⟩ : Fin 16) v f := by
  have e : W6 m d (ref main_v8) = _ := (Pipeline.afterRegion_arr (dat2 (W5 m) 1 d) (W5 m d) arr2_inj 3).trans (fus_final (W5 m) 1 d)
  refine (congrFun e _).trans ?_
  rw [W5_arg0, W5_v0]
  exact fusG_words (xs m d) (is m d) (ws m d) _ _ (W5_v7 m d) (row_ws m d) b v f

/-! ## The SparseCore call's output -/

/-- The words of batch `b`, as its subcores read them. -/
theorem idsOf_apply (d : Dev nD) (b : Fin 8) (s : Fin 512) :
    idsOf (fi m d) b.val s.val = is m d (ix2 (⟨b.val, by omega⟩ : Fin 16) s) := by
  refine Eq.trans ?_ (fi_apply m d b s (by omega))
  exact congrArg (fi m d) (congrArg ix1 (Fin.ext (Nat.mod_eq_of_lt (by omega))))

/-- The rows of batch `b` and of core `c`'s half of the columns. -/
theorem attOf_apply (d : Dev nD) (c : Fin 2) (b : Fin 8) (s : Fin 512) (e : Fin 384) :
    attOf (F := Ideal) (fa m d) c.val b.val s.val e.val
      = Cert.Spec.mix (xs m d) (ws m d) (⟨b.val, by omega⟩ : Fin 16) s (⟨384 * c.val + e.val, by omega⟩ : Fin 768) := by
  refine Eq.trans ?_ ((fa_apply m d c b s e (by omega)).trans (W2_v1 m d c b s e))
  exact congrArg (fa m d) (congrArg₂ ix2 (Fin.ext (by
    show (512 * (8 * c.val + b.val) + s.val) % 8192 = 4096 * c.val + 512 * b.val + s.val
    rw [Nat.mod_eq_of_lt (by omega)]; ring)) (Fin.ext (Nat.mod_eq_of_lt e.isLt)))

/-- No word of a batch is below the one before it. -/
def Sorted : Prop := ∀ (d : Dev nD) (b : Fin 16) (s : Fin 511),
  (is m d (ix2 b (⟨s.val, by omega⟩ : Fin 512))).toNat ≤ (is m d (ix2 b (⟨1 + s.val, by omega⟩ : Fin 512))).toNat

/-- A word below 256, read signed or not. -/
theorem toNat_eq_iff (a : BitVec 32) (h : a.toNat < 256) (v : Fin 256) : a.toNat = v.val ↔ a.toInt = (v.val : Int) := by
  rw [BitVec.toInt_eq_toNat_of_lt (by omega)]
  omega

/-- The accumulator's row of a word is its word sum, over any words and rows that hold a batch's. -/
theorem arr_words (x : FVec Ideal S16x13x512x768 .f32) (ids : IVec S16x512 32) (w : FVec Ideal S13 .f32) (b : Fin 16) (v : Fin 256) (f : Fin 768)
    (I : Nat → BitVec 32) (A : Nat → Nat → Ideal .f32) (e : Nat) (hI : ∀ s : Fin 512, I s.val = ids (ix2 b s))
    (hA : ∀ s : Fin 512, A s.val e = Cert.Spec.mix x w b s f) (hr : ∀ s : Fin 512, (ids (ix2 b s)).toNat < 256)
    (hs : ∀ s : Fin 511, (ids (ix2 b (⟨s.val, by omega⟩ : Fin 512))).toNat ≤ (ids (ix2 b (⟨1 + s.val, by omega⟩ : Fin 512))).toNat)
    (n : Nat) (hn : n = 512) : arr I A n v.val e = Cert.Spec.words x ids w b v f := by
  have h1 : ∀ k < 512, (I k).toNat < 256 := fun k hk => lt_of_eq_of_lt (congrArg BitVec.toNat (hI ⟨k, hk⟩)) (hr ⟨k, hk⟩)
  have h2 : ∀ k, k + 1 < 512 → (I k).toNat ≤ (I (k + 1)).toNat := fun k hk => by
    rw [hI ⟨k, by omega⟩, hI ⟨k + 1, hk⟩]
    refine (hs ⟨k, by omega⟩).trans (le_of_eq ?_)
    exact congrArg (fun i : Fin 512 => (ids (ix2 b i)).toNat) (Fin.ext (Nat.add_comm 1 k))
  refine (Segment.arr_eq I A 512 h1 h2 n hn.le v.val e).trans ?_
  subst hn
  unfold Segment.upto Cert.Spec.words
  rw [Finset.sum_range]
  refine Finset.sum_congr rfl fun s _ => ?_
  rw [hI s, hA s]
  exact if_congr (toNat_eq_iff _ (hr s) v) rfl rfl

/-- The SparseCore call leaves the word sums of the first eight batches. -/
theorem outG_words (hr : InRange m) (hs : Sorted m) (d : Dev nD) (b : Fin 8) (v : Fin 256) (f : Fin 768) (h : b.val * 256 + v.val < 2048) :
    (outG (fa m d) (fi m d) : FVec Ideal S2048x768 .f32) (ix2 (⟨b.val * 256 + v.val, h⟩ : Fin 2048) f)
      = Cert.Spec.words (xs m d) (is m d) (ws m d) (⟨b.val, by omega⟩ : Fin 16) v f := by
  have e : (outG (fa m d) (fi m d) : FVec Ideal S2048x768 .f32) (ix2 (⟨b.val * 256 + v.val, h⟩ : Fin 2048) f)
      = arr (idsOf (fi m d) ((b.val * 256 + v.val) / 256)) (attOf (fa m d) (f.val / 384) ((b.val * 256 + v.val) / 256)) 512
        ((b.val * 256 + v.val) % 256) (f.val % 384) := rfl
  rw [show (b.val * 256 + v.val) / 256 = b.val by omega, show (b.val * 256 + v.val) % 256 = v.val by omega] at e
  refine e.trans (arr_words (xs m d) (is m d) (ws m d) _ v f _ _ _ (idsOf_apply m d b) (fun s => ?_) (hr d _) (hs d _) 512 rfl)
  refine (attOf_apply m d ⟨f.val / 384, by omega⟩ b s ⟨f.val % 384, Nat.mod_lt _ (by decide)⟩).trans (congrArg _ (Fin.ext ?_))
  show 384 * (f.val / 384) + f.val % 384 = f.val
  omega

/-- The array of word sums. -/
def wordsG (x : FVec Ideal S16x13x512x768 .f32) (ids : IVec S16x512 32) (w : FVec Ideal S13 .f32) : FVec Ideal S16x256x768 .f32 :=
  fun i => Cert.Spec.words x ids w (i 0) (i 1) (i 2)

/-- The kernel's result holds the word sums of every batch. -/
theorem W7_words (hr : InRange m) (hs : Sorted m) (d : Dev nD) : W7 m d (ref main_v10) = wordsG (xs m d) (is m d) (ws m d) := by
  funext i
  obtain ⟨b, v, f, rfl⟩ : ∃ (b : Fin 16) (v : Fin 256) (f : Fin 768), i = ix3 b v f :=
    ⟨i 0, i 1, i 2, by funext a; fin_cases a <;> rfl⟩
  by_cases hb : b.val < 8
  · exact (W7_lo m d ⟨b.val, hb⟩ v f (by show b.val * 256 + v.val < 2048; omega)).trans (outG_words m hr hs d ⟨b.val, hb⟩ v f _)
  · have hc : b = ⟨8 + (⟨b.val - 8, by omega⟩ : Fin 8).val, by show 8 + (b.val - 8) < 16; omega⟩ := Fin.ext (by show b.val = 8 + (b.val - 8); omega)
    rw [hc]
    exact (W7_hi m d ⟨b.val - 8, by omega⟩ v f).trans (W6_v8 m d ⟨b.val - 8, by omega⟩ v f)

/-- The kernel's run leaves the word sums in its result and its arguments as they were. -/
theorem run_words (hr : InRange m) (hs : Sorted m) :
    θ_run (Cert.KernelIdeal.defs (F := Ideal)) (Cert.KernelIdeal.threads (F := Ideal)) ⟨m, fun _ => 0, ρ⟩
      (fun r => ∀ c : Dev nD, r.2.mem ((c.tc : Thread nD τ).loc main_v10) = wordsG (xs m c) (is m c) (ws m c)
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)) :=
  (θ_run Cert.KernelIdeal.defs _ _).mono
    (fun r h c => ⟨(h.1 c _ (mem_uc main_v10 (by decide))).trans (W7_words m hr hs c), (kept_of_QC m r h).1 c⟩) (run_main m ρ (fi_lt m hr))

end Cert.Proof.Launch

end
-- ==== Proof.lean ====
module

public import proofs.«01_k».proof.Proof.Gen.ReferenceIdeal.Run
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.Pre_ids_in_range
public import proofs.«01_k».proof.Proof.Gen.Pre_ids_sorted
public import proofs.«01_k».proof.Proof.Spec
public import proofs.«01_k».proof.Proof.Result
public import Idealize.ShloMosaic.Adequacy
public import Idealize.ShloMosaic.Lib.Pipeline.ValueKit
public import Idealize.ShloMosaic.Lib.Claim
public import Idealize.ShloMosaic.Init

@[expose] public section

noncomputable section

namespace Cert.Proof

open Idealize.ShloMosaic Idealize.SL.Sem Cert.Kernel

/-- The reference runs, its arguments end unchanged and every semaphore reads zero. -/
theorem refFrame : (haveI := Cert.ReferenceIdeal.Gen.facts; Cert.quiescent_ReferenceIdeal) := by
  intro m g _
  exact (θ_run Cert.ReferenceIdeal.defs _ _).mono (fun r h => ⟨fun c => (h c).2, sem_eq_zero_of_no_sems (by decide) r.2⟩)
    (Cert.ReferenceIdeal.Value.run (F := Ideal) m g)

/-- The kernel and the reference end with the same word sums. -/
theorem alg : (haveI := Cert.KernelIdeal.Gen.facts; haveI := Cert.ReferenceIdeal.Gen.facts; haveI := Cert.Pre_ids_sorted.Gen.facts;
    Cert.algebraic_KernelIdeal_ReferenceIdeal_pre_ids_sorted) := by
  intro m g m' g' hpre hagree
  have hp := fun c => Launch.sorted_of_pre _ _ _ (hpre c)
  refine ⟨fun c => Launch.wordsG (Launch.xs m c) (Launch.is m c) (Launch.ws m c),
    Launch.run_words m g (fun d b s => (hp d).1 b s) (fun d b s => (hp d).2 b s),
    (θ_run Cert.ReferenceIdeal.defs _ _).mono (fun r h c => ⟨(h c).1.trans ?_, (h c).2⟩) (Cert.ReferenceIdeal.Value.run (F := Ideal) m' g')⟩
  rw [(hagree c).1, (hagree c).2.1, (hagree c).2.2]
  funext i
  obtain ⟨b, v, d, rfl⟩ : ∃ (b : Fin 16) (v : Fin 256) (d : Fin 768), i = ix3 b v d := ⟨i 0, i 1, i 2, by funext a; fin_cases a <;> rfl⟩
  refine Cert.Spec.ref_apply _ _ _ (fun b s => ?_) b v d
  have h := (hp c).1 b s
  rw [BitVec.toInt_eq_toNat_of_lt (by omega)]
  exact Int.natCast_nonneg _

theorem claim : Cert.Claim := ⟨Cert.Kernel.Gen.facts, Cert.KernelIdeal.Gen.facts, Cert.ReferenceIdeal.Gen.facts, Cert.Pre_ids_in_range.Gen.facts,
  Cert.Pre_ids_sorted.Gen.facts, Launch.frameB, Launch.frameI, Launch.frameS, refFrame, fun m g _ => refFrame m g trivial, trivial, alg⟩

end Cert.Proof

end
